-- ==== Defs.lean ====
def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdRefIdeal (m : (ℓ : Loc Cert.ActBwdRefIdeal.nD Cert.ActBwdRefIdeal.τ Cert.ActBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2 = (fun _ => 1#1)

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasBwdRefIdeal (m : (ℓ : Loc Cert.BiasBwdRefIdeal.nD Cert.BiasBwdRefIdeal.τ Cert.BiasBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InNormBwd (m : (ℓ : Loc Cert.InNormBwd.nD Cert.InNormBwd.τ Cert.InNormBwd.sig) → Buf (Elt Bits) ℓ) : Prop :=
  True

def Pre_InNormBwdIdeal (m : (ℓ : Loc Cert.InNormBwdIdeal.nD Cert.InNormBwdIdeal.τ Cert.InNormBwdIdeal.sig) → Buf (Elt Ideal) ℓ) : Prop :=
  True

def Pre_InNormBwdRefIdeal (m : (ℓ : Loc Cert.InNormBwdRefIdeal.nD Cert.InNormBwdRefIdeal.τ Cert.InNormBwdRefIdeal.sig) → Buf (Elt Ideal) ℓ) : Prop :=
  True

def Pre_FfnNormBwd (m : (ℓ : Loc Cert.FfnNormBwd.nD Cert.FfnNormBwd.τ Cert.FfnNormBwd.sig) → Buf (Elt Bits) ℓ) : Prop :=
  True

def Pre_FfnNormBwdIdeal (m : (ℓ : Loc Cert.FfnNormBwdIdeal.nD Cert.FfnNormBwdIdeal.τ Cert.FfnNormBwdIdeal.sig) → Buf (Elt Ideal) ℓ) : Prop :=
  True

def Pre_FfnNormBwdRefIdeal (m : (ℓ : Loc Cert.FfnNormBwdRefIdeal.nD Cert.FfnNormBwdRefIdeal.τ Cert.FfnNormBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_swa_finite [hPre_swa_finite : Cert.Pre_swa_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.2.2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.2.2.2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.2.2.2.2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.2.2.2.2.2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4)) (m ((c.tc : Thread Cert.SwaBwdIdeal.nD Cert.SwaBwdIdeal.τ).loc Cert.SwaBwdIdeal.main_arg5)) (m ((c.tc : Thread Cert.SwaBwdIdeal.nD Cert.SwaBwdIdeal.τ).loc Cert.SwaBwdIdeal.main_arg6)) (m ((c.tc : Thread Cert.SwaBwdIdeal.nD Cert.SwaBwdIdeal.τ).loc Cert.SwaBwdIdeal.main_arg7)) (m ((c.tc : Thread Cert.SwaBwdIdeal.nD Cert.SwaBwdIdeal.τ).loc Cert.SwaBwdIdeal.main_arg8))).2.2.2.2.2.2.2 = (fun _ => 1#1)

def Pre_SwaBwdRefIdeal (m : (ℓ : Loc Cert.SwaBwdRefIdeal.nD Cert.SwaBwdRefIdeal.τ Cert.SwaBwdRefIdeal.sig) → Buf (Elt Ideal) ℓ) : Prop :=
  True

def Pre_SwaBwdRefIdeal_swa_finite [hPre_swa_finite : Cert.Pre_swa_finite.Facts] (m : (ℓ : Loc Cert.SwaBwdRefIdeal.nD Cert.SwaBwdRefIdeal.τ Cert.SwaBwdRefIdeal.sig) → Buf (Elt Ideal) ℓ) : Prop :=
  ∀ c : Dev Cert.SwaBwdRefIdeal.nD,
    (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.2.2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.2.2.2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.2.2.2.2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.2.2.2.2.2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4)) (m ((c.tc : Thread Cert.SwaBwdRefIdeal.nD Cert.SwaBwdRefIdeal.τ).loc Cert.SwaBwdRefIdeal.main_arg5)) (m ((c.tc : Thread Cert.SwaBwdRefIdeal.nD Cert.SwaBwdRefIdeal.τ).loc Cert.SwaBwdRefIdeal.main_arg6)) (m ((c.tc : Thread Cert.SwaBwdRefIdeal.nD Cert.SwaBwdRefIdeal.τ).loc Cert.SwaBwdRefIdeal.main_arg7)) (m ((c.tc : Thread Cert.SwaBwdRefIdeal.nD Cert.SwaBwdRefIdeal.τ).loc Cert.SwaBwdRefIdeal.main_arg8))).2.2.2.2.2.2.2 = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5)) (m ((c.tc : Thread Cert.GateBwdIdeal.nD Cert.GateBwdIdeal.τ).loc Cert.GateBwdIdeal.main_arg6))).1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5)) (m ((c.tc : Thread Cert.GateBwdIdeal.nD Cert.GateBwdIdeal.τ).loc Cert.GateBwdIdeal.main_arg6))).2.1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5)) (m ((c.tc : Thread Cert.GateBwdIdeal.nD Cert.GateBwdIdeal.τ).loc Cert.GateBwdIdeal.main_arg6))).2.2.1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5)) (m ((c.tc : Thread Cert.GateBwdIdeal.nD Cert.GateBwdIdeal.τ).loc Cert.GateBwdIdeal.main_arg6))).2.2.2.1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5)) (m ((c.tc : Thread Cert.GateBwdIdeal.nD Cert.GateBwdIdeal.τ).loc Cert.GateBwdIdeal.main_arg6))).2.2.2.2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_gate_finite [hPre_gate_finite : Cert.Pre_gate_finite.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5)) (m ((c.tc : Thread Cert.GateBwdRefIdeal.nD Cert.GateBwdRefIdeal.τ).loc Cert.GateBwdRefIdeal.main_arg6))).1 = (fun _ => 1#1)
    ∧ (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5)) (m ((c.tc : Thread Cert.GateBwdRefIdeal.nD Cert.GateBwdRefIdeal.τ).loc Cert.GateBwdRefIdeal.main_arg6))).2.1 = (fun _ => 1#1)
    ∧ (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5)) (m ((c.tc : Thread Cert.GateBwdRefIdeal.nD Cert.GateBwdRefIdeal.τ).loc Cert.GateBwdRefIdeal.main_arg6))).2.2.1 = (fun _ => 1#1)
    ∧ (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5)) (m ((c.tc : Thread Cert.GateBwdRefIdeal.nD Cert.GateBwdRefIdeal.τ).loc Cert.GateBwdRefIdeal.main_arg6))).2.2.2.1 = (fun _ => 1#1)
    ∧ (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5)) (m ((c.tc : Thread Cert.GateBwdRefIdeal.nD Cert.GateBwdRefIdeal.τ).loc Cert.GateBwdRefIdeal.main_arg6))).2.2.2.2 = (fun _ => 1#1)

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swa_fwd_finite [hPre_swa_fwd_finite : Cert.Pre_swa_fwd_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4)) (m ((c.tc : Thread Cert.SwaFwdIdeal.nD Cert.SwaFwdIdeal.τ).loc Cert.SwaFwdIdeal.main_arg5)) (m ((c.tc : Thread Cert.SwaFwdIdeal.nD Cert.SwaFwdIdeal.τ).loc Cert.SwaFwdIdeal.main_arg6))).1 = (fun _ => 1#1)
    ∧ (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4)) (m ((c.tc : Thread Cert.SwaFwdIdeal.nD Cert.SwaFwdIdeal.τ).loc Cert.SwaFwdIdeal.main_arg5)) (m ((c.tc : Thread Cert.SwaFwdIdeal.nD Cert.SwaFwdIdeal.τ).loc Cert.SwaFwdIdeal.main_arg6))).2.1 = (fun _ => 1#1)
    ∧ (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4)) (m ((c.tc : Thread Cert.SwaFwdIdeal.nD Cert.SwaFwdIdeal.τ).loc Cert.SwaFwdIdeal.main_arg5)) (m ((c.tc : Thread Cert.SwaFwdIdeal.nD Cert.SwaFwdIdeal.τ).loc Cert.SwaFwdIdeal.main_arg6))).2.2.1 = (fun _ => 1#1)
    ∧ (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4)) (m ((c.tc : Thread Cert.SwaFwdIdeal.nD Cert.SwaFwdIdeal.τ).loc Cert.SwaFwdIdeal.main_arg5)) (m ((c.tc : Thread Cert.SwaFwdIdeal.nD Cert.SwaFwdIdeal.τ).loc Cert.SwaFwdIdeal.main_arg6))).2.2.2 = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swa_fwd_finite [hPre_swa_fwd_finite : Cert.Pre_swa_fwd_finite.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4)) (m ((c.tc : Thread Cert.SwaFwdRefIdeal.nD Cert.SwaFwdRefIdeal.τ).loc Cert.SwaFwdRefIdeal.main_arg5)) (m ((c.tc : Thread Cert.SwaFwdRefIdeal.nD Cert.SwaFwdRefIdeal.τ).loc Cert.SwaFwdRefIdeal.main_arg6))).1 = (fun _ => 1#1)
    ∧ (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4)) (m ((c.tc : Thread Cert.SwaFwdRefIdeal.nD Cert.SwaFwdRefIdeal.τ).loc Cert.SwaFwdRefIdeal.main_arg5)) (m ((c.tc : Thread Cert.SwaFwdRefIdeal.nD Cert.SwaFwdRefIdeal.τ).loc Cert.SwaFwdRefIdeal.main_arg6))).2.1 = (fun _ => 1#1)
    ∧ (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4)) (m ((c.tc : Thread Cert.SwaFwdRefIdeal.nD Cert.SwaFwdRefIdeal.τ).loc Cert.SwaFwdRefIdeal.main_arg5)) (m ((c.tc : Thread Cert.SwaFwdRefIdeal.nD Cert.SwaFwdRefIdeal.τ).loc Cert.SwaFwdRefIdeal.main_arg6))).2.2.1 = (fun _ => 1#1)
    ∧ (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4)) (m ((c.tc : Thread Cert.SwaFwdRefIdeal.nD Cert.SwaFwdRefIdeal.τ).loc Cert.SwaFwdRefIdeal.main_arg5)) (m ((c.tc : Thread Cert.SwaFwdRefIdeal.nD Cert.SwaFwdRefIdeal.τ).loc Cert.SwaFwdRefIdeal.main_arg6))).2.2.2 = (fun _ => 1#1)

def Pre_ScanFwd (m : (ℓ : Loc Cert.ScanFwd.nD Cert.ScanFwd.τ Cert.ScanFwd.sig) → Buf (Elt Bits) ℓ) : Prop :=
  True

def Pre_ScanFwdIdeal (m : (ℓ : Loc Cert.ScanFwdIdeal.nD Cert.ScanFwdIdeal.τ Cert.ScanFwdIdeal.sig) → Buf (Elt Ideal) ℓ) : Prop :=
  True

def Pre_ScanFwdRefIdeal (m : (ℓ : Loc Cert.ScanFwdRefIdeal.nD Cert.ScanFwdRefIdeal.τ Cert.ScanFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutNormFwd (m : (ℓ : Loc Cert.OutNormFwd.nD Cert.OutNormFwd.τ Cert.OutNormFwd.sig) → Buf (Elt Bits) ℓ) : Prop :=
  True

def Pre_OutNormFwdIdeal (m : (ℓ : Loc Cert.OutNormFwdIdeal.nD Cert.OutNormFwdIdeal.τ Cert.OutNormFwdIdeal.sig) → Buf (Elt Ideal) ℓ) : Prop :=
  True

def Pre_OutNormFwdRefIdeal (m : (ℓ : Loc Cert.OutNormFwdRefIdeal.nD Cert.OutNormFwdRefIdeal.τ Cert.OutNormFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdIdeal_gate_fwd_finite [hPre_gate_fwd_finite : Cert.Pre_gate_fwd_finite.Facts] (m : (ℓ : Loc Cert.GateFwdIdeal.nD Cert.GateFwdIdeal.τ Cert.GateFwdIdeal.sig) → Buf (Elt Ideal) ℓ) : Prop :=
  ∀ c : Dev Cert.GateFwdIdeal.nD,
    (Cert.Pre_gate_fwd_finite.fn (F := Ideal) (m ((c.tc : Thread Cert.GateFwdIdeal.nD Cert.GateFwdIdeal.τ).loc Cert.GateFwdIdeal.main_arg0)) (m ((c.tc : Thread Cert.GateFwdIdeal.nD Cert.GateFwdIdeal.τ).loc Cert.GateFwdIdeal.main_arg1)) (m ((c.tc : Thread Cert.GateFwdIdeal.nD Cert.GateFwdIdeal.τ).loc Cert.GateFwdIdeal.main_arg2)) (m ((c.tc : Thread Cert.GateFwdIdeal.nD Cert.GateFwdIdeal.τ).loc Cert.GateFwdIdeal.main_arg3))).1 = (fun _ => 1#1)
    ∧ (Cert.Pre_gate_fwd_finite.fn (F := Ideal) (m ((c.tc : Thread Cert.GateFwdIdeal.nD Cert.GateFwdIdeal.τ).loc Cert.GateFwdIdeal.main_arg0)) (m ((c.tc : Thread Cert.GateFwdIdeal.nD Cert.GateFwdIdeal.τ).loc Cert.GateFwdIdeal.main_arg1)) (m ((c.tc : Thread Cert.GateFwdIdeal.nD Cert.GateFwdIdeal.τ).loc Cert.GateFwdIdeal.main_arg2)) (m ((c.tc : Thread Cert.GateFwdIdeal.nD Cert.GateFwdIdeal.τ).loc Cert.GateFwdIdeal.main_arg3))).2 = (fun _ => 1#1)

def Pre_GateFwdRefIdeal (m : (ℓ : Loc Cert.GateFwdRefIdeal.nD Cert.GateFwdRefIdeal.τ Cert.GateFwdRefIdeal.sig) → Buf (Elt Ideal) ℓ) : Prop :=
  True

def Pre_GateFwdRefIdeal_gate_fwd_finite [hPre_gate_fwd_finite : Cert.Pre_gate_fwd_finite.Facts] (m : (ℓ : Loc Cert.GateFwdRefIdeal.nD Cert.GateFwdRefIdeal.τ Cert.GateFwdRefIdeal.sig) → Buf (Elt Ideal) ℓ) : Prop :=
  ∀ c : Dev Cert.GateFwdRefIdeal.nD,
    (Cert.Pre_gate_fwd_finite.fn (F := Ideal) (m ((c.tc : Thread Cert.GateFwdRefIdeal.nD Cert.GateFwdRefIdeal.τ).loc Cert.GateFwdRefIdeal.main_arg0)) (m ((c.tc : Thread Cert.GateFwdRefIdeal.nD Cert.GateFwdRefIdeal.τ).loc Cert.GateFwdRefIdeal.main_arg1)) (m ((c.tc : Thread Cert.GateFwdRefIdeal.nD Cert.GateFwdRefIdeal.τ).loc Cert.GateFwdRefIdeal.main_arg2)) (m ((c.tc : Thread Cert.GateFwdRefIdeal.nD Cert.GateFwdRefIdeal.τ).loc Cert.GateFwdRefIdeal.main_arg3))).1 = (fun _ => 1#1)
    ∧ (Cert.Pre_gate_fwd_finite.fn (F := Ideal) (m ((c.tc : Thread Cert.GateFwdRefIdeal.nD Cert.GateFwdRefIdeal.τ).loc Cert.GateFwdRefIdeal.main_arg0)) (m ((c.tc : Thread Cert.GateFwdRefIdeal.nD Cert.GateFwdRefIdeal.τ).loc Cert.GateFwdRefIdeal.main_arg1)) (m ((c.tc : Thread Cert.GateFwdRefIdeal.nD Cert.GateFwdRefIdeal.τ).loc Cert.GateFwdRefIdeal.main_arg2)) (m ((c.tc : Thread Cert.GateFwdRefIdeal.nD Cert.GateFwdRefIdeal.τ).loc Cert.GateFwdRefIdeal.main_arg3))).2 = (fun _ => 1#1)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2)
      ∧ r.2.mem ((c.tc : Thread Cert.ActBwd.nD Cert.ActBwd.τ).loc Cert.ActBwd.main_arg3) = m ((c.tc : Thread Cert.ActBwd.nD Cert.ActBwd.τ).loc Cert.ActBwd.main_arg3))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2)
      ∧ r.2.mem ((c.tc : Thread Cert.ActBwdRefIdeal.nD Cert.ActBwdRefIdeal.τ).loc Cert.ActBwdRefIdeal.main_arg3) = m ((c.tc : Thread Cert.ActBwdRefIdeal.nD Cert.ActBwdRefIdeal.τ).loc Cert.ActBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0)
      ∧ r.2.mem ((c.tc : Thread Cert.BiasBwd.nD Cert.BiasBwd.τ).loc Cert.BiasBwd.main_arg1) = m ((c.tc : Thread Cert.BiasBwd.nD Cert.BiasBwd.τ).loc Cert.BiasBwd.main_arg1))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ r.2.sem = fun _ => 0)

def quiescent_BiasBwdRefIdeal [hBiasBwdRefIdeal : Cert.BiasBwdRefIdeal.Facts] : Prop :=
  ∀ (m : (ℓ : Loc Cert.BiasBwdRefIdeal.nD Cert.BiasBwdRefIdeal.τ Cert.BiasBwdRefIdeal.sig) → Buf (Elt Ideal) ℓ) (g : Dev Cert.BiasBwdRefIdeal.nD → PrngReg), Pre_BiasBwdRefIdeal m →
    θ_run (Cert.BiasBwdRefIdeal.defs (F := Ideal)) (onTc (τ := Cert.BiasBwdRefIdeal.τ) (Cert.BiasBwdRefIdeal.main (F := Ideal))) ⟨m, fun _ => 0, g⟩ (fun r => (∀ c : Dev Cert.BiasBwdRefIdeal.nD,
      r.2.mem ((c.tc : Thread Cert.BiasBwdRefIdeal.nD Cert.BiasBwdRefIdeal.τ).loc Cert.BiasBwdRefIdeal.main_arg0) = m ((c.tc : Thread Cert.BiasBwdRefIdeal.nD Cert.BiasBwdRefIdeal.τ).loc Cert.BiasBwdRefIdeal.main_arg0)
      ∧ r.2.mem ((c.tc : Thread Cert.BiasBwdRefIdeal.nD Cert.BiasBwdRefIdeal.τ).loc Cert.BiasBwdRefIdeal.main_arg1) = m ((c.tc : Thread Cert.BiasBwdRefIdeal.nD Cert.BiasBwdRefIdeal.τ).loc Cert.BiasBwdRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_InNormBwd [hInNormBwd : Cert.InNormBwd.Facts] : Prop :=
  ∀ (m : (ℓ : Loc Cert.InNormBwd.nD Cert.InNormBwd.τ Cert.InNormBwd.sig) → Buf (Elt Bits) ℓ) (g : Dev Cert.InNormBwd.nD → PrngReg), Pre_InNormBwd m →
    θ_run (Cert.InNormBwd.defs (F := Bits)) (onTc (τ := Cert.InNormBwd.τ) (Cert.InNormBwd.main (F := Bits))) ⟨m, fun _ => 0, g⟩ (fun r => (∀ c : Dev Cert.InNormBwd.nD,
      r.2.mem ((c.tc : Thread Cert.InNormBwd.nD Cert.InNormBwd.τ).loc Cert.InNormBwd.main_arg0) = m ((c.tc : Thread Cert.InNormBwd.nD Cert.InNormBwd.τ).loc Cert.InNormBwd.main_arg0)
      ∧ r.2.mem ((c.tc : Thread Cert.InNormBwd.nD Cert.InNormBwd.τ).loc Cert.InNormBwd.main_arg1) = m ((c.tc : Thread Cert.InNormBwd.nD Cert.InNormBwd.τ).loc Cert.InNormBwd.main_arg1)
      ∧ r.2.mem ((c.tc : Thread Cert.InNormBwd.nD Cert.InNormBwd.τ).loc Cert.InNormBwd.main_arg2) = m ((c.tc : Thread Cert.InNormBwd.nD Cert.InNormBwd.τ).loc Cert.InNormBwd.main_arg2)
      ∧ r.2.mem ((c.tc : Thread Cert.InNormBwd.nD Cert.InNormBwd.τ).loc Cert.InNormBwd.main_arg3) = m ((c.tc : Thread Cert.InNormBwd.nD Cert.InNormBwd.τ).loc Cert.InNormBwd.main_arg3)
      ∧ r.2.mem ((c.tc : Thread Cert.InNormBwd.nD Cert.InNormBwd.τ).loc Cert.InNormBwd.main_arg4) = m ((c.tc : Thread Cert.InNormBwd.nD Cert.InNormBwd.τ).loc Cert.InNormBwd.main_arg4))
      ∧ r.2.sem = fun _ => 0)

def quiescent_InNormBwdIdeal [hInNormBwdIdeal : Cert.InNormBwdIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg), Pre_InNormBwdIdeal m →
    θ_run (Cert.InNormBwdIdeal.defs (F := Ideal)) (onTc (τ := Cert.InNormBwdIdeal.τ) (Cert.InNormBwdIdeal.main (F := Ideal))) ⟨m, fun _ => 0, g⟩ (fun r => (∀ c : Dev Cert.InNormBwdIdeal.nD,
      r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
      ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
      ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
      ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3)
      ∧ r.2.mem ((c.tc : Thread Cert.InNormBwdIdeal.nD Cert.InNormBwdIdeal.τ).loc Cert.InNormBwdIdeal.main_arg4) = m ((c.tc : Thread Cert.InNormBwdIdeal.nD Cert.InNormBwdIdeal.τ).loc Cert.InNormBwdIdeal.main_arg4))
      ∧ r.2.sem = fun _ => 0)

def quiescent_InNormBwdRefIdeal [hInNormBwdRefIdeal : Cert.InNormBwdRefIdeal.Facts] : Prop :=
  ∀ (m : (ℓ : Loc Cert.InNormBwdRefIdeal.nD Cert.InNormBwdRefIdeal.τ Cert.InNormBwdRefIdeal.sig) → Buf (Elt Ideal) ℓ) (g : Dev Cert.InNormBwdRefIdeal.nD → PrngReg), Pre_InNormBwdRefIdeal m →
    θ_run (Cert.InNormBwdRefIdeal.defs (F := Ideal)) (onTc (τ := Cert.InNormBwdRefIdeal.τ) (Cert.InNormBwdRefIdeal.main (F := Ideal))) ⟨m, fun _ => 0, g⟩ (fun r => (∀ c : Dev Cert.InNormBwdRefIdeal.nD,
      r.2.mem ((c.tc : Thread Cert.InNormBwdRefIdeal.nD Cert.InNormBwdRefIdeal.τ).loc Cert.InNormBwdRefIdeal.main_arg0) = m ((c.tc : Thread Cert.InNormBwdRefIdeal.nD Cert.InNormBwdRefIdeal.τ).loc Cert.InNormBwdRefIdeal.main_arg0)
      ∧ r.2.mem ((c.tc : Thread Cert.InNormBwdRefIdeal.nD Cert.InNormBwdRefIdeal.τ).loc Cert.InNormBwdRefIdeal.main_arg1) = m ((c.tc : Thread Cert.InNormBwdRefIdeal.nD Cert.InNormBwdRefIdeal.τ).loc Cert.InNormBwdRefIdeal.main_arg1)
      ∧ r.2.mem ((c.tc : Thread Cert.InNormBwdRefIdeal.nD Cert.InNormBwdRefIdeal.τ).loc Cert.InNormBwdRefIdeal.main_arg2) = m ((c.tc : Thread Cert.InNormBwdRefIdeal.nD Cert.InNormBwdRefIdeal.τ).loc Cert.InNormBwdRefIdeal.main_arg2)
      ∧ r.2.mem ((c.tc : Thread Cert.InNormBwdRefIdeal.nD Cert.InNormBwdRefIdeal.τ).loc Cert.InNormBwdRefIdeal.main_arg3) = m ((c.tc : Thread Cert.InNormBwdRefIdeal.nD Cert.InNormBwdRefIdeal.τ).loc Cert.InNormBwdRefIdeal.main_arg3)
      ∧ r.2.mem ((c.tc : Thread Cert.InNormBwdRefIdeal.nD Cert.InNormBwdRefIdeal.τ).loc Cert.InNormBwdRefIdeal.main_arg4) = m ((c.tc : Thread Cert.InNormBwdRefIdeal.nD Cert.InNormBwdRefIdeal.τ).loc Cert.InNormBwdRefIdeal.main_arg4))
      ∧ r.2.sem = fun _ => 0)

def quiescent_FfnNormBwd [hFfnNormBwd : Cert.FfnNormBwd.Facts] : Prop :=
  ∀ (m : (ℓ : Loc Cert.FfnNormBwd.nD Cert.FfnNormBwd.τ Cert.FfnNormBwd.sig) → Buf (Elt Bits) ℓ) (g : Dev Cert.FfnNormBwd.nD → PrngReg), Pre_FfnNormBwd m →
    θ_run (Cert.FfnNormBwd.defs (F := Bits)) (onTc (τ := Cert.FfnNormBwd.τ) (Cert.FfnNormBwd.main (F := Bits))) ⟨m, fun _ => 0, g⟩ (fun r => (∀ c : Dev Cert.FfnNormBwd.nD,
      r.2.mem ((c.tc : Thread Cert.FfnNormBwd.nD Cert.FfnNormBwd.τ).loc Cert.FfnNormBwd.main_arg0) = m ((c.tc : Thread Cert.FfnNormBwd.nD Cert.FfnNormBwd.τ).loc Cert.FfnNormBwd.main_arg0)
      ∧ r.2.mem ((c.tc : Thread Cert.FfnNormBwd.nD Cert.FfnNormBwd.τ).loc Cert.FfnNormBwd.main_arg1) = m ((c.tc : Thread Cert.FfnNormBwd.nD Cert.FfnNormBwd.τ).loc Cert.FfnNormBwd.main_arg1)
      ∧ r.2.mem ((c.tc : Thread Cert.FfnNormBwd.nD Cert.FfnNormBwd.τ).loc Cert.FfnNormBwd.main_arg2) = m ((c.tc : Thread Cert.FfnNormBwd.nD Cert.FfnNormBwd.τ).loc Cert.FfnNormBwd.main_arg2)
      ∧ r.2.mem ((c.tc : Thread Cert.FfnNormBwd.nD Cert.FfnNormBwd.τ).loc Cert.FfnNormBwd.main_arg3) = m ((c.tc : Thread Cert.FfnNormBwd.nD Cert.FfnNormBwd.τ).loc Cert.FfnNormBwd.main_arg3)
      ∧ r.2.mem ((c.tc : Thread Cert.FfnNormBwd.nD Cert.FfnNormBwd.τ).loc Cert.FfnNormBwd.main_arg4) = m ((c.tc : Thread Cert.FfnNormBwd.nD Cert.FfnNormBwd.τ).loc Cert.FfnNormBwd.main_arg4)
      ∧ r.2.mem ((c.tc : Thread Cert.FfnNormBwd.nD Cert.FfnNormBwd.τ).loc Cert.FfnNormBwd.main_arg5) = m ((c.tc : Thread Cert.FfnNormBwd.nD Cert.FfnNormBwd.τ).loc Cert.FfnNormBwd.main_arg5)
      ∧ r.2.mem ((c.tc : Thread Cert.FfnNormBwd.nD Cert.FfnNormBwd.τ).loc Cert.FfnNormBwd.main_arg6) = m ((c.tc : Thread Cert.FfnNormBwd.nD Cert.FfnNormBwd.τ).loc Cert.FfnNormBwd.main_arg6))
      ∧ r.2.sem = fun _ => 0)

def quiescent_FfnNormBwdIdeal [hFfnNormBwdIdeal : Cert.FfnNormBwdIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg), Pre_FfnNormBwdIdeal m →
    θ_run (Cert.FfnNormBwdIdeal.defs (F := Ideal)) (onTc (τ := Cert.FfnNormBwdIdeal.τ) (Cert.FfnNormBwdIdeal.main (F := Ideal))) ⟨m, fun _ => 0, g⟩ (fun r => (∀ c : Dev Cert.FfnNormBwdIdeal.nD,
      r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
      ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
      ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
      ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
      ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
      ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5)
      ∧ r.2.mem ((c.tc : Thread Cert.FfnNormBwdIdeal.nD Cert.FfnNormBwdIdeal.τ).loc Cert.FfnNormBwdIdeal.main_arg6) = m ((c.tc : Thread Cert.FfnNormBwdIdeal.nD Cert.FfnNormBwdIdeal.τ).loc Cert.FfnNormBwdIdeal.main_arg6))
      ∧ r.2.sem = fun _ => 0)

def quiescent_FfnNormBwdRefIdeal [hFfnNormBwdRefIdeal : Cert.FfnNormBwdRefIdeal.Facts] : Prop :=
  ∀ (m : (ℓ : Loc Cert.FfnNormBwdRefIdeal.nD Cert.FfnNormBwdRefIdeal.τ Cert.FfnNormBwdRefIdeal.sig) → Buf (Elt Ideal) ℓ) (g : Dev Cert.FfnNormBwdRefIdeal.nD → PrngReg), Pre_FfnNormBwdRefIdeal m →
    θ_run (Cert.FfnNormBwdRefIdeal.defs (F := Ideal)) (onTc (τ := Cert.FfnNormBwdRefIdeal.τ) (Cert.FfnNormBwdRefIdeal.main (F := Ideal))) ⟨m, fun _ => 0, g⟩ (fun r => (∀ c : Dev Cert.FfnNormBwdRefIdeal.nD,
      r.2.mem ((c.tc : Thread Cert.FfnNormBwdRefIdeal.nD Cert.FfnNormBwdRefIdeal.τ).loc Cert.FfnNormBwdRefIdeal.main_arg0) = m ((c.tc : Thread Cert.FfnNormBwdRefIdeal.nD Cert.FfnNormBwdRefIdeal.τ).loc Cert.FfnNormBwdRefIdeal.main_arg0)
      ∧ r.2.mem ((c.tc : Thread Cert.FfnNormBwdRefIdeal.nD Cert.FfnNormBwdRefIdeal.τ).loc Cert.FfnNormBwdRefIdeal.main_arg1) = m ((c.tc : Thread Cert.FfnNormBwdRefIdeal.nD Cert.FfnNormBwdRefIdeal.τ).loc Cert.FfnNormBwdRefIdeal.main_arg1)
      ∧ r.2.mem ((c.tc : Thread Cert.FfnNormBwdRefIdeal.nD Cert.FfnNormBwdRefIdeal.τ).loc Cert.FfnNormBwdRefIdeal.main_arg2) = m ((c.tc : Thread Cert.FfnNormBwdRefIdeal.nD Cert.FfnNormBwdRefIdeal.τ).loc Cert.FfnNormBwdRefIdeal.main_arg2)
      ∧ r.2.mem ((c.tc : Thread Cert.FfnNormBwdRefIdeal.nD Cert.FfnNormBwdRefIdeal.τ).loc Cert.FfnNormBwdRefIdeal.main_arg3) = m ((c.tc : Thread Cert.FfnNormBwdRefIdeal.nD Cert.FfnNormBwdRefIdeal.τ).loc Cert.FfnNormBwdRefIdeal.main_arg3)
      ∧ r.2.mem ((c.tc : Thread Cert.FfnNormBwdRefIdeal.nD Cert.FfnNormBwdRefIdeal.τ).loc Cert.FfnNormBwdRefIdeal.main_arg4) = m ((c.tc : Thread Cert.FfnNormBwdRefIdeal.nD Cert.FfnNormBwdRefIdeal.τ).loc Cert.FfnNormBwdRefIdeal.main_arg4)
      ∧ r.2.mem ((c.tc : Thread Cert.FfnNormBwdRefIdeal.nD Cert.FfnNormBwdRefIdeal.τ).loc Cert.FfnNormBwdRefIdeal.main_arg5) = m ((c.tc : Thread Cert.FfnNormBwdRefIdeal.nD Cert.FfnNormBwdRefIdeal.τ).loc Cert.FfnNormBwdRefIdeal.main_arg5)
      ∧ r.2.mem ((c.tc : Thread Cert.FfnNormBwdRefIdeal.nD Cert.FfnNormBwdRefIdeal.τ).loc Cert.FfnNormBwdRefIdeal.main_arg6) = m ((c.tc : Thread Cert.FfnNormBwdRefIdeal.nD Cert.FfnNormBwdRefIdeal.τ).loc Cert.FfnNormBwdRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2)
      ∧ r.2.mem ((c.tc : Thread Cert.SwaBwd.nD Cert.SwaBwd.τ).loc Cert.SwaBwd.main_arg3) = m ((c.tc : Thread Cert.SwaBwd.nD Cert.SwaBwd.τ).loc Cert.SwaBwd.main_arg3)
      ∧ r.2.mem ((c.tc : Thread Cert.SwaBwd.nD Cert.SwaBwd.τ).loc Cert.SwaBwd.main_arg4) = m ((c.tc : Thread Cert.SwaBwd.nD Cert.SwaBwd.τ).loc Cert.SwaBwd.main_arg4)
      ∧ r.2.mem ((c.tc : Thread Cert.SwaBwd.nD Cert.SwaBwd.τ).loc Cert.SwaBwd.main_arg5) = m ((c.tc : Thread Cert.SwaBwd.nD Cert.SwaBwd.τ).loc Cert.SwaBwd.main_arg5)
      ∧ r.2.mem ((c.tc : Thread Cert.SwaBwd.nD Cert.SwaBwd.τ).loc Cert.SwaBwd.main_arg6) = m ((c.tc : Thread Cert.SwaBwd.nD Cert.SwaBwd.τ).loc Cert.SwaBwd.main_arg6)
      ∧ r.2.mem ((c.tc : Thread Cert.SwaBwd.nD Cert.SwaBwd.τ).loc Cert.SwaBwd.main_arg7) = m ((c.tc : Thread Cert.SwaBwd.nD Cert.SwaBwd.τ).loc Cert.SwaBwd.main_arg7)
      ∧ r.2.mem ((c.tc : Thread Cert.SwaBwd.nD Cert.SwaBwd.τ).loc Cert.SwaBwd.main_arg8) = m ((c.tc : Thread Cert.SwaBwd.nD Cert.SwaBwd.τ).loc Cert.SwaBwd.main_arg8))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
      ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4)
      ∧ r.2.mem ((c.tc : Thread Cert.SwaBwdIdeal.nD Cert.SwaBwdIdeal.τ).loc Cert.SwaBwdIdeal.main_arg5) = m ((c.tc : Thread Cert.SwaBwdIdeal.nD Cert.SwaBwdIdeal.τ).loc Cert.SwaBwdIdeal.main_arg5)
      ∧ r.2.mem ((c.tc : Thread Cert.SwaBwdIdeal.nD Cert.SwaBwdIdeal.τ).loc Cert.SwaBwdIdeal.main_arg6) = m ((c.tc : Thread Cert.SwaBwdIdeal.nD Cert.SwaBwdIdeal.τ).loc Cert.SwaBwdIdeal.main_arg6)
      ∧ r.2.mem ((c.tc : Thread Cert.SwaBwdIdeal.nD Cert.SwaBwdIdeal.τ).loc Cert.SwaBwdIdeal.main_arg7) = m ((c.tc : Thread Cert.SwaBwdIdeal.nD Cert.SwaBwdIdeal.τ).loc Cert.SwaBwdIdeal.main_arg7)
      ∧ r.2.mem ((c.tc : Thread Cert.SwaBwdIdeal.nD Cert.SwaBwdIdeal.τ).loc Cert.SwaBwdIdeal.main_arg8) = m ((c.tc : Thread Cert.SwaBwdIdeal.nD Cert.SwaBwdIdeal.τ).loc Cert.SwaBwdIdeal.main_arg8))
      ∧ r.2.sem = fun _ => 0)

def quiescent_SwaBwdIdeal_pre_swa_finite [hSwaBwdIdeal : Cert.SwaBwdIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_swa_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
      ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4)
      ∧ r.2.mem ((c.tc : Thread Cert.SwaBwdIdeal.nD Cert.SwaBwdIdeal.τ).loc Cert.SwaBwdIdeal.main_arg5) = m ((c.tc : Thread Cert.SwaBwdIdeal.nD Cert.SwaBwdIdeal.τ).loc Cert.SwaBwdIdeal.main_arg5)
      ∧ r.2.mem ((c.tc : Thread Cert.SwaBwdIdeal.nD Cert.SwaBwdIdeal.τ).loc Cert.SwaBwdIdeal.main_arg6) = m ((c.tc : Thread Cert.SwaBwdIdeal.nD Cert.SwaBwdIdeal.τ).loc Cert.SwaBwdIdeal.main_arg6)
      ∧ r.2.mem ((c.tc : Thread Cert.SwaBwdIdeal.nD Cert.SwaBwdIdeal.τ).loc Cert.SwaBwdIdeal.main_arg7) = m ((c.tc : Thread Cert.SwaBwdIdeal.nD Cert.SwaBwdIdeal.τ).loc Cert.SwaBwdIdeal.main_arg7)
      ∧ r.2.mem ((c.tc : Thread Cert.SwaBwdIdeal.nD Cert.SwaBwdIdeal.τ).loc Cert.SwaBwdIdeal.main_arg8) = m ((c.tc : Thread Cert.SwaBwdIdeal.nD Cert.SwaBwdIdeal.τ).loc Cert.SwaBwdIdeal.main_arg8))
      ∧ r.2.sem = fun _ => 0)

def quiescent_SwaBwdRefIdeal [hSwaBwdRefIdeal : Cert.SwaBwdRefIdeal.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)
      ∧ r.2.mem ((c.tc : Thread Cert.SwaBwdRefIdeal.nD Cert.SwaBwdRefIdeal.τ).loc Cert.SwaBwdRefIdeal.main_arg3) = m ((c.tc : Thread Cert.SwaBwdRefIdeal.nD Cert.SwaBwdRefIdeal.τ).loc Cert.SwaBwdRefIdeal.main_arg3)
      ∧ r.2.mem ((c.tc : Thread Cert.SwaBwdRefIdeal.nD Cert.SwaBwdRefIdeal.τ).loc Cert.SwaBwdRefIdeal.main_arg4) = m ((c.tc : Thread Cert.SwaBwdRefIdeal.nD Cert.SwaBwdRefIdeal.τ).loc Cert.SwaBwdRefIdeal.main_arg4)
      ∧ r.2.mem ((c.tc : Thread Cert.SwaBwdRefIdeal.nD Cert.SwaBwdRefIdeal.τ).loc Cert.SwaBwdRefIdeal.main_arg5) = m ((c.tc : Thread Cert.SwaBwdRefIdeal.nD Cert.SwaBwdRefIdeal.τ).loc Cert.SwaBwdRefIdeal.main_arg5)
      ∧ r.2.mem ((c.tc : Thread Cert.SwaBwdRefIdeal.nD Cert.SwaBwdRefIdeal.τ).loc Cert.SwaBwdRefIdeal.main_arg6) = m ((c.tc : Thread Cert.SwaBwdRefIdeal.nD Cert.SwaBwdRefIdeal.τ).loc Cert.SwaBwdRefIdeal.main_arg6)
      ∧ r.2.mem ((c.tc : Thread Cert.SwaBwdRefIdeal.nD Cert.SwaBwdRefIdeal.τ).loc Cert.SwaBwdRefIdeal.main_arg7) = m ((c.tc : Thread Cert.SwaBwdRefIdeal.nD Cert.SwaBwdRefIdeal.τ).loc Cert.SwaBwdRefIdeal.main_arg7)
      ∧ r.2.mem ((c.tc : Thread Cert.SwaBwdRefIdeal.nD Cert.SwaBwdRefIdeal.τ).loc Cert.SwaBwdRefIdeal.main_arg8) = m ((c.tc : Thread Cert.SwaBwdRefIdeal.nD Cert.SwaBwdRefIdeal.τ).loc Cert.SwaBwdRefIdeal.main_arg8))
      ∧ r.2.sem = fun _ => 0)

def quiescent_SwaBwdRefIdeal_pre_swa_finite [hSwaBwdRefIdeal : Cert.SwaBwdRefIdeal.Facts] [hPre_swa_finite : Cert.Pre_swa_finite.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal_swa_finite m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)
      ∧ r.2.mem ((c.tc : Thread Cert.SwaBwdRefIdeal.nD Cert.SwaBwdRefIdeal.τ).loc Cert.SwaBwdRefIdeal.main_arg3) = m ((c.tc : Thread Cert.SwaBwdRefIdeal.nD Cert.SwaBwdRefIdeal.τ).loc Cert.SwaBwdRefIdeal.main_arg3)
      ∧ r.2.mem ((c.tc : Thread Cert.SwaBwdRefIdeal.nD Cert.SwaBwdRefIdeal.τ).loc Cert.SwaBwdRefIdeal.main_arg4) = m ((c.tc : Thread Cert.SwaBwdRefIdeal.nD Cert.SwaBwdRefIdeal.τ).loc Cert.SwaBwdRefIdeal.main_arg4)
      ∧ r.2.mem ((c.tc : Thread Cert.SwaBwdRefIdeal.nD Cert.SwaBwdRefIdeal.τ).loc Cert.SwaBwdRefIdeal.main_arg5) = m ((c.tc : Thread Cert.SwaBwdRefIdeal.nD Cert.SwaBwdRefIdeal.τ).loc Cert.SwaBwdRefIdeal.main_arg5)
      ∧ r.2.mem ((c.tc : Thread Cert.SwaBwdRefIdeal.nD Cert.SwaBwdRefIdeal.τ).loc Cert.SwaBwdRefIdeal.main_arg6) = m ((c.tc : Thread Cert.SwaBwdRefIdeal.nD Cert.SwaBwdRefIdeal.τ).loc Cert.SwaBwdRefIdeal.main_arg6)
      ∧ r.2.mem ((c.tc : Thread Cert.SwaBwdRefIdeal.nD Cert.SwaBwdRefIdeal.τ).loc Cert.SwaBwdRefIdeal.main_arg7) = m ((c.tc : Thread Cert.SwaBwdRefIdeal.nD Cert.SwaBwdRefIdeal.τ).loc Cert.SwaBwdRefIdeal.main_arg7)
      ∧ r.2.mem ((c.tc : Thread Cert.SwaBwdRefIdeal.nD Cert.SwaBwdRefIdeal.τ).loc Cert.SwaBwdRefIdeal.main_arg8) = m ((c.tc : Thread Cert.SwaBwdRefIdeal.nD Cert.SwaBwdRefIdeal.τ).loc Cert.SwaBwdRefIdeal.main_arg8))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5)
      ∧ r.2.mem ((c.tc : Thread Cert.GateBwd.nD Cert.GateBwd.τ).loc Cert.GateBwd.main_arg6) = m ((c.tc : Thread Cert.GateBwd.nD Cert.GateBwd.τ).loc Cert.GateBwd.main_arg6))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
      ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
      ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5)
      ∧ r.2.mem ((c.tc : Thread Cert.GateBwdRefIdeal.nD Cert.GateBwdRefIdeal.τ).loc Cert.GateBwdRefIdeal.main_arg6) = m ((c.tc : Thread Cert.GateBwdRefIdeal.nD Cert.GateBwdRefIdeal.τ).loc Cert.GateBwdRefIdeal.main_arg6))
      ∧ r.2.sem = fun _ => 0)

def quiescent_GateBwdRefIdeal_pre_gate_finite [hGateBwdRefIdeal : Cert.GateBwdRefIdeal.Facts] [hPre_gate_finite : Cert.Pre_gate_finite.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_gate_finite m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5)
      ∧ r.2.mem ((c.tc : Thread Cert.GateBwdRefIdeal.nD Cert.GateBwdRefIdeal.τ).loc Cert.GateBwdRefIdeal.main_arg6) = m ((c.tc : Thread Cert.GateBwdRefIdeal.nD Cert.GateBwdRefIdeal.τ).loc Cert.GateBwdRefIdeal.main_arg6))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3)
      ∧ r.2.mem ((c.tc : Thread Cert.SwaFwd.nD Cert.SwaFwd.τ).loc Cert.SwaFwd.main_arg4) = m ((c.tc : Thread Cert.SwaFwd.nD Cert.SwaFwd.τ).loc Cert.SwaFwd.main_arg4)
      ∧ r.2.mem ((c.tc : Thread Cert.SwaFwd.nD Cert.SwaFwd.τ).loc Cert.SwaFwd.main_arg5) = m ((c.tc : Thread Cert.SwaFwd.nD Cert.SwaFwd.τ).loc Cert.SwaFwd.main_arg5)
      ∧ r.2.mem ((c.tc : Thread Cert.SwaFwd.nD Cert.SwaFwd.τ).loc Cert.SwaFwd.main_arg6) = m ((c.tc : Thread Cert.SwaFwd.nD Cert.SwaFwd.τ).loc Cert.SwaFwd.main_arg6))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4)
      ∧ r.2.mem ((c.tc : Thread Cert.SwaFwdIdeal.nD Cert.SwaFwdIdeal.τ).loc Cert.SwaFwdIdeal.main_arg5) = m ((c.tc : Thread Cert.SwaFwdIdeal.nD Cert.SwaFwdIdeal.τ).loc Cert.SwaFwdIdeal.main_arg5)
      ∧ r.2.mem ((c.tc : Thread Cert.SwaFwdIdeal.nD Cert.SwaFwdIdeal.τ).loc Cert.SwaFwdIdeal.main_arg6) = m ((c.tc : Thread Cert.SwaFwdIdeal.nD Cert.SwaFwdIdeal.τ).loc Cert.SwaFwdIdeal.main_arg6))
      ∧ r.2.sem = fun _ => 0)

def quiescent_SwaFwdIdeal_pre_swa_fwd_finite [hSwaFwdIdeal : Cert.SwaFwdIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swa_fwd_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4)
      ∧ r.2.mem ((c.tc : Thread Cert.SwaFwdIdeal.nD Cert.SwaFwdIdeal.τ).loc Cert.SwaFwdIdeal.main_arg5) = m ((c.tc : Thread Cert.SwaFwdIdeal.nD Cert.SwaFwdIdeal.τ).loc Cert.SwaFwdIdeal.main_arg5)
      ∧ r.2.mem ((c.tc : Thread Cert.SwaFwdIdeal.nD Cert.SwaFwdIdeal.τ).loc Cert.SwaFwdIdeal.main_arg6) = m ((c.tc : Thread Cert.SwaFwdIdeal.nD Cert.SwaFwdIdeal.τ).loc Cert.SwaFwdIdeal.main_arg6))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4)
      ∧ r.2.mem ((c.tc : Thread Cert.SwaFwdRefIdeal.nD Cert.SwaFwdRefIdeal.τ).loc Cert.SwaFwdRefIdeal.main_arg5) = m ((c.tc : Thread Cert.SwaFwdRefIdeal.nD Cert.SwaFwdRefIdeal.τ).loc Cert.SwaFwdRefIdeal.main_arg5)
      ∧ r.2.mem ((c.tc : Thread Cert.SwaFwdRefIdeal.nD Cert.SwaFwdRefIdeal.τ).loc Cert.SwaFwdRefIdeal.main_arg6) = m ((c.tc : Thread Cert.SwaFwdRefIdeal.nD Cert.SwaFwdRefIdeal.τ).loc Cert.SwaFwdRefIdeal.main_arg6))
      ∧ r.2.sem = fun _ => 0)

def quiescent_SwaFwdRefIdeal_pre_swa_fwd_finite [hSwaFwdRefIdeal : Cert.SwaFwdRefIdeal.Facts] [hPre_swa_fwd_finite : Cert.Pre_swa_fwd_finite.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swa_fwd_finite m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4)
      ∧ r.2.mem ((c.tc : Thread Cert.SwaFwdRefIdeal.nD Cert.SwaFwdRefIdeal.τ).loc Cert.SwaFwdRefIdeal.main_arg5) = m ((c.tc : Thread Cert.SwaFwdRefIdeal.nD Cert.SwaFwdRefIdeal.τ).loc Cert.SwaFwdRefIdeal.main_arg5)
      ∧ r.2.mem ((c.tc : Thread Cert.SwaFwdRefIdeal.nD Cert.SwaFwdRefIdeal.τ).loc Cert.SwaFwdRefIdeal.main_arg6) = m ((c.tc : Thread Cert.SwaFwdRefIdeal.nD Cert.SwaFwdRefIdeal.τ).loc Cert.SwaFwdRefIdeal.main_arg6))
      ∧ r.2.sem = fun _ => 0)

def quiescent_ScanFwd [hScanFwd : Cert.ScanFwd.Facts] : Prop :=
  ∀ (m : (ℓ : Loc Cert.ScanFwd.nD Cert.ScanFwd.τ Cert.ScanFwd.sig) → Buf (Elt Bits) ℓ) (g : Dev Cert.ScanFwd.nD → PrngReg), Pre_ScanFwd m →
    θ_run (Cert.ScanFwd.defs (F := Bits)) (onTc (τ := Cert.ScanFwd.τ) (Cert.ScanFwd.main (F := Bits))) ⟨m, fun _ => 0, g⟩ (fun r => (∀ c : Dev Cert.ScanFwd.nD,
      r.2.mem ((c.tc : Thread Cert.ScanFwd.nD Cert.ScanFwd.τ).loc Cert.ScanFwd.main_arg0) = m ((c.tc : Thread Cert.ScanFwd.nD Cert.ScanFwd.τ).loc Cert.ScanFwd.main_arg0)
      ∧ r.2.mem ((c.tc : Thread Cert.ScanFwd.nD Cert.ScanFwd.τ).loc Cert.ScanFwd.main_arg1) = m ((c.tc : Thread Cert.ScanFwd.nD Cert.ScanFwd.τ).loc Cert.ScanFwd.main_arg1)
      ∧ r.2.mem ((c.tc : Thread Cert.ScanFwd.nD Cert.ScanFwd.τ).loc Cert.ScanFwd.main_arg2) = m ((c.tc : Thread Cert.ScanFwd.nD Cert.ScanFwd.τ).loc Cert.ScanFwd.main_arg2)
      ∧ r.2.mem ((c.tc : Thread Cert.ScanFwd.nD Cert.ScanFwd.τ).loc Cert.ScanFwd.main_arg3) = m ((c.tc : Thread Cert.ScanFwd.nD Cert.ScanFwd.τ).loc Cert.ScanFwd.main_arg3)
      ∧ r.2.mem ((c.tc : Thread Cert.ScanFwd.nD Cert.ScanFwd.τ).loc Cert.ScanFwd.main_arg4) = m ((c.tc : Thread Cert.ScanFwd.nD Cert.ScanFwd.τ).loc Cert.ScanFwd.main_arg4)
      ∧ r.2.mem ((c.tc : Thread Cert.ScanFwd.nD Cert.ScanFwd.τ).loc Cert.ScanFwd.main_arg5) = m ((c.tc : Thread Cert.ScanFwd.nD Cert.ScanFwd.τ).loc Cert.ScanFwd.main_arg5))
      ∧ r.2.sem = fun _ => 0)

def quiescent_ScanFwdIdeal [hScanFwdIdeal : Cert.ScanFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg), Pre_ScanFwdIdeal m →
    θ_run (Cert.ScanFwdIdeal.defs (F := Ideal)) (onTc (τ := Cert.ScanFwdIdeal.τ) (Cert.ScanFwdIdeal.main (F := Ideal))) ⟨m, fun _ => 0, g⟩ (fun r => (∀ c : Dev Cert.ScanFwdIdeal.nD,
      r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
      ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
      ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
      ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
      ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4)
      ∧ r.2.mem ((c.tc : Thread Cert.ScanFwdIdeal.nD Cert.ScanFwdIdeal.τ).loc Cert.ScanFwdIdeal.main_arg5) = m ((c.tc : Thread Cert.ScanFwdIdeal.nD Cert.ScanFwdIdeal.τ).loc Cert.ScanFwdIdeal.main_arg5))
      ∧ r.2.sem = fun _ => 0)

def quiescent_ScanFwdRefIdeal [hScanFwdRefIdeal : Cert.ScanFwdRefIdeal.Facts] : Prop :=
  ∀ (m : (ℓ : Loc Cert.ScanFwdRefIdeal.nD Cert.ScanFwdRefIdeal.τ Cert.ScanFwdRefIdeal.sig) → Buf (Elt Ideal) ℓ) (g : Dev Cert.ScanFwdRefIdeal.nD → PrngReg), Pre_ScanFwdRefIdeal m →
    θ_run (Cert.ScanFwdRefIdeal.defs (F := Ideal)) (onTc (τ := Cert.ScanFwdRefIdeal.τ) (Cert.ScanFwdRefIdeal.main (F := Ideal))) ⟨m, fun _ => 0, g⟩ (fun r => (∀ c : Dev Cert.ScanFwdRefIdeal.nD,
      r.2.mem ((c.tc : Thread Cert.ScanFwdRefIdeal.nD Cert.ScanFwdRefIdeal.τ).loc Cert.ScanFwdRefIdeal.main_arg0) = m ((c.tc : Thread Cert.ScanFwdRefIdeal.nD Cert.ScanFwdRefIdeal.τ).loc Cert.ScanFwdRefIdeal.main_arg0)
      ∧ r.2.mem ((c.tc : Thread Cert.ScanFwdRefIdeal.nD Cert.ScanFwdRefIdeal.τ).loc Cert.ScanFwdRefIdeal.main_arg1) = m ((c.tc : Thread Cert.ScanFwdRefIdeal.nD Cert.ScanFwdRefIdeal.τ).loc Cert.ScanFwdRefIdeal.main_arg1)
      ∧ r.2.mem ((c.tc : Thread Cert.ScanFwdRefIdeal.nD Cert.ScanFwdRefIdeal.τ).loc Cert.ScanFwdRefIdeal.main_arg2) = m ((c.tc : Thread Cert.ScanFwdRefIdeal.nD Cert.ScanFwdRefIdeal.τ).loc Cert.ScanFwdRefIdeal.main_arg2)
      ∧ r.2.mem ((c.tc : Thread Cert.ScanFwdRefIdeal.nD Cert.ScanFwdRefIdeal.τ).loc Cert.ScanFwdRefIdeal.main_arg3) = m ((c.tc : Thread Cert.ScanFwdRefIdeal.nD Cert.ScanFwdRefIdeal.τ).loc Cert.ScanFwdRefIdeal.main_arg3)
      ∧ r.2.mem ((c.tc : Thread Cert.ScanFwdRefIdeal.nD Cert.ScanFwdRefIdeal.τ).loc Cert.ScanFwdRefIdeal.main_arg4) = m ((c.tc : Thread Cert.ScanFwdRefIdeal.nD Cert.ScanFwdRefIdeal.τ).loc Cert.ScanFwdRefIdeal.main_arg4)
      ∧ r.2.mem ((c.tc : Thread Cert.ScanFwdRefIdeal.nD Cert.ScanFwdRefIdeal.τ).loc Cert.ScanFwdRefIdeal.main_arg5) = m ((c.tc : Thread Cert.ScanFwdRefIdeal.nD Cert.ScanFwdRefIdeal.τ).loc Cert.ScanFwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_OutNormFwd [hOutNormFwd : Cert.OutNormFwd.Facts] : Prop :=
  ∀ (m : (ℓ : Loc Cert.OutNormFwd.nD Cert.OutNormFwd.τ Cert.OutNormFwd.sig) → Buf (Elt Bits) ℓ) (g : Dev Cert.OutNormFwd.nD → PrngReg), Pre_OutNormFwd m →
    θ_run (Cert.OutNormFwd.defs (F := Bits)) (onTc (τ := Cert.OutNormFwd.τ) (Cert.OutNormFwd.main (F := Bits))) ⟨m, fun _ => 0, g⟩ (fun r => (∀ c : Dev Cert.OutNormFwd.nD,
      r.2.mem ((c.tc : Thread Cert.OutNormFwd.nD Cert.OutNormFwd.τ).loc Cert.OutNormFwd.main_arg0) = m ((c.tc : Thread Cert.OutNormFwd.nD Cert.OutNormFwd.τ).loc Cert.OutNormFwd.main_arg0)
      ∧ r.2.mem ((c.tc : Thread Cert.OutNormFwd.nD Cert.OutNormFwd.τ).loc Cert.OutNormFwd.main_arg1) = m ((c.tc : Thread Cert.OutNormFwd.nD Cert.OutNormFwd.τ).loc Cert.OutNormFwd.main_arg1)
      ∧ r.2.mem ((c.tc : Thread Cert.OutNormFwd.nD Cert.OutNormFwd.τ).loc Cert.OutNormFwd.main_arg2) = m ((c.tc : Thread Cert.OutNormFwd.nD Cert.OutNormFwd.τ).loc Cert.OutNormFwd.main_arg2)
      ∧ r.2.mem ((c.tc : Thread Cert.OutNormFwd.nD Cert.OutNormFwd.τ).loc Cert.OutNormFwd.main_arg3) = m ((c.tc : Thread Cert.OutNormFwd.nD Cert.OutNormFwd.τ).loc Cert.OutNormFwd.main_arg3))
      ∧ r.2.sem = fun _ => 0)

def quiescent_OutNormFwdIdeal [hOutNormFwdIdeal : Cert.OutNormFwdIdeal.Facts] : Prop :=
  ∀ (m : (ℓ : Loc Cert.OutNormFwdIdeal.nD Cert.OutNormFwdIdeal.τ Cert.OutNormFwdIdeal.sig) → Buf (Elt Ideal) ℓ) (g : Dev Cert.OutNormFwdIdeal.nD → PrngReg), Pre_OutNormFwdIdeal m →
    θ_run (Cert.OutNormFwdIdeal.defs (F := Ideal)) (onTc (τ := Cert.OutNormFwdIdeal.τ) (Cert.OutNormFwdIdeal.main (F := Ideal))) ⟨m, fun _ => 0, g⟩ (fun r => (∀ c : Dev Cert.OutNormFwdIdeal.nD,
      r.2.mem ((c.tc : Thread Cert.OutNormFwdIdeal.nD Cert.OutNormFwdIdeal.τ).loc Cert.OutNormFwdIdeal.main_arg0) = m ((c.tc : Thread Cert.OutNormFwdIdeal.nD Cert.OutNormFwdIdeal.τ).loc Cert.OutNormFwdIdeal.main_arg0)
      ∧ r.2.mem ((c.tc : Thread Cert.OutNormFwdIdeal.nD Cert.OutNormFwdIdeal.τ).loc Cert.OutNormFwdIdeal.main_arg1) = m ((c.tc : Thread Cert.OutNormFwdIdeal.nD Cert.OutNormFwdIdeal.τ).loc Cert.OutNormFwdIdeal.main_arg1)
      ∧ r.2.mem ((c.tc : Thread Cert.OutNormFwdIdeal.nD Cert.OutNormFwdIdeal.τ).loc Cert.OutNormFwdIdeal.main_arg2) = m ((c.tc : Thread Cert.OutNormFwdIdeal.nD Cert.OutNormFwdIdeal.τ).loc Cert.OutNormFwdIdeal.main_arg2)
      ∧ r.2.mem ((c.tc : Thread Cert.OutNormFwdIdeal.nD Cert.OutNormFwdIdeal.τ).loc Cert.OutNormFwdIdeal.main_arg3) = m ((c.tc : Thread Cert.OutNormFwdIdeal.nD Cert.OutNormFwdIdeal.τ).loc Cert.OutNormFwdIdeal.main_arg3))
      ∧ r.2.sem = fun _ => 0)

def quiescent_OutNormFwdRefIdeal [hOutNormFwdRefIdeal : Cert.OutNormFwdRefIdeal.Facts] : Prop :=
  ∀ (m : (ℓ : Loc Cert.OutNormFwdRefIdeal.nD Cert.OutNormFwdRefIdeal.τ Cert.OutNormFwdRefIdeal.sig) → Buf (Elt Ideal) ℓ) (g : Dev Cert.OutNormFwdRefIdeal.nD → PrngReg), Pre_OutNormFwdRefIdeal m →
    θ_run (Cert.OutNormFwdRefIdeal.defs (F := Ideal)) (onTc (τ := Cert.OutNormFwdRefIdeal.τ) (Cert.OutNormFwdRefIdeal.main (F := Ideal))) ⟨m, fun _ => 0, g⟩ (fun r => (∀ c : Dev Cert.OutNormFwdRefIdeal.nD,
      r.2.mem ((c.tc : Thread Cert.OutNormFwdRefIdeal.nD Cert.OutNormFwdRefIdeal.τ).loc Cert.OutNormFwdRefIdeal.main_arg0) = m ((c.tc : Thread Cert.OutNormFwdRefIdeal.nD Cert.OutNormFwdRefIdeal.τ).loc Cert.OutNormFwdRefIdeal.main_arg0)
      ∧ r.2.mem ((c.tc : Thread Cert.OutNormFwdRefIdeal.nD Cert.OutNormFwdRefIdeal.τ).loc Cert.OutNormFwdRefIdeal.main_arg1) = m ((c.tc : Thread Cert.OutNormFwdRefIdeal.nD Cert.OutNormFwdRefIdeal.τ).loc Cert.OutNormFwdRefIdeal.main_arg1)
      ∧ r.2.mem ((c.tc : Thread Cert.OutNormFwdRefIdeal.nD Cert.OutNormFwdRefIdeal.τ).loc Cert.OutNormFwdRefIdeal.main_arg2) = m ((c.tc : Thread Cert.OutNormFwdRefIdeal.nD Cert.OutNormFwdRefIdeal.τ).loc Cert.OutNormFwdRefIdeal.main_arg2)
      ∧ r.2.mem ((c.tc : Thread Cert.OutNormFwdRefIdeal.nD Cert.OutNormFwdRefIdeal.τ).loc Cert.OutNormFwdRefIdeal.main_arg3) = m ((c.tc : Thread Cert.OutNormFwdRefIdeal.nD Cert.OutNormFwdRefIdeal.τ).loc Cert.OutNormFwdRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1)
      ∧ r.2.mem ((c.tc : Thread Cert.BranchFwd.nD Cert.BranchFwd.τ).loc Cert.BranchFwd.main_arg2) = m ((c.tc : Thread Cert.BranchFwd.nD Cert.BranchFwd.τ).loc Cert.BranchFwd.main_arg2)
      ∧ r.2.mem ((c.tc : Thread Cert.BranchFwd.nD Cert.BranchFwd.τ).loc Cert.BranchFwd.main_arg3) = m ((c.tc : Thread Cert.BranchFwd.nD Cert.BranchFwd.τ).loc Cert.BranchFwd.main_arg3)
      ∧ r.2.mem ((c.tc : Thread Cert.BranchFwd.nD Cert.BranchFwd.τ).loc Cert.BranchFwd.main_arg4) = m ((c.tc : Thread Cert.BranchFwd.nD Cert.BranchFwd.τ).loc Cert.BranchFwd.main_arg4))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
      ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
      ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
      ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1)
      ∧ r.2.mem ((c.tc : Thread Cert.BranchFwdRefIdeal.nD Cert.BranchFwdRefIdeal.τ).loc Cert.BranchFwdRefIdeal.main_arg2) = m ((c.tc : Thread Cert.BranchFwdRefIdeal.nD Cert.BranchFwdRefIdeal.τ).loc Cert.BranchFwdRefIdeal.main_arg2)
      ∧ r.2.mem ((c.tc : Thread Cert.BranchFwdRefIdeal.nD Cert.BranchFwdRefIdeal.τ).loc Cert.BranchFwdRefIdeal.main_arg3) = m ((c.tc : Thread Cert.BranchFwdRefIdeal.nD Cert.BranchFwdRefIdeal.τ).loc Cert.BranchFwdRefIdeal.main_arg3)
      ∧ r.2.mem ((c.tc : Thread Cert.BranchFwdRefIdeal.nD Cert.BranchFwdRefIdeal.τ).loc Cert.BranchFwdRefIdeal.main_arg4) = m ((c.tc : Thread Cert.BranchFwdRefIdeal.nD Cert.BranchFwdRefIdeal.τ).loc Cert.BranchFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdIdeal_pre_gate_fwd_finite [hGateFwdIdeal : Cert.GateFwdIdeal.Facts] [hPre_gate_fwd_finite : Cert.Pre_gate_fwd_finite.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal_gate_fwd_finite m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_GateFwdRefIdeal_pre_gate_fwd_finite [hGateFwdRefIdeal : Cert.GateFwdRefIdeal.Facts] [hPre_gate_fwd_finite : Cert.Pre_gate_fwd_finite.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal_gate_fwd_finite m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def preserves_ActBwd_ActBwdIdeal : Prop :=
  True

def algebraic_ActBwdIdeal_ActBwdRefIdeal [hActBwdIdeal : Cert.ActBwdIdeal.Facts] [hActBwdRefIdeal : Cert.ActBwdRefIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)
      ∧ m' ((c.tc : Thread Cert.ActBwdRefIdeal.nD Cert.ActBwdRefIdeal.τ).loc Cert.ActBwdRefIdeal.main_arg3) = m ((c.tc : Thread Cert.ActBwdIdeal.nD Cert.ActBwdIdeal.τ).loc Cert.ActBwdIdeal.main_arg3)) →
    ∃ (v0 : (c : Dev Cert.ActBwdIdeal.nD) → Buf (Elt Ideal) ((c.tc : Thread Cert.ActBwdIdeal.nD Cert.ActBwdIdeal.τ).loc Cert.ActBwdIdeal.main_v11_0)) (v1 : (c : Dev Cert.ActBwdIdeal.nD) → Buf (Elt Ideal) ((c.tc : Thread Cert.ActBwdIdeal.nD Cert.ActBwdIdeal.τ).loc Cert.ActBwdIdeal.main_v11_1)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v11_0) = v0 c
          ∧ r.2.mem ((c.tc : Thread Cert.ActBwdIdeal.nD Cert.ActBwdIdeal.τ).loc Cert.ActBwdIdeal.main_v11_1) = v1 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
          ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v10) = v0 c
          ∧ r.2.mem ((c.tc : Thread Cert.ActBwdRefIdeal.nD Cert.ActBwdRefIdeal.τ).loc Cert.ActBwdRefIdeal.main_v14) = v1 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2)
          ∧ r.2.mem ((c.tc : Thread Cert.ActBwdRefIdeal.nD Cert.ActBwdRefIdeal.τ).loc Cert.ActBwdRefIdeal.main_arg3) = m' ((c.tc : Thread Cert.ActBwdRefIdeal.nD Cert.ActBwdRefIdeal.τ).loc Cert.ActBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v8_0)) (v1 : (c : Dev Cert.LossHeadIdeal.nD) → Buf (Elt Ideal) ((c.tc : Thread Cert.LossHeadIdeal.nD Cert.LossHeadIdeal.τ).loc Cert.LossHeadIdeal.main_v8_1)) (v2 : (c : Dev Cert.LossHeadIdeal.nD) → Buf (Elt Ideal) ((c.tc : Thread Cert.LossHeadIdeal.nD Cert.LossHeadIdeal.τ).loc Cert.LossHeadIdeal.main_v8_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v8_0) = v0 c
          ∧ r.2.mem ((c.tc : Thread Cert.LossHeadIdeal.nD Cert.LossHeadIdeal.τ).loc Cert.LossHeadIdeal.main_v8_1) = v1 c
          ∧ r.2.mem ((c.tc : Thread Cert.LossHeadIdeal.nD Cert.LossHeadIdeal.τ).loc Cert.LossHeadIdeal.main_v8_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v16) = v0 c
          ∧ r.2.mem ((c.tc : Thread Cert.LossHeadRefIdeal.nD Cert.LossHeadRefIdeal.τ).loc Cert.LossHeadRefIdeal.main_v17) = v1 c
          ∧ r.2.mem ((c.tc : Thread Cert.LossHeadRefIdeal.nD Cert.LossHeadRefIdeal.τ).loc Cert.LossHeadRefIdeal.main_v18) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v32_0)) (v1 : (c : Dev Cert.ConvBwdIdeal.nD) → Buf (Elt Ideal) ((c.tc : Thread Cert.ConvBwdIdeal.nD Cert.ConvBwdIdeal.τ).loc Cert.ConvBwdIdeal.main_v32_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v32_0) = v0 c
          ∧ r.2.mem ((c.tc : Thread Cert.ConvBwdIdeal.nD Cert.ConvBwdIdeal.τ).loc Cert.ConvBwdIdeal.main_v32_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v153) = v0 c
          ∧ r.2.mem ((c.tc : Thread Cert.ConvBwdRefIdeal.nD Cert.ConvBwdRefIdeal.τ).loc Cert.ConvBwdRefIdeal.main_v147) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_BiasBwd_BiasBwdIdeal : Prop :=
  True

def algebraic_BiasBwdIdeal_BiasBwdRefIdeal [hBiasBwdIdeal : Cert.BiasBwdIdeal.Facts] [hBiasBwdRefIdeal : Cert.BiasBwdRefIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasBwdRefIdeal.nD Cert.BiasBwdRefIdeal.τ Cert.BiasBwdRefIdeal.sig) → Buf (Elt Ideal) ℓ) (g' : Dev Cert.BiasBwdRefIdeal.nD → PrngReg), Pre_BiasBwdIdeal m →
    (∀ c : Dev Cert.BiasBwdIdeal.nD,
      m' ((c.tc : Thread Cert.BiasBwdRefIdeal.nD Cert.BiasBwdRefIdeal.τ).loc Cert.BiasBwdRefIdeal.main_arg0) = m ((c.tc : Thread Cert.BiasBwdIdeal.nD Cert.BiasBwdIdeal.τ).loc Cert.BiasBwdIdeal.main_arg0)
      ∧ m' ((c.tc : Thread Cert.BiasBwdRefIdeal.nD Cert.BiasBwdRefIdeal.τ).loc Cert.BiasBwdRefIdeal.main_arg1) = m ((c.tc : Thread Cert.BiasBwdIdeal.nD Cert.BiasBwdIdeal.τ).loc Cert.BiasBwdIdeal.main_arg1)) →
    ∃ (v0 : (c : Dev Cert.BiasBwdIdeal.nD) → Buf (Elt Ideal) ((c.tc : Thread Cert.BiasBwdIdeal.nD Cert.BiasBwdIdeal.τ).loc Cert.BiasBwdIdeal.main_v14)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v14) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
          ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ θ_run (Cert.BiasBwdRefIdeal.defs (F := Ideal)) (onTc (τ := Cert.BiasBwdRefIdeal.τ) (Cert.BiasBwdRefIdeal.main (F := Ideal))) ⟨m', fun _ => 0, g'⟩ (fun r => ∀ c : Dev Cert.BiasBwdRefIdeal.nD,
          r.2.mem ((c.tc : Thread Cert.BiasBwdRefIdeal.nD Cert.BiasBwdRefIdeal.τ).loc Cert.BiasBwdRefIdeal.main_v26) = v0 c
          ∧ r.2.mem ((c.tc : Thread Cert.BiasBwdRefIdeal.nD Cert.BiasBwdRefIdeal.τ).loc Cert.BiasBwdRefIdeal.main_arg0) = m' ((c.tc : Thread Cert.BiasBwdRefIdeal.nD Cert.BiasBwdRefIdeal.τ).loc Cert.BiasBwdRefIdeal.main_arg0)
          ∧ r.2.mem ((c.tc : Thread Cert.BiasBwdRefIdeal.nD Cert.BiasBwdRefIdeal.τ).loc Cert.BiasBwdRefIdeal.main_arg1) = m' ((c.tc : Thread Cert.BiasBwdRefIdeal.nD Cert.BiasBwdRefIdeal.τ).loc Cert.BiasBwdRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v2_0)) (v1 : (c : Dev Cert.OutBwdIdeal.nD) → Buf (Elt Ideal) ((c.tc : Thread Cert.OutBwdIdeal.nD Cert.OutBwdIdeal.τ).loc Cert.OutBwdIdeal.main_v2_1)) (v2 : (c : Dev Cert.OutBwdIdeal.nD) → Buf (Elt Ideal) ((c.tc : Thread Cert.OutBwdIdeal.nD Cert.OutBwdIdeal.τ).loc Cert.OutBwdIdeal.main_v2_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2_0) = v0 c
          ∧ r.2.mem ((c.tc : Thread Cert.OutBwdIdeal.nD Cert.OutBwdIdeal.τ).loc Cert.OutBwdIdeal.main_v2_1) = v1 c
          ∧ r.2.mem ((c.tc : Thread Cert.OutBwdIdeal.nD Cert.OutBwdIdeal.τ).loc Cert.OutBwdIdeal.main_v2_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v46) = v0 c
          ∧ r.2.mem ((c.tc : Thread Cert.OutBwdRefIdeal.nD Cert.OutBwdRefIdeal.τ).loc Cert.OutBwdRefIdeal.main_v50) = v1 c
          ∧ r.2.mem ((c.tc : Thread Cert.OutBwdRefIdeal.nD Cert.OutBwdRefIdeal.τ).loc Cert.OutBwdRefIdeal.main_v51) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4))

def preserves_InNormBwd_InNormBwdIdeal : Prop :=
  True

def algebraic_InNormBwdIdeal_InNormBwdRefIdeal [hInNormBwdIdeal : Cert.InNormBwdIdeal.Facts] [hInNormBwdRefIdeal : Cert.InNormBwdRefIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg)
    (m' : (ℓ : Loc Cert.InNormBwdRefIdeal.nD Cert.InNormBwdRefIdeal.τ Cert.InNormBwdRefIdeal.sig) → Buf (Elt Ideal) ℓ) (g' : Dev Cert.InNormBwdRefIdeal.nD → PrngReg), Pre_InNormBwdIdeal m →
    (∀ c : Dev Cert.InNormBwdIdeal.nD,
      m' ((c.tc : Thread Cert.InNormBwdRefIdeal.nD Cert.InNormBwdRefIdeal.τ).loc Cert.InNormBwdRefIdeal.main_arg0) = m ((c.tc : Thread Cert.InNormBwdIdeal.nD Cert.InNormBwdIdeal.τ).loc Cert.InNormBwdIdeal.main_arg0)
      ∧ m' ((c.tc : Thread Cert.InNormBwdRefIdeal.nD Cert.InNormBwdRefIdeal.τ).loc Cert.InNormBwdRefIdeal.main_arg1) = m ((c.tc : Thread Cert.InNormBwdIdeal.nD Cert.InNormBwdIdeal.τ).loc Cert.InNormBwdIdeal.main_arg1)
      ∧ m' ((c.tc : Thread Cert.InNormBwdRefIdeal.nD Cert.InNormBwdRefIdeal.τ).loc Cert.InNormBwdRefIdeal.main_arg2) = m ((c.tc : Thread Cert.InNormBwdIdeal.nD Cert.InNormBwdIdeal.τ).loc Cert.InNormBwdIdeal.main_arg2)
      ∧ m' ((c.tc : Thread Cert.InNormBwdRefIdeal.nD Cert.InNormBwdRefIdeal.τ).loc Cert.InNormBwdRefIdeal.main_arg3) = m ((c.tc : Thread Cert.InNormBwdIdeal.nD Cert.InNormBwdIdeal.τ).loc Cert.InNormBwdIdeal.main_arg3)
      ∧ m' ((c.tc : Thread Cert.InNormBwdRefIdeal.nD Cert.InNormBwdRefIdeal.τ).loc Cert.InNormBwdRefIdeal.main_arg4) = m ((c.tc : Thread Cert.InNormBwdIdeal.nD Cert.InNormBwdIdeal.τ).loc Cert.InNormBwdIdeal.main_arg4)) →
    ∃ (v0 : (c : Dev Cert.InNormBwdIdeal.nD) → Buf (Elt Ideal) ((c.tc : Thread Cert.InNormBwdIdeal.nD Cert.InNormBwdIdeal.τ).loc Cert.InNormBwdIdeal.main_v21_0)) (v1 : (c : Dev Cert.InNormBwdIdeal.nD) → Buf (Elt Ideal) ((c.tc : Thread Cert.InNormBwdIdeal.nD Cert.InNormBwdIdeal.τ).loc Cert.InNormBwdIdeal.main_v21_1)),
      θ_run (Cert.InNormBwdIdeal.defs (F := Ideal)) (onTc (τ := Cert.InNormBwdIdeal.τ) (Cert.InNormBwdIdeal.main (F := Ideal))) ⟨m, fun _ => 0, g⟩ (fun r => ∀ c : Dev Cert.InNormBwdIdeal.nD,
          r.2.mem ((c.tc : Thread Cert.InNormBwdIdeal.nD Cert.InNormBwdIdeal.τ).loc Cert.InNormBwdIdeal.main_v21_0) = v0 c
          ∧ r.2.mem ((c.tc : Thread Cert.InNormBwdIdeal.nD Cert.InNormBwdIdeal.τ).loc Cert.InNormBwdIdeal.main_v21_1) = v1 c
          ∧ r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
          ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
          ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
          ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3)
          ∧ r.2.mem ((c.tc : Thread Cert.InNormBwdIdeal.nD Cert.InNormBwdIdeal.τ).loc Cert.InNormBwdIdeal.main_arg4) = m ((c.tc : Thread Cert.InNormBwdIdeal.nD Cert.InNormBwdIdeal.τ).loc Cert.InNormBwdIdeal.main_arg4))
      ∧ θ_run (Cert.InNormBwdRefIdeal.defs (F := Ideal)) (onTc (τ := Cert.InNormBwdRefIdeal.τ) (Cert.InNormBwdRefIdeal.main (F := Ideal))) ⟨m', fun _ => 0, g'⟩ (fun r => ∀ c : Dev Cert.InNormBwdRefIdeal.nD,
          r.2.mem ((c.tc : Thread Cert.InNormBwdRefIdeal.nD Cert.InNormBwdRefIdeal.τ).loc Cert.InNormBwdRefIdeal.main_v36) = v0 c
          ∧ r.2.mem ((c.tc : Thread Cert.InNormBwdRefIdeal.nD Cert.InNormBwdRefIdeal.τ).loc Cert.InNormBwdRefIdeal.main_v19) = v1 c
          ∧ r.2.mem ((c.tc : Thread Cert.InNormBwdRefIdeal.nD Cert.InNormBwdRefIdeal.τ).loc Cert.InNormBwdRefIdeal.main_arg0) = m' ((c.tc : Thread Cert.InNormBwdRefIdeal.nD Cert.InNormBwdRefIdeal.τ).loc Cert.InNormBwdRefIdeal.main_arg0)
          ∧ r.2.mem ((c.tc : Thread Cert.InNormBwdRefIdeal.nD Cert.InNormBwdRefIdeal.τ).loc Cert.InNormBwdRefIdeal.main_arg1) = m' ((c.tc : Thread Cert.InNormBwdRefIdeal.nD Cert.InNormBwdRefIdeal.τ).loc Cert.InNormBwdRefIdeal.main_arg1)
          ∧ r.2.mem ((c.tc : Thread Cert.InNormBwdRefIdeal.nD Cert.InNormBwdRefIdeal.τ).loc Cert.InNormBwdRefIdeal.main_arg2) = m' ((c.tc : Thread Cert.InNormBwdRefIdeal.nD Cert.InNormBwdRefIdeal.τ).loc Cert.InNormBwdRefIdeal.main_arg2)
          ∧ r.2.mem ((c.tc : Thread Cert.InNormBwdRefIdeal.nD Cert.InNormBwdRefIdeal.τ).loc Cert.InNormBwdRefIdeal.main_arg3) = m' ((c.tc : Thread Cert.InNormBwdRefIdeal.nD Cert.InNormBwdRefIdeal.τ).loc Cert.InNormBwdRefIdeal.main_arg3)
          ∧ r.2.mem ((c.tc : Thread Cert.InNormBwdRefIdeal.nD Cert.InNormBwdRefIdeal.τ).loc Cert.InNormBwdRefIdeal.main_arg4) = m' ((c.tc : Thread Cert.InNormBwdRefIdeal.nD Cert.InNormBwdRefIdeal.τ).loc Cert.InNormBwdRefIdeal.main_arg4))

def preserves_FfnNormBwd_FfnNormBwdIdeal : Prop :=
  True

def algebraic_FfnNormBwdIdeal_FfnNormBwdRefIdeal [hFfnNormBwdIdeal : Cert.FfnNormBwdIdeal.Facts] [hFfnNormBwdRefIdeal : Cert.FfnNormBwdRefIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg)
    (m' : (ℓ : Loc Cert.FfnNormBwdRefIdeal.nD Cert.FfnNormBwdRefIdeal.τ Cert.FfnNormBwdRefIdeal.sig) → Buf (Elt Ideal) ℓ) (g' : Dev Cert.FfnNormBwdRefIdeal.nD → PrngReg), Pre_FfnNormBwdIdeal m →
    (∀ c : Dev Cert.FfnNormBwdIdeal.nD,
      m' ((c.tc : Thread Cert.FfnNormBwdRefIdeal.nD Cert.FfnNormBwdRefIdeal.τ).loc Cert.FfnNormBwdRefIdeal.main_arg0) = m ((c.tc : Thread Cert.FfnNormBwdIdeal.nD Cert.FfnNormBwdIdeal.τ).loc Cert.FfnNormBwdIdeal.main_arg0)
      ∧ m' ((c.tc : Thread Cert.FfnNormBwdRefIdeal.nD Cert.FfnNormBwdRefIdeal.τ).loc Cert.FfnNormBwdRefIdeal.main_arg1) = m ((c.tc : Thread Cert.FfnNormBwdIdeal.nD Cert.FfnNormBwdIdeal.τ).loc Cert.FfnNormBwdIdeal.main_arg1)
      ∧ m' ((c.tc : Thread Cert.FfnNormBwdRefIdeal.nD Cert.FfnNormBwdRefIdeal.τ).loc Cert.FfnNormBwdRefIdeal.main_arg2) = m ((c.tc : Thread Cert.FfnNormBwdIdeal.nD Cert.FfnNormBwdIdeal.τ).loc Cert.FfnNormBwdIdeal.main_arg2)
      ∧ m' ((c.tc : Thread Cert.FfnNormBwdRefIdeal.nD Cert.FfnNormBwdRefIdeal.τ).loc Cert.FfnNormBwdRefIdeal.main_arg3) = m ((c.tc : Thread Cert.FfnNormBwdIdeal.nD Cert.FfnNormBwdIdeal.τ).loc Cert.FfnNormBwdIdeal.main_arg3)
      ∧ m' ((c.tc : Thread Cert.FfnNormBwdRefIdeal.nD Cert.FfnNormBwdRefIdeal.τ).loc Cert.FfnNormBwdRefIdeal.main_arg4) = m ((c.tc : Thread Cert.FfnNormBwdIdeal.nD Cert.FfnNormBwdIdeal.τ).loc Cert.FfnNormBwdIdeal.main_arg4)
      ∧ m' ((c.tc : Thread Cert.FfnNormBwdRefIdeal.nD Cert.FfnNormBwdRefIdeal.τ).loc Cert.FfnNormBwdRefIdeal.main_arg5) = m ((c.tc : Thread Cert.FfnNormBwdIdeal.nD Cert.FfnNormBwdIdeal.τ).loc Cert.FfnNormBwdIdeal.main_arg5)
      ∧ m' ((c.tc : Thread Cert.FfnNormBwdRefIdeal.nD Cert.FfnNormBwdRefIdeal.τ).loc Cert.FfnNormBwdRefIdeal.main_arg6) = m ((c.tc : Thread Cert.FfnNormBwdIdeal.nD Cert.FfnNormBwdIdeal.τ).loc Cert.FfnNormBwdIdeal.main_arg6)) →
    ∃ (v0 : (c : Dev Cert.FfnNormBwdIdeal.nD) → Buf (Elt Ideal) ((c.tc : Thread Cert.FfnNormBwdIdeal.nD Cert.FfnNormBwdIdeal.τ).loc Cert.FfnNormBwdIdeal.main_v17_0)) (v1 : (c : Dev Cert.FfnNormBwdIdeal.nD) → Buf (Elt Ideal) ((c.tc : Thread Cert.FfnNormBwdIdeal.nD Cert.FfnNormBwdIdeal.τ).loc Cert.FfnNormBwdIdeal.main_v17_1)) (v2 : (c : Dev Cert.FfnNormBwdIdeal.nD) → Buf (Elt Ideal) ((c.tc : Thread Cert.FfnNormBwdIdeal.nD Cert.FfnNormBwdIdeal.τ).loc Cert.FfnNormBwdIdeal.main_v17_2)),
      θ_run (Cert.FfnNormBwdIdeal.defs (F := Ideal)) (onTc (τ := Cert.FfnNormBwdIdeal.τ) (Cert.FfnNormBwdIdeal.main (F := Ideal))) ⟨m, fun _ => 0, g⟩ (fun r => ∀ c : Dev Cert.FfnNormBwdIdeal.nD,
          r.2.mem ((c.tc : Thread Cert.FfnNormBwdIdeal.nD Cert.FfnNormBwdIdeal.τ).loc Cert.FfnNormBwdIdeal.main_v17_0) = v0 c
          ∧ r.2.mem ((c.tc : Thread Cert.FfnNormBwdIdeal.nD Cert.FfnNormBwdIdeal.τ).loc Cert.FfnNormBwdIdeal.main_v17_1) = v1 c
          ∧ r.2.mem ((c.tc : Thread Cert.FfnNormBwdIdeal.nD Cert.FfnNormBwdIdeal.τ).loc Cert.FfnNormBwdIdeal.main_v17_2) = v2 c
          ∧ r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
          ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
          ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
          ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
          ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
          ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5)
          ∧ r.2.mem ((c.tc : Thread Cert.FfnNormBwdIdeal.nD Cert.FfnNormBwdIdeal.τ).loc Cert.FfnNormBwdIdeal.main_arg6) = m ((c.tc : Thread Cert.FfnNormBwdIdeal.nD Cert.FfnNormBwdIdeal.τ).loc Cert.FfnNormBwdIdeal.main_arg6))
      ∧ θ_run (Cert.FfnNormBwdRefIdeal.defs (F := Ideal)) (onTc (τ := Cert.FfnNormBwdRefIdeal.τ) (Cert.FfnNormBwdRefIdeal.main (F := Ideal))) ⟨m', fun _ => 0, g'⟩ (fun r => ∀ c : Dev Cert.FfnNormBwdRefIdeal.nD,
          r.2.mem ((c.tc : Thread Cert.FfnNormBwdRefIdeal.nD Cert.FfnNormBwdRefIdeal.τ).loc Cert.FfnNormBwdRefIdeal.main_v39) = v0 c
          ∧ r.2.mem ((c.tc : Thread Cert.FfnNormBwdRefIdeal.nD Cert.FfnNormBwdRefIdeal.τ).loc Cert.FfnNormBwdRefIdeal.main_v40) = v1 c
          ∧ r.2.mem ((c.tc : Thread Cert.FfnNormBwdRefIdeal.nD Cert.FfnNormBwdRefIdeal.τ).loc Cert.FfnNormBwdRefIdeal.main_v22) = v2 c
          ∧ r.2.mem ((c.tc : Thread Cert.FfnNormBwdRefIdeal.nD Cert.FfnNormBwdRefIdeal.τ).loc Cert.FfnNormBwdRefIdeal.main_arg0) = m' ((c.tc : Thread Cert.FfnNormBwdRefIdeal.nD Cert.FfnNormBwdRefIdeal.τ).loc Cert.FfnNormBwdRefIdeal.main_arg0)
          ∧ r.2.mem ((c.tc : Thread Cert.FfnNormBwdRefIdeal.nD Cert.FfnNormBwdRefIdeal.τ).loc Cert.FfnNormBwdRefIdeal.main_arg1) = m' ((c.tc : Thread Cert.FfnNormBwdRefIdeal.nD Cert.FfnNormBwdRefIdeal.τ).loc Cert.FfnNormBwdRefIdeal.main_arg1)
          ∧ r.2.mem ((c.tc : Thread Cert.FfnNormBwdRefIdeal.nD Cert.FfnNormBwdRefIdeal.τ).loc Cert.FfnNormBwdRefIdeal.main_arg2) = m' ((c.tc : Thread Cert.FfnNormBwdRefIdeal.nD Cert.FfnNormBwdRefIdeal.τ).loc Cert.FfnNormBwdRefIdeal.main_arg2)
          ∧ r.2.mem ((c.tc : Thread Cert.FfnNormBwdRefIdeal.nD Cert.FfnNormBwdRefIdeal.τ).loc Cert.FfnNormBwdRefIdeal.main_arg3) = m' ((c.tc : Thread Cert.FfnNormBwdRefIdeal.nD Cert.FfnNormBwdRefIdeal.τ).loc Cert.FfnNormBwdRefIdeal.main_arg3)
          ∧ r.2.mem ((c.tc : Thread Cert.FfnNormBwdRefIdeal.nD Cert.FfnNormBwdRefIdeal.τ).loc Cert.FfnNormBwdRefIdeal.main_arg4) = m' ((c.tc : Thread Cert.FfnNormBwdRefIdeal.nD Cert.FfnNormBwdRefIdeal.τ).loc Cert.FfnNormBwdRefIdeal.main_arg4)
          ∧ r.2.mem ((c.tc : Thread Cert.FfnNormBwdRefIdeal.nD Cert.FfnNormBwdRefIdeal.τ).loc Cert.FfnNormBwdRefIdeal.main_arg5) = m' ((c.tc : Thread Cert.FfnNormBwdRefIdeal.nD Cert.FfnNormBwdRefIdeal.τ).loc Cert.FfnNormBwdRefIdeal.main_arg5)
          ∧ r.2.mem ((c.tc : Thread Cert.FfnNormBwdRefIdeal.nD Cert.FfnNormBwdRefIdeal.τ).loc Cert.FfnNormBwdRefIdeal.main_arg6) = m' ((c.tc : Thread Cert.FfnNormBwdRefIdeal.nD Cert.FfnNormBwdRefIdeal.τ).loc Cert.FfnNormBwdRefIdeal.main_arg6))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v4)) (v1 : (c : Dev Cert.MergeBwdIdeal.nD) → Buf (Elt Ideal) ((c.tc : Thread Cert.MergeBwdIdeal.nD Cert.MergeBwdIdeal.τ).loc Cert.MergeBwdIdeal.main_v3_1)) (v2 : (c : Dev Cert.MergeBwdIdeal.nD) → Buf (Elt Ideal) ((c.tc : Thread Cert.MergeBwdIdeal.nD Cert.MergeBwdIdeal.τ).loc Cert.MergeBwdIdeal.main_v3_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v4) = v0 c
          ∧ r.2.mem ((c.tc : Thread Cert.MergeBwdIdeal.nD Cert.MergeBwdIdeal.τ).loc Cert.MergeBwdIdeal.main_v3_1) = v1 c
          ∧ r.2.mem ((c.tc : Thread Cert.MergeBwdIdeal.nD Cert.MergeBwdIdeal.τ).loc Cert.MergeBwdIdeal.main_v3_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v30) = v0 c
          ∧ r.2.mem ((c.tc : Thread Cert.MergeBwdRefIdeal.nD Cert.MergeBwdRefIdeal.τ).loc Cert.MergeBwdRefIdeal.main_v31) = v1 c
          ∧ r.2.mem ((c.tc : Thread Cert.MergeBwdRefIdeal.nD Cert.MergeBwdRefIdeal.τ).loc Cert.MergeBwdRefIdeal.main_v32) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_SwaBwd_SwaBwdIdeal : Prop :=
  True

def algebraic_SwaBwdIdeal_SwaBwdRefIdeal_pre_swa_finite [hSwaBwdIdeal : Cert.SwaBwdIdeal.Facts] [hSwaBwdRefIdeal : Cert.SwaBwdRefIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaBwdRefIdeal.nD Cert.SwaBwdRefIdeal.τ Cert.SwaBwdRefIdeal.sig) → Buf (Elt Ideal) ℓ) (g' : Dev Cert.SwaBwdRefIdeal.nD → PrngReg), Pre_SwaBwdIdeal_swa_finite m →
    (∀ c : Dev Cert.SwaBwdIdeal.nD,
      m' ((c.tc : Thread Cert.SwaBwdRefIdeal.nD Cert.SwaBwdRefIdeal.τ).loc Cert.SwaBwdRefIdeal.main_arg0) = m ((c.tc : Thread Cert.SwaBwdIdeal.nD Cert.SwaBwdIdeal.τ).loc Cert.SwaBwdIdeal.main_arg0)
      ∧ m' ((c.tc : Thread Cert.SwaBwdRefIdeal.nD Cert.SwaBwdRefIdeal.τ).loc Cert.SwaBwdRefIdeal.main_arg1) = m ((c.tc : Thread Cert.SwaBwdIdeal.nD Cert.SwaBwdIdeal.τ).loc Cert.SwaBwdIdeal.main_arg1)
      ∧ m' ((c.tc : Thread Cert.SwaBwdRefIdeal.nD Cert.SwaBwdRefIdeal.τ).loc Cert.SwaBwdRefIdeal.main_arg2) = m ((c.tc : Thread Cert.SwaBwdIdeal.nD Cert.SwaBwdIdeal.τ).loc Cert.SwaBwdIdeal.main_arg2)
      ∧ m' ((c.tc : Thread Cert.SwaBwdRefIdeal.nD Cert.SwaBwdRefIdeal.τ).loc Cert.SwaBwdRefIdeal.main_arg3) = m ((c.tc : Thread Cert.SwaBwdIdeal.nD Cert.SwaBwdIdeal.τ).loc Cert.SwaBwdIdeal.main_arg3)
      ∧ m' ((c.tc : Thread Cert.SwaBwdRefIdeal.nD Cert.SwaBwdRefIdeal.τ).loc Cert.SwaBwdRefIdeal.main_arg4) = m ((c.tc : Thread Cert.SwaBwdIdeal.nD Cert.SwaBwdIdeal.τ).loc Cert.SwaBwdIdeal.main_arg4)
      ∧ m' ((c.tc : Thread Cert.SwaBwdRefIdeal.nD Cert.SwaBwdRefIdeal.τ).loc Cert.SwaBwdRefIdeal.main_arg5) = m ((c.tc : Thread Cert.SwaBwdIdeal.nD Cert.SwaBwdIdeal.τ).loc Cert.SwaBwdIdeal.main_arg5)
      ∧ m' ((c.tc : Thread Cert.SwaBwdRefIdeal.nD Cert.SwaBwdRefIdeal.τ).loc Cert.SwaBwdRefIdeal.main_arg6) = m ((c.tc : Thread Cert.SwaBwdIdeal.nD Cert.SwaBwdIdeal.τ).loc Cert.SwaBwdIdeal.main_arg6)
      ∧ m' ((c.tc : Thread Cert.SwaBwdRefIdeal.nD Cert.SwaBwdRefIdeal.τ).loc Cert.SwaBwdRefIdeal.main_arg7) = m ((c.tc : Thread Cert.SwaBwdIdeal.nD Cert.SwaBwdIdeal.τ).loc Cert.SwaBwdIdeal.main_arg7)
      ∧ m' ((c.tc : Thread Cert.SwaBwdRefIdeal.nD Cert.SwaBwdRefIdeal.τ).loc Cert.SwaBwdRefIdeal.main_arg8) = m ((c.tc : Thread Cert.SwaBwdIdeal.nD Cert.SwaBwdIdeal.τ).loc Cert.SwaBwdIdeal.main_arg8)) →
    ∃ (v0 : (c : Dev Cert.SwaBwdIdeal.nD) → Buf (Elt Ideal) ((c.tc : Thread Cert.SwaBwdIdeal.nD Cert.SwaBwdIdeal.τ).loc Cert.SwaBwdIdeal.main_v37_0)) (v1 : (c : Dev Cert.SwaBwdIdeal.nD) → Buf (Elt Ideal) ((c.tc : Thread Cert.SwaBwdIdeal.nD Cert.SwaBwdIdeal.τ).loc Cert.SwaBwdIdeal.main_v37_1)) (v2 : (c : Dev Cert.SwaBwdIdeal.nD) → Buf (Elt Ideal) ((c.tc : Thread Cert.SwaBwdIdeal.nD Cert.SwaBwdIdeal.τ).loc Cert.SwaBwdIdeal.main_v37_2)) (v3 : (c : Dev Cert.SwaBwdIdeal.nD) → Buf (Elt Ideal) ((c.tc : Thread Cert.SwaBwdIdeal.nD Cert.SwaBwdIdeal.τ).loc Cert.SwaBwdIdeal.main_v37_3)) (v4 : (c : Dev Cert.SwaBwdIdeal.nD) → Buf (Elt Ideal) ((c.tc : Thread Cert.SwaBwdIdeal.nD Cert.SwaBwdIdeal.τ).loc Cert.SwaBwdIdeal.main_v37_4)) (v5 : (c : Dev Cert.SwaBwdIdeal.nD) → Buf (Elt Ideal) ((c.tc : Thread Cert.SwaBwdIdeal.nD Cert.SwaBwdIdeal.τ).loc Cert.SwaBwdIdeal.main_v37_5)) (v6 : (c : Dev Cert.SwaBwdIdeal.nD) → Buf (Elt Ideal) ((c.tc : Thread Cert.SwaBwdIdeal.nD Cert.SwaBwdIdeal.τ).loc Cert.SwaBwdIdeal.main_v37_6)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v37_0) = v0 c
          ∧ r.2.mem ((c.tc : Thread Cert.SwaBwdIdeal.nD Cert.SwaBwdIdeal.τ).loc Cert.SwaBwdIdeal.main_v37_1) = v1 c
          ∧ r.2.mem ((c.tc : Thread Cert.SwaBwdIdeal.nD Cert.SwaBwdIdeal.τ).loc Cert.SwaBwdIdeal.main_v37_2) = v2 c
          ∧ r.2.mem ((c.tc : Thread Cert.SwaBwdIdeal.nD Cert.SwaBwdIdeal.τ).loc Cert.SwaBwdIdeal.main_v37_3) = v3 c
          ∧ r.2.mem ((c.tc : Thread Cert.SwaBwdIdeal.nD Cert.SwaBwdIdeal.τ).loc Cert.SwaBwdIdeal.main_v37_4) = v4 c
          ∧ r.2.mem ((c.tc : Thread Cert.SwaBwdIdeal.nD Cert.SwaBwdIdeal.τ).loc Cert.SwaBwdIdeal.main_v37_5) = v5 c
          ∧ r.2.mem ((c.tc : Thread Cert.SwaBwdIdeal.nD Cert.SwaBwdIdeal.τ).loc Cert.SwaBwdIdeal.main_v37_6) = v6 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
          ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
          ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4)
          ∧ r.2.mem ((c.tc : Thread Cert.SwaBwdIdeal.nD Cert.SwaBwdIdeal.τ).loc Cert.SwaBwdIdeal.main_arg5) = m ((c.tc : Thread Cert.SwaBwdIdeal.nD Cert.SwaBwdIdeal.τ).loc Cert.SwaBwdIdeal.main_arg5)
          ∧ r.2.mem ((c.tc : Thread Cert.SwaBwdIdeal.nD Cert.SwaBwdIdeal.τ).loc Cert.SwaBwdIdeal.main_arg6) = m ((c.tc : Thread Cert.SwaBwdIdeal.nD Cert.SwaBwdIdeal.τ).loc Cert.SwaBwdIdeal.main_arg6)
          ∧ r.2.mem ((c.tc : Thread Cert.SwaBwdIdeal.nD Cert.SwaBwdIdeal.τ).loc Cert.SwaBwdIdeal.main_arg7) = m ((c.tc : Thread Cert.SwaBwdIdeal.nD Cert.SwaBwdIdeal.τ).loc Cert.SwaBwdIdeal.main_arg7)
          ∧ r.2.mem ((c.tc : Thread Cert.SwaBwdIdeal.nD Cert.SwaBwdIdeal.τ).loc Cert.SwaBwdIdeal.main_arg8) = m ((c.tc : Thread Cert.SwaBwdIdeal.nD Cert.SwaBwdIdeal.τ).loc Cert.SwaBwdIdeal.main_arg8))
      ∧ θ_run (Cert.SwaBwdRefIdeal.defs (F := Ideal)) (onTc (τ := Cert.SwaBwdRefIdeal.τ) (Cert.SwaBwdRefIdeal.main (F := Ideal))) ⟨m', fun _ => 0, g'⟩ (fun r => ∀ c : Dev Cert.SwaBwdRefIdeal.nD,
          r.2.mem ((c.tc : Thread Cert.SwaBwdRefIdeal.nD Cert.SwaBwdRefIdeal.τ).loc Cert.SwaBwdRefIdeal.main_v252) = v0 c
          ∧ r.2.mem ((c.tc : Thread Cert.SwaBwdRefIdeal.nD Cert.SwaBwdRefIdeal.τ).loc Cert.SwaBwdRefIdeal.main_v227) = v1 c
          ∧ r.2.mem ((c.tc : Thread Cert.SwaBwdRefIdeal.nD Cert.SwaBwdRefIdeal.τ).loc Cert.SwaBwdRefIdeal.main_v206) = v2 c
          ∧ r.2.mem ((c.tc : Thread Cert.SwaBwdRefIdeal.nD Cert.SwaBwdRefIdeal.τ).loc Cert.SwaBwdRefIdeal.main_v253) = v3 c
          ∧ r.2.mem ((c.tc : Thread Cert.SwaBwdRefIdeal.nD Cert.SwaBwdRefIdeal.τ).loc Cert.SwaBwdRefIdeal.main_v254) = v4 c
          ∧ r.2.mem ((c.tc : Thread Cert.SwaBwdRefIdeal.nD Cert.SwaBwdRefIdeal.τ).loc Cert.SwaBwdRefIdeal.main_v176) = v5 c
          ∧ r.2.mem ((c.tc : Thread Cert.SwaBwdRefIdeal.nD Cert.SwaBwdRefIdeal.τ).loc Cert.SwaBwdRefIdeal.main_v181) = v6 c
          ∧ r.2.mem ((c.tc : Thread Cert.SwaBwdRefIdeal.nD Cert.SwaBwdRefIdeal.τ).loc Cert.SwaBwdRefIdeal.main_arg0) = m' ((c.tc : Thread Cert.SwaBwdRefIdeal.nD Cert.SwaBwdRefIdeal.τ).loc Cert.SwaBwdRefIdeal.main_arg0)
          ∧ r.2.mem ((c.tc : Thread Cert.SwaBwdRefIdeal.nD Cert.SwaBwdRefIdeal.τ).loc Cert.SwaBwdRefIdeal.main_arg1) = m' ((c.tc : Thread Cert.SwaBwdRefIdeal.nD Cert.SwaBwdRefIdeal.τ).loc Cert.SwaBwdRefIdeal.main_arg1)
          ∧ r.2.mem ((c.tc : Thread Cert.SwaBwdRefIdeal.nD Cert.SwaBwdRefIdeal.τ).loc Cert.SwaBwdRefIdeal.main_arg2) = m' ((c.tc : Thread Cert.SwaBwdRefIdeal.nD Cert.SwaBwdRefIdeal.τ).loc Cert.SwaBwdRefIdeal.main_arg2)
          ∧ r.2.mem ((c.tc : Thread Cert.SwaBwdRefIdeal.nD Cert.SwaBwdRefIdeal.τ).loc Cert.SwaBwdRefIdeal.main_arg3) = m' ((c.tc : Thread Cert.SwaBwdRefIdeal.nD Cert.SwaBwdRefIdeal.τ).loc Cert.SwaBwdRefIdeal.main_arg3)
          ∧ r.2.mem ((c.tc : Thread Cert.SwaBwdRefIdeal.nD Cert.SwaBwdRefIdeal.τ).loc Cert.SwaBwdRefIdeal.main_arg4) = m' ((c.tc : Thread Cert.SwaBwdRefIdeal.nD Cert.SwaBwdRefIdeal.τ).loc Cert.SwaBwdRefIdeal.main_arg4)
          ∧ r.2.mem ((c.tc : Thread Cert.SwaBwdRefIdeal.nD Cert.SwaBwdRefIdeal.τ).loc Cert.SwaBwdRefIdeal.main_arg5) = m' ((c.tc : Thread Cert.SwaBwdRefIdeal.nD Cert.SwaBwdRefIdeal.τ).loc Cert.SwaBwdRefIdeal.main_arg5)
          ∧ r.2.mem ((c.tc : Thread Cert.SwaBwdRefIdeal.nD Cert.SwaBwdRefIdeal.τ).loc Cert.SwaBwdRefIdeal.main_arg6) = m' ((c.tc : Thread Cert.SwaBwdRefIdeal.nD Cert.SwaBwdRefIdeal.τ).loc Cert.SwaBwdRefIdeal.main_arg6)
          ∧ r.2.mem ((c.tc : Thread Cert.SwaBwdRefIdeal.nD Cert.SwaBwdRefIdeal.τ).loc Cert.SwaBwdRefIdeal.main_arg7) = m' ((c.tc : Thread Cert.SwaBwdRefIdeal.nD Cert.SwaBwdRefIdeal.τ).loc Cert.SwaBwdRefIdeal.main_arg7)
          ∧ r.2.mem ((c.tc : Thread Cert.SwaBwdRefIdeal.nD Cert.SwaBwdRefIdeal.τ).loc Cert.SwaBwdRefIdeal.main_arg8) = m' ((c.tc : Thread Cert.SwaBwdRefIdeal.nD Cert.SwaBwdRefIdeal.τ).loc Cert.SwaBwdRefIdeal.main_arg8))

def preserves_GateBwd_GateBwdIdeal : Prop :=
  True

def algebraic_GateBwdIdeal_GateBwdRefIdeal_pre_gate_finite [hGateBwdIdeal : Cert.GateBwdIdeal.Facts] [hGateBwdRefIdeal : Cert.GateBwdRefIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_gate_finite m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)
      ∧ m' ((c.tc : Thread Cert.GateBwdRefIdeal.nD Cert.GateBwdRefIdeal.τ).loc Cert.GateBwdRefIdeal.main_arg5) = m ((c.tc : Thread Cert.GateBwdIdeal.nD Cert.GateBwdIdeal.τ).loc Cert.GateBwdIdeal.main_arg5)
      ∧ m' ((c.tc : Thread Cert.GateBwdRefIdeal.nD Cert.GateBwdRefIdeal.τ).loc Cert.GateBwdRefIdeal.main_arg6) = m ((c.tc : Thread Cert.GateBwdIdeal.nD Cert.GateBwdIdeal.τ).loc Cert.GateBwdIdeal.main_arg6)) →
    ∃ (v0 : (c : Dev Cert.GateBwdIdeal.nD) → Buf (Elt Ideal) ((c.tc : Thread Cert.GateBwdIdeal.nD Cert.GateBwdIdeal.τ).loc Cert.GateBwdIdeal.main_v28_0)) (v1 : (c : Dev Cert.GateBwdIdeal.nD) → Buf (Elt Ideal) ((c.tc : Thread Cert.GateBwdIdeal.nD Cert.GateBwdIdeal.τ).loc Cert.GateBwdIdeal.main_v28_1)) (v2 : (c : Dev Cert.GateBwdIdeal.nD) → Buf (Elt Ideal) ((c.tc : Thread Cert.GateBwdIdeal.nD Cert.GateBwdIdeal.τ).loc Cert.GateBwdIdeal.main_v28_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v28_0) = v0 c
          ∧ r.2.mem ((c.tc : Thread Cert.GateBwdIdeal.nD Cert.GateBwdIdeal.τ).loc Cert.GateBwdIdeal.main_v28_1) = v1 c
          ∧ r.2.mem ((c.tc : Thread Cert.GateBwdIdeal.nD Cert.GateBwdIdeal.τ).loc Cert.GateBwdIdeal.main_v28_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
          ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v41) = v0 c
          ∧ r.2.mem ((c.tc : Thread Cert.GateBwdRefIdeal.nD Cert.GateBwdRefIdeal.τ).loc Cert.GateBwdRefIdeal.main_v33) = v1 c
          ∧ r.2.mem ((c.tc : Thread Cert.GateBwdRefIdeal.nD Cert.GateBwdRefIdeal.τ).loc Cert.GateBwdRefIdeal.main_v42) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4)
          ∧ r.2.mem ((c.tc : Thread Cert.GateBwdRefIdeal.nD Cert.GateBwdRefIdeal.τ).loc Cert.GateBwdRefIdeal.main_arg5) = m' ((c.tc : Thread Cert.GateBwdRefIdeal.nD Cert.GateBwdRefIdeal.τ).loc Cert.GateBwdRefIdeal.main_arg5)
          ∧ r.2.mem ((c.tc : Thread Cert.GateBwdRefIdeal.nD Cert.GateBwdRefIdeal.τ).loc Cert.GateBwdRefIdeal.main_arg6) = m' ((c.tc : Thread Cert.GateBwdRefIdeal.nD Cert.GateBwdRefIdeal.τ).loc Cert.GateBwdRefIdeal.main_arg6))

def preserves_SwaFwd_SwaFwdIdeal : Prop :=
  True

def algebraic_SwaFwdIdeal_SwaFwdRefIdeal_pre_swa_fwd_finite [hSwaFwdIdeal : Cert.SwaFwdIdeal.Facts] [hSwaFwdRefIdeal : Cert.SwaFwdRefIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swa_fwd_finite m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)
      ∧ m' ((c.tc : Thread Cert.SwaFwdRefIdeal.nD Cert.SwaFwdRefIdeal.τ).loc Cert.SwaFwdRefIdeal.main_arg3) = m ((c.tc : Thread Cert.SwaFwdIdeal.nD Cert.SwaFwdIdeal.τ).loc Cert.SwaFwdIdeal.main_arg3)
      ∧ m' ((c.tc : Thread Cert.SwaFwdRefIdeal.nD Cert.SwaFwdRefIdeal.τ).loc Cert.SwaFwdRefIdeal.main_arg4) = m ((c.tc : Thread Cert.SwaFwdIdeal.nD Cert.SwaFwdIdeal.τ).loc Cert.SwaFwdIdeal.main_arg4)
      ∧ m' ((c.tc : Thread Cert.SwaFwdRefIdeal.nD Cert.SwaFwdRefIdeal.τ).loc Cert.SwaFwdRefIdeal.main_arg5) = m ((c.tc : Thread Cert.SwaFwdIdeal.nD Cert.SwaFwdIdeal.τ).loc Cert.SwaFwdIdeal.main_arg5)
      ∧ m' ((c.tc : Thread Cert.SwaFwdRefIdeal.nD Cert.SwaFwdRefIdeal.τ).loc Cert.SwaFwdRefIdeal.main_arg6) = m ((c.tc : Thread Cert.SwaFwdIdeal.nD Cert.SwaFwdIdeal.τ).loc Cert.SwaFwdIdeal.main_arg6)) →
    ∃ (v0 : (c : Dev Cert.SwaFwdIdeal.nD) → Buf (Elt Ideal) ((c.tc : Thread Cert.SwaFwdIdeal.nD Cert.SwaFwdIdeal.τ).loc Cert.SwaFwdIdeal.main_v37)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v37) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
          ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4)
          ∧ r.2.mem ((c.tc : Thread Cert.SwaFwdIdeal.nD Cert.SwaFwdIdeal.τ).loc Cert.SwaFwdIdeal.main_arg5) = m ((c.tc : Thread Cert.SwaFwdIdeal.nD Cert.SwaFwdIdeal.τ).loc Cert.SwaFwdIdeal.main_arg5)
          ∧ r.2.mem ((c.tc : Thread Cert.SwaFwdIdeal.nD Cert.SwaFwdIdeal.τ).loc Cert.SwaFwdIdeal.main_arg6) = m ((c.tc : Thread Cert.SwaFwdIdeal.nD Cert.SwaFwdIdeal.τ).loc Cert.SwaFwdIdeal.main_arg6))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v106) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2)
          ∧ r.2.mem ((c.tc : Thread Cert.SwaFwdRefIdeal.nD Cert.SwaFwdRefIdeal.τ).loc Cert.SwaFwdRefIdeal.main_arg3) = m' ((c.tc : Thread Cert.SwaFwdRefIdeal.nD Cert.SwaFwdRefIdeal.τ).loc Cert.SwaFwdRefIdeal.main_arg3)
          ∧ r.2.mem ((c.tc : Thread Cert.SwaFwdRefIdeal.nD Cert.SwaFwdRefIdeal.τ).loc Cert.SwaFwdRefIdeal.main_arg4) = m' ((c.tc : Thread Cert.SwaFwdRefIdeal.nD Cert.SwaFwdRefIdeal.τ).loc Cert.SwaFwdRefIdeal.main_arg4)
          ∧ r.2.mem ((c.tc : Thread Cert.SwaFwdRefIdeal.nD Cert.SwaFwdRefIdeal.τ).loc Cert.SwaFwdRefIdeal.main_arg5) = m' ((c.tc : Thread Cert.SwaFwdRefIdeal.nD Cert.SwaFwdRefIdeal.τ).loc Cert.SwaFwdRefIdeal.main_arg5)
          ∧ r.2.mem ((c.tc : Thread Cert.SwaFwdRefIdeal.nD Cert.SwaFwdRefIdeal.τ).loc Cert.SwaFwdRefIdeal.main_arg6) = m' ((c.tc : Thread Cert.SwaFwdRefIdeal.nD Cert.SwaFwdRefIdeal.τ).loc Cert.SwaFwdRefIdeal.main_arg6))

def preserves_ScanFwd_ScanFwdIdeal : Prop :=
  True

def algebraic_ScanFwdIdeal_ScanFwdRefIdeal [hScanFwdIdeal : Cert.ScanFwdIdeal.Facts] [hScanFwdRefIdeal : Cert.ScanFwdRefIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg)
    (m' : (ℓ : Loc Cert.ScanFwdRefIdeal.nD Cert.ScanFwdRefIdeal.τ Cert.ScanFwdRefIdeal.sig) → Buf (Elt Ideal) ℓ) (g' : Dev Cert.ScanFwdRefIdeal.nD → PrngReg), Pre_ScanFwdIdeal m →
    (∀ c : Dev Cert.ScanFwdIdeal.nD,
      m' ((c.tc : Thread Cert.ScanFwdRefIdeal.nD Cert.ScanFwdRefIdeal.τ).loc Cert.ScanFwdRefIdeal.main_arg0) = m ((c.tc : Thread Cert.ScanFwdIdeal.nD Cert.ScanFwdIdeal.τ).loc Cert.ScanFwdIdeal.main_arg0)
      ∧ m' ((c.tc : Thread Cert.ScanFwdRefIdeal.nD Cert.ScanFwdRefIdeal.τ).loc Cert.ScanFwdRefIdeal.main_arg1) = m ((c.tc : Thread Cert.ScanFwdIdeal.nD Cert.ScanFwdIdeal.τ).loc Cert.ScanFwdIdeal.main_arg1)
      ∧ m' ((c.tc : Thread Cert.ScanFwdRefIdeal.nD Cert.ScanFwdRefIdeal.τ).loc Cert.ScanFwdRefIdeal.main_arg2) = m ((c.tc : Thread Cert.ScanFwdIdeal.nD Cert.ScanFwdIdeal.τ).loc Cert.ScanFwdIdeal.main_arg2)
      ∧ m' ((c.tc : Thread Cert.ScanFwdRefIdeal.nD Cert.ScanFwdRefIdeal.τ).loc Cert.ScanFwdRefIdeal.main_arg3) = m ((c.tc : Thread Cert.ScanFwdIdeal.nD Cert.ScanFwdIdeal.τ).loc Cert.ScanFwdIdeal.main_arg3)
      ∧ m' ((c.tc : Thread Cert.ScanFwdRefIdeal.nD Cert.ScanFwdRefIdeal.τ).loc Cert.ScanFwdRefIdeal.main_arg4) = m ((c.tc : Thread Cert.ScanFwdIdeal.nD Cert.ScanFwdIdeal.τ).loc Cert.ScanFwdIdeal.main_arg4)
      ∧ m' ((c.tc : Thread Cert.ScanFwdRefIdeal.nD Cert.ScanFwdRefIdeal.τ).loc Cert.ScanFwdRefIdeal.main_arg5) = m ((c.tc : Thread Cert.ScanFwdIdeal.nD Cert.ScanFwdIdeal.τ).loc Cert.ScanFwdIdeal.main_arg5)) →
    ∃ (v0 : (c : Dev Cert.ScanFwdIdeal.nD) → Buf (Elt Ideal) ((c.tc : Thread Cert.ScanFwdIdeal.nD Cert.ScanFwdIdeal.τ).loc Cert.ScanFwdIdeal.main_v23_0)) (v1 : (c : Dev Cert.ScanFwdIdeal.nD) → Buf (Elt Ideal) ((c.tc : Thread Cert.ScanFwdIdeal.nD Cert.ScanFwdIdeal.τ).loc Cert.ScanFwdIdeal.main_v23_1)),
      θ_run (Cert.ScanFwdIdeal.defs (F := Ideal)) (onTc (τ := Cert.ScanFwdIdeal.τ) (Cert.ScanFwdIdeal.main (F := Ideal))) ⟨m, fun _ => 0, g⟩ (fun r => ∀ c : Dev Cert.ScanFwdIdeal.nD,
          r.2.mem ((c.tc : Thread Cert.ScanFwdIdeal.nD Cert.ScanFwdIdeal.τ).loc Cert.ScanFwdIdeal.main_v23_0) = v0 c
          ∧ r.2.mem ((c.tc : Thread Cert.ScanFwdIdeal.nD Cert.ScanFwdIdeal.τ).loc Cert.ScanFwdIdeal.main_v23_1) = v1 c
          ∧ r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
          ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
          ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
          ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
          ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4)
          ∧ r.2.mem ((c.tc : Thread Cert.ScanFwdIdeal.nD Cert.ScanFwdIdeal.τ).loc Cert.ScanFwdIdeal.main_arg5) = m ((c.tc : Thread Cert.ScanFwdIdeal.nD Cert.ScanFwdIdeal.τ).loc Cert.ScanFwdIdeal.main_arg5))
      ∧ θ_run (Cert.ScanFwdRefIdeal.defs (F := Ideal)) (onTc (τ := Cert.ScanFwdRefIdeal.τ) (Cert.ScanFwdRefIdeal.main (F := Ideal))) ⟨m', fun _ => 0, g'⟩ (fun r => ∀ c : Dev Cert.ScanFwdRefIdeal.nD,
          r.2.mem ((c.tc : Thread Cert.ScanFwdRefIdeal.nD Cert.ScanFwdRefIdeal.τ).loc Cert.ScanFwdRefIdeal.main_v11) = v0 c
          ∧ r.2.mem ((c.tc : Thread Cert.ScanFwdRefIdeal.nD Cert.ScanFwdRefIdeal.τ).loc Cert.ScanFwdRefIdeal.main_v12) = v1 c
          ∧ r.2.mem ((c.tc : Thread Cert.ScanFwdRefIdeal.nD Cert.ScanFwdRefIdeal.τ).loc Cert.ScanFwdRefIdeal.main_arg0) = m' ((c.tc : Thread Cert.ScanFwdRefIdeal.nD Cert.ScanFwdRefIdeal.τ).loc Cert.ScanFwdRefIdeal.main_arg0)
          ∧ r.2.mem ((c.tc : Thread Cert.ScanFwdRefIdeal.nD Cert.ScanFwdRefIdeal.τ).loc Cert.ScanFwdRefIdeal.main_arg1) = m' ((c.tc : Thread Cert.ScanFwdRefIdeal.nD Cert.ScanFwdRefIdeal.τ).loc Cert.ScanFwdRefIdeal.main_arg1)
          ∧ r.2.mem ((c.tc : Thread Cert.ScanFwdRefIdeal.nD Cert.ScanFwdRefIdeal.τ).loc Cert.ScanFwdRefIdeal.main_arg2) = m' ((c.tc : Thread Cert.ScanFwdRefIdeal.nD Cert.ScanFwdRefIdeal.τ).loc Cert.ScanFwdRefIdeal.main_arg2)
          ∧ r.2.mem ((c.tc : Thread Cert.ScanFwdRefIdeal.nD Cert.ScanFwdRefIdeal.τ).loc Cert.ScanFwdRefIdeal.main_arg3) = m' ((c.tc : Thread Cert.ScanFwdRefIdeal.nD Cert.ScanFwdRefIdeal.τ).loc Cert.ScanFwdRefIdeal.main_arg3)
          ∧ r.2.mem ((c.tc : Thread Cert.ScanFwdRefIdeal.nD Cert.ScanFwdRefIdeal.τ).loc Cert.ScanFwdRefIdeal.main_arg4) = m' ((c.tc : Thread Cert.ScanFwdRefIdeal.nD Cert.ScanFwdRefIdeal.τ).loc Cert.ScanFwdRefIdeal.main_arg4)
          ∧ r.2.mem ((c.tc : Thread Cert.ScanFwdRefIdeal.nD Cert.ScanFwdRefIdeal.τ).loc Cert.ScanFwdRefIdeal.main_arg5) = m' ((c.tc : Thread Cert.ScanFwdRefIdeal.nD Cert.ScanFwdRefIdeal.τ).loc Cert.ScanFwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v18) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_OutNormFwd_OutNormFwdIdeal : Prop :=
  True

def algebraic_OutNormFwdIdeal_OutNormFwdRefIdeal [hOutNormFwdIdeal : Cert.OutNormFwdIdeal.Facts] [hOutNormFwdRefIdeal : Cert.OutNormFwdRefIdeal.Facts] : Prop :=
  ∀ (m : (ℓ : Loc Cert.OutNormFwdIdeal.nD Cert.OutNormFwdIdeal.τ Cert.OutNormFwdIdeal.sig) → Buf (Elt Ideal) ℓ) (g : Dev Cert.OutNormFwdIdeal.nD → PrngReg)
    (m' : (ℓ : Loc Cert.OutNormFwdRefIdeal.nD Cert.OutNormFwdRefIdeal.τ Cert.OutNormFwdRefIdeal.sig) → Buf (Elt Ideal) ℓ) (g' : Dev Cert.OutNormFwdRefIdeal.nD → PrngReg), Pre_OutNormFwdIdeal m →
    (∀ c : Dev Cert.OutNormFwdIdeal.nD,
      m' ((c.tc : Thread Cert.OutNormFwdRefIdeal.nD Cert.OutNormFwdRefIdeal.τ).loc Cert.OutNormFwdRefIdeal.main_arg0) = m ((c.tc : Thread Cert.OutNormFwdIdeal.nD Cert.OutNormFwdIdeal.τ).loc Cert.OutNormFwdIdeal.main_arg0)
      ∧ m' ((c.tc : Thread Cert.OutNormFwdRefIdeal.nD Cert.OutNormFwdRefIdeal.τ).loc Cert.OutNormFwdRefIdeal.main_arg1) = m ((c.tc : Thread Cert.OutNormFwdIdeal.nD Cert.OutNormFwdIdeal.τ).loc Cert.OutNormFwdIdeal.main_arg1)
      ∧ m' ((c.tc : Thread Cert.OutNormFwdRefIdeal.nD Cert.OutNormFwdRefIdeal.τ).loc Cert.OutNormFwdRefIdeal.main_arg2) = m ((c.tc : Thread Cert.OutNormFwdIdeal.nD Cert.OutNormFwdIdeal.τ).loc Cert.OutNormFwdIdeal.main_arg2)
      ∧ m' ((c.tc : Thread Cert.OutNormFwdRefIdeal.nD Cert.OutNormFwdRefIdeal.τ).loc Cert.OutNormFwdRefIdeal.main_arg3) = m ((c.tc : Thread Cert.OutNormFwdIdeal.nD Cert.OutNormFwdIdeal.τ).loc Cert.OutNormFwdIdeal.main_arg3)) →
    ∃ (v0 : (c : Dev Cert.OutNormFwdIdeal.nD) → Buf (Elt Ideal) ((c.tc : Thread Cert.OutNormFwdIdeal.nD Cert.OutNormFwdIdeal.τ).loc Cert.OutNormFwdIdeal.main_v3_0)) (v1 : (c : Dev Cert.OutNormFwdIdeal.nD) → Buf (Elt Ideal) ((c.tc : Thread Cert.OutNormFwdIdeal.nD Cert.OutNormFwdIdeal.τ).loc Cert.OutNormFwdIdeal.main_v3_1)),
      θ_run (Cert.OutNormFwdIdeal.defs (F := Ideal)) (onTc (τ := Cert.OutNormFwdIdeal.τ) (Cert.OutNormFwdIdeal.main (F := Ideal))) ⟨m, fun _ => 0, g⟩ (fun r => ∀ c : Dev Cert.OutNormFwdIdeal.nD,
          r.2.mem ((c.tc : Thread Cert.OutNormFwdIdeal.nD Cert.OutNormFwdIdeal.τ).loc Cert.OutNormFwdIdeal.main_v3_0) = v0 c
          ∧ r.2.mem ((c.tc : Thread Cert.OutNormFwdIdeal.nD Cert.OutNormFwdIdeal.τ).loc Cert.OutNormFwdIdeal.main_v3_1) = v1 c
          ∧ r.2.mem ((c.tc : Thread Cert.OutNormFwdIdeal.nD Cert.OutNormFwdIdeal.τ).loc Cert.OutNormFwdIdeal.main_arg0) = m ((c.tc : Thread Cert.OutNormFwdIdeal.nD Cert.OutNormFwdIdeal.τ).loc Cert.OutNormFwdIdeal.main_arg0)
          ∧ r.2.mem ((c.tc : Thread Cert.OutNormFwdIdeal.nD Cert.OutNormFwdIdeal.τ).loc Cert.OutNormFwdIdeal.main_arg1) = m ((c.tc : Thread Cert.OutNormFwdIdeal.nD Cert.OutNormFwdIdeal.τ).loc Cert.OutNormFwdIdeal.main_arg1)
          ∧ r.2.mem ((c.tc : Thread Cert.OutNormFwdIdeal.nD Cert.OutNormFwdIdeal.τ).loc Cert.OutNormFwdIdeal.main_arg2) = m ((c.tc : Thread Cert.OutNormFwdIdeal.nD Cert.OutNormFwdIdeal.τ).loc Cert.OutNormFwdIdeal.main_arg2)
          ∧ r.2.mem ((c.tc : Thread Cert.OutNormFwdIdeal.nD Cert.OutNormFwdIdeal.τ).loc Cert.OutNormFwdIdeal.main_arg3) = m ((c.tc : Thread Cert.OutNormFwdIdeal.nD Cert.OutNormFwdIdeal.τ).loc Cert.OutNormFwdIdeal.main_arg3))
      ∧ θ_run (Cert.OutNormFwdRefIdeal.defs (F := Ideal)) (onTc (τ := Cert.OutNormFwdRefIdeal.τ) (Cert.OutNormFwdRefIdeal.main (F := Ideal))) ⟨m', fun _ => 0, g'⟩ (fun r => ∀ c : Dev Cert.OutNormFwdRefIdeal.nD,
          r.2.mem ((c.tc : Thread Cert.OutNormFwdRefIdeal.nD Cert.OutNormFwdRefIdeal.τ).loc Cert.OutNormFwdRefIdeal.main_v1) = v0 c
          ∧ r.2.mem ((c.tc : Thread Cert.OutNormFwdRefIdeal.nD Cert.OutNormFwdRefIdeal.τ).loc Cert.OutNormFwdRefIdeal.main_v15) = v1 c
          ∧ r.2.mem ((c.tc : Thread Cert.OutNormFwdRefIdeal.nD Cert.OutNormFwdRefIdeal.τ).loc Cert.OutNormFwdRefIdeal.main_arg0) = m' ((c.tc : Thread Cert.OutNormFwdRefIdeal.nD Cert.OutNormFwdRefIdeal.τ).loc Cert.OutNormFwdRefIdeal.main_arg0)
          ∧ r.2.mem ((c.tc : Thread Cert.OutNormFwdRefIdeal.nD Cert.OutNormFwdRefIdeal.τ).loc Cert.OutNormFwdRefIdeal.main_arg1) = m' ((c.tc : Thread Cert.OutNormFwdRefIdeal.nD Cert.OutNormFwdRefIdeal.τ).loc Cert.OutNormFwdRefIdeal.main_arg1)
          ∧ r.2.mem ((c.tc : Thread Cert.OutNormFwdRefIdeal.nD Cert.OutNormFwdRefIdeal.τ).loc Cert.OutNormFwdRefIdeal.main_arg2) = m' ((c.tc : Thread Cert.OutNormFwdRefIdeal.nD Cert.OutNormFwdRefIdeal.τ).loc Cert.OutNormFwdRefIdeal.main_arg2)
          ∧ r.2.mem ((c.tc : Thread Cert.OutNormFwdRefIdeal.nD Cert.OutNormFwdRefIdeal.τ).loc Cert.OutNormFwdRefIdeal.main_arg3) = m' ((c.tc : Thread Cert.OutNormFwdRefIdeal.nD Cert.OutNormFwdRefIdeal.τ).loc Cert.OutNormFwdRefIdeal.main_arg3))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v10_0)) (v1 : (c : Dev Cert.GluFwdIdeal.nD) → Buf (Elt Ideal) ((c.tc : Thread Cert.GluFwdIdeal.nD Cert.GluFwdIdeal.τ).loc Cert.GluFwdIdeal.main_v10_1)) (v2 : (c : Dev Cert.GluFwdIdeal.nD) → Buf (Elt Ideal) ((c.tc : Thread Cert.GluFwdIdeal.nD Cert.GluFwdIdeal.τ).loc Cert.GluFwdIdeal.main_v10_2)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v10_0) = v0 c
          ∧ r.2.mem ((c.tc : Thread Cert.GluFwdIdeal.nD Cert.GluFwdIdeal.τ).loc Cert.GluFwdIdeal.main_v10_1) = v1 c
          ∧ r.2.mem ((c.tc : Thread Cert.GluFwdIdeal.nD Cert.GluFwdIdeal.τ).loc Cert.GluFwdIdeal.main_v10_2) = v2 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v7) = v0 c
          ∧ r.2.mem ((c.tc : Thread Cert.GluFwdRefIdeal.nD Cert.GluFwdRefIdeal.τ).loc Cert.GluFwdRefIdeal.main_v10) = v1 c
          ∧ r.2.mem ((c.tc : Thread Cert.GluFwdRefIdeal.nD Cert.GluFwdRefIdeal.τ).loc Cert.GluFwdRefIdeal.main_v13) = v2 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)
      ∧ m' ((c.tc : Thread Cert.BranchFwdRefIdeal.nD Cert.BranchFwdRefIdeal.τ).loc Cert.BranchFwdRefIdeal.main_arg2) = m ((c.tc : Thread Cert.BranchFwdIdeal.nD Cert.BranchFwdIdeal.τ).loc Cert.BranchFwdIdeal.main_arg2)
      ∧ m' ((c.tc : Thread Cert.BranchFwdRefIdeal.nD Cert.BranchFwdRefIdeal.τ).loc Cert.BranchFwdRefIdeal.main_arg3) = m ((c.tc : Thread Cert.BranchFwdIdeal.nD Cert.BranchFwdIdeal.τ).loc Cert.BranchFwdIdeal.main_arg3)
      ∧ m' ((c.tc : Thread Cert.BranchFwdRefIdeal.nD Cert.BranchFwdRefIdeal.τ).loc Cert.BranchFwdRefIdeal.main_arg4) = m ((c.tc : Thread Cert.BranchFwdIdeal.nD Cert.BranchFwdIdeal.τ).loc Cert.BranchFwdIdeal.main_arg4)) →
    ∃ (v0 : (c : Dev Cert.BranchFwdIdeal.nD) → Buf (Elt Ideal) ((c.tc : Thread Cert.BranchFwdIdeal.nD Cert.BranchFwdIdeal.τ).loc Cert.BranchFwdIdeal.main_v9_0)) (v1 : (c : Dev Cert.BranchFwdIdeal.nD) → Buf (Elt Ideal) ((c.tc : Thread Cert.BranchFwdIdeal.nD Cert.BranchFwdIdeal.τ).loc Cert.BranchFwdIdeal.main_v9_1)) (v2 : (c : Dev Cert.BranchFwdIdeal.nD) → Buf (Elt Ideal) ((c.tc : Thread Cert.BranchFwdIdeal.nD Cert.BranchFwdIdeal.τ).loc Cert.BranchFwdIdeal.main_v9_2)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v9_0) = v0 c
          ∧ r.2.mem ((c.tc : Thread Cert.BranchFwdIdeal.nD Cert.BranchFwdIdeal.τ).loc Cert.BranchFwdIdeal.main_v9_1) = v1 c
          ∧ r.2.mem ((c.tc : Thread Cert.BranchFwdIdeal.nD Cert.BranchFwdIdeal.τ).loc Cert.BranchFwdIdeal.main_v9_2) = v2 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
          ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
          ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
          ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v7) = v0 c
          ∧ r.2.mem ((c.tc : Thread Cert.BranchFwdRefIdeal.nD Cert.BranchFwdRefIdeal.τ).loc Cert.BranchFwdRefIdeal.main_v8) = v1 c
          ∧ r.2.mem ((c.tc : Thread Cert.BranchFwdRefIdeal.nD Cert.BranchFwdRefIdeal.τ).loc Cert.BranchFwdRefIdeal.main_v16) = v2 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1)
          ∧ r.2.mem ((c.tc : Thread Cert.BranchFwdRefIdeal.nD Cert.BranchFwdRefIdeal.τ).loc Cert.BranchFwdRefIdeal.main_arg2) = m' ((c.tc : Thread Cert.BranchFwdRefIdeal.nD Cert.BranchFwdRefIdeal.τ).loc Cert.BranchFwdRefIdeal.main_arg2)
          ∧ r.2.mem ((c.tc : Thread Cert.BranchFwdRefIdeal.nD Cert.BranchFwdRefIdeal.τ).loc Cert.BranchFwdRefIdeal.main_arg3) = m' ((c.tc : Thread Cert.BranchFwdRefIdeal.nD Cert.BranchFwdRefIdeal.τ).loc Cert.BranchFwdRefIdeal.main_arg3)
          ∧ r.2.mem ((c.tc : Thread Cert.BranchFwdRefIdeal.nD Cert.BranchFwdRefIdeal.τ).loc Cert.BranchFwdRefIdeal.main_arg4) = m' ((c.tc : Thread Cert.BranchFwdRefIdeal.nD Cert.BranchFwdRefIdeal.τ).loc Cert.BranchFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v1_0)) (v1 : (c : Dev Cert.ConvFwdIdeal.nD) → Buf (Elt Ideal) ((c.tc : Thread Cert.ConvFwdIdeal.nD Cert.ConvFwdIdeal.τ).loc Cert.ConvFwdIdeal.main_v1_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1_0) = v0 c
          ∧ r.2.mem ((c.tc : Thread Cert.ConvFwdIdeal.nD Cert.ConvFwdIdeal.τ).loc Cert.ConvFwdIdeal.main_v1_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v57) = v0 c
          ∧ r.2.mem ((c.tc : Thread Cert.ConvFwdRefIdeal.nD Cert.ConvFwdRefIdeal.τ).loc Cert.ConvFwdRefIdeal.main_v88) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_GateFwd_GateFwdIdeal : Prop :=
  True

def algebraic_GateFwdIdeal_GateFwdRefIdeal_pre_gate_fwd_finite [hGateFwdIdeal : Cert.GateFwdIdeal.Facts] [hGateFwdRefIdeal : Cert.GateFwdRefIdeal.Facts] [hPre_gate_fwd_finite : Cert.Pre_gate_fwd_finite.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal_gate_fwd_finite m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v30_0)) (v1 : (c : Dev Cert.GateFwdIdeal.nD) → Buf (Elt Ideal) ((c.tc : Thread Cert.GateFwdIdeal.nD Cert.GateFwdIdeal.τ).loc Cert.GateFwdIdeal.main_v30_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v30_0) = v0 c
          ∧ r.2.mem ((c.tc : Thread Cert.GateFwdIdeal.nD Cert.GateFwdIdeal.τ).loc Cert.GateFwdIdeal.main_v30_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v16) = v0 c
          ∧ r.2.mem ((c.tc : Thread Cert.GateFwdRefIdeal.nD Cert.GateFwdRefIdeal.τ).loc Cert.GateFwdRefIdeal.main_v18) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def Claim : Prop :=
  ∃ (hActBwd : Cert.ActBwd.Facts) (hActBwdIdeal : Cert.ActBwdIdeal.Facts) (hActBwdRefIdeal : Cert.ActBwdRefIdeal.Facts) (hLossHead : Cert.LossHead.Facts) (hLossHeadIdeal : Cert.LossHeadIdeal.Facts) (hLossHeadRefIdeal : Cert.LossHeadRefIdeal.Facts) (hConvBwd : Cert.ConvBwd.Facts) (hConvBwdIdeal : Cert.ConvBwdIdeal.Facts) (hConvBwdRefIdeal : Cert.ConvBwdRefIdeal.Facts) (hBiasBwd : Cert.BiasBwd.Facts) (hBiasBwdIdeal : Cert.BiasBwdIdeal.Facts) (hBiasBwdRefIdeal : Cert.BiasBwdRefIdeal.Facts) (hOutBwd : Cert.OutBwd.Facts) (hOutBwdIdeal : Cert.OutBwdIdeal.Facts) (hOutBwdRefIdeal : Cert.OutBwdRefIdeal.Facts) (hInNormBwd : Cert.InNormBwd.Facts) (hInNormBwdIdeal : Cert.InNormBwdIdeal.Facts) (hInNormBwdRefIdeal : Cert.InNormBwdRefIdeal.Facts) (hFfnNormBwd : Cert.FfnNormBwd.Facts) (hFfnNormBwdIdeal : Cert.FfnNormBwdIdeal.Facts) (hFfnNormBwdRefIdeal : Cert.FfnNormBwdRefIdeal.Facts) (hMergeBwd : Cert.MergeBwd.Facts) (hMergeBwdIdeal : Cert.MergeBwdIdeal.Facts) (hMergeBwdRefIdeal : Cert.MergeBwdRefIdeal.Facts) (hSwaBwd : Cert.SwaBwd.Facts) (hSwaBwdIdeal : Cert.SwaBwdIdeal.Facts) (hSwaBwdRefIdeal : Cert.SwaBwdRefIdeal.Facts) (hGateBwd : Cert.GateBwd.Facts) (hGateBwdIdeal : Cert.GateBwdIdeal.Facts) (hGateBwdRefIdeal : Cert.GateBwdRefIdeal.Facts) (hSwaFwd : Cert.SwaFwd.Facts) (hSwaFwdIdeal : Cert.SwaFwdIdeal.Facts) (hSwaFwdRefIdeal : Cert.SwaFwdRefIdeal.Facts) (hScanFwd : Cert.ScanFwd.Facts) (hScanFwdIdeal : Cert.ScanFwdIdeal.Facts) (hScanFwdRefIdeal : Cert.ScanFwdRefIdeal.Facts) (hNormFwd : Cert.NormFwd.Facts) (hNormFwdIdeal : Cert.NormFwdIdeal.Facts) (hNormFwdRefIdeal : Cert.NormFwdRefIdeal.Facts) (hOutFwd : Cert.OutFwd.Facts) (hOutFwdIdeal : Cert.OutFwdIdeal.Facts) (hOutFwdRefIdeal : Cert.OutFwdRefIdeal.Facts) (hOutNormFwd : Cert.OutNormFwd.Facts) (hOutNormFwdIdeal : Cert.OutNormFwdIdeal.Facts) (hOutNormFwdRefIdeal : Cert.OutNormFwdRefIdeal.Facts) (hGluFwd : Cert.GluFwd.Facts) (hGluFwdIdeal : Cert.GluFwdIdeal.Facts) (hGluFwdRefIdeal : Cert.GluFwdRefIdeal.Facts) (hBranchFwd : Cert.BranchFwd.Facts) (hBranchFwdIdeal : Cert.BranchFwdIdeal.Facts) (hBranchFwdRefIdeal : Cert.BranchFwdRefIdeal.Facts) (hConvFwd : Cert.ConvFwd.Facts) (hConvFwdIdeal : Cert.ConvFwdIdeal.Facts) (hConvFwdRefIdeal : Cert.ConvFwdRefIdeal.Facts) (hGateFwd : Cert.GateFwd.Facts) (hGateFwdIdeal : Cert.GateFwdIdeal.Facts) (hGateFwdRefIdeal : Cert.GateFwdRefIdeal.Facts) (hPre_conv_finite : Cert.Pre_conv_finite.Facts) (hPre_swa_finite : Cert.Pre_swa_finite.Facts) (hPre_gate_finite : Cert.Pre_gate_finite.Facts) (hPre_swa_fwd_finite : Cert.Pre_swa_fwd_finite.Facts) (hPre_gate_fwd_finite : Cert.Pre_gate_fwd_finite.Facts),
    quiescent_ActBwd (hActBwd := hActBwd)
    ∧ quiescent_ActBwdIdeal (hActBwdIdeal := hActBwdIdeal)
    ∧ quiescent_ActBwdRefIdeal (hActBwdRefIdeal := hActBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_BiasBwd (hBiasBwd := hBiasBwd)
    ∧ quiescent_BiasBwdIdeal (hBiasBwdIdeal := hBiasBwdIdeal)
    ∧ quiescent_BiasBwdRefIdeal (hBiasBwdRefIdeal := hBiasBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InNormBwd (hInNormBwd := hInNormBwd)
    ∧ quiescent_InNormBwdIdeal (hInNormBwdIdeal := hInNormBwdIdeal)
    ∧ quiescent_InNormBwdRefIdeal (hInNormBwdRefIdeal := hInNormBwdRefIdeal)
    ∧ quiescent_FfnNormBwd (hFfnNormBwd := hFfnNormBwd)
    ∧ quiescent_FfnNormBwdIdeal (hFfnNormBwdIdeal := hFfnNormBwdIdeal)
    ∧ quiescent_FfnNormBwdRefIdeal (hFfnNormBwdRefIdeal := hFfnNormBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_SwaBwd (hSwaBwd := hSwaBwd)
    ∧ quiescent_SwaBwdIdeal (hSwaBwdIdeal := hSwaBwdIdeal)
    ∧ quiescent_SwaBwdIdeal_pre_swa_finite (hSwaBwdIdeal := hSwaBwdIdeal) (hPre_swa_finite := hPre_swa_finite)
    ∧ quiescent_SwaBwdRefIdeal (hSwaBwdRefIdeal := hSwaBwdRefIdeal)
    ∧ quiescent_SwaBwdRefIdeal_pre_swa_finite (hSwaBwdRefIdeal := hSwaBwdRefIdeal) (hPre_swa_finite := hPre_swa_finite)
    ∧ quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateBwdRefIdeal (hGateBwdRefIdeal := hGateBwdRefIdeal)
    ∧ quiescent_GateBwdRefIdeal_pre_gate_finite (hGateBwdRefIdeal := hGateBwdRefIdeal) (hPre_gate_finite := hPre_gate_finite)
    ∧ quiescent_SwaFwd (hSwaFwd := hSwaFwd)
    ∧ quiescent_SwaFwdIdeal (hSwaFwdIdeal := hSwaFwdIdeal)
    ∧ quiescent_SwaFwdIdeal_pre_swa_fwd_finite (hSwaFwdIdeal := hSwaFwdIdeal) (hPre_swa_fwd_finite := hPre_swa_fwd_finite)
    ∧ quiescent_SwaFwdRefIdeal (hSwaFwdRefIdeal := hSwaFwdRefIdeal)
    ∧ quiescent_SwaFwdRefIdeal_pre_swa_fwd_finite (hSwaFwdRefIdeal := hSwaFwdRefIdeal) (hPre_swa_fwd_finite := hPre_swa_fwd_finite)
    ∧ quiescent_ScanFwd (hScanFwd := hScanFwd)
    ∧ quiescent_ScanFwdIdeal (hScanFwdIdeal := hScanFwdIdeal)
    ∧ quiescent_ScanFwdRefIdeal (hScanFwdRefIdeal := hScanFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutNormFwd (hOutNormFwd := hOutNormFwd)
    ∧ quiescent_OutNormFwdIdeal (hOutNormFwdIdeal := hOutNormFwdIdeal)
    ∧ quiescent_OutNormFwdRefIdeal (hOutNormFwdRefIdeal := hOutNormFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GateFwd (hGateFwd := hGateFwd)
    ∧ quiescent_GateFwdIdeal (hGateFwdIdeal := hGateFwdIdeal)
    ∧ quiescent_GateFwdIdeal_pre_gate_fwd_finite (hGateFwdIdeal := hGateFwdIdeal) (hPre_gate_fwd_finite := hPre_gate_fwd_finite)
    ∧ quiescent_GateFwdRefIdeal (hGateFwdRefIdeal := hGateFwdRefIdeal)
    ∧ quiescent_GateFwdRefIdeal_pre_gate_fwd_finite (hGateFwdRefIdeal := hGateFwdRefIdeal) (hPre_gate_fwd_finite := hPre_gate_fwd_finite)
    ∧ preserves_ActBwd_ActBwdIdeal
    ∧ algebraic_ActBwdIdeal_ActBwdRefIdeal (hActBwdIdeal := hActBwdIdeal) (hActBwdRefIdeal := hActBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_BiasBwd_BiasBwdIdeal
    ∧ algebraic_BiasBwdIdeal_BiasBwdRefIdeal (hBiasBwdIdeal := hBiasBwdIdeal) (hBiasBwdRefIdeal := hBiasBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InNormBwd_InNormBwdIdeal
    ∧ algebraic_InNormBwdIdeal_InNormBwdRefIdeal (hInNormBwdIdeal := hInNormBwdIdeal) (hInNormBwdRefIdeal := hInNormBwdRefIdeal)
    ∧ preserves_FfnNormBwd_FfnNormBwdIdeal
    ∧ algebraic_FfnNormBwdIdeal_FfnNormBwdRefIdeal (hFfnNormBwdIdeal := hFfnNormBwdIdeal) (hFfnNormBwdRefIdeal := hFfnNormBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_SwaBwd_SwaBwdIdeal
    ∧ algebraic_SwaBwdIdeal_SwaBwdRefIdeal_pre_swa_finite (hSwaBwdIdeal := hSwaBwdIdeal) (hSwaBwdRefIdeal := hSwaBwdRefIdeal) (hPre_swa_finite := hPre_swa_finite)
    ∧ preserves_GateBwd_GateBwdIdeal
    ∧ algebraic_GateBwdIdeal_GateBwdRefIdeal_pre_gate_finite (hGateBwdIdeal := hGateBwdIdeal) (hGateBwdRefIdeal := hGateBwdRefIdeal) (hPre_gate_finite := hPre_gate_finite)
    ∧ preserves_SwaFwd_SwaFwdIdeal
    ∧ algebraic_SwaFwdIdeal_SwaFwdRefIdeal_pre_swa_fwd_finite (hSwaFwdIdeal := hSwaFwdIdeal) (hSwaFwdRefIdeal := hSwaFwdRefIdeal) (hPre_swa_fwd_finite := hPre_swa_fwd_finite)
    ∧ preserves_ScanFwd_ScanFwdIdeal
    ∧ algebraic_ScanFwdIdeal_ScanFwdRefIdeal (hScanFwdIdeal := hScanFwdIdeal) (hScanFwdRefIdeal := hScanFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutNormFwd_OutNormFwdIdeal
    ∧ algebraic_OutNormFwdIdeal_OutNormFwdRefIdeal (hOutNormFwdIdeal := hOutNormFwdIdeal) (hOutNormFwdRefIdeal := hOutNormFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GateFwd_GateFwdIdeal
    ∧ algebraic_GateFwdIdeal_GateFwdRefIdeal_pre_gate_fwd_finite (hGateFwdIdeal := hGateFwdIdeal) (hGateFwdRefIdeal := hGateFwdRefIdeal) (hPre_gate_fwd_finite := hPre_gate_fwd_finite)
-- ==== Pre_conv_finite.lean ====
abbrev S4096x1536 : Shape := ⟨2, ![4096, 1536]⟩
abbrev S4x1536 : Shape := ⟨2, ![4, 1536]⟩
abbrev S3x4096x512 : Shape := ⟨3, ![3, 4096, 512]⟩
abbrev S4096x4992 : Shape := ⟨2, ![4096, 4992]⟩
abbrev S_ : Shape := ⟨0, ![]⟩

class Facts : Prop where
  bcast_S_S4096x1536 : S_.BroadcastsInDim S4096x1536 (![] : Fin 0 → Fin S4096x1536.rank)
  bcast_S_S4x1536 : S_.BroadcastsInDim S4x1536 (![] : Fin 0 → Fin S4x1536.rank)
  bcast_S_S3x4096x512 : S_.BroadcastsInDim S3x4096x512 (![] : Fin 0 → Fin S3x4096x512.rank)

variable [Facts]

def fn {F : FTy → Type} [FloatOps F] (main_arg0 : FVec F S4096x1536 .f32) (main_arg1 : FVec F S4x1536 .f32) (main_arg2 : FVec F S3x4096x512 .f32) (main_arg3 : FVec F S4096x4992 .bf16) : IVec S4096x1536 1 × IVec S4x1536 1 × IVec S3x4096x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4x1536 .f32 := Host.absf main_arg1
  let main_cst_0 : FVec F S_ .f32 := constant S_ .f32 0x7F800000#32
  let main_v4 : FVec F S4x1536 .f32 := broadcastInDim S4x1536 ![] bcast_S_S4x1536 main_cst_0
  let main_v5 : IVec S4x1536 1 := cmpf .olt main_v3 main_v4
  let main_v6 : FVec F S3x4096x512 .f32 := Host.absf main_arg2
  let main_cst_1 : FVec F S_ .f32 := constant S_ .f32 0x7F800000#32
  let main_v7 : FVec F S3x4096x512 .f32 := broadcastInDim S3x4096x512 ![] bcast_S_S3x4096x512 main_cst_1
  let main_v8 : IVec S3x4096x512 1 := cmpf .olt main_v6 main_v7
  (main_v2, main_v5, main_v8)
-- ==== Pre_gate_finite.lean ====
abbrev S4096x4 : Shape := ⟨2, ![4096, 4]⟩
abbrev S1x4 : Shape := ⟨2, ![1, 4]⟩
abbrev S4096x512 : Shape := ⟨2, ![4096, 512]⟩
abbrev S4096x4992 : Shape := ⟨2, ![4096, 4992]⟩
abbrev S_ : Shape := ⟨0, ![]⟩

class Facts : Prop where
  bcast_S_S4096x4 : S_.BroadcastsInDim S4096x4 (![] : Fin 0 → Fin S4096x4.rank)
  bcast_S_S1x4 : S_.BroadcastsInDim S1x4 (![] : Fin 0 → Fin S1x4.rank)
  bcast_S_S4096x512 : S_.BroadcastsInDim S4096x512 (![] : Fin 0 → Fin S4096x512.rank)

variable [Facts]

def fn {F : FTy → Type} [FloatOps F] (main_arg0 : FVec F S4096x4 .f32) (main_arg1 : FVec F S4096x4 .f32) (main_arg2 : FVec F S1x4 .f32) (main_arg3 : FVec F S1x4 .f32) (main_arg4 : FVec F S4096x512 .f32) (main_arg5 : FVec F S4096x512 .f32) (main_arg6 : FVec F S4096x4992 .bf16) : IVec S4096x4 1 × IVec S1x4 1 × IVec S1x4 1 × IVec S4096x512 1 × IVec S4096x512 1 :=
  let main_v0 : FVec F S4096x4 .f32 := Host.absf main_arg1
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_v3 : FVec F S1x4 .f32 := Host.absf main_arg2
  let main_cst_0 : FVec F S_ .f32 := constant S_ .f32 0x7F800000#32
  let main_v4 : FVec F S1x4 .f32 := broadcastInDim S1x4 ![] bcast_S_S1x4 main_cst_0
  let main_v5 : IVec S1x4 1 := cmpf .olt main_v3 main_v4
  let main_v6 : FVec F S1x4 .f32 := Host.absf main_arg3
  let main_cst_1 : FVec F S_ .f32 := constant S_ .f32 0x7F800000#32
  let main_v7 : FVec F S1x4 .f32 := broadcastInDim S1x4 ![] bcast_S_S1x4 main_cst_1
  let main_v8 : IVec S1x4 1 := cmpf .olt main_v6 main_v7
  let main_v9 : FVec F S4096x512 .f32 := Host.absf main_arg4
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg5
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_gate_fwd_finite.lean ====
abbrev S4096x4 : Shape := ⟨2, ![4096, 4]⟩
abbrev S4 : Shape := ⟨1, ![4]⟩
abbrev S_ : Shape := ⟨0, ![]⟩

class Facts : Prop where
  bcast_S_S4096x4 : S_.BroadcastsInDim S4096x4 (![] : Fin 0 → Fin S4096x4.rank)
  bcast_S_S4 : S_.BroadcastsInDim S4 (![] : Fin 0 → Fin S4.rank)

variable [Facts]

def fn {F : FTy → Type} [FloatOps F] (main_arg0 : FVec F S4096x4 .f32) (main_arg1 : FVec F S4096x4 .f32) (main_arg2 : FVec F S4 .f32) (main_arg3 : FVec F S4 .f32) : IVec S4096x4 1 × IVec S4 1 :=
  let main_v0 : FVec F S4096x4 .f32 := Host.absf main_arg1
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_v3 : FVec F S4 .f32 := Host.absf main_arg3
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  (main_v2, main_v5)
-- ==== Pre_swa_finite.lean ====
abbrev S4096x512 : Shape := ⟨2, ![4096, 512]⟩
abbrev S4096x128 : Shape := ⟨2, ![4096, 128]⟩
abbrev S1x64 : Shape := ⟨2, ![1, 64]⟩
abbrev S1x8 : Shape := ⟨2, ![1, 8]⟩
abbrev S8x128x256 : Shape := ⟨3, ![8, 128, 256]⟩
abbrev S4096x4992 : Shape := ⟨2, ![4096, 4992]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S1x64 : S_.BroadcastsInDim S1x64 (![] : Fin 0 → Fin S1x64.rank)
  bcast_S_S1x8 : S_.BroadcastsInDim S1x8 (![] : Fin 0 → Fin S1x8.rank)
  bcast_S_S8x128x256 : S_.BroadcastsInDim S8x128x256 (![] : Fin 0 → Fin S8x128x256.rank)

variable [Facts]

def fn_part1 {F : FTy → Type} [FloatOps F] (main_arg6 : FVec F S8x128x256 .f32) (main_arg7 : FVec F S4096x512 .f32) (main_v2 : IVec S4096x512 1) (main_v5 : IVec S4096x128 1) (main_v8 : IVec S4096x128 1) (main_v11 : IVec S1x64 1) (main_v14 : IVec S1x64 1) (main_v17 : IVec S1x8 1) : IVec S4096x512 1 × IVec S4096x128 1 × IVec S4096x128 1 × IVec S1x64 1 × IVec S1x64 1 × IVec S1x8 1 × IVec S8x128x256 1 × IVec S4096x512 1 :=
  let main_v18 : FVec F S8x128x256 .f32 := Host.absf main_arg6
  let main_cst_5 : FVec F S_ .f32 := constant S_ .f32 0x7F800000#32
  let main_v19 : FVec F S8x128x256 .f32 := broadcastInDim S8x128x256 ![] bcast_S_S8x128x256 main_cst_5
  let main_v20 : IVec S8x128x256 1 := cmpf .olt main_v18 main_v19
  let main_v21 : FVec F S4096x512 .f32 := Host.absf main_arg7
  let main_cst_6 : FVec F S_ .f32 := constant S_ .f32 0x7F800000#32
  let main_v22 : FVec F S4096x512 .f32 := broadcastInDim S4096x512 ![] bcast_S_S4096x512 main_cst_6
  let main_v23 : IVec S4096x512 1 := cmpf .olt main_v21 main_v22
  (main_v2, main_v5, main_v8, main_v11, main_v14, main_v17, main_v20, main_v23)

def fn {F : FTy → Type} [FloatOps F] (main_arg0 : FVec F S4096x512 .f32) (main_arg1 : FVec F S4096x128 .f32) (main_arg2 : FVec F S4096x128 .f32) (main_arg3 : FVec F S1x64 .f32) (main_arg4 : FVec F S1x64 .f32) (main_arg5 : FVec F S1x8 .f32) (main_arg6 : FVec F S8x128x256 .f32) (main_arg7 : FVec F S4096x512 .f32) (main_arg8 : FVec F S4096x4992 .bf16) : IVec S4096x512 1 × IVec S4096x128 1 × IVec S4096x128 1 × IVec S1x64 1 × IVec S1x64 1 × IVec S1x8 1 × IVec S8x128x256 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x8 .f32 := Host.absf main_arg5
  let main_cst_4 : FVec F S_ .f32 := constant S_ .f32 0x7F800000#32
  let main_v16 : FVec F S1x8 .f32 := broadcastInDim S1x8 ![] bcast_S_S1x8 main_cst_4
  let main_v17 : IVec S1x8 1 := cmpf .olt main_v15 main_v16
  fn_part1 (F := F) main_arg6 main_arg7 main_v2 main_v5 main_v8 main_v11 main_v14 main_v17
-- ==== Pre_swa_fwd_finite.lean ====
abbrev S4096x512 : Shape := ⟨2, ![4096, 512]⟩
abbrev S4096x128 : Shape := ⟨2, ![4096, 128]⟩
abbrev S1x64 : Shape := ⟨2, ![1, 64]⟩
abbrev S1x8 : Shape := ⟨2, ![1, 8]⟩
abbrev S8x128x256 : Shape := ⟨3, ![8, 128, 256]⟩
abbrev S_ : Shape := ⟨0, ![]⟩

class Facts : Prop where
  bcast_S_S1x64 : S_.BroadcastsInDim S1x64 (![] : Fin 0 → Fin S1x64.rank)
  bcast_S_S1x8 : S_.BroadcastsInDim S1x8 (![] : Fin 0 → Fin S1x8.rank)
  bcast_S_S8x128x256 : S_.BroadcastsInDim S8x128x256 (![] : Fin 0 → Fin S8x128x256.rank)

variable [Facts]

def fn {F : FTy → Type} [FloatOps F] (main_arg0 : FVec F S4096x512 .f32) (main_arg1 : FVec F S4096x128 .f32) (main_arg2 : FVec F S4096x128 .f32) (main_arg3 : FVec F S1x64 .f32) (main_arg4 : FVec F S1x64 .f32) (main_arg5 : FVec F S1x8 .f32) (main_arg6 : FVec F S8x128x256 .f32) : IVec S1x64 1 × IVec S1x64 1 × IVec S1x8 1 × IVec S8x128x256 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x8 .f32 := Host.absf main_arg5
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  let main_v9 : FVec F S8x128x256 .f32 := Host.absf main_arg6
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  (main_v2, main_v5, main_v8, main_v11)
-- ==== ActBwd.lean ====
abbrev S4096x2816 : Shape := ⟨2, ![4096, 2816]⟩
abbrev S2816x1024 : Shape := ⟨2, ![2816, 1024]⟩
abbrev S4096x1024 : Shape := ⟨2, ![4096, 1024]⟩
abbrev S8x352x1024 : Shape := ⟨3, ![8, 352, 1024]⟩
abbrev S_ : Shape := ⟨0, ![]⟩
abbrev S8x384x1024 : Shape := ⟨3, ![8, 384, 1024]⟩
abbrev S3072x1024 : Shape := ⟨2, ![3072, 1024]⟩
abbrev S4096x8x352 : Shape := ⟨3, ![4096, 8, 352]⟩
abbrev S4096x8x384 : Shape := ⟨3, ![4096, 8, 384]⟩
abbrev S4096x3072 : Shape := ⟨2, ![4096, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 23
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S8x352x1024, .f32⟩
  | .hbm, ⟨5, _⟩ => ⟨S_, .i32⟩
  | .hbm, ⟨6, _⟩ => ⟨S_, .f32⟩
  | .hbm, ⟨7, _⟩ => ⟨S8x384x1024, .f32⟩
  | .hbm, ⟨8, _⟩ => ⟨S3072x1024, .f32⟩
  | .hbm, ⟨9, _⟩ => ⟨S3072x1024, .bf16⟩
  | .hbm, ⟨10, _⟩ => ⟨S4096x8x352, .f32⟩
  | .hbm, ⟨11, _⟩ => ⟨S_, .i32⟩
  | .hbm, ⟨12, _⟩ => ⟨S_, .f32⟩
  | .hbm, ⟨13, _⟩ => ⟨S4096x8x384, .f32⟩
  | .hbm, ⟨14, _⟩ => ⟨S4096x3072, .f32⟩
  | .hbm, ⟨15, _⟩ => ⟨S4096x8x352, .f32⟩
  | .hbm, ⟨16, _⟩ => ⟨S_, .i32⟩
  | .hbm, ⟨17, _⟩ => ⟨S_, .f32⟩
  | .hbm, ⟨18, _⟩ => ⟨S4096x8x384, .f32⟩
  | .hbm, ⟨19, _⟩ => ⟨S4096x3072, .f32⟩
  | .hbm, ⟨20, _⟩ => ⟨S4096x1024, .bf16⟩
  | .hbm, ⟨21, _⟩ => ⟨S4096x3072, .bf16⟩
  | .hbm, ⟨22, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActBwdRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x8x352 : Shape := ⟨3, ![4096, 8, 352]⟩
abbrev S4096x8x384 : Shape := ⟨3, ![4096, 8, 384]⟩
abbrev S4096x3072 : Shape := ⟨2, ![4096, 3072]⟩

abbrev nBuf : Space → Nat
  | .hbm => 38
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x8x352, .bf16⟩
  | .hbm, ⟨28, _⟩ => ⟨S_, .i32⟩
  | .hbm, ⟨29, _⟩ => ⟨S_, .bf16⟩
  | .hbm, ⟨30, _⟩ => ⟨S4096x8x384, .bf16⟩
  | .hbm, ⟨31, _⟩ => ⟨S4096x3072, .bf16⟩
  | .hbm, ⟨32, _⟩ => ⟨S4096x2816, .bf16⟩
  | .hbm, ⟨33, _⟩ => ⟨S4096x8x352, .bf16⟩
  | .hbm, ⟨34, _⟩ => ⟨S_, .i32⟩
  | .hbm, ⟨35, _⟩ => ⟨S_, .bf16⟩
  | .hbm, ⟨36, _⟩ => ⟨S4096x8x384, .bf16⟩
  | .hbm, ⟨37, _⟩ => ⟨S4096x3072, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call2_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_call3_v0 : Ref sig .tc := ⟨.hbm, 35, rfl⟩
abbrev main_v13 : Ref sig .tc := ⟨.hbm, 36, rfl⟩
abbrev main_v14 : Ref sig .tc := ⟨.hbm, 37, rfl⟩

abbrev nD : Nat := 1
abbrev τ : Topo := Topo.v7x

variable {F : FTy → Type} [FloatOps F]
-- ==== LossHead.lean ====
abbrev S4096x1024 : Shape := ⟨2, ![4096, 1024]⟩
abbrev S4096x2816 : Shape := ⟨2, ![4096, 2816]⟩
abbrev S2816x1024 : Shape := ⟨2, ![2816, 1024]⟩
abbrev S4096x8x352 : Shape := ⟨3, ![4096, 8, 352]⟩
abbrev S_ : Shape := ⟨0, ![]⟩
abbrev S4096x8x384 : Shape := ⟨3, ![4096, 8, 384]⟩
abbrev S4096x3072 : Shape := ⟨2, ![4096, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S1x1 : Shape := ⟨2, ![1, 1]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 19
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x8x352, .f32⟩
  | .hbm, ⟨5, _⟩ => ⟨S_, .i32⟩
  | .hbm, ⟨6, _⟩ => ⟨S_, .f32⟩
  | .hbm, ⟨7, _⟩ => ⟨S4096x8x384, .f32⟩
  | .hbm, ⟨8, _⟩ => ⟨S4096x3072, .f32⟩
  | .hbm, ⟨9, _⟩ => ⟨S4096x3072, .bf16⟩
  | .hbm, ⟨10, _⟩ => ⟨S8x352x1024, .f32⟩
  | .hbm, ⟨11, _⟩ => ⟨S_, .i32⟩
  | .hbm, ⟨12, _⟩ => ⟨S_, .f32⟩
  | .hbm, ⟨13, _⟩ => ⟨S8x384x1024, .f32⟩
  | .hbm, ⟨14, _⟩ => ⟨S3072x1024, .f32⟩
  | .hbm, ⟨15, _⟩ => ⟨S3072x1024, .bf16⟩
  | .hbm, ⟨16, _⟩ => ⟨S4096x1024, .f32⟩
  | .hbm, ⟨17, _⟩ => ⟨S4096x1024, .bf16⟩
  | .hbm, ⟨18, _⟩ => ⟨S1x1, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LossHeadRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== ConvBwd.lean ====
abbrev S4096x1536 : Shape := ⟨2, ![4096, 1536]⟩
abbrev S4x1536 : Shape := ⟨2, ![4, 1536]⟩
abbrev S3x4096x512 : Shape := ⟨3, ![3, 4096, 512]⟩
abbrev S4096x4992 : Shape := ⟨2, ![4096, 4992]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x128 : Shape := ⟨2, ![4096, 128]⟩
abbrev S4x128 : Shape := ⟨2, ![4, 128]⟩
abbrev S1x4096x128 : Shape := ⟨3, ![1, 4096, 128]⟩
abbrev S4096 : Shape := ⟨1, ![4096]⟩
abbrev S4096x1 : Shape := ⟨2, ![4096, 1]⟩
abbrev S1x128 : Shape := ⟨2, ![1, 128]⟩
abbrev S128 : Shape := ⟨1, ![128]⟩

abbrev nBuf : Space → Nat
  | .hbm => 42
  | .vmem => 12
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S3x4096x512, .f32⟩
  | .hbm, ⟨3, _⟩ => ⟨S4096x4992, .bf16⟩
  | .hbm, ⟨4, _⟩ => ⟨S_, .i32⟩
  | .hbm, ⟨5, _⟩ => ⟨S_, .f32⟩
  | .hbm, ⟨6, _⟩ => ⟨S4096x4992, .f32⟩
  | .hbm, ⟨7, _⟩ => ⟨S_, .f32⟩
  | .hbm, ⟨8, _⟩ => ⟨S3x1536, .f32⟩
  | .hbm, ⟨9, _⟩ => ⟨S4099x1536, .f32⟩
  | .hbm, ⟨10, _⟩ => ⟨S1x1536, .f32⟩
  | .hbm, ⟨11, _⟩ => ⟨S1536, .f32⟩
  | .hbm, ⟨12, _⟩ => ⟨S4096x1536, .f32⟩
  | .hbm, ⟨13, _⟩ => ⟨S1x1536, .f32⟩
  | .hbm, ⟨14, _⟩ => ⟨S4096x1536, .f32⟩
  | .hbm, ⟨15, _⟩ => ⟨S4096x1536, .f32⟩
  | .hbm, ⟨16, _⟩ => ⟨S_, .f32⟩
  | .hbm, ⟨17, _⟩ => ⟨S4096x1536, .f32⟩
  | .hbm, ⟨18, _⟩ => ⟨S4096x1536, .f32⟩
  | .hbm, ⟨19, _⟩ => ⟨S1x1536, .f32⟩
  | .hbm, ⟨20, _⟩ => ⟨S1536, .f32⟩
  | .hbm, ⟨21, _⟩ => ⟨S4096x1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S1x1536, .f32⟩
  | .hbm, ⟨27, _⟩ => ⟨S1536, .f32⟩
  | .hbm, ⟨28, _⟩ => ⟨S4096x1536, .f32⟩
  | .hbm, ⟨29, _⟩ => ⟨S1x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S1x1536, .f32⟩
  | .hbm, ⟨34, _⟩ => ⟨S1536, .f32⟩
  | .hbm, ⟨35, _⟩ => ⟨S4096x1536, .f32⟩
  | .hbm, ⟨36, _⟩ => ⟨S1x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S4096x4992, .bf16⟩
  | .hbm, ⟨41, _⟩ => ⟨S4x1536, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | .local _ .vmem, ⟨6, _⟩ => ⟨S1x4096x128, .f32⟩
  | .local _ .vmem, ⟨7, _⟩ => ⟨S1x4096x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c4_i32_0 : BitVec 32 := 4#32
  let v1 : BitVec 32 := Scalar.remsi arg0 c4_i32_0
  let c0_i32 : BitVec 32 := 0#32
  let c0_i32_1 : BitVec 32 := 0#32
  ![v0.toNat, c0_i32.toNat, v1.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvBwdRefIdeal.lean ====
abbrev S4096x1536 : Shape := ⟨2, ![4096, 1536]⟩
abbrev S4x1536 : Shape := ⟨2, ![4, 1536]⟩
abbrev S3x4096x512 : Shape := ⟨3, ![3, 4096, 512]⟩
abbrev S4096x4992 : Shape := ⟨2, ![4096, 4992]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4096x512 : Shape := ⟨3, ![1, 4096, 512]⟩
abbrev S4096x2048 : Shape := ⟨2, ![4096, 2048]⟩
abbrev S4096x1408 : Shape := ⟨2, ![4096, 1408]⟩

abbrev nBuf : Space → Nat
  | .hbm => 204
  | .vmem => 0
  | .smem => 0
  | _ => 0

abbrev hbmTy0_0 (i : Nat) : BufTy := match i % 128 with
  | 0 => ⟨S4096x1536, .f32⟩
  | 1 => ⟨S4x1536, .f32⟩
  | 2 => ⟨S3x4096x512, .f32⟩
  | 3 => ⟨S4096x4992, .bf16⟩
  | 4 => ⟨S_, .f32⟩
  | 5 => ⟨S3x1536, .f32⟩
  | 6 => ⟨S4099x1536, .f32⟩
  | 7 => ⟨S_, .f32⟩
  | 8 => ⟨S3x1536, .f32⟩
  | 9 => ⟨S1x1536, .f32⟩
  | 10 => ⟨S1536, .f32⟩
  | 11 => ⟨S4096x1536, .f32⟩
  | 12 => ⟨S1x1536, .f32⟩
  | 13 => ⟨S4096x1536, .f32⟩
  | 14 => ⟨S4096x1536, .f32⟩
  | 15 => ⟨S_, .f32⟩
  | 16 => ⟨S4096x1536, .f32⟩
  | 17 => ⟨S4096x1536, .f32⟩
  | 18 => ⟨S1x1536, .f32⟩
  | 19 => ⟨S1536, .f32⟩
  | 20 => ⟨S4096x1536, .f32⟩
  | 21 => ⟨S1x1536, .f32⟩
  | 22 => ⟨S4096x1536, .f32⟩
  | 23 => ⟨S4096x1536, .f32⟩
  | 24 => ⟨S4096x1536, .f32⟩
  | 25 => ⟨S1x1536, .f32⟩
  | 26 => ⟨S1536, .f32⟩
  | 27 => ⟨S4096x1536, .f32⟩
  | 28 => ⟨S1x1536, .f32⟩
  | 29 => ⟨S4096x1536, .f32⟩
  | 30 => ⟨S4096x1536, .f32⟩
  | 31 => ⟨S4096x1536, .f32⟩
  | 32 => ⟨S1x1536, .f32⟩
  | 33 => ⟨S1536, .f32⟩
  | 34 => ⟨S4096x1536, .f32⟩
  | 35 => ⟨S1x1536, .f32⟩
  | 36 => ⟨S4096x1536, .f32⟩
  | 37 => ⟨S4096x1536, .f32⟩
  | 38 => ⟨S4096x1536, .f32⟩
  | 39 => ⟨S4096x1536, .f32⟩
  | 40 => ⟨S4096x1536, .f32⟩
  | 41 => ⟨S_, .f32⟩
  | 42 => ⟨S4096x1536, .f32⟩
  | 43 => ⟨S4096x1536, .f32⟩
  | 44 => ⟨S_, .f32⟩
  | 45 => ⟨S4096x1536, .f32⟩
  | 46 => ⟨S4096x1536, .f32⟩
  | 47 => ⟨S_, .f32⟩
  | 48 => ⟨S4096x1536, .f32⟩
  | 49 => ⟨S4096x1536, .f32⟩
  | 50 => ⟨S4096x1536, .f32⟩
  | 51 => ⟨S4096x1536, .f32⟩
  | 52 => ⟨S4096x512, .f32⟩
  | 53 => ⟨S4096x512, .f32⟩
  | 54 => ⟨S4096x512, .f32⟩
  | 55 => ⟨S4096x4x128, .f32⟩
  | 56 => ⟨S4096x4x128, .f32⟩
  | 57 => ⟨S_, .f32⟩
  | 58 => ⟨S4096x4, .f32⟩
  | 59 => ⟨S4096x4x1, .f32⟩
  | 60 => ⟨S_, .f32⟩
  | 61 => ⟨S4096x4x1, .f32⟩
  | 62 => ⟨S4096x4x1, .f32⟩
  | 63 => ⟨S4096x4x1, .f32⟩
  | 64 => ⟨S4096x4x1, .f32⟩
  | 65 => ⟨S_, .f32⟩
  | 66 => ⟨S4096x4x1, .f32⟩
  | 67 => ⟨S4096x4x1, .f32⟩
  | 68 => ⟨S4096x4x128, .f32⟩
  | 69 => ⟨S4096x4x128, .f32⟩
  | 70 => ⟨S_, .f32⟩
  | 71 => ⟨S4096x4x128, .f32⟩
  | 72 => ⟨S4096x4x128, .f32⟩
  | 73 => ⟨S4096x4x128, .f32⟩
  | 74 => ⟨S4096x4x128, .f32⟩
  | 75 => ⟨S_, .f32⟩
  | 76 => ⟨S4096x4, .f32⟩
  | 77 => ⟨S4096x4x1, .f32⟩
  | 78 => ⟨S_, .f32⟩
  | 79 => ⟨S4096x4x1, .f32⟩
  | 80 => ⟨S4096x4x1, .f32⟩
  | 81 => ⟨S4096x4x1, .f32⟩
  | 82 => ⟨S4096x4x1, .f32⟩
  | 83 => ⟨S_, .f32⟩
  | 84 => ⟨S4096x4x1, .f32⟩
  | 85 => ⟨S4096x4x1, .f32⟩
  | 86 => ⟨S4096x4x128, .f32⟩
  | 87 => ⟨S4096x4x128, .f32⟩
  | 88 => ⟨S4096x512, .f32⟩
  | 89 => ⟨S4096x512, .f32⟩
  | 90 => ⟨S1x4096x512, .f32⟩
  | 91 => ⟨S1x4096x512, .f32⟩
  | 92 => ⟨S1x4096x512, .f32⟩
  | 93 => ⟨S3x4096x512, .f32⟩
  | 94 => ⟨S1x4096x512, .f32⟩
  | 95 => ⟨S4096x512, .f32⟩
  | 96 => ⟨S1x4096x512, .f32⟩
  | 97 => ⟨S4096x512, .f32⟩
  | 98 => ⟨S1x4096x512, .f32⟩
  | 99 => ⟨S4096x512, .f32⟩
  | 100 => ⟨S4096x4x128, .f32⟩
  | 101 => ⟨S4096x4x128, .f32⟩
  | 102 => ⟨S4096x4x128, .f32⟩
  | 103 => ⟨S_, .f32⟩
  | 104 => ⟨S4096x4, .f32⟩
  | 105 => ⟨S4096x4x1, .f32⟩
  | 106 => ⟨S4096x4x128, .f32⟩
  | 107 => ⟨S4096x4x128, .f32⟩
  | 108 => ⟨S4096x4x1, .f32⟩
  | 109 => ⟨S_, .f32⟩
  | 110 => ⟨S4096x4, .f32⟩
  | 111 => ⟨S4096x4x128, .f32⟩
  | 112 => ⟨S4096x4x128, .f32⟩
  | 113 => ⟨S4096x4x128, .f32⟩
  | 114 => ⟨S4096x4x128, .f32⟩
  | 115 => ⟨S4096x4x128, .f32⟩
  | 116 => ⟨S4096x512, .f32⟩
  | 117 => ⟨S_, .f32⟩
  | 118 => ⟨S4096x4x128, .f32⟩
  | 119 => ⟨S4096x4x128, .f32⟩
  | 120 => ⟨S4096x4x128, .f32⟩
  | 121 => ⟨S_, .f32⟩
  | 122 => ⟨S4096x4, .f32⟩
  | 123 => ⟨S4096x4x1, .f32⟩
  | 124 => ⟨S4096x4x128, .f32⟩
  | 125 => ⟨S4096x4x128, .f32⟩
  | 126 => ⟨S4096x4x1, .f32⟩
  | 127 => ⟨S_, .f32⟩
  | _ => ⟨S4096x1536, .f32⟩

abbrev hbmTy0_1 (i : Nat) : BufTy := match i % 128 with
  | 0 => ⟨S4096x4, .f32⟩
  | 1 => ⟨S4096x4x128, .f32⟩
  | 2 => ⟨S4096x4x128, .f32⟩
  | 3 => ⟨S4096x4x128, .f32⟩
  | 4 => ⟨S4096x4x128, .f32⟩
  | 5 => ⟨S4096x4x128, .f32⟩
  | 6 => ⟨S4096x512, .f32⟩
  | 7 => ⟨S4096x1536, .f32⟩
  | 8 => ⟨S4096x1536, .f32⟩
  | 9 => ⟨S4096x1536, .f32⟩
  | 10 => ⟨S4096x1536, .f32⟩
  | 11 => ⟨S4096x1536, .f32⟩
  | 12 => ⟨S4096x1536, .f32⟩
  | 13 => ⟨S4096x1536, .f32⟩
  | 14 => ⟨S4096x1536, .f32⟩
  | 15 => ⟨S_, .f32⟩
  | 16 => ⟨S1536, .f32⟩
  | 17 => ⟨S1x1536, .f32⟩
  | 18 => ⟨S_, .f32⟩
  | 19 => ⟨S1536, .f32⟩
  | 20 => ⟨S_, .f32⟩
  | 21 => ⟨S4099x1536, .f32⟩
  | 22 => ⟨S1x1536, .f32⟩
  | 23 => ⟨S_, .f32⟩
  | 24 => ⟨S4x1536, .f32⟩
  | 25 => ⟨S4096x1536, .f32⟩
  | 26 => ⟨S4096x1536, .f32⟩
  | 27 => ⟨S4096x1536, .f32⟩
  | 28 => ⟨S_, .f32⟩
  | 29 => ⟨S1536, .f32⟩
  | 30 => ⟨S1x1536, .f32⟩
  | 31 => ⟨S_, .f32⟩
  | 32 => ⟨S1536, .f32⟩
  | 33 => ⟨S_, .f32⟩
  | 34 => ⟨S4099x1536, .f32⟩
  | 35 => ⟨S4099x1536, .f32⟩
  | 36 => ⟨S1x1536, .f32⟩
  | 37 => ⟨S_, .f32⟩
  | 38 => ⟨S4x1536, .f32⟩
  | 39 => ⟨S4x1536, .f32⟩
  | 40 => ⟨S4096x1536, .f32⟩
  | 41 => ⟨S4096x1536, .f32⟩
  | 42 => ⟨S4096x1536, .f32⟩
  | 43 => ⟨S_, .f32⟩
  | 44 => ⟨S1536, .f32⟩
  | 45 => ⟨S1x1536, .f32⟩
  | 46 => ⟨S_, .f32⟩
  | 47 => ⟨S1536, .f32⟩
  | 48 => ⟨S_, .f32⟩
  | 49 => ⟨S4099x1536, .f32⟩
  | 50 => ⟨S4099x1536, .f32⟩
  | 51 => ⟨S1x1536, .f32⟩
  | 52 => ⟨S_, .f32⟩
  | 53 => ⟨S4x1536, .f32⟩
  | 54 => ⟨S4x1536, .f32⟩
  | 55 => ⟨S4096x1536, .f32⟩
  | 56 => ⟨S4096x1536, .f32⟩
  | 57 => ⟨S4096x1536, .f32⟩
  | 58 => ⟨S_, .f32⟩
  | 59 => ⟨S1536, .f32⟩
  | 60 => ⟨S1x1536, .f32⟩
  | 61 => ⟨S_, .f32⟩
  | 62 => ⟨S1536, .f32⟩
  | 63 => ⟨S_, .f32⟩
  | 64 => ⟨S4099x1536, .f32⟩
  | 65 => ⟨S4099x1536, .f32⟩
  | 66 => ⟨S1x1536, .f32⟩
  | 67 => ⟨S_, .f32⟩
  | 68 => ⟨S4x1536, .f32⟩
  | 69 => ⟨S4x1536, .f32⟩
  | 70 => ⟨S3x1536, .f32⟩
  | 71 => ⟨S4096x1536, .f32⟩
  | 72 => ⟨S4096x2048, .bf16⟩
  | 73 => ⟨S4096x1536, .bf16⟩
  | 74 => ⟨S4096x1408, .bf16⟩
  | 75 => ⟨S4096x4992, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_10 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_11 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_12 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_13 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_14 : Ref sig .tc := ⟨.hbm, 143, rfl⟩
abbrev main_v109 : Ref sig .tc := ⟨.hbm, 144, rfl⟩
abbrev main_v110 : Ref sig .tc := ⟨.hbm, 145, rfl⟩
abbrev main_cst_15 : Ref sig .tc := ⟨.hbm, 146, rfl⟩
abbrev main_v111 : Ref sig .tc := ⟨.hbm, 147, rfl⟩
abbrev main_cst_16 : Ref sig .tc := ⟨.hbm, 148, rfl⟩
abbrev main_v112 : Ref sig .tc := ⟨.hbm, 149, rfl⟩
abbrev main_v113 : Ref sig .tc := ⟨.hbm, 150, rfl⟩
abbrev main_cst_17 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_18 : Ref sig .tc := ⟨.hbm, 156, rfl⟩
abbrev main_v118 : Ref sig .tc := ⟨.hbm, 157, rfl⟩
abbrev main_v119 : Ref sig .tc := ⟨.hbm, 158, rfl⟩
abbrev main_cst_19 : Ref sig .tc := ⟨.hbm, 159, rfl⟩
abbrev main_v120 : Ref sig .tc := ⟨.hbm, 160, rfl⟩
abbrev main_cst_20 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_21 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_22 : Ref sig .tc := ⟨.hbm, 171, rfl⟩
abbrev main_v129 : Ref sig .tc := ⟨.hbm, 172, rfl⟩
abbrev main_v130 : Ref sig .tc := ⟨.hbm, 173, rfl⟩
abbrev main_cst_23 : Ref sig .tc := ⟨.hbm, 174, rfl⟩
abbrev main_v131 : Ref sig .tc := ⟨.hbm, 175, rfl⟩
abbrev main_cst_24 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_25 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_26 : Ref sig .tc := ⟨.hbm, 186, rfl⟩
abbrev main_v140 : Ref sig .tc := ⟨.hbm, 187, rfl⟩
abbrev main_v141 : Ref sig .tc := ⟨.hbm, 188, rfl⟩
abbrev main_cst_27 : Ref sig .tc := ⟨.hbm, 189, rfl⟩
abbrev main_v142 : Ref sig .tc := ⟨.hbm, 190, rfl⟩
abbrev main_cst_28 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_29 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩

abbrev nD : Nat := 1
abbrev τ : Topo := Topo.v7x

variable {F : FTy → Type} [FloatOps F]
-- ==== BiasBwd.lean ====
abbrev S32x8 : Shape := ⟨2, ![32, 8]⟩
abbrev S8x128x256 : Shape := ⟨3, ![8, 128, 256]⟩
abbrev S383 : Shape := ⟨1, ![383]⟩
abbrev S128x256 : Shape := ⟨2, ![128, 256]⟩
abbrev S_ : Shape := ⟨0, ![]⟩
abbrev S128x256x1 : Shape := ⟨3, ![128, 256, 1]⟩
abbrev S8x128 : Shape := ⟨2, ![8, 128]⟩
abbrev S1x128 : Shape := ⟨2, ![1, 128]⟩
abbrev S1x128x256 : Shape := ⟨3, ![1, 128, 256]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 22
  | .vmem => 3
  | .smem => 0
  | _ => 0

abbrev bufTy : (tb : Table) → Fin (tcTables nBuf tb) → BufTy
  | .hbm, ⟨0, _⟩ => ⟨S32x8, .f32⟩
  | .hbm, ⟨1, _⟩ => ⟨S8x128x256, .f32⟩
  | .hbm, ⟨2, _⟩ => ⟨S383, .i32⟩
  | .hbm, ⟨3, _⟩ => ⟨S128x256, .i32⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S_, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S128x256x1, .i32⟩
  | .hbm, ⟨20, _⟩ => ⟨S128x256, .i32⟩
  | .hbm, ⟨21, _⟩ => ⟨S8x128, .f32⟩
  | .local _ .vmem, ⟨0, _⟩ => ⟨S8x128x256, .f32⟩
  | .local _ .vmem, ⟨1, _⟩ => ⟨S128x256, .i32⟩
  | .local _ .vmem, ⟨2, _⟩ => ⟨S8x128, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasBwdRefIdeal.lean ====
abbrev S32x8 : Shape := ⟨2, ![32, 8]⟩
abbrev S8x128x256 : Shape := ⟨3, ![8, 128, 256]⟩
abbrev S383 : Shape := ⟨1, ![383]⟩
abbrev S128x256 : Shape := ⟨2, ![128, 256]⟩
abbrev S_ : Shape := ⟨0, ![]⟩
abbrev S128x256x1 : Shape := ⟨3, ![128, 256, 1]⟩
abbrev S128x256x8 : Shape := ⟨3, ![128, 256, 8]⟩
abbrev S8x32 : Shape := ⟨2, ![8, 32]⟩
abbrev S8x128 : Shape := ⟨2, ![8, 128]⟩

abbrev nBuf : Space → Nat
  | .hbm => 39
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8x128x256, .f32⟩
  | .hbm, ⟨2, _⟩ => ⟨S383, .i32⟩
  | .hbm, ⟨3, _⟩ => ⟨S128x256, .i32⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S_, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S128x256x1, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S_, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S128x256x1, .i32⟩
  | .hbm, ⟨29, _⟩ => ⟨S128x256x8, .f32⟩
  | .hbm, ⟨30, _⟩ => ⟨S8x128x256, .f32⟩
  | .hbm, ⟨31, _⟩ => ⟨S128x256x8, .f32⟩
  | .hbm, ⟨32, _⟩ => ⟨S_, .f32⟩
  | .hbm, ⟨33, _⟩ => ⟨S32x8, .f32⟩
  | .hbm, ⟨34, _⟩ => ⟨S32x8, .f32⟩
  | .hbm, ⟨35, _⟩ => ⟨S8x32, .f32⟩
  | .hbm, ⟨36, _⟩ => ⟨S_, .i32⟩
  | .hbm, ⟨37, _⟩ => ⟨S_, .f32⟩
  | .hbm, ⟨38, _⟩ => ⟨S8x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_call0_v0 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== OutBwd.lean ====
abbrev S4096x512 : Shape := ⟨2, ![4096, 512]⟩
abbrev S128 : Shape := ⟨1, ![128]⟩
abbrev S4096x4992 : Shape := ⟨2, ![4096, 4992]⟩
abbrev S_ : Shape := ⟨0, ![]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S4096x512, .f32⟩
  | .hbm, ⟨4, _⟩ => ⟨S4096x4992, .bf16⟩
  | .hbm, ⟨5, _⟩ => ⟨S_, .i32⟩
  | .hbm, ⟨6, _⟩ => ⟨S_, .f32⟩
  | .hbm, ⟨7, _⟩ => ⟨S4096x4992, .f32⟩
  | .hbm, ⟨8, _⟩ => ⟨S1x128, .f32⟩
  | .hbm, ⟨9, _⟩ => ⟨S4096x512, .f32⟩
  | .hbm, ⟨10, _⟩ => ⟨S4096x4992, .bf16⟩
  | .hbm, ⟨11, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== OutBwdRefIdeal.lean ====
abbrev S4096x512 : Shape := ⟨2, ![4096, 512]⟩
abbrev S128 : Shape := ⟨1, ![128]⟩
abbrev S4096x4992 : Shape := ⟨2, ![4096, 4992]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096x3584 : Shape := ⟨2, ![4096, 3584]⟩
abbrev S4096x896 : Shape := ⟨2, ![4096, 896]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S4096x512, .f32⟩
  | .hbm, ⟨4, _⟩ => ⟨S4096x4992, .bf16⟩
  | .hbm, ⟨5, _⟩ => ⟨S4096x4x128, .f32⟩
  | .hbm, ⟨6, _⟩ => ⟨S4096x4x128, .f32⟩
  | .hbm, ⟨7, _⟩ => ⟨S_, .f32⟩
  | .hbm, ⟨8, _⟩ => ⟨S4096x4, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x128, .f32⟩
  | .hbm, ⟨22, _⟩ => ⟨S4096x4x128, .f32⟩
  | .hbm, ⟨23, _⟩ => ⟨S1x1x128, .f32⟩
  | .hbm, ⟨24, _⟩ => ⟨S4096x4x128, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S_, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S4096x4x128, .f32⟩
  | .hbm, ⟨34, _⟩ => ⟨S4096x4x128, .f32⟩
  | .hbm, ⟨35, _⟩ => ⟨S_, .f32⟩
  | .hbm, ⟨36, _⟩ => ⟨S4096x4x128, .f32⟩
  | .hbm, ⟨37, _⟩ => ⟨S4096x4x128, .f32⟩
  | .hbm, ⟨38, _⟩ => ⟨S4096x4x128, .f32⟩
  | .hbm, ⟨39, _⟩ => ⟨S4096x4x128, .f32⟩
  | .hbm, ⟨40, _⟩ => ⟨S4096x4x128, .f32⟩
  | .hbm, ⟨41, _⟩ => ⟨S4096x512, .f32⟩
  | .hbm, ⟨42, _⟩ => ⟨S4096x4x128, .f32⟩
  | .hbm, ⟨43, _⟩ => ⟨S4096x4x128, .f32⟩
  | .hbm, ⟨44, _⟩ => ⟨S4096x4x128, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x512, .f32⟩
  | .hbm, ⟨50, _⟩ => ⟨S4096x4x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x4x128, .f32⟩
  | .hbm, ⟨55, _⟩ => ⟨S4096x4x128, .f32⟩
  | .hbm, ⟨56, _⟩ => ⟨S_, .f32⟩
  | .hbm, ⟨57, _⟩ => ⟨S128, .f32⟩
  | .hbm, ⟨58, _⟩ => ⟨S4096x4x128, .f32⟩
  | .hbm, ⟨59, _⟩ => ⟨S_, .f32⟩
  | .hbm, ⟨60, _⟩ => ⟨S4096x4, .f32⟩
  | .hbm, ⟨61, _⟩ => ⟨S4096x4x1, .f32⟩
  | .hbm, ⟨62, _⟩ => ⟨S4096x4x128, .f32⟩
  | .hbm, ⟨63, _⟩ => ⟨S4096x4x128, .f32⟩
  | .hbm, ⟨64, _⟩ => ⟨S4096x4x1, .f32⟩
  | .hbm, ⟨65, _⟩ => ⟨S_, .f32⟩
  | .hbm, ⟨66, _⟩ => ⟨S4096x4x1, .f32⟩
  | .hbm, ⟨67, _⟩ => ⟨S4096x4x1, .f32⟩
  | .hbm, ⟨68, _⟩ => ⟨S_, .f32⟩
  | .hbm, ⟨69, _⟩ => ⟨S4096x4, .f32⟩
  | .hbm, ⟨70, _⟩ => ⟨S4096x4x128, .f32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S4096x4x128, .f32⟩
  | .hbm, ⟨75, _⟩ => ⟨S4096x512, .f32⟩
  | .hbm, ⟨76, _⟩ => ⟨S4096x3584, .bf16⟩
  | .hbm, ⟨77, _⟩ => ⟨S4096x512, .bf16⟩
  | .hbm, ⟨78, _⟩ => ⟨S4096x896, .bf16⟩
  | .hbm, ⟨79, _⟩ => ⟨S4096x4992, .bf16⟩
  | .hbm, ⟨80, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== InNormBwd.lean ====
abbrev S4096x1024 : Shape := ⟨2, ![4096, 1024]⟩
abbrev S1x1024 : Shape := ⟨2, ![1, 1024]⟩
abbrev S1024x4872 : Shape := ⟨2, ![1024, 4872]⟩
abbrev S4096x4872 : Shape := ⟨2, ![4096, 4872]⟩
abbrev S_ : Shape := ⟨0, ![]⟩
abbrev S4096x2048 : Shape := ⟨2, ![4096, 2048]⟩
abbrev S4096x1536 : Shape := ⟨2, ![4096, 1536]⟩
abbrev S4096x512 : Shape := ⟨2, ![4096, 512]⟩
abbrev S4096x128 : Shape := ⟨2, ![4096, 128]⟩
abbrev S4096x8 : Shape := ⟨2, ![4096, 8]⟩
abbrev S4096x4992 : Shape := ⟨2, ![4096, 4992]⟩
abbrev S1024x2048 : Shape := ⟨2, ![1024, 2048]⟩
abbrev S1024x1536 : Shape := ⟨2, ![1024, 1536]⟩
abbrev S1024x512 : Shape := ⟨2, ![1024, 512]⟩
abbrev S1024x128 : Shape := ⟨2, ![1024, 128]⟩
abbrev S1024x8 : Shape := ⟨2, ![1024, 8]⟩
abbrev S1024x4992 : Shape := ⟨2, ![1024, 4992]⟩
abbrev S512x4992 : Shape := ⟨2, ![512, 4992]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 33
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4872, .f32⟩
  | .hbm, ⟨3, _⟩ => ⟨S4096x4872, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S4096x2048, .f32⟩
  | .hbm, ⟨8, _⟩ => ⟨S4096x1536, .f32⟩
  | .hbm, ⟨9, _⟩ => ⟨S4096x512, .f32⟩
  | .hbm, ⟨10, _⟩ => ⟨S4096x512, .f32⟩
  | .hbm, ⟨11, _⟩ => ⟨S4096x128, .f32⟩
  | .hbm, ⟨12, _⟩ => ⟨S4096x128, .f32⟩
  | .hbm, ⟨13, _⟩ => ⟨S4096x8, .f32⟩
  | .hbm, ⟨14, _⟩ => ⟨S4096x4872, .f32⟩
  | .hbm, ⟨15, _⟩ => ⟨S_, .i32⟩
  | .hbm, ⟨16, _⟩ => ⟨S_, .f32⟩
  | .hbm, ⟨17, _⟩ => ⟨S4096x4992, .f32⟩
  | .hbm, ⟨18, _⟩ => ⟨S4096x4992, .bf16⟩
  | .hbm, ⟨19, _⟩ => ⟨S1024x2048, .f32⟩
  | .hbm, ⟨20, _⟩ => ⟨S1024x1536, .f32⟩
  | .hbm, ⟨21, _⟩ => ⟨S1024x512, .f32⟩
  | .hbm, ⟨22, _⟩ => ⟨S1024x512, .f32⟩
  | .hbm, ⟨23, _⟩ => ⟨S1024x128, .f32⟩
  | .hbm, ⟨24, _⟩ => ⟨S1024x128, .f32⟩
  | .hbm, ⟨25, _⟩ => ⟨S1024x8, .f32⟩
  | .hbm, ⟨26, _⟩ => ⟨S1024x4872, .f32⟩
  | .hbm, ⟨27, _⟩ => ⟨S_, .i32⟩
  | .hbm, ⟨28, _⟩ => ⟨S_, .f32⟩
  | .hbm, ⟨29, _⟩ => ⟨S1024x4992, .f32⟩
  | .hbm, ⟨30, _⟩ => ⟨S1024x4992, .bf16⟩
  | .hbm, ⟨31, _⟩ => ⟨S4096x1024, .f32⟩
  | .hbm, ⟨32, _⟩ => ⟨S1x1024, .f32⟩
  | .local _ .vmem, ⟨0, _⟩ => ⟨S512x4992, .bf16⟩
  | .local _ .vmem, ⟨1, _⟩ => ⟨S512x4992, .bf16⟩
  | .local _ .vmem, ⟨2, _⟩ => ⟨S1024x4992, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4992 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4992 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InNormBwdRefIdeal.lean ====
abbrev S4096x1024 : Shape := ⟨2, ![4096, 1024]⟩
abbrev S1x1024 : Shape := ⟨2, ![1, 1024]⟩
abbrev S1024x4872 : Shape := ⟨2, ![1024, 4872]⟩
abbrev S4096x4872 : Shape := ⟨2, ![4096, 4872]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4872, .f32⟩
  | .hbm, ⟨3, _⟩ => ⟨S4096x4872, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4872, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== FfnNormBwd.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S4096x8x352 : Shape := ⟨3, ![4096, 8, 352]⟩
abbrev S4096x8x384 : Shape := ⟨3, ![4096, 8, 384]⟩
abbrev S4096x3072 : Shape := ⟨2, ![4096, 3072]⟩
abbrev S256x3072 : Shape := ⟨2, ![256, 3072]⟩
abbrev S256x1024 : Shape := ⟨2, ![256, 1024]⟩
abbrev S1x1024x384 : Shape := ⟨3, ![1, 1024, 384]⟩
abbrev S1024x384 : Shape := ⟨2, ![1024, 384]⟩
abbrev S1024x3072 : Shape := ⟨2, ![1024, 3072]⟩
abbrev S256 : Shape := ⟨1, ![256]⟩
abbrev S256x1 : Shape := ⟨2, ![256, 1]⟩
abbrev S1024 : Shape := ⟨1, ![1024]⟩

abbrev nBuf : Space → Nat
  | .hbm => 36
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1024x8x352, .f32⟩
  | .hbm, ⟨8, _⟩ => ⟨S8x1024x352, .f32⟩
  | .hbm, ⟨9, _⟩ => ⟨S_, .i32⟩
  | .hbm, ⟨10, _⟩ => ⟨S_, .f32⟩
  | .hbm, ⟨11, _⟩ => ⟨S8x1024x384, .f32⟩
  | .hbm, ⟨12, _⟩ => ⟨S8x1024x384, .bf16⟩
  | .hbm, ⟨13, _⟩ => ⟨S1024x8x352, .f32⟩
  | .hbm, ⟨14, _⟩ => ⟨S8x1024x352, .f32⟩
  | .hbm, ⟨15, _⟩ => ⟨S_, .i32⟩
  | .hbm, ⟨16, _⟩ => ⟨S_, .f32⟩
  | .hbm, ⟨17, _⟩ => ⟨S8x1024x384, .f32⟩
  | .hbm, ⟨18, _⟩ => ⟨S8x1024x384, .bf16⟩
  | .hbm, ⟨19, _⟩ => ⟨S4096x8x352, .f32⟩
  | .hbm, ⟨20, _⟩ => ⟨S_, .i32⟩
  | .hbm, ⟨21, _⟩ => ⟨S_, .f32⟩
  | .hbm, ⟨22, _⟩ => ⟨S4096x8x384, .f32⟩
  | .hbm, ⟨23, _⟩ => ⟨S4096x3072, .f32⟩
  | .hbm, ⟨24, _⟩ => ⟨S4096x3072, .bf16⟩
  | .hbm, ⟨25, _⟩ => ⟨S4096x8x352, .f32⟩
  | .hbm, ⟨26, _⟩ => ⟨S_, .i32⟩
  | .hbm, ⟨27, _⟩ => ⟨S_, .f32⟩
  | .hbm, ⟨28, _⟩ => ⟨S4096x8x384, .f32⟩
  | .hbm, ⟨29, _⟩ => ⟨S4096x3072, .f32⟩
  | .hbm, ⟨30, _⟩ => ⟨S4096x3072, .bf16⟩
  | .hbm, ⟨31, _⟩ => ⟨S_, .f32⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S8x1024x384, .bf16⟩
  | .local _ .vmem, ⟨3, _⟩ => ⟨S256x3072, .bf16⟩
  | .local _ .vmem, ⟨4, _⟩ => ⟨S256x3072, .bf16⟩
  | .local _ .vmem, ⟨5, _⟩ => ⟨S8x1024x384, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_call3_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnNormBwdRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== MergeBwd.lean ====
abbrev S4096x2048 : Shape := ⟨2, ![4096, 2048]⟩
abbrev S4096x1024 : Shape := ⟨2, ![4096, 1024]⟩
abbrev S1024x1024 : Shape := ⟨2, ![1024, 1024]⟩
abbrev S_ : Shape := ⟨0, ![]⟩
abbrev S4096x4992 : Shape := ⟨2, ![4096, 4992]⟩
abbrev S512x1024 : Shape := ⟨2, ![512, 1024]⟩
abbrev S512x2048 : Shape := ⟨2, ![512, 2048]⟩

abbrev nBuf : Space → Nat
  | .hbm => 14
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S4096x4992, .f32⟩
  | .hbm, ⟨8, _⟩ => ⟨S4096x1024, .bf16⟩
  | .hbm, ⟨9, _⟩ => ⟨S1024x1024, .bf16⟩
  | .hbm, ⟨10, _⟩ => ⟨S4096x4992, .bf16⟩
  | .hbm, ⟨11, _⟩ => ⟨S4096x1024, .bf16⟩
  | .hbm, ⟨12, _⟩ => ⟨S4096x1024, .bf16⟩
  | .hbm, ⟨13, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S4096x2048 : Shape := ⟨2, ![4096, 2048]⟩
abbrev S4096x1024 : Shape := ⟨2, ![4096, 1024]⟩
abbrev S1024x1024 : Shape := ⟨2, ![1024, 1024]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S_, .f32⟩
  | .hbm, ⟨31, _⟩ => ⟨S4096x2x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S_, .f32⟩
  | .hbm, ⟨36, _⟩ => ⟨S4096x2x1024, .f32⟩
  | .hbm, ⟨37, _⟩ => ⟨S4096x2x1024, .f32⟩
  | .hbm, ⟨38, _⟩ => ⟨S4096x2048, .f32⟩
  | .hbm, ⟨39, _⟩ => ⟨S4096x2048, .f32⟩
  | .hbm, ⟨40, _⟩ => ⟨S4096x2048, .bf16⟩
  | .hbm, ⟨41, _⟩ => ⟨S4096x1024, .bf16⟩
  | .hbm, ⟨42, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== SwaBwd.lean ====
abbrev S4096x512 : Shape := ⟨2, ![4096, 512]⟩
abbrev S4096x128 : Shape := ⟨2, ![4096, 128]⟩
abbrev S1x64 : Shape := ⟨2, ![1, 64]⟩
abbrev S1x8 : Shape := ⟨2, ![1, 8]⟩
abbrev S8x128x256 : Shape := ⟨3, ![8, 128, 256]⟩
abbrev S4096x4992 : Shape := ⟨2, ![4096, 4992]⟩
abbrev S4096x768 : Shape := ⟨2, ![4096, 768]⟩
abbrev S_ : Shape := ⟨0, ![]⟩
abbrev S128x256 : Shape := ⟨2, ![128, 256]⟩
abbrev S1x8x128x256 : Shape := ⟨4, ![1, 8, 128, 256]⟩
abbrev S2x8x128x256 : Shape := ⟨4, ![2, 8, 128, 256]⟩
abbrev S128x512 : Shape := ⟨2, ![128, 512]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S256x64 : Shape := ⟨2, ![256, 64]⟩
abbrev S1x1 : Shape := ⟨2, ![1, 1]⟩
abbrev S1x1x1 : Shape := ⟨3, ![1, 1, 1]⟩
abbrev S8x1x1 : Shape := ⟨3, ![8, 1, 1]⟩
abbrev S1x256x64 : Shape := ⟨3, ![1, 256, 64]⟩
abbrev S8x256x64 : Shape := ⟨3, ![8, 256, 64]⟩
abbrev S8x256 : Shape := ⟨2, ![8, 256]⟩
abbrev S8x256x1 : Shape := ⟨3, ![8, 256, 1]⟩
abbrev S1x1x64 : Shape := ⟨3, ![1, 1, 64]⟩
abbrev S8x128 : Shape := ⟨2, ![8, 128]⟩
abbrev S8x128x1 : Shape := ⟨3, ![8, 128, 1]⟩
abbrev S8x64x256 : Shape := ⟨3, ![8, 64, 256]⟩
abbrev S8 : Shape := ⟨1, ![8]⟩
abbrev S8x1 : Shape := ⟨2, ![8, 1]⟩
abbrev S64 : Shape := ⟨1, ![64]⟩
abbrev S256x128 : Shape := ⟨2, ![256, 128]⟩

abbrev nBuf : Space → Nat
  | .hbm => 73
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S8x128x256, .f32⟩
  | .hbm, ⟨7, _⟩ => ⟨S4096x512, .f32⟩
  | .hbm, ⟨8, _⟩ => ⟨S4096x4992, .bf16⟩
  | .hbm, ⟨9, _⟩ => ⟨S4096x768, .f32⟩
  | .hbm, ⟨10, _⟩ => ⟨S_, .i32⟩
  | .hbm, ⟨11, _⟩ => ⟨S_, .f32⟩
  | .hbm, ⟨12, _⟩ => ⟨S4096x4992, .f32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S_, .i1⟩
  | .hbm, ⟨30, _⟩ => ⟨S128x256, .i1⟩
  | .hbm, ⟨31, _⟩ => ⟨S128x256, .i1⟩
  | .hbm, ⟨32, _⟩ => ⟨S128x256, .i1⟩
  | .hbm, ⟨33, _⟩ => ⟨S_, .f32⟩
  | .hbm, ⟨34, _⟩ => ⟨S_, .f32⟩
  | .hbm, ⟨35, _⟩ => ⟨S8x128x256, .i1⟩
  | .hbm, ⟨36, _⟩ => ⟨S8x128x256, .f32⟩
  | .hbm, ⟨37, _⟩ => ⟨S8x128x256, .f32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i1⟩
  | .hbm, ⟨55, _⟩ => ⟨S128x256, .i1⟩
  | .hbm, ⟨56, _⟩ => ⟨S128x256, .i1⟩
  | .hbm, ⟨57, _⟩ => ⟨S128x256, .i1⟩
  | .hbm, ⟨58, _⟩ => ⟨S_, .f32⟩
  | .hbm, ⟨59, _⟩ => ⟨S_, .f32⟩
  | .hbm, ⟨60, _⟩ => ⟨S8x128x256, .i1⟩
  | .hbm, ⟨61, _⟩ => ⟨S8x128x256, .f32⟩
  | .hbm, ⟨62, _⟩ => ⟨S8x128x256, .f32⟩
  | .hbm, ⟨63, _⟩ => ⟨S1x8x128x256, .f32⟩
  | .hbm, ⟨64, _⟩ => ⟨S1x8x128x256, .f32⟩
  | .hbm, ⟨65, _⟩ => ⟨S2x8x128x256, .f32⟩
  | .hbm, ⟨66, _⟩ => ⟨S4096x4992, .bf16⟩
  | .hbm, ⟨67, _⟩ => ⟨S4096x128, .f32⟩
  | .hbm, ⟨68, _⟩ => ⟨S4096x128, .f32⟩
  | .hbm, ⟨69, _⟩ => ⟨S1x64, .f32⟩
  | .hbm, ⟨70, _⟩ => ⟨S1x64, .f32⟩
  | .hbm, ⟨71, _⟩ => ⟨S1x8, .f32⟩
  | .hbm, ⟨72, _⟩ => ⟨S8x128x256, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x64, .f32⟩
  | .local _ .vmem, ⟨11, _⟩ => ⟨S1x64, .f32⟩
  | .local _ .vmem, ⟨12, _⟩ => ⟨S1x8, .f32⟩
  | .local _ .vmem, ⟨13, _⟩ => ⟨S1x8x128x256, .f32⟩
  | .local _ .vmem, ⟨14, _⟩ => ⟨S1x8x128x256, .f32⟩
  | .local _ .vmem, ⟨15, _⟩ => ⟨S128x512, .f32⟩
  | .local _ .vmem, ⟨16, _⟩ => ⟨S128x512, .f32⟩
  | .local _ .vmem, ⟨17, _⟩ => ⟨S128x512, .bf16⟩
  | .local _ .vmem, ⟨18, _⟩ => ⟨S128x512, .bf16⟩
  | .local _ .vmem, ⟨19, _⟩ => ⟨S4096x128, .f32⟩
  | .local _ .vmem, ⟨20, _⟩ => ⟨S4096x128, .f32⟩
  | .local _ .vmem, ⟨21, _⟩ => ⟨S1x64, .f32⟩
  | .local _ .vmem, ⟨22, _⟩ => ⟨S1x64, .f32⟩
  | .local _ .vmem, ⟨23, _⟩ => ⟨S1x8, .f32⟩
  | .local _ .vmem, ⟨24, _⟩ => ⟨S8x128x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37_0 : Ref sig .tc := ⟨.hbm, 66, rfl⟩
abbrev main_v37_1 : Ref sig .tc := ⟨.hbm, 67, rfl⟩
abbrev main_v37_2 : Ref sig .tc := ⟨.hbm, 68, rfl⟩
abbrev main_v37_3 : Ref sig .tc := ⟨.hbm, 69, rfl⟩
abbrev main_v37_4 : Ref sig .tc := ⟨.hbm, 70, rfl⟩
abbrev main_v37_5 : Ref sig .tc := ⟨.hbm, 71, rfl⟩
abbrev main_v37_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_mult2 (i : grid0.Coords) : BitVec 32 :=
  let arg0 : BitVec 32 := BitVec.ofNat 32 (i 0).val
  let c1_i32 : BitVec 32 := 1#32
  let v5 : BitVec 32 := Scalar.maxsi arg0 c1_i32
  let c1_i32_1 : BitVec 32 := 1#32
  let v6 : BitVec 32 := Scalar.subi v5 c1_i32_1
  let c128_i32_2 : BitVec 32 := 128#32
  let v7 : BitVec 32 := Scalar.muli v6 c128_i32_2
  v7
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v394 : Index := Scalar.indexCast v4
  let c0_159 : Index := 0#32
  ![v394.toNat, 0]
def k0_cond2 (i : grid0.Coords) : BitVec 1 :=
  let arg0 : BitVec 32 := BitVec.ofNat 32 (i 0).val
  let c0_i32_163 : BitVec 32 := 0#32
  let v408 : BitVec 1 := Scalar.cmpi .sgt arg0 c0_i32_163
  let v409 : BitVec 32 := Scalar.extui v408
  let c0_i32_164 : BitVec 32 := 0#32
  let v410 : BitVec 1 := Scalar.cmpi .ne v409 c0_i32_164
  v410

def k0_off2 (i : grid0.Coords) : Fin 2 → Nat :=
  let arg0 : BitVec 32 := BitVec.ofNat 32 (i 0).val
  let c1_i32 : BitVec 32 := 1#32
  let v5 : BitVec 32 := Scalar.maxsi arg0 c1_i32
  let c1_i32_1 : BitVec 32 := 1#32
  let v6 : BitVec 32 := Scalar.subi v5 c1_i32_1
  let c128_i32_2 : BitVec 32 := 128#32
  let v7 : BitVec 32 := Scalar.muli v6 c128_i32_2
  let v8 : BitVec 32 := v7
  let v411 : Index := Scalar.indexCast v8
  let c0_165 : Index := 0#32
  ![v411.toNat, 0]
def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c36_i32 : BitVec 32 := 36#32
  let c0_i32_0 : BitVec 32 := 0#32
  ![v1.toNat, c36_i32.toNat]

def cc0_transform_2 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let c0_i32_0 : BitVec 32 := 0#32
  ![v1.toNat, c37_i32.toNat]

def cc0_transform_4 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SwaBwdRefIdeal.lean ====
abbrev S4096x512 : Shape := ⟨2, ![4096, 512]⟩
abbrev S4096x128 : Shape := ⟨2, ![4096, 128]⟩
abbrev S1x64 : Shape := ⟨2, ![1, 64]⟩
abbrev S1x8 : Shape := ⟨2, ![1, 8]⟩
abbrev S8x128x256 : Shape := ⟨3, ![8, 128, 256]⟩
abbrev S4096x4992 : Shape := ⟨2, ![4096, 4992]⟩
abbrev S64 : Shape := ⟨1, ![64]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x2x64 : Shape := ⟨3, ![4096, 2, 64]⟩
abbrev S4096x2 : Shape := ⟨2, ![4096, 2]⟩
abbrev S4096x2x1 : Shape := ⟨3, ![4096, 2, 1]⟩
abbrev S32x128x2x4x64 : Shape := ⟨5, ![32, 128, 2, 4, 64]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x64x256 : Shape := ⟨4, ![32, 2, 64, 256]⟩
abbrev S2x4x1 : Shape := ⟨3, ![2, 4, 1]⟩
abbrev S32x2x128x4x64 : Shape := ⟨5, ![32, 2, 128, 4, 64]⟩
abbrev S32x2x256x64 : Shape := ⟨4, ![32, 2, 256, 64]⟩
abbrev S4096x4096 : Shape := ⟨2, ![4096, 4096]⟩
abbrev S4096x384 : Shape := ⟨2, ![4096, 384]⟩

abbrev nBuf : Space → Nat
  | .hbm => 325
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S1x64, .f32⟩
  | 4 => ⟨S1x64, .f32⟩
  | 5 => ⟨S1x8, .f32⟩
  | 6 => ⟨S8x128x256, .f32⟩
  | 7 => ⟨S4096x512, .f32⟩
  | 8 => ⟨S4096x4992, .bf16⟩
  | 9 => ⟨S64, .f32⟩
  | 10 => ⟨S64, .f32⟩
  | 11 => ⟨S4096x8x64, .f32⟩
  | 12 => ⟨S4096x8x64, .f32⟩
  | 13 => ⟨S_, .f32⟩
  | 14 => ⟨S4096x8, .f32⟩
  | 15 => ⟨S4096x8x1, .f32⟩
  | 16 => ⟨S_, .f32⟩
  | 17 => ⟨S4096x8x1, .f32⟩
  | 18 => ⟨S4096x8x1, .f32⟩
  | 19 => ⟨S_, .f32⟩
  | 20 => ⟨S4096x8x1, .f32⟩
  | 21 => ⟨S4096x8x1, .f32⟩
  | 22 => ⟨S4096x8x1, .f32⟩
  | 23 => ⟨S4096x8x1, .f32⟩
  | 24 => ⟨S_, .f32⟩
  | 25 => ⟨S4096x8x1, .f32⟩
  | 26 => ⟨S4096x8x1, .f32⟩
  | 27 => ⟨S4096x8x64, .f32⟩
  | 28 => ⟨S4096x8x64, .f32⟩
  | 29 => ⟨S1x1x64, .f32⟩
  | 30 => ⟨S4096x8x64, .f32⟩
  | 31 => ⟨S4096x8x64, .f32⟩
  | 32 => ⟨S4096x2x64, .f32⟩
  | 33 => ⟨S4096x2x64, .f32⟩
  | 34 => ⟨S_, .f32⟩
  | 35 => ⟨S4096x2, .f32⟩
  | 36 => ⟨S4096x2x1, .f32⟩
  | 37 => ⟨S_, .f32⟩
  | 38 => ⟨S4096x2x1, .f32⟩
  | 39 => ⟨S4096x2x1, .f32⟩
  | 40 => ⟨S_, .f32⟩
  | 41 => ⟨S4096x2x1, .f32⟩
  | 42 => ⟨S4096x2x1, .f32⟩
  | 43 => ⟨S4096x2x1, .f32⟩
  | 44 => ⟨S4096x2x1, .f32⟩
  | 45 => ⟨S_, .f32⟩
  | 46 => ⟨S4096x2x1, .f32⟩
  | 47 => ⟨S4096x2x1, .f32⟩
  | 48 => ⟨S4096x2x64, .f32⟩
  | 49 => ⟨S4096x2x64, .f32⟩
  | 50 => ⟨S1x1x64, .f32⟩
  | 51 => ⟨S4096x2x64, .f32⟩
  | 52 => ⟨S4096x2x64, .f32⟩
  | 53 => ⟨S4096x2x64, .f32⟩
  | 54 => ⟨S32x128x2x4x64, .f32⟩
  | 55 => ⟨S_, .f32⟩
  | 56 => ⟨S128x2x64, .f32⟩
  | 57 => ⟨S4224x2x64, .f32⟩
  | 58 => ⟨S_, .f32⟩
  | 59 => ⟨S128x2x64, .f32⟩
  | 60 => ⟨S33x128x2x64, .f32⟩
  | 61 => ⟨S32x128x2x64, .f32⟩
  | 62 => ⟨S32x128x2x64, .f32⟩
  | 63 => ⟨S32x256x2x64, .f32⟩
  | 64 => ⟨S_, .f32⟩
  | 65 => ⟨S128x2x64, .f32⟩
  | 66 => ⟨S4224x2x64, .f32⟩
  | 67 => ⟨S_, .f32⟩
  | 68 => ⟨S128x2x64, .f32⟩
  | 69 => ⟨S33x128x2x64, .f32⟩
  | 70 => ⟨S32x128x2x64, .f32⟩
  | 71 => ⟨S32x128x2x64, .f32⟩
  | 72 => ⟨S32x256x2x64, .f32⟩
  | 73 => ⟨S32x2x256x128x4, .f32⟩
  | 74 => ⟨S32x2x4x128x256, .f32⟩
  | 75 => ⟨S_, .f32⟩
  | 76 => ⟨S32x2x4x128x256, .f32⟩
  | 77 => ⟨S32x2x4x128x256, .f32⟩
  | 78 => ⟨S128, .i32⟩
  | 79 => ⟨S128x1, .i32⟩
  | 80 => ⟨S256, .i32⟩
  | 81 => ⟨S1x256, .i32⟩
  | 82 => ⟨S_, .i32⟩
  | 83 => ⟨S128x1, .i32⟩
  | 84 => ⟨S128x1, .i32⟩
  | 85 => ⟨S128x256, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i1⟩
  | 94 => ⟨S128x256, .i1⟩
  | 95 => ⟨S32, .i32⟩
  | 96 => ⟨S32x1, .i32⟩
  | 97 => ⟨S_, .i32⟩
  | 98 => ⟨S32x1, .i32⟩
  | 99 => ⟨S32x1, .i32⟩
  | 100 => ⟨S_, .i32⟩
  | 101 => ⟨S32x1, .i32⟩
  | 102 => ⟨S32x1, .i32⟩
  | 103 => ⟨S256, .i32⟩
  | 104 => ⟨S1x256, .i32⟩
  | 105 => ⟨S32x256, .i32⟩
  | 106 => ⟨S32x256, .i32⟩
  | 107 => ⟨S32x256, .i32⟩
  | 108 => ⟨S1x128x256, .i1⟩
  | 109 => ⟨S_, .i32⟩
  | 110 => ⟨S32x256, .i32⟩
  | 111 => ⟨S32x256, .i1⟩
  | 112 => ⟨S32x1x256, .i1⟩
  | 113 => ⟨S32x128x256, .i1⟩
  | 114 => ⟨S32x128x256, .i1⟩
  | 115 => ⟨S32x128x256, .i1⟩
  | 116 => ⟨S2x4x128x256, .f32⟩
  | 117 => ⟨S32x1x1x128x256, .i1⟩
  | 118 => ⟨S1x2x4x128x256, .f32⟩
  | 119 => ⟨S32x2x4x128x256, .f32⟩
  | 120 => ⟨S32x2x4x128x256, .f32⟩
  | 121 => ⟨S_, .f32⟩
  | 122 => ⟨S_, .f32⟩
  | 123 => ⟨S32x2x4x128x256, .i1⟩
  | 124 => ⟨S32x2x4x128x256, .f32⟩
  | 125 => ⟨S32x2x4x128x256, .f32⟩
  | 126 => ⟨S_, .f32⟩
  | 127 => ⟨S32x2x4x128x256, .f32⟩
  | _ => ⟨S4096x512, .f32⟩

abbrev hbmTy0_1 (i : Nat) : BufTy := match i % 128 with
  | 0 => ⟨S2x4, .f32⟩
  | 1 => ⟨S1x2x4x1x1, .f32⟩
  | 2 => ⟨S_, .f32⟩
  | 3 => ⟨S32x2x4x128, .f32⟩
  | 4 => ⟨S32x2x4x128x1, .f32⟩
  | 5 => ⟨S32x2x4x128x256, .f32⟩
  | 6 => ⟨S32x2x4x128x256, .i1⟩
  | 7 => ⟨S32x2x4x128x256, .f32⟩
  | 8 => ⟨S_, .f32⟩
  | 9 => ⟨S32x2x4x128, .f32⟩
  | 10 => ⟨S32x2x4x128x1, .f32⟩
  | 11 => ⟨S32x2x4x128x1, .f32⟩
  | 12 => ⟨S32x2x4x128x1, .f32⟩
  | 13 => ⟨S32x2x4x128x1, .f32⟩
  | 14 => ⟨S32x2x4x128x1, .i1⟩
  | 15 => ⟨S32x2x4x128x1, .f32⟩
  | 16 => ⟨S32x2x4x128x1, .i1⟩
  | 17 => ⟨S_, .f32⟩
  | 18 => ⟨S32x2x4x128x1, .f32⟩
  | 19 => ⟨S_, .f32⟩
  | 20 => ⟨S32x2x4x128x1, .f32⟩
  | 21 => ⟨S_, .f32⟩
  | 22 => ⟨S32x2x4x128x1, .f32⟩
  | 23 => ⟨S32x2x4x128x1, .f32⟩
  | 24 => ⟨S32x2x4x128x1, .f32⟩
  | 25 => ⟨S32x2x4x128x1, .f32⟩
  | 26 => ⟨S32x2x4x128x1, .i1⟩
  | 27 => ⟨S32x2x4x128x1, .f32⟩
  | 28 => ⟨S32x2x4x128x1, .i1⟩
  | 29 => ⟨S_, .f32⟩
  | 30 => ⟨S32x2x4x128x1, .f32⟩
  | 31 => ⟨S_, .f32⟩
  | 32 => ⟨S32x2x4x128x1, .f32⟩
  | 33 => ⟨S_, .f32⟩
  | 34 => ⟨S32x2x4x128x1, .f32⟩
  | 35 => ⟨S32x2x4x128x1, .f32⟩
  | 36 => ⟨S32x2x4x128x1, .f32⟩
  | 37 => ⟨S32x2x4x128x256, .f32⟩
  | 38 => ⟨S32x2x4x128x256, .f32⟩
  | 39 => ⟨S32x2x4x128x256, .f32⟩
  | 40 => ⟨S_, .f32⟩
  | 41 => ⟨S32x2x4x128, .f32⟩
  | 42 => ⟨S32x2x4x128x1, .f32⟩
  | 43 => ⟨S32x2x4x128x1, .f32⟩
  | 44 => ⟨S32x2x4x128x1, .f32⟩
  | 45 => ⟨S32x2x4x128x1, .f32⟩
  | 46 => ⟨S32x2x4x128x1, .f32⟩
  | 47 => ⟨S32x2x4x128x256, .f32⟩
  | 48 => ⟨S32x2x4x128x256, .f32⟩
  | 49 => ⟨S32x2x4x128x1, .f32⟩
  | 50 => ⟨S_, .f32⟩
  | 51 => ⟨S32x2x4x128x1, .f32⟩
  | 52 => ⟨S32x2x4x128x1, .f32⟩
  | 53 => ⟨S32x2x64x4x128, .f32⟩
  | 54 => ⟨S32x128x2x4x64, .f32⟩
  | 55 => ⟨S4096x512, .f32⟩
  | 56 => ⟨S32x128x2x4x64, .f32⟩
  | 57 => ⟨S32x2x64x4x128, .f32⟩
  | 58 => ⟨S32x2x4x128x256, .f32⟩
  | 59 => ⟨S32x2x64x256, .f32⟩
  | 60 => ⟨S32x256x2x64, .f32⟩
  | 61 => ⟨S32x2x4x128x256, .f32⟩
  | 62 => ⟨S32x2x4x128x256, .f32⟩
  | 63 => ⟨S32x2x4x128x256, .f32⟩
  | 64 => ⟨S_, .f32⟩
  | 65 => ⟨S32x2x4x128, .f32⟩
  | 66 => ⟨S32x2x4x128x1, .f32⟩
  | 67 => ⟨S32x2x4x128x1, .f32⟩
  | 68 => ⟨S32x2x4x128x256, .f32⟩
  | 69 => ⟨S32x2x4x128x256, .f32⟩
  | 70 => ⟨S32x2x4x128x1, .f32⟩
  | 71 => ⟨S_, .f32⟩
  | 72 => ⟨S2x4x1, .f32⟩
  | 73 => ⟨S1x2x4x1x1, .f32⟩
  | 74 => ⟨S32x2x4x128x1, .f32⟩
  | 75 => ⟨S_, .f32⟩
  | 76 => ⟨S32x2x4x128, .f32⟩
  | 77 => ⟨S32x2x4x128x256, .f32⟩
  | 78 => ⟨S32x2x4x128x256, .f32⟩
  | 79 => ⟨S32x2x4x128x256, .f32⟩
  | 80 => ⟨S32x2x4x128x256, .f32⟩
  | 81 => ⟨S_, .f32⟩
  | 82 => ⟨S32x2x4x128, .f32⟩
  | 83 => ⟨S32x2x4x128x1, .f32⟩
  | 84 => ⟨S32x2x4x128x1, .f32⟩
  | 85 => ⟨S32x2x4x128x1, .f32⟩
  | 86 => ⟨S_, .f32⟩
  | 87 => ⟨S2x4x1, .f32⟩
  | 88 => ⟨S1x2x4x1x1, .f32⟩
  | 89 => ⟨S1x2x4x1x1, .f32⟩
  | 90 => ⟨S32x2x4x128x1, .f32⟩
  | 91 => ⟨S_, .f32⟩
  | 92 => ⟨S32x2x4x128, .f32⟩
  | 93 => ⟨S32x2x4x128, .f32⟩
  | 94 => ⟨S32x2x4x128x256, .f32⟩
  | 95 => ⟨S32x2x4x128x256, .f32⟩
  | 96 => ⟨S32x2x4x128x256, .f32⟩
  | 97 => ⟨S_, .f32⟩
  | 98 => ⟨S2x4, .f32⟩
  | 99 => ⟨S1x8, .f32⟩
  | 100 => ⟨S_, .f32⟩
  | 101 => ⟨S32x2x4x128x256, .f32⟩
  | 102 => ⟨S32x2x4x128x256, .f32⟩
  | 103 => ⟨S_, .f32⟩
  | 104 => ⟨S2x4x128x256, .f32⟩
  | 105 => ⟨S1x2x4x128x256, .f32⟩
  | 106 => ⟨S_, .f32⟩
  | 107 => ⟨S2x4x128x256, .f32⟩
  | 108 => ⟨S8x128x256, .f32⟩
  | 109 => ⟨S_, .f32⟩
  | 110 => ⟨S32x2x4x128x256, .f32⟩
  | 111 => ⟨S32x2x4x128x256, .f32⟩
  | 112 => ⟨S32x2x256x128x4, .f32⟩
  | 113 => ⟨S32x2x128x4x64, .f32⟩
  | 114 => ⟨S32x128x2x4x64, .f32⟩
  | 115 => ⟨S32x2x256x64, .f32⟩
  | 116 => ⟨S32x256x2x64, .f32⟩
  | 117 => ⟨S32x128x2x64, .f32⟩
  | 118 => ⟨S32x128x2x64, .f32⟩
  | 119 => ⟨S_, .f32⟩
  | 120 => ⟨S33x128x2x64, .f32⟩
  | 121 => ⟨S_, .f32⟩
  | 122 => ⟨S33x128x2x64, .f32⟩
  | 123 => ⟨S33x128x2x64, .f32⟩
  | 124 => ⟨S4224x2x64, .f32⟩
  | 125 => ⟨S128x2x64, .f32⟩
  | 126 => ⟨S4096x2x64, .f32⟩
  | 127 => ⟨S32x128x2x64, .f32⟩
  | _ => ⟨S4096x512, .f32⟩

abbrev hbmTy0_2 (i : Nat) : BufTy := match i % 128 with
  | 0 => ⟨S32x128x2x64, .f32⟩
  | 1 => ⟨S_, .f32⟩
  | 2 => ⟨S33x128x2x64, .f32⟩
  | 3 => ⟨S_, .f32⟩
  | 4 => ⟨S33x128x2x64, .f32⟩
  | 5 => ⟨S33x128x2x64, .f32⟩
  | 6 => ⟨S4224x2x64, .f32⟩
  | 7 => ⟨S128x2x64, .f32⟩
  | 8 => ⟨S4096x2x64, .f32⟩
  | 9 => ⟨S4096x8x64, .f32⟩
  | 10 => ⟨S4096x128, .f32⟩
  | 11 => ⟨S4096x2x64, .f32⟩
  | 12 => ⟨S_, .f32⟩
  | 13 => ⟨S64, .f32⟩
  | 14 => ⟨S1x1x64, .f32⟩
  | 15 => ⟨S4096x2x64, .f32⟩
  | 16 => ⟨S4096x2x64, .f32⟩
  | 17 => ⟨S_, .f32⟩
  | 18 => ⟨S64, .f32⟩
  | 19 => ⟨S4096x2x64, .f32⟩
  | 20 => ⟨S_, .f32⟩
  | 21 => ⟨S4096x2, .f32⟩
  | 22 => ⟨S4096x2x1, .f32⟩
  | 23 => ⟨S4096x2x64, .f32⟩
  | 24 => ⟨S4096x2x64, .f32⟩
  | 25 => ⟨S4096x2x1, .f32⟩
  | 26 => ⟨S_, .f32⟩
  | 27 => ⟨S4096x2x1, .f32⟩
  | 28 => ⟨S4096x2x1, .f32⟩
  | 29 => ⟨S_, .f32⟩
  | 30 => ⟨S4096x2, .f32⟩
  | 31 => ⟨S4096x2x64, .f32⟩
  | 32 => ⟨S4096x2x64, .f32⟩
  | 33 => ⟨S4096x2x64, .f32⟩
  | 34 => ⟨S4096x2x64, .f32⟩
  | 35 => ⟨S4096x2x64, .f32⟩
  | 36 => ⟨S4096x128, .f32⟩
  | 37 => ⟨S4096x8x64, .f32⟩
  | 38 => ⟨S_, .f32⟩
  | 39 => ⟨S64, .f32⟩
  | 40 => ⟨S1x1x64, .f32⟩
  | 41 => ⟨S4096x8x64, .f32⟩
  | 42 => ⟨S4096x8x64, .f32⟩
  | 43 => ⟨S_, .f32⟩
  | 44 => ⟨S64, .f32⟩
  | 45 => ⟨S4096x8x64, .f32⟩
  | 46 => ⟨S_, .f32⟩
  | 47 => ⟨S4096x8, .f32⟩
  | 48 => ⟨S4096x8x1, .f32⟩
  | 49 => ⟨S4096x8x64, .f32⟩
  | 50 => ⟨S4096x8x64, .f32⟩
  | 51 => ⟨S4096x8x1, .f32⟩
  | 52 => ⟨S_, .f32⟩
  | 53 => ⟨S4096x8x1, .f32⟩
  | 54 => ⟨S4096x8x1, .f32⟩
  | 55 => ⟨S_, .f32⟩
  | 56 => ⟨S4096x8, .f32⟩
  | 57 => ⟨S4096x8x64, .f32⟩
  | 58 => ⟨S4096x8x64, .f32⟩
  | 59 => ⟨S4096x8x64, .f32⟩
  | 60 => ⟨S4096x8x64, .f32⟩
  | 61 => ⟨S4096x8x64, .f32⟩
  | 62 => ⟨S4096x512, .f32⟩
  | 63 => ⟨S4096x4096, .bf16⟩
  | 64 => ⟨S4096x512, .bf16⟩
  | 65 => ⟨S4096x384, .bf16⟩
  | 66 => ⟨S4096x4992, .bf16⟩
  | 67 => ⟨S1x64, .f32⟩
  | 68 => ⟨S1x64, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_call0_v0 : Ref sig .tc := ⟨.hbm, 122, rfl⟩
abbrev main_v93_1 : Ref sig .tc := ⟨.hbm, 123, rfl⟩
abbrev main_call0_v2 : Ref sig .tc := ⟨.hbm, 124, rfl⟩
abbrev main_v93_0 : Ref sig .tc := ⟨.hbm, 125, rfl⟩
abbrev main_call0_cst : Ref sig .tc := ⟨.hbm, 126, rfl⟩
abbrev main_v93_2 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_cst_21 : Ref sig .tc := ⟨.hbm, 147, rfl⟩
abbrev main_v110 : Ref sig .tc := ⟨.hbm, 148, rfl⟩
abbrev main_cst_22 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_cst_24 : Ref sig .tc := ⟨.hbm, 159, rfl⟩
abbrev main_v119 : Ref sig .tc := ⟨.hbm, 160, rfl⟩
abbrev main_cst_25 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_26 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_27 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_28 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_29 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_30 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_31 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_32 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_33 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_cst_34 : Ref sig .tc := ⟨.hbm, 225, rfl⟩
abbrev main_v175 : Ref sig .tc := ⟨.hbm, 226, rfl⟩
abbrev main_v176 : Ref sig .tc := ⟨.hbm, 227, rfl⟩
abbrev main_call1_cst : Ref sig .tc := ⟨.hbm, 228, rfl⟩
abbrev main_call1_v0 : Ref sig .tc := ⟨.hbm, 229, rfl⟩
abbrev main_v177 : Ref sig .tc := ⟨.hbm, 230, rfl⟩
abbrev main_cst_35 : Ref sig .tc := ⟨.hbm, 231, rfl⟩
abbrev main_v178 : Ref sig .tc := ⟨.hbm, 232, rfl⟩
abbrev main_v179 : Ref sig .tc := ⟨.hbm, 233, rfl⟩
abbrev main_cst_36 : Ref sig .tc := ⟨.hbm, 234, rfl⟩
abbrev main_v180 : Ref sig .tc := ⟨.hbm, 235, rfl⟩
abbrev main_v181 : Ref sig .tc := ⟨.hbm, 236, rfl⟩
abbrev main_cst_37 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_cst_38 : Ref sig .tc := ⟨.hbm, 247, rfl⟩
abbrev main_v191 : Ref sig .tc := ⟨.hbm, 248, rfl⟩
abbrev main_cst_39 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_cst_40 : Ref sig .tc := ⟨.hbm, 257, rfl⟩
abbrev main_v199 : Ref sig .tc := ⟨.hbm, 258, rfl⟩
abbrev main_cst_41 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_cst_42 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_cst_43 : Ref sig .tc := ⟨.hbm, 273, rfl⟩
abbrev main_v212 : Ref sig .tc := ⟨.hbm, 274, rfl⟩
abbrev main_v213 : Ref sig .tc := ⟨.hbm, 275, rfl⟩
abbrev main_cst_44 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_cst_45 : Ref sig .tc := ⟨.hbm, 282, rfl⟩
abbrev main_v219 : Ref sig .tc := ⟨.hbm, 283, rfl⟩
abbrev main_v220 : Ref sig .tc := ⟨.hbm, 284, rfl⟩
abbrev main_cst_46 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_cst_47 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_cst_48 : Ref sig .tc := ⟨.hbm, 299, rfl⟩
abbrev main_v233 : Ref sig .tc := ⟨.hbm, 300, rfl⟩
abbrev main_v234 : Ref sig .tc := ⟨.hbm, 301, rfl⟩
abbrev main_cst_49 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_cst_50 : Ref sig .tc := ⟨.hbm, 308, rfl⟩
abbrev main_v240 : Ref sig .tc := ⟨.hbm, 309, rfl⟩
abbrev main_v241 : Ref sig .tc := ⟨.hbm, 310, rfl⟩
abbrev main_cst_51 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩

abbrev nD : Nat := 1
abbrev τ : Topo := Topo.v7x

variable {F : FTy → Type} [FloatOps F]
-- ==== GateBwd.lean ====
abbrev S4096x4 : Shape := ⟨2, ![4096, 4]⟩
abbrev S1x4 : Shape := ⟨2, ![1, 4]⟩
abbrev S4096x512 : Shape := ⟨2, ![4096, 512]⟩
abbrev S4096x4992 : Shape := ⟨2, ![4096, 4992]⟩
abbrev S4096x8 : Shape := ⟨2, ![4096, 8]⟩
abbrev S_ : Shape := ⟨0, ![]⟩
abbrev S1x4x128 : Shape := ⟨3, ![1, 4, 128]⟩
abbrev S1x512 : Shape := ⟨2, ![1, 512]⟩
abbrev S1x8 : Shape := ⟨2, ![1, 8]⟩
abbrev S1x128 : Shape := ⟨2, ![1, 128]⟩
abbrev S128x512 : Shape := ⟨2, ![128, 512]⟩
abbrev S512x128 : Shape := ⟨2, ![512, 128]⟩
abbrev S1024x128 : Shape := ⟨2, ![1024, 128]⟩
abbrev S1024x512 : Shape := ⟨2, ![1024, 512]⟩
abbrev S512 : Shape := ⟨1, ![512]⟩
abbrev S128 : Shape := ⟨1, ![128]⟩

abbrev nBuf : Space → Nat
  | .hbm => 57
  | .vmem => 16
  | .smem => 0
  | _ => 0

abbrev bufTy : (tb : Table) → Fin (tcTables nBuf tb) → BufTy
  | .hbm, ⟨0, _⟩ => ⟨S4096x4, .f32⟩
  | .hbm, ⟨1, _⟩ => ⟨S4096x4, .f32⟩
  | .hbm, ⟨2, _⟩ => ⟨S1x4, .f32⟩
  | .hbm, ⟨3, _⟩ => ⟨S1x4, .f32⟩
  | .hbm, ⟨4, _⟩ => ⟨S4096x512, .f32⟩
  | .hbm, ⟨5, _⟩ => ⟨S4096x512, .f32⟩
  | .hbm, ⟨6, _⟩ => ⟨S4096x4992, .bf16⟩
  | .hbm, ⟨7, _⟩ => ⟨S4096x8, .f32⟩
  | .hbm, ⟨8, _⟩ => ⟨S_, .i32⟩
  | .hbm, ⟨9, _⟩ => ⟨S_, .f32⟩
  | .hbm, ⟨10, _⟩ => ⟨S4096x4992, .f32⟩
  | .hbm, ⟨11, _⟩ => ⟨S1x4x128, .f32⟩
  | .hbm, ⟨12, _⟩ => ⟨S1x512, .f32⟩
  | .hbm, ⟨13, _⟩ => ⟨S_, .i32⟩
  | .hbm, ⟨14, _⟩ => ⟨S_, .f32⟩
  | .hbm, ⟨15, _⟩ => ⟨S1x8, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S128x512, .i32⟩
  | .hbm, ⟨20, _⟩ => ⟨S_, .i32⟩
  | .hbm, ⟨21, _⟩ => ⟨S128x512, .i32⟩
  | .hbm, ⟨22, _⟩ => ⟨S128x512, .i32⟩
  | .hbm, ⟨23, _⟩ => ⟨S128x512, .i32⟩
  | .hbm, ⟨24, _⟩ => ⟨S128x512, .i1⟩
  | .hbm, ⟨25, _⟩ => ⟨S_, .i32⟩
  | .hbm, ⟨26, _⟩ => ⟨S128x512, .i32⟩
  | .hbm, ⟨27, _⟩ => ⟨S128x512, .i32⟩
  | .hbm, ⟨28, _⟩ => ⟨S128x512, .i1⟩
  | .hbm, ⟨29, _⟩ => ⟨S128x512, .i1⟩
  | .hbm, ⟨30, _⟩ => ⟨S_, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S_, .i32⟩
  | .hbm, ⟨36, _⟩ => ⟨S128x512, .i32⟩
  | .hbm, ⟨37, _⟩ => ⟨S128x512, .i32⟩
  | .hbm, ⟨38, _⟩ => ⟨S128x512, .i1⟩
  | .hbm, ⟨39, _⟩ => ⟨S_, .i32⟩
  | .hbm, ⟨40, _⟩ => ⟨S128x512, .i32⟩
  | .hbm, ⟨41, _⟩ => ⟨S128x512, .i32⟩
  | .hbm, ⟨42, _⟩ => ⟨S_, .i32⟩
  | .hbm, ⟨43, _⟩ => ⟨S128x512, .i32⟩
  | .hbm, ⟨44, _⟩ => ⟨S128x512, .i32⟩
  | .hbm, ⟨45, _⟩ => ⟨S128x512, .i1⟩
  | .hbm, ⟨46, _⟩ => ⟨S128x512, .i1⟩
  | .hbm, ⟨47, _⟩ => ⟨S_, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S512x128, .f32⟩
  | .hbm, ⟨53, _⟩ => ⟨S512x128, .f32⟩
  | .hbm, ⟨54, _⟩ => ⟨S4096x4992, .bf16⟩
  | .hbm, ⟨55, _⟩ => ⟨S1x512, .f32⟩
  | .hbm, ⟨56, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S128x512, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x128, .bf16⟩
  | .local _ .vmem, ⟨13, _⟩ => ⟨S1024x128, .bf16⟩
  | .local _ .vmem, ⟨14, _⟩ => ⟨S1x512, .f32⟩
  | .local _ .vmem, ⟨15, _⟩ => ⟨S1x128, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_cst_4 : Ref sig .tc := ⟨.hbm, 31, rfl⟩
abbrev main_call3_v0 : Ref sig .tc := ⟨.hbm, 32, rfl⟩
abbrev main_call3_v1 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_cst_9 : Ref sig .tc := ⟨.hbm, 48, rfl⟩
abbrev main_call4_v0 : Ref sig .tc := ⟨.hbm, 49, rfl⟩
abbrev main_call4_v1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v28_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateBwdRefIdeal.lean ====
abbrev S4096x4 : Shape := ⟨2, ![4096, 4]⟩
abbrev S1x4 : Shape := ⟨2, ![1, 4]⟩
abbrev S4096x512 : Shape := ⟨2, ![4096, 512]⟩
abbrev S4096x4992 : Shape := ⟨2, ![4096, 4992]⟩
abbrev S1x4x128 : Shape := ⟨3, ![1, 4, 128]⟩
abbrev S1x512 : Shape := ⟨2, ![1, 512]⟩
abbrev S_ : Shape := ⟨0, ![]⟩
abbrev S4096x4x128 : Shape := ⟨3, ![4096, 4, 128]⟩
abbrev S512 : Shape := ⟨1, ![512]⟩
abbrev S4 : Shape := ⟨1, ![4]⟩
abbrev S4096x8 : Shape := ⟨2, ![4096, 8]⟩
abbrev S4096x128 : Shape := ⟨2, ![4096, 128]⟩
abbrev S4096x4864 : Shape := ⟨2, ![4096, 4864]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4096x4, .f32⟩
  | .hbm, ⟨2, _⟩ => ⟨S1x4, .f32⟩
  | .hbm, ⟨3, _⟩ => ⟨S1x4, .f32⟩
  | .hbm, ⟨4, _⟩ => ⟨S4096x512, .f32⟩
  | .hbm, ⟨5, _⟩ => ⟨S4096x512, .f32⟩
  | .hbm, ⟨6, _⟩ => ⟨S4096x4992, .bf16⟩
  | .hbm, ⟨7, _⟩ => ⟨S1x4x128, .f32⟩
  | .hbm, ⟨8, _⟩ => ⟨S1x512, .f32⟩
  | .hbm, ⟨9, _⟩ => ⟨S4096x4, .f32⟩
  | .hbm, ⟨10, _⟩ => ⟨S4096x4, .f32⟩
  | .hbm, ⟨11, _⟩ => ⟨S_, .f32⟩
  | .hbm, ⟨12, _⟩ => ⟨S4096x4, .f32⟩
  | .hbm, ⟨13, _⟩ => ⟨S4096x4, .f32⟩
  | .hbm, ⟨14, _⟩ => ⟨S_, .f32⟩
  | .hbm, ⟨15, _⟩ => ⟨S4096x4, .f32⟩
  | .hbm, ⟨16, _⟩ => ⟨S4096x4, .f32⟩
  | .hbm, ⟨17, _⟩ => ⟨S_, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4x128, .f32⟩
  | .hbm, ⟨22, _⟩ => ⟨S4096x512, .f32⟩
  | .hbm, ⟨23, _⟩ => ⟨S1x512, .f32⟩
  | .hbm, ⟨24, _⟩ => ⟨S1x512, .f32⟩
  | .hbm, ⟨25, _⟩ => ⟨S4096x4, .f32⟩
  | .hbm, ⟨26, _⟩ => ⟨S4096x4, .f32⟩
  | .hbm, ⟨27, _⟩ => ⟨S_, .f32⟩
  | .hbm, ⟨28, _⟩ => ⟨S4096x4, .f32⟩
  | .hbm, ⟨29, _⟩ => ⟨S4096x4, .f32⟩
  | .hbm, ⟨30, _⟩ => ⟨S4096x4, .f32⟩
  | .hbm, ⟨31, _⟩ => ⟨S4096x4, .f32⟩
  | .hbm, ⟨32, _⟩ => ⟨S4096x4, .i1⟩
  | .hbm, ⟨33, _⟩ => ⟨S4096x4, .f32⟩
  | .hbm, ⟨34, _⟩ => ⟨S4096x4, .f32⟩
  | .hbm, ⟨35, _⟩ => ⟨S4096x4, .f32⟩
  | .hbm, ⟨36, _⟩ => ⟨S4096x4, .f32⟩
  | .hbm, ⟨37, _⟩ => ⟨S4096x4, .f32⟩
  | .hbm, ⟨38, _⟩ => ⟨S4096x4, .f32⟩
  | .hbm, ⟨39, _⟩ => ⟨S4096x4, .f32⟩
  | .hbm, ⟨40, _⟩ => ⟨S4096x4, .f32⟩
  | .hbm, ⟨41, _⟩ => ⟨S_, .f32⟩
  | .hbm, ⟨42, _⟩ => ⟨S4096x4, .f32⟩
  | .hbm, ⟨43, _⟩ => ⟨S4096x4, .i1⟩
  | .hbm, ⟨44, _⟩ => ⟨S_, .f32⟩
  | .hbm, ⟨45, _⟩ => ⟨S4096x4, .f32⟩
  | .hbm, ⟨46, _⟩ => ⟨S4096x4, .f32⟩
  | .hbm, ⟨47, _⟩ => ⟨S_, .f32⟩
  | .hbm, ⟨48, _⟩ => ⟨S4096x4, .f32⟩
  | .hbm, ⟨49, _⟩ => ⟨S4096x4, .i1⟩
  | .hbm, ⟨50, _⟩ => ⟨S_, .f32⟩
  | .hbm, ⟨51, _⟩ => ⟨S4096x4, .f32⟩
  | .hbm, ⟨52, _⟩ => ⟨S4096x4, .f32⟩
  | .hbm, ⟨53, _⟩ => ⟨S4096x4, .f32⟩
  | .hbm, ⟨54, _⟩ => ⟨S4096x4, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x4, .f32⟩
  | .hbm, ⟨63, _⟩ => ⟨S4096x4, .i1⟩
  | .hbm, ⟨64, _⟩ => ⟨S_, .f32⟩
  | .hbm, ⟨65, _⟩ => ⟨S4096x4, .f32⟩
  | .hbm, ⟨66, _⟩ => ⟨S4096x4, .f32⟩
  | .hbm, ⟨67, _⟩ => ⟨S4096x4, .f32⟩
  | .hbm, ⟨68, _⟩ => ⟨S4096x4, .f32⟩
  | .hbm, ⟨69, _⟩ => ⟨S4096x4, .f32⟩
  | .hbm, ⟨70, _⟩ => ⟨S_, .f32⟩
  | .hbm, ⟨71, _⟩ => ⟨S4096x4, .f32⟩
  | .hbm, ⟨72, _⟩ => ⟨S4096x4, .f32⟩
  | .hbm, ⟨73, _⟩ => ⟨S4096x4x128, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S4096x4x128, .f32⟩
  | .hbm, ⟨84, _⟩ => ⟨S_, .f32⟩
  | .hbm, ⟨85, _⟩ => ⟨S4096x4, .f32⟩
  | .hbm, ⟨86, _⟩ => ⟨S4096x4, .f32⟩
  | .hbm, ⟨87, _⟩ => ⟨S_, .f32⟩
  | .hbm, ⟨88, _⟩ => ⟨S4, .f32⟩
  | .hbm, ⟨89, _⟩ => ⟨S1x4, .f32⟩
  | .hbm, ⟨90, _⟩ => ⟨S1x512, .f32⟩
  | .hbm, ⟨91, _⟩ => ⟨S1x512, .f32⟩
  | .hbm, ⟨92, _⟩ => ⟨S4096x4x128, .f32⟩
  | .hbm, ⟨93, _⟩ => ⟨S_, .f32⟩
  | .hbm, ⟨94, _⟩ => ⟨S4096x4, .f32⟩
  | .hbm, ⟨95, _⟩ => ⟨S4096x4, .f32⟩
  | .hbm, ⟨96, _⟩ => ⟨S4096x8, .f32⟩
  | .hbm, ⟨97, _⟩ => ⟨S_, .i32⟩
  | .hbm, ⟨98, _⟩ => ⟨S_, .f32⟩
  | .hbm, ⟨99, _⟩ => ⟨S4096x128, .f32⟩
  | .hbm, ⟨100, _⟩ => ⟨S4096x4864, .bf16⟩
  | .hbm, ⟨101, _⟩ => ⟨S4096x128, .bf16⟩
  | .hbm, ⟨102, _⟩ => ⟨S4096x4992, .bf16⟩
  | .hbm, ⟨103, _⟩ => ⟨S_, .i32⟩
  | .hbm, ⟨104, _⟩ => ⟨S_, .f32⟩
  | .hbm, ⟨105, _⟩ => ⟨S1x128, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v17_0 : Ref sig .tc := ⟨.hbm, 40, rfl⟩
abbrev main_call0_cst_0 : Ref sig .tc := ⟨.hbm, 41, rfl⟩
abbrev main_call0_v13 : Ref sig .tc := ⟨.hbm, 42, rfl⟩
abbrev main_call0_v14 : Ref sig .tc := ⟨.hbm, 43, rfl⟩
abbrev main_call0_cst_1 : Ref sig .tc := ⟨.hbm, 44, rfl⟩
abbrev main_call0_v15 : Ref sig .tc := ⟨.hbm, 45, rfl⟩
abbrev main_call0_v16 : Ref sig .tc := ⟨.hbm, 46, rfl⟩
abbrev main_call0_cst_2 : Ref sig .tc := ⟨.hbm, 47, rfl⟩
abbrev main_call0_v17 : Ref sig .tc := ⟨.hbm, 48, rfl⟩
abbrev main_call0_v18 : Ref sig .tc := ⟨.hbm, 49, rfl⟩
abbrev main_call0_cst_3 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_v17_1 : Ref sig .tc := ⟨.hbm, 54, rfl⟩
abbrev main_call0_cst_4 : Ref sig .tc := ⟨.hbm, 55, rfl⟩
abbrev main_call0_cst_5 : Ref sig .tc := ⟨.hbm, 56, rfl⟩
abbrev main_call0_v23 : Ref sig .tc := ⟨.hbm, 57, rfl⟩
abbrev main_call0_cst_6 : Ref sig .tc := ⟨.hbm, 58, rfl⟩
abbrev main_call0_cst_7 : Ref sig .tc := ⟨.hbm, 59, rfl⟩
abbrev main_call0_v24 : Ref sig .tc := ⟨.hbm, 60, rfl⟩
abbrev main_call0_cst_8 : Ref sig .tc := ⟨.hbm, 61, rfl⟩
abbrev main_call0_v25 : Ref sig .tc := ⟨.hbm, 62, rfl⟩
abbrev main_call0_v26 : Ref sig .tc := ⟨.hbm, 63, rfl⟩
abbrev main_call0_cst_9 : Ref sig .tc := ⟨.hbm, 64, rfl⟩
abbrev main_call0_v27 : Ref sig .tc := ⟨.hbm, 65, rfl⟩
abbrev main_call0_v28 : Ref sig .tc := ⟨.hbm, 66, rfl⟩
abbrev main_call0_v29 : Ref sig .tc := ⟨.hbm, 67, rfl⟩
abbrev main_call0_v30 : Ref sig .tc := ⟨.hbm, 68, rfl⟩
abbrev main_call0_v31 : Ref sig .tc := ⟨.hbm, 69, rfl⟩
abbrev main_call0_cst_10 : Ref sig .tc := ⟨.hbm, 70, rfl⟩
abbrev main_call0_v32 : Ref sig .tc := ⟨.hbm, 71, rfl⟩
abbrev main_v17_2 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst_2 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_3 : Ref sig .tc := ⟨.hbm, 84, rfl⟩
abbrev main_v28 : Ref sig .tc := ⟨.hbm, 85, rfl⟩
abbrev main_v29 : Ref sig .tc := ⟨.hbm, 86, rfl⟩
abbrev main_cst_4 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_5 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c : Ref sig .tc := ⟨.hbm, 97, rfl⟩
abbrev main_call2_v0 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_c_6 : Ref sig .tc := ⟨.hbm, 103, rfl⟩
abbrev main_call3_v0 : Ref sig .tc := ⟨.hbm, 104, rfl⟩
abbrev main_v42 : Ref sig .tc := ⟨.hbm, 105, rfl⟩

abbrev nD : Nat := 1
abbrev τ : Topo := Topo.v7x

variable {F : FTy → Type} [FloatOps F]
-- ==== SwaFwd.lean ====
abbrev S4096x512 : Shape := ⟨2, ![4096, 512]⟩
abbrev S4096x128 : Shape := ⟨2, ![4096, 128]⟩
abbrev S1x64 : Shape := ⟨2, ![1, 64]⟩
abbrev S1x8 : Shape := ⟨2, ![1, 8]⟩
abbrev S8x128x256 : Shape := ⟨3, ![8, 128, 256]⟩
abbrev S4096x768 : Shape := ⟨2, ![4096, 768]⟩
abbrev S_ : Shape := ⟨0, ![]⟩
abbrev S4096x4992 : Shape := ⟨2, ![4096, 4992]⟩
abbrev S128x256 : Shape := ⟨2, ![128, 256]⟩
abbrev S1x8x128x256 : Shape := ⟨4, ![1, 8, 128, 256]⟩
abbrev S2x8x128x256 : Shape := ⟨4, ![2, 8, 128, 256]⟩
abbrev S128x512 : Shape := ⟨2, ![128, 512]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S256x64 : Shape := ⟨2, ![256, 64]⟩
abbrev S1x1 : Shape := ⟨2, ![1, 1]⟩
abbrev S1x1x1 : Shape := ⟨3, ![1, 1, 1]⟩
abbrev S8x1x1 : Shape := ⟨3, ![8, 1, 1]⟩
abbrev S1x256x64 : Shape := ⟨3, ![1, 256, 64]⟩
abbrev S8x256x64 : Shape := ⟨3, ![8, 256, 64]⟩
abbrev S8x256 : Shape := ⟨2, ![8, 256]⟩
abbrev S8x256x1 : Shape := ⟨3, ![8, 256, 1]⟩
abbrev S1x1x64 : Shape := ⟨3, ![1, 1, 64]⟩
abbrev S8x128 : Shape := ⟨2, ![8, 128]⟩
abbrev S8x128x1 : Shape := ⟨3, ![8, 128, 1]⟩

abbrev nBuf : Space → Nat
  | .hbm => 65
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S8x128x256, .f32⟩
  | .hbm, ⟨7, _⟩ => ⟨S4096x768, .f32⟩
  | .hbm, ⟨8, _⟩ => ⟨S_, .i32⟩
  | .hbm, ⟨9, _⟩ => ⟨S_, .f32⟩
  | .hbm, ⟨10, _⟩ => ⟨S4096x4992, .f32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S_, .i32⟩
  | .hbm, ⟨25, _⟩ => ⟨S128x256, .i32⟩
  | .hbm, ⟨26, _⟩ => ⟨S128x256, .i1⟩
  | .hbm, ⟨27, _⟩ => ⟨S_, .i1⟩
  | .hbm, ⟨28, _⟩ => ⟨S128x256, .i1⟩
  | .hbm, ⟨29, _⟩ => ⟨S128x256, .i1⟩
  | .hbm, ⟨30, _⟩ => ⟨S128x256, .i1⟩
  | .hbm, ⟨31, _⟩ => ⟨S_, .f32⟩
  | .hbm, ⟨32, _⟩ => ⟨S_, .f32⟩
  | .hbm, ⟨33, _⟩ => ⟨S8x128x256, .i1⟩
  | .hbm, ⟨34, _⟩ => ⟨S8x128x256, .f32⟩
  | .hbm, ⟨35, _⟩ => ⟨S8x128x256, .f32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S_, .i1⟩
  | .hbm, ⟨53, _⟩ => ⟨S128x256, .i1⟩
  | .hbm, ⟨54, _⟩ => ⟨S128x256, .i1⟩
  | .hbm, ⟨55, _⟩ => ⟨S128x256, .i1⟩
  | .hbm, ⟨56, _⟩ => ⟨S_, .f32⟩
  | .hbm, ⟨57, _⟩ => ⟨S_, .f32⟩
  | .hbm, ⟨58, _⟩ => ⟨S8x128x256, .i1⟩
  | .hbm, ⟨59, _⟩ => ⟨S8x128x256, .f32⟩
  | .hbm, ⟨60, _⟩ => ⟨S8x128x256, .f32⟩
  | .hbm, ⟨61, _⟩ => ⟨S1x8x128x256, .f32⟩
  | .hbm, ⟨62, _⟩ => ⟨S1x8x128x256, .f32⟩
  | .hbm, ⟨63, _⟩ => ⟨S2x8x128x256, .f32⟩
  | .hbm, ⟨64, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x64, .f32⟩
  | .local _ .vmem, ⟨11, _⟩ => ⟨S1x64, .f32⟩
  | .local _ .vmem, ⟨12, _⟩ => ⟨S1x8, .f32⟩
  | .local _ .vmem, ⟨13, _⟩ => ⟨S1x8x128x256, .f32⟩
  | .local _ .vmem, ⟨14, _⟩ => ⟨S1x8x128x256, .f32⟩
  | .local _ .vmem, ⟨15, _⟩ => ⟨S128x512, .bf16⟩
  | .local _ .vmem, ⟨16, _⟩ => ⟨S128x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_c_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c36_i32 : BitVec 32 := 36#32
  let c0_i32_0 : BitVec 32 := 0#32
  ![v1.toNat, c36_i32.toNat]

def cc0_transform_2 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let c0_i32_0 : BitVec 32 := 0#32
  ![v1.toNat, c37_i32.toNat]

def cc0_transform_4 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SwaFwdRefIdeal.lean ====
abbrev S4096x512 : Shape := ⟨2, ![4096, 512]⟩
abbrev S4096x128 : Shape := ⟨2, ![4096, 128]⟩
abbrev S1x64 : Shape := ⟨2, ![1, 64]⟩
abbrev S1x8 : Shape := ⟨2, ![1, 8]⟩
abbrev S8x128x256 : Shape := ⟨3, ![8, 128, 256]⟩
abbrev S64 : Shape := ⟨1, ![64]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x2x64 : Shape := ⟨3, ![4096, 2, 64]⟩
abbrev S4096x2 : Shape := ⟨2, ![4096, 2]⟩
abbrev S4096x2x1 : Shape := ⟨3, ![4096, 2, 1]⟩
abbrev S32x128x2x4x64 : Shape := ⟨5, ![32, 128, 2, 4, 64]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩

abbrev nBuf : Space → Nat
  | .hbm => 135
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S1x64, .f32⟩
  | 4 => ⟨S1x64, .f32⟩
  | 5 => ⟨S1x8, .f32⟩
  | 6 => ⟨S8x128x256, .f32⟩
  | 7 => ⟨S64, .f32⟩
  | 8 => ⟨S64, .f32⟩
  | 9 => ⟨S4096x8x64, .f32⟩
  | 10 => ⟨S4096x8x64, .f32⟩
  | 11 => ⟨S_, .f32⟩
  | 12 => ⟨S4096x8, .f32⟩
  | 13 => ⟨S4096x8x1, .f32⟩
  | 14 => ⟨S_, .f32⟩
  | 15 => ⟨S4096x8x1, .f32⟩
  | 16 => ⟨S4096x8x1, .f32⟩
  | 17 => ⟨S_, .f32⟩
  | 18 => ⟨S4096x8x1, .f32⟩
  | 19 => ⟨S4096x8x1, .f32⟩
  | 20 => ⟨S4096x8x1, .f32⟩
  | 21 => ⟨S4096x8x64, .f32⟩
  | 22 => ⟨S4096x8x64, .f32⟩
  | 23 => ⟨S1x1x64, .f32⟩
  | 24 => ⟨S4096x8x64, .f32⟩
  | 25 => ⟨S4096x8x64, .f32⟩
  | 26 => ⟨S4096x2x64, .f32⟩
  | 27 => ⟨S4096x2x64, .f32⟩
  | 28 => ⟨S_, .f32⟩
  | 29 => ⟨S4096x2, .f32⟩
  | 30 => ⟨S4096x2x1, .f32⟩
  | 31 => ⟨S_, .f32⟩
  | 32 => ⟨S4096x2x1, .f32⟩
  | 33 => ⟨S4096x2x1, .f32⟩
  | 34 => ⟨S_, .f32⟩
  | 35 => ⟨S4096x2x1, .f32⟩
  | 36 => ⟨S4096x2x1, .f32⟩
  | 37 => ⟨S4096x2x1, .f32⟩
  | 38 => ⟨S4096x2x64, .f32⟩
  | 39 => ⟨S4096x2x64, .f32⟩
  | 40 => ⟨S1x1x64, .f32⟩
  | 41 => ⟨S4096x2x64, .f32⟩
  | 42 => ⟨S4096x2x64, .f32⟩
  | 43 => ⟨S4096x2x64, .f32⟩
  | 44 => ⟨S32x128x2x4x64, .f32⟩
  | 45 => ⟨S_, .f32⟩
  | 46 => ⟨S128x2x64, .f32⟩
  | 47 => ⟨S4224x2x64, .f32⟩
  | 48 => ⟨S33x128x2x64, .f32⟩
  | 49 => ⟨S32x128x2x64, .f32⟩
  | 50 => ⟨S32x128x2x64, .f32⟩
  | 51 => ⟨S32x256x2x64, .f32⟩
  | 52 => ⟨S_, .f32⟩
  | 53 => ⟨S128x2x64, .f32⟩
  | 54 => ⟨S4224x2x64, .f32⟩
  | 55 => ⟨S33x128x2x64, .f32⟩
  | 56 => ⟨S32x128x2x64, .f32⟩
  | 57 => ⟨S32x128x2x64, .f32⟩
  | 58 => ⟨S32x256x2x64, .f32⟩
  | 59 => ⟨S32x2x256x128x4, .f32⟩
  | 60 => ⟨S32x2x4x128x256, .f32⟩
  | 61 => ⟨S_, .f32⟩
  | 62 => ⟨S32x2x4x128x256, .f32⟩
  | 63 => ⟨S32x2x4x128x256, .f32⟩
  | 64 => ⟨S128, .i32⟩
  | 65 => ⟨S128x1, .i32⟩
  | 66 => ⟨S256, .i32⟩
  | 67 => ⟨S1x256, .i32⟩
  | 68 => ⟨S_, .i32⟩
  | 69 => ⟨S128x1, .i32⟩
  | 70 => ⟨S128x1, .i32⟩
  | 71 => ⟨S128x256, .i32⟩
  | 72 => ⟨S128x256, .i32⟩
  | 73 => ⟨S128x256, .i32⟩
  | 74 => ⟨S_, .i32⟩
  | 75 => ⟨S128x256, .i32⟩
  | 76 => ⟨S128x256, .i1⟩
  | 77 => ⟨S_, .i32⟩
  | 78 => ⟨S128x256, .i32⟩
  | 79 => ⟨S128x256, .i1⟩
  | 80 => ⟨S128x256, .i1⟩
  | 81 => ⟨S32, .i32⟩
  | 82 => ⟨S32x1, .i32⟩
  | 83 => ⟨S_, .i32⟩
  | 84 => ⟨S32x1, .i32⟩
  | 85 => ⟨S32x1, .i32⟩
  | 86 => ⟨S_, .i32⟩
  | 87 => ⟨S32x1, .i32⟩
  | 88 => ⟨S32x1, .i32⟩
  | 89 => ⟨S256, .i32⟩
  | 90 => ⟨S1x256, .i32⟩
  | 91 => ⟨S32x256, .i32⟩
  | 92 => ⟨S32x256, .i32⟩
  | 93 => ⟨S32x256, .i32⟩
  | 94 => ⟨S1x128x256, .i1⟩
  | 95 => ⟨S_, .i32⟩
  | 96 => ⟨S32x256, .i32⟩
  | 97 => ⟨S32x256, .i1⟩
  | 98 => ⟨S32x1x256, .i1⟩
  | 99 => ⟨S32x128x256, .i1⟩
  | 100 => ⟨S32x128x256, .i1⟩
  | 101 => ⟨S32x128x256, .i1⟩
  | 102 => ⟨S2x4x128x256, .f32⟩
  | 103 => ⟨S32x1x1x128x256, .i1⟩
  | 104 => ⟨S1x2x4x128x256, .f32⟩
  | 105 => ⟨S32x2x4x128x256, .f32⟩
  | 106 => ⟨S32x2x4x128x256, .f32⟩
  | 107 => ⟨S_, .f32⟩
  | 108 => ⟨S_, .f32⟩
  | 109 => ⟨S32x2x4x128x256, .i1⟩
  | 110 => ⟨S32x2x4x128x256, .f32⟩
  | 111 => ⟨S32x2x4x128x256, .f32⟩
  | 112 => ⟨S2x4, .f32⟩
  | 113 => ⟨S1x2x4x1x1, .f32⟩
  | 114 => ⟨S_, .f32⟩
  | 115 => ⟨S32x2x4x128, .f32⟩
  | 116 => ⟨S32x2x4x128x1, .f32⟩
  | 117 => ⟨S32x2x4x128x1, .f32⟩
  | 118 => ⟨S32x2x4x128x1, .f32⟩
  | 119 => ⟨S32x2x4x128x256, .f32⟩
  | 120 => ⟨S32x2x4x128x256, .f32⟩
  | 121 => ⟨S32x2x4x128x256, .f32⟩
  | 122 => ⟨S_, .f32⟩
  | 123 => ⟨S32x2x4x128, .f32⟩
  | 124 => ⟨S32x2x4x128x1, .f32⟩
  | 125 => ⟨S32x2x4x128x1, .f32⟩
  | 126 => ⟨S32x2x4x128x1, .f32⟩
  | 127 => ⟨S32x2x4x128x1, .f32⟩
  | _ => ⟨S4096x512, .f32⟩

abbrev hbmTy0_1 (i : Nat) : BufTy := match i % 128 with
  | 0 => ⟨S32x2x4x128x1, .f32⟩
  | 1 => ⟨S32x2x4x128x256, .f32⟩
  | 2 => ⟨S32x2x4x128x256, .f32⟩
  | 3 => ⟨S32x2x64x4x128, .f32⟩
  | 4 => ⟨S32x128x2x4x64, .f32⟩
  | 5 => ⟨S4096x512, .f32⟩
  | 6 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_13 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩

abbrev nD : Nat := 1
abbrev τ : Topo := Topo.v7x

variable {F : FTy → Type} [FloatOps F]
-- ==== ScanFwd.lean ====
abbrev S4x64x64x128 : Shape := ⟨4, ![4, 64, 64, 128]⟩
abbrev S4x64x64 : Shape := ⟨3, ![4, 64, 64]⟩
abbrev S4x64x64x64 : Shape := ⟨4, ![4, 64, 64, 64]⟩
abbrev S4x64x1 : Shape := ⟨3, ![4, 64, 1]⟩
abbrev S4x64x1x1 : Shape := ⟨4, ![4, 64, 1, 1]⟩
abbrev S4x64x1x128 : Shape := ⟨4, ![4, 64, 1, 128]⟩
abbrev S64x64x4x128 : Shape := ⟨4, ![64, 64, 4, 128]⟩
abbrev S4096x512 : Shape := ⟨2, ![4096, 512]⟩
abbrev S4x64x64x1 : Shape := ⟨4, ![4, 64, 64, 1]⟩
abbrev S4x4096x64 : Shape := ⟨3, ![4, 4096, 64]⟩
abbrev S4x64x128x128 : Shape := ⟨4, ![4, 64, 128, 128]⟩
abbrev S1024x512 : Shape := ⟨2, ![1024, 512]⟩
abbrev S4x1024x64 : Shape := ⟨3, ![4, 1024, 64]⟩
abbrev S4x16x1x128 : Shape := ⟨4, ![4, 16, 1, 128]⟩
abbrev S4x16x128x128 : Shape := ⟨4, ![4, 16, 128, 128]⟩
abbrev S4x128x128 : Shape := ⟨3, ![4, 128, 128]⟩
abbrev S4x1x128x128 : Shape := ⟨4, ![4, 1, 128, 128]⟩
abbrev S64x128 : Shape := ⟨2, ![64, 128]⟩
abbrev S1x64x128 : Shape := ⟨3, ![1, 64, 128]⟩
abbrev S4x64x128 : Shape := ⟨3, ![4, 64, 128]⟩
abbrev S4x1x1x128 : Shape := ⟨4, ![4, 1, 1, 128]⟩
abbrev S4x1x128 : Shape := ⟨3, ![4, 1, 128]⟩

abbrev nBuf : Space → Nat
  | .hbm => 31
  | .vmem => 17
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S4x64x64x128, .f32⟩
  | .hbm, ⟨3, _⟩ => ⟨S4x64x64x128, .f32⟩
  | .hbm, ⟨4, _⟩ => ⟨S4x64x64, .f32⟩
  | .hbm, ⟨5, _⟩ => ⟨S4x64x64x64, .f32⟩
  | .hbm, ⟨6, _⟩ => ⟨S4x64x1, .f32⟩
  | .hbm, ⟨7, _⟩ => ⟨S4x64x1, .f32⟩
  | .hbm, ⟨8, _⟩ => ⟨S4x64x1x1, .f32⟩
  | .hbm, ⟨9, _⟩ => ⟨S4x64x1x128, .f32⟩
  | .hbm, ⟨10, _⟩ => ⟨S64x64x4x128, .f32⟩
  | .hbm, ⟨11, _⟩ => ⟨S4096x512, .f32⟩
  | .hbm, ⟨12, _⟩ => ⟨S64x64x4x128, .f32⟩
  | .hbm, ⟨13, _⟩ => ⟨S4096x512, .f32⟩
  | .hbm, ⟨14, _⟩ => ⟨S4x64x64, .f32⟩
  | .hbm, ⟨15, _⟩ => ⟨S4x64x64x1, .f32⟩
  | .hbm, ⟨16, _⟩ => ⟨S4x64x64x128, .f32⟩
  | .hbm, ⟨17, _⟩ => ⟨S4x64x64x128, .f32⟩
  | .hbm, ⟨18, _⟩ => ⟨S64x64x4x128, .f32⟩
  | .hbm, ⟨19, _⟩ => ⟨S4096x512, .f32⟩
  | .hbm, ⟨20, _⟩ => ⟨S4x64x64, .f32⟩
  | .hbm, ⟨21, _⟩ => ⟨S4x64x64, .f32⟩
  | .hbm, ⟨22, _⟩ => ⟨S4x64x64, .f32⟩
  | .hbm, ⟨23, _⟩ => ⟨S4x64x64x1, .f32⟩
  | .hbm, ⟨24, _⟩ => ⟨S4x64x64x128, .f32⟩
  | .hbm, ⟨25, _⟩ => ⟨S4x64x64x128, .f32⟩
  | .hbm, ⟨26, _⟩ => ⟨S64x64x4x128, .f32⟩
  | .hbm, ⟨27, _⟩ => ⟨S4096x512, .f32⟩
  | .hbm, ⟨28, _⟩ => ⟨S4x4096x64, .f32⟩
  | .hbm, ⟨29, _⟩ => ⟨S4096x512, .f32⟩
  | .hbm, ⟨30, _⟩ => ⟨S4x64x128x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4x1024x64, .f32⟩
  | .local _ .vmem, ⟨9, _⟩ => ⟨S4x1024x64, .f32⟩
  | .local _ .vmem, ⟨10, _⟩ => ⟨S4x16x1x128, .f32⟩
  | .local _ .vmem, ⟨11, _⟩ => ⟨S4x16x1x128, .f32⟩
  | .local _ .vmem, ⟨12, _⟩ => ⟨S1024x512, .f32⟩
  | .local _ .vmem, ⟨13, _⟩ => ⟨S1024x512, .f32⟩
  | .local _ .vmem, ⟨14, _⟩ => ⟨S4x16x128x128, .f32⟩
  | .local _ .vmem, ⟨15, _⟩ => ⟨S4x16x128x128, .f32⟩
  | .local _ .vmem, ⟨16, _⟩ => ⟨S4x128x128, .f32⟩
  | _, _ => ⟨S4x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScanFwdRefIdeal.lean ====
abbrev S4x64x64x128 : Shape := ⟨4, ![4, 64, 64, 128]⟩
abbrev S4x64x64 : Shape := ⟨3, ![4, 64, 64]⟩
abbrev S4x64x64x64 : Shape := ⟨4, ![4, 64, 64, 64]⟩
abbrev S64x4x64x128 : Shape := ⟨4, ![64, 4, 64, 128]⟩
abbrev S64x4x64 : Shape := ⟨3, ![64, 4, 64]⟩
abbrev S64x4x64x64 : Shape := ⟨4, ![64, 4, 64, 64]⟩
abbrev S_ : Shape := ⟨0, ![]⟩
abbrev S4x128x128 : Shape := ⟨3, ![4, 128, 128]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S1x4x64 : Shape := ⟨3, ![1, 4, 64]⟩
abbrev S4x64 : Shape := ⟨2, ![4, 64]⟩
abbrev S1x4x64x64 : Shape := ⟨4, ![1, 4, 64, 64]⟩
abbrev S4x64x1 : Shape := ⟨3, ![4, 64, 1]⟩
abbrev S4x1 : Shape := ⟨2, ![4, 1]⟩
abbrev S4 : Shape := ⟨1, ![4]⟩
abbrev S4x1x1 : Shape := ⟨3, ![4, 1, 1]⟩
abbrev S1x4x128x128 : Shape := ⟨4, ![1, 4, 128, 128]⟩
abbrev S64x64x4x128 : Shape := ⟨4, ![64, 64, 4, 128]⟩
abbrev S4096x512 : Shape := ⟨2, ![4096, 512]⟩
abbrev S4x64x128x128 : Shape := ⟨4, ![4, 64, 128, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S4x64x64x128, .f32⟩
  | .hbm, ⟨3, _⟩ => ⟨S4x64x64x128, .f32⟩
  | .hbm, ⟨4, _⟩ => ⟨S4x64x64, .f32⟩
  | .hbm, ⟨5, _⟩ => ⟨S4x64x64x64, .f32⟩
  | .hbm, ⟨6, _⟩ => ⟨S64x4x64x128, .f32⟩
  | .hbm, ⟨7, _⟩ => ⟨S64x4x64x128, .f32⟩
  | .hbm, ⟨8, _⟩ => ⟨S64x4x64x128, .f32⟩
  | .hbm, ⟨9, _⟩ => ⟨S64x4x64x128, .f32⟩
  | .hbm, ⟨10, _⟩ => ⟨S64x4x64, .f32⟩
  | .hbm, ⟨11, _⟩ => ⟨S64x4x64x64, .f32⟩
  | .hbm, ⟨12, _⟩ => ⟨S_, .f32⟩
  | .hbm, ⟨13, _⟩ => ⟨S4x128x128, .f32⟩
  | .hbm, ⟨14, _⟩ => ⟨S_, .f32⟩
  | .hbm, ⟨15, _⟩ => ⟨S64x4x64x128, .f32⟩
  | .hbm, ⟨16, _⟩ => ⟨S_, .f32⟩
  | .hbm, ⟨17, _⟩ => ⟨S64x4x128x128, .f32⟩
  | .hbm, ⟨18, _⟩ => ⟨S_, .i32⟩
  | .hbm, ⟨19, _⟩ => ⟨S64x4x64x128, .f32⟩
  | .hbm, ⟨20, _⟩ => ⟨S64x4x64x128, .f32⟩
  | .hbm, ⟨21, _⟩ => ⟨S64x4x64x128, .f32⟩
  | .hbm, ⟨22, _⟩ => ⟨S64x4x64x128, .f32⟩
  | .hbm, ⟨23, _⟩ => ⟨S64x4x64, .f32⟩
  | .hbm, ⟨24, _⟩ => ⟨S64x4x64x64, .f32⟩
  | .hbm, ⟨25, _⟩ => ⟨S_, .i32⟩
  | .hbm, ⟨26, _⟩ => ⟨S4x128x128, .f32⟩
  | .hbm, ⟨27, _⟩ => ⟨S64x4x64x128, .f32⟩
  | .hbm, ⟨28, _⟩ => ⟨S64x4x128x128, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x4x64x128, .f32⟩
  | .hbm, ⟨35, _⟩ => ⟨S4x64x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4x64x128, .f32⟩
  | .hbm, ⟨40, _⟩ => ⟨S4x64x128, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x64x128, .f32⟩
  | .hbm, ⟨45, _⟩ => ⟨S4x64x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x64x128, .f32⟩
  | .hbm, ⟨50, _⟩ => ⟨S4x64x128, .f32⟩
  | .hbm, ⟨51, _⟩ => ⟨S_, .i32⟩
  | .hbm, ⟨52, _⟩ => ⟨S_, .i32⟩
  | .hbm, ⟨53, _⟩ => ⟨S1x4x64, .f32⟩
  | .hbm, ⟨54, _⟩ => ⟨S4x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x4x64x64, .f32⟩
  | .hbm, ⟨59, _⟩ => ⟨S4x64x64, .f32⟩
  | .hbm, ⟨60, _⟩ => ⟨S4x64x128, .f32⟩
  | .hbm, ⟨61, _⟩ => ⟨S4x64x128, .f32⟩
  | .hbm, ⟨62, _⟩ => ⟨S4x64, .f32⟩
  | .hbm, ⟨63, _⟩ => ⟨S4x64x1, .f32⟩
  | .hbm, ⟨64, _⟩ => ⟨S4x64x128, .f32⟩
  | .hbm, ⟨65, _⟩ => ⟨S4x64x128, .f32⟩
  | .hbm, ⟨66, _⟩ => ⟨S4x64x128, .f32⟩
  | .hbm, ⟨67, _⟩ => ⟨S4x64x128, .f32⟩
  | .hbm, ⟨68, _⟩ => ⟨S4x64x128, .f32⟩
  | .hbm, ⟨69, _⟩ => ⟨S4x1, .f32⟩
  | .hbm, ⟨70, _⟩ => ⟨S4, .f32⟩
  | .hbm, ⟨71, _⟩ => ⟨S4x1, .f32⟩
  | .hbm, ⟨72, _⟩ => ⟨S4x64, .f32⟩
  | .hbm, ⟨73, _⟩ => ⟨S4x64, .f32⟩
  | .hbm, ⟨74, _⟩ => ⟨S4x64, .f32⟩
  | .hbm, ⟨75, _⟩ => ⟨S4x64x1, .f32⟩
  | .hbm, ⟨76, _⟩ => ⟨S4x64x128, .f32⟩
  | .hbm, ⟨77, _⟩ => ⟨S4x64x128, .f32⟩
  | .hbm, ⟨78, _⟩ => ⟨S4, .f32⟩
  | .hbm, ⟨79, _⟩ => ⟨S4x1x1, .f32⟩
  | .hbm, ⟨80, _⟩ => ⟨S4x128x128, .f32⟩
  | .hbm, ⟨81, _⟩ => ⟨S4x128x128, .f32⟩
  | .hbm, ⟨82, _⟩ => ⟨S4x128x128, .f32⟩
  | .hbm, ⟨83, _⟩ => ⟨S4x128x128, .f32⟩
  | .hbm, ⟨84, _⟩ => ⟨S1x4x64x128, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S64x4x64x128, .f32⟩
  | .hbm, ⟨89, _⟩ => ⟨S1x4x128x128, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S64x4x128x128, .f32⟩
  | .hbm, ⟨94, _⟩ => ⟨S_, .i32⟩
  | .hbm, ⟨95, _⟩ => ⟨S_, .i32⟩
  | .hbm, ⟨96, _⟩ => ⟨S64x64x4x128, .f32⟩
  | .hbm, ⟨97, _⟩ => ⟨S4096x512, .f32⟩
  | .hbm, ⟨98, _⟩ => ⟨S4x64x128x128, .f32⟩
  | _, _ => ⟨S4x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_c : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev main_v9_8 : Ref sig .tc := ⟨.hbm, 27, rfl⟩
abbrev main_v9_9 : Ref sig .tc := ⟨.hbm, 28, rfl⟩
abbrev main_while0c_c_11 : Ref sig .tc := ⟨.hbm, 29, rfl⟩
abbrev main_while0c_v13 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v13 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v14 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_c_1 : Ref sig .tc := ⟨.hbm, 43, rfl⟩
abbrev main_while0b_call2_v0 : Ref sig .tc := ⟨.hbm, 44, rfl⟩
abbrev main_while0b_v15 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_c_1 : Ref sig .tc := ⟨.hbm, 48, rfl⟩
abbrev main_while0b_call3_v0 : Ref sig .tc := ⟨.hbm, 49, rfl⟩
abbrev main_while0b_v16 : Ref sig .tc := ⟨.hbm, 50, rfl⟩
abbrev main_while0b_call4_c : Ref sig .tc := ⟨.hbm, 51, rfl⟩
abbrev main_while0b_call4_c_0 : Ref sig .tc := ⟨.hbm, 52, rfl⟩
abbrev main_while0b_call4_v0 : Ref sig .tc := ⟨.hbm, 53, rfl⟩
abbrev main_while0b_v17 : Ref sig .tc := ⟨.hbm, 54, rfl⟩
abbrev main_while0b_call5_c : Ref sig .tc := ⟨.hbm, 55, rfl⟩
abbrev main_while0b_call5_c_0 : Ref sig .tc := ⟨.hbm, 56, rfl⟩
abbrev main_while0b_call5_c_1 : Ref sig .tc := ⟨.hbm, 57, rfl⟩
abbrev main_while0b_call5_v0 : Ref sig .tc := ⟨.hbm, 58, rfl⟩
abbrev main_while0b_v18 : Ref sig .tc := ⟨.hbm, 59, rfl⟩
abbrev main_while0b_v19 : Ref sig .tc := ⟨.hbm, 60, rfl⟩
abbrev main_while0b_v20 : Ref sig .tc := ⟨.hbm, 61, rfl⟩
abbrev main_while0b_v21 : Ref sig .tc := ⟨.hbm, 62, rfl⟩
abbrev main_while0b_v22 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_v43 : Ref sig .tc := ⟨.hbm, 88, rfl⟩
abbrev main_while0b_call7_v0 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_c_1 : Ref sig .tc := ⟨.hbm, 92, rfl⟩
abbrev main_while0b_v44 : Ref sig .tc := ⟨.hbm, 93, rfl⟩
abbrev main_while0b_c_11 : Ref sig .tc := ⟨.hbm, 94, rfl⟩
abbrev main_while0b_v45 : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩

abbrev nD : Nat := 1
abbrev τ : Topo := Topo.v7x

variable {F : FTy → Type} [FloatOps F]

abbrev main_while0_count : Scf.Loop 32 := ⟨0#32, 64#32, 1#32⟩
-- ==== NormFwd.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutFwd.lean ====
abbrev S4096x512 : Shape := ⟨2, ![4096, 512]⟩
abbrev S128 : Shape := ⟨1, ![128]⟩
abbrev S_ : Shape := ⟨0, ![]⟩
abbrev S4096x4992 : Shape := ⟨2, ![4096, 4992]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S4096x4992, .f32⟩
  | .hbm, ⟨6, _⟩ => ⟨S1x128, .f32⟩
  | .hbm, ⟨7, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutFwdRefIdeal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S4096x4x128, .f32⟩
  | .hbm, ⟨4, _⟩ => ⟨S4096x4x128, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S4096x4x1, .f32⟩
  | .hbm, ⟨15, _⟩ => ⟨S4096x4x128, .f32⟩
  | .hbm, ⟨16, _⟩ => ⟨S4096x4x128, .f32⟩
  | .hbm, ⟨17, _⟩ => ⟨S1x1x128, .f32⟩
  | .hbm, ⟨18, _⟩ => ⟨S4096x4x128, .f32⟩
  | .hbm, ⟨19, _⟩ => ⟨S4096x4x128, .f32⟩
  | .hbm, ⟨20, _⟩ => ⟨S4096x4x128, .f32⟩
  | .hbm, ⟨21, _⟩ => ⟨S4096x4x128, .f32⟩
  | .hbm, ⟨22, _⟩ => ⟨S4096x4x128, .f32⟩
  | .hbm, ⟨23, _⟩ => ⟨S_, .f32⟩
  | .hbm, ⟨24, _⟩ => ⟨S4096x4x128, .f32⟩
  | .hbm, ⟨25, _⟩ => ⟨S4096x4x128, .f32⟩
  | .hbm, ⟨26, _⟩ => ⟨S_, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x512, .f32⟩
  | .hbm, ⟨32, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== OutNormFwd.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutNormFwdRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== GluFwd.lean ====
abbrev S4096x1024 : Shape := ⟨2, ![4096, 1024]⟩
abbrev S1024x2816 : Shape := ⟨2, ![1024, 2816]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S4096x3072 : Shape := ⟨2, ![4096, 3072]⟩
abbrev S1024x1024 : Shape := ⟨2, ![1024, 1024]⟩
abbrev S2x1024x384 : Shape := ⟨3, ![2, 1024, 384]⟩
abbrev S1024x768 : Shape := ⟨2, ![1024, 768]⟩
abbrev S1x1024x384 : Shape := ⟨3, ![1, 1024, 384]⟩
abbrev S1024x384 : Shape := ⟨2, ![1024, 384]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S1024x8x352, .f32⟩
  | .hbm, ⟨4, _⟩ => ⟨S8x1024x352, .f32⟩
  | .hbm, ⟨5, _⟩ => ⟨S_, .i32⟩
  | .hbm, ⟨6, _⟩ => ⟨S_, .f32⟩
  | .hbm, ⟨7, _⟩ => ⟨S8x1024x384, .f32⟩
  | .hbm, ⟨8, _⟩ => ⟨S8x1024x384, .bf16⟩
  | .hbm, ⟨9, _⟩ => ⟨S1024x8x352, .f32⟩
  | .hbm, ⟨10, _⟩ => ⟨S8x1024x352, .f32⟩
  | .hbm, ⟨11, _⟩ => ⟨S_, .i32⟩
  | .hbm, ⟨12, _⟩ => ⟨S_, .f32⟩
  | .hbm, ⟨13, _⟩ => ⟨S8x1024x384, .f32⟩
  | .hbm, ⟨14, _⟩ => ⟨S8x1024x384, .bf16⟩
  | .hbm, ⟨15, _⟩ => ⟨S4096x1024, .bf16⟩
  | .hbm, ⟨16, _⟩ => ⟨S4096x1024, .bf16⟩
  | .hbm, ⟨17, _⟩ => ⟨S4096x3072, .f32⟩
  | .hbm, ⟨18, _⟩ => ⟨S4096x3072, .f32⟩
  | .hbm, ⟨19, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S2x1024x384, .bf16⟩
  | .local _ .vmem, ⟨3, _⟩ => ⟨S2x1024x384, .bf16⟩
  | .local _ .vmem, ⟨4, _⟩ => ⟨S1024x1024, .bf16⟩
  | .local _ .vmem, ⟨5, _⟩ => ⟨S1024x1024, .bf16⟩
  | .local _ .vmem, ⟨6, _⟩ => ⟨S2x1024x384, .bf16⟩
  | .local _ .vmem, ⟨7, _⟩ => ⟨S2x1024x384, .bf16⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .bf16⟩
  | .local _ .vmem, ⟨13, _⟩ => ⟨S1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GluFwdRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S4096x8x352 : Shape := ⟨3, ![4096, 8, 352]⟩
abbrev S4096x8x384 : Shape := ⟨3, ![4096, 8, 384]⟩
abbrev S4096x3072 : Shape := ⟨2, ![4096, 3072]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x8x352, .f32⟩
  | .hbm, ⟨17, _⟩ => ⟨S_, .i32⟩
  | .hbm, ⟨18, _⟩ => ⟨S_, .f32⟩
  | .hbm, ⟨19, _⟩ => ⟨S4096x8x384, .f32⟩
  | .hbm, ⟨20, _⟩ => ⟨S4096x3072, .f32⟩
  | .hbm, ⟨21, _⟩ => ⟨S4096x8x352, .f32⟩
  | .hbm, ⟨22, _⟩ => ⟨S_, .i32⟩
  | .hbm, ⟨23, _⟩ => ⟨S_, .f32⟩
  | .hbm, ⟨24, _⟩ => ⟨S4096x8x384, .f32⟩
  | .hbm, ⟨25, _⟩ => ⟨S4096x3072, .f32⟩
  | .hbm, ⟨26, _⟩ => ⟨S4096x8x352, .bf16⟩
  | .hbm, ⟨27, _⟩ => ⟨S_, .i32⟩
  | .hbm, ⟨28, _⟩ => ⟨S_, .bf16⟩
  | .hbm, ⟨29, _⟩ => ⟨S4096x8x384, .bf16⟩
  | .hbm, ⟨30, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_call3_v0 : Ref sig .tc := ⟨.hbm, 28, rfl⟩
abbrev main_v12 : Ref sig .tc := ⟨.hbm, 29, rfl⟩
abbrev main_v13 : Ref sig .tc := ⟨.hbm, 30, rfl⟩

abbrev nD : Nat := 1
abbrev τ : Topo := Topo.v7x

variable {F : FTy → Type} [FloatOps F]
-- ==== BranchFwd.lean ====
abbrev S4096x2048 : Shape := ⟨2, ![4096, 2048]⟩
abbrev S4096x512 : Shape := ⟨2, ![4096, 512]⟩
abbrev S512x1024 : Shape := ⟨2, ![512, 1024]⟩
abbrev S_ : Shape := ⟨0, ![]⟩
abbrev S4096x4992 : Shape := ⟨2, ![4096, 4992]⟩
abbrev S512x8x128 : Shape := ⟨3, ![512, 8, 128]⟩
abbrev S8x512x128 : Shape := ⟨3, ![8, 512, 128]⟩
abbrev S4096x1024 : Shape := ⟨2, ![4096, 1024]⟩
abbrev S1024x512 : Shape := ⟨2, ![1024, 512]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 19
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S512x1024, .f32⟩
  | .hbm, ⟨4, _⟩ => ⟨S512x1024, .f32⟩
  | .hbm, ⟨5, _⟩ => ⟨S_, .i32⟩
  | .hbm, ⟨6, _⟩ => ⟨S_, .f32⟩
  | .hbm, ⟨7, _⟩ => ⟨S4096x4992, .f32⟩
  | .hbm, ⟨8, _⟩ => ⟨S4096x512, .bf16⟩
  | .hbm, ⟨9, _⟩ => ⟨S512x8x128, .f32⟩
  | .hbm, ⟨10, _⟩ => ⟨S8x512x128, .f32⟩
  | .hbm, ⟨11, _⟩ => ⟨S8x512x128, .bf16⟩
  | .hbm, ⟨12, _⟩ => ⟨S4096x512, .bf16⟩
  | .hbm, ⟨13, _⟩ => ⟨S512x8x128, .f32⟩
  | .hbm, ⟨14, _⟩ => ⟨S8x512x128, .f32⟩
  | .hbm, ⟨15, _⟩ => ⟨S8x512x128, .bf16⟩
  | .hbm, ⟨16, _⟩ => ⟨S4096x1024, .f32⟩
  | .hbm, ⟨17, _⟩ => ⟨S4096x1024, .f32⟩
  | .hbm, ⟨18, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S4x512x128, .bf16⟩
  | .local _ .vmem, ⟨3, _⟩ => ⟨S4x512x128, .bf16⟩
  | .local _ .vmem, ⟨4, _⟩ => ⟨S1024x512, .bf16⟩
  | .local _ .vmem, ⟨5, _⟩ => ⟨S1024x512, .bf16⟩
  | .local _ .vmem, ⟨6, _⟩ => ⟨S4x512x128, .bf16⟩
  | .local _ .vmem, ⟨7, _⟩ => ⟨S4x512x128, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BranchFwdRefIdeal.lean ====
abbrev S4096x2048 : Shape := ⟨2, ![4096, 2048]⟩
abbrev S4096x512 : Shape := ⟨2, ![4096, 512]⟩
abbrev S512x1024 : Shape := ⟨2, ![512, 1024]⟩
abbrev S_ : Shape := ⟨0, ![]⟩
abbrev S4096x2x1024 : Shape := ⟨3, ![4096, 2, 1024]⟩
abbrev S4096x1024 : Shape := ⟨2, ![4096, 1024]⟩
abbrev S4096x1x1024 : Shape := ⟨3, ![4096, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S512x1024, .f32⟩
  | .hbm, ⟨4, _⟩ => ⟨S512x1024, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2x1024, .f32⟩
  | .hbm, ⟨14, _⟩ => ⟨S4096x1024, .f32⟩
  | .hbm, ⟨15, _⟩ => ⟨S4096x1024, .f32⟩
  | .hbm, ⟨16, _⟩ => ⟨S4096x1x1024, .f32⟩
  | .hbm, ⟨17, _⟩ => ⟨S4096x1024, .f32⟩
  | .hbm, ⟨18, _⟩ => ⟨S4096x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ConvFwd.lean ====
abbrev S4096x1536 : Shape := ⟨2, ![4096, 1536]⟩
abbrev S4x1536 : Shape := ⟨2, ![4, 1536]⟩
abbrev S_ : Shape := ⟨0, ![]⟩
abbrev S4096x4992 : Shape := ⟨2, ![4096, 4992]⟩
abbrev S4096x128 : Shape := ⟨2, ![4096, 128]⟩
abbrev S4x128 : Shape := ⟨2, ![4, 128]⟩
abbrev S1x128 : Shape := ⟨2, ![1, 128]⟩
abbrev S4096 : Shape := ⟨1, ![4096]⟩
abbrev S4096x1 : Shape := ⟨2, ![4096, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S4096x4992, .f32⟩
  | .hbm, ⟨5, _⟩ => ⟨S4096x1536, .f32⟩
  | .hbm, ⟨6, _⟩ => ⟨S4096x1536, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdRefIdeal.lean ====
abbrev S4096x1536 : Shape := ⟨2, ![4096, 1536]⟩
abbrev S4x1536 : Shape := ⟨2, ![4, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 108
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S_, .f32⟩
  | .hbm, ⟨3, _⟩ => ⟨S3x1536, .f32⟩
  | .hbm, ⟨4, _⟩ => ⟨S4099x1536, .f32⟩
  | .hbm, ⟨5, _⟩ => ⟨S1x1536, .f32⟩
  | .hbm, ⟨6, _⟩ => ⟨S1536, .f32⟩
  | .hbm, ⟨7, _⟩ => ⟨S4096x1536, .f32⟩
  | .hbm, ⟨8, _⟩ => ⟨S1x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S1x1536, .f32⟩
  | .hbm, ⟨15, _⟩ => ⟨S1536, .f32⟩
  | .hbm, ⟨16, _⟩ => ⟨S4096x1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S1x1536, .f32⟩
  | .hbm, ⟨22, _⟩ => ⟨S1536, .f32⟩
  | .hbm, ⟨23, _⟩ => ⟨S4096x1536, .f32⟩
  | .hbm, ⟨24, _⟩ => ⟨S1x1536, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S1x1536, .f32⟩
  | .hbm, ⟨29, _⟩ => ⟨S1536, .f32⟩
  | .hbm, ⟨30, _⟩ => ⟨S4096x1536, .f32⟩
  | .hbm, ⟨31, _⟩ => ⟨S1x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x4x128, .f32⟩
  | .hbm, ⟨48, _⟩ => ⟨S4096x4x128, .f32⟩
  | .hbm, ⟨49, _⟩ => ⟨S_, .f32⟩
  | .hbm, ⟨50, _⟩ => ⟨S4096x4, .f32⟩
  | .hbm, ⟨51, _⟩ => ⟨S4096x4x1, .f32⟩
  | .hbm, ⟨52, _⟩ => ⟨S_, .f32⟩
  | .hbm, ⟨53, _⟩ => ⟨S4096x4x1, .f32⟩
  | .hbm, ⟨54, _⟩ => ⟨S4096x4x1, .f32⟩
  | .hbm, ⟨55, _⟩ => ⟨S4096x4x1, .f32⟩
  | .hbm, ⟨56, _⟩ => ⟨S4096x4x128, .f32⟩
  | .hbm, ⟨57, _⟩ => ⟨S4096x4x128, .f32⟩
  | .hbm, ⟨58, _⟩ => ⟨S_, .f32⟩
  | .hbm, ⟨59, _⟩ => ⟨S4096x4x128, .f32⟩
  | .hbm, ⟨60, _⟩ => ⟨S4096x4x128, .f32⟩
  | .hbm, ⟨61, _⟩ => ⟨S4096x4x128, .f32⟩
  | .hbm, ⟨62, _⟩ => ⟨S4096x4x128, .f32⟩
  | .hbm, ⟨63, _⟩ => ⟨S_, .f32⟩
  | .hbm, ⟨64, _⟩ => ⟨S4096x4, .f32⟩
  | .hbm, ⟨65, _⟩ => ⟨S4096x4x1, .f32⟩
  | .hbm, ⟨66, _⟩ => ⟨S_, .f32⟩
  | .hbm, ⟨67, _⟩ => ⟨S4096x4x1, .f32⟩
  | .hbm, ⟨68, _⟩ => ⟨S4096x4x1, .f32⟩
  | .hbm, ⟨69, _⟩ => ⟨S4096x4x1, .f32⟩
  | .hbm, ⟨70, _⟩ => ⟨S4096x4x128, .f32⟩
  | .hbm, ⟨71, _⟩ => ⟨S4096x4x128, .f32⟩
  | .hbm, ⟨72, _⟩ => ⟨S4096x512, .f32⟩
  | .hbm, ⟨73, _⟩ => ⟨S4096x512, .f32⟩
  | .hbm, ⟨74, _⟩ => ⟨S4096x1536, .f32⟩
  | .hbm, ⟨75, _⟩ => ⟨S_, .f32⟩
  | .hbm, ⟨76, _⟩ => ⟨S3x1536, .f32⟩
  | .hbm, ⟨77, _⟩ => ⟨S4099x1536, .f32⟩
  | .hbm, ⟨78, _⟩ => ⟨S1x1536, .f32⟩
  | .hbm, ⟨79, _⟩ => ⟨S1536, .f32⟩
  | .hbm, ⟨80, _⟩ => ⟨S4096x1536, .f32⟩
  | .hbm, ⟨81, _⟩ => ⟨S1x1536, .f32⟩
  | .hbm, ⟨82, _⟩ => ⟨S4096x1536, .f32⟩
  | .hbm, ⟨83, _⟩ => ⟨S4096x1536, .f32⟩
  | .hbm, ⟨84, _⟩ => ⟨S_, .f32⟩
  | .hbm, ⟨85, _⟩ => ⟨S4096x1536, .f32⟩
  | .hbm, ⟨86, _⟩ => ⟨S4096x1536, .f32⟩
  | .hbm, ⟨87, _⟩ => ⟨S1x1536, .f32⟩
  | .hbm, ⟨88, _⟩ => ⟨S1536, .f32⟩
  | .hbm, ⟨89, _⟩ => ⟨S4096x1536, .f32⟩
  | .hbm, ⟨90, _⟩ => ⟨S1x1536, .f32⟩
  | .hbm, ⟨91, _⟩ => ⟨S4096x1536, .f32⟩
  | .hbm, ⟨92, _⟩ => ⟨S4096x1536, .f32⟩
  | .hbm, ⟨93, _⟩ => ⟨S4096x1536, .f32⟩
  | .hbm, ⟨94, _⟩ => ⟨S1x1536, .f32⟩
  | .hbm, ⟨95, _⟩ => ⟨S1536, .f32⟩
  | .hbm, ⟨96, _⟩ => ⟨S4096x1536, .f32⟩
  | .hbm, ⟨97, _⟩ => ⟨S1x1536, .f32⟩
  | .hbm, ⟨98, _⟩ => ⟨S4096x1536, .f32⟩
  | .hbm, ⟨99, _⟩ => ⟨S4096x1536, .f32⟩
  | .hbm, ⟨100, _⟩ => ⟨S4096x1536, .f32⟩
  | .hbm, ⟨101, _⟩ => ⟨S1x1536, .f32⟩
  | .hbm, ⟨102, _⟩ => ⟨S1536, .f32⟩
  | .hbm, ⟨103, _⟩ => ⟨S4096x1536, .f32⟩
  | .hbm, ⟨104, _⟩ => ⟨S1x1536, .f32⟩
  | .hbm, ⟨105, _⟩ => ⟨S4096x1536, .f32⟩
  | .hbm, ⟨106, _⟩ => ⟨S4096x1536, .f32⟩
  | .hbm, ⟨107, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩

abbrev nD : Nat := 1
abbrev τ : Topo := Topo.v7x

variable {F : FTy → Type} [FloatOps F]
-- ==== GateFwd.lean ====
abbrev S4096x4 : Shape := ⟨2, ![4096, 4]⟩
abbrev S4 : Shape := ⟨1, ![4]⟩
abbrev S4096x8 : Shape := ⟨2, ![4096, 8]⟩
abbrev S_ : Shape := ⟨0, ![]⟩
abbrev S4096x4992 : Shape := ⟨2, ![4096, 4992]⟩
abbrev S1x4 : Shape := ⟨2, ![1, 4]⟩
abbrev S1x4x128 : Shape := ⟨3, ![1, 4, 128]⟩
abbrev S1x512 : Shape := ⟨2, ![1, 512]⟩
abbrev S1x8 : Shape := ⟨2, ![1, 8]⟩
abbrev S1x128 : Shape := ⟨2, ![1, 128]⟩
abbrev S128x512 : Shape := ⟨2, ![128, 512]⟩
abbrev S512x128 : Shape := ⟨2, ![512, 128]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 55
  | .vmem => 12
  | .smem => 0
  | _ => 0

abbrev bufTy : (tb : Table) → Fin (tcTables nBuf tb) → BufTy
  | .hbm, ⟨0, _⟩ => ⟨S4096x4, .f32⟩
  | .hbm, ⟨1, _⟩ => ⟨S4096x4, .f32⟩
  | .hbm, ⟨2, _⟩ => ⟨S4, .f32⟩
  | .hbm, ⟨3, _⟩ => ⟨S4, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S4096x4992, .f32⟩
  | .hbm, ⟨8, _⟩ => ⟨S1x4, .f32⟩
  | .hbm, ⟨9, _⟩ => ⟨S1x4x128, .f32⟩
  | .hbm, ⟨10, _⟩ => ⟨S1x512, .f32⟩
  | .hbm, ⟨11, _⟩ => ⟨S1x4, .f32⟩
  | .hbm, ⟨12, _⟩ => ⟨S_, .i32⟩
  | .hbm, ⟨13, _⟩ => ⟨S_, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S128x512, .i32⟩
  | .hbm, ⟨19, _⟩ => ⟨S_, .i32⟩
  | .hbm, ⟨20, _⟩ => ⟨S128x512, .i32⟩
  | .hbm, ⟨21, _⟩ => ⟨S128x512, .i32⟩
  | .hbm, ⟨22, _⟩ => ⟨S128x512, .i32⟩
  | .hbm, ⟨23, _⟩ => ⟨S128x512, .i1⟩
  | .hbm, ⟨24, _⟩ => ⟨S_, .i32⟩
  | .hbm, ⟨25, _⟩ => ⟨S128x512, .i32⟩
  | .hbm, ⟨26, _⟩ => ⟨S128x512, .i32⟩
  | .hbm, ⟨27, _⟩ => ⟨S128x512, .i1⟩
  | .hbm, ⟨28, _⟩ => ⟨S128x512, .i1⟩
  | .hbm, ⟨29, _⟩ => ⟨S_, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .i32⟩
  | .hbm, ⟨35, _⟩ => ⟨S128x512, .i32⟩
  | .hbm, ⟨36, _⟩ => ⟨S128x512, .i32⟩
  | .hbm, ⟨37, _⟩ => ⟨S128x512, .i1⟩
  | .hbm, ⟨38, _⟩ => ⟨S_, .i32⟩
  | .hbm, ⟨39, _⟩ => ⟨S128x512, .i32⟩
  | .hbm, ⟨40, _⟩ => ⟨S128x512, .i32⟩
  | .hbm, ⟨41, _⟩ => ⟨S_, .i32⟩
  | .hbm, ⟨42, _⟩ => ⟨S128x512, .i32⟩
  | .hbm, ⟨43, _⟩ => ⟨S128x512, .i32⟩
  | .hbm, ⟨44, _⟩ => ⟨S128x512, .i1⟩
  | .hbm, ⟨45, _⟩ => ⟨S128x512, .i1⟩
  | .hbm, ⟨46, _⟩ => ⟨S_, .f32⟩
  | .hbm, ⟨47, _⟩ => ⟨S_, .f32⟩
  | .hbm, ⟨48, _⟩ => ⟨S128x512, .f32⟩
  | .hbm, ⟨49, _⟩ => ⟨S128x512, .f32⟩
  | .hbm, ⟨50, _⟩ => ⟨S128x512, .f32⟩
  | .hbm, ⟨51, _⟩ => ⟨S512x128, .f32⟩
  | .hbm, ⟨52, _⟩ => ⟨S512x128, .f32⟩
  | .hbm, ⟨53, _⟩ => ⟨S4096x512, .f32⟩
  | .hbm, ⟨54, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S128x512, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_4 : Ref sig .tc := ⟨.hbm, 30, rfl⟩
abbrev main_call3_v0 : Ref sig .tc := ⟨.hbm, 31, rfl⟩
abbrev main_call3_v1 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_cst_9 : Ref sig .tc := ⟨.hbm, 47, rfl⟩
abbrev main_call4_v0 : Ref sig .tc := ⟨.hbm, 48, rfl⟩
abbrev main_call4_v1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateFwdRefIdeal.lean ====
abbrev S4096x4 : Shape := ⟨2, ![4096, 4]⟩
abbrev S4 : Shape := ⟨1, ![4]⟩
abbrev S_ : Shape := ⟨0, ![]⟩
abbrev S1x4 : Shape := ⟨2, ![1, 4]⟩
abbrev S4096x4x128 : Shape := ⟨3, ![4096, 4, 128]⟩
abbrev S4096x512 : Shape := ⟨2, ![4096, 512]⟩

abbrev nBuf : Space → Nat
  | .hbm => 38
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4096x4, .f32⟩
  | .hbm, ⟨2, _⟩ => ⟨S4, .f32⟩
  | .hbm, ⟨3, _⟩ => ⟨S4, .f32⟩
  | .hbm, ⟨4, _⟩ => ⟨S4096x4, .f32⟩
  | .hbm, ⟨5, _⟩ => ⟨S4096x4, .f32⟩
  | .hbm, ⟨6, _⟩ => ⟨S_, .f32⟩
  | .hbm, ⟨7, _⟩ => ⟨S4096x4, .f32⟩
  | .hbm, ⟨8, _⟩ => ⟨S4096x4, .f32⟩
  | .hbm, ⟨9, _⟩ => ⟨S_, .f32⟩
  | .hbm, ⟨10, _⟩ => ⟨S4096x4, .f32⟩
  | .hbm, ⟨11, _⟩ => ⟨S4096x4, .f32⟩
  | .hbm, ⟨12, _⟩ => ⟨S4, .f32⟩
  | .hbm, ⟨13, _⟩ => ⟨S4, .f32⟩
  | .hbm, ⟨14, _⟩ => ⟨S1x4, .f32⟩
  | .hbm, ⟨15, _⟩ => ⟨S4096x4, .f32⟩
  | .hbm, ⟨16, _⟩ => ⟨S4096x4, .f32⟩
  | .hbm, ⟨17, _⟩ => ⟨S_, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4, .f32⟩
  | .hbm, ⟨22, _⟩ => ⟨S4096x4, .i1⟩
  | .hbm, ⟨23, _⟩ => ⟨S4096x4, .f32⟩
  | .hbm, ⟨24, _⟩ => ⟨S4096x4, .f32⟩
  | .hbm, ⟨25, _⟩ => ⟨S4096x4, .f32⟩
  | .hbm, ⟨26, _⟩ => ⟨S4096x4, .f32⟩
  | .hbm, ⟨27, _⟩ => ⟨S4096x4, .f32⟩
  | .hbm, ⟨28, _⟩ => ⟨S4096x4, .f32⟩
  | .hbm, ⟨29, _⟩ => ⟨S4096x4, .f32⟩
  | .hbm, ⟨30, _⟩ => ⟨S4096x4, .f32⟩
  | .hbm, ⟨31, _⟩ => ⟨S1x4, .f32⟩
  | .hbm, ⟨32, _⟩ => ⟨S4096x4, .f32⟩
  | .hbm, ⟨33, _⟩ => ⟨S4096x4, .f32⟩
  | .hbm, ⟨34, _⟩ => ⟨S4096x4x128, .f32⟩
  | .hbm, ⟨35, _⟩ => ⟨S4096x512, .f32⟩
  | .hbm, ⟨36, _⟩ => ⟨S4096x4x128, .f32⟩
  | .hbm, ⟨37, _⟩ => ⟨S4096x512, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Proof.ActBwd.Kernel.lean ====
/- What the activation's backward kernel leaves in its two results, in coordinates of the whole arrays. -/
module

public import proofs.«01_k».proof.Proof.Gen.ActBwdIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActBwdIdeal.Val

open Cert.ActBwdIdeal Cert.ActBwdIdeal.Gen

variable (m : (ℓ : Loc nD τ sig) → Buf (Elt Ideal) ℓ)

/-- The block of every window at every grid point. -/
theorem idx : ∀ t : Fin cfg0.N, win0_0.index t = ![t.val % 4, 0]
    ∧ win0_1.index t = ![t.val / 4, 0]
    ∧ win0_2.index t = ![t.val % 4, t.val / 4]
    ∧ win0_3.index t = ![t.val % 4, t.val / 4]
    ∧ win0_4.index t = ![t.val % 4, t.val / 4]
    ∧ win0_5.index t = ![t.val % 4, t.val / 4] :=
  (by decide +kernel : ∀ t : Fin grid0.N, _)

/-- The product that both results are made of: a row of the cotangent with a row of the weight. -/
def dact (D : FVec Ideal S4096x1024 .bf16) (W : FVec Ideal S3072x1024 .bf16) (i : S4096x3072.Idx) : EReal :=
  ∑ k : Fin 1024, D (ix2 (i 0) k) * W (ix2 (i 1) k)

/-- The gate's gradient over the padded arrays. -/
def K4 (D : FVec Ideal S4096x1024 .bf16) (W : FVec Ideal S3072x1024 .bf16) (G U : FVec Ideal S4096x3072 .f32) : FVec Ideal S4096x3072 .bf16 := fun i =>
  dact D W i * U i * Ideal.logistic (G i) + G i * (dact D W i * U i) * (Ideal.logistic (G i) * (1 - Ideal.logistic (G i)))

/-- The gradient of the other factor over the padded arrays. -/
def K5 (D : FVec Ideal S4096x1024 .bf16) (W : FVec Ideal S3072x1024 .bf16) (G U : FVec Ideal S4096x3072 .f32) : FVec Ideal S4096x3072 .bf16 := fun i =>
  G i * Ideal.logistic (G i) * dact D W i

/-- What one point stores in the gate's gradient, at an index of the block. -/
theorem point_4 (c : Dev nD) (t : Fin cfg0.N) (y) :
    k0_pay4 (iblk m c 0 t) (iblk m c 1 t) (iblk m c 2 t) (iblk m c 3 t) y
      = K4 (V m c main_v10) (V m c main_v3) (V m c main_v6) (V m c main_v9) (((cfg0.win 4).blk t).view.emb y) := by
  pointwise [k0_pay4, k0_pay3, k0_pay2, k0_pay1, K4, dact]
  blk_point [iblk, idx t]

/-- What one point stores in the other factor's gradient, at an index of the block. -/
theorem point_5 (c : Dev nD) (t : Fin cfg0.N) (y) :
    k0_pay5 (iblk m c 0 t) (iblk m c 1 t) (iblk m c 2 t) y
      = K5 (V m c main_v10) (V m c main_v3) (V m c main_v6) (V m c main_v9) (((cfg0.win 5).blk t).view.emb y) := by
  pointwise [k0_pay5, k0_pay3, k0_pay2, k0_pay1, K5, dact]
  blk_point [iblk, idx t]

/-- The gate's gradient after the run. -/
theorem arr_4 (c : Dev nD) : (dats m 0 c).arrAt 4 (cfgs 0).N = K4 (V m c main_v10) (V m c main_v3) (V m c main_v6) (V m c main_v9) := by
  refine (dats m 0 c).arrAt_eq_of_covers 4 _ (by decide +kernel) fun t hf y => ?_
  blk_simp; rw [after0_4]; frame_out
  exact point_4 m c t y

/-- The other factor's gradient after the run. -/
theorem arr_5 (c : Dev nD) : (dats m 0 c).arrAt 5 (cfgs 0).N = K5 (V m c main_v10) (V m c main_v3) (V m c main_v6) (V m c main_v9) := by
  refine (dats m 0 c).arrAt_eq_of_covers 5 _ (by decide +kernel) fun t hf y => ?_
  blk_simp; rw [after0_5]; frame_out
  exact point_5 m c t y

end Cert.ActBwdIdeal.Val
end
-- ==== Proof.Common.lean ====
/- Facts that several of the calls use: zeros on the host, sums over padded columns, a factor in front of a sum, the softplus, sums over selected lanes. -/
module

public import Idealize.ShloMosaic.Lib.Pipeline.ValueKit
public import Idealize.ShloMosaic.Lib.Pointwise
public import Idealize.ShloMosaic.PureOps.Ideal.Laws

@[expose] public section

noncomputable section

open Idealize.ShloMosaic

namespace Cert.Common

/-- The integer zero is the real zero. -/
theorem sitofp_zero (φ : FTy) : (FloatOps.sitofp φ (0#32 : BitVec 32) : Ideal φ) = (0 : EReal) := by
  show ((((0#32 : BitVec 32).toInt : ℝ)) : EReal) = 0
  simp

/-- A sum over columns of which `n` in every `p` carry a term is the sum of those terms. -/
theorem sum_padded {A p n L M : ℕ} (hn : n ≤ p) (hL : L = A * p) (hM : M = A * n) (f : Fin M → EReal) (g : Fin L → EReal)
    (hin : ∀ (a : Fin A) (e : Fin n) (h1 : a.val * p + e.val < L) (h2 : a.val * n + e.val < M), g ⟨a.val * p + e.val, h1⟩ = f ⟨a.val * n + e.val, h2⟩)
    (hout : ∀ (a : Fin A) (e : Fin p) (h1 : a.val * p + e.val < L), n ≤ e.val → g ⟨a.val * p + e.val, h1⟩ = 0) :
    ∑ l : Fin L, g l = ∑ q : Fin M, f q := by
  rw [← Fin.sum_mul_add_fin A p g hL, ← Fin.sum_mul_add_fin A n f hM]
  refine Finset.sum_congr rfl fun a _ => ?_
  obtain ⟨d, rfl⟩ := Nat.exists_eq_add_of_le hn
  rw [Fin.sum_univ_add]
  rw [Finset.sum_eq_zero (s := Finset.univ (α := Fin d)) fun e _ => hout a (Fin.natAdd n e) _ (by simp), add_zero]
  exact Finset.sum_congr rfl fun e _ => hin a e _ _

/-- A nonnegative finite factor goes into a sum. -/
theorem mul_sum_of_nonneg {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The float words of the literals that several calls use, as numbers. -/
theorem lit_1024 : Ideal.ofBits .f32 0x44800000#32 = ((1024 : ℝ) : EReal) := by
  simp [Ideal.ofBits, Ideal.ieee, -EReal.coe_mul]; norm_num

theorem lit_inv_1024 : Ideal.ofBits .f32 0x3A800000#32 = ((1 / 1024 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- The norms' small constant is a positive real. -/
theorem lit_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- The scale of the queries is a real. -/
theorem lit_scale : ∃ r : ℝ, Ideal.ofBits .f32 0x3DB504F3#32 = (r : EReal) := by
  refine ⟨11863283 * (2 : ℝ) ^ (-27 : ℤ), ?_⟩
  simp [Ideal.ofBits, Ideal.ieee, -EReal.coe_mul]

/-- A finite sum of reals is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem lit_inf : Ideal.ofBits .f32 0x7F800000#32 = (⊤ : EReal) := by
  simp [Ideal.ofBits, Ideal.ieee]

/-- An array whose absolute values all compare below infinity is an array of reals. -/
theorem real_of_finite {s : Shape} (x b : FVec Ideal s .f32) (hb : ∀ i, b i = Ideal.ofBits .f32 0x7F800000#32)
    (h : cmpf .olt (Host.absf x) b = fun _ => 1#1) : ∃ f : s.Idx → ℝ, x = fun i => (f i : EReal) := by
  have key : ∀ i, ∃ r : ℝ, (x i : EReal) = (r : EReal) := fun i => by
    have hi : Ideal.cmp .olt (max (x i : EReal) (-(x i : EReal))) (b i) = 1#1 := congrFun h i
    rw [hb i, lit_inf] at hi
    have hlt : max (x i : EReal) (-(x i : EReal)) < ⊤ := by
      by_contra hn
      simp only [Ideal.cmp, decide_eq_false hn] at hi
      exact absurd hi (by decide)
    have h1 : (x i : EReal) ≠ ⊤ := fun e => by rw [e] at hlt; simp at hlt
    have h2 : (x i : EReal) ≠ ⊥ := fun e => by rw [e] at hlt; simp at hlt
    exact ⟨(x i : EReal).toReal, (EReal.coe_toReal h1 h2).symm⟩
  choose f hf using key
  exact ⟨f, funext hf⟩

/-- The reciprocal root of a positive real: its square times the real is one. -/
theorem rsqrt_pos (s : ℝ) (hs : 0 < s) : ∃ ρ : ℝ, 0 < ρ ∧ ρ * ρ * s = 1 ∧ Ideal.rsqrt (s : EReal) = (ρ : EReal) := by
  refine ⟨(Real.sqrt s)⁻¹, by positivity, ?_, ?_⟩
  · have := Real.mul_self_sqrt hs.le
    have h : Real.sqrt s ≠ 0 := (Real.sqrt_pos.mpr hs).ne'
    field_simp
    rw [Real.sq_sqrt hs.le]
  · rw [Ideal.rsqrt_coe, if_neg (by linarith), if_neg hs.ne']

/-- A row's mean square over the row length `n`, with the norm's small constant. -/
def meanSq (n : EReal) {L : ℕ} (x : Fin L → EReal) : EReal :=
  Ideal.div (∑ k, x k * x k) n + Ideal.ofBits .f32 897988541#32

/-- What the mean square's share of a norm's gradient multiplies a row with: `s` is the cotangent times the gain. -/
def normPull (n : EReal) {L : ℕ} (x s : Fin L → EReal) : EReal :=
  Ideal.div ((∑ k, x k * s k) * (Ideal.ofBits .f32 3204448256#32 * Ideal.div (Ideal.rsqrt (meanSq n x)) (meanSq n x))) n

/-- A norm's gradient in a row: `s` is the cotangent times the gain. -/
def normGrad (n : EReal) {L : ℕ} (x s : Fin L → EReal) (j : Fin L) : EReal :=
  s j * Ideal.rsqrt (meanSq n x) + x j * normPull n x s + normPull n x s * x j

/-- A sum over the first two of three axes, term by term. -/
theorem reduce_front {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  have fib : ∀ i : (⟨3, ![n0, n1, n2]⟩ : Shape).Idx, h.drop i = ix1 j ↔ ∃ k : Fin n0 × Fin n1, ix3 k.1 k.2 j = i := by
    intro i
    constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  refine congrArg (init + ·) ((Finset.sum_filter_eq_sum_of_fiber _ (fun k : Fin n0 × Fin n1 => ix3 k.1 k.2 j)
    (fun _ _ e => Prod.ext (congrFun e 0) (congrFun e 1)) fib v).trans ?_)
  simp only [Fintype.sum_prod_type]

/-- The softplus. -/
def soft (x : EReal) : EReal := if x ≠ x then x else max x 0 + Ideal.log1p (Ideal.exp (-FloatOps.absf (F := Ideal) (φ := .f32) x))

/-- The selected sum that the kernel takes in three parts: of `f`, of what its narrowed value leaves, and of what that leaves. -/
def pieces {n : ℕ} (f s : Fin n → EReal) : EReal :=
  ∑ x, f x * s x + (∑ x, (f x - f x) * s x + ∑ x, (f x - f x - (f x - f x)) * s x)

/-- Being a real number. -/
def IsReal (x : EReal) : Prop := ∃ r : ℝ, x = r

/-- Where every selected summand is a real number, the sum in three parts is the plain one. -/
theorem pieces_eq {n : ℕ} (f s : Fin n → EReal) (h : ∀ x, s x = 0 ∨ IsReal (f x)) : pieces f s = ∑ x, f x * s x := by
  have a : ∀ x, (f x - f x) * s x = 0 := fun x => by
    rcases h x with e | ⟨r, e⟩
    · rw [e, mul_zero]
    · rw [e, ← EReal.coe_sub, sub_self, EReal.coe_zero, zero_mul]
  have b : ∀ x, (f x - f x - (f x - f x)) * s x = 0 := fun x => by
    rcases h x with e | ⟨r, e⟩
    · rw [e, mul_zero]
    · rw [e, ← EReal.coe_sub, sub_self, ← EReal.coe_sub, sub_self, EReal.coe_zero, zero_mul]
  rw [pieces, Finset.sum_congr rfl fun x _ => a x, Finset.sum_congr rfl fun x _ => b x, Finset.sum_const_zero, add_zero, add_zero]

/-- The softplus of a real number is one. -/
theorem soft_real {x : EReal} (h : IsReal x) : IsReal (soft x) := by
  obtain ⟨r, rfl⟩ := h
  have e : Ideal.log1p (Ideal.exp (-FloatOps.absf (F := Ideal) (φ := .f32) (r : EReal))) = ((Real.log (1 + Real.exp (-max r (-r))) : ℝ) : EReal) := by
    show Ideal.log (1 + Ideal.exp (-(max (r : EReal) (-(r : EReal))))) = _
    rw [← EReal.coe_neg, ← EReal.coe_strictMono.monotone.map_max, ← EReal.coe_neg, Ideal.exp_coe, ← EReal.coe_one, ← EReal.coe_add, Ideal.log_coe,
      if_neg (not_le.mpr (by positivity))]
  refine ⟨max r 0 + Real.log (1 + Real.exp (-max r (-r))), ?_⟩
  rw [soft, if_neg (not_not.mpr rfl), e, ← EReal.coe_zero, ← EReal.coe_strictMono.monotone.map_max, ← EReal.coe_add]

end Cert.Common
end
-- ==== Proof.ActBwd.Entry.lean ====
/- What the activation's backward kernel is started on: the arguments with zeros between the devices' parts. -/
module

public import proofs.«01_k».proof.Proof.ActBwd.Kernel
public import proofs.«01_k».proof.Proof.Common
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.ActBwdIdeal.Val

open Cert.ActBwdIdeal Cert.ActBwdIdeal.Gen

variable (m : (ℓ : Loc nD τ sig) → Buf (Elt Ideal) ℓ)

/-- A weight with zero rows after every part of 352. -/
def padRows (w : FVec Ideal S2816x1024 .f32) : FVec Ideal S3072x1024 .bf16 := fun i =>
  if h : (i 0).val / 384 < 8 ∧ (i 0).val % 384 < 352 then w (ix2 ⟨(i 0).val / 384 * 352 + (i 0).val % 384, by omega⟩ (i 1)) else (0 : EReal)

/-- An array with zero columns after every part of 352. -/
def padCols (x : FVec Ideal S4096x2816 .f32) : FVec Ideal S4096x3072 .f32 := fun i =>
  if h : (i 1).val / 384 < 8 ∧ (i 1).val % 384 < 352 then x (ix2 (i 0) ⟨(i 1).val / 384 * 352 + (i 1).val % 384, by omega⟩) else (0 : EReal)

theorem V3 (c : Dev nD) : V m c main_v3 = padRows (m ((c : Thread nD τ).loc main_arg2)) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i; idx_vars i
  pointwise [Cert.Common.sitofp_zero, padRows]

theorem V6 (c : Dev nD) : V m c main_v6 = padCols (m ((c : Thread nD τ).loc main_arg0)) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i; idx_vars i
  pointwise [Cert.Common.sitofp_zero, padCols]

theorem V9 (c : Dev nD) : V m c main_v9 = padCols (m ((c : Thread nD τ).loc main_arg1)) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i; idx_vars i
  pointwise [Cert.Common.sitofp_zero, padCols]

theorem V10 (c : Dev nD) : V m c main_v10 = (m ((c : Thread nD τ).loc main_arg3) : FVec Ideal S4096x1024 .f32) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i
  pointwise

end Cert.ActBwdIdeal.Val
end
-- ==== Proof.ActBwd.Equal.lean ====
/- The activation's backward kernel computes the gradients of the plain forward lines. -/
module

public import proofs.«01_k».proof.Proof.ActBwd.Entry
public import proofs.«01_k».proof.Proof.Gen.ActBwdRefIdeal.Read
public import proofs.«01_k».proof.Defs
public import proofs.«01_k».proof.Proof.Gen.ActBwd

@[expose] public section

set_option maxRecDepth 16384

noncomputable section

open Idealize.ShloMosaic Idealize.ShloMosaic.TcCoe Idealize.SL.Sem

namespace Cert.ActBwdRefIdeal.Val
open Cert.ActBwdRefIdeal Cert.ActBwdRefIdeal.Gen Cert.ActBwdRefIdeal.Read

/-- The product that both results are made of: a row of the cotangent with a row of the weight. -/
def dprod (w : FVec Ideal S2816x1024 .f32) (dy : FVec Ideal S4096x1024 .f32) (r : Fin 4096) (q : Fin 2816) : EReal :=
  ∑ k : Fin 1024, dy (ix2 r k) * w (ix2 q k)

/-- The gate's gradient at a row and an unpadded column. -/
def dgate (g u : FVec Ideal S4096x2816 .f32) (w : FVec Ideal S2816x1024 .f32) (dy : FVec Ideal S4096x1024 .f32) (r : Fin 4096) (q : Fin 2816) : EReal :=
  dprod w dy r q * u (ix2 r q) * Ideal.logistic (g (ix2 r q))
    + g (ix2 r q) * (dprod w dy r q * u (ix2 r q)) * (Ideal.logistic (g (ix2 r q)) * (1 - Ideal.logistic (g (ix2 r q))))

/-- The other factor's gradient at a row and an unpadded column. -/
def dup (g : FVec Ideal S4096x2816 .f32) (w : FVec Ideal S2816x1024 .f32) (dy : FVec Ideal S4096x1024 .f32) (r : Fin 4096) (q : Fin 2816) : EReal :=
  g (ix2 r q) * Ideal.logistic (g (ix2 r q)) * dprod w dy r q

/-- The reference's first result: the gate's gradient where a column is a device's own, zero in between. -/
theorem ref10 (x0 x1 : FVec Ideal S4096x2816 .f32) (x2 : FVec Ideal S2816x1024 .f32) (x3 : FVec Ideal S4096x1024 .f32) (i : S4096x3072.Idx) :
    val_main_v10 (F := Ideal) x0 x1 x2 x3 i = (if h : (i 1).val / 384 < 8 ∧ (i 1).val % 384 < 352 then
      dgate x0 x1 x2 x3 (i 0) ⟨(i 1).val / 384 * 352 + (i 1).val % 384, by omega⟩ else 0 : EReal) := by
  idx_vars i
  pointwise [val_main_v10, val_main_v9, val_main_v8, val_main_v7, val_main_v6, val_main_v5, val_main_v3, val_main_call1_v0, val_main_call1_v1,
    val_main_call1_v2, val_main_call0_v7, val_main_v0_2, val_main_v0_1, val_main_call0_v6, val_main_call0_cst_1, val_main_call0_v4,
    val_main_call0_v3, val_main_call0_v2, val_main_call0_v1, val_main_call0_v0, val_main_call0_cst_0, val_main_call0_cst, val_main_call2_v0,
    val_main_c, Cert.Common.sitofp_zero, dgate, dprod]
  rfl

/-- The reference's second result: the other factor's gradient, laid out the same way. -/
theorem ref14 (x0 x1 : FVec Ideal S4096x2816 .f32) (x2 : FVec Ideal S2816x1024 .f32) (x3 : FVec Ideal S4096x1024 .f32) (i : S4096x3072.Idx) :
    val_main_v14 (F := Ideal) x0 x2 x3 i = (if h : (i 1).val / 384 < 8 ∧ (i 1).val % 384 < 352 then
      dup x0 x2 x3 (i 0) ⟨(i 1).val / 384 * 352 + (i 1).val % 384, by omega⟩ else 0 : EReal) := by
  idx_vars i
  pointwise [val_main_v14, val_main_v13, val_main_v12, val_main_v11, val_main_v4, val_main_v3, val_main_v0_0, val_main_v0_2, val_main_call0_v4,
    val_main_call0_v3, val_main_call0_v2, val_main_call0_v1, val_main_call0_v0, val_main_call0_cst_0, val_main_call0_cst, val_main_call3_v0,
    val_main_c_0, Cert.Common.sitofp_zero, dup, dprod]
  rfl

end Cert.ActBwdRefIdeal.Val

namespace Cert.ActBwdIdeal.Val
open Cert.ActBwdIdeal Cert.ActBwdIdeal.Gen

variable (m : (ℓ : Loc nD τ sig) → Buf (Elt Ideal) ℓ)

/-- At a column that a device owns the product over the padded weight is the plain one. -/
theorem dact_own (D : FVec Ideal S4096x1024 .f32) (w : FVec Ideal S2816x1024 .f32) (i : S4096x3072.Idx)
    (h : (i 1).val / 384 < 8 ∧ (i 1).val % 384 < 352) :
    dact D (padRows w) i = Cert.ActBwdRefIdeal.Val.dprod w D (i 0) ⟨(i 1).val / 384 * 352 + (i 1).val % 384, by omega⟩ :=
  Finset.sum_congr rfl fun k _ => congrArg (D (ix2 (i 0) k) * ·) (dif_pos h)

/-- The gate's gradient of the kernel is the reference's. -/
theorem eq_4 (c : Dev nD) : (dats m 0 c).arrAt 4 (cfgs 0).N = Cert.ActBwdRefIdeal.Read.val_main_v10 (F := Ideal)
    (m ((c : Thread nD τ).loc main_arg0)) (m ((c : Thread nD τ).loc main_arg1)) (m ((c : Thread nD τ).loc main_arg2)) (m ((c : Thread nD τ).loc main_arg3)) := by
  rw [arr_4, V3, V6, V9, V10]; funext i
  refine Eq.trans ?_ (Cert.ActBwdRefIdeal.Val.ref10 _ _ _ _ i).symm
  simp only [K4, padCols]
  by_cases h : (i 1).val / 384 < 8 ∧ (i 1).val % 384 < 352
  · simp only [dif_pos h]; rw [dact_own _ _ _ h]; rfl
  · simp only [dif_neg h, mul_zero, zero_mul, add_zero]

/-- The other factor's gradient of the kernel is the reference's. -/
theorem eq_5 (c : Dev nD) : (dats m 0 c).arrAt 5 (cfgs 0).N = Cert.ActBwdRefIdeal.Read.val_main_v14 (F := Ideal)
    (m ((c : Thread nD τ).loc main_arg0)) (m ((c : Thread nD τ).loc main_arg2)) (m ((c : Thread nD τ).loc main_arg3)) := by
  rw [arr_5, V3, V6, V9, V10]; funext i
  refine Eq.trans ?_ (Cert.ActBwdRefIdeal.Val.ref14 _ (m ((c : Thread nD τ).loc main_arg1)) _ _ i).symm
  simp only [K5, padCols]
  by_cases h : (i 1).val / 384 < 8 ∧ (i 1).val % 384 < 352
  · simp only [dif_pos h]; rw [dact_own _ _ _ h]; rfl
  · simp only [dif_neg h, mul_zero, zero_mul, add_zero]

/-- The reference runs, leaves its arguments as they were and every counter at zero. -/
theorem frame_ref : Cert.quiescent_ActBwdRefIdeal := fun m g _ =>
  (θ_run Cert.ActBwdRefIdeal.defs _ _).mono (fun r h => ⟨fun c => (h c).2.2, sem_eq_zero_of_no_sems (by decide) r.2⟩)
    (Cert.ActBwdRefIdeal.Value.run (F := Ideal) m g)

/-- Kernel and reference compute the same two gradients over the extended reals. -/
theorem algebraic : Cert.algebraic_ActBwdIdeal_ActBwdRefIdeal := by
  pair_intro
  · run_from Cert.ActBwdIdeal.Gen.run_main m g
    all_goals first | exact V_main_arg0 m c | exact V_main_arg1 m c | exact V_main_arg2 m c | exact V_main_arg3 m c
  · run_from Cert.ActBwdRefIdeal.Value.run m' g'
    · exact (Cert.ActBwdRefIdeal.Read.val_main_v10_eq _ _ _ _).symm.trans (eq_4 m c).symm
    · exact (Cert.ActBwdRefIdeal.Read.val_main_v14_eq _ _ _).symm.trans (eq_5 m c).symm

end Cert.ActBwdIdeal.Val
end
-- ==== Proof.LossHead.Kernel.lean ====
/- What the kernel of the loss and its gradient leaves in its three results, in coordinates of the whole arrays. -/
module

public import proofs.«01_k».proof.Proof.Gen.LossHeadIdeal.Frame
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.Val

open Cert.LossHeadIdeal Cert.LossHeadIdeal.Gen

variable (m : (ℓ : Loc nD τ sig) → Buf (Elt Ideal) ℓ)

/-- The block of every window at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- The difference of the output from its target. -/
def diff (A : FVec Ideal S4096x3072 .bf16) (W : FVec Ideal S3072x1024 .bf16) (X T : FVec Ideal S4096x1024 .f32) (r : Fin 4096) (q : Fin 1024) : EReal :=
  X (ix2 r q) + ∑ k : Fin 3072, A (ix2 r k) * W (ix2 k q) - T (ix2 r q)

/-- The gradient of the loss. -/
def K4 (A : FVec Ideal S4096x3072 .bf16) (W : FVec Ideal S3072x1024 .bf16) (X T : FVec Ideal S4096x1024 .f32) : FVec Ideal S4096x1024 .f32 := fun i =>
  diff A W X T (i 0) (i 1) * Ideal.ofBits .f32 0x3A800000#32

/-- What the 512 rows of one point add to the loss. -/
def part (A : FVec Ideal S4096x3072 .bf16) (W : FVec Ideal S3072x1024 .bf16) (X T : FVec Ideal S4096x1024 .f32) (t : ℕ) (ht : t < 8) : EReal :=
  (∑ r : Fin 512, Ideal.div (∑ q : Fin 1024, diff A W X T ⟨t * 512 + r.val, by omega⟩ q * diff A W X T ⟨t * 512 + r.val, by omega⟩ q) (Ideal.ofBits .f32 0x44800000#32))
    * Ideal.ofBits .f32 0x3F000000#32

/-- The gradient at a point's block. -/
theorem point_4 (c : Dev nD) (t : Fin cfg0.N) (y) :
    k0_pay2 (iblk m c 0 t) (iblk m c 1 t) (iblk m c 2 t) (iblk m c 3 t) y
      = K4 (V m c main_v3) (V m c main_v7) (V m c main_arg0) (V m c main_arg3) (((cfg0.win 4).blk t).view.emb y) := by
  pointwise [k0_pay2, k0_pay1, K4, diff]
  blk_point [iblk, idx t]

/-- The gradient's second copy at a point's block. -/
theorem point_5 (c : Dev nD) (t : Fin cfg0.N) (y) :
    k0_pay3 (iblk m c 0 t) (iblk m c 1 t) (iblk m c 2 t) (iblk m c 3 t) y
      = K4 (V m c main_v3) (V m c main_v7) (V m c main_arg0) (V m c main_arg3) (((cfg0.win 5).blk t).view.emb y) := by
  pointwise [k0_pay3, k0_pay2, k0_pay1, K4, diff]
  blk_point [iblk, idx t]

theorem arr_4 (c : Dev nD) : (dats m 0 c).arrAt 4 (cfgs 0).N = K4 (V m c main_v3) (V m c main_v7) (V m c main_arg0) (V m c main_arg3) := by
  refine (dats m 0 c).arrAt_eq_of_covers 4 _ (by decide +kernel) fun t hf y => ?_
  blk_simp; rw [after0_4]
  by_cases h : t.val % 8 = 0
  · rw [outsAt0_A m c t h]; frame_out; exact point_4 m c t y
  · rw [outsAt0_B m c t h]; frame_out; exact point_4 m c t y

theorem arr_5 (c : Dev nD) : (dats m 0 c).arrAt 5 (cfgs 0).N = (K4 (V m c main_v3) (V m c main_v7) (V m c main_arg0) (V m c main_arg3) : S4096x1024.Idx → EReal) := by
  refine (dats m 0 c).arrAt_eq_of_covers 5 _ (by decide +kernel) fun t hf y => ?_
  blk_simp; rw [after0_5]
  by_cases h : t.val % 8 = 0
  · rw [outsAt0_A m c t h]; frame_out; exact point_5 m c t y
  · rw [outsAt0_B m c t h]; frame_out; exact point_5 m c t y

/-- One point adds its part to what the loss held. -/
theorem step (c : Dev nD) (t : Fin cfg0.N) (a : FVec Ideal S1x1 .f32) (y) :
    k0_pay5 (iblk m c 0 t) (iblk m c 1 t) (iblk m c 2 t) (iblk m c 3 t) a y
      = a y + part (V m c main_v3) (V m c main_v7) (V m c main_arg0) (V m c main_arg3) t.val (lt_of_lt_of_eq t.isLt N_0) := by
  idx_vars y
  pointwise [k0_pay5, k0_pay1, part, diff]
  blk_point [iblk, idx t]

theorem pay4_zero (y) : k0_pay4 (F := Ideal) y = (0 : EReal) := by
  pointwise [k0_pay4]

theorem arr_6 (c : Dev nD) (j) : (dats m 0 c).arrAt 6 (cfgs 0).N j
    = ∑ t : Fin 8, part (V m c main_v3) (V m c main_v7) (V m c main_arg0) (V m c main_arg3) t.val t.isLt := by
  revert j
  refine congrFun ((dats m 0 c).arrAt_eq_of_after_last 6 t0_7 (by decide +kernel) (fun _ => _) fun j => ?_)
  blk_simp
  rw [after0_6, Pipeline.eq_sum_fin_of_reset_step_apply_last (fun n h => (outsAt0 m c n h).2.2) 8 (fun _ => 0)
    (fun t _ => part (V m c main_v3) (V m c main_v7) (V m c main_arg0) (V m c main_arg3) t.val (lt_of_lt_of_eq t.isLt N_0))
    (fun t h j => by rw [outsAt0_A m c t h]; frame_out; rw [step, pay4_zero])
    (fun t h j => by rw [outsAt0_B m c t h]; frame_out; rw [step])
    (le_of_eq N_0) t0_7 rfl j, zero_add]
  rfl

end Cert.LossHeadIdeal.Val
end
-- ==== Proof.LossHead.Entry.lean ====
/- What the loss kernel is started on: the arguments with zeros between the devices' parts; the product over them is the plain one. -/
module

public import proofs.«01_k».proof.Proof.LossHead.Kernel
public import proofs.«01_k».proof.Proof.Common
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.LossHeadIdeal.Val

open Cert.LossHeadIdeal Cert.LossHeadIdeal.Gen

variable (m : (ℓ : Loc nD τ sig) → Buf (Elt Ideal) ℓ)

/-- A weight with zero rows after every part of 352. -/
def padRows (w : FVec Ideal S2816x1024 .f32) : FVec Ideal S3072x1024 .bf16 := fun i =>
  if h : (i 0).val / 384 < 8 ∧ (i 0).val % 384 < 352 then w (ix2 ⟨(i 0).val / 384 * 352 + (i 0).val % 384, by omega⟩ (i 1)) else (0 : EReal)

/-- An array with zero columns after every part of 352. -/
def padCols (x : FVec Ideal S4096x2816 .f32) : FVec Ideal S4096x3072 .bf16 := fun i =>
  if h : (i 1).val / 384 < 8 ∧ (i 1).val % 384 < 352 then x (ix2 (i 0) ⟨(i 1).val / 384 * 352 + (i 1).val % 384, by omega⟩) else (0 : EReal)

theorem V3 (c : Dev nD) : V m c main_v3 = padCols (m ((c : Thread nD τ).loc main_arg1)) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i; idx_vars i
  pointwise [Cert.Common.sitofp_zero, padCols]

theorem V7 (c : Dev nD) : V m c main_v7 = padRows (m ((c : Thread nD τ).loc main_arg2)) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i; idx_vars i
  pointwise [Cert.Common.sitofp_zero, padRows]

/-- The product over padded columns is the plain one. -/
theorem padded_product (x : FVec Ideal S4096x2816 .f32) (w : FVec Ideal S2816x1024 .f32) (r : Fin 4096) (q : Fin 1024) :
    ∑ k : Fin 3072, (padCols x : S4096x3072.Idx → EReal) (ix2 r k) * (padRows w : S3072x1024.Idx → EReal) (ix2 k q)
      = ∑ k : Fin 2816, (x (ix2 r k) : EReal) * w (ix2 k q) := by
  refine Cert.Common.sum_padded (A := 8) (p := 384) (n := 352) (by omega) rfl rfl (fun k => (x (ix2 r k) : EReal) * w (ix2 k q)) _ ?_ ?_
  · intro a e h1 h2
    have h : (a.val * 384 + e.val) / 384 < 8 ∧ (a.val * 384 + e.val) % 384 < 352 := by omega
    have h3 : (a.val * 384 + e.val) / 384 * 352 + (a.val * 384 + e.val) % 384 = a.val * 352 + e.val := by omega
    simp only [padCols, padRows]
    refine congrArg₂ (· * ·) ((dif_pos h).trans ?_) ((dif_pos h).trans ?_)
    · exact congrArg (fun k => x (ix2 r k)) (Fin.ext h3)
    · exact congrArg (fun k => w (ix2 k q)) (Fin.ext h3)
  · intro a e h1 h
    have h : ¬((a.val * 384 + e.val) / 384 < 8 ∧ (a.val * 384 + e.val) % 384 < 352) := by omega
    simp only [padCols, padRows]
    refine (congrArg (· * _) (dif_neg h)).trans (zero_mul _)

end Cert.LossHeadIdeal.Val
end
-- ==== Proof.LossHead.Equal.lean ====
/- The loss kernel computes the loss of the plain forward lines and its gradient. -/
module

public import proofs.«01_k».proof.Proof.LossHead.Entry
public import proofs.«01_k».proof.Proof.Gen.LossHeadRefIdeal.Read
public import proofs.«01_k».proof.Defs
public import proofs.«01_k».proof.Proof.Gen.LossHead

@[expose] public section

set_option maxRecDepth 16384

noncomputable section

open Idealize.ShloMosaic Idealize.ShloMosaic.TcCoe Idealize.SL.Sem

namespace Cert.LossHeadRefIdeal.Val
open Cert.LossHeadRefIdeal Cert.LossHeadRefIdeal.Gen Cert.LossHeadRefIdeal.Read

/-- The difference of the output from its target. -/
def diff (x1 : FVec Ideal S4096x1024 .f32) (a : FVec Ideal S4096x2816 .f32) (w : FVec Ideal S2816x1024 .f32) (t : FVec Ideal S4096x1024 .f32) (r : Fin 4096) (q : Fin 1024) : EReal :=
  x1 (ix2 r q) + ∑ k : Fin 2816, a (ix2 r k) * w (ix2 k q) - t (ix2 r q)

theorem ref16 (x0 : FVec Ideal S4096x1024 .f32) (x1 : FVec Ideal S4096x2816 .f32) (x2 : FVec Ideal S2816x1024 .f32) (x3 : FVec Ideal S4096x1024 .f32) (i : S4096x1024.Idx) :
    val_main_v16 (F := Ideal) x0 x1 x2 x3 i = Ideal.div (Ideal.ofBits .f32 0x3F000000#32 * 1) (Ideal.ofBits .f32 0x44800000#32)
      * (Ideal.ofBits .f32 0x40000000#32 * diff x0 x1 x2 x3 (i 0) (i 1)) := by
  idx_vars i
  pointwise [val_main_v16, val_main_v15, val_main_v14, val_main_v13, val_main_v12, val_main_v11, val_main_v5, val_main_v4, val_main_v2, val_main_v1, val_main_v0,
    val_main_cst, val_main_cst_4, val_main_cst_5, val_main_cst_6, diff]

theorem ref18 (x0 : FVec Ideal S4096x1024 .f32) (x1 : FVec Ideal S4096x2816 .f32) (x2 : FVec Ideal S2816x1024 .f32) (x3 : FVec Ideal S4096x1024 .f32) (i : S1x1.Idx) :
    val_main_v18 (F := Ideal) x0 x1 x2 x3 i = Ideal.ofBits .f32 0x3F000000#32
      * ∑ r : Fin 4096, Ideal.div (∑ q : Fin 1024, diff x0 x1 x2 x3 r q * diff x0 x1 x2 x3 r q) (Ideal.ofBits .f32 0x44800000#32) := by
  idx_vars i
  pointwise [val_main_v18, val_main_v10, val_main_v9, val_main_v8, val_main_v7, val_main_v6, val_main_v3, val_main_v2, val_main_v1, val_main_v0,
    val_main_cst_0, val_main_cst_1, val_main_cst_2, val_main_cst_3, diff]

end Cert.LossHeadRefIdeal.Val

namespace Cert.LossHeadIdeal.Val
open Cert.LossHeadIdeal Cert.LossHeadIdeal.Gen

variable (m : (ℓ : Loc nD τ sig) → Buf (Elt Ideal) ℓ)

theorem diff_eq (x1 : FVec Ideal S4096x1024 .f32) (a : FVec Ideal S4096x2816 .f32) (w : FVec Ideal S2816x1024 .f32) (t : FVec Ideal S4096x1024 .f32) (r : Fin 4096) (q : Fin 1024) :
    diff (padCols a) (padRows w) x1 t r q = Cert.LossHeadRefIdeal.Val.diff x1 a w t r q := by
  unfold diff Cert.LossHeadRefIdeal.Val.diff
  rw [padded_product]

/-- The constant factors of the gradient: half of two, over the width. -/
theorem factor (d : EReal) : d * Ideal.ofBits .f32 0x3A800000#32
    = Ideal.div (Ideal.ofBits .f32 0x3F000000#32 * 1) (Ideal.ofBits .f32 0x44800000#32) * (Ideal.ofBits .f32 0x40000000#32 * d) := by
  rw [Cert.Common.lit_1024, Cert.Common.lit_inv_1024, Cert.Common.lit_half, Cert.Common.lit_two, Ideal.div_coe (by norm_num), mul_one, ← EReal.coe_mul, ← mul_assoc, ← EReal.coe_mul,
    mul_comm]
  norm_num

theorem eq_4 (c : Dev nD) : (dats m 0 c).arrAt 4 (cfgs 0).N = Cert.LossHeadRefIdeal.Read.val_main_v16 (F := Ideal)
    (m ((c : Thread nD τ).loc main_arg0)) (m ((c : Thread nD τ).loc main_arg1)) (m ((c : Thread nD τ).loc main_arg2)) (m ((c : Thread nD τ).loc main_arg3)) := by
  rw [arr_4, V3, V7, V_main_arg0, V_main_arg3]; funext i
  refine Eq.trans ?_ (Cert.LossHeadRefIdeal.Val.ref16 _ _ _ _ i).symm
  exact (congrArg (· * Ideal.ofBits .f32 0x3A800000#32) (diff_eq _ _ _ _ (i 0) (i 1))).trans (factor _)

theorem eq_5 (c : Dev nD) : (dats m 0 c).arrAt 5 (cfgs 0).N = Cert.LossHeadRefIdeal.Read.val_main_v17 (F := Ideal)
    (m ((c : Thread nD τ).loc main_arg0)) (m ((c : Thread nD τ).loc main_arg1)) (m ((c : Thread nD τ).loc main_arg2)) (m ((c : Thread nD τ).loc main_arg3)) := by
  exact (arr_5 m c).trans ((arr_4 m c).symm.trans (eq_4 m c))

/-- Eight runs of 512 rows, each halved, are half of the whole sum. -/
theorem halves (f : Fin 4096 → EReal) :
    ∑ t : Fin 8, (∑ r : Fin 512, f ⟨t.val * 512 + r.val, by omega⟩) * Ideal.ofBits .f32 0x3F000000#32 = ((1 / 2 : ℝ) : EReal) * ∑ r : Fin 4096, f r := by
  rw [Cert.Common.lit_half, ← Fin.sum_mul_add_fin 8 512 f, Cert.Common.mul_sum_of_nonneg _ _ (by norm_num)]
  exact Finset.sum_congr rfl fun t _ => mul_comm _ _

theorem sum_part (x1 : FVec Ideal S4096x1024 .f32) (a : FVec Ideal S4096x2816 .f32) (w : FVec Ideal S2816x1024 .f32) (y : FVec Ideal S4096x1024 .f32) :
    ∑ t : Fin 8, part (padCols a) (padRows w) x1 y t.val t.isLt = Ideal.ofBits .f32 0x3F000000#32
      * ∑ r : Fin 4096, Ideal.div (∑ q : Fin 1024, Cert.LossHeadRefIdeal.Val.diff x1 a w y r q * Cert.LossHeadRefIdeal.Val.diff x1 a w y r q) (Ideal.ofBits .f32 0x44800000#32) := by
  simp only [part, diff_eq]
  rw [halves fun r => Ideal.div (∑ q : Fin 1024, Cert.LossHeadRefIdeal.Val.diff x1 a w y r q * Cert.LossHeadRefIdeal.Val.diff x1 a w y r q) (Ideal.ofBits .f32 0x44800000#32),
    Cert.Common.lit_half]

/-- The loss: eight points of 512 rows, each halved, are half of the sum over all rows. -/
theorem eq_6 (c : Dev nD) : (dats m 0 c).arrAt 6 (cfgs 0).N = Cert.LossHeadRefIdeal.Read.val_main_v18 (F := Ideal)
    (m ((c : Thread nD τ).loc main_arg0)) (m ((c : Thread nD τ).loc main_arg1)) (m ((c : Thread nD τ).loc main_arg2)) (m ((c : Thread nD τ).loc main_arg3)) := by
  funext i
  rw [arr_6, V3, V7, V_main_arg0, V_main_arg3]
  exact (sum_part _ _ _ _).trans (Cert.LossHeadRefIdeal.Val.ref18 _ _ _ _ i).symm

/-- The reference runs, leaves its arguments as they were and every counter at zero. -/
theorem frame_ref : Cert.quiescent_LossHeadRefIdeal := fun m g _ =>
  (θ_run Cert.LossHeadRefIdeal.defs _ _).mono (fun r h => ⟨fun c => (h c).2.2.2, sem_eq_zero_of_no_sems (by decide) r.2⟩)
    (Cert.LossHeadRefIdeal.Value.run (F := Ideal) m g)

/-- Kernel and reference compute the same loss and the same gradient over the extended reals. -/
theorem algebraic : Cert.algebraic_LossHeadIdeal_LossHeadRefIdeal := by
  pair_intro
  · run_from Cert.LossHeadIdeal.Gen.run_main m g
    all_goals first | exact V_main_arg0 m c | exact V_main_arg1 m c | exact V_main_arg2 m c | exact V_main_arg3 m c
  · run_from Cert.LossHeadRefIdeal.Value.run m' g'
    · exact (Cert.LossHeadRefIdeal.Read.val_main_v16_eq _ _ _ _).symm.trans (eq_4 m c).symm
    · exact (Cert.LossHeadRefIdeal.Read.val_main_v17_eq _ _ _ _).symm.trans (eq_5 m c).symm
    · exact (Cert.LossHeadRefIdeal.Read.val_main_v18_eq _ _ _ _).symm.trans (eq_6 m c).symm

end Cert.LossHeadIdeal.Val
end
-- ==== Proof.ConvBwd.Kernel.lean ====
/- What the backward kernel of the short convolution leaves in its two results, in coordinates of the whole arrays. -/
module

public import proofs.«01_k».proof.Proof.Gen.ConvBwdIdeal.Frame
public import proofs.«01_k».proof.Proof.Common
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Val

open Cert.ConvBwdIdeal Cert.ConvBwdIdeal.Gen

variable (m : (ℓ : Loc nD τ sig) → Buf (Elt Ideal) ℓ)

/-- The block of every window at every grid point. -/
theorem idx : ∀ t : Fin cfg0.N, win0_0.index t = ![0, 16 + t.val]
    ∧ win0_1.index t = ![0, t.val]
    ∧ win0_2.index t = ![0, t.val]
    ∧ win0_3.index t = ![t.val / 4, 0, t.val % 4]
    ∧ win0_4.index t = ![0, 16 + t.val]
    ∧ win0_5.index t = ![0, t.val] :=
  (by decide +kernel : ∀ t : Fin grid0.N, _)

/-- Row `r + s` of a column of 4096 entries, zero past the end. -/
def up (s : ℕ) (d : Fin 4096 → EReal) (r : Fin 4096) : EReal :=
  if h : r.val + s < 4096 then d ⟨r.val + s, h⟩ else 0

/-- The rotation with its mask is the shift up. -/
theorem shift_at (s : ℕ) (hs : 0 < s) (hs' : s < 4096) (nb mb : BitVec 32) (hn : nb = BitVec.ofNat 32 (4096 - s)) (hm : mb = BitVec.ofNat 32 (4096 - s))
    (D : FVec Ideal S4096x128 .f32) (h : S4096x128.Rotates 0 none) (y0 : Fin 4096) (y1 : Fin 128) :
    Scalar.select (IntOp.cmpi .slt (BitVec.ofNat 32 y0.val) mb) (dynamicRotate 0 nb none D h (ix2 y0 y1)) (0:EReal)
      = up s (fun r => D (ix2 r y1)) y0 := by
  subst hn hm
  have h0 := y0.isLt
  rw [WordCmp.cmpi_slt_ofNat (by norm_num; omega) (by norm_num; omega), up]
  by_cases hlt : y0.val + s < 4096
  · rw [dif_pos hlt, decide_eq_true (by omega)]
    refine (show _ = dynamicRotate 0 _ none D h (ix2 y0 y1) from rfl).trans ?_
    refine dynamicRotate_apply _ _ _ _ _ _ fun b => ?_
    match b with
    | ⟨0, _⟩ =>
      show y0.val + s = (y0.val + 4096 - (BitVec.ofNat 32 (4096 - s)).toNat % 4096) % 4096
      rw [BitVec.toNat_ofNat, Nat.mod_eq_of_lt (show 4096 - s < 2 ^ 32 by norm_num; omega)]
      omega
    | ⟨1, _⟩ => rfl
  · rw [dif_neg hlt, decide_eq_false (by omega)]
    rfl

theorem pay12_at (a b d : FVec Ideal S4096x128 .f32) (y0 : Fin 4096) (y1 : Fin 128) :
    k0_pay12 a b d (ix2 y0 y1) = up 1 (fun r => k0_pay10 a b d (ix2 r y1)) y0 := by
  rw [← shift_at 1 (by norm_num) (by norm_num) 4095#32 4095#32 rfl rfl (k0_pay10 a b d) rotates_S4096x128_d0 y0 y1]
  unfold k0_pay12
  generalize k0_pay10 a b d = D
  generalize dynamicRotate 0 4095#32 none D _ = R
  pointwise

theorem pay14_at (a b d : FVec Ideal S4096x128 .f32) (y0 : Fin 4096) (y1 : Fin 128) :
    k0_pay14 a b d (ix2 y0 y1) = up 2 (fun r => k0_pay10 a b d (ix2 r y1)) y0 := by
  rw [← shift_at 2 (by norm_num) (by norm_num) 4094#32 4094#32 rfl rfl (k0_pay10 a b d) rotates_S4096x128_d0 y0 y1]
  unfold k0_pay14
  generalize k0_pay10 a b d = D
  generalize dynamicRotate 0 4094#32 none D _ = R
  pointwise

theorem pay1_at (D : FVec Ideal S4096x128 .f32) (y0 : Fin 4096) (y1 : Fin 128) :
    k0_pay1 D k0_pay17 4093#32 (ix2 y0 y1) = up 3 (fun r => D (ix2 r y1)) y0 := by
  rw [← shift_at 3 (by norm_num) (by norm_num) 4093#32 4093#32 rfl rfl D rotates_S4096x128_d0 y0 y1]
  unfold k0_pay1
  generalize dynamicRotate 0 4093#32 none D _ = R
  pointwise [k0_pay17]

/-- The gradient behind the activation and the norm, of one row of one head: `c` the row before the activation, `g` its
    cotangent, `t` the block of 128 columns (four of queries, four of keys, four of values). -/
def rowD (t : ℕ) (c g : Fin 128 → EReal) (l : Fin 128) : EReal :=
  (Scalar.select (Scalar.cmpi .sge (BitVec.ofNat 32 t) 8#32) 1
      (Ideal.rsqrt (∑ x, c x * Ideal.logistic (c x) * (c x * Ideal.logistic (c x)) + Ideal.ofBits .f32 897988541#32)
        * Scalar.select (Scalar.cmpi .slt (BitVec.ofNat 32 t) 4#32) (Ideal.ofBits .f32 1035273459#32) 1) * g l
    - Scalar.select (Scalar.cmpi .sge (BitVec.ofNat 32 t) 8#32) 0
        (c l * Ideal.logistic (c l)
          * ((∑ x, g x * (c x * Ideal.logistic (c x)))
              * (Ideal.rsqrt (∑ x, c x * Ideal.logistic (c x) * (c x * Ideal.logistic (c x)) + Ideal.ofBits .f32 897988541#32)
                * Ideal.rsqrt (∑ x, c x * Ideal.logistic (c x) * (c x * Ideal.logistic (c x)) + Ideal.ofBits .f32 897988541#32)
                * Ideal.rsqrt (∑ x, c x * Ideal.logistic (c x) * (c x * Ideal.logistic (c x)) + Ideal.ofBits .f32 897988541#32))
              * Scalar.select (Scalar.cmpi .slt (BitVec.ofNat 32 t) 4#32) (Ideal.ofBits .f32 1035273459#32) 1)))
    * (Ideal.logistic (c l) + c l * Ideal.logistic (c l) * (1 - Ideal.logistic (c l)))

/-- The same at row `r` and column `j` of the whole arrays: `C` before the activation, `G` the cotangents of queries, keys, values. -/
def gradC (C : (⟨2, ![4096, 1536]⟩ : Shape).Idx → EReal) (G : (⟨3, ![3, 4096, 512]⟩ : Shape).Idx → EReal) (r : Fin 4096) (j : Fin 1536) : EReal :=
  rowD (j.val / 128) (fun l => C (ix2 r ⟨j.val / 128 * 128 + l.val, by omega⟩))
    (fun l => G (ix3 ⟨j.val / 128 / 4, by omega⟩ r ⟨j.val / 128 % 4 * 128 + l.val, by omega⟩)) ⟨j.val % 128, by omega⟩

/-- The gradient of one point's block. -/
abbrev gradBlk (c : Dev nD) (t : Fin cfg0.N) : FVec Ideal S4096x128 .f32 :=
  k0_pay10 (k0_pay6 (iblk m c 2 t)) (k0_pay8 (grid0.coords t) (iblk m c 2 t) (iblk m c 3 t)) (k0_pay9 (iblk m c 2 t))

theorem coords_val (t : Fin cfg0.N) : (grid0.coords t 0).val = t.val := by
  revert t; decide +kernel

theorem rowD_congr {t : ℕ} {c c' g g' : Fin 128 → EReal} {l l' : Fin 128} (hc : ∀ x, c x = c' x) (hg : ∀ x, g x = g' x) (hl : l = l') :
    rowD t c g l = rowD t c' g' l' := by
  rw [funext hc, funext hg, hl]

theorem gradBlk_row (c : Dev nD) (t : Fin cfg0.N) (y0 : Fin 4096) (y1 : Fin 128) :
    gradBlk m c t (ix2 y0 y1) = rowD t.val (fun l => iblk m c 2 t (ix2 y0 l)) (fun l => iblk m c 3 t (ix3 0 y0 l)) y1 := by
  unfold rowD
  rw [← coords_val t]
  pointwise [gradBlk, k0_pay10, k0_pay6, k0_pay8, k0_pay9, k0_pay7, k0_pay5]

theorem gradBlk_at (c : Dev nD) (t : Fin cfg0.N) (y0 : Fin 4096) (y1 : Fin 128) (j : Fin 1536) (hj : j.val = t.val * 128 + y1.val) :
    gradBlk m c t (ix2 y0 y1) = gradC (V m c main_v31) (V m c main_arg2) y0 j := by
  have h1 : j.val / 128 = t.val := by omega
  have h2 : j.val % 128 = y1.val := by omega
  rw [gradBlk_row]
  unfold gradC
  simp only [h1, h2]
  refine rowD_congr (fun l => ?_) (fun l => ?_) rfl
  · blk_point [iblk, idx t]
  · blk_point [iblk, idx t]

/-- The gradient that reaches the convolution's input at row `r` and column `j`, from the gradient `D` behind it. -/
def gradX (W : (⟨2, ![4, 1536]⟩ : Shape).Idx → EReal) (D : Fin 4096 → Fin 1536 → EReal) (r : Fin 4096) (j : Fin 1536) : EReal :=
  W (ix2 3 j) * D r j + W (ix2 2 j) * up 1 (fun q => D q j) r + W (ix2 1 j) * up 2 (fun q => D q j) r + W (ix2 0 j) * up 3 (fun q => D q j) r

/-- The gradient of tap `3 - s` at column `j`, with `u` the convolution's input. -/
def gradW (s : ℕ) (D : Fin 4096 → Fin 1536 → EReal) (u : Fin 4096 → EReal) (j : Fin 1536) : EReal :=
  ∑ r : Fin 4096, up s (fun q => D q j) r * u r

theorem point_4 (c : Dev nD) (t : Fin cfg0.N) (y0 : Fin 4096) (y1 : Fin 128) (j : Fin 1536) (hj : j.val = t.val * 128 + y1.val) :
    k0_pay3 (iblk m c 1 t) (gradBlk m c t)
      (k0_pay15 (iblk m c 1 t) (k0_pay6 (iblk m c 2 t)) (k0_pay8 (grid0.coords t) (iblk m c 2 t) (iblk m c 3 t)) (k0_pay9 (iblk m c 2 t)))
      k0_pay17 4093#32 (ix2 y0 y1) = gradX (V m c main_arg1) (gradC (V m c main_v31) (V m c main_arg2)) y0 j := by
  pointwise [k0_pay3, k0_pay15, pay12_at, pay14_at, pay1_at]
  have e : ∀ r : Fin 4096, k0_pay10 (k0_pay6 (iblk m c 2 t)) (k0_pay8 (grid0.coords t) (iblk m c 2 t) (iblk m c 3 t))
      (k0_pay9 (iblk m c 2 t)) (ix2 r y1) = gradC (V m c main_v31) (V m c main_arg2) r j := fun r => gradBlk_at m c t r y1 j hj
  have w : ∀ k : Fin 4, iblk m c 1 t (ix2 k y1) = V m c main_arg1 (ix2 k j) := fun k => by blk_point [iblk, idx t]
  simp only [gradBlk, e, w]
  rfl

theorem cov : (cfg0.win 4).CoversWhere (fun β => 16 ≤ β 1 ∧ β 1 < 28) := by decide +kernel

theorem arr_4 (c : Dev nD) : (dats m 0 c).arrAt 4 (cfgs 0).N = fun i => if h : 2048 ≤ (i 1 : ℕ) ∧ (i 1 : ℕ) < 3584 then
    gradX (V m c main_arg1) (gradC (V m c main_v31) (V m c main_arg2)) (i 0) ⟨(i 1).val - 2048, by omega⟩ else V m c main_arg3 i := by
  refine ((dats m 0 c).arrAt_eq_of_coversWhere 4 (fun i => if h : 2048 ≤ (i 1 : ℕ) ∧ (i 1 : ℕ) < 3584 then
    gradX (V m c main_arg1) (gradC (V m c main_v31) (V m c main_arg2)) (i 0) ⟨(i 1).val - 2048, by omega⟩ else (0:EReal)) (P := fun i => 2048 ≤ (i 1 : ℕ) ∧ (i 1 : ℕ) < 3584) _ cov (fun t hf y => ?_) (fun j => ?_)).trans ?_
  · blk_simp; rw [after0_4]
    unfold Gen.outsAt0
    frame_out
    idx_vars y
    have ht : t.val < 12 := lt_of_lt_of_eq t.isLt N_0
    have hy : (y1 : Fin 128).val < 128 := y1.isLt
    have h1 : win0_4.index t 1 = 16 + t.val := by rw [(idx t).2.2.2.2.1]; rfl
    simp only [h1]
    rw [dif_pos (by omega)]
    refine (point_4 m c t y0 y1 ⟨(16 + t.val) * 128 + y1.val - 2048, by omega⟩ (by show (16 + t.val) * 128 + y1.val - 2048 = _; omega)).trans ?_
    refine congrArg (fun r => gradX _ _ r _) (Fin.ext ?_)
    blk_simp
    have h0 : win0_4.index t 0 = 0 := by rw [(idx t).2.2.2.2.1]; rfl
    rw [h0]; omega
  · blk_simp [Pipeline.Window.cell_apply]
    omega
  · funext i
    by_cases h : 2048 ≤ (i 1 : ℕ) ∧ (i 1 : ℕ) < 3584
    · simp only [if_pos h, dif_pos h]
    · simp only [if_neg h, dif_neg h]
      rfl

/-- One tap's sum over a point's block is the tap's gradient at the block's column. -/
theorem tap (c : Dev nD) (t : Fin cfg0.N) (s s' : ℕ) (l : Fin 128) (j : Fin 1536) (n : ℕ) (hn : 2048 + n < 4992) (hs : s = s') (hj : j.val = t.val * 128 + l.val)
    (hjn : n = j.val) :
    ∑ r : Fin 4096, up s (fun q => gradBlk m c t (ix2 q l)) r * iblk m c 0 t (ix2 r l)
      = gradW s' (gradC (V m c main_v31) (V m c main_arg2)) (fun r => V m c main_v0 (ix2 r ⟨2048 + n, hn⟩)) j := by
  subst hs hjn
  have e : ∀ r : Fin 4096, gradBlk m c t (ix2 r l) = gradC (V m c main_v31) (V m c main_arg2) r j := fun r => gradBlk_at m c t r l j hj
  have u : ∀ r : Fin 4096, iblk m c 0 t (ix2 r l) = V m c main_v0 (ix2 r ⟨2048 + j.val, hn⟩) := fun r => by blk_point [iblk, idx t]
  simp only [e, u]
  rfl

theorem up_zero (d : Fin 4096 → EReal) (r : Fin 4096) : up 0 d r = d r := by
  rw [up, dif_pos (by omega)]; rfl

theorem arr_5 (c : Dev nD) : (dats m 0 c).arrAt 5 (cfgs 0).N = fun i =>
    gradW (3 - (i 0).val) (gradC (V m c main_v31) (V m c main_arg2)) (fun r => V m c main_v0 (ix2 r ⟨2048 + (i 1).val, by have := (i 1).isLt; simp at this; omega⟩)) (i 1) := by
  refine (dats m 0 c).arrAt_eq_of_covers 5 _ (by decide +kernel) fun t hf y => ?_
  have i0 : win0_5.index t 0 = 0 := by rw [(idx t).2.2.2.2.2]; rfl
  have i1 : win0_5.index t 1 = t.val := by rw [(idx t).2.2.2.2.2]; rfl
  blk_simp; rw [after0_5]
  unfold Gen.outsAt0
  frame_out
  canon_tiles x h
  case piece0 =>
    refine Eq.trans ?_ (tap m c t 3 _ ⟨x 1, x1_lt⟩ _ _ _ (by omega) (by blk_simp; show _ = t.val * 128 + (x 1).val; omega) (by blk_simp))
    idx_vars x
    pointwise [k0_pay2, k0_pay4, pay1_at]
  case piece1 =>
    refine Eq.trans ?_ (tap m c t 2 _ ⟨x 1, x1_lt⟩ _ _ _ (by omega) (by blk_simp; show _ = t.val * 128 + (x 1).val; omega) (by blk_simp))
    idx_vars x
    pointwise [k0_pay16, k0_pay4, pay14_at]
  case piece2 =>
    refine Eq.trans ?_ (tap m c t 1 _ ⟨x 1, x1_lt⟩ _ _ _ (by omega) (by blk_simp; show _ = t.val * 128 + (x 1).val; omega) (by blk_simp))
    idx_vars x
    pointwise [k0_pay13, k0_pay4, pay12_at]
  case piece3 =>
    refine Eq.trans ?_ (tap m c t 0 _ ⟨x 1, x1_lt⟩ _ _ _ (by omega) (by blk_simp; show _ = t.val * 128 + (x 1).val; omega) (by blk_simp))
    idx_vars x
    simp only [up_zero]
    pointwise [k0_pay11, k0_pay4]

end Cert.ConvBwdIdeal.Val
end
-- ==== Proof.ConvBwd.Entry.lean ====
/- What the host's lines hand to the backward kernel of the short convolution. -/
module

public import proofs.«01_k».proof.Proof.ConvBwd.Kernel

@[expose] public section

set_option maxRecDepth 16384

noncomputable section

open Idealize.ShloMosaic Idealize.ShloMosaic.TcCoe Idealize.SL.Sem
open Idealize.ShloMosaic.Pipeline (Dat)

namespace Cert.ConvBwdIdeal.Val

open Cert.ConvBwdIdeal Cert.ConvBwdIdeal.Gen

variable (m : (ℓ : Loc nD τ sig) → Buf (Elt Ideal) ℓ)

/-- Row `r - s` of a column, zero before the start. -/
def down (s : ℕ) (d : Fin 4096 → EReal) (r : Fin 4096) : EReal :=
  if h : s ≤ r.val then d ⟨r.val - s, by omega⟩ else 0

/-- The causal convolution of four taps. -/
def conv (x : (⟨2, ![4096, 1536]⟩ : Shape).Idx → EReal) (w : (⟨2, ![4, 1536]⟩ : Shape).Idx → EReal) (i : (⟨2, ![4096, 1536]⟩ : Shape).Idx) : EReal :=
  w (ix2 0 (i 1)) * down 3 (fun q => x (ix2 q (i 1))) (i 0) + w (ix2 1 (i 1)) * down 2 (fun q => x (ix2 q (i 1))) (i 0)
    + w (ix2 2 (i 1)) * down 1 (fun q => x (ix2 q (i 1))) (i 0) + w (ix2 3 (i 1)) * x i

/-- A row of the input behind three rows of zeros. -/
theorem pad_down (d : Fin 4096 → EReal) (r : Fin 4096) (s n : ℕ) (hn : n + s = r.val + 3) (f : ¬n < 3 → EReal)
    (hf : ∀ (h : ¬n < 3) (h' : r.val - s < 4096), f h = d ⟨r.val - s, h'⟩) : (if h : n < 3 then 0 else f h) = down s d r := by
  unfold down
  by_cases h : n < 3
  · rw [dif_pos h, dif_neg (by omega)]
  · rw [dif_neg h, dif_pos (by omega)]
    exact hf h _

theorem V31 (c : Dev nD) : V m c main_v31 = conv (m ((c : Thread nD τ).loc main_arg0)) (m ((c : Thread nD τ).loc main_arg1)) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  funext i; idx_vars i
  pointwise [conv]
  after_results_simp
  pointwise
  refine congrArg₂ (· + ·) (congrArg₂ (· + ·) (congrArg₂ (· + ·) (congrArg _ ?_) (congrArg _ ?_)) (congrArg _ ?_)) rfl
  · exact pad_down _ _ _ _ rfl _ fun h h' => rfl
  · exact pad_down _ _ _ _ (by omega) _ fun h h' => congrArg (fun k : Fin 4096 => m ((c : Thread nD τ).loc main_arg0) (ix2 k i1)) (Fin.ext (show 1 + i0.val - 3 = i0.val - 2 by omega))
  · exact pad_down _ _ _ _ (by omega) _ fun h h' => congrArg (fun k : Fin 4096 => m ((c : Thread nD τ).loc main_arg0) (ix2 k i1)) (Fin.ext (show 2 + i0.val - 3 = i0.val - 1 by omega))

theorem V0 (c : Dev nD) (r : Fin 4096) (j : Fin 1536) (h : 2048 + j.val < 4992) :
    V m c main_v0 (ix2 r ⟨2048 + j.val, h⟩) = m ((c : Thread nD τ).loc main_arg0) (ix2 r j) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

end Cert.ConvBwdIdeal.Val
end
-- ==== Proof.ConvBwd.Row.lean ====
/- One row of one head through the norm and the activation: the kernel's gradient is the derivative's. -/
module

public import proofs.«01_k».proof.Proof.ConvBwd.Kernel
public import proofs.«01_k».proof.Proof.Common

@[expose] public section

noncomputable section

open Idealize.ShloMosaic

namespace Cert.ConvBwdIdeal.Val

/-- The derivative of the norm of a row, read at `l`; `g` is the cotangent behind the scale. -/
def normR (c g : Fin 128 → EReal) (l : Fin 128) : EReal :=
  let s := ∑ x, c x * Ideal.logistic (c x) * (c x * Ideal.logistic (c x)) + Ideal.ofBits .f32 897988541#32
  let u := ∑ _x : Fin 1, (∑ x, c x * Ideal.logistic (c x) * g x) * (Ideal.ofBits .f32 3204448256#32 * Ideal.div (Ideal.rsqrt s) s)
  g l * Ideal.rsqrt s + c l * Ideal.logistic (c l) * u + u * (c l * Ideal.logistic (c l))

/-- The derivative of the activation at `c` with cotangent `d`. -/
def actR (c d : EReal) : EReal :=
  d * Ideal.logistic c + c * d * (Ideal.logistic c * (1 - Ideal.logistic c))

/-- The derivative of a row: queries with their scale, keys, values. -/
def rowR (t : ℕ) (c g : Fin 128 → EReal) (l : Fin 128) : EReal :=
  actR (c l) (if t < 4 then normR c (fun x => g x * Ideal.ofBits .f32 1035273459#32) l else if t < 8 then normR c g l else g l)

theorem act_eq (c d : ℝ) : (d : EReal) * (Ideal.logistic (c : EReal) + c * Ideal.logistic (c : EReal) * (1 - Ideal.logistic (c : EReal)))
    = actR (c : EReal) (d : EReal) := by
  unfold actR
  rw [Ideal.logistic_coe]
  generalize (1 + Real.exp (-c))⁻¹ = σ
  rw [← EReal.coe_one]
  simp only [← EReal.coe_mul, ← EReal.coe_sub, ← EReal.coe_add]
  congr 1; ring

theorem norm_eq (k : EReal) (κ : ℝ) (hk : k = (κ : EReal)) (c g : Fin 128 → ℝ) (l : Fin 128) :
    (Ideal.rsqrt (∑ x, (c x : EReal) * Ideal.logistic (c x : EReal) * (c x * Ideal.logistic (c x : EReal)) + Ideal.ofBits .f32 897988541#32) * k) * (g l : EReal)
      - (c l * Ideal.logistic (c l : EReal)
          * ((∑ x, (g x : EReal) * (c x * Ideal.logistic (c x : EReal)))
              * (Ideal.rsqrt (∑ x, (c x : EReal) * Ideal.logistic (c x : EReal) * (c x * Ideal.logistic (c x : EReal)) + Ideal.ofBits .f32 897988541#32)
                * Ideal.rsqrt (∑ x, (c x : EReal) * Ideal.logistic (c x : EReal) * (c x * Ideal.logistic (c x : EReal)) + Ideal.ofBits .f32 897988541#32)
                * Ideal.rsqrt (∑ x, (c x : EReal) * Ideal.logistic (c x : EReal) * (c x * Ideal.logistic (c x : EReal)) + Ideal.ofBits .f32 897988541#32)) * k))
      = normR (fun x => (c x : EReal)) (fun x => (g x : EReal) * k) l
    ∧ ∃ r : ℝ, normR (fun x => (c x : EReal)) (fun x => (g x : EReal) * k) l = (r : EReal) := by
  obtain ⟨ε, hε, he⟩ := Cert.Common.lit_eps
  have he' : Ideal.ofBits .f32 897988541#32 = (ε : EReal) := he
  have hh : Ideal.ofBits .f32 3204448256#32 = ((-(1 / 2) : ℝ) : EReal) := Cert.Common.lit_neg_half
  unfold normR
  simp only [Ideal.logistic_coe, he', hh, hk]
  simp only [← EReal.coe_mul, Cert.Common.coe_sum, ← EReal.coe_add, Fin.sum_univ_one]
  obtain ⟨ρ, hρ, h1, hr⟩ := Cert.Common.rsqrt_pos (∑ x, c x * (1 + Real.exp (-c x))⁻¹ * (c x * (1 + Real.exp (-c x))⁻¹) + ε)
    (by have := Finset.sum_nonneg (s := Finset.univ) (f := fun x => c x * (1 + Real.exp (-c x))⁻¹ * (c x * (1 + Real.exp (-c x))⁻¹)) (fun x _ => mul_self_nonneg _); linarith)
  have hd : ∑ x, c x * (1 + Real.exp (-c x))⁻¹ * (g x * κ) = (∑ x, g x * (c x * (1 + Real.exp (-c x))⁻¹)) * κ := by
    rw [Finset.sum_mul]; exact Finset.sum_congr rfl fun x _ => by ring
  rw [hr, hd]
  generalize ∑ x, c x * (1 + Real.exp (-c x))⁻¹ * (c x * (1 + Real.exp (-c x))⁻¹) + ε = S at *
  have hS : S ≠ 0 := fun e => by rw [e] at h1; simp at h1
  have hinv : 1 / S = ρ * ρ := by field_simp; linarith
  rw [Ideal.div_coe hS, hinv]
  simp only [← EReal.coe_mul, ← EReal.coe_add, ← EReal.coe_sub]
  exact ⟨congrArg _ (by ring), _, rfl⟩

theorem row_eq (t : ℕ) (ht : t < 12) (c g : Fin 128 → ℝ) (l : Fin 128) :
    rowD t (fun x => (c x : EReal)) (fun x => (g x : EReal)) l = rowR t (fun x => (c x : EReal)) (fun x => (g x : EReal)) l := by
  have ge : Scalar.cmpi .sge (BitVec.ofNat 32 t) 8#32 = if 8 ≤ t then 1#1 else 0#1 := by
    have : ∀ t : Fin 12, Scalar.cmpi .sge (BitVec.ofNat 32 t.val) 8#32 = if 8 ≤ t.val then 1#1 else 0#1 := by decide
    exact this ⟨t, ht⟩
  have lt : Scalar.cmpi .slt (BitVec.ofNat 32 t) 4#32 = if t < 4 then 1#1 else 0#1 := by
    have : ∀ t : Fin 12, Scalar.cmpi .slt (BitVec.ofNat 32 t.val) 4#32 = if t.val < 4 then 1#1 else 0#1 := by decide
    exact this ⟨t, ht⟩
  obtain ⟨κ, hκ⟩ := Cert.Common.lit_scale
  have hk : Ideal.ofBits .f32 1035273459#32 = (κ : EReal) := hκ
  unfold rowD rowR
  rw [ge, lt]
  by_cases h4 : t < 4
  · simp only [if_pos h4, if_neg (show ¬8 ≤ t by omega), Scalar.select]
    obtain ⟨e, r, hr⟩ := norm_eq _ κ hk c g l
    refine (congrArg (· * _) (e.trans hr)).trans ?_
    exact (act_eq (c l) r).trans (congrArg _ hr.symm)
  by_cases h8 : t < 8
  · simp only [if_neg h4, if_pos h8, if_neg (show ¬8 ≤ t by omega), Scalar.select]
    obtain ⟨e, r, hr⟩ := norm_eq 1 1 EReal.coe_one.symm c g l
    refine (congrArg (· * _) (e.trans hr)).trans ?_
    refine (act_eq (c l) r).trans (congrArg _ (hr.symm.trans ?_))
    simp only [mul_one]
  · simp only [if_neg h4, if_neg h8, if_pos (show 8 ≤ t by omega), Scalar.select]
    refine (congrArg (· * _) ?_).trans (act_eq (c l) (g l))
    show (1:EReal) * (g l : EReal) - 0 = _
    rw [one_mul, sub_zero]

end Cert.ConvBwdIdeal.Val
end
-- ==== Proof.ConvBwd.Ref.lean ====
/- The gradient of the short convolution: what the reference's two results are, element by element. -/
module

public import proofs.«01_k».proof.Proof.ConvBwd.Entry
public import proofs.«01_k».proof.Proof.ConvBwd.Row
public import proofs.«01_k».proof.Proof.Gen.ConvBwdRefIdeal.Read
public import proofs.«01_k».proof.Proof.Gen.ConvBwd
public import proofs.«01_k».proof.Proof.Gen.Pre_conv_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.ConvBwdRefIdeal.Val

open Cert.ConvBwdRefIdeal Cert.ConvBwdRefIdeal.Gen Cert.ConvBwdRefIdeal.Read
open Cert.ConvBwdIdeal.Val (conv down pad_down up normR actR rowR rowD gradC gradX gradW)

variable (x0 : FVec Ideal S4096x1536 .f32) (x1 : FVec Ideal S4x1536 .f32) (x2 : FVec Ideal S3x4096x512 .f32) (x3 : FVec Ideal S4096x4992 .bf16)

theorem conv_ref : val_main_v31 (F := Ideal) x0 x1 = conv x0 x1 := by
  funext i
  idx_vars i
  pointwise [val_main_v31, val_main_v30, val_main_v24, val_main_v17, val_main_v10, val_main_v9, val_main_cst_1, val_main_v8, val_main_v7, val_main_v6, val_main_v5, val_main_v4, val_main_v3, val_main_v16, val_main_v15, val_main_v14, val_main_v13, val_main_v12, val_main_v11,
    val_main_v23, val_main_v22, val_main_v21, val_main_v20, val_main_v19, val_main_v18, val_main_v29, val_main_v28, val_main_v27, val_main_v26, val_main_v25, val_main_v1, val_main_v0, val_main_cst, conv]
  refine congrArg₂ (· + ·) (congrArg₂ (· + ·) (congrArg₂ (· + ·) (congrArg _ ?_) (congrArg _ ?_)) (congrArg _ ?_)) ?_
  · exact pad_down _ _ _ _ rfl _ fun h h' => rfl
  · exact pad_down _ _ _ _ (by omega) _ fun h h' => congrArg (fun k : Fin 4096 => x0 (ix2 k i1)) (Fin.ext (show 1 + i0.val - 3 = i0.val - 2 by omega))
  · exact pad_down _ _ _ _ (by omega) _ fun h h' => congrArg (fun k : Fin 4096 => x0 (ix2 k i1)) (Fin.ext (show 2 + i0.val - 3 = i0.val - 1 by omega))
  · rfl

theorem sig_ref (i) : val_main_v32_2 (F := Ideal) x0 x1 i = Ideal.logistic (val_main_v31 (F := Ideal) x0 x1 i) := by
  pointwise [val_main_v32_2, val_main_call0_v4, val_main_call0_v3, val_main_call0_v2, val_main_call0_v1, val_main_call0_v0, val_main_call0_cst, val_main_call0_cst_0]
  rfl

theorem q_ref (r : Fin 4096) (j : Fin 512) : val_main_v103 (F := Ideal) x0 x1 x2 (ix2 r j)
    = normR (fun l => val_main_v31 (F := Ideal) x0 x1 (ix2 r ⟨j.val / 128 * 128 + l.val, by omega⟩))
        (fun l => x2 (ix3 0 r ⟨j.val / 128 * 128 + l.val, by omega⟩) * Ideal.ofBits .f32 1035273459#32) ⟨j.val % 128, by omega⟩ := by
  have hj : j.val / 128 * 128 + j.val % 128 = j.val := by omega
  unfold normR
  simp only [hj]
  pointwise [val_main_v103, val_main_v102, val_main_v101, val_main_v100, val_main_v99, val_main_v98, val_main_v97, val_main_v96, val_main_v95, val_main_v94, val_main_v93, val_main_v92, val_main_v91, val_main_v90, val_main_v89,
    val_main_cst_9, val_main_cst_10, val_main_cst_11, val_main_cst_12, val_main_cst_13, val_main_v45, val_main_v44, val_main_v43, val_main_v42, val_main_v41, val_main_v40, val_main_v39, val_main_v38, val_main_v37, val_main_v36, val_main_v33, val_main_cst_2, val_main_cst_3, val_main_cst_4,
    val_main_v75, val_main_v69, val_main_v68, val_main_v32_0, sig_ref]

theorem k_ref (r : Fin 4096) (j : Fin 512) : val_main_v88 (F := Ideal) x0 x1 x2 (ix2 r j)
    = normR (fun l => val_main_v31 (F := Ideal) x0 x1 (ix2 r ⟨512 + (j.val / 128 * 128 + l.val), by omega⟩))
        (fun l => x2 (ix3 1 r ⟨j.val / 128 * 128 + l.val, by omega⟩)) ⟨j.val % 128, by omega⟩ := by
  have hj : j.val / 128 * 128 + j.val % 128 = j.val := by omega
  unfold normR
  simp only [hj]
  pointwise [val_main_v88, val_main_v87, val_main_v86, val_main_v85, val_main_v84, val_main_v83, val_main_v82, val_main_v81, val_main_v80, val_main_v79, val_main_v78, val_main_v77, val_main_v76, val_main_v74, val_main_v71, val_main_v70,
    val_main_cst_5, val_main_cst_6, val_main_cst_7, val_main_cst_8, val_main_cst_9, val_main_cst_10, val_main_v59, val_main_v58, val_main_v57, val_main_v56, val_main_v55, val_main_v54, val_main_v53, val_main_v52, val_main_v51, val_main_v50, val_main_v34,
    val_main_v32_0, sig_ref]

theorem normR_congr {c c' g g' : Fin 128 → EReal} {l l' : Fin 128} (hc : ∀ x, c x = c' x) (hg : ∀ x, g x = g' x) (hl : l = l') :
    normR c g l = normR c' g' l' := by
  rw [funext hc, funext hg, hl]

theorem ix3_ext {A B C : ℕ} {a a' : Fin A} {b : Fin B} {c c' : Fin C} (ha : a.val = a'.val) (hc : c.val = c'.val) : ix3 a b c = ix3 a' b c' := by
  rw [Fin.ext ha, Fin.ext hc]

theorem dc_ref (r : Fin 4096) (j : Fin 1536) : val_main_v105 (F := Ideal) x0 x1 x2 (ix2 r j)
    = rowR (j.val / 128) (fun l => val_main_v31 (F := Ideal) x0 x1 (ix2 r ⟨j.val / 128 * 128 + l.val, by omega⟩))
        (fun l => x2 (ix3 ⟨j.val / 128 / 4, by omega⟩ r ⟨j.val / 128 % 4 * 128 + l.val, by omega⟩)) ⟨j.val % 128, by omega⟩ := by
  have hj : j.val / 128 * 128 + j.val % 128 = j.val := by omega
  unfold rowR actR
  simp only [hj]
  pointwise [val_main_v105, val_main_call1_v1, val_main_call1_v2, val_main_call1_v0, val_main_v32_1, val_main_call0_v7, val_main_call0_v6, val_main_call0_cst_1, sig_ref, val_main_v104, val_main_v73, val_main_v72]
  have key : (if h : j.val < 512 then val_main_v103 (F := Ideal) x0 x1 x2 (ix2 r ⟨j.val, h⟩)
        else if h : j.val - 512 < 512 then val_main_v88 (F := Ideal) x0 x1 x2 (ix2 r ⟨j.val - 512, h⟩)
          else x2 (ix3 2 r ⟨j.val - 512 - 512, by omega⟩))
      = (if j.val / 128 < 4 then normR (fun l => val_main_v31 (F := Ideal) x0 x1 (ix2 r ⟨j.val / 128 * 128 + l.val, by omega⟩)) (fun x => x2 (ix3 ⟨j.val / 128 / 4, by omega⟩ r ⟨j.val / 128 % 4 * 128 + x.val, by omega⟩) * Ideal.ofBits .f32 1035273459#32) ⟨j.val % 128, by omega⟩
        else if j.val / 128 < 8 then normR (fun l => val_main_v31 (F := Ideal) x0 x1 (ix2 r ⟨j.val / 128 * 128 + l.val, by omega⟩)) (fun l => x2 (ix3 ⟨j.val / 128 / 4, by omega⟩ r ⟨j.val / 128 % 4 * 128 + l.val, by omega⟩)) ⟨j.val % 128, by omega⟩
        else x2 (ix3 ⟨j.val / 128 / 4, by omega⟩ r ⟨j.val / 128 % 4 * 128 + j.val % 128, by omega⟩)) := by
    by_cases h4 : j.val < 512
    · rw [dif_pos h4, if_pos (by omega), q_ref]
      exact normR_congr (fun l => rfl) (fun l => congrArg (fun i => x2 i * _) (ix3_ext (show 0 = j.val / 128 / 4 by omega) (show j.val / 128 * 128 + l.val = j.val / 128 % 4 * 128 + l.val by omega))) rfl
    by_cases h8 : j.val - 512 < 512
    · rw [dif_neg h4, dif_pos h8, if_neg (by omega), if_pos (by omega), k_ref]
      exact normR_congr (fun l => congrArg (fun i => val_main_v31 (F := Ideal) x0 x1 (ix2 r i)) (Fin.ext (show 512 + ((j.val - 512) / 128 * 128 + l.val) = j.val / 128 * 128 + l.val by omega)))
        (fun l => congrArg x2 (ix3_ext (show 1 = j.val / 128 / 4 by omega) (show (j.val - 512) / 128 * 128 + l.val = j.val / 128 % 4 * 128 + l.val by omega)))
        (Fin.ext (show (j.val - 512) % 128 = j.val % 128 by omega))
    · rw [dif_neg h4, dif_neg h8, if_neg (by omega), if_neg (by omega)]
      exact congrArg x2 (ix3_ext (show 2 = j.val / 128 / 4 by omega) (show j.val - 512 - 512 = j.val / 128 % 4 * 128 + j.val % 128 by omega))
  exact congrArg (actR (val_main_v31 (F := Ideal) x0 x1 (ix2 r j))) key

theorem pad_up (w : EReal) (d : Fin 4096 → EReal) (r : Fin 4096) (s : ℕ) (P : Prop) [Decidable P] (hP : P ↔ r.val + s < 4096) (f : P → EReal)
    (hf : ∀ (h : P) (h' : r.val + s < 4096), f h = w * d ⟨r.val + s, h'⟩) : (if h : P then f h else 0) = w * up s d r := by
  unfold up
  by_cases h : P
  · rw [dif_pos h, dif_pos (hP.mp h)]; exact hf h _
  · rw [dif_neg h, dif_neg (fun h' => h (hP.mpr h')), mul_zero]

/-- The first result of the reference: the derivative of the columns of the convolution, the other columns as given. -/
theorem x_ref (r : Fin 4096) (j : Fin 4992) : val_main_v153 (F := Ideal) x0 x1 x2 x3 (ix2 r j)
    = if h : 2048 ≤ j.val ∧ j.val < 3584 then gradX x1 (fun r j => val_main_v105 (F := Ideal) x0 x1 x2 (ix2 r j)) r ⟨j.val - 2048, by omega⟩ else x3 (ix2 r j) := by
  pointwise [val_main_v153, val_main_v152, val_main_v151, val_main_v150, val_main_v149, val_main_v144, val_main_v143, val_main_v138, val_main_v137, val_main_v133, val_main_v132, val_main_v127, val_main_v126, val_main_v122, val_main_v121, val_main_v116, val_main_v115,
    val_main_v112, val_main_v107, val_main_v106, val_main_cst_16, val_main_cst_20, val_main_cst_24, val_main_cst_28, val_main_v28, val_main_v21, val_main_v14, val_main_v6, val_main_v26, val_main_v25, val_main_v19, val_main_v18, val_main_v12, val_main_v11, val_main_v4, val_main_v3]
  by_cases h1 : j.val < 2048
  · refine (dif_pos h1).trans (Eq.trans ?_ (dif_neg (show ¬(2048 ≤ j.val ∧ j.val < 3584) by omega)).symm)
    rfl
  by_cases h2 : j.val - 2048 < 1536
  · refine (dif_neg h1).trans ((dif_pos h2).trans (Eq.trans ?_ (dif_pos (show 2048 ≤ j.val ∧ j.val < 3584 by omega)).symm))
    unfold gradX
    refine congrArg₂ (· + ·) (congrArg₂ (· + ·) (congrArg₂ (· + ·) ?_ ?_) ?_) ?_
    · rw [dif_pos h2]
    · exact pad_up _ _ _ _ _ (by omega) _ fun h h' => congrArg (fun q : Fin 4096 => _ * val_main_v105 (F := Ideal) x0 x1 x2 (ix2 q ⟨j.val - 2048, _⟩)) (Fin.ext (show 3 + r.val - 2 = r.val + 1 by omega))
    · exact pad_up _ _ _ _ _ (by omega) _ fun h h' => congrArg (fun q : Fin 4096 => _ * val_main_v105 (F := Ideal) x0 x1 x2 (ix2 q ⟨j.val - 2048, _⟩)) (Fin.ext (show 3 + r.val - 1 = r.val + 2 by omega))
    · exact pad_up _ _ _ _ _ (by omega) _ fun h h' => congrArg (fun q : Fin 4096 => _ * val_main_v105 (F := Ideal) x0 x1 x2 (ix2 q ⟨j.val - 2048, _⟩)) (Fin.ext (show 3 + r.val = r.val + 3 by omega))
  · refine (dif_neg h1).trans ((dif_neg h2).trans (Eq.trans ?_ (dif_neg (show ¬(2048 ≤ j.val ∧ j.val < 3584) by omega)).symm))
    exact congrArg (fun q : Fin 4992 => x3 (ix2 r q)) (Fin.ext (show 3584 + (j.val - 2048 - 1536) = j.val by omega))

/-- A product with a column shifted up is the product with the other one shifted down. -/
theorem sum_shift (s : ℕ) (d u : Fin 4096 → EReal) : ∑ r, up s d r * u r = ∑ r, d r * down s u r := by
  have e1 : ∀ r, up s d r * u r = ∑ q : Fin 4096, if q.val = r.val + s then d q * u r else 0 := fun r => by
    unfold up
    by_cases h : r.val + s < 4096
    · rw [dif_pos h, Finset.sum_eq_single (⟨r.val + s, h⟩ : Fin 4096) (fun q _ hq => if_neg fun e => hq (Fin.ext e)) (fun h => absurd (Finset.mem_univ _) h), if_pos rfl]
    · rw [dif_neg h, zero_mul, Finset.sum_eq_zero fun q _ => if_neg (by omega)]
  have e2 : ∀ q, d q * down s u q = ∑ r : Fin 4096, if q.val = r.val + s then d q * u r else 0 := fun q => by
    unfold down
    by_cases h : s ≤ q.val
    · rw [dif_pos h, Finset.sum_eq_single (⟨q.val - s, by omega⟩ : Fin 4096) (fun r _ hr => if_neg fun e => hr (Fin.ext (show r.val = q.val - s by omega)))
        (fun h => absurd (Finset.mem_univ _) h), if_pos (show q.val = q.val - s + s by omega)]
    · rw [dif_neg h, mul_zero, Finset.sum_eq_zero fun r _ => if_neg (by omega)]
  simp only [e1, e2]
  exact Finset.sum_comm

theorem pick (k : Fin 4) (f a b c d : EReal) (h3 : k.val = 3 → a = f) (h2 : k.val = 2 → b = f) (h1 : k.val = 1 → c = f) (h0 : k.val = 0 → d = f) :
    ((((if h : 3 ≤ k.val ∧ k.val - 3 < 1 then a else 0) + if h : 2 ≤ k.val ∧ k.val - 2 < 1 then b else 0)
      + if h : 1 ≤ k.val ∧ k.val - 1 < 1 then c else 0) + if h : k.val < 1 then d else 0) = f := by
  obtain h | h | h | h : k.val = 3 ∨ k.val = 2 ∨ k.val = 1 ∨ k.val = 0 := by omega
  · simp [h, h3 h]
  · simp [h, h2 h]
  · simp [h, h1 h]
  · simp [h, h0 h]

/-- The second result of the reference: the derivative of the taps. -/
theorem w_ref (k : Fin 4) (j : Fin 1536) : val_main_v147 (F := Ideal) x0 x1 x2 (ix2 k j)
    = gradW (3 - k.val) (fun r j => val_main_v105 (F := Ideal) x0 x1 x2 (ix2 r j)) (fun r => x0 (ix2 r j)) j := by
  pointwise [val_main_v147, val_main_v146, val_main_v145, val_main_v142, val_main_v141, val_main_v140, val_main_v139, val_main_v136, val_main_v135, val_main_v134, val_main_v131, val_main_v130, val_main_v129, val_main_v128, val_main_v125, val_main_v124, val_main_v123, val_main_v120, val_main_v119, val_main_v118, val_main_v117,
    val_main_v114, val_main_v113, val_main_v111, val_main_v110, val_main_v109, val_main_v108, val_main_cst_14, val_main_cst_15, val_main_cst_17, val_main_cst_18, val_main_cst_19, val_main_cst_21, val_main_cst_22, val_main_cst_23, val_main_cst_25, val_main_cst_26, val_main_cst_27, val_main_cst_29,
    val_main_v27, val_main_v20, val_main_v13, val_main_v5, val_main_v1, val_main_v0, val_main_cst]
  unfold gradW
  refine pick k _ _ _ _ _ (fun e => ?_) (fun e => ?_) (fun e => ?_) (fun e => ?_)
  · have hk : 3 - k.val = 0 := by omega
    simp only [Finset.univ_unique, Finset.sum_singleton, add_zero, hk]
    exact Finset.sum_congr rfl fun r _ => by rw [Cert.ConvBwdIdeal.Val.up_zero]
  · have hk : 3 - k.val = 1 := by omega
    simp only [Finset.univ_unique, Finset.sum_singleton, add_zero, zero_add, hk]
    rw [sum_shift]
    refine Finset.sum_congr rfl fun (r : Fin 4096) _ => congrArg (val_main_v105 (F := Ideal) x0 x1 x2 (ix2 r j) * ·) ?_
    refine pad_down (fun q : Fin 4096 => x0 (ix2 q j)) r 1 (2 + r.val) (by omega) _ fun h h' => ?_
    exact congrArg (fun k : Fin 4096 => x0 (ix2 k j)) (Fin.ext (show 2 + r.val - 3 = r.val - 1 by omega))
  · have hk : 3 - k.val = 2 := by omega
    simp only [Finset.univ_unique, Finset.sum_singleton, add_zero, zero_add, hk]
    rw [sum_shift]
    refine Finset.sum_congr rfl fun (r : Fin 4096) _ => congrArg (val_main_v105 (F := Ideal) x0 x1 x2 (ix2 r j) * ·) ?_
    refine pad_down (fun q : Fin 4096 => x0 (ix2 q j)) r 2 (1 + r.val) (by omega) _ fun h h' => ?_
    exact congrArg (fun k : Fin 4096 => x0 (ix2 k j)) (Fin.ext (show 1 + r.val - 3 = r.val - 2 by omega))
  · have hk : 3 - k.val = 3 := by omega
    simp only [Finset.univ_unique, Finset.sum_singleton, add_zero, zero_add, mul_zero, Finset.sum_const_zero, hk]
    refine Eq.symm ((Fin.sum_univ_add (M := EReal) (a := 4093) (b := 3) (fun r : Fin 4096 => up 3 (fun q => val_main_v105 (F := Ideal) x0 x1 x2 (ix2 q j)) r * x0 (ix2 r j))).trans ?_)
    rw [Finset.sum_eq_zero (s := (Finset.univ : Finset (Fin 3))), add_zero]
    · refine Finset.sum_congr rfl fun r _ => ?_
      refine congrArg₂ (· * ·) ((dif_pos (show r.val + 3 < 4096 by omega)).trans ?_) rfl
      exact congrArg (fun q : Fin 4096 => val_main_v105 (F := Ideal) x0 x1 x2 (ix2 q j)) (Fin.ext (show r.val + 3 = 3 + r.val by omega))
    · intro r _
      rw [show up 3 (fun q => val_main_v105 (F := Ideal) x0 x1 x2 (ix2 q j)) (Fin.natAdd 4093 r) = 0 from dif_neg (show ¬ 4093 + r.val + 3 < 4096 by omega), zero_mul]

end Cert.ConvBwdRefIdeal.Val
end
-- ==== Proof.ConvBwd.Equal.lean ====
/- The gradient of the short convolution: the kernel's two results are the reference's. -/
module

public import proofs.«01_k».proof.Proof.ConvBwd.Ref
public import proofs.«01_k».proof.Proof.Gen.ConvBwdRefIdeal.Read
public import proofs.«01_k».proof.Proof.Gen.ConvBwd
public import proofs.«01_k».proof.Proof.Gen.Pre_conv_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.ConvBwdRefIdeal.Val

open Cert.ConvBwdRefIdeal Cert.ConvBwdRefIdeal.Gen Cert.ConvBwdRefIdeal.Read
open Cert.ConvBwdIdeal.Val (conv down pad_down up normR actR rowR rowD gradC gradX gradW)

variable (x0 : FVec Ideal S4096x1536 .f32) (x1 : FVec Ideal S4x1536 .f32) (x2 : FVec Ideal S3x4096x512 .f32) (x3 : FVec Ideal S4096x4992 .bf16)

theorem down_real (s : ℕ) (d : Fin 4096 → ℝ) (r : Fin 4096) : ∃ ρ : ℝ, down s (fun q => (d q : EReal)) r = ρ := by
  unfold down; split
  · exact ⟨_, rfl⟩
  · exact ⟨0, rfl⟩

theorem conv_real (a : S4096x1536.Idx → ℝ) (b : S4x1536.Idx → ℝ) : ∃ C : S4096x1536.Idx → ℝ, conv (fun i => (a i : EReal)) (fun i => (b i : EReal)) = fun i => (C i : EReal) := by
  have : ∀ i : S4096x1536.Idx, ∃ ρ : ℝ, conv (fun i => (a i : EReal)) (fun i => (b i : EReal)) i = ρ := fun i => by
    obtain ⟨r3, h3⟩ := down_real 3 (fun q => a (ix2 q (i 1))) (i 0)
    obtain ⟨r2, h2⟩ := down_real 2 (fun q => a (ix2 q (i 1))) (i 0)
    obtain ⟨r1, h1⟩ := down_real 1 (fun q => a (ix2 q (i 1))) (i 0)
    refine ⟨b (ix2 0 (i 1)) * r3 + b (ix2 1 (i 1)) * r2 + b (ix2 2 (i 1)) * r1 + b (ix2 3 (i 1)) * a i, ?_⟩
    unfold conv
    rw [h3, h2, h1]
    norm_cast
  choose C hC using this
  exact ⟨C, funext hC⟩

/-- On finite arguments the kernel's derivative of the convolution's output is the reference's. -/
theorem grad_eq (a : S4096x1536.Idx → ℝ) (b : S4x1536.Idx → ℝ) (g : S3x4096x512.Idx → ℝ) (h0 : x0 = fun i => (a i : EReal)) (h1 : x1 = fun i => (b i : EReal))
    (h2 : x2 = fun i => (g i : EReal)) : gradC (conv x0 x1) x2 = fun r j => val_main_v105 (F := Ideal) x0 x1 x2 (ix2 r j) := by
  funext r j
  rw [dc_ref, conv_ref]
  subst h0 h1 h2
  obtain ⟨C, hC⟩ := conv_real a b
  rw [hC]
  exact Cert.ConvBwdIdeal.Val.row_eq (j.val / 128) (by omega) _ _ _

end Cert.ConvBwdRefIdeal.Val

namespace Cert.ConvBwdIdeal.Val

open Cert.ConvBwdIdeal Cert.ConvBwdIdeal.Gen

variable (m : (ℓ : Loc nD τ sig) → Buf (Elt Ideal) ℓ)

theorem eq_4 (c : Dev nD) (hg : gradC (conv (m ((c : Thread nD τ).loc main_arg0)) (m ((c : Thread nD τ).loc main_arg1))) (m ((c : Thread nD τ).loc main_arg2))
      = fun r j => Cert.ConvBwdRefIdeal.Read.val_main_v105 (F := Ideal) (m ((c : Thread nD τ).loc main_arg0)) (m ((c : Thread nD τ).loc main_arg1)) (m ((c : Thread nD τ).loc main_arg2)) (ix2 r j)) :
    (dats m 0 c).arrAt 4 (cfgs 0).N = Cert.ConvBwdRefIdeal.Read.val_main_v153 (F := Ideal)
      (m ((c : Thread nD τ).loc main_arg0)) (m ((c : Thread nD τ).loc main_arg1)) (m ((c : Thread nD τ).loc main_arg2)) (m ((c : Thread nD τ).loc main_arg3)) := by
  rw [arr_4, V31, V_main_arg1, V_main_arg2, V_main_arg3, hg]
  funext i
  idx_vars i
  exact (Cert.ConvBwdRefIdeal.Val.x_ref _ _ _ _ i0 i1).symm

theorem eq_5 (c : Dev nD) (hg : gradC (conv (m ((c : Thread nD τ).loc main_arg0)) (m ((c : Thread nD τ).loc main_arg1))) (m ((c : Thread nD τ).loc main_arg2))
      = fun r j => Cert.ConvBwdRefIdeal.Read.val_main_v105 (F := Ideal) (m ((c : Thread nD τ).loc main_arg0)) (m ((c : Thread nD τ).loc main_arg1)) (m ((c : Thread nD τ).loc main_arg2)) (ix2 r j)) :
    (dats m 0 c).arrAt 5 (cfgs 0).N = Cert.ConvBwdRefIdeal.Read.val_main_v147 (F := Ideal)
      (m ((c : Thread nD τ).loc main_arg0)) (m ((c : Thread nD τ).loc main_arg1)) (m ((c : Thread nD τ).loc main_arg2)) := by
  rw [arr_5, V31, V_main_arg2, hg]
  funext i
  idx_vars i
  rw [Cert.ConvBwdRefIdeal.Val.w_ref]
  exact congrArg (fun u => gradW _ _ u i1) (funext fun r => V0 m c r i1 _)

/-- The reference runs, leaves its arguments as they were and every counter at zero. -/
theorem frame_ref : Cert.quiescent_ConvBwdRefIdeal := fun m g _ =>
  (θ_run Cert.ConvBwdRefIdeal.defs _ _).mono (fun r h => ⟨fun c => (h c).2.2, sem_eq_zero_of_no_sems (by decide) r.2⟩)
    (Cert.ConvBwdRefIdeal.Value.run (F := Ideal) m g)

/-- On finite arguments kernel and reference compute the same two gradients over the extended reals. -/
theorem algebraic : Cert.algebraic_ConvBwdIdeal_ConvBwdRefIdeal_pre_conv_finite := by
  pair_intro
  · run_from Cert.ConvBwdIdeal.Gen.run_main m g
    all_goals first | exact V_main_arg0 m c | exact V_main_arg1 m c | exact V_main_arg2 m c | exact V_main_arg3 m c
  · have hg : ∀ c : Dev nD, gradC (conv (m ((c : Thread nD τ).loc main_arg0)) (m ((c : Thread nD τ).loc main_arg1))) (m ((c : Thread nD τ).loc main_arg2))
        = fun r j => Cert.ConvBwdRefIdeal.Read.val_main_v105 (F := Ideal) (m ((c : Thread nD τ).loc main_arg0)) (m ((c : Thread nD τ).loc main_arg1)) (m ((c : Thread nD τ).loc main_arg2)) (ix2 r j) := fun c => by
      obtain ⟨a, ha⟩ := Cert.Common.real_of_finite _ _ (fun _ => rfl) (hpre c).1
      obtain ⟨b, hb⟩ := Cert.Common.real_of_finite _ _ (fun _ => rfl) (hpre c).2.1
      obtain ⟨g, hg⟩ := Cert.Common.real_of_finite _ _ (fun _ => rfl) (hpre c).2.2
      exact Cert.ConvBwdRefIdeal.Val.grad_eq _ _ _ a b g ha hb hg
    run_from Cert.ConvBwdRefIdeal.Value.run m' g'
    · refine (Cert.ConvBwdRefIdeal.Read.val_main_v153_eq (StableHlo.launchContents m' c)).trans (Eq.trans ?_ (eq_4 m c (hg c)).symm)
      exact congr (congr (congr (congrArg _ (hagree c).1) (hagree c).2.1) (hagree c).2.2.1) (hagree c).2.2.2
    · refine (Cert.ConvBwdRefIdeal.Read.val_main_v147_eq (StableHlo.launchContents m' c)).trans (Eq.trans ?_ (eq_5 m c (hg c)).symm)
      exact congr (congr (congrArg _ (hagree c).1) (hagree c).2.1) (hagree c).2.2.1

end Cert.ConvBwdIdeal.Val
end
-- ==== Proof.BiasBwd.Kernel.lean ====
/- What the backward kernel of the relative-position bias leaves in its result: head by head, lane `l` holds the sum of the
   cotangent over the places whose bucket is `l`. -/
module

public import proofs.«01_k».proof.Proof.Gen.BiasBwdIdeal.Frame
public import proofs.«01_k».proof.Proof.Common
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BiasBwdIdeal.Val

open Cert.BiasBwdIdeal Cert.BiasBwdIdeal.Gen

variable (m : (ℓ : Loc nD τ sig) → Buf (Elt Ideal) ℓ)

/-- One bucket's turn: its lane gets the sum of the cotangent over the bucket's places. -/
def step (bk : IVec S128x256 32) (d : FVec Ideal S128x256 .f32) (b : BitVec 32) (row : FVec Ideal S1x128 .f32) : FVec Ideal S1x128 .f32 :=
  select (cmpi .eq (iota .tc S1x128 32 [1] iota_S1x128_d1_w32) (broadcast S1x128 b))
    (broadcastTo S1x128 (shapeCast S1x1 (shapeCast S1x1 (multiReduction .add [0] S1 (shapeCast S128x1
      (multiReduction .add [1] S128 (select (cmpi .eq bk (broadcast S128x256 b)) d (broadcast S128x256 (Scalar.ofBits .f32 0x00000000#32 : Ideal .f32)))
        0x00000000#32 reduces_S128x256_S128 (.inl rfl) rfl) shapeCasts_S128_S128x1)
      0x00000000#32 reduces_S128x1_S1 (.inl rfl) rfl) shapeCasts_S1_S1x1) shapeCasts_S1x1_S1x1) broadcasts_S1x1_S1x128) row

/-- The row after the first `n` buckets. -/
def rows (bk : IVec S128x256 32) (d : FVec Ideal S128x256 .f32) : ℕ → FVec Ideal S1x128 .f32
  | 0 => broadcast S1x128 (Scalar.ofBits .f32 0x00000000#32 : Ideal .f32)
  | n + 1 => step bk d (BitVec.ofNat 32 n) (rows bk d n)

/-- The sum of `d` over the places of bucket `l`. -/
def bucketSum (bk : IVec S128x256 32) (d : Fin 128 → Fin 256 → EReal) (l : ℕ) : EReal :=
  ∑ i : Fin 128, ∑ j : Fin 256, if bk (ix2 i j) = BitVec.ofNat 32 l then d i j else 0

theorem select_eq (a b : BitVec 32) (x y : EReal) : Scalar.select (IntOp.cmpi .eq a b) x y = if a = b then x else y := by
  by_cases h : a = b
  · rw [if_pos h, h]; simp [Scalar.select, IntOp.cmpi]
  · rw [if_neg h]
    simp [Scalar.select, IntOp.cmpi, beq_eq_false_iff_ne.mpr h]

theorem step_at (bk : IVec S128x256 32) (d : FVec Ideal S128x256 .f32) (n : ℕ) (row : FVec Ideal S1x128 .f32) (u : Fin 1) (l : Fin 128) :
    step bk d (BitVec.ofNat 32 n) row (ix2 u l) = if BitVec.ofNat 32 l.val = BitVec.ofNat 32 n then bucketSum bk (fun i j => d (ix2 i j)) n else row (ix2 u l) := by
  unfold step bucketSum
  pointwise
  simp only [select_eq]

theorem rows_at (bk : IVec S128x256 32) (d : FVec Ideal S128x256 .f32) (n : ℕ) (hn : n ≤ 32) (u : Fin 1) (l : Fin 128) :
    rows bk d n (ix2 u l) = if l.val < n then bucketSum bk (fun i j => d (ix2 i j)) l.val else 0 := by
  induction n with
  | zero => rw [if_neg (by omega)]; unfold rows; pointwise
  | succ n ih =>
    rw [rows, step_at, ih (by omega)]
    by_cases h : l.val = n
    · rw [if_pos (by rw [h]), if_pos (by omega), h]
    · rw [if_neg]
      · by_cases h' : l.val < n
        · rw [if_pos h', if_pos (by omega)]
        · rw [if_neg h', if_neg (by omega)]
      · intro e
        have := congrArg BitVec.toNat e
        simp only [BitVec.toNat_ofNat] at this
        omega

/-- What one head's row holds, the head's slab being `v`. -/
theorem head (x1 : Vec Ideal S128x256 .i32) (v : Vec Ideal S1x128x256 .f32) (x0 : Vec Ideal S8x128x256 .f32) (h k : Fin 8) (l : Fin 128) (x : S1x128.Idx)
    (hk : h.val = k.val + (x 0).val) (hx : l.val = (x 1).val) (hv : ∀ i j, v (ix3 0 i j) = x0 (ix3 k i j)) :
    rows (k0_pay2 (F := Ideal) (View.ld x1 r0_0)) (shapeCast S128x256 v shapeCasts_S1x128x256_S128x256) 32 x
      = if l.val < 32 then bucketSum x1 (fun i j => x0 (ix3 h i j)) l.val else 0 := by
  have h0 : (x 0).val < 1 := (x 0).isLt
  obtain rfl : h = k := Fin.ext (by omega)
  obtain rfl : l = x 1 := Fin.ext hx
  have e : x = ix2 (x 0) (x 1) := by idx_vars x; rfl
  refine (congrArg _ e).trans ((rows_at _ _ 32 le_rfl _ _).trans ?_)
  refine congrArg (fun s : EReal => if (x 1).val < 32 then s else 0) ?_
  unfold bucketSum
  refine Finset.sum_congr rfl fun i _ => Finset.sum_congr rfl fun j _ => ?_
  refine Eq.trans ?_ (congrArg (fun z : EReal => if x1 (ix2 i j) = BitVec.ofNat 32 (x 1).val then z else 0) (hv i j))
  have e1 : k0_pay2 (F := Ideal) (View.ld x1 r0_0) (ix2 i j) = x1 (ix2 i j) := by pointwise [k0_pay2]
  have e2 : shapeCast S128x256 v shapeCasts_S1x128x256_S128x256 (ix2 i j) = v (ix3 0 i j) := by pointwise
  refine (congrArg (fun w : BitVec 32 => if w = BitVec.ofNat 32 (x 1).val then _ else (0 : EReal)) e1).trans ?_
  exact congrArg (fun z : EReal => if x1 (ix2 i j) = BitVec.ofNat 32 (x 1).val then z else 0) e2

seal rows in
theorem out_at (x0 : Vec Ideal S8x128x256 .f32) (x1 : Vec Ideal S128x256 .i32) (h : Fin 8) (l : Fin 128) :
    out0_2 x0 x1 (ix2 h l) = if l.val < 32 then bucketSum x1 (fun i j => x0 (ix3 h i j)) l.val else 0 := by
  unfold_out out0_2
  canon_tiles x h
  case piece0 =>
    refine (congrFun (g := rows (k0_pay2 (F := Ideal) (View.ld x1 r0_0)) (shapeCast S128x256 (View.ld x0 r0_15) shapeCasts_S1x128x256_S128x256) 32) ?_ x).trans ?_
    · sl_kernel_rfl
    exact (head x1 (View.ld x0 r0_15) x0 h 7 l x h0 h1 fun i j => by pointwise).trans rfl
  case piece1 =>
    refine (congrFun (g := rows (k0_pay2 (F := Ideal) (View.ld x1 r0_0)) (shapeCast S128x256 (View.ld x0 r0_13) shapeCasts_S1x128x256_S128x256) 32) ?_ x).trans ?_
    · sl_kernel_rfl
    exact (head x1 (View.ld x0 r0_13) x0 h 6 l x h0 h1 fun i j => by pointwise).trans rfl
  case piece2 =>
    refine (congrFun (g := rows (k0_pay2 (F := Ideal) (View.ld x1 r0_0)) (shapeCast S128x256 (View.ld x0 r0_11) shapeCasts_S1x128x256_S128x256) 32) ?_ x).trans ?_
    · sl_kernel_rfl
    exact (head x1 (View.ld x0 r0_11) x0 h 5 l x h0 h1 fun i j => by pointwise).trans rfl
  case piece3 =>
    refine (congrFun (g := rows (k0_pay2 (F := Ideal) (View.ld x1 r0_0)) (shapeCast S128x256 (View.ld x0 r0_9) shapeCasts_S1x128x256_S128x256) 32) ?_ x).trans ?_
    · sl_kernel_rfl
    exact (head x1 (View.ld x0 r0_9) x0 h 4 l x h0 h1 fun i j => by pointwise).trans rfl
  case piece4 =>
    refine (congrFun (g := rows (k0_pay2 (F := Ideal) (View.ld x1 r0_0)) (shapeCast S128x256 (View.ld x0 r0_7) shapeCasts_S1x128x256_S128x256) 32) ?_ x).trans ?_
    · sl_kernel_rfl
    exact (head x1 (View.ld x0 r0_7) x0 h 3 l x h0 h1 fun i j => by pointwise).trans rfl
  case piece5 =>
    refine (congrFun (g := rows (k0_pay2 (F := Ideal) (View.ld x1 r0_0)) (shapeCast S128x256 (View.ld x0 r0_5) shapeCasts_S1x128x256_S128x256) 32) ?_ x).trans ?_
    · sl_kernel_rfl
    exact (head x1 (View.ld x0 r0_5) x0 h 2 l x h0 h1 fun i j => by pointwise).trans rfl
  case piece6 =>
    refine (congrFun (g := rows (k0_pay2 (F := Ideal) (View.ld x1 r0_0)) (shapeCast S128x256 (View.ld x0 r0_3) shapeCasts_S1x128x256_S128x256) 32) ?_ x).trans ?_
    · sl_kernel_rfl
    exact (head x1 (View.ld x0 r0_3) x0 h 1 l x h0 h1 fun i j => by pointwise).trans rfl
  case piece7 =>
    refine (congrFun (g := rows (k0_pay2 (F := Ideal) (View.ld x1 r0_0)) (shapeCast S128x256 (View.ld x0 r0_1) shapeCasts_S1x128x256_S128x256) 32) ?_ x).trans ?_
    · sl_kernel_rfl
    exact (head x1 (View.ld x0 r0_1) x0 h 0 l x (h0.trans (Nat.zero_add _).symm) h1 fun i j => by pointwise).trans rfl

theorem idx2_0 : ∀ t : Fin cfg0.N, win0_2.index t 0 = 0 := by decide +kernel
theorem idx2_1 : ∀ t : Fin cfg0.N, win0_2.index t 1 = 0 := by decide +kernel

theorem idx1 : ∀ t : Fin cfg0.N, win0_1.index t 0 = 0 ∧ win0_1.index t 1 = 0 := by decide +kernel
theorem idx0 : ∀ t : Fin cfg0.N, win0_0.index t 0 = 0 ∧ win0_0.index t 1 = 0 ∧ win0_0.index t 2 = 0 := by decide +kernel

/-- Each head's row of bucket sums, zero past the 32 buckets. -/
def K2 (bk : IVec S128x256 32) (d : Vec Ideal S8x128x256 .f32) : Vec Ideal S8x128 .f32 := fun i =>
  if (i 1).val < 32 then bucketSum bk (fun i' j' => d (ix3 (i 0) i' j')) (i 1).val else 0

theorem blk1 (c : Dev nD) (t : Fin cfg0.N) : iblk m c 1 t = V m c main_v13 := by
  funext y; idx_vars y
  refine congrArg (V m c main_v13) (?_ : ((cfg0.win 1).blk t).view.emb _ = _)
  funext a
  have h := idx1 t
  fin_cases a <;> refine Fin.ext ?_ <;> blk_simp <;> omega

theorem blk0 (c : Dev nD) (t : Fin cfg0.N) : iblk m c 0 t = V m c main_arg1 := by
  funext y; idx_vars y
  refine congrArg (V m c main_arg1) (?_ : ((cfg0.win 0).blk t).view.emb _ = _)
  funext a
  have h := idx0 t
  fin_cases a <;> refine Fin.ext ?_ <;> blk_simp <;> omega

/-- The kernel's result array. -/
theorem arr_2 (c : Dev nD) : (dats m 0 c).arrAt 2 cfg0.N = K2 (V m c main_v13) (V m c main_arg1) := by
  refine (dats m 0 c).arrAt_eq_of_covers 2 _ (by decide +kernel) fun t hf y => ?_
  have e : ((cfg0.win 2).blk t).view.emb y = y := by
    have h0 := idx2_0 t
    have h1 := idx2_1 t
    funext a
    fin_cases a <;> refine Fin.ext ?_ <;> blk_simp <;> omega
  rw [e]
  blk_simp
  rw [after0_2, blk0, blk1]
  idx_vars y
  exact out_at _ _ y0 y1

end Cert.BiasBwdIdeal.Val
end
-- ==== Proof.BiasBwd.Ref.lean ====
/- What the reference's gradient of the bias table holds: per bucket and head the cotangent's sum over the bucket's places. -/
module

public import proofs.«01_k».proof.Proof.Gen.BiasBwdRefIdeal.Run
public import proofs.«01_k».proof.Proof.Common
public import proofs.«01_k».proof.Proof.BiasBwd.Kernel
public import Idealize.ShloMosaic.Lib.Routing.OpsPair

@[expose] public section

set_option maxRecDepth 16384

noncomputable section

open Idealize.ShloMosaic Idealize.ShloMosaic.TcCoe Idealize.SL.Sem

namespace Cert.BiasBwdRefIdeal.Val

open Cert.BiasBwdRefIdeal Cert.BiasBwdRefIdeal.Facts₀
open Cert.BiasBwdIdeal.Val (bucketSum)

/-- A gathered bucket is an entry of the table. -/
theorem gather_mem (x : Vec Ideal S383 .i32) (idx : IVec S128x256x1 32) (i : S128x256.Idx) :
    ∃ k, Host.gather gather_S383_S128x256x1_S128x256_n_0_n_n_0_2_1 x idx i = x k := ⟨_, rfl⟩

/-- Every entry of the table is a bucket. -/
theorem lit_lt : ∀ k, (lit0 k).toNat < 32 := by decide +kernel

/-- Where an entry of the cotangent lands: at the row that its index word names, in its own column. -/
theorem lands (idx : IVec S128x256x1 32) (i : Fin 128) (j : Fin 256) (h' h : Fin 8) (b : Fin 32) :
    scatter_S32x8_S128x256x1_S128x256x8_2_0_0_2.resultIdx? (ix3 i j h') idx = some (ix2 b h)
      ↔ (idx (ix3 i j 0)).toInt = b.val ∧ h' = h := by
  have hs0 : scatter_S32x8_S128x256x1_S128x256x8_2_0_0_2.start (ix3 i j h') idx 0 = (idx (ix3 i j 0)).toInt := by
    unfold ScatterDims.start
    rw [dif_pos (by decide)]
    refine congrArg (fun k => (idx k).toInt) ?_
    funext a
    fin_cases a <;> rfl
  have hw0 : scatter_S32x8_S128x256x1_S128x256x8_2_0_0_2.window (ix3 i j h') 0 = 0 := by
    unfold ScatterDims.window
    rw [dif_neg (by decide)]
  have hs1 : scatter_S32x8_S128x256x1_S128x256x8_2_0_0_2.start (ix3 i j h') idx 1 = 0 := by
    unfold ScatterDims.start
    rw [dif_neg (by decide)]
  have hw1 : scatter_S32x8_S128x256x1_S128x256x8_2_0_0_2.window (ix3 i j h') 1 = h'.val := by
    unfold ScatterDims.window
    rw [dif_pos (by decide)]
    rfl
  refine (Routing.resultIdx?_ix2 _ _ _ _ _).trans ?_
  rw [hs0, hw0, hs1, hw1, Fin.ext_iff]
  omega

/-- The scattered sums of an array of buckets below 32. -/
theorem scattered (bk : IVec S128x256 32) (hb : ∀ i, (bk i).toNat < 32) (x : Vec Ideal S32x8 .f32) (u : Vec Ideal S128x256x8 .f32) (b : Fin 32) (h : Fin 8) (hx : x (ix2 b h) = 0) :
    (Host.scatterAdd (F := Ideal) (φ := .f32) scatter_S32x8_S128x256x1_S128x256x8_2_0_0_2 x
        (broadcastInDim S128x256x1 ![0, 1] bcast_S128x256_S128x256x1_0_1 (select (cmpi .slt bk (broadcastInDim S128x256 ![] bcast_S_S128x256 (constantI S_ 32 0#32)))
          (addi bk (broadcastInDim S128x256 ![] bcast_S_S128x256 (constantI S_ 32 32#32))) bk)) u : Vec Ideal S32x8 .f32) (ix2 b h)
      = bucketSum bk (fun i j => u (ix3 i j h)) b.val := by
  show x (ix2 b h) + ∑ j ∈ Finset.univ.filter (fun j => _ = some (ix2 b h)), u j = _
  rw [hx, zero_add, Finset.sum_filter]
  refine (sum_idx3 _).trans ?_
  unfold bucketSum
  refine Finset.sum_congr rfl fun i _ => Finset.sum_congr rfl fun j _ => ?_
  have hw : (broadcastInDim S128x256x1 ![0, 1] bcast_S128x256_S128x256x1_0_1 (select (cmpi .slt bk (broadcastInDim S128x256 ![] bcast_S_S128x256 (constantI S_ 32 0#32)))
          (addi bk (broadcastInDim S128x256 ![] bcast_S_S128x256 (constantI S_ 32 32#32))) bk)) (ix3 i j 0) = bk (ix2 i j) := by
    pointwise
    exact Routing.wrap_of_lt _ _ (lt_trans (hb _) (by norm_num))
  have hj : ((bk (ix2 i j)).toInt = (b.val : Int)) ↔ bk (ix2 i j) = BitVec.ofNat 32 b.val := by
    have hlt := hb (ix2 i j)
    have e : (bk (ix2 i j)).toInt = ((bk (ix2 i j)).toNat : Int) := BitVec.toInt_eq_toNat_of_lt (by omega)
    rw [e]
    constructor
    · intro q
      refine BitVec.eq_of_toNat_eq ?_
      rw [BitVec.toNat_ofNat]
      omega
    · intro q
      rw [q, BitVec.toNat_ofNat]
      omega
  simp only [lands, hw, hj]
  by_cases q : bk (ix2 i j) = BitVec.ofNat 32 b.val
  · simp [q]
  · simp [q]

/-- The table turned to one row a head and filled up with zeros. -/
theorem padded (X : Vec Ideal S32x8 .f32) (h : Fin 8) (l : Fin 128) :
    pad S8x128 ![0, 0] ![0, 96] ![0, 0] (transpose S8x32 [1, 0] X transposes_S32x8_S8x32_1_0) (sitofp (F := Ideal) .f32 (constantI S_ 32 0#32)) pads_S8x32_S8x128_000_0960 h_S_ (ix2 h l)
      = if q : l.val < 32 then X (ix2 ⟨l.val, q⟩ h) else 0 := by
  pointwise
  rw [Cert.Common.sitofp_zero]

/-- The reference's result, as an array. -/
theorem value (bk : IVec S128x256 32) (hb : ∀ i, (bk i).toNat < 32) (d : Vec Ideal S8x128x256 .f32) :
    pad S8x128 ![0, 0] ![0, 96] ![0, 0] (transpose S8x32 [1, 0] (Host.scatterAdd (F := Ideal) (φ := .f32) scatter_S32x8_S128x256x1_S128x256x8_2_0_0_2
      (broadcastInDim S32x8 ![] bcast_S_S32x8 (constant (F := Ideal) S_ .f32 0x00000000#32))
        (broadcastInDim S128x256x1 ![0, 1] bcast_S128x256_S128x256x1_0_1 (select (cmpi .slt bk (broadcastInDim S128x256 ![] bcast_S_S128x256 (constantI S_ 32 0#32)))
          (addi bk (broadcastInDim S128x256 ![] bcast_S_S128x256 (constantI S_ 32 32#32))) bk))
        (transpose S128x256x8 [1, 2, 0] d transposes_S8x128x256_S128x256x8_1_2_0)) transposes_S32x8_S8x32_1_0) (sitofp (F := Ideal) .f32 (constantI S_ 32 0#32)) pads_S8x32_S8x128_000_0960 h_S_
      = fun i => if (i 1).val < 32 then bucketSum bk (fun i' j' => d (ix3 (i 0) i' j')) (i 1).val else 0 := by
  funext i
  idx_vars i
  refine (padded _ i0 i1).trans ?_
  by_cases h : i1.val < 32
  · rw [dif_pos h, scattered bk hb _ _ _ _ (by pointwise)]
    refine Eq.trans ?_ (if_pos h).symm
    unfold bucketSum
    refine Finset.sum_congr rfl fun i _ => Finset.sum_congr rfl fun j _ => ?_
    pointwise
  · exact (dif_neg h).trans (if_neg h).symm

end Cert.BiasBwdRefIdeal.Val
end
-- ==== Proof.BiasBwd.Equal.lean ====
/- The bias table's gradient: kernel and reference compute the same array. -/
module

public import proofs.«01_k».proof.Proof.BiasBwd.Ref
public import proofs.«01_k».proof.Defs

@[expose] public section

set_option maxRecDepth 16384

noncomputable section

open Idealize.ShloMosaic Idealize.ShloMosaic.TcCoe Idealize.SL.Sem
open Idealize.ShloMosaic.Pipeline (Dat)

namespace Cert.BiasBwdIdeal.Val

open Cert.BiasBwdIdeal Cert.BiasBwdIdeal.Gen

variable (m : (ℓ : Loc nD τ sig) → Buf (Elt Ideal) ℓ)

/-- The place in the table of distances that a query and a key look up. -/
def place : IVec S128x256 32 :=
  addi (subi (addi (broadcastInDim S128x256 ![] Facts₀.bcast_S_S128x256 (constantI S_ 32 128#32)) (iotaInDim S128x256 32 0)) (iotaInDim S128x256 32 1))
    (broadcastInDim S128x256 ![] Facts₀.bcast_S_S128x256 (constantI S_ 32 127#32))

/-- The bucket of every query and key. -/
def buckets : IVec S128x256 32 :=
  Host.gather gather_S383_S128x256x1_S128x256_n_0_n_n_0_2_1 (fun i => lit0 (S383.rowMajor i)) (broadcastInDim S128x256x1 ![0, 1] Facts₀.bcast_S128x256_S128x256x1_0_1
    (select (cmpi .slt place (broadcastInDim S128x256 ![] Facts₀.bcast_S_S128x256 (constantI S_ 32 0#32)))
      (addi place (broadcastInDim S128x256 ![] Facts₀.bcast_S_S128x256 (constantI S_ 32 383#32))) place))

theorem V13 (c : Dev nD) : V m c main_v13 = buckets := by
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rfl

end Cert.BiasBwdIdeal.Val

namespace Cert.BiasBwdRefIdeal.Val

/-- The two programs hold one table. -/
theorem lit_eq : Cert.BiasBwdRefIdeal.lit0 = Cert.BiasBwdIdeal.lit0 := by
  funext k
  exact (by decide +kernel : ∀ k, Cert.BiasBwdRefIdeal.lit0 k = Cert.BiasBwdIdeal.lit0 k) k

end Cert.BiasBwdRefIdeal.Val

namespace Cert.BiasBwdIdeal.Val

open Cert.BiasBwdIdeal Cert.BiasBwdIdeal.Gen

theorem buckets_lt (i : S128x256.Idx) : (buckets i).toNat < 32 := by
  rw [show buckets = Host.gather Cert.BiasBwdRefIdeal.gather_S383_S128x256x1_S128x256_n_0_n_n_0_2_1 (fun i => Cert.BiasBwdIdeal.lit0 (S383.rowMajor i)) _ from rfl, ← Cert.BiasBwdRefIdeal.Val.lit_eq]
  obtain ⟨k, hk⟩ := Cert.BiasBwdRefIdeal.Val.gather_mem (fun i => Cert.BiasBwdRefIdeal.lit0 (S383.rowMajor i)) _ i
  rw [hk]
  exact Cert.BiasBwdRefIdeal.Val.lit_lt _

theorem frame_ref : Cert.quiescent_BiasBwdRefIdeal := fun m g _ =>
  (θ_run Cert.BiasBwdRefIdeal.defs _ _).mono (fun r h => ⟨fun c => (h c).2, sem_eq_zero_of_no_sems (by decide) r.2⟩)
    (Cert.BiasBwdRefIdeal.Value.run (F := Ideal) m g)

theorem algebraic : Cert.algebraic_BiasBwdIdeal_BiasBwdRefIdeal := by
  pair_intro
  · run_from Cert.BiasBwdIdeal.Gen.run_main m g
    all_goals first | exact V_main_arg0 m c | exact V_main_arg1 m c
  · run_from Cert.BiasBwdRefIdeal.Value.run m' g'
    · rw [Cert.BiasBwdRefIdeal.Val.lit_eq]
      refine (Cert.BiasBwdRefIdeal.Val.value buckets buckets_lt _).trans ?_
      refine Eq.trans ?_ (arr_2 m c).symm
      rw [V13, V_main_arg1]
      rfl

end Cert.BiasBwdIdeal.Val
end
-- ==== Proof.OutBwd.Kernel.lean ====
/- What the backward kernel of the heads' gated output norm writes, as functions of a row of a head. -/
module

public import proofs.«01_k».proof.Proof.Gen.OutBwdIdeal.Frame
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdIdeal.Val

open Cert.OutBwdIdeal Cert.OutBwdIdeal.Gen

variable (m : (ℓ : Loc nD τ sig) → Buf (Elt Ideal) ℓ)

/-- The block of every window at every grid point. -/
theorem idx : ∀ t : Fin cfg0.N, win0_0.index t = ![t.val / 4, t.val % 4]
    ∧ win0_1.index t = ![t.val / 4, 28 + (t.val % 4)]
    ∧ win0_2.index t = ![0, 0]
    ∧ win0_3.index t = ![t.val / 4, t.val % 4]
    ∧ win0_4.index t = ![t.val / 4, t.val % 4]
    ∧ win0_5.index t = ![t.val / 4, 28 + (t.val % 4)]
    ∧ win0_6.index t = ![0, 0] :=
  (by decide +kernel : ∀ t : Fin grid0.N, _)

/-- The length of a head, as the programs' literal. -/
abbrev n128 : EReal := Ideal.ofBits .f32 1124073472#32

/-- The cotangent of the normed head: that of the result times the gate's silu. -/
def back (z dy : Fin 128 → EReal) (k : Fin 128) : EReal := dy k * (z k * Ideal.logistic (z k))

/-- The gradient of the gate's argument in a row of a head. -/
def gateGrad (o z g dy : Fin 128 → EReal) (j : Fin 128) : EReal :=
  let u := o j * Ideal.rsqrt (Cert.Common.meanSq n128 o) * g j * dy j
  u * Ideal.logistic (z j) + z j * u * (Ideal.logistic (z j) * (1 - Ideal.logistic (z j)))

/-- A row's part of the gain's gradient. -/
def gainPart (o z dy : Fin 128 → EReal) (j : Fin 128) : EReal :=
  o j * Ideal.rsqrt (Cert.Common.meanSq n128 o) * back z dy j

theorem pay7_at (v0 : Vec Ideal S1024x128 .f32) (r : Fin 1024) (u : Fin 1) : k0_pay7 v0 (ix2 r u) = Cert.Common.meanSq n128 (fun k => v0 (ix2 r k)) := by
  pointwise [k0_pay7, Cert.Common.meanSq]

theorem pay16_at (v0 v1 v25 : Vec Ideal S1024x128 .f32) (v3) (r : Fin 1024) (u : Fin 1) : Ideal.div (k0_pay16 v0 v1 v3 v25 (ix2 r u)) n128
    = Cert.Common.normPull n128 (fun k => v0 (ix2 r k)) (fun k => back (fun k => v1 (ix2 r k)) (fun k => v25 (ix2 r k)) k * v3 (ix2 0 k)) := by
  pointwise [k0_pay16, k0_pay14, k0_pay11, k0_pay10, k0_pay6, k0_pay5, k0_pay8, pay7_at, Cert.Common.normPull, back]

theorem pay1_at (v0 v1 v25 : Vec Ideal S1024x128 .f32) (v3) (r : Fin 1024) (u : Fin 128) : k0_pay1 v0 (k0_pay15 v0 v1 v3 v25) (k0_pay16 v0 v1 v3 v25) (ix2 r u)
    = Cert.Common.normGrad n128 (fun k => v0 (ix2 r k)) (fun k => back (fun k => v1 (ix2 r k)) (fun k => v25 (ix2 r k)) k * v3 (ix2 0 k)) u := by
  pointwise [k0_pay1, k0_pay15, k0_pay14, k0_pay11, k0_pay10, k0_pay6, k0_pay5, k0_pay8, pay16_at, pay7_at, Cert.Common.normGrad, back]
  simp only [Fin.sum_univ_one]

theorem pay12_at (v0 v1 v25 : Vec Ideal S1024x128 .f32) (v3) (r : Fin 1024) (u : Fin 128) : k0_pay12 v0 v1 v3 v25 (ix2 r u)
    = gateGrad (fun k => v0 (ix2 r k)) (fun k => v1 (ix2 r k)) (fun k => v3 (ix2 0 k)) (fun k => v25 (ix2 r k)) u := by
  pointwise [k0_pay12, k0_pay9, k0_pay14, k0_pay11, k0_pay10, k0_pay6, k0_pay5, k0_pay8, pay7_at, gateGrad]

theorem pay13_at (v0 v1 v25 : Vec Ideal S1024x128 .f32)  (u : Fin 1) (j : Fin 128): k0_pay13 v0 v1 v25 (ix2 u j)
    = ∑ r : Fin 1024, gainPart (fun k => v0 (ix2 r k)) (fun k => v1 (ix2 r k)) (fun k => v25 (ix2 r k)) j := by
  pointwise [k0_pay13, k0_pay9, k0_pay14, k0_pay11, k0_pay10, k0_pay6, k0_pay5, k0_pay8, pay7_at, gainPart, back]

/-- Head `h` of a row of the heads' array. -/
def head (x : FVec Ideal S4096x512 .f32) (r : Fin 4096) (h : Fin 4) (k : Fin 128) : EReal := x (ix2 r ⟨h.val * 128 + k.val, by omega⟩)

/-- Head `h` of the gate's argument in a row of the projection. -/
def zhead (x : FVec Ideal S4096x4992 .f32) (r : Fin 4096) (h : Fin 4) (k : Fin 128) : EReal := x (ix2 r ⟨3584 + h.val * 128 + k.val, by omega⟩)

theorem blk0 (c : Dev nD) (t : Fin cfg0.N) (a : Fin 1024) (r : Fin 4096) (h : Fin 4) (hr : r.val = t.val / 4 * 1024 + a.val) (hh : h.val = t.val % 4) :
    (fun k => iblk m c 0 t (ix2 a k)) = head (V m c main_arg0) r h := by
  funext k
  refine congrArg (V m c main_arg0) (?_ : ((cfg0.win 0).blk t).view.emb _ = _)
  funext q; fin_cases q <;> refine Fin.ext ?_ <;> blk_simp [idx t] <;> show _ = _ <;> simp <;> omega

theorem blk1 (c : Dev nD) (t : Fin cfg0.N) (a : Fin 1024) (r : Fin 4096) (h : Fin 4) (hr : r.val = t.val / 4 * 1024 + a.val) (hh : h.val = t.val % 4) :
    (fun k => iblk m c 1 t (ix2 a k)) = zhead (V m c main_v0) r h := by
  funext k
  refine congrArg (V m c main_v0) (?_ : ((cfg0.win 1).blk t).view.emb _ = _)
  funext q; fin_cases q <;> refine Fin.ext ?_ <;> blk_simp [idx t] <;> show _ = _ <;> simp <;> omega

theorem blk2 (c : Dev nD) (t : Fin cfg0.N) : (fun k => iblk m c 2 t (ix2 0 k)) = fun k => V m c main_v1 (ix2 0 k) := by
  funext k
  refine congrArg (V m c main_v1) (?_ : ((cfg0.win 2).blk t).view.emb _ = _)
  funext q; fin_cases q <;> refine Fin.ext ?_ <;> blk_simp [idx t] <;> show _ = _ <;> simp <;> omega

theorem blk3 (c : Dev nD) (t : Fin cfg0.N) (a : Fin 1024) (r : Fin 4096) (h : Fin 4) (hr : r.val = t.val / 4 * 1024 + a.val) (hh : h.val = t.val % 4) :
    (fun k => iblk m c 3 t (ix2 a k)) = head (V m c main_arg3) r h := by
  funext k
  refine congrArg (V m c main_arg3) (?_ : ((cfg0.win 3).blk t).view.emb _ = _)
  funext q; fin_cases q <;> refine Fin.ext ?_ <;> blk_simp [idx t] <;> show _ = _ <;> simp <;> omega

/-- The gradient of a head's row. -/
def headGrad (o z g dy : Fin 128 → EReal) (j : Fin 128) : EReal := Cert.Common.normGrad n128 o (fun k => back z dy k * g k) j

/-- An array over rows and the heads' columns, from its values at a row, a head and a lane. -/
def heads (f : Fin 4096 → Fin 4 → Fin 128 → EReal) : FVec Ideal S4096x512 .f32 := fun i =>
  f (i 0) ⟨(i 1).val / 128, Nat.div_lt_of_lt_mul (i 1).isLt⟩ ⟨(i 1).val % 128, Nat.mod_lt _ (by norm_num)⟩

theorem heads_at (f : Fin 4096 → Fin 4 → Fin 128 → EReal) (i : S4096x512.Idx) (r : Fin 4096) (h : Fin 4) (j : Fin 128) (hr : (i 0).val = r.val)
    (hq : (i 1).val = h.val * 128 + j.val) : heads f i = f r h j := by
  obtain rfl : i 0 = r := Fin.ext hr
  exact congrArg₂ (f (i 0)) (Fin.ext (show (i 1).val / 128 = h.val by omega)) (Fin.ext (show (i 1).val % 128 = j.val by omega))

/-- The gradient of the heads. -/
def K4 (O : FVec Ideal S4096x512 .f32) (Z : FVec Ideal S4096x4992 .f32) (G : Fin 128 → EReal) (D : FVec Ideal S4096x512 .f32) : FVec Ideal S4096x512 .f32 :=
  heads fun r h => headGrad (head O r h) (zhead Z r h) G (head D r h)

/-- The gate's gradient at a row, a head and a lane. -/
def K5 (O : FVec Ideal S4096x512 .f32) (Z : FVec Ideal S4096x4992 .f32) (G : Fin 128 → EReal) (D : FVec Ideal S4096x512 .f32) : FVec Ideal S4096x512 .f32 :=
  heads fun r h => gateGrad (head O r h) (zhead Z r h) G (head D r h)

/-- The gradient of the heads after the run. -/
theorem arr_4 (c : Dev nD) : (dats m 0 c).arrAt 4 (cfgs 0).N = K4 (V m c main_arg0) (V m c main_v0) (fun k => V m c main_v1 (ix2 0 k)) (V m c main_arg3) := by
  refine (dats m 0 c).arrAt_eq_of_covers 4 _ (by decide +kernel) fun t hf y => ?_
  have ht : t.val < 16 := lt_of_lt_of_eq t.isLt N_0
  have key : ∀ y : S1024x128.Idx, k0_pay1 (iblk m c 0 t) (k0_pay15 (iblk m c 0 t) (iblk m c 1 t) (iblk m c 2 t) (iblk m c 3 t))
      (k0_pay16 (iblk m c 0 t) (iblk m c 1 t) (iblk m c 2 t) (iblk m c 3 t)) y
        = K4 (V m c main_arg0) (V m c main_v0) (fun k => V m c main_v1 (ix2 0 k)) (V m c main_arg3) (((cfg0.win 4).blk t).view.emb y) := by
    intro y
    idx_vars y
    have hy0 := y0.isLt
    have hy1 := y1.isLt
    refine Eq.trans ?_ (heads_at _ _ ⟨t.val / 4 * 1024 + y0.val, by omega⟩ ⟨t.val % 4, by omega⟩ y1 (by blk_simp [idx t]) (by blk_simp [idx t])).symm
    rw [pay1_at, ← blk0 m c t y0 _ _ rfl rfl, ← blk1 m c t y0 _ _ rfl rfl, ← blk2 m c t, ← blk3 m c t y0 _ _ rfl rfl]
    rfl
  by_cases h : t.val % 16 = 0
  · refine Eq.trans ?_ (key y)
    blk_simp; rw [after0_4, outsAt0_A m c t h]; frame_out
  · refine Eq.trans ?_ (key y)
    blk_simp; rw [after0_4, outsAt0_B m c t h]; frame_out

theorem cov : (cfg0.win 5).CoversWhere (fun β => 28 ≤ β 1 ∧ β 1 < 32) := by decide +kernel

/-- The projection's cotangent after the run: the gate's gradient in its columns, the argument's own contents elsewhere. -/
theorem arr_5 (c : Dev nD) : (dats m 0 c).arrAt 5 (cfgs 0).N = fun i => if h : 3584 ≤ (i 1).val ∧ (i 1).val < 4096 then
    K5 (V m c main_arg0) (V m c main_v0) (fun k => V m c main_v1 (ix2 0 k)) (V m c main_arg3) (ix2 (i 0) ⟨(i 1).val - 3584, by omega⟩) else V m c main_arg4 i := by
  refine ((dats m 0 c).arrAt_eq_of_coversWhere 5 (fun i => if h : 3584 ≤ (i 1).val ∧ (i 1).val < 4096 then
    K5 (V m c main_arg0) (V m c main_v0) (fun k => V m c main_v1 (ix2 0 k)) (V m c main_arg3) (ix2 (i 0) ⟨(i 1).val - 3584, by omega⟩) else (0 : EReal))
      (P := fun i => 3584 ≤ (i 1).val ∧ (i 1).val < 4096) _ cov (fun t hf y => ?_) (fun j => ?_)).trans ?_
  · have ht : t.val < 16 := lt_of_lt_of_eq t.isLt N_0
    have key : ∀ y : S1024x128.Idx, k0_pay2 (k0_pay12 (iblk m c 0 t) (iblk m c 1 t) (iblk m c 2 t) (iblk m c 3 t)) y
        = if h : 3584 ≤ (((cfg0.win 5).blk t).view.emb y 1).val ∧ (((cfg0.win 5).blk t).view.emb y 1).val < 4096 then
          K5 (V m c main_arg0) (V m c main_v0) (fun k => V m c main_v1 (ix2 0 k)) (V m c main_arg3) (ix2 (((cfg0.win 5).blk t).view.emb y 0) ⟨(((cfg0.win 5).blk t).view.emb y 1).val - 3584, by omega⟩) else (0 : EReal) := by
      intro y
      idx_vars y
      have hy0 := y0.isLt
      have hy1 := y1.isLt
      have e1 : (((cfg0.win 5).blk t).view.emb (ix2 y0 y1) 1).val = (28 + t.val % 4) * 128 + y1.val := by blk_simp [idx t]
      refine Eq.trans ?_ (dif_pos (⟨by omega, by omega⟩ : 3584 ≤ (((cfg0.win 5).blk t).view.emb (ix2 y0 y1) 1).val ∧ (((cfg0.win 5).blk t).view.emb (ix2 y0 y1) 1).val < 4096)).symm
      refine Eq.trans ?_ (heads_at _ _ ⟨t.val / 4 * 1024 + y0.val, by omega⟩ ⟨t.val % 4, by omega⟩ y1 (by blk_simp [idx t]) (by refine (congrArg (· - 3584) e1).trans ?_; show (28 + t.val % 4) * 128 + y1.val - 3584 = t.val % 4 * 128 + y1.val; omega)).symm
      rw [← blk0 m c t y0 _ _ rfl rfl, ← blk1 m c t y0 _ _ rfl rfl, ← blk2 m c t, ← blk3 m c t y0 _ _ rfl rfl]
      pointwise [k0_pay2, pay12_at]
    refine Eq.trans ?_ (key y)
    by_cases h : t.val % 16 = 0
    · blk_simp; rw [after0_5, outsAt0_A m c t h]; frame_out
    · blk_simp; rw [after0_5, outsAt0_B m c t h]; frame_out
  · blk_simp [Pipeline.Window.cell_apply]
    omega
  · funext i
    by_cases h : 3584 ≤ (i 1).val ∧ (i 1).val < 4096
    · simp only [if_pos h, dif_pos h]
    · simp only [if_neg h, dif_neg h]
      rfl

theorem pay3_at (j : S1x128.Idx) : k0_pay3 (F := Ideal) j = 0 := by pointwise! [k0_pay3]

theorem pay4_at (v34 : FVec Ideal S1x128 .f32) (v60 : Vec Ideal S1x128 .f32) (j : S1x128.Idx) : k0_pay4 v34 v60 j = v60 j + v34 j := by
  pointwise [k0_pay4]

/-- Four blocks of 1024 rows, each once for every head, are all the rows and heads. -/
theorem blocks_sum (g : Fin 4096 → Fin 4 → EReal) : ∑ s : Fin 16, ∑ a : Fin 1024, g ⟨s.val / 4 * 1024 + a.val, by omega⟩ ⟨s.val % 4, by omega⟩ = ∑ r, ∑ h, g r h := by
  rw [← Fin.sum_mul_add_fin 4 4 (fun s : Fin 16 => ∑ a : Fin 1024, g ⟨s.val / 4 * 1024 + a.val, by omega⟩ ⟨s.val % 4, by omega⟩),
    ← Fin.sum_mul_add_fin 4 1024 (fun r => ∑ h, g r h)]
  refine Finset.sum_congr rfl fun a _ => ?_
  rw [Finset.sum_comm]
  refine Finset.sum_congr rfl fun b _ => Finset.sum_congr rfl fun h _ => ?_
  exact congrArg₂ g (Fin.ext (show (a.val * 4 + h.val) / 4 * 1024 + b.val = a.val * 1024 + b.val by omega)) (Fin.ext (show (a.val * 4 + h.val) % 4 = h.val by omega))

/-- The gain's gradient after the run: every row's part of every head. -/
theorem arr_6 (c : Dev nD) : (dats m 0 c).arrAt 6 (cfgs 0).N = fun j => ∑ r : Fin 4096, ∑ h : Fin 4,
    gainPart (head (V m c main_arg0) r h) (zhead (V m c main_v0) r h) (head (V m c main_arg3) r h) (j 1) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0)
    (fun t j => k0_pay13 (iblk m c 0 t) (iblk m c 1 t) (iblk m c 3 t) j)
    (fun t h j => by rw [outsAt0_A m c t h]; frame_out; rw [pay4_at, pay3_at])
    (fun t h j => by rw [outsAt0_B m c t h]; frame_out; rw [pay4_at])
    t ((flush0_6 t).mp hf) _, zero_add]
  have ht : t.val / 16 = 0 := by have := lt_of_lt_of_eq t.isLt N_0; omega
  idx_vars y
  have e1 : ((win0_6.blk t).view.emb (ix2 y0 y1) 1) = y1 := Fin.ext (by blk_simp [idx t])
  rw [e1]
  have key : ∀ s : Fin 16, ∀ h, k0_pay13 (iblk m c 0 ⟨16 * (t.val / 16) + s.val, h⟩) (iblk m c 1 ⟨16 * (t.val / 16) + s.val, h⟩)
        (iblk m c 3 ⟨16 * (t.val / 16) + s.val, h⟩) (ix2 y0 y1)
      = ∑ a : Fin 1024, gainPart (head (V m c main_arg0) ⟨s.val / 4 * 1024 + a.val, by omega⟩ ⟨s.val % 4, by omega⟩)
          (zhead (V m c main_v0) ⟨s.val / 4 * 1024 + a.val, by omega⟩ ⟨s.val % 4, by omega⟩) (head (V m c main_arg3) ⟨s.val / 4 * 1024 + a.val, by omega⟩ ⟨s.val % 4, by omega⟩) y1 := by
    intro s h
    rw [pay13_at]
    refine Finset.sum_congr rfl fun a _ => ?_
    have hs : (16 * (t.val / 16) + s.val) = s.val := by omega
    rw [← blk0 m c ⟨16 * (t.val / 16) + s.val, h⟩ a _ _ (by show s.val / 4 * 1024 + a.val = (16 * (t.val / 16) + s.val) / 4 * 1024 + a.val; rw [hs]) (by show s.val % 4 = (16 * (t.val / 16) + s.val) % 4; rw [hs]),
      ← blk1 m c ⟨16 * (t.val / 16) + s.val, h⟩ a _ _ (by show s.val / 4 * 1024 + a.val = (16 * (t.val / 16) + s.val) / 4 * 1024 + a.val; rw [hs]) (by show s.val % 4 = (16 * (t.val / 16) + s.val) % 4; rw [hs]),
      ← blk3 m c ⟨16 * (t.val / 16) + s.val, h⟩ a _ _ (by show s.val / 4 * 1024 + a.val = (16 * (t.val / 16) + s.val) / 4 * 1024 + a.val; rw [hs]) (by show s.val % 4 = (16 * (t.val / 16) + s.val) % 4; rw [hs])]
  exact (Finset.sum_congr rfl fun s _ => key s _).trans
    (blocks_sum fun r h => gainPart (head (V m c main_arg0) r h) (zhead (V m c main_v0) r h) (head (V m c main_arg3) r h) y1)

end Cert.OutBwdIdeal.Val
end
-- ==== Proof.OutBwd.Equal.lean ====
/- The gated output norm's backward kernel computes the gradients of the plain forward lines. -/
module

public import proofs.«01_k».proof.Proof.OutBwd.Kernel
public import proofs.«01_k».proof.Proof.Gen.OutBwdRefIdeal.Read
public import proofs.«01_k».proof.Defs
public import proofs.«01_k».proof.Proof.Gen.OutBwd

@[expose] public section

set_option maxRecDepth 16384

noncomputable section

open Idealize.ShloMosaic Idealize.ShloMosaic.TcCoe Idealize.SL.Sem

namespace Cert.OutBwdRefIdeal.Val
open Cert.OutBwdRefIdeal Cert.OutBwdRefIdeal.Gen Cert.OutBwdRefIdeal.Read
open Cert.OutBwdIdeal.Val (head heads n128 back headGrad gateGrad gainPart)

theorem ms_at (x0 : FVec Ideal S4096x512 .f32) (r : Fin 4096) (h : Fin 4) (u : Fin 1) : val_main_v7 (F := Ideal) x0 (ix3 r h u) = Cert.Common.meanSq n128 (head x0 r h) := by
  pointwise [val_main_v7, val_main_v6, val_main_v5, val_main_v4, val_main_v3, val_main_v2, val_main_v1, val_main_v0, val_main_cst, val_main_cst_0, val_main_cst_1, Cert.Common.meanSq, head]

theorem silu_at (x1 : FVec Ideal S4096x512 .f32) (r : Fin 4096) (h : Fin 4) (k : Fin 128) : val_main_v18_2 (F := Ideal) x1 (ix3 r h k) = Ideal.logistic (head x1 r h k) := by
  pointwise [val_main_v18_2, val_main_call0_v4, val_main_call0_v3, val_main_call0_v2, val_main_call0_v1, val_main_call0_v0, val_main_call0_cst, val_main_call0_cst_0, val_main_v17, head]
  rfl

/-- An entry of a row is the entry of its head at its lane. -/
theorem head_split (x : FVec Ideal S4096x512 .f32) (r : Fin 4096) (q : Fin 512) :
    head x r ⟨q.val / 128, by omega⟩ ⟨q.val % 128, by omega⟩ = x (ix2 r q) :=
  congrArg (fun k : Fin 512 => x (ix2 r k)) (Fin.ext (show q.val / 128 * 128 + q.val % 128 = q.val by omega))

/-- The cotangent times the gain, at a row, a head and a lane. -/
theorem v30_at (x1 x3 : FVec Ideal S4096x512 .f32) (x2 : FVec Ideal S128 .f32) (r : Fin 4096) (h : Fin 4) (k : Fin 128) :
    val_main_v30 (F := Ideal) x1 x2 x3 (ix3 r h k) = back (head x1 r h) (head x3 r h) k * x2 (ix1 k) := by
  pointwise [val_main_v30, val_main_v29, val_main_v23, val_main_v21, val_main_v18_0, val_main_v17, val_main_v14, silu_at, back, head]

theorem v40_at (x0 x1 x3 : FVec Ideal S4096x512 .f32) (x2 : FVec Ideal S128 .f32) (r : Fin 4096) (h : Fin 4) :
    val_main_v40 (F := Ideal) x0 x1 x2 x3 (ix2 r h) = Cert.Common.normPull n128 (head x0 r h) (fun k => back (head x1 r h) (head x3 r h) k * x2 (ix1 k)) := by
  pointwise [val_main_v40, val_main_cst_7, val_main_v39, val_main_v38, val_main_cst_6, val_main_v37, val_main_v34, val_main_v33, val_main_cst_5, val_main_v32, val_main_v11, val_main_v10,
    val_main_cst_2, val_main_v9, val_main_v8, val_main_v0, v30_at, ms_at, Cert.Common.normPull]
  exact Fin.sum_univ_one _

/-- The reference's gradient of the heads. -/
theorem v46_at (x0 x1 x3 : FVec Ideal S4096x512 .f32) (x2 : FVec Ideal S128 .f32) :
    val_main_v46 (F := Ideal) x0 x1 x2 x3 = heads fun r h => headGrad (head x0 r h) (head x1 r h) (fun k => x2 (ix1 k)) (head x3 r h) := by
  funext i; idx_vars i
  pointwise [val_main_v46, val_main_v45, val_main_v44, val_main_v43, val_main_v42, val_main_v41, val_main_v36, val_main_v35, val_main_v8, val_main_v0, v40_at, v30_at, ms_at, heads, headGrad, Cert.Common.normGrad]
  simp only [head_split]

/-- The reference's gradient of the gate's argument. -/
theorem v25_at (x0 x1 x3 : FVec Ideal S4096x512 .f32) (x2 : FVec Ideal S128 .f32) :
    val_main_v25 (F := Ideal) x0 x1 x2 x3 = heads fun r h => gateGrad (head x0 r h) (head x1 r h) (fun k => x2 (ix1 k)) (head x3 r h) := by
  funext i; idx_vars i
  pointwise [val_main_v25, val_main_v24, val_main_call1_v2, val_main_call1_v1, val_main_call1_v0, val_main_v18_1, val_main_call0_v7, val_main_call0_v6, val_main_call0_cst_1, val_main_v17, val_main_v22, val_main_v21,
    val_main_v16, val_main_v15, val_main_v14, val_main_v13, val_main_v12, val_main_v8, val_main_v0, silu_at, ms_at, heads, gateGrad]
  simp only [head_split]

/-- The reference's gradient of the gain. -/
theorem v51_at (x0 x1 x3 : FVec Ideal S4096x512 .f32) (u : Fin 1) (j : Fin 128) :
    val_main_v51 (F := Ideal) x0 x1 x3 (ix2 u j) = ∑ r : Fin 4096, ∑ h : Fin 4, gainPart (head x0 r h) (head x1 r h) (head x3 r h) j := by
  refine (val_main_v51_apply (F := Ideal) x0 x1 x3 (ix2 u j)).trans ?_
  obtain rfl : u = 0 := Subsingleton.elim _ _
  have e : idx_main_v51 (ix2 0 j) = ix1 j := funext fun a => match a with | ⟨0, _⟩ => Fin.ext (show 0 * 128 + j.val = j.val by omega)
  rw [e]
  have e31 : val_main_v31 (F := Ideal) x0 x1 x3 (ix1 j) = val_main_v28 (F := Ideal) x0 x1 x3 (ix3 0 0 j) :=
    (Cert.Common.reduce_front _ _ _ j).trans (by simp only [Fin.sum_univ_one, val_main_cst_4]; pointwise)
  have e28 : val_main_v28 (F := Ideal) x0 x1 x3 (ix3 0 0 j) = val_main_v27 (F := Ideal) x0 x1 x3 (ix1 j) := by
    pointwise [val_main_v28]
  have e27 : val_main_v27 (F := Ideal) x0 x1 x3 (ix1 j) = ∑ r : Fin 4096, ∑ h : Fin 4, val_main_v26 (F := Ideal) x0 x1 x3 (ix3 r h j) :=
    (Cert.Common.reduce_front _ _ _ j).trans (by simp only [val_main_cst_3]; pointwise)
  refine e31.trans (e28.trans (e27.trans (Finset.sum_congr rfl fun r _ => Finset.sum_congr rfl fun h _ => ?_)))
  pointwise [val_main_v26, val_main_v23, val_main_v18_0, val_main_v21, val_main_v17, val_main_v13, val_main_v12, val_main_v8, val_main_v0, silu_at, ms_at, gainPart, back]
  rfl

/-- The reference's second result: the gate's gradient in its columns, the rest of the array as it was. -/
theorem v50_at (x0 x1 x3 : FVec Ideal S4096x512 .f32) (x2 : FVec Ideal S128 .f32) (x4 : FVec Ideal S4096x4992 .bf16) :
    val_main_v50 (F := Ideal) x0 x1 x2 x3 x4 = fun i => if h : 3584 ≤ (i 1).val ∧ (i 1).val < 4096 then
      (heads fun r h => gateGrad (head x0 r h) (head x1 r h) (fun k => x2 (ix1 k)) (head x3 r h)) (ix2 (i 0) ⟨(i 1).val - 3584, by omega⟩) else x4 i := by
  rw [← v25_at]
  funext i; idx_vars i
  pointwise [val_main_v50, val_main_v47, val_main_v48, val_main_v49]
  by_cases h1 : i1.val < 3584
  · refine (dif_pos h1).trans (Eq.trans ?_ (dif_neg (by intro h; omega)).symm)
    rfl
  · refine (dif_neg h1).trans ?_
    refine dite_congr (propext ⟨fun h => ⟨by omega, by omega⟩, fun h => by omega⟩) (fun h => rfl) (fun h => ?_)
    exact congrArg (fun k : Fin 4992 => x4 (ix2 i0 k)) (Fin.ext (show 4096 + (i1.val - 3584 - 512) = i1.val by omega))

end Cert.OutBwdRefIdeal.Val

namespace Cert.OutBwdIdeal.Val
open Cert.OutBwdIdeal Cert.OutBwdIdeal.Gen

variable (m : (ℓ : Loc nD τ sig) → Buf (Elt Ideal) ℓ)

/-- The gate's argument, padded to the columns it has among all projections, read back at a head. -/
theorem V0 (c : Dev nD) (r : Fin 4096) (h : Fin 4) : zhead (V m c main_v0) r h = head (m ((c : Thread nD τ).loc main_arg1)) r h := by
  have e : V m c main_v0 = fun i => if h : 3584 ≤ (i 1).val ∧ (i 1).val < 4096 then (m ((c : Thread nD τ).loc main_arg1) : FVec Ideal S4096x512 .f32) (ix2 (i 0) ⟨(i 1).val - 3584, by omega⟩) else (0 : EReal) := by
    simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
    after_results_simp
    funext i; idx_vars i
    pointwise [Cert.Common.sitofp_zero]
    exact dite_congr (propext ⟨fun h => ⟨by omega, by omega⟩, fun h => by omega⟩) (fun h => rfl) (fun h => rfl)
  funext k
  refine (congrFun e (ix2 r ⟨3584 + h.val * 128 + k.val, by omega⟩)).trans ?_
  refine (dif_pos (⟨by show 3584 ≤ 3584 + h.val * 128 + k.val; omega, by show 3584 + h.val * 128 + k.val < 4096; omega⟩)).trans ?_
  exact congrArg (fun q : Fin 512 => m ((c : Thread nD τ).loc main_arg1) (ix2 r q)) (Fin.ext (show 3584 + h.val * 128 + k.val - 3584 = h.val * 128 + k.val by omega))

/-- The gain as a row. -/
theorem V1 (c : Dev nD) (k : Fin 128) : V m c main_v1 (ix2 0 k) = (m ((c : Thread nD τ).loc main_arg2) : FVec Ideal S128 .f32) (ix1 k) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- The kernel's gradient of the heads is the reference's. -/
theorem eq_4 (c : Dev nD) : (dats m 0 c).arrAt 4 (cfgs 0).N = Cert.OutBwdRefIdeal.Read.val_main_v46 (F := Ideal)
    (m ((c : Thread nD τ).loc main_arg0)) (m ((c : Thread nD τ).loc main_arg1)) (m ((c : Thread nD τ).loc main_arg2)) (m ((c : Thread nD τ).loc main_arg3)) := by
  rw [arr_4, V_main_arg0, V_main_arg3, Cert.OutBwdRefIdeal.Val.v46_at]
  refine congrArg heads (funext fun r => funext fun h => ?_)
  rw [V0 m c r h, funext (V1 m c)]

/-- The kernel's gradient of the gate's argument, in its columns of the projections, is the reference's. -/
theorem eq_5 (c : Dev nD) : (dats m 0 c).arrAt 5 (cfgs 0).N = Cert.OutBwdRefIdeal.Read.val_main_v50 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  have e : K5 (V m c main_arg0) (V m c main_v0) (fun k => V m c main_v1 (ix2 0 k)) (V m c main_arg3)
      = K5 (m ((c : Thread nD τ).loc main_arg0)) (V m c main_v0) (fun k => (m ((c : Thread nD τ).loc main_arg2) : FVec Ideal S128 .f32) (ix1 k)) (m ((c : Thread nD τ).loc main_arg3)) := by
    rw [V_main_arg0, V_main_arg3, funext (V1 m c)]
  rw [arr_5, e, V_main_arg4, Cert.OutBwdRefIdeal.Val.v50_at]
  have e' : K5 (m ((c : Thread nD τ).loc main_arg0)) (V m c main_v0) (fun k => (m ((c : Thread nD τ).loc main_arg2) : FVec Ideal S128 .f32) (ix1 k)) (m ((c : Thread nD τ).loc main_arg3))
      = heads fun r h => gateGrad (head (m ((c : Thread nD τ).loc main_arg0)) r h) (head (m ((c : Thread nD τ).loc main_arg1)) r h)
          (fun k => (m ((c : Thread nD τ).loc main_arg2) : FVec Ideal S128 .f32) (ix1 k)) (head (m ((c : Thread nD τ).loc main_arg3)) r h) := by
    refine congrArg heads (funext fun r => funext fun h => ?_)
    rw [V0 m c r h]
  rw [e']
  rfl

/-- The kernel's gradient of the gain is the reference's. -/
theorem eq_6 (c : Dev nD) : (dats m 0 c).arrAt 6 (cfgs 0).N = Cert.OutBwdRefIdeal.Read.val_main_v51 (F := Ideal)
    (m ((c : Thread nD τ).loc main_arg0)) (m ((c : Thread nD τ).loc main_arg1)) (m ((c : Thread nD τ).loc main_arg3)) := by
  rw [arr_6]
  rw [V_main_arg0, V_main_arg3]
  funext i; idx_vars i
  refine Eq.trans (Finset.sum_congr rfl fun r _ => Finset.sum_congr rfl fun h _ => by rw [V0 m c r h]) ?_
  exact (Cert.OutBwdRefIdeal.Val.v51_at _ _ _ _ _).symm

/-- The reference runs, leaves its arguments as they were and every counter at zero. -/
theorem frame_ref : Cert.quiescent_OutBwdRefIdeal := fun m g _ =>
  (θ_run Cert.OutBwdRefIdeal.defs _ _).mono (fun r h => ⟨fun c => (h c).2.2.2, sem_eq_zero_of_no_sems (by decide) r.2⟩)
    (Cert.OutBwdRefIdeal.Value.run (F := Ideal) m g)

/-- Kernel and reference compute the same three gradients over the extended reals. -/
theorem algebraic : Cert.algebraic_OutBwdIdeal_OutBwdRefIdeal := by
  pair_intro
  · run_from Cert.OutBwdIdeal.Gen.run_main m g
    all_goals first | exact V_main_arg0 m c | exact V_main_arg1 m c | exact V_main_arg2 m c | exact V_main_arg3 m c | exact V_main_arg4 m c
  · run_from Cert.OutBwdRefIdeal.Value.run m' g'
    · exact (Cert.OutBwdRefIdeal.Read.val_main_v46_eq m' c).trans (Eq.trans (by simp only [← hagree c]) (eq_4 m c).symm)
    · exact (Cert.OutBwdRefIdeal.Read.val_main_v50_eq _ _ _ _ _).symm.trans (Eq.trans (congrArg (Cert.OutBwdRefIdeal.Read.val_main_v50 (F := Ideal) _ _ _ _) (hagree c).2.2.2.2) (eq_5 m c).symm)
    · exact (Cert.OutBwdRefIdeal.Read.val_main_v51_eq _ _ _).symm.trans (eq_6 m c).symm

end Cert.OutBwdIdeal.Val
end
-- ==== Proof.InNormBwd.Kernel.lean ====
/- What the first norm's backward kernel leaves in its two results, in coordinates of the whole arrays. -/
module

public import proofs.«01_k».proof.Proof.Gen.InNormBwdIdeal.Frame
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

open Idealize.ShloMosaic.Pipeline (Dat)

namespace Cert.InNormBwdIdeal.Val

open Cert.InNormBwdIdeal Cert.InNormBwdIdeal.Gen

variable (m : (ℓ : Loc nD τ sig) → Buf (Elt Ideal) ℓ)

/-- The block of every window at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![0, 0] :=
  (by decide +kernel : ∀ t : Fin grid0.N, _)

/-- The length of a row, as the programs' literal. -/
abbrev n1024 : EReal := Ideal.ofBits .f32 1149239296#32

/-- The cotangent of the normed row: a row of the projections' cotangent times every row of the weight. -/
def dh (p : Fin 4992 → EReal) (w : Fin 1024 → Fin 4992 → EReal) (j : Fin 1024) : EReal := ∑ q : Fin 4992, p q * w j q

theorem pay4_at (v5 : Vec Ideal S512x1024 .f32) (r : Fin 512) (u : Fin 1) : k0_pay4 v5 (ix2 r u) = Cert.Common.meanSq n1024 (fun k => v5 (ix2 r k)) := by
  pointwise [k0_pay4, Cert.Common.meanSq]

theorem pay6_at (v0 : Vec Ideal S512x4992 .bf16) (v2 : Vec Ideal S1024x4992 .bf16) (r : Fin 512) (j : Fin 1024) : k0_pay6 v0 v2 (ix2 r j) = dh (fun q => v0 (ix2 r q)) (fun j q => v2 (ix2 j q)) j := by
  pointwise [k0_pay6, dh]

theorem pay10_at (v0 : Vec Ideal S512x4992 .bf16) (v2 : Vec Ideal S1024x4992 .bf16) (v5 : Vec Ideal S512x1024 .f32) (v7 : Vec Ideal S1x1024 .f32) (r : Fin 512) (u : Fin 1) : k0_pay10 v0 v2 v5 v7 (ix2 r u)
    = Cert.Common.normPull n1024 (fun k => v5 (ix2 r k)) (fun k => dh (fun q => v0 (ix2 r q)) (fun j q => v2 (ix2 j q)) k * v7 (ix2 0 k)) := by
  pointwise [k0_pay10, k0_pay8, k0_pay5, pay4_at, pay6_at, Cert.Common.normPull]
  first | rfl | exact Fin.sum_univ_one _

theorem point_6 (v0 : Vec Ideal S512x4992 .bf16) (v2 : Vec Ideal S1024x4992 .bf16) (v5 v6 : Vec Ideal S512x1024 .f32) (v7 : Vec Ideal S1x1024 .f32) (r : Fin 512) (j : Fin 1024) :
    k0_pay1 v5 v6 (k0_pay9 v0 v2 v5 v7) (k0_pay10 v0 v2 v5 v7) (ix2 r j)
      = Cert.Common.normGrad n1024 (fun k => v5 (ix2 r k)) (fun k => dh (fun q => v0 (ix2 r q)) (fun j q => v2 (ix2 j q)) k * v7 (ix2 0 k)) j + v6 (ix2 r j) := by
  pointwise [k0_pay1, k0_pay9, k0_pay8, k0_pay5, pay4_at, pay6_at, pay10_at, Cert.Common.normGrad]

/-- A row's part of the gain's gradient. -/
def gainPart (x d : Fin 1024 → EReal) (j : Fin 1024) : EReal := x j * Ideal.rsqrt (Cert.Common.meanSq n1024 x) * d j

theorem pay7_at (v0 : Vec Ideal S512x4992 .bf16) (v2 : Vec Ideal S1024x4992 .bf16) (v5 : Vec Ideal S512x1024 .f32) (u : Fin 1) (j : Fin 1024) : k0_pay7 v0 v2 v5 (ix2 u j)
    = ∑ r : Fin 512, gainPart (fun k => v5 (ix2 r k)) (dh (fun q => v0 (ix2 r q)) (fun j q => v2 (ix2 j q))) j := by
  pointwise [k0_pay7, k0_pay5, pay4_at, pay6_at, gainPart]

theorem blk0 (c : Dev nD) (t : Fin cfg0.N) (a : Fin 512) (r : Fin 4096) (hr : r.val = t.val * 512 + a.val) :
    (fun k => iblk m c 0 t (ix2 a k)) = fun k => V m c main_v10 (ix2 r k) := by
  funext k
  refine congrArg (V m c main_v10) (?_ : ((cfg0.win 0).blk t).view.emb _ = _)
  funext q; fin_cases q <;> refine Fin.ext ?_ <;> blk_simp [idx t] <;> show _ = _ <;> simp <;> omega

theorem blk1 (c : Dev nD) (t : Fin cfg0.N) :
    (fun (j : Fin 1024) (q : Fin 4992) => iblk m c 1 t (ix2 j q)) = fun j q => V m c main_v20 (ix2 j q) := by
  funext j k
  refine congrArg (V m c main_v20) (?_ : ((cfg0.win 1).blk t).view.emb _ = _)
  funext q; fin_cases q <;> refine Fin.ext ?_ <;> blk_simp [idx t]

theorem blk2 (c : Dev nD) (t : Fin cfg0.N) (a : Fin 512) (r : Fin 4096) (hr : r.val = t.val * 512 + a.val) :
    (fun k => iblk m c 2 t (ix2 a k)) = fun k => V m c main_arg0 (ix2 r k) := by
  funext k
  refine congrArg (V m c main_arg0) (?_ : ((cfg0.win 2).blk t).view.emb _ = _)
  funext q; fin_cases q <;> refine Fin.ext ?_ <;> blk_simp [idx t] <;> show _ = _ <;> simp <;> omega

theorem blk3 (c : Dev nD) (t : Fin cfg0.N) (a : Fin 512) (r : Fin 4096) (hr : r.val = t.val * 512 + a.val) (k : Fin 1024) :
    iblk m c 3 t (ix2 a k) = V m c main_arg4 (ix2 r k) := by
  refine congrArg (V m c main_arg4) (?_ : ((cfg0.win 3).blk t).view.emb _ = _)
  funext q; fin_cases q <;> refine Fin.ext ?_ <;> blk_simp [idx t] <;> show _ = _ <;> simp <;> omega

theorem blk4 (c : Dev nD) (t : Fin cfg0.N) (k : Fin 1024) : iblk m c 4 t (ix2 0 k) = V m c main_arg1 (ix2 0 k) := by
  refine congrArg (V m c main_arg1) (?_ : ((cfg0.win 4).blk t).view.emb _ = _)
  funext q; fin_cases q <;> refine Fin.ext ?_ <;> blk_simp [idx t]

/-- The row's gradient, at a row and a column, from the rows of its operands. -/
def K6 (P : FVec Ideal S4096x4992 .bf16) (W : FVec Ideal S1024x4992 .bf16) (X D : FVec Ideal S4096x1024 .f32) (G : FVec Ideal S1x1024 .f32) : FVec Ideal S4096x1024 .f32 := fun i =>
  Cert.Common.normGrad n1024 (fun k => X (ix2 (i 0) k)) (fun k => dh (fun q => P (ix2 (i 0) q)) (fun j q => W (ix2 j q)) k * G (ix2 0 k)) (i 1) + D (ix2 (i 0) (i 1))

/-- The rows' gradient after the run. -/
theorem arr_6 (c : Dev nD) : (dats m 0 c).arrAt 6 (cfgs 0).N = K6 (V m c main_v10) (V m c main_v20) (V m c main_arg0) (V m c main_arg4) (V m c main_arg1) := by
  refine (dats m 0 c).arrAt_eq_of_covers 6 _ (by decide +kernel) fun t hf y => ?_
  have ht : t.val < 8 := lt_of_lt_of_eq t.isLt N_0
  have key : ∀ y : S512x1024.Idx, k0_pay1 (iblk m c 2 t) (iblk m c 3 t) (k0_pay9 (iblk m c 0 t) (iblk m c 1 t) (iblk m c 2 t) (iblk m c 4 t))
      (k0_pay10 (iblk m c 0 t) (iblk m c 1 t) (iblk m c 2 t) (iblk m c 4 t)) y
        = K6 (V m c main_v10) (V m c main_v20) (V m c main_arg0) (V m c main_arg4) (V m c main_arg1) (((cfg0.win 6).blk t).view.emb y) := by
    intro y
    idx_vars y
    have hy0 := y0.isLt
    have e0 : ((cfg0.win 6).blk t).view.emb (ix2 y0 y1) 0 = (⟨t.val * 512 + y0.val, by omega⟩ : Fin 4096) := Fin.ext (by blk_simp [idx t])
    have e1 : ((cfg0.win 6).blk t).view.emb (ix2 y0 y1) 1 = (y1 : Fin 1024) := Fin.ext (by blk_simp [idx t])
    rw [point_6, blk0 m c t y0 ⟨t.val * 512 + y0.val, by omega⟩ rfl, blk1 m c t, blk2 m c t y0 ⟨t.val * 512 + y0.val, by omega⟩ rfl, blk3 m c t y0 ⟨t.val * 512 + y0.val, by omega⟩ rfl]
    simp only [blk4]
    unfold K6
    rw [e0, e1]
  by_cases h : t.val % 8 = 0
  · refine Eq.trans ?_ (key y)
    blk_simp; rw [after0_6, outsAt0_A m c t h]; frame_out
  · refine Eq.trans ?_ (key y)
    blk_simp; rw [after0_6, outsAt0_B m c t h]; frame_out

theorem pay2_at (j : S1x1024.Idx) : k0_pay2 (F := Ideal) j = 0 := by pointwise! [k0_pay2]

theorem pay3_at (v25 : FVec Ideal S1x1024 .f32) (v50 : Vec Ideal S1x1024 .f32) (j : S1x1024.Idx) : k0_pay3 v25 v50 j = v50 j + v25 j := by
  pointwise [k0_pay3]

/-- The gain's gradient after the run: every row's part. -/
theorem arr_7 (c : Dev nD) : (dats m 0 c).arrAt 7 (cfgs 0).N = fun j => ∑ r : Fin 4096,
    gainPart (fun k => V m c main_arg0 (ix2 r k)) (dh (fun q => V m c main_v10 (ix2 r q)) (fun j q => V m c main_v20 (ix2 j q))) (j 1) := by
  refine (dats m 0 c).arrAt_eq_of_covers 7 _ (by decide +kernel) fun t hf y => ?_
  blk_simp
  rw [after0_7, Pipeline.eq_sum_fin_of_reset_step_apply_of_flush (fun n h => (outsAt0 m c n h).2) 8 (fun _ => 0)
    (fun t j => k0_pay7 (iblk m c 0 t) (iblk m c 1 t) (iblk m c 2 t) j)
    (fun t h j => by rw [outsAt0_A m c t h]; frame_out; rw [pay3_at, pay2_at])
    (fun t h j => by rw [outsAt0_B m c t h]; frame_out; rw [pay3_at])
    t ((flush0_7 t).mp hf) _, zero_add]
  have ht : t.val / 8 = 0 := by have := lt_of_lt_of_eq t.isLt N_0; omega
  idx_vars y
  have e1 : ((win0_7.blk t).view.emb (ix2 y0 y1) 1) = y1 := Fin.ext (by blk_simp [idx t])
  rw [e1]
  have key : ∀ s : Fin 8, ∀ h, k0_pay7 (iblk m c 0 ⟨8 * (t.val / 8) + s.val, h⟩) (iblk m c 1 ⟨8 * (t.val / 8) + s.val, h⟩)
        (iblk m c 2 ⟨8 * (t.val / 8) + s.val, h⟩) (ix2 y0 y1)
      = ∑ a : Fin 512, (fun r : Fin 4096 => gainPart (fun k => V m c main_arg0 (ix2 r k)) (dh (fun q => V m c main_v10 (ix2 r q)) (fun j q => V m c main_v20 (ix2 j q))) y1)
          ⟨s.val * 512 + a.val, by omega⟩ := by
    intro s h
    rw [pay7_at]
    refine Finset.sum_congr rfl fun a _ => ?_
    have hs : s.val * 512 + a.val = (8 * (t.val / 8) + s.val) * 512 + a.val := by omega
    rw [blk0 m c ⟨8 * (t.val / 8) + s.val, h⟩ a ⟨s.val * 512 + a.val, by omega⟩ hs, blk1 m c ⟨8 * (t.val / 8) + s.val, h⟩,
      blk2 m c ⟨8 * (t.val / 8) + s.val, h⟩ a ⟨s.val * 512 + a.val, by omega⟩ hs]
  exact (Finset.sum_congr rfl fun s _ => key s _).trans
    (Fin.sum_mul_add_fin 8 512 (fun r : Fin 4096 => gainPart (fun k => V m c main_arg0 (ix2 r k)) (dh (fun q => V m c main_v10 (ix2 r q)) (fun j q => V m c main_v20 (ix2 j q))) y1) rfl)

end Cert.InNormBwdIdeal.Val
end
-- ==== Proof.InNormBwd.Equal.lean ====
/- The first norm's backward kernel computes the gradients of the plain forward lines. -/
module

public import proofs.«01_k».proof.Proof.InNormBwd.Kernel
public import proofs.«01_k».proof.Proof.Gen.InNormBwdRefIdeal.Read
public import proofs.«01_k».proof.Defs
public import proofs.«01_k».proof.Proof.Gen.InNormBwd

@[expose] public section

set_option maxRecDepth 16384

noncomputable section

open Idealize.ShloMosaic Idealize.ShloMosaic.TcCoe Idealize.SL.Sem

namespace Cert.InNormBwdRefIdeal.Val
open Cert.InNormBwdRefIdeal Cert.InNormBwdRefIdeal.Gen Cert.InNormBwdRefIdeal.Read
open Cert.InNormBwdIdeal.Val (n1024 gainPart)

/-- The cotangent of the normed row in the reference's columns. -/
def dref (p : Fin 4872 → EReal) (w : Fin 1024 → Fin 4872 → EReal) (j : Fin 1024) : EReal := ∑ q : Fin 4872, p q * w j q

theorem ms_at (x0 : FVec Ideal S4096x1024 .f32) (r : Fin 4096) (u : Fin 1) : val_main_v6 (F := Ideal) x0 (ix2 r u) = Cert.Common.meanSq n1024 (fun k => x0 (ix2 r k)) := by
  pointwise [val_main_v6, val_main_v5, val_main_v4, val_main_v3, val_main_v2, val_main_v1, val_main_v0, val_main_cst, val_main_cst_0, val_main_cst_1, Cert.Common.meanSq]

theorem v16_at (x2 : FVec Ideal S1024x4872 .f32) (x3 : FVec Ideal S4096x4872 .f32) (r : Fin 4096) (j : Fin 1024) :
    val_main_v16 (F := Ideal) x2 x3 (ix2 r j) = dref (fun q => x3 (ix2 r q)) (fun j q => x2 (ix2 j q)) j := by
  pointwise [val_main_v16, dref]

theorem v31_at (x0 : FVec Ideal S4096x1024 .f32) (x1 : FVec Ideal S1x1024 .f32) (x2 : FVec Ideal S1024x4872 .f32) (x3 : FVec Ideal S4096x4872 .f32) (r : Fin 4096) :
    val_main_v31 (F := Ideal) x0 x1 x2 x3 (ix1 r) = Cert.Common.normPull n1024 (fun k => x0 (ix2 r k)) (fun k => dref (fun q => x3 (ix2 r q)) (fun j q => x2 (ix2 j q)) k * x1 (ix2 0 k)) := by
  pointwise [val_main_v31, val_main_cst_6, val_main_v30, val_main_v29, val_main_cst_5, val_main_v28, val_main_v24, val_main_v23, val_main_cst_4, val_main_v22, val_main_v21, val_main_v20,
    val_main_v10, val_main_v9, val_main_cst_2, val_main_v8, val_main_v7, v16_at, ms_at, Cert.Common.normPull]
  first | rfl | exact Fin.sum_univ_one _

/-- The reference's gradient of the rows. -/
theorem v36_at (x0 : FVec Ideal S4096x1024 .f32) (x1 : FVec Ideal S1x1024 .f32) (x2 : FVec Ideal S1024x4872 .f32) (x3 : FVec Ideal S4096x4872 .f32) (x4 : FVec Ideal S4096x1024 .f32) (r : Fin 4096) (j : Fin 1024) :
    val_main_v36 (F := Ideal) x0 x1 x2 x3 x4 (ix2 r j) = Cert.Common.normGrad n1024 (fun k => x0 (ix2 r k)) (fun k => dref (fun q => x3 (ix2 r q)) (fun j q => x2 (ix2 j q)) k * x1 (ix2 0 k)) j + x4 (ix2 r j) := by
  pointwise [val_main_v36, val_main_v35, val_main_v34, val_main_v33, val_main_v32, val_main_v27, val_main_v26, val_main_v25, val_main_v21, val_main_v20, val_main_v7, v31_at, v16_at, ms_at, Cert.Common.normGrad]
  rw [add_assoc (x4 _), add_assoc (x4 _), add_comm (x4 _)]

/-- The reference's gradient of the gain. -/
theorem v19_at (x0 : FVec Ideal S4096x1024 .f32) (x2 : FVec Ideal S1024x4872 .f32) (x3 : FVec Ideal S4096x4872 .f32) (u : Fin 1) (j : Fin 1024) :
    val_main_v19 (F := Ideal) x0 x2 x3 (ix2 u j) = ∑ r : Fin 4096, gainPart (fun k => x0 (ix2 r k)) (dref (fun q => x3 (ix2 r q)) (fun j q => x2 (ix2 j q))) j := by
  pointwise [val_main_v19, val_main_v18, val_main_cst_3, val_main_v17, val_main_v12, val_main_v11, val_main_v7, v16_at, ms_at, gainPart]

end Cert.InNormBwdRefIdeal.Val

namespace Cert.InNormBwdIdeal.Val
open Cert.InNormBwdIdeal Cert.InNormBwdIdeal.Gen

variable (m : (ℓ : Loc nD τ sig) → Buf (Elt Ideal) ℓ)

/-- The reference's column that a column of the kernel's arrays holds. -/
def col (k : ℕ) : ℕ := if k < 2048 then 2824 + k else if k < 3584 then k - 2048 else if k < 4096 then k - 3584 + 1536
  else if k < 4608 then k - 4096 + 2056 else if k < 4736 then k - 4608 + 2568 else if k < 4864 then k - 4736 + 2696 else k - 4864 + 2048

theorem col_lt {k : ℕ} (h : k < 4872) : col k < 4872 := by unfold col; split_ifs <;> omega

/-- A row in the kernel's columns, from the row in the reference's: zero at the columns of no array. -/
def inCols (p : Fin 4872 → EReal) (k : Fin 4992) : EReal := if h : k.val < 4872 then p ⟨col k.val, col_lt h⟩ else 0

/-- The column of the kernel's arrays that holds a reference's column. -/
def back (q : ℕ) : ℕ := if q < 1536 then q + 2048 else if q < 2048 then q - 1536 + 3584 else if q < 2056 then q - 2048 + 4864
  else if q < 2568 then q - 2056 + 4096 else if q < 2696 then q - 2568 + 4608 else if q < 2824 then q - 2696 + 4736 else q - 2824

theorem back_lt {q : ℕ} (h : q < 4872) : back q < 4872 := by unfold back; split_ifs <;> omega
theorem col_back {q : ℕ} (h : q < 4872) : col (back q) = q := by unfold back; split_ifs <;> (unfold col; split_ifs <;> omega)
theorem back_col {k : ℕ} (h : k < 4872) : back (col k) = k := by unfold col; split_ifs <;> (unfold back; split_ifs <;> omega)

/-- The product over the kernel's columns is the product over the reference's. -/
theorem dh_inCols (p : Fin 4872 → EReal) (w : Fin 1024 → Fin 4872 → EReal) : dh (inCols p) (fun j => inCols (w j)) = Cert.InNormBwdRefIdeal.Val.dref p w := by
  funext j
  symm
  refine Fintype.sum_of_injective (fun q : Fin 4872 => (⟨back q.val, by have := back_lt q.isLt; omega⟩ : Fin 4992)) ?_ _ _ ?_ ?_
  · intro a b e
    have := congrArg col (Fin.mk.inj_iff.mp e)
    rw [col_back a.isLt, col_back b.isLt] at this
    exact Fin.ext this
  · intro k hk
    have h : ¬ k.val < 4872 := fun h => hk ⟨⟨col k.val, col_lt h⟩, Fin.ext (back_col h)⟩
    show inCols p k * inCols (w j) k = 0
    rw [inCols, dif_neg h, zero_mul]
  · intro q
    have key : ∀ f : Fin 4872 → EReal, inCols f ⟨back q.val, by have := back_lt q.isLt; omega⟩ = f q := fun f =>
      (dif_pos (back_lt q.isLt)).trans (congrArg f (Fin.ext (col_back q.isLt)))
    show p q * w j q = inCols p _ * inCols (w j) _
    rw [key p, key (w j)]

/-- Seven pieces of a row side by side, padded with zeros, are the row in the kernel's columns. -/
theorem pieces (p : Fin 4872 → EReal) (k : Fin 4992) : (if h : k.val < 4872 then
      if h0 : k.val < 2048 then p ⟨2824 + k.val, by omega⟩ else
      if h1 : k.val - 2048 < 1536 then p ⟨k.val - 2048, by omega⟩ else
      if h2 : k.val - 2048 - 1536 < 512 then p ⟨1536 + (k.val - 2048 - 1536), by omega⟩ else
      if h3 : k.val - 2048 - 1536 - 512 < 512 then p ⟨2056 + (k.val - 2048 - 1536 - 512), by omega⟩ else
      if h4 : k.val - 2048 - 1536 - 512 - 512 < 128 then p ⟨2568 + (k.val - 2048 - 1536 - 512 - 512), by omega⟩ else
      if h5 : k.val - 2048 - 1536 - 512 - 512 - 128 < 128 then p ⟨2696 + (k.val - 2048 - 1536 - 512 - 512 - 128), by omega⟩ else
      p ⟨2048 + (k.val - 2048 - 1536 - 512 - 512 - 128 - 128), by omega⟩ else (0 : EReal)) = inCols p k := by
  refine dite_congr rfl (fun h => ?_) (fun _ => rfl)
  have same : ∀ q (hq : q < 4872), q = col k.val → p ⟨q, hq⟩ = p ⟨col k.val, col_lt h⟩ := fun q hq e => congrArg p (Fin.ext e)
  by_cases h0 : k.val < 2048
  · exact (dif_pos h0).trans (same _ _ (by unfold col; split_ifs <;> omega))
  refine (dif_neg h0).trans ?_
  by_cases h1 : k.val - 2048 < 1536
  · exact (dif_pos h1).trans (same _ _ (by unfold col; split_ifs <;> omega))
  refine (dif_neg h1).trans ?_
  by_cases h2 : k.val - 2048 - 1536 < 512
  · exact (dif_pos h2).trans (same _ _ (by unfold col; split_ifs <;> omega))
  refine (dif_neg h2).trans ?_
  by_cases h3 : k.val - 2048 - 1536 - 512 < 512
  · exact (dif_pos h3).trans (same _ _ (by unfold col; split_ifs <;> omega))
  refine (dif_neg h3).trans ?_
  by_cases h4 : k.val - 2048 - 1536 - 512 - 512 < 128
  · exact (dif_pos h4).trans (same _ _ (by unfold col; split_ifs <;> omega))
  refine (dif_neg h4).trans ?_
  by_cases h5 : k.val - 2048 - 1536 - 512 - 512 - 128 < 128
  · exact (dif_pos h5).trans (same _ _ (by unfold col; split_ifs <;> omega))
  refine (dif_neg h5).trans ?_
  exact same _ _ (by unfold col; split_ifs <;> omega)

theorem V10 (c : Dev nD) (r : Fin 4096) (k : Fin 4992) : V m c main_v10 (ix2 r k) = inCols (fun q => (m ((c : Thread nD τ).loc main_arg3) : FVec Ideal S4096x4872 .f32) (ix2 r q)) k := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero]
  after_results_simp
  pointwise
  exact pieces (fun q => (m ((c : Thread nD τ).loc main_arg3) : FVec Ideal S4096x4872 .f32) (ix2 r q)) k

theorem V20 (c : Dev nD) (r : Fin 1024) (k : Fin 4992) : V m c main_v20 (ix2 r k) = inCols (fun q => (m ((c : Thread nD τ).loc main_arg2) : FVec Ideal S1024x4872 .f32) (ix2 r q)) k := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero]
  after_results_simp
  pointwise
  exact pieces (fun q => (m ((c : Thread nD τ).loc main_arg2) : FVec Ideal S1024x4872 .f32) (ix2 r q)) k

/-- The kernel's gradient of the rows is the reference's. -/
theorem eq_6 (c : Dev nD) : (dats m 0 c).arrAt 6 (cfgs 0).N = Cert.InNormBwdRefIdeal.Read.val_main_v36 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  rw [arr_6, V_main_arg0, V_main_arg1, V_main_arg4]
  funext i; idx_vars i
  refine Eq.trans ?_ (Cert.InNormBwdRefIdeal.Val.v36_at _ _ _ _ _ _ _).symm
  unfold K6
  have e : dh (fun q => V m c main_v10 (ix2 i0 q)) (fun j q => V m c main_v20 (ix2 j q)) = _ :=
    (congrArg₂ dh (funext fun q => V10 m c i0 q) (funext fun j => funext fun q => V20 m c j q)).trans (dh_inCols _ _)
  show Cert.Common.normGrad n1024 _ (fun k => dh (fun q => V m c main_v10 (ix2 i0 q)) (fun j q => V m c main_v20 (ix2 j q)) k * _) i1 + _ = _
  rw [e]
  rfl

/-- The kernel's gradient of the gain is the reference's. -/
theorem eq_7 (c : Dev nD) : (dats m 0 c).arrAt 7 (cfgs 0).N = Cert.InNormBwdRefIdeal.Read.val_main_v19 (F := Ideal)
    (m ((c : Thread nD τ).loc main_arg0)) (m ((c : Thread nD τ).loc main_arg2)) (m ((c : Thread nD τ).loc main_arg3)) := by
  rw [arr_7, V_main_arg0]
  funext i; idx_vars i
  refine Eq.trans (Finset.sum_congr rfl fun r _ => ?_) (Cert.InNormBwdRefIdeal.Val.v19_at _ _ _ _ _).symm
  have e : dh (fun q => V m c main_v10 (ix2 r q)) (fun j q => V m c main_v20 (ix2 j q)) = _ :=
    (congrArg₂ dh (funext fun q => V10 m c r q) (funext fun j => funext fun q => V20 m c j q)).trans (dh_inCols _ _)
  rw [e]

/-- The reference runs, leaves its arguments as they were and every counter at zero. -/
theorem frame_ref : Cert.quiescent_InNormBwdRefIdeal := fun m g _ =>
  (θ_run Cert.InNormBwdRefIdeal.defs _ _).mono (fun r h => ⟨fun c => (h c).2.2, sem_eq_zero_of_no_sems (by decide) r.2⟩)
    (Cert.InNormBwdRefIdeal.Value.run (F := Ideal) m g)

/-- Kernel and reference compute the same two gradients over the extended reals. -/
theorem algebraic : Cert.algebraic_InNormBwdIdeal_InNormBwdRefIdeal := by
  pair_intro
  · run_from Cert.InNormBwdIdeal.Gen.run_main m g
    all_goals first | exact V_main_arg0 m c | exact V_main_arg1 m c | exact V_main_arg2 m c | exact V_main_arg3 m c | exact V_main_arg4 m c
  · refine (θ_run Cert.InNormBwdRefIdeal.defs _ _).mono (fun r h => ?_) (Cert.InNormBwdRefIdeal.Value.run (F := Ideal) m' g')
    intro c
    obtain ⟨a0, a1, a2, a3, a4⟩ := hagree c
    refine ⟨(h c).1.trans ((Cert.InNormBwdRefIdeal.Read.val_main_v36_eq m' c).trans (Eq.trans ?_ (eq_6 m c).symm)),
      (h c).2.1.trans ((Cert.InNormBwdRefIdeal.Read.val_main_v19_eq _ _ _).trans (Eq.trans ?_ (eq_7 m c).symm)), (h c).2.2⟩
    · rw [a0, a1, a2, a3, a4]
    · rw [a0, a2, a3]

end Cert.InNormBwdIdeal.Val
end
-- ==== Proof.FfnNormBwd.Kernel.lean ====
/- What the second norm's backward kernel leaves in its three results, in coordinates of the whole arrays. -/
module

public import proofs.«01_k».proof.Proof.Gen.FfnNormBwdIdeal.Frame
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

open Idealize.ShloMosaic.Pipeline (Dat)

namespace Cert.FfnNormBwdIdeal.Val

open Cert.FfnNormBwdIdeal Cert.FfnNormBwdIdeal.Gen

variable (m : (ℓ : Loc nD τ sig) → Buf (Elt Ideal) ℓ)

/-- The block of every window at every grid point. -/
theorem idx : ∀ t : Fin cfg0.N, win0_0.index t = ![t.val, 0]
    ∧ win0_1.index t = ![0, 0, 0]
    ∧ win0_2.index t = ![t.val, 0]
    ∧ win0_3.index t = ![0, 0, 0]
    ∧ win0_4.index t = ![t.val, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![0, 0] :=
  (by decide +kernel : ∀ t : Fin grid0.N, _)

/-- The length of a row, as the programs' literal. -/
abbrev n1024 : EReal := Ideal.ofBits .f32 1149239296#32

/-- A row of a cotangent times every row of a weight that lies in eight blocks of columns. -/
def dh (p : Fin 3072 → EReal) (w : Fin 8 → Fin 1024 → Fin 384 → EReal) (j : Fin 1024) : EReal :=
  ∑ q : Fin 3072, p q * w ⟨q.val / 384, by omega⟩ j ⟨q.val % 384, by omega⟩

theorem pay5_at (v40 : Vec Ideal S256x1024 .f32) (r : Fin 256) (u : Fin 1) : k0_pay5 v40 (ix2 r u) = Cert.Common.meanSq n1024 (fun k => v40 (ix2 r k)) := by
  pointwise [k0_pay5, Cert.Common.meanSq]

/-- The first product of a block: the gate's cotangent times the gate's weight, of which the kernel reads eight blocks of columns. -/
def prod1 (v0 : Vec Ideal S256x3072 .bf16) (x : Vec Ideal S8x1024x384 .bf16) : FVec Ideal S256x1024 .f32 :=
  k0_pay1 v0 (View.ld x (Rect.unit ![0, 0, 0] ![1, 1024, 384] inb_S8x1024x384_S1x1024x384_0_0_0)) (View.ld x (Rect.unit ![1, 0, 0] ![1, 1024, 384] inb_S8x1024x384_S1x1024x384_1_0_0)) (View.ld x (Rect.unit ![2, 0, 0] ![1, 1024, 384] inb_S8x1024x384_S1x1024x384_2_0_0)) (View.ld x (Rect.unit ![3, 0, 0] ![1, 1024, 384] inb_S8x1024x384_S1x1024x384_3_0_0)) (View.ld x (Rect.unit ![4, 0, 0] ![1, 1024, 384] inb_S8x1024x384_S1x1024x384_4_0_0)) (View.ld x (Rect.unit ![5, 0, 0] ![1, 1024, 384] inb_S8x1024x384_S1x1024x384_5_0_0)) (View.ld x (Rect.unit ![6, 0, 0] ![1, 1024, 384] inb_S8x1024x384_S1x1024x384_6_0_0)) (View.ld x (Rect.unit ![7, 0, 0] ![1, 1024, 384] inb_S8x1024x384_S1x1024x384_7_0_0))

/-- The second product of a block, of the other branch. -/
def prod2 (v0 : Vec Ideal S256x3072 .bf16) (x : Vec Ideal S8x1024x384 .bf16) : FVec Ideal S256x1024 .f32 :=
  k0_pay4 (k0_pay2 v0) (k0_pay3 (View.ld x (Rect.unit ![0, 0, 0] ![1, 1024, 384] inb_S8x1024x384_S1x1024x384_0_0_0))) (View.ld x (Rect.unit ![1, 0, 0] ![1, 1024, 384] inb_S8x1024x384_S1x1024x384_1_0_0)) (View.ld x (Rect.unit ![2, 0, 0] ![1, 1024, 384] inb_S8x1024x384_S1x1024x384_2_0_0)) (View.ld x (Rect.unit ![3, 0, 0] ![1, 1024, 384] inb_S8x1024x384_S1x1024x384_3_0_0)) (View.ld x (Rect.unit ![4, 0, 0] ![1, 1024, 384] inb_S8x1024x384_S1x1024x384_4_0_0)) (View.ld x (Rect.unit ![5, 0, 0] ![1, 1024, 384] inb_S8x1024x384_S1x1024x384_5_0_0)) (View.ld x (Rect.unit ![6, 0, 0] ![1, 1024, 384] inb_S8x1024x384_S1x1024x384_6_0_0)) (View.ld x (Rect.unit ![7, 0, 0] ![1, 1024, 384] inb_S8x1024x384_S1x1024x384_7_0_0))

/-- Eight blocks side by side, read at a column. -/
theorem in_blocks (x : Fin 8 → Fin 384 → EReal) (q : Fin 3072) : (
    if h : q.val < 384 then x 0 ⟨q.val, h⟩ else
    if h : q.val - 384 < 384 then x 1 ⟨q.val - 384, h⟩ else
    if h : q.val - 384 - 384 < 384 then x 2 ⟨q.val - 384 - 384, h⟩ else
    if h : q.val - 384 - 384 - 384 < 384 then x 3 ⟨q.val - 384 - 384 - 384, h⟩ else
    if h : q.val - 384 - 384 - 384 - 384 < 384 then x 4 ⟨q.val - 384 - 384 - 384 - 384, h⟩ else
    if h : q.val - 384 - 384 - 384 - 384 - 384 < 384 then x 5 ⟨q.val - 384 - 384 - 384 - 384 - 384, h⟩ else
    if h : q.val - 384 - 384 - 384 - 384 - 384 - 384 < 384 then x 6 ⟨q.val - 384 - 384 - 384 - 384 - 384 - 384, h⟩ else
    x 7 ⟨q.val - 384 - 384 - 384 - 384 - 384 - 384 - 384, by omega⟩) = x ⟨q.val / 384, by omega⟩ ⟨q.val % 384, by omega⟩ := by
  have same : ∀ (a : Fin 8) (b : Fin 384), a.val = q.val / 384 → b.val = q.val % 384 → x a b = x ⟨q.val / 384, by omega⟩ ⟨q.val % 384, by omega⟩ :=
    fun a b ha hb => congrArg₂ x (Fin.ext ha) (Fin.ext hb)
  split_ifs <;> refine same _ _ ?_ ?_ <;> first | omega | (simp only [Fin.val_zero, Fin.val_one, Fin.isValue]; omega)

theorem prod1_at (v0 : Vec Ideal S256x3072 .bf16) (x : Vec Ideal S8x1024x384 .bf16) (r : Fin 256) (j : Fin 1024) :
    prod1 v0 x (ix2 r j) = dh (fun q => v0 (ix2 r q)) (fun d j e => x (ix3 d j e)) j := by
  pointwise [prod1, k0_pay1, dh]
  exact Finset.sum_congr rfl fun q _ => congrArg (v0 (ix2 r q) * ·) (in_blocks (fun d e => x (ix3 d j e)) q)

theorem prod2_at (v0 : Vec Ideal S256x3072 .bf16) (x : Vec Ideal S8x1024x384 .bf16) (r : Fin 256) (j : Fin 1024) :
    prod2 v0 x (ix2 r j) = dh (fun q => v0 (ix2 r q)) (fun d j e => x (ix3 d j e)) j := by
  pointwise [prod2, k0_pay4, k0_pay2, k0_pay3, dh]
  exact Finset.sum_congr rfl fun q _ => congrArg (v0 (ix2 r q) * ·) (in_blocks (fun d e => x (ix3 d j e)) q)

/-- The cotangent of a normed row: the sum of the two branches' products. -/
def both (a : Fin 3072 → EReal) (wa : Fin 8 → Fin 1024 → Fin 384 → EReal) (b : Fin 3072 → EReal) (wb : Fin 8 → Fin 1024 → Fin 384 → EReal) (j : Fin 1024) : EReal := dh a wa j + dh b wb j

/-- The products of a block, of its four operands. -/
abbrev rowOf (p : Vec Ideal S256x3072 .bf16) (w : Vec Ideal S8x1024x384 .bf16) (q : Vec Ideal S256x3072 .bf16) (u : Vec Ideal S8x1024x384 .bf16) (r : Fin 256) : Fin 1024 → EReal :=
  both (fun k => p (ix2 r k)) (fun d j e => w (ix3 d j e)) (fun k => q (ix2 r k)) (fun d j e => u (ix3 d j e))

theorem pay8_at (p q : Vec Ideal S256x3072 .bf16) (w u : Vec Ideal S8x1024x384 .bf16) (r : Fin 256) (j : Fin 1024) :
    k0_pay8 (prod1 p w) (prod2 q u) (ix2 r j) = rowOf p w q u r j := by
  pointwise [k0_pay8, prod1_at, prod2_at, both]

theorem pay9_at (p q : Vec Ideal S256x3072 .bf16) (w u : Vec Ideal S8x1024x384 .bf16) (x d : Vec Ideal S256x1024 .f32) (g : Vec Ideal S1x1024 .f32) (r : Fin 256) (j : Fin 1024) :
    k0_pay9 (prod1 p w) (prod2 q u) x d g (k0_pay6 x) (k0_pay7 x) (ix2 r j)
      = Cert.Common.normGrad n1024 (fun k => x (ix2 r k)) (fun k => rowOf p w q u r k * g (ix2 0 k)) j + d (ix2 r j) := by
  have e := pay8_at p q w u r
  pointwise [k0_pay9, k0_pay7, k0_pay6, pay5_at, e, Cert.Common.normGrad, Cert.Common.normPull]
  first | rfl | simp only [Fin.sum_univ_one]

theorem pay10_at (p q : Vec Ideal S256x3072 .bf16) (w u : Vec Ideal S8x1024x384 .bf16) (x d : Vec Ideal S256x1024 .f32) (g : Vec Ideal S1x1024 .f32) (r : Fin 256) (j : Fin 1024) :
    k0_pay10 (prod1 p w) (prod2 q u) x d g (k0_pay6 x) (k0_pay7 x) (ix2 r j)
      = Cert.Common.normGrad n1024 (fun k => x (ix2 r k)) (fun k => rowOf p w q u r k * g (ix2 0 k)) j + d (ix2 r j) := by
  pointwise [k0_pay10, pay9_at]

/-- A row's part of the gain's gradient. -/
def gainPart (x d : Fin 1024 → EReal) (j : Fin 1024) : EReal := x j * Ideal.rsqrt (Cert.Common.meanSq n1024 x) * d j

theorem pay12_at (p q : Vec Ideal S256x3072 .bf16) (w u : Vec Ideal S8x1024x384 .bf16) (x : Vec Ideal S256x1024 .f32) (acc : Vec Ideal S1x1024 .f32) (i : Fin 1) (j : Fin 1024) :
    k0_pay12 (prod1 p w) (prod2 q u) x (k0_pay6 x) acc (ix2 i j)
      = acc (ix2 i j) + ∑ r : Fin 256, gainPart (fun k => x (ix2 r k)) (rowOf p w q u r) j := by
  have e := fun r => pay8_at p q w u r
  pointwise [k0_pay12, k0_pay6, pay5_at, e, gainPart]

/-- The cotangent's block of the first branch. -/
theorem blk0 (c : Dev nD) (t : Fin cfg0.N) (a : Fin 256) (r : Fin 4096) (hr : r.val = t.val * 256 + a.val) :
    (fun k => iblk m c 0 t (ix2 a k)) = fun k => V m c main_v11 (ix2 r k) := by
  funext k
  refine congrArg (V m c main_v11) (?_ : ((cfg0.win 0).blk t).view.emb _ = _)
  funext q; fin_cases q <;> refine Fin.ext ?_ <;> blk_simp [idx t] <;> show _ = _ <;> simp <;> omega

theorem blk1 (c : Dev nD) (t : Fin cfg0.N) :
    (fun (d : Fin 8) (j : Fin 1024) (e : Fin 384) => iblk m c 1 t (ix3 d j e)) = fun d j e => V m c main_v3 (ix3 d j e) := by
  funext d j e
  refine congrArg (V m c main_v3) (?_ : ((cfg0.win 1).blk t).view.emb _ = _)
  funext q; fin_cases q <;> refine Fin.ext ?_ <;> blk_simp [idx t]

theorem blk2 (c : Dev nD) (t : Fin cfg0.N) (a : Fin 256) (r : Fin 4096) (hr : r.val = t.val * 256 + a.val) :
    (fun k => iblk m c 2 t (ix2 a k)) = fun k => V m c main_v15 (ix2 r k) := by
  funext k
  refine congrArg (V m c main_v15) (?_ : ((cfg0.win 2).blk t).view.emb _ = _)
  funext q; fin_cases q <;> refine Fin.ext ?_ <;> blk_simp [idx t] <;> show _ = _ <;> simp <;> omega

theorem blk3 (c : Dev nD) (t : Fin cfg0.N) :
    (fun (d : Fin 8) (j : Fin 1024) (e : Fin 384) => iblk m c 3 t (ix3 d j e)) = fun d j e => V m c main_v7 (ix3 d j e) := by
  funext d j e
  refine congrArg (V m c main_v7) (?_ : ((cfg0.win 3).blk t).view.emb _ = _)
  funext q; fin_cases q <;> refine Fin.ext ?_ <;> blk_simp [idx t]

theorem blk4 (c : Dev nD) (t : Fin cfg0.N) (a : Fin 256) (r : Fin 4096) (hr : r.val = t.val * 256 + a.val) :
    (fun k => iblk m c 4 t (ix2 a k)) = fun k => V m c main_arg0 (ix2 r k) := by
  funext k
  refine congrArg (V m c main_arg0) (?_ : ((cfg0.win 4).blk t).view.emb _ = _)
  funext q; fin_cases q <;> refine Fin.ext ?_ <;> blk_simp [idx t] <;> show _ = _ <;> simp <;> omega

theorem blk5 (c : Dev nD) (t : Fin cfg0.N) (a : Fin 256) (r : Fin 4096) (hr : r.val = t.val * 256 + a.val) (k : Fin 1024) :
    iblk m c 5 t (ix2 a k) = V m c main_arg6 (ix2 r k) := by
  refine congrArg (V m c main_arg6) (?_ : ((cfg0.win 5).blk t).view.emb _ = _)
  funext q; fin_cases q <;> refine Fin.ext ?_ <;> blk_simp [idx t] <;> show _ = _ <;> simp <;> omega

theorem blk6 (c : Dev nD) (t : Fin cfg0.N) (k : Fin 1024) : iblk m c 6 t (ix2 0 k) = V m c main_arg1 (ix2 0 k) := by
  refine congrArg (V m c main_arg1) (?_ : ((cfg0.win 6).blk t).view.emb _ = _)
  funext q; fin_cases q <;> refine Fin.ext ?_ <;> blk_simp [idx t]

/-- A row's two products, of the arrays that the kernel is started on. -/
abbrev rowV (c : Dev nD) (r : Fin 4096) : Fin 1024 → EReal :=
  both (fun k => V m c main_v11 (ix2 r k)) (fun d j e => V m c main_v3 (ix3 d j e)) (fun k => V m c main_v15 (ix2 r k)) (fun d j e => V m c main_v7 (ix3 d j e))

theorem rowOf_blk (c : Dev nD) (t : Fin cfg0.N) (a : Fin 256) (r : Fin 4096) (hr : r.val = t.val * 256 + a.val) :
    rowOf (iblk m c 0 t) (iblk m c 1 t) (iblk m c 2 t) (iblk m c 3 t) a = rowV m c r := by
  show both _ _ _ _ = _
  rw [blk0 m c t a r hr, blk1 m c t, blk2 m c t a r hr, blk3 m c t]

/-- The gradient of a row at a column, from the arrays that the kernel is started on. -/
def gradAt (c : Dev nD) (r : Fin 4096) (j : Fin 1024) : EReal :=
  Cert.Common.normGrad n1024 (fun k => V m c main_arg0 (ix2 r k)) (fun k => rowV m c r k * V m c main_arg1 (ix2 0 k)) j + V m c main_arg6 (ix2 r j)

theorem block_at (c : Dev nD) (t : Fin cfg0.N) (a : Fin 256) (r : Fin 4096) (hr : r.val = t.val * 256 + a.val) (j : Fin 1024) :
    Cert.Common.normGrad n1024 (fun k => iblk m c 4 t (ix2 a k)) (fun k => rowOf (iblk m c 0 t) (iblk m c 1 t) (iblk m c 2 t) (iblk m c 3 t) a k * iblk m c 6 t (ix2 0 k)) j + iblk m c 5 t (ix2 a j)
      = gradAt m c r j := by
  rw [rowOf_blk m c t a r hr, blk4 m c t a r hr, blk5 m c t a r hr]
  simp only [blk6]
  rfl

/-- The rows' gradient after the run. -/
theorem arr_8 (c : Dev nD) : (dats m 0 c).arrAt 8 (cfgs 0).N = fun i : S4096x1024.Idx => gradAt m c (i 0) (i 1) := by
  refine (dats m 0 c).arrAt_eq_of_covers 8 _ (by decide +kernel) fun t hf y => ?_
  have ht : t.val < 16 := lt_of_lt_of_eq t.isLt N_0
  have key : ∀ y : S256x1024.Idx, k0_pay9 (prod1 (iblk m c 0 t) (iblk m c 1 t)) (prod2 (iblk m c 2 t) (iblk m c 3 t)) (iblk m c 4 t) (iblk m c 5 t) (iblk m c 6 t)
      (k0_pay6 (iblk m c 4 t)) (k0_pay7 (iblk m c 4 t)) y = (fun i : S4096x1024.Idx => gradAt m c (i 0) (i 1)) (((cfg0.win 8).blk t).view.emb y) := by
    intro y
    idx_vars y
    have hy0 := y0.isLt
    have e0 : ((cfg0.win 8).blk t).view.emb (ix2 y0 y1) 0 = (⟨t.val * 256 + y0.val, by omega⟩ : Fin 4096) := Fin.ext (by blk_simp [idx t])
    have e1 : ((cfg0.win 8).blk t).view.emb (ix2 y0 y1) 1 = (y1 : Fin 1024) := Fin.ext (by blk_simp [idx t])
    refine (pay9_at _ _ _ _ _ _ _ _ _).trans ((block_at m c t y0 ⟨t.val * 256 + y0.val, by omega⟩ rfl y1).trans ?_)
    show _ = gradAt m c _ _
    rw [e0, e1]
  by_cases h : t.val % 16 = 0
  · refine Eq.trans ?_ (key y)
    blk_simp; rw [after0_8, outsAt0_A m c t h]; frame_out; rfl
  · refine Eq.trans ?_ (key y)
    blk_simp; rw [after0_8, outsAt0_B m c t h]; frame_out; rfl

/-- The rows' gradient after the run, rounded. -/
theorem arr_9 (c : Dev nD) : (dats m 0 c).arrAt 9 (cfgs 0).N = fun i : S4096x1024.Idx => gradAt m c (i 0) (i 1) := by
  refine (dats m 0 c).arrAt_eq_of_covers 9 _ (by decide +kernel) fun t hf y => ?_
  have ht : t.val < 16 := lt_of_lt_of_eq t.isLt N_0
  have key : ∀ y : S256x1024.Idx, k0_pay10 (prod1 (iblk m c 0 t) (iblk m c 1 t)) (prod2 (iblk m c 2 t) (iblk m c 3 t)) (iblk m c 4 t) (iblk m c 5 t) (iblk m c 6 t)
      (k0_pay6 (iblk m c 4 t)) (k0_pay7 (iblk m c 4 t)) y = (fun i : S4096x1024.Idx => gradAt m c (i 0) (i 1)) (((cfg0.win 9).blk t).view.emb y) := by
    intro y
    idx_vars y
    have hy0 := y0.isLt
    have e0 : ((cfg0.win 9).blk t).view.emb (ix2 y0 y1) 0 = (⟨t.val * 256 + y0.val, by omega⟩ : Fin 4096) := Fin.ext (by blk_simp [idx t])
    have e1 : ((cfg0.win 9).blk t).view.emb (ix2 y0 y1) 1 = (y1 : Fin 1024) := Fin.ext (by blk_simp [idx t])
    refine (pay10_at _ _ _ _ _ _ _ _ _).trans ((block_at m c t y0 ⟨t.val * 256 + y0.val, by omega⟩ rfl y1).trans ?_)
    show _ = gradAt m c _ _
    rw [e0, e1]
  by_cases h : t.val % 16 = 0
  · refine Eq.trans ?_ (key y)
    blk_simp; rw [after0_9, outsAt0_A m c t h]; frame_out; rfl
  · refine Eq.trans ?_ (key y)
    blk_simp; rw [after0_9, outsAt0_B m c t h]; frame_out; rfl

theorem pay11_at (j : S1x1024.Idx) : k0_pay11 (F := Ideal) j = 0 := by pointwise! [k0_pay11]

/-- A block's part of the gain's gradient. -/
def part (c : Dev nD) (t : Fin cfg0.N) (j : S1x1024.Idx) : EReal :=
  ∑ r : Fin 256, gainPart (fun k => iblk m c 4 t (ix2 r k)) (rowOf (iblk m c 0 t) (iblk m c 1 t) (iblk m c 2 t) (iblk m c 3 t) r) (j 1)

theorem step_at (c : Dev nD) (t : Fin cfg0.N) (acc : Vec Ideal S1x1024 .f32) (j : S1x1024.Idx) :
    k0_pay12 (prod1 (iblk m c 0 t) (iblk m c 1 t)) (prod2 (iblk m c 2 t) (iblk m c 3 t)) (iblk m c 4 t) (k0_pay6 (iblk m c 4 t)) acc j = acc j + part m c t j := by
  idx_vars j
  exact pay12_at _ _ _ _ _ _ _ _

/-- The gain's gradient after the run: every row's part. -/
theorem arr_10 (c : Dev nD) : (dats m 0 c).arrAt 10 (cfgs 0).N = fun j : S1x1024.Idx => ∑ r : Fin 4096,
    gainPart (fun k => V m c main_arg0 (ix2 r k)) (rowV m c r) (j 1) := by
  refine (dats m 0 c).arrAt_eq_of_covers 10 _ (by decide +kernel) fun t hf y => ?_
  blk_simp
  rw [after0_10, Pipeline.eq_sum_fin_of_reset_step_apply_of_flush (fun n h => (outsAt0 m c n h).2.2) 16 (fun _ => 0)
    (fun t j => part m c t j)
    (fun t h j => by rw [outsAt0_A m c t h]; frame_out; refine (step_at m c t _ j).trans ?_; rw [pay11_at])
    (fun t h j => by rw [outsAt0_B m c t h]; frame_out; exact step_at m c t _ j)
    t ((flush0_10 t).mp hf) _, zero_add]
  have ht : t.val / 16 = 0 := by have := lt_of_lt_of_eq t.isLt N_0; omega
  idx_vars y
  have e1 : ((win0_10.blk t).view.emb (ix2 y0 y1) 1) = y1 := Fin.ext (by blk_simp [idx t])
  rw [e1]
  have key : ∀ s : Fin 16, ∀ h, part m c ⟨16 * (t.val / 16) + s.val, h⟩ (ix2 y0 y1)
      = ∑ a : Fin 256, (fun r : Fin 4096 => gainPart (fun k => V m c main_arg0 (ix2 r k)) (rowV m c r) y1) ⟨s.val * 256 + a.val, by omega⟩ := by
    intro s h
    refine Finset.sum_congr rfl fun a _ => ?_
    have hs : s.val * 256 + a.val = (16 * (t.val / 16) + s.val) * 256 + a.val := by omega
    rw [rowOf_blk m c ⟨16 * (t.val / 16) + s.val, h⟩ a ⟨s.val * 256 + a.val, by omega⟩ hs,
      blk4 m c ⟨16 * (t.val / 16) + s.val, h⟩ a ⟨s.val * 256 + a.val, by omega⟩ hs]
    rfl
  exact (Finset.sum_congr rfl fun s _ => key s _).trans
    (Fin.sum_mul_add_fin 16 256 (fun r : Fin 4096 => gainPart (fun k => V m c main_arg0 (ix2 r k)) (rowV m c r) y1) rfl)

end Cert.FfnNormBwdIdeal.Val
end
-- ==== Proof.FfnNormBwd.Equal.lean ====
/- The second norm's backward kernel computes the gradients of the plain forward lines. -/
module

public import proofs.«01_k».proof.Proof.FfnNormBwd.Kernel
public import proofs.«01_k».proof.Proof.Gen.FfnNormBwdRefIdeal.Read
public import proofs.«01_k».proof.Defs
public import proofs.«01_k».proof.Proof.Gen.FfnNormBwd

@[expose] public section

set_option maxRecDepth 16384

noncomputable section

open Idealize.ShloMosaic Idealize.ShloMosaic.TcCoe Idealize.SL.Sem

namespace Cert.FfnNormBwdRefIdeal.Val
open Cert.FfnNormBwdRefIdeal Cert.FfnNormBwdRefIdeal.Gen Cert.FfnNormBwdRefIdeal.Read
open Cert.FfnNormBwdIdeal.Val (n1024 gainPart)

/-- A branch's part of the cotangent of a normed row. -/
def dref (p : Fin 2816 → EReal) (w : Fin 1024 → Fin 2816 → EReal) (j : Fin 1024) : EReal := ∑ q : Fin 2816, p q * w j q

/-- The cotangent of a normed row: the second branch's part and the first's. -/
abbrev rowRef (x2 x3 : FVec Ideal S1024x2816 .f32) (x4 x5 : FVec Ideal S4096x2816 .f32) (r : Fin 4096) (j : Fin 1024) : EReal :=
  dref (fun q => x5 (ix2 r q)) (fun j q => x3 (ix2 j q)) j + dref (fun q => x4 (ix2 r q)) (fun j q => x2 (ix2 j q)) j

theorem ms_at (x0 : FVec Ideal S4096x1024 .f32) (r : Fin 4096) (u : Fin 1) : val_main_v6 (F := Ideal) x0 (ix2 r u) = Cert.Common.meanSq n1024 (fun k => x0 (ix2 r k)) := by
  pointwise [val_main_v6, val_main_v5, val_main_v4, val_main_v3, val_main_v2, val_main_v1, val_main_v0, val_main_cst, val_main_cst_0, val_main_cst_1, Cert.Common.meanSq]

theorem v19_at (x2 x3 : FVec Ideal S1024x2816 .f32) (x4 x5 : FVec Ideal S4096x2816 .f32) (r : Fin 4096) (j : Fin 1024) :
    val_main_v19 (F := Ideal) x2 x3 x4 x5 (ix2 r j) = rowRef x2 x3 x4 x5 r j := by
  pointwise [val_main_v19, val_main_v18, val_main_v17]
  rfl

/-- The reference's gradient of the gain. -/
theorem v22_at (x0 : FVec Ideal S4096x1024 .f32) (x2 x3 : FVec Ideal S1024x2816 .f32) (x4 x5 : FVec Ideal S4096x2816 .f32) (u : Fin 1) (j : Fin 1024) :
    val_main_v22 (F := Ideal) x0 x2 x3 x4 x5 (ix2 u j) = ∑ r : Fin 4096, gainPart (fun k => x0 (ix2 r k)) (rowRef x2 x3 x4 x5 r) j := by
  pointwise [val_main_v22, val_main_v21, val_main_cst_3, val_main_v20, val_main_v12, val_main_v11, val_main_v7, v19_at, ms_at, gainPart]

theorem v34_at (x0 : FVec Ideal S4096x1024 .f32) (x1 : FVec Ideal S1x1024 .f32) (x2 x3 : FVec Ideal S1024x2816 .f32) (x4 x5 : FVec Ideal S4096x2816 .f32) (r : Fin 4096) :
    val_main_v34 (F := Ideal) x0 x1 x2 x3 x4 x5 (ix1 r) = Cert.Common.normPull n1024 (fun k => x0 (ix2 r k)) (fun k => rowRef x2 x3 x4 x5 r k * x1 (ix2 0 k)) := by
  pointwise [val_main_v34, val_main_cst_6, val_main_v33, val_main_v32, val_main_cst_5, val_main_v31, val_main_v10, val_main_v8, val_main_v7, val_main_v9, val_main_cst_2, val_main_v27, val_main_v26, val_main_cst_4, val_main_v25, val_main_v24, val_main_v23, v19_at, ms_at, Cert.Common.normPull]
  first | rfl | exact Fin.sum_univ_one _

/-- The reference's gradient of the rows. -/
theorem v39_at (x0 : FVec Ideal S4096x1024 .f32) (x1 : FVec Ideal S1x1024 .f32) (x2 x3 : FVec Ideal S1024x2816 .f32) (x4 x5 : FVec Ideal S4096x2816 .f32) (x6 : FVec Ideal S4096x1024 .f32) (r : Fin 4096) (j : Fin 1024) :
    val_main_v39 (F := Ideal) x0 x1 x2 x3 x4 x5 x6 (ix2 r j) = Cert.Common.normGrad n1024 (fun k => x0 (ix2 r k)) (fun k => rowRef x2 x3 x4 x5 r k * x1 (ix2 0 k)) j + x6 (ix2 r j) := by
  pointwise [val_main_v39, val_main_v38, val_main_v35, val_main_v37, val_main_v36, val_main_v30, val_main_v29, val_main_v28, val_main_v7, val_main_v24, val_main_v23, v34_at, v19_at, ms_at, Cert.Common.normGrad]
  rw [add_assoc (x6 _), add_assoc (x6 _), add_comm (x6 _)]

theorem v40_at (x0 : FVec Ideal S4096x1024 .f32) (x1 : FVec Ideal S1x1024 .f32) (x2 x3 : FVec Ideal S1024x2816 .f32) (x4 x5 : FVec Ideal S4096x2816 .f32) (x6 : FVec Ideal S4096x1024 .f32) (r : Fin 4096) (j : Fin 1024) :
    val_main_v40 (F := Ideal) x0 x1 x2 x3 x4 x5 x6 (ix2 r j) = Cert.Common.normGrad n1024 (fun k => x0 (ix2 r k)) (fun k => rowRef x2 x3 x4 x5 r k * x1 (ix2 0 k)) j + x6 (ix2 r j) := by
  pointwise [val_main_v40, v39_at]

end Cert.FfnNormBwdRefIdeal.Val

namespace Cert.FfnNormBwdIdeal.Val
open Cert.FfnNormBwdIdeal Cert.FfnNormBwdIdeal.Gen

variable (m : (ℓ : Loc nD τ sig) → Buf (Elt Ideal) ℓ)

/-- A row with zeros after every part of 352. -/
def padRow (p : Fin 2816 → EReal) (k : Fin 3072) : EReal :=
  if h : k.val / 384 < 8 ∧ k.val % 384 < 352 then p ⟨k.val / 384 * 352 + k.val % 384, by omega⟩ else 0

/-- A weight in eight blocks of columns, zeros after the 352 of a block. -/
def padBlocks (w : Fin 1024 → Fin 2816 → EReal) (d : Fin 8) (j : Fin 1024) (e : Fin 384) : EReal :=
  if h : e.val < 352 then w j ⟨d.val * 352 + e.val, by omega⟩ else 0

/-- The product over the padded columns is the product over the columns. -/
theorem dh_pad (p : Fin 2816 → EReal) (w : Fin 1024 → Fin 2816 → EReal) : dh (padRow p) (padBlocks w) = Cert.FfnNormBwdRefIdeal.Val.dref p w := by
  funext j
  refine Cert.Common.sum_padded (A := 8) (p := 384) (n := 352) (by omega) rfl rfl (fun q => p q * w j q) (fun q => padRow p q * padBlocks w ⟨q.val / 384, by omega⟩ j ⟨q.val % 384, by omega⟩) ?_ ?_
  · intro a e h1 h2
    have hd : (a.val * 384 + e.val) / 384 = a.val := by omega
    have hm : (a.val * 384 + e.val) % 384 = e.val := by omega
    have h : (a.val * 384 + e.val) / 384 < 8 ∧ (a.val * 384 + e.val) % 384 < 352 := by omega
    refine congrArg₂ (· * ·) ((dif_pos h).trans (congrArg p (Fin.ext ?_))) ((dif_pos h.2).trans (congrArg (w j) (Fin.ext ?_)))
    all_goals show _ / 384 * 352 + _ % 384 = _
    all_goals rw [hd, hm]
  · intro a e h1 he
    have h : ¬ ((a.val * 384 + e.val) / 384 < 8 ∧ (a.val * 384 + e.val) % 384 < 352) := by omega
    show padRow p _ * _ = 0
    rw [show padRow p ⟨a.val * 384 + e.val, h1⟩ = 0 from dif_neg h, zero_mul]

theorem V11 (c : Dev nD) (r : Fin 4096) (k : Fin 3072) : V m c main_v11 (ix2 r k) = padRow (fun q => (m ((c : Thread nD τ).loc main_arg4) : FVec Ideal S4096x2816 .f32) (ix2 r q)) k := by
  simp only [V, hostOps0, hostOps0_1, hostOps0_2, hostOps0_3, hostOps0_4, hostOps0_5, hostOps0_6, hostOps0_7, hostOps0_8, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero, padRow]

theorem V15 (c : Dev nD) (r : Fin 4096) (k : Fin 3072) : V m c main_v15 (ix2 r k) = padRow (fun q => (m ((c : Thread nD τ).loc main_arg5) : FVec Ideal S4096x2816 .f32) (ix2 r q)) k := by
  simp only [V, hostOps0, hostOps0_1, hostOps0_2, hostOps0_3, hostOps0_4, hostOps0_5, hostOps0_6, hostOps0_7, hostOps0_8, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero, padRow]

theorem V3 (c : Dev nD) (d : Fin 8) (j : Fin 1024) (e : Fin 384) : V m c main_v3 (ix3 d j e) = padBlocks (fun j q => (m ((c : Thread nD τ).loc main_arg2) : FVec Ideal S1024x2816 .f32) (ix2 j q)) d j e := by
  simp only [V, hostOps0, hostOps0_1, hostOps0_2, hostOps0_3, hostOps0_4, hostOps0_5, hostOps0_6, hostOps0_7, hostOps0_8, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero, padBlocks]

theorem V7 (c : Dev nD) (d : Fin 8) (j : Fin 1024) (e : Fin 384) : V m c main_v7 (ix3 d j e) = padBlocks (fun j q => (m ((c : Thread nD τ).loc main_arg3) : FVec Ideal S1024x2816 .f32) (ix2 j q)) d j e := by
  simp only [V, hostOps0, hostOps0_1, hostOps0_2, hostOps0_3, hostOps0_4, hostOps0_5, hostOps0_6, hostOps0_7, hostOps0_8, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero, padBlocks]

/-- A row's two products are the reference's. -/
theorem row_eq (c : Dev nD) (r : Fin 4096) : rowV m c r = Cert.FfnNormBwdRefIdeal.Val.rowRef (m ((c : Thread nD τ).loc main_arg2)) (m ((c : Thread nD τ).loc main_arg3)) (m ((c : Thread nD τ).loc main_arg4)) (m ((c : Thread nD τ).loc main_arg5)) r := by
  funext j
  have e1 : dh (fun k => V m c main_v11 (ix2 r k)) (fun d j e => V m c main_v3 (ix3 d j e)) = _ :=
    (congrArg₂ dh (funext fun q => V11 m c r q) (funext fun d => funext fun j => funext fun e => V3 m c d j e)).trans (dh_pad _ _)
  have e2 : dh (fun k => V m c main_v15 (ix2 r k)) (fun d j e => V m c main_v7 (ix3 d j e)) = _ :=
    (congrArg₂ dh (funext fun q => V15 m c r q) (funext fun d => funext fun j => funext fun e => V7 m c d j e)).trans (dh_pad _ _)
  show dh _ _ j + dh _ _ j = _
  rw [e1, e2, add_comm]

theorem gradAt_eq (c : Dev nD) (r : Fin 4096) (j : Fin 1024) : gradAt m c r j
    = Cert.Common.normGrad n1024 (fun k => (m ((c : Thread nD τ).loc main_arg0) : FVec Ideal S4096x1024 .f32) (ix2 r k))
        (fun k => Cert.FfnNormBwdRefIdeal.Val.rowRef (m ((c : Thread nD τ).loc main_arg2)) (m ((c : Thread nD τ).loc main_arg3)) (m ((c : Thread nD τ).loc main_arg4)) (m ((c : Thread nD τ).loc main_arg5)) r k
          * (m ((c : Thread nD τ).loc main_arg1) : FVec Ideal S1x1024 .f32) (ix2 0 k)) j + (m ((c : Thread nD τ).loc main_arg6) : FVec Ideal S4096x1024 .f32) (ix2 r j) := by
  unfold gradAt
  rw [row_eq, V_main_arg0, V_main_arg1, V_main_arg6]

theorem eq_8 (c : Dev nD) : (dats m 0 c).arrAt 8 (cfgs 0).N = Cert.FfnNormBwdRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr_8]
  funext i; idx_vars i
  exact (gradAt_eq m c i0 i1).trans (Cert.FfnNormBwdRefIdeal.Val.v39_at _ _ _ _ _ _ _ _ _).symm

theorem eq_9 (c : Dev nD) : (dats m 0 c).arrAt 9 (cfgs 0).N = Cert.FfnNormBwdRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr_9]
  funext i; idx_vars i
  exact (gradAt_eq m c i0 i1).trans (Cert.FfnNormBwdRefIdeal.Val.v40_at _ _ _ _ _ _ _ _ _).symm

theorem eq_10 (c : Dev nD) : (dats m 0 c).arrAt 10 (cfgs 0).N = Cert.FfnNormBwdRefIdeal.Read.val_main_v22 (F := Ideal)
    (m ((c : Thread nD τ).loc main_arg0)) (m ((c : Thread nD τ).loc main_arg2)) (m ((c : Thread nD τ).loc main_arg3)) (m ((c : Thread nD τ).loc main_arg4)) (m ((c : Thread nD τ).loc main_arg5)) := by
  rw [arr_10]
  funext i; idx_vars i
  refine Eq.trans (Finset.sum_congr rfl fun r _ => ?_) (Cert.FfnNormBwdRefIdeal.Val.v22_at _ _ _ _ _ _ _).symm
  rw [row_eq, V_main_arg0]

/-- The reference runs, leaves its arguments as they were and every counter at zero. -/
theorem frame_ref : Cert.quiescent_FfnNormBwdRefIdeal := fun m g _ =>
  (θ_run Cert.FfnNormBwdRefIdeal.defs _ _).mono (fun r h => ⟨fun c => (h c).2.2.2, sem_eq_zero_of_no_sems (by decide) r.2⟩)
    (Cert.FfnNormBwdRefIdeal.Value.run (F := Ideal) m g)

set_option maxHeartbeats 2000000 in
/-- Kernel and reference compute the same three gradients over the extended reals. -/
theorem algebraic : Cert.algebraic_FfnNormBwdIdeal_FfnNormBwdRefIdeal := by
  pair_intro
  · run_from Cert.FfnNormBwdIdeal.Gen.run_main m g
    · exact V_main_arg2 m c
    · exact V_main_arg3 m c
    · exact V_main_arg4 m c
    · exact V_main_arg5 m c
  · refine (θ_run Cert.FfnNormBwdRefIdeal.defs _ _).mono (fun r h => ?_) (Cert.FfnNormBwdRefIdeal.Value.run (F := Ideal) m' g')
    intro c
    obtain ⟨a0, a1, a2, a3, a4, a5, a6⟩ := hagree c
    refine ⟨(h c).1.trans ((Cert.FfnNormBwdRefIdeal.Read.val_main_v39_eq m' c).trans (Eq.trans ?_ (eq_8 m c).symm)),
      (h c).2.1.trans ((Cert.FfnNormBwdRefIdeal.Read.val_main_v40_eq m' c).trans (Eq.trans ?_ (eq_9 m c).symm)),
      (h c).2.2.1.trans ((Cert.FfnNormBwdRefIdeal.Read.val_main_v22_eq _ _ _ _ _).trans (Eq.trans ?_ (eq_10 m c).symm)), (h c).2.2.2⟩
    · rw [a0, a1, a2, a3, a4, a5, a6]
    · rw [a0, a1, a2, a3, a4, a5, a6]
    · rw [a0, a2, a3, a4, a5]

end Cert.FfnNormBwdIdeal.Val
end
-- ==== Proof.MergeBwd.Kernel.lean ====
/- What the merge's backward kernel leaves in its two results, in coordinates of the whole arrays. -/
module

public import proofs.«01_k».proof.Proof.Gen.MergeBwdIdeal.Frame
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

open Idealize.ShloMosaic.Pipeline (Dat)

namespace Cert.MergeBwdIdeal.Val

open Cert.MergeBwdIdeal Cert.MergeBwdIdeal.Gen

variable (m : (ℓ : Loc nD τ sig) → Buf (Elt Ideal) ℓ)

/-- The block of every window at every grid point. -/
theorem idx : ∀ t : Fin cfg0.N, win0_0.index t = ![t.val, 0]
    ∧ win0_1.index t = ![0, 0]
    ∧ win0_2.index t = ![t.val, 0]
    ∧ win0_3.index t = ![t.val, 1]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The cotangent of the merged row: a row of the cotangent times every row of the weight. -/
def dmerged (d : Fin 1024 → EReal) (w : Fin 1024 → Fin 1024 → EReal) (j : Fin 1024) : EReal := ∑ q : Fin 1024, d q * w j q

/-- The logSlope of the logistic function. -/
def logSlope (x : EReal) : EReal := Ideal.logistic x * (1 - Ideal.logistic x)

theorem pay1_at (v0 : Vec Ideal S512x1024 .bf16) (v2 : Vec Ideal S1024x1024 .bf16) (r : Fin 512) (j : Fin 1024) :
    k0_pay1 v0 v2 (ix2 r j) = dmerged (fun q => v0 (ix2 r q)) (fun j q => v2 (ix2 j q)) j := by
  pointwise [k0_pay1, dmerged]

theorem pay4_at (v0 : Vec Ideal S512x1024 .bf16) (v2 : Vec Ideal S1024x1024 .bf16) (v5 v7 v9 v10 : Vec Ideal S512x1024 .f32) (r : Fin 512) (j : Fin 2048) :
    k0_pay4 v0 v2 v5 v7 v9 v10 (ix2 r j) = if h : j.val < 1024 then
        dmerged (fun q => v0 (ix2 r q)) (fun j q => v2 (ix2 j q)) ⟨j.val, h⟩ * v9 (ix2 r ⟨j.val, h⟩) * logSlope (v5 (ix2 r ⟨j.val, h⟩))
      else dmerged (fun q => v0 (ix2 r q)) (fun j q => v2 (ix2 j q)) ⟨j.val - 1024, by omega⟩ * v10 (ix2 r ⟨j.val - 1024, by omega⟩) * logSlope (v7 (ix2 r ⟨j.val - 1024, by omega⟩)) := by
  pointwise [k0_pay4, k0_pay2, k0_pay3, pay1_at, logSlope]

theorem pay5_at (v0 : Vec Ideal S512x1024 .bf16) (v2 : Vec Ideal S1024x1024 .bf16) (v5 : Vec Ideal S512x1024 .f32) (r : Fin 512) (j : Fin 1024) :
    k0_pay5 v0 v2 v5 (ix2 r j) = Ideal.logistic (v5 (ix2 r j)) * dmerged (fun q => v0 (ix2 r q)) (fun j q => v2 (ix2 j q)) j := by
  pointwise [k0_pay5, k0_pay2, pay1_at]

theorem pay6_at (v0 : Vec Ideal S512x1024 .bf16) (v2 : Vec Ideal S1024x1024 .bf16) (v7 : Vec Ideal S512x1024 .f32) (r : Fin 512) (j : Fin 1024) :
    k0_pay6 v0 v2 v7 (ix2 r j) = Ideal.logistic (v7 (ix2 r j)) * dmerged (fun q => v0 (ix2 r q)) (fun j q => v2 (ix2 j q)) j := by
  pointwise [k0_pay6, k0_pay3, pay1_at]

/-- A column of the first gate, among all columns. -/
def lo (j : Fin 1024) : Fin 4992 := ⟨j.val, by omega⟩
/-- A column of the second gate, among all columns. -/
def hi (j : Fin 1024) : Fin 4992 := ⟨1024 + j.val, by omega⟩

theorem blk0 (c : Dev nD) (t : Fin cfg0.N) (a : Fin 512) (r : Fin 4096) (hr : r.val = t.val * 512 + a.val) :
    (fun k => iblk m c 0 t (ix2 a k)) = fun k => V m c main_v1 (ix2 r k) := by
  funext k
  refine congrArg (V m c main_v1) (?_ : ((cfg0.win 0).blk t).view.emb _ = _)
  funext q; fin_cases q <;> refine Fin.ext ?_ <;> blk_simp [idx t, lo, hi] <;> show _ = _ <;> simp <;> omega

theorem blk1 (c : Dev nD) (t : Fin cfg0.N) :
    (fun (j : Fin 1024) (q : Fin 1024) => iblk m c 1 t (ix2 j q)) = fun j q => V m c main_v2 (ix2 j q) := by
  funext j k
  refine congrArg (V m c main_v2) (?_ : ((cfg0.win 1).blk t).view.emb _ = _)
  funext q; fin_cases q <;> refine Fin.ext ?_ <;> blk_simp [idx t]

theorem blk2 (c : Dev nD) (t : Fin cfg0.N) (a : Fin 512) (r : Fin 4096) (hr : r.val = t.val * 512 + a.val) (j : Fin 1024) :
    X0_2 m c t (ix2 a j) = V m c main_v0 (ix2 r (lo j)) := by
  unfold X0_2 Pipeline.Window.fill
  rw [dif_pos (moved0_2 t _)]
  refine congrArg (V m c main_v0) (?_ : ((cfg0.win 2).blk t).view.emb _ = _)
  funext q; fin_cases q <;> refine Fin.ext ?_ <;> blk_simp [idx t, lo, hi] <;> show _ = _ <;> simp <;> omega

theorem blk3 (c : Dev nD) (t : Fin cfg0.N) (a : Fin 512) (r : Fin 4096) (hr : r.val = t.val * 512 + a.val) (j : Fin 1024) :
    X0_3 m c t (ix2 a j) = V m c main_v0 (ix2 r (hi j)) := by
  unfold X0_3 Pipeline.Window.fill
  rw [dif_pos (moved0_3 t _)]
  refine congrArg (V m c main_v0) (?_ : ((cfg0.win 3).blk t).view.emb _ = _)
  funext q; fin_cases q <;> refine Fin.ext ?_ <;> blk_simp [idx t, lo, hi] <;> show _ = _ <;> simp <;> omega

theorem blk4 (c : Dev nD) (t : Fin cfg0.N) (a : Fin 512) (r : Fin 4096) (hr : r.val = t.val * 512 + a.val) (k : Fin 1024) :
    iblk m c 4 t (ix2 a k) = V m c main_arg1 (ix2 r k) := by
  refine congrArg (V m c main_arg1) (?_ : ((cfg0.win 4).blk t).view.emb _ = _)
  funext q; fin_cases q <;> refine Fin.ext ?_ <;> blk_simp [idx t, lo, hi] <;> show _ = _ <;> simp <;> omega

theorem blk5 (c : Dev nD) (t : Fin cfg0.N) (a : Fin 512) (r : Fin 4096) (hr : r.val = t.val * 512 + a.val) (k : Fin 1024) :
    iblk m c 5 t (ix2 a k) = V m c main_arg2 (ix2 r k) := by
  refine congrArg (V m c main_arg2) (?_ : ((cfg0.win 5).blk t).view.emb _ = _)
  funext q; fin_cases q <;> refine Fin.ext ?_ <;> blk_simp [idx t, lo, hi] <;> show _ = _ <;> simp <;> omega

/-- The merged row's cotangent, of the arrays that the kernel is started on. -/
abbrev dV (c : Dev nD) (r : Fin 4096) : Fin 1024 → EReal := dmerged (fun q => V m c main_v1 (ix2 r q)) (fun j q => V m c main_v2 (ix2 j q))

/-- A branch's gradient after the run: the branch's gate times the merged row's cotangent. -/
theorem arr_7 (c : Dev nD) : (dats m 0 c).arrAt 7 (cfgs 0).N = fun i : S4096x1024.Idx => Ideal.logistic (V m c main_v0 (ix2 (i 0) (lo (i 1)))) * dV m c (i 0) (i 1) := by
  refine (dats m 0 c).arrAt_eq_of_covers 7 _ (by decide +kernel) fun t hf y => ?_
  have ht : t.val < 8 := lt_of_lt_of_eq t.isLt N_0
  have key : ∀ y : S512x1024.Idx, k0_pay5 (iblk m c 0 t) (iblk m c 1 t) (X0_2 m c t) y
      = (fun i : S4096x1024.Idx => Ideal.logistic (V m c main_v0 (ix2 (i 0) (lo (i 1)))) * dV m c (i 0) (i 1)) (((cfg0.win 7).blk t).view.emb y) := by
    intro y
    idx_vars y
    have hy0 := y0.isLt
    have e0 : ((cfg0.win 7).blk t).view.emb (ix2 y0 y1) 0 = (⟨t.val * 512 + y0.val, by omega⟩ : Fin 4096) := Fin.ext (by blk_simp [idx t])
    have e1 : ((cfg0.win 7).blk t).view.emb (ix2 y0 y1) 1 = (y1 : Fin 1024) := Fin.ext (by blk_simp [idx t])
    rw [pay5_at, blk0 m c t y0 ⟨t.val * 512 + y0.val, by omega⟩ rfl, blk1 m c t, blk2 m c t y0 ⟨t.val * 512 + y0.val, by omega⟩ rfl]
    dsimp only
    rw [e0, e1]
  refine Eq.trans ?_ (key y)
  blk_simp; rw [after0_7]; unfold outsAt0; frame_out

/-- A branch's gradient after the run: the branch's gate times the merged row's cotangent. -/
theorem arr_8 (c : Dev nD) : (dats m 0 c).arrAt 8 (cfgs 0).N = fun i : S4096x1024.Idx => Ideal.logistic (V m c main_v0 (ix2 (i 0) (hi (i 1)))) * dV m c (i 0) (i 1) := by
  refine (dats m 0 c).arrAt_eq_of_covers 8 _ (by decide +kernel) fun t hf y => ?_
  have ht : t.val < 8 := lt_of_lt_of_eq t.isLt N_0
  have key : ∀ y : S512x1024.Idx, k0_pay6 (iblk m c 0 t) (iblk m c 1 t) (X0_3 m c t) y
      = (fun i : S4096x1024.Idx => Ideal.logistic (V m c main_v0 (ix2 (i 0) (hi (i 1)))) * dV m c (i 0) (i 1)) (((cfg0.win 8).blk t).view.emb y) := by
    intro y
    idx_vars y
    have hy0 := y0.isLt
    have e0 : ((cfg0.win 8).blk t).view.emb (ix2 y0 y1) 0 = (⟨t.val * 512 + y0.val, by omega⟩ : Fin 4096) := Fin.ext (by blk_simp [idx t])
    have e1 : ((cfg0.win 8).blk t).view.emb (ix2 y0 y1) 1 = (y1 : Fin 1024) := Fin.ext (by blk_simp [idx t])
    rw [pay6_at, blk0 m c t y0 ⟨t.val * 512 + y0.val, by omega⟩ rfl, blk1 m c t, blk3 m c t y0 ⟨t.val * 512 + y0.val, by omega⟩ rfl]
    dsimp only
    rw [e0, e1]
  refine Eq.trans ?_ (key y)
  blk_simp; rw [after0_8]; unfold outsAt0; frame_out

/-- The gates' gradient at a row and a column: the first gate's in the first 1024 columns, then the second's. -/
def gateGrad (g : Fin 2048 → EReal) (a b d : Fin 1024 → EReal) (j : Fin 2048) : EReal :=
  if h : j.val < 1024 then d ⟨j.val, h⟩ * a ⟨j.val, h⟩ * logSlope (g j) else d ⟨j.val - 1024, by omega⟩ * b ⟨j.val - 1024, by omega⟩ * logSlope (g j)

/-- The gates' gradient, of the arrays that the kernel is started on. -/
abbrev gV (c : Dev nD) (r : Fin 4096) : Fin 2048 → EReal :=
  gateGrad (fun q => V m c main_v0 (ix2 r ⟨q.val, by omega⟩)) (fun q => V m c main_arg1 (ix2 r q)) (fun q => V m c main_arg2 (ix2 r q)) (dV m c r)

theorem gateBlk (c : Dev nD) (t : Fin cfg0.N) (r : Fin 512) (j : Fin 2048) :
    k0_pay4 (iblk m c 0 t) (iblk m c 1 t) (X0_2 m c t) (X0_3 m c t) (iblk m c 4 t) (iblk m c 5 t) (ix2 r j)
      = gV m c ⟨t.val * 512 + r.val, by have := lt_of_lt_of_eq t.isLt N_0; omega⟩ j := by
  have ht : t.val < 8 := lt_of_lt_of_eq t.isLt N_0
  rw [pay4_at, blk0 m c t r ⟨t.val * 512 + r.val, by omega⟩ rfl, blk1 m c t]
  unfold gV gateGrad
  refine dite_congr rfl (fun h => ?_) fun h => ?_
  · rw [blk2 m c t r ⟨t.val * 512 + r.val, by omega⟩ rfl, blk4 m c t r ⟨t.val * 512 + r.val, by omega⟩ rfl]
    rfl
  · rw [blk3 m c t r ⟨t.val * 512 + r.val, by omega⟩ rfl, blk5 m c t r ⟨t.val * 512 + r.val, by omega⟩ rfl]
    refine congrArg (fun q => _ * _ * logSlope (V m c main_v0 (ix2 _ q))) (Fin.ext ?_)
    show 1024 + (j.val - 1024) = j.val
    omega

/-- The gates' gradient in the columns that the kernel writes, zero past them. -/
def gArr (c : Dev nD) : S4096x4992.Idx → EReal := fun i => if h : (i 1 : ℕ) < 2048 then gV m c (i 0) ⟨(i 1).val, h⟩ else 0

theorem gArr_at (c : Dev nD) (r : Fin 4096) (j : Fin 2048) : gArr m c (ix2 r ⟨j.val, by omega⟩) = gV m c r j := dif_pos j.isLt

/-- The gates' gradient after the run, in the columns that the kernel writes. -/
theorem arr_6 (c : Dev nD) (r : Fin 4096) (j : Fin 2048) : (dats m 0 c).arrAt 6 (cfgs 0).N (ix2 r ⟨j.val, by omega⟩ : S4096x4992.Idx) = gV m c r j := by
  have cov : (cfg0.win 6).CoversWhere (fun β => β 1 < 1) := by decide +kernel
  have key : ∀ (t : Fin cfg0.N) (y : S512x2048.Idx), k0_pay4 (iblk m c 0 t) (iblk m c 1 t) (X0_2 m c t) (X0_3 m c t) (iblk m c 4 t) (iblk m c 5 t) y
      = gArr m c (ix2 ⟨t.val * 512 + (y 0).val, by have := lt_of_lt_of_eq t.isLt N_0; have := (y 0).isLt; simp at this; omega⟩ ⟨(y 1).val, by have := (y 1).isLt; simp at this; omega⟩) := by
    intro t y
    idx_vars y
    exact (gateBlk m c t y0 y1).trans (gArr_at m c _ _).symm
  refine ((dats m 0 c).arrAt_apply_of_coversWhere 6 (gArr m c)
    (P := fun i => (i 1 : ℕ) < 2048) _ cov (fun t hf y => ?_) (fun j => ?_) _).trans ?_
  · refine Eq.trans ?_ ((key t ((cfg0.win 6).xinj (cfg0.grid.coords t) y)).trans (congrArg (gArr m c) ?_))
    · rw [after0_6]
      unfold outsAt0
      generalize (cfg0.win 6).xinj (cfg0.grid.coords t) y = z
      dsimp only
      frame_out
      rfl
    · funext q
      fin_cases q <;> refine Fin.ext ?_ <;> blk_simp [idx t] <;> rfl
  · blk_simp [Pipeline.Window.cell_apply]
    omega
  · exact (if_pos j.isLt).trans (gArr_at m c r j)

end Cert.MergeBwdIdeal.Val
end
-- ==== Proof.MergeBwd.Equal.lean ====
/- The backward kernel of the two gated branches and their product computes the gradients of the plain forward lines. -/
module

public import proofs.«01_k».proof.Proof.MergeBwd.Kernel
public import proofs.«01_k».proof.Proof.Gen.MergeBwdRefIdeal.Read
public import proofs.«01_k».proof.Defs
public import proofs.«01_k».proof.Proof.Gen.MergeBwd

@[expose] public section

set_option maxRecDepth 16384

noncomputable section

open Idealize.ShloMosaic Idealize.ShloMosaic.TcCoe Idealize.SL.Sem

namespace Cert.MergeBwdRefIdeal.Val
open Cert.MergeBwdRefIdeal Cert.MergeBwdRefIdeal.Gen Cert.MergeBwdRefIdeal.Read
open Cert.MergeBwdIdeal.Val (dmerged logSlope gateGrad)

theorem v5_at (x0 : FVec Ideal S4096x2048 .f32) (r : Fin 4096) (j : Fin 2048) : val_main_v5 (F := Ideal) x0 (ix2 r j) = Ideal.logistic (x0 (ix2 r j)) := by
  pointwise [val_main_v5, val_main_v4, val_main_v3, val_main_v2, val_main_v1, val_main_v0, val_main_cst, val_main_cst_0]
  rfl

theorem v8_at (x0 : FVec Ideal S4096x2048 .f32) (r : Fin 4096) (j : Fin 2048) : val_main_v8 (F := Ideal) x0 (ix2 r j) = logSlope (x0 (ix2 r j)) := by
  pointwise [val_main_v8, val_main_v7, val_main_v6, val_main_cst_1, v5_at, logSlope]

theorem v18_at (x3 : FVec Ideal S1024x1024 .f32) (x4 : FVec Ideal S4096x1024 .f32) (r : Fin 4096) (j : Fin 1024) :
    val_main_v18 (F := Ideal) x3 x4 (ix2 r j) = dmerged (fun q => x4 (ix2 r q)) (fun j q => x3 (ix2 j q)) j := by
  pointwise [val_main_v18, dmerged]

/-- The reference's gradient of the first branch. -/
theorem v31_at (x0 : FVec Ideal S4096x2048 .f32) (x3 : FVec Ideal S1024x1024 .f32) (x4 : FVec Ideal S4096x1024 .f32) (r : Fin 4096) (j : Fin 1024) :
    val_main_v31 (F := Ideal) x0 x3 x4 (ix2 r j) = Ideal.logistic (x0 (ix2 r ⟨j.val, by omega⟩)) * dmerged (fun q => x4 (ix2 r q)) (fun j q => x3 (ix2 j q)) j := by
  pointwise [val_main_v31, val_main_v23, val_main_v11, val_main_v10, val_main_v9, v5_at, v18_at]

/-- The reference's gradient of the second branch. -/
theorem v32_at (x0 : FVec Ideal S4096x2048 .f32) (x3 : FVec Ideal S1024x1024 .f32) (x4 : FVec Ideal S4096x1024 .f32) (r : Fin 4096) (j : Fin 1024) :
    val_main_v32 (F := Ideal) x0 x3 x4 (ix2 r j) = Ideal.logistic (x0 (ix2 r ⟨1024 + j.val, by omega⟩)) * dmerged (fun q => x4 (ix2 r q)) (fun j q => x3 (ix2 j q)) j := by
  pointwise [val_main_v32, val_main_v19, val_main_v14, val_main_v13, val_main_v9, v5_at, v18_at]

/-- The reference's gradient of the gates. -/
theorem v30_at (x0 : FVec Ideal S4096x2048 .f32) (x1 x2 : FVec Ideal S4096x1024 .f32) (x3 : FVec Ideal S1024x1024 .f32) (x4 : FVec Ideal S4096x1024 .f32) (r : Fin 4096) (j : Fin 2048) :
    val_main_v30 (F := Ideal) x0 x1 x2 x3 x4 (ix2 r j)
      = gateGrad (fun q => x0 (ix2 r q)) (fun q => x1 (ix2 r q)) (fun q => x2 (ix2 r q)) (dmerged (fun q => x4 (ix2 r q)) (fun j q => x3 (ix2 j q))) j := by
  pointwise [val_main_v30, val_main_v29, val_main_v28, val_main_v27, val_main_v26, val_main_v25, val_main_v24, val_main_v22, val_main_v21, val_main_v20, val_main_cst_2, val_main_cst_3, v8_at, v18_at, gateGrad]
  have hj := j.isLt
  by_cases h : j.val < 1024
  · have hm : (⟨j.val % 1024, by omega⟩ : Fin 1024) = ⟨j.val, h⟩ := Fin.ext (by show j.val % 1024 = j.val; omega)
    refine Eq.trans ?_ (dif_pos h).symm
    refine congrArg (· * logSlope (x0 (ix2 r j))) (Eq.trans (congrArg₂ (· + ·) (dif_neg ?_) (dif_pos ?_)) ((zero_add _).trans ?_))
    · omega
    · omega
    · exact congrArg (fun k : Fin 1024 => dmerged (fun q => x4 (ix2 r q)) (fun j q => x3 (ix2 j q)) k * x1 (ix2 r k)) hm
  · have hm : (⟨j.val % 1024, by omega⟩ : Fin 1024) = ⟨j.val - 1024, by omega⟩ := Fin.ext (by show j.val % 1024 = j.val - 1024; omega)
    refine Eq.trans ?_ (dif_neg h).symm
    refine congrArg (· * logSlope (x0 (ix2 r j))) (Eq.trans (congrArg₂ (· + ·) (dif_pos ?_) (dif_neg ?_)) ((add_zero _).trans ?_))
    · omega
    · omega
    · exact congrArg (fun k : Fin 1024 => dmerged (fun q => x4 (ix2 r q)) (fun j q => x3 (ix2 j q)) k * x2 (ix2 r k)) hm

end Cert.MergeBwdRefIdeal.Val

namespace Cert.MergeBwdIdeal.Val
open Cert.MergeBwdIdeal Cert.MergeBwdIdeal.Gen

variable (m : (ℓ : Loc nD τ sig) → Buf (Elt Ideal) ℓ)

theorem V0_at (c : Dev nD) (r : Fin 4096) (j : Fin 2048) : V m c main_v0 (ix2 r ⟨j.val, by omega⟩) = (m ((c : Thread nD τ).loc main_arg0) : FVec Ideal S4096x2048 .f32) (ix2 r j) := by
  simp only [V, V0, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [Cert.Common.sitofp_zero]

theorem V1 (c : Dev nD) : V m c main_v1 = m ((c : Thread nD τ).loc main_arg4) := by
  funext i; idx_vars i
  simp only [V, V0, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise []

theorem V2 (c : Dev nD) : V m c main_v2 = m ((c : Thread nD τ).loc main_arg3) := by
  funext i; idx_vars i
  simp only [V, V0, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise []

theorem eq_7 (c : Dev nD) : (dats m 0 c).arrAt 7 (cfgs 0).N = Cert.MergeBwdRefIdeal.Read.val_main_v31 (F := Ideal) (m ((c : Thread nD τ).loc main_arg0)) (m ((c : Thread nD τ).loc main_arg3)) (m ((c : Thread nD τ).loc main_arg4)) := by
  rw [arr_7]
  funext i; idx_vars i
  refine Eq.trans ?_ (Cert.MergeBwdRefIdeal.Val.v31_at _ _ _ _ _).symm
  have h := V0_at m c i0 ⟨i1.val, by have := i1.isLt; omega⟩
  unfold dV
  rw [V1, V2, ← h]
  rfl

theorem eq_8 (c : Dev nD) : (dats m 0 c).arrAt 8 (cfgs 0).N = Cert.MergeBwdRefIdeal.Read.val_main_v32 (F := Ideal) (m ((c : Thread nD τ).loc main_arg0)) (m ((c : Thread nD τ).loc main_arg3)) (m ((c : Thread nD τ).loc main_arg4)) := by
  rw [arr_8]
  funext i; idx_vars i
  refine Eq.trans ?_ (Cert.MergeBwdRefIdeal.Val.v32_at _ _ _ _ _).symm
  have h := V0_at m c i0 ⟨1024 + i1.val, by have := i1.isLt; omega⟩
  unfold dV
  rw [V1, V2, ← h]
  rfl

theorem eq_6 (c : Dev nD) (r : Fin 4096) (j : Fin 2048) : (dats m 0 c).arrAt 6 (cfgs 0).N (ix2 r ⟨j.val, by omega⟩ : S4096x4992.Idx)
    = Cert.MergeBwdRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r j) := by
  rw [arr_6]
  refine Eq.trans ?_ (Cert.MergeBwdRefIdeal.Val.v30_at _ _ _ _ _ _ _).symm
  unfold gV dV
  rw [V1, V2, V_main_arg1, V_main_arg2]
  exact congrArg (fun g => gateGrad g _ _ _ j) (funext fun q => V0_at m c r q)

/-- The gates' gradient that the program returns: the columns that the kernel wrote. -/
theorem eq_4 (c : Dev nD) : Pipeline.afterTail₀ cfgs (dats m) 0 (V0 m) [hostOps1] c main_v4 = Cert.MergeBwdRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  simp only [hostOps1, List.flatten_cons, List.flatten_nil, List.append_nil]
  funext i; idx_vars i
  after_results_simp
  refine (extractStridedSlice_apply _ _ _ (ix2 i0 i1) (ix2 i0 ⟨i1.val, by have := i1.isLt; omega⟩) ?_).trans (Eq.trans ?_ (eq_6 m c i0 i1))
  · intro a
    fin_cases a <;> simp
  · exact congrFun ((dats m 0 c).withArrays_arrAt sharedIn0 (V0 m c) (A_eq m c) 6) _

/-- The reference runs, leaves its arguments as they were and every counter at zero. -/
theorem frame_ref : Cert.quiescent_MergeBwdRefIdeal := fun m g _ =>
  (θ_run Cert.MergeBwdRefIdeal.defs _ _).mono (fun r h => ⟨fun c => (h c).2.2.2, sem_eq_zero_of_no_sems (by decide) r.2⟩)
    (Cert.MergeBwdRefIdeal.Value.run (F := Ideal) m g)

set_option maxHeartbeats 2000000 in
/-- Kernel and reference compute the same three gradients over the extended reals. -/
theorem algebraic : Cert.algebraic_MergeBwdIdeal_MergeBwdRefIdeal := by
  intro m g m' g' hpre hagree
  refine ⟨fun c => Pipeline.afterTail₀ cfgs (dats m) 0 (V0 m) [hostOps1] c main_v4, fun c => (dats m 0 c).arrAt 7 (cfgs 0).N, fun c => (dats m 0 c).arrAt 8 (cfgs 0).N, ?_, ?_⟩
  · refine (θ_run Cert.MergeBwdIdeal.defs _ _).mono (fun r h c => ?_) (Cert.MergeBwdIdeal.Gen.run_main m g)
    refine ⟨((h c).2 main_v4 (Pipeline.mem_restRefs_of main_v4 (by decide) (by decide))), (h c).1 7, (h c).1 8,
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩
  · refine (θ_run Cert.MergeBwdRefIdeal.defs _ _).mono (fun r h => ?_) (Cert.MergeBwdRefIdeal.Value.run (F := Ideal) m' g')
    intro c
    obtain ⟨a0, a1, a2, a3, a4⟩ := hagree c
    refine ⟨(h c).1.trans ((Cert.MergeBwdRefIdeal.Read.val_main_v30_eq _ _ _ _ _).trans (Eq.trans ?_ (eq_4 m c).symm)),
      (h c).2.1.trans ((Cert.MergeBwdRefIdeal.Read.val_main_v31_eq _ _ _).trans (Eq.trans ?_ (eq_7 m c).symm)),
      (h c).2.2.1.trans ((Cert.MergeBwdRefIdeal.Read.val_main_v32_eq _ _ _).trans (Eq.trans ?_ (eq_8 m c).symm)), (h c).2.2.2⟩
    · rw [a0, a1, a2, a3, a4]
    · rw [a0, a3, a4]
    · rw [a0, a3, a4]

end Cert.MergeBwdIdeal.Val
end
-- ==== Proof.SwaBwd.Row.lean ====
/- One block of queries of the attention's gradient, as functions of its rows. -/
module

public import proofs.«01_k».proof.Proof.Common

@[expose] public section

noncomputable section

open Idealize.ShloMosaic
open Cert.Common (meanSq normGrad)

namespace Cert.SwaBwdIdeal.Val

/-- A device sum over the first two of three axes, term by term. -/
theorem reduce_front {n0 n1 n2 : Nat} (h : (⟨3, ![n0, n1, n2]⟩ : Shape).Reduces [0, 1] ⟨1, ![n2]⟩)
    (v : (⟨3, ![n0, n1, n2]⟩ : Shape).Idx → EReal) (j : Fin n2) :
    Ideal.reduceAdd h v (ix1 j) = ∑ a : Fin n0, ∑ b : Fin n1, v (ix3 a b j) := by
  have fib : ∀ i : (⟨3, ![n0, n1, n2]⟩ : Shape).Idx, h.drop i = ix1 j ↔ ∃ k : Fin n0 × Fin n1, ix3 k.1 k.2 j = i := by
    intro i
    constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  refine (Finset.sum_filter_eq_sum_of_fiber _ (fun k : Fin n0 × Fin n1 => ix3 k.1 k.2 j)
    (fun _ _ e => Prod.ext (congrFun e 0) (congrFun e 1)) fib v).trans ?_
  simp only [Fintype.sum_prod_type]

/-- The length of a head, and the scale of the queries, as the programs' literals. -/
abbrev n64 : EReal := Ideal.ofBits .f32 0x42800000#32
abbrev c8 : EReal := Ideal.ofBits .f32 0x3E000000#32

theorem lit_c8 : c8 = ((1 / 8 : ℝ) : EReal) := by
  simp [c8, Ideal.ofBits, Ideal.ieee, -EReal.coe_mul]; norm_num

/-- The literal of a masked logit. -/
theorem lit_neg_inf : Ideal.ofBits .f32 4286578688#32 = (⊥ : EReal) := by
  simp [Ideal.ofBits, Ideal.ieee]

/-- What a block of 128 queries reads, by head: its queries, the 256 keys and values of its band, the gains, the sinks,
    the bias (minus infinity where a key is masked) and the cotangent of its output. -/
structure Blk where
  q : Fin 8 → Fin 128 → Fin 64 → EReal
  k : Fin 8 → Fin 256 → Fin 64 → EReal
  v : Fin 8 → Fin 256 → Fin 64 → EReal
  qg : Fin 64 → EReal
  kg : Fin 64 → EReal
  s : Fin 8 → EReal
  b : Fin 8 → Fin 128 → Fin 256 → EReal
  y : Fin 8 → Fin 128 → Fin 64 → EReal

/-- A row divided by its root mean square. -/
def unit (x : Fin 64 → EReal) (d : Fin 64) : EReal := x d * Ideal.rsqrt (meanSq n64 x)

namespace Blk

variable (B : Blk) (h : Fin 8) (i : Fin 128) (j : Fin 256) (d : Fin 64)

/-- The normed query, with the scale. -/
def qn : EReal := unit (B.q h i) d * B.qg d * c8
/-- The normed key. -/
def kn : EReal := unit (B.k h j) d * B.kg d
def logit : EReal := (∑ d, B.qn h i d * B.kn h j d) + B.b h i j
/-- The largest logit, the sink among them. -/
def top : EReal := max ((Finset.univ : Finset (Fin 256)).fold max ⊥ (B.logit h i)) (B.s h)
def p : EReal := Ideal.exp (B.logit h i j - B.top h i)
def es : EReal := Ideal.exp (B.s h - B.top h i)
def den : EReal := (∑ j, B.p h i j) + B.es h i
def inv : EReal := Ideal.div 1 (B.den h i)
def inv2 : EReal := Ideal.div 1 (B.den h i * B.den h i)
/-- The cotangent of a weight. -/
def dP : EReal := ∑ d, B.y h i d * B.v h j d
/-- The gradient of the denominator. -/
def dd : EReal := 0 - (∑ j, B.p h i j * B.dP h i j) * B.inv2 h i * 1
/-- The gradient of a logit. -/
def dl : EReal := (B.dP h i j * B.inv h i + B.dd h i) * B.p h i j
def dqn : EReal := (∑ j, B.dl h i j * B.kn h j d) * c8
def dkn : EReal := ∑ i, B.dl h i j * B.qn h i d
def dq : EReal := normGrad n64 (B.q h i) (fun d => B.dqn h i d * B.qg d) d
def dk : EReal := normGrad n64 (B.k h j) (fun d => B.dkn h j d * B.kg d) d
def dv : EReal := ∑ i, B.y h i d * (B.p h i j * B.inv h i)
def ds : EReal := ∑ i, B.dd h i * B.es h i
def dqg : EReal := ∑ h, ∑ i, unit (B.q h i) d * B.dqn h i d
def dkg : EReal := ∑ h, ∑ j, unit (B.k h j) d * B.dkn h j d

end Blk

end Cert.SwaBwdIdeal.Val
end
-- ==== Proof.SwaBwd.Band.lean ====
/- Which keys a block of queries sees, and the block's rows as read from the whole arrays. -/
module

public import proofs.«01_k».proof.Proof.SwaBwd.Row

@[expose] public section

noncomputable section

open Idealize.ShloMosaic

namespace Cert.SwaBwdIdeal.Val

/-- A query sees a key at a distance of 0 to 127: the word of it, for query `i` of a block and key `j` of the block's band. -/
def near (i : Fin 128) (j : Fin 256) : BitVec 1 :=
  IntOp.andi (IntOp.cmpi .sge (IntOp.subi (IntOp.addi (128#32) (BitVec.ofNat 32 i.val)) (BitVec.ofNat 32 j.val)) 0#32)
    (IntOp.cmpi .slt (IntOp.subi (IntOp.addi (128#32) (BitVec.ofNat 32 i.val)) (BitVec.ofNat 32 j.val)) 128#32)

/-- The first block has no block before it. -/
def seen (n : Fin 32) (i : Fin 128) (j : Fin 256) : BitVec 1 := if n.val = 0 ∧ j.val < 128 then 0#1 else near i j

/-- The token of the band's key `j`: of the block before, or of the block (the first block's own where there is none before). -/
def bandRow (n : Fin 32) (j : Fin 256) : Fin 4096 :=
  if h : j.val < 128 then ⟨128 * (n.val - 1) + j.val, by omega⟩ else ⟨128 * n.val + (j.val - 128), by omega⟩

/-- The arguments: queries, keys, values, the two gains, the sinks, the biases, the cotangent. -/
structure Arg where
  q : (⟨2, ![4096, 512]⟩ : Shape).Idx → EReal
  k : (⟨2, ![4096, 128]⟩ : Shape).Idx → EReal
  v : (⟨2, ![4096, 128]⟩ : Shape).Idx → EReal
  qg : (⟨2, ![1, 64]⟩ : Shape).Idx → EReal
  kg : (⟨2, ![1, 64]⟩ : Shape).Idx → EReal
  s : (⟨2, ![1, 8]⟩ : Shape).Idx → EReal
  b : (⟨3, ![8, 128, 256]⟩ : Shape).Idx → EReal
  y : (⟨2, ![4096, 512]⟩ : Shape).Idx → EReal

/-- A token of a block, a column of a head, a column of a head's key. -/
abbrev tok (n : Fin 32) (i : Fin 128) : Fin 4096 := ⟨n.val * 128 + i.val, by omega⟩
abbrev col (h : Fin 8) (d : Fin 64) : Fin 512 := ⟨h.val * 64 + d.val, by omega⟩
abbrev kvcol (h : Fin 8) (d : Fin 64) : Fin 128 := ⟨h.val / 4 * 64 + d.val, by omega⟩

/-- The rows of block `n`. -/
def Arg.blk (A : Arg) (n : Fin 32) : Blk where
  q h i d := A.q (ix2 (tok n i) (col h d))
  k h j d := A.k (ix2 (bandRow n j) (kvcol h d))
  v h j d := A.v (ix2 (bandRow n j) (kvcol h d))
  qg d := A.qg (ix2 0 d)
  kg d := A.kg (ix2 0 d)
  s h := A.s (ix2 0 h)
  b h i j := Scalar.select (seen n i j) (A.b (ix3 h i j)) (Ideal.ofBits .f32 4286578688#32)
  y h i d := A.y (ix2 (tok n i) (col h d))

theorem late : ∀ j : Fin 256, IntOp.cmpi .sge (BitVec.ofNat 32 j.val) 128#32 = if j.val < 128 then 0#1 else 1#1 := by decide +kernel

theorem seen_later (n : Fin 32) (hn : n.val ≠ 0) (i : Fin 128) (j : Fin 256) : IntOp.andi (near i j) (IntOp.ori (1#1) (IntOp.cmpi .sge (BitVec.ofNat 32 j.val) 128#32)) = seen n i j := by
  have : ∀ a b : BitVec 1, IntOp.andi a (IntOp.ori (1#1) b) = a := by decide
  rw [this]; unfold seen; rw [if_neg (by simp [hn])]

theorem seen_first (n : Fin 32) (hn : n.val = 0) (i : Fin 128) (j : Fin 256) : IntOp.andi (near i j) (IntOp.ori (0#1) (IntOp.cmpi .sge (BitVec.ofNat 32 j.val) 128#32)) = seen n i j := by
  have h0 : ∀ a : BitVec 1, IntOp.andi a (IntOp.ori (0#1) 0#1) = 0#1 := by decide
  have h1 : ∀ a : BitVec 1, IntOp.andi a (IntOp.ori (0#1) 1#1) = a := by decide
  rw [late]; unfold seen
  by_cases h : j.val < 128
  · rw [if_pos h, if_pos ⟨hn, h⟩, h0]
  · rw [if_neg h, if_neg (by simp [h]), h1]

theorem started : ∀ (n : Fin 32) (j : Fin 256), IntOp.cmpi .sge (IntOp.addi (IntOp.muli (IntOp.subi (BitVec.ofNat 32 n.val) 1#32) 128#32) (BitVec.ofNat 32 j.val)) 0#32
    = if n.val = 0 ∧ j.val < 128 then 0#1 else 1#1 := by decide +kernel

/-- The query head of a key head and a place in its group; a column of a key head. -/
abbrev hd (c : Fin 2) (g : Fin 4) : Fin 8 := ⟨c.val * 4 + g.val, by omega⟩
abbrev kc (c : Fin 2) (d : Fin 64) : Fin 128 := ⟨c.val * 64 + d.val, by omega⟩

/-- The band of a block, from rows with a block of zeros before them. -/
theorem band_row (f : Fin 4096 → EReal) (n : Fin 32) (j : Fin 256) :
    (if h : j.val < 128 then (if h : n.val * 128 + j.val < 128 then 0 else f ⟨n.val * 128 + j.val - 128, by omega⟩)
      else if h : (1 + n.val) * 128 + (j.val - 128) < 128 then 0 else f ⟨(1 + n.val) * 128 + (j.val - 128) - 128, by omega⟩)
    = if n.val = 0 ∧ j.val < 128 then 0 else f (bandRow n j) := by
  have hn := n.isLt
  have hj := j.isLt
  by_cases h : j.val < 128
  · rw [dif_pos h]
    by_cases h0 : n.val = 0
    · rw [dif_pos (by omega), if_pos ⟨h0, h⟩]
    · rw [dif_neg (by omega), if_neg (by omega), bandRow, dif_pos h]
      exact congrArg f (Fin.ext (show n.val * 128 + j.val - 128 = 128 * (n.val - 1) + j.val by omega))
  · rw [dif_neg h, dif_neg (by omega), if_neg (by omega), bandRow, dif_neg h]
    exact congrArg f (Fin.ext (show (1 + n.val) * 128 + (j.val - 128) - 128 = 128 * n.val + (j.val - 128) by omega))

/-- The two key heads' columns. -/
theorem kvcol_hd (c : Fin 2) (g : Fin 4) (d : Fin 64) : kvcol (hd c g) d = kc c d :=
  Fin.ext (show (c.val * 4 + g.val) / 4 * 64 + d.val = c.val * 64 + d.val by omega)

theorem bit_cases (b : BitVec 1) : b = 0#1 ∨ b = 1#1 := by revert b; decide

/-- A key that a query does not see has the logit minus infinity, whatever the arguments. -/
theorem Arg.logit_masked (A : Arg) (n : Fin 32) (h : Fin 8) (i : Fin 128) (j : Fin 256) (hs : seen n i j = 0#1) : (A.blk n).logit h i j = ⊥ := by
  have e : (A.blk n).b h i j = ⊥ := by
    show Scalar.select (seen n i j) _ _ = _
    rw [hs, lit_neg_inf]; rfl
  rw [Blk.logit, e, EReal.add_bot]

/-- The band of two blocks, read at a row. -/
theorem band_rows (a b : (⟨2, ![128, 128]⟩ : Shape).Idx → EReal) (f : Fin 4096 → Fin 128 → EReal) (n : Fin 32)
    (ha : ∀ (r : Fin 4096) (i : Fin 128), r.val = 128 * (n.val - 1) + i.val → ∀ d, a (ix2 i d) = f r d)
    (hb : ∀ (r : Fin 4096) (i : Fin 128), r.val = 128 * n.val + i.val → ∀ d, b (ix2 i d) = f r d) (j : Fin 256) (d : Fin 128) :
    (if hj : j.val < 128 then a (ix2 ⟨j.val, hj⟩ d) else b (ix2 ⟨j.val - 128, by omega⟩ d)) = f (bandRow n j) d := by
  by_cases hj : j.val < 128
  · rw [dif_pos hj]; refine ha _ _ ?_ d; unfold bandRow; rw [dif_pos hj]
  · rw [dif_neg hj]; refine hb _ _ ?_ d; unfold bandRow; rw [dif_neg hj]

end Cert.SwaBwdIdeal.Val
end
-- ==== Proof.SwaBwd.Real.lean ====
/- What finite arguments give a block of the attention's backward pass: every quantity but a masked logit is a real number, and a
   row's logits and sink together have no gradient through their maximum. -/
module

public import proofs.«01_k».proof.Proof.SwaBwd.Row

@[expose] public section

noncomputable section

open Idealize.ShloMosaic

namespace Cert.SwaBwdIdeal.Val

/-- An extended real that is a real number. -/
def IsR (x : EReal) : Prop := ∃ r : ℝ, x = r

namespace IsR
theorem coe (r : ℝ) : IsR (r : EReal) := ⟨r, rfl⟩
theorem zero : IsR 0 := ⟨0, rfl⟩
theorem add {x y : EReal} (hx : IsR x) (hy : IsR y) : IsR (x + y) := by
  obtain ⟨a, rfl⟩ := hx; obtain ⟨b, rfl⟩ := hy; exact ⟨a + b, (EReal.coe_add a b).symm⟩
theorem mul {x y : EReal} (hx : IsR x) (hy : IsR y) : IsR (x * y) := by
  obtain ⟨a, rfl⟩ := hx; obtain ⟨b, rfl⟩ := hy; exact ⟨a * b, (EReal.coe_mul a b).symm⟩
theorem sum {ι : Type*} (s : Finset ι) {f : ι → EReal} (hf : ∀ i, IsR (f i)) : IsR (∑ i ∈ s, f i) := by
  choose g hg using hf
  exact ⟨∑ i ∈ s, g i, by rw [← Cert.Common.coe_sum]; exact Finset.sum_congr rfl fun i _ => hg i⟩
end IsR

theorem lit_n64 : n64 = ((64 : ℝ) : EReal) := by
  simp [n64, Ideal.ofBits, Ideal.ieee, -EReal.coe_mul]; norm_num
/-- The reciprocal root and the mean square of a row of reals. -/
theorem row_real {x : Fin 64 → EReal} (hx : ∀ d, IsR (x d)) :
    ∃ s ρ : ℝ, 0 < s ∧ Cert.Common.meanSq n64 x = s ∧ Ideal.rsqrt (Cert.Common.meanSq n64 x) = ρ := by
  choose g hg using hx
  obtain ⟨ε, hε, eε⟩ := Cert.Common.lit_eps
  have hs : 0 < (∑ d, g d * g d) * (1 / 64) + ε := by
    have : 0 ≤ ∑ d, g d * g d := Finset.sum_nonneg fun d _ => mul_self_nonneg _
    positivity
  have e : Cert.Common.meanSq n64 x = (((∑ d, g d * g d) * (1 / 64) + ε : ℝ) : EReal) := by
    unfold Cert.Common.meanSq
    rw [lit_n64, Ideal.div_coe (by norm_num), eε, EReal.coe_add, EReal.coe_mul, ← Cert.Common.coe_sum]
    simp only [hg, EReal.coe_mul]
  obtain ⟨ρ, _, _, hρ⟩ := Cert.Common.rsqrt_pos _ hs
  exact ⟨_, ρ, hs, e, e ▸ hρ⟩

theorem unit_real {x : Fin 64 → EReal} (hx : ∀ d, IsR (x d)) (d : Fin 64) : IsR (unit x d) := by
  obtain ⟨s, ρ, _, _, hρ⟩ := row_real hx
  exact (hx d).mul (hρ ▸ IsR.coe ρ)

/-- A row divided by its root mean square is real, whatever the row: an infinite entry makes every quotient zero. -/
theorem unit_any (x : Fin 64 → EReal) (d : Fin 64) : IsR (unit x d) := by
  by_cases hx : ∀ d, IsR (x d)
  · exact unit_real hx d
  · obtain ⟨a, ha⟩ := not_forall.mp hx
    have sq : ∀ y : EReal, 0 ≤ y * y := fun y => by
      induction y using EReal.rec with
      | bot => rw [EReal.bot_mul_bot]; exact le_top
      | top => rw [EReal.top_mul_top]; exact le_top
      | coe r => rw [← EReal.coe_mul]; exact EReal.coe_nonneg.mpr (mul_self_nonneg r)
    have top : x a * x a = ⊤ := by
      generalize x a = y at ha
      induction y using EReal.rec with
      | bot => exact EReal.bot_mul_bot
      | top => exact EReal.top_mul_top
      | coe r => exact absurd ⟨r, rfl⟩ ha
    have sum : ∑ k, x k * x k = ⊤ := top_le_iff.mp (top ▸ Finset.single_le_sum (f := fun k => x k * x k) (fun k _ => sq _) (Finset.mem_univ a))
    obtain ⟨ε, hε, eε⟩ := Cert.Common.lit_eps
    have e : Ideal.rsqrt (Cert.Common.meanSq n64 x) = 0 := by
      rw [Cert.Common.meanSq, sum, lit_n64, Ideal.div_coe (by norm_num), EReal.top_mul_coe_of_pos (by norm_num), eε, EReal.top_add_coe]
      rfl
    rw [unit, e, mul_zero]
    exact IsR.zero

/-- A norm's gradient is linear in the cotangent. -/
theorem normGrad_sum {ι : Type*} (t : Finset ι) {x : Fin 64 → EReal} (hx : ∀ d, IsR (x d)) {s : ι → Fin 64 → EReal} (hs : ∀ a d, IsR (s a d)) (d : Fin 64) :
    ∑ a ∈ t, Cert.Common.normGrad n64 x (s a) d = Cert.Common.normGrad n64 x (fun d => ∑ a ∈ t, s a d) d := by
  obtain ⟨m, ρ, hm, em, hρ⟩ := row_real hx
  choose g hg using hx
  choose f hf using hs
  unfold Cert.Common.normGrad Cert.Common.normPull
  simp only [em] at hρ ⊢
  simp only [hρ, hg, hf, lit_n64, Cert.Common.lit_neg_half]
  simp only [Ideal.div_coe hm.ne', Ideal.div_coe (show (64 : ℝ) ≠ 0 by norm_num), ← EReal.coe_mul, Cert.Common.coe_sum, ← EReal.coe_add]
  refine congrArg _ ?_
  simp only [Finset.sum_add_distrib, ← Finset.sum_mul, ← Finset.mul_sum]
  rw [Finset.sum_comm]
  simp only [← Finset.mul_sum]

namespace Blk

/-- A block's gains and sinks are real; a bias may be minus infinity. -/
structure Soft (B : Blk) : Prop where
  qg : ∀ d, IsR (B.qg d)
  kg : ∀ d, IsR (B.kg d)
  s : ∀ h, IsR (B.s h)
  b : ∀ h i j, B.b h i j = ⊥ ∨ IsR (B.b h i j)

/-- A block's arguments are real; a bias may be minus infinity. -/
structure Reals (B : Blk) : Prop extends B.Soft where
  q : ∀ h i d, IsR (B.q h i d)
  k : ∀ h j d, IsR (B.k h j d)
  v : ∀ h j d, IsR (B.v h j d)
  y : ∀ h i d, IsR (B.y h i d)

section

variable {B : Blk} (R : B.Soft) (h : Fin 8) (i : Fin 128) (j : Fin 256) (d : Fin 64)
include R

theorem qn_real : IsR (B.qn h i d) := ((unit_any _ d).mul (R.qg d)).mul (lit_c8 ▸ IsR.coe _)
theorem kn_real : IsR (B.kn h j d) := (unit_any _ d).mul (R.kg d)
theorem logit_real : B.logit h i j = ⊥ ∨ IsR (B.logit h i j) := by
  rcases R.b h i j with e | e
  · exact .inl (by rw [logit, e, EReal.add_bot])
  · exact .inr ((IsR.sum _ fun d => (qn_real R h i d).mul (kn_real R h j d)).add e)

theorem top_real : IsR (B.top h i) := by
  obtain ⟨s, hs⟩ := R.s h
  have hlt : B.top h i < ⊤ := by
    refine max_lt ((Finset.fold_max_lt _).mpr ⟨bot_lt_top, fun j _ => ?_⟩) (hs ▸ EReal.coe_lt_top s)
    rcases logit_real R h i j with e | ⟨r, e⟩
    · rw [e]; exact bot_lt_top
    · rw [e]; exact EReal.coe_lt_top r
  have hgt : ⊥ < B.top h i := lt_of_lt_of_le (hs ▸ EReal.bot_lt_coe s) (le_max_right _ _)
  exact ⟨_, (EReal.coe_toReal hlt.ne hgt.ne').symm⟩

theorem p_masked (e : B.logit h i j = ⊥) : B.p h i j = 0 := by
  obtain ⟨m, hm⟩ := top_real R h i
  rw [p, e, hm, EReal.bot_sub, Ideal.exp_bot]

theorem p_real : ∃ r : ℝ, 0 ≤ r ∧ B.p h i j = r := by
  rcases logit_real R h i j with e | ⟨r, e⟩
  · exact ⟨0, le_rfl, p_masked R h i j e⟩
  · obtain ⟨m, hm⟩ := top_real R h i
    exact ⟨Real.exp (r - m), (Real.exp_pos _).le, by rw [p, e, hm, ← EReal.coe_sub, Ideal.exp_coe]⟩

theorem es_real : ∃ r : ℝ, 0 < r ∧ B.es h i = r := by
  obtain ⟨m, hm⟩ := top_real R h i
  obtain ⟨s, hs⟩ := R.s h
  exact ⟨Real.exp (s - m), Real.exp_pos _, by rw [es, hs, hm, ← EReal.coe_sub, Ideal.exp_coe]⟩

/-- A row in real numbers. -/
theorem row : ∃ (P : Fin 256 → ℝ) (E : ℝ), (∀ j, B.p h i j = P j) ∧ B.es h i = E ∧ 0 < (∑ j, P j) + E ∧ B.den h i = (((∑ j, P j) + E : ℝ) : EReal) := by
  choose P hP0 hP using fun j => p_real R h i j
  obtain ⟨E, hE0, hE⟩ := es_real R h i
  refine ⟨P, E, hP, hE, add_pos_of_nonneg_of_pos (Finset.sum_nonneg fun j _ => hP0 j) hE0, ?_⟩
  rw [den, hE, EReal.coe_add, ← Cert.Common.coe_sum]
  simp only [hP]

theorem inv_real : ∃ D : ℝ, 0 < D ∧ B.den h i = D ∧ B.inv h i = ((1 / D : ℝ) : EReal) ∧ B.inv2 h i = ((1 / (D * D) : ℝ) : EReal) := by
  obtain ⟨P, E, hP, hE, h0, hD⟩ := row R h i
  refine ⟨_, h0, hD, ?_, ?_⟩
  · rw [inv, hD, Ideal.div_coe h0.ne', one_mul]
  · rw [inv2, hD, ← EReal.coe_mul, Ideal.div_coe (mul_pos h0 h0).ne', one_mul]

theorem div_den (x : EReal) : Ideal.div x (B.den h i) = x * B.inv h i := by
  obtain ⟨D, hD, e1, e2, -⟩ := inv_real R h i
  rw [e1, e2, Ideal.div_coe hD.ne']

end

variable {B : Blk} (R : B.Reals) (h : Fin 8) (i : Fin 128) (j : Fin 256) (d : Fin 64)
include R

theorem dP_real : IsR (B.dP h i j) := IsR.sum _ fun d => (R.y h i d).mul (R.v h j d)

/-- A row's gradient in real numbers. -/
theorem row_grad : ∃ (P K : Fin 256 → ℝ) (E D : ℝ), (∀ j, B.p h i j = P j) ∧ (∀ j, B.dP h i j = K j) ∧ B.es h i = E ∧ B.den h i = D ∧ 0 < D ∧ D = (∑ j, P j) + E
    ∧ B.inv2 h i = ((1 / (D * D) : ℝ) : EReal) ∧ B.dd h i = ((-(∑ j, K j * P j) * (1 / (D * D)) : ℝ) : EReal)
    ∧ ∀ j, B.dl h i j = (((K j * (1 / D) + -(∑ j, K j * P j) * (1 / (D * D))) * P j : ℝ) : EReal) := by
  obtain ⟨P, E, hP, hE, h0, hD⟩ := row R.toSoft h i
  choose K hK using fun j => dP_real R h i j
  have hi : B.inv h i = ((1 / ((∑ j, P j) + E) : ℝ) : EReal) := by rw [inv, hD, Ideal.div_coe h0.ne', one_mul]
  have hi2 : B.inv2 h i = ((1 / (((∑ j, P j) + E) * ((∑ j, P j) + E)) : ℝ) : EReal) := by
    rw [inv2, hD, ← EReal.coe_mul, Ideal.div_coe (mul_pos h0 h0).ne', one_mul]
  have hd : B.dd h i = ((-(∑ j, K j * P j) * (1 / (((∑ j, P j) + E) * ((∑ j, P j) + E))) : ℝ) : EReal) := by
    rw [dd, hi2]
    simp only [hP, hK, ← EReal.coe_mul, Cert.Common.coe_sum, mul_one, zero_sub, ← EReal.coe_neg]
    refine congrArg _ ?_
    rw [neg_mul]
    exact congrArg (fun t => -(t * _)) (Finset.sum_congr rfl fun j _ => mul_comm _ _)
  refine ⟨P, K, E, _, hP, hK, hE, hD, h0, rfl, hi2, hd, fun j => ?_⟩
  rw [dl, hd, hi, hP, hK, ← EReal.coe_mul, ← EReal.coe_add, ← EReal.coe_mul]

theorem dd_real : IsR (B.dd h i) := by
  obtain ⟨P, K, E, D, -, -, -, -, -, -, -, e, -⟩ := row_grad R h i
  exact ⟨_, e⟩

theorem dl_real : IsR (B.dl h i j) := by
  obtain ⟨P, K, E, D, -, -, -, -, -, -, -, -, e⟩ := row_grad R h i
  exact ⟨_, e j⟩

theorem dl_masked (e : B.p h i j = 0) : B.dl h i j = 0 := by rw [dl, e, mul_zero]

theorem dqn_real : IsR (B.dqn h i d) := (IsR.sum _ fun j => (dl_real R h i j).mul (kn_real R.toSoft h j d)).mul (lit_c8 ▸ IsR.coe _)
theorem dkn_real : IsR (B.dkn h j d) := IsR.sum _ fun i => (dl_real R h i j).mul (qn_real R.toSoft h i d)

/-- The denominator's gradient, the factor inside the sum; the weights' cotangents may be any reals where a key is masked. -/
theorem dd_eq {G : Fin 256 → EReal} (hG : ∀ j, IsR (G j)) (he : ∀ j, B.p h i j = 0 ∨ G j = B.dP h i j) :
    -(∑ j, G j * B.inv2 h i * B.p h i j) = B.dd h i := by
  obtain ⟨P, K, E, D, hP, hK, hE, hD, h0, eD, hi2, hd, hl⟩ := row_grad R h i
  choose g hg using hG
  have e : ∀ j, G j * B.inv2 h i * B.p h i j = ((K j * P j * (1 / (D * D)) : ℝ) : EReal) := by
    intro j
    rcases he j with h | h
    · rw [h, mul_zero, show P j = 0 from EReal.coe_eq_zero.mp ((hP j).symm.trans h), mul_zero, zero_mul, EReal.coe_zero]
    · rw [h, hK, hP, hi2, ← EReal.coe_mul, ← EReal.coe_mul]
      exact congrArg _ (by ring)
  rw [hd, Finset.sum_congr rfl fun j _ => e j, Cert.Common.coe_sum, ← Finset.sum_mul, ← EReal.coe_neg]
  exact congrArg _ (by ring)

theorem dl_eq {g : EReal} (he : B.p h i j = 0 ∨ g = B.dP h i j) :
    (Ideal.div g (B.den h i) + B.dd h i) * B.p h i j = B.dl h i j := by
  rcases he with e | e
  · rw [e, mul_zero, dl_masked R h i j e]
  · obtain ⟨D, hD, e1, e2, -⟩ := inv_real R.toSoft h i
    rw [dl, e, e1, e2, Ideal.div_coe hD.ne']

/-- Logits and sink together have no gradient through the maximum that is subtracted from them. -/
theorem slack : -(B.dd h i * B.es h i) + ∑ j, -(B.dl h i j) = 0 := by
  obtain ⟨P, K, E, D, hP, hK, hE, hD, h0, eD, hi2, hd, hl⟩ := row_grad R h i
  rw [hd, hE]
  simp only [hl, ← EReal.coe_mul, ← EReal.coe_neg, Cert.Common.coe_sum, ← EReal.coe_add]
  refine EReal.coe_eq_zero.mpr ?_
  have e : ∀ S : ℝ, ∑ j, -((K j * (1 / D) + -S * (1 / (D * D))) * P j) = -((∑ j, K j * P j) * (1 / D)) + S * (1 / (D * D)) * ∑ j, P j := by
    intro S
    have : ∀ j, -((K j * (1 / D) + -S * (1 / (D * D))) * P j) = -(K j * P j) * (1 / D) + S * (1 / (D * D)) * P j := fun j => by ring
    rw [Finset.sum_congr rfl fun j _ => this j, Finset.sum_add_distrib, ← Finset.sum_mul, ← Finset.mul_sum, Finset.sum_neg_distrib]
    ring
  rw [e, show ∑ j, P j = D - E by rw [eD]; ring]
  field_simp
  ring

end Blk

/-- Some entry attains the maximum: the number of those that do is not zero. -/
theorem ties_ne_zero (f : Fin 256 → EReal) (t : Fin 256 → EReal) (ht : ∀ j, 0 ≤ t j)
    (h1 : ∀ j, f j = (Finset.univ : Finset (Fin 256)).fold max ⊥ f → t j = 1) : ∑ j, t j ≠ 0 := by
  obtain ⟨j, hj⟩ : ∃ j, f j = (Finset.univ : Finset (Fin 256)).fold max ⊥ f := by
    obtain ⟨j, -, hj⟩ := Finset.exists_mem_eq_sup' (Finset.univ_nonempty (α := Fin 256)) f
    refine ⟨j, hj.symm.trans ?_⟩
    rw [Finset.sup'_eq_sup]; rfl
  intro h
  have := Finset.single_le_sum (f := t) (fun j _ => ht j) (Finset.mem_univ j)
  rw [h, h1 j hj] at this
  exact absurd this (by norm_num)

end Cert.SwaBwdIdeal.Val
end
-- ==== Proof.SwaBwd.Ref.lean ====
/- What the plain backward pass computes, entry by entry, up to the logits. -/
module

public import proofs.«01_k».proof.Proof.SwaBwd.Band
public import proofs.«01_k».proof.Proof.SwaBwd.Real
public import proofs.«01_k».proof.Proof.Gen.SwaBwdRefIdeal.Read

@[expose] public section

set_option maxRecDepth 16384

noncomputable section

open Idealize.ShloMosaic Idealize.ShloMosaic.TcCoe Idealize.SL.Sem

namespace Cert.SwaBwdRefIdeal.Val
open Cert.SwaBwdRefIdeal Cert.SwaBwdRefIdeal.Gen Cert.SwaBwdRefIdeal.Read
open Cert.SwaBwdIdeal.Val

variable (x0 : FVec Ideal S4096x512 .f32) (x1 x2 : FVec Ideal S4096x128 .f32) (x3 x4 : FVec Ideal S1x64 .f32) (x5 : FVec Ideal S1x8 .f32)
  (x6 : FVec Ideal S8x128x256 .f32) (x7 : FVec Ideal S4096x512 .f32)

theorem v9_at (r : Fin 4096) (h : Fin 8) (u : Fin 1) :
    val_main_v9 (F := Ideal) x0 (ix3 r h u) = Cert.Common.meanSq n64 fun d => x0 (ix2 r (col h d)) := by
  pointwise [val_main_v9, val_main_v8, val_main_v7, val_main_v6, val_main_v5, val_main_v4, val_main_v3, val_main_v2, val_main_cst, val_main_cst_0, val_main_cst_1, Cert.Common.meanSq]

theorem v15_at (r : Fin 4096) (h : Fin 8) (d : Fin 64) :
    val_main_v15 (F := Ideal) x0 (ix3 r h d) = unit (fun d => x0 (ix2 r (col h d))) d := by
  pointwise [val_main_v15, val_main_v14, val_main_v10, val_main_v2, v9_at, unit]

theorem v18_at (r : Fin 4096) (h : Fin 8) (d : Fin 64) :
    val_main_v18 (F := Ideal) x0 x3 (ix3 r h d) = unit (fun d => x0 (ix2 r (col h d))) d * x3 (ix2 0 d) := by
  pointwise [val_main_v18, val_main_v17, val_main_v16, val_main_v0, v15_at]

theorem v26_at (r : Fin 4096) (c : Fin 2) (u : Fin 1) :
    val_main_v26 (F := Ideal) x1 (ix3 r c u) = Cert.Common.meanSq n64 fun d => x1 (ix2 r (kc c d)) := by
  pointwise [val_main_v26, val_main_v25, val_main_v24, val_main_v23, val_main_v22, val_main_v21, val_main_v20, val_main_v19, val_main_cst_3, val_main_cst_4, val_main_cst_5, Cert.Common.meanSq]

theorem v32_at (r : Fin 4096) (c : Fin 2) (d : Fin 64) :
    val_main_v32 (F := Ideal) x1 (ix3 r c d) = unit (fun d => x1 (ix2 r (kc c d))) d := by
  pointwise [val_main_v32, val_main_v31, val_main_v27, val_main_v19, v26_at, unit]

theorem v35_at (r : Fin 4096) (c : Fin 2) (d : Fin 64) :
    val_main_v35 (F := Ideal) x1 x4 (ix3 r c d) = unit (fun d => x1 (ix2 r (kc c d))) d * x4 (ix2 0 d) := by
  pointwise [val_main_v35, val_main_v34, val_main_v33, val_main_v1, v32_at]

theorem v37_at (n : Fin 32) (i : Fin 128) (c : Fin 2) (g : Fin 4) (d : Fin 64) :
    val_main_v37 (F := Ideal) x0 x3 (ix5 n i c g d) = unit (fun d => x0 (ix2 (tok n i) (col (hd c g) d))) d * x3 (ix2 0 d) := by
  pointwise [val_main_v37, v18_at]

theorem v44_at (n : Fin 32) (j : Fin 256) (c : Fin 2) (d : Fin 64) :
    val_main_v44 (F := Ideal) x1 x4 (ix4 n j c d)
      = if n.val = 0 ∧ j.val < 128 then 0 else unit (fun d => x1 (ix2 (bandRow n j) (kc c d))) d * x4 (ix2 0 d) := by
  pointwise [val_main_v44, val_main_v43, val_main_v42, val_main_v41, val_main_v39, val_main_v38, val_main_cst_7, v35_at]
  exact band_row (fun r => unit (fun d => x1 (ix2 r (kc c d))) d * x4 (ix2 0 d)) n j

theorem v51_at (n : Fin 32) (j : Fin 256) (c : Fin 2) (d : Fin 64) :
    val_main_v51 (F := Ideal) x2 (ix4 n j c d)
      = if n.val = 0 ∧ j.val < 128 then 0 else x2 (ix2 (bandRow n j) (kc c d)) := by
  pointwise [val_main_v51, val_main_v50, val_main_v49, val_main_v48, val_main_v46, val_main_v45, val_main_cst_9, val_main_v36]
  exact band_row (fun r => x2 (ix2 r (kc c d))) n j

theorem v87_at (n : Fin 32) (i : Fin 128) (j : Fin 256) : val_main_v87 (F := Ideal) (ix3 n i j) = seen n i j := by
  pointwise [val_main_v87, val_main_v86, val_main_v85, val_main_v84, val_main_v83, val_main_v82, val_main_c_16, val_main_v81, val_main_v80, val_main_v79, val_main_v78, val_main_v77, val_main_v76, val_main_v75, val_main_v74, val_main_c_15, val_main_v73, val_main_v72, val_main_c_14, val_main_v71, val_main_v70, val_main_v69, val_main_v68, val_main_v67, val_main_c_13, val_main_v66, val_main_v65, val_main_c_12, val_main_v64, val_main_v63, val_main_v62, val_main_v61, val_main_v60, val_main_c, val_main_v59, val_main_v58, val_main_v57, val_main_v56]
  rw [started, seen, near]
  have h1 : ∀ a : BitVec 1, IntOp.andi a 1#1 = a := by decide
  have h0 : ∀ a : BitVec 1, IntOp.andi a 0#1 = 0#1 := by decide
  split
  · exact h0 _
  · exact h1 _

/-- The rows of a block, of these arguments. -/
abbrev arg : Arg := ⟨x0, x1, x2, x3, x4, x5, x6, x7⟩
abbrev bk (n : Fin 32) : Blk := (arg x0 x1 x2 x3 x4 x5 x6 x7).blk n

theorem bk_k (n : Fin 32) (c : Fin 2) (g : Fin 4) (j : Fin 256) : (bk x0 x1 x2 x3 x4 x5 x6 x7 n).k (hd c g) j = fun d => x1 (ix2 (bandRow n j) (kc c d)) :=
  funext fun d => congrArg (fun q => x1 (ix2 (bandRow n j) q)) (kvcol_hd c g d)

theorem bk_v (n : Fin 32) (c : Fin 2) (g : Fin 4) (j : Fin 256) : (bk x0 x1 x2 x3 x4 x5 x6 x7 n).v (hd c g) j = fun d => x2 (ix2 (bandRow n j) (kc c d)) :=
  funext fun d => congrArg (fun q => x2 (ix2 (bandRow n j) q)) (kvcol_hd c g d)

theorem logit_masked (n : Fin 32) (h : Fin 8) (i : Fin 128) (j : Fin 256) (hs : seen n i j = 0#1) :
    (bk x0 x1 x2 x3 x4 x5 x6 x7 n).logit h i j = ⊥ := Arg.logit_masked _ n h i j hs

theorem v93_at (n : Fin 32) (c : Fin 2) (g : Fin 4) (i : Fin 128) (j : Fin 256) :
    val_main_v93_0 (F := Ideal) x0 x1 x3 x4 x6 (ix5 n c g i j) = (bk x0 x1 x2 x3 x4 x5 x6 x7 n).logit (hd c g) i j := by
  pointwise [val_main_v93_0, val_main_v93_1, val_main_v92, val_main_v91, val_main_v90, val_main_v89, val_main_v88, v87_at, val_main_v55, val_main_v54, val_main_cst_11, val_main_v53, val_main_v52, v44_at, v37_at, val_main_call0_v2, val_main_call0_v0, val_main_cst_17]
  rcases bit_cases (seen n i j) with hs | hs
  · rw [logit_masked x0 x1 x2 x3 x4 x5 x6 x7 n (hd c g) i j hs, hs]
    exact lit_neg_inf
  · have hz : ¬(n.val = 0 ∧ j.val < 128) := fun h => by rw [seen, if_pos h] at hs; exact absurd hs (by decide)
    have eb : (bk x0 x1 x2 x3 x4 x5 x6 x7 n).b (hd c g) i j = x6 (ix3 (hd c g) i j) := by
      show Scalar.select (seen n i j) _ _ = _
      rw [hs]; rfl
    rw [Blk.logit, eb, hs]
    refine congrArg (· + _) ?_
    show (∑ d, _) * c8 = _
    rw [lit_c8, mul_comm, Cert.Common.mul_sum_of_nonneg _ _ (by norm_num)]
    refine Finset.sum_congr rfl fun d _ => ?_
    rw [if_neg hz, Blk.qn, Blk.kn, bk_k, lit_c8]
    show _ = unit (fun d => x0 (ix2 (tok n i) (col (hd c g) d))) d * x3 (ix2 0 d) * _ * (_ * x4 (ix2 0 d))
    ac_rfl

theorem v96_at (n : Fin 32) (c : Fin 2) (g : Fin 4) (i : Fin 128) :
    val_main_v96 (F := Ideal) x0 x1 x3 x4 x6 (ix4 n c g i) = (Finset.univ : Finset (Fin 256)).fold max ⊥ ((bk x0 x1 x2 x3 x4 x5 x6 x7 n).logit (hd c g) i) := by
  pointwise [val_main_v96, val_main_cst_18, v93_at x0 x1 x2 x3 x4 x5 x6 x7]
  rw [lit_neg_inf]

theorem v95_at (u : Fin 1) (c : Fin 2) (g : Fin 4) (v w : Fin 1) : val_main_v95 (F := Ideal) x5 (ix5 u c g v w) = x5 (ix2 0 (hd c g)) := by
  pointwise [val_main_v95, val_main_v94]

theorem v102_at (n : Fin 32) (c : Fin 2) (g : Fin 4) (i : Fin 128) (u : Fin 1) :
    val_main_v102 (F := Ideal) x0 x1 x3 x4 x6 (ix5 n c g i u) = val_main_v96 (F := Ideal) x0 x1 x3 x4 x6 (ix4 n c g i) := by
  pointwise [val_main_v102]

theorem v103_at (n : Fin 32) (c : Fin 2) (g : Fin 4) (i : Fin 128) (u : Fin 1) : val_main_v103 (F := Ideal) x5 (ix5 n c g i u) = x5 (ix2 0 (hd c g)) := by
  pointwise [val_main_v103, v95_at]

theorem bk_s (n : Fin 32) (h : Fin 8) : x5 (ix2 0 h) = (bk x0 x1 x2 x3 x4 x5 x6 x7 n).s h := rfl

theorem v104_at (n : Fin 32) (c : Fin 2) (g : Fin 4) (i : Fin 128) (u : Fin 1) :
    val_main_v104 (F := Ideal) x0 x1 x3 x4 x5 x6 (ix5 n c g i u) = (bk x0 x1 x2 x3 x4 x5 x6 x7 n).top (hd c g) i := by
  rw [val_main_v104_apply, v102_at, v103_at, v96_at x0 x1 x2 x3 x4 x5 x6 x7, Blk.top, ← bk_s]
  generalize (Finset.univ : Finset (Fin 256)).fold (max : EReal → EReal → EReal) ⊥ _ = A
  generalize x5 _ = B
  rfl

theorem v125_at (n : Fin 32) (c : Fin 2) (g : Fin 4) (i : Fin 128) (j : Fin 256) :
    val_main_v125 (F := Ideal) x0 x1 x3 x4 x5 x6 (ix5 n c g i j) = (bk x0 x1 x2 x3 x4 x5 x6 x7 n).p (hd c g) i j := by
  pointwise [val_main_v125, val_main_v124, val_main_v123, v104_at x0 x1 x2 x3 x4 x5 x6 x7, v93_at x0 x1 x2 x3 x4 x5 x6 x7, Blk.p]

theorem v130_at (n : Fin 32) (c : Fin 2) (g : Fin 4) (i : Fin 128) (u : Fin 1) :
    val_main_v130 (F := Ideal) x0 x1 x3 x4 x5 x6 (ix5 n c g i u) = (bk x0 x1 x2 x3 x4 x5 x6 x7 n).es (hd c g) i := by
  pointwise [val_main_v130, val_main_v129, val_main_v128, v95_at, v104_at x0 x1 x2 x3 x4 x5 x6 x7, Blk.es, ← bk_s]

theorem v131_at (n : Fin 32) (c : Fin 2) (g : Fin 4) (i : Fin 128) (u : Fin 1) :
    val_main_v131 (F := Ideal) x0 x1 x3 x4 x5 x6 (ix5 n c g i u) = (bk x0 x1 x2 x3 x4 x5 x6 x7 n).den (hd c g) i := by
  pointwise [val_main_v131, val_main_v127, val_main_v126, val_main_cst_26, v130_at x0 x1 x2 x3 x4 x5 x6 x7, v125_at x0 x1 x2 x3 x4 x5 x6 x7, Blk.den]

theorem v136_at (n : Fin 32) (c : Fin 2) (g : Fin 4) (i : Fin 128) (u : Fin 1) :
    val_main_v136 (F := Ideal) x0 x1 x3 x4 x5 x6 (ix5 n c g i u) = (bk x0 x1 x2 x3 x4 x5 x6 x7 n).inv2 (hd c g) i := by
  pointwise [val_main_v136, val_main_v135, val_main_cst_27, val_main_v134, v131_at x0 x1 x2 x3 x4 x5 x6 x7, Blk.inv2]

theorem v141_at (n : Fin 32) (c : Fin 2) (d : Fin 64) (g : Fin 4) (i : Fin 128) :
    val_main_v141 (F := Ideal) x7 (ix5 n c d g i) = (bk x0 x1 x2 x3 x4 x5 x6 x7 n).y (hd c g) i d := by
  pointwise [val_main_v141, val_main_v140, bk, Arg.blk, arg]
  exact congrArg (fun q => x7 (ix2 (tok n i) q)) (Fin.ext (show c.val * 256 + g.val * 64 + d.val = (c.val * 4 + g.val) * 64 + d.val by omega))

/-- The weights' cotangents, the rows before the first block zero. -/
def dPz (n : Fin 32) (h : Fin 8) (i : Fin 128) (j : Fin 256) : EReal :=
  ∑ d, (bk x0 x1 x2 x3 x4 x5 x6 x7 n).y h i d * if n.val = 0 ∧ j.val < 128 then 0 else (bk x0 x1 x2 x3 x4 x5 x6 x7 n).v h j d

theorem v142_at (n : Fin 32) (c : Fin 2) (g : Fin 4) (i : Fin 128) (j : Fin 256) :
    val_main_v142 (F := Ideal) x2 x7 (ix5 n c g i j) = dPz x0 x1 x2 x3 x4 x5 x6 x7 n (hd c g) i j := by
  pointwise [val_main_v142, v141_at x0 x1 x2 x3 x4 x5 x6 x7, v51_at, dPz, bk_v]

end Cert.SwaBwdRefIdeal.Val
end
-- ==== Proof.SwaBwd.Ref2.lean ====
/- What the plain backward pass computes, entry by entry, from the weights on. -/
module

public import proofs.«01_k».proof.Proof.SwaBwd.Ref

@[expose] public section

set_option maxRecDepth 16384

noncomputable section

open Idealize.ShloMosaic Idealize.ShloMosaic.TcCoe Idealize.SL.Sem

namespace Cert.SwaBwdRefIdeal.Val
open Cert.SwaBwdRefIdeal Cert.SwaBwdRefIdeal.Gen Cert.SwaBwdRefIdeal.Read
open Cert.SwaBwdIdeal.Val

variable (x0 : FVec Ideal S4096x512 .f32) (x1 x2 : FVec Ideal S4096x128 .f32) (x3 x4 : FVec Ideal S1x64 .f32) (x5 : FVec Ideal S1x8 .f32)
  (x6 : FVec Ideal S8x128x256 .f32) (x7 : FVec Ideal S4096x512 .f32)

variable (hA : ∀ n, (bk x0 x1 x2 x3 x4 x5 x6 x7 n).Reals) (n : Fin 32) (c : Fin 2) (g : Fin 4) (i : Fin 128) (j : Fin 256) (d : Fin 64) (u : Fin 1)

include hA in
/-- A key that is not there has no weight. -/
theorem p_absent (hz : n.val = 0 ∧ j.val < 128) : (bk x0 x1 x2 x3 x4 x5 x6 x7 n).p (hd c g) i j = 0 :=
  Blk.p_masked (hA n).toSoft _ _ _ (logit_masked x0 x1 x2 x3 x4 x5 x6 x7 n _ i j (by rw [seen, if_pos hz]))

include hA in
theorem dPz_eq : (bk x0 x1 x2 x3 x4 x5 x6 x7 n).p (hd c g) i j = 0 ∨ dPz x0 x1 x2 x3 x4 x5 x6 x7 n (hd c g) i j = (bk x0 x1 x2 x3 x4 x5 x6 x7 n).dP (hd c g) i j := by
  by_cases hz : n.val = 0 ∧ j.val < 128
  · exact .inl (p_absent x0 x1 x2 x3 x4 x5 x6 x7 hA n c g i j hz)
  · exact .inr (Finset.sum_congr rfl fun d _ => by rw [if_neg hz])

include hA in
theorem dPz_real : IsR (dPz x0 x1 x2 x3 x4 x5 x6 x7 n (hd c g) i j) := by
  refine IsR.sum _ fun d => IsR.mul ((hA n).y _ _ _) ?_
  split
  · exact IsR.zero
  · exact (hA n).v _ _ _

include hA in
/-- The denominators' gradient. -/
theorem v150_at : val_main_v150 (F := Ideal) x0 x1 x2 x3 x4 x5 x6 x7 (ix5 n c g i u) = (bk x0 x1 x2 x3 x4 x5 x6 x7 n).dd (hd c g) i := by
  pointwise [val_main_v150, val_main_v149, val_main_v148, val_main_cst_28, val_main_v147, val_main_v146, val_main_v145, v142_at x0 x1 x2 x3 x4 x5 x6 x7, v136_at x0 x1 x2 x3 x4 x5 x6 x7, v125_at x0 x1 x2 x3 x4 x5 x6 x7]
  exact Blk.dd_eq (hA n) _ _ (fun j => dPz_real x0 x1 x2 x3 x4 x5 x6 x7 hA n c g i j) (fun j => dPz_eq x0 x1 x2 x3 x4 x5 x6 x7 hA n c g i j)

theorem bit_zero : (FloatOps.uitofp .f32 (BitVec.ofBool false) : Ideal .f32) = (0 : EReal) := by
  show ((((BitVec.ofBool false).toNat : ℕ) : ℝ) : EReal) = 0
  simp

theorem bit_one : (FloatOps.uitofp .f32 (BitVec.ofBool true) : Ideal .f32) = (1 : EReal) := by
  show ((((BitVec.ofBool true).toNat : ℕ) : ℝ) : EReal) = 1
  simp

theorem bit_nonneg (b : Bool) : (0 : EReal) ≤ (FloatOps.uitofp .f32 (BitVec.ofBool b) : Ideal .f32) := by
  cases b
  · exact le_of_eq bit_zero.symm
  · exact bit_one.symm ▸ zero_le_one

theorem zero_div {y : EReal} (h : y ≠ 0) : Ideal.div 0 y = 0 := by rw [Ideal.div, if_neg h, zero_mul]

include hA in
/-- The logits' gradient but for the maximum's. -/
theorem v160_at : val_main_v160 (F := Ideal) x0 x1 x2 x3 x4 x5 x6 x7 (ix5 n c g i j) = (bk x0 x1 x2 x3 x4 x5 x6 x7 n).dl (hd c g) i j := by
  pointwise [val_main_v160, val_main_v159, val_main_v158, val_main_v157, val_main_cst_30, v150_at x0 x1 x2 x3 x4 x5 x6 x7 hA, val_main_v152, val_main_v151, v131_at x0 x1 x2 x3 x4 x5 x6 x7, v142_at x0 x1 x2 x3 x4 x5 x6 x7, v125_at x0 x1 x2 x3 x4 x5 x6 x7]
  rw [Fin.sum_univ_one]
  exact Blk.dl_eq (hA n) _ _ _ (dPz_eq x0 x1 x2 x3 x4 x5 x6 x7 hA n c g i j)

include hA in
theorem v153_at : val_main_v153 (F := Ideal) x0 x1 x2 x3 x4 x5 x6 x7 (ix5 n c g i u) = (bk x0 x1 x2 x3 x4 x5 x6 x7 n).dd (hd c g) i * (bk x0 x1 x2 x3 x4 x5 x6 x7 n).es (hd c g) i := by
  pointwise [val_main_v153, v150_at x0 x1 x2 x3 x4 x5 x6 x7 hA, v130_at x0 x1 x2 x3 x4 x5 x6 x7]

include hA in
/-- The maximum's gradient is nothing. -/
theorem v164_at : val_main_v164 (F := Ideal) x0 x1 x2 x3 x4 x5 x6 x7 (ix5 n c g i u) = 0 := by
  pointwise [val_main_v164, val_main_v163, val_main_v162, val_main_cst_31, val_main_v161, val_main_v156, v153_at x0 x1 x2 x3 x4 x5 x6 x7 hA, v160_at x0 x1 x2 x3 x4 x5 x6 x7 hA]
  exact Blk.slack (hA n) _ _

include hA in
theorem v165_at : val_main_v165 (F := Ideal) x0 x1 x2 x3 x4 x5 x6 x7 (ix5 n c g i u) = 0 := by
  pointwise [val_main_v165, v164_at x0 x1 x2 x3 x4 x5 x6 x7 hA]
  exact zero_mul _

/-- At least one logit attains the maximum. -/
theorem v101_at : val_main_v101 (F := Ideal) x0 x1 x3 x4 x6 (ix4 n c g i) ≠ 0 := by
  have hm : val_main_v96 (F := Ideal) x0 x1 x3 x4 x6 (ix4 n c g i)
      = (Finset.univ : Finset (Fin 256)).fold (max : EReal → EReal → EReal) ⊥ fun j => val_main_v93_0 (F := Ideal) x0 x1 x3 x4 x6 (ix5 n c g i j) := by
    pointwise [val_main_v96, val_main_cst_18]
    rw [lit_neg_inf]
  pointwise [val_main_v101, val_main_cst_19, val_main_v100, val_main_v99, val_main_v98, val_main_v97]
  refine ties_ne_zero (fun j => val_main_v93_0 (F := Ideal) x0 x1 x3 x4 x6 (ix5 n c g i j)) _ (fun j => ?_) (fun j h => ?_)
  · exact bit_nonneg _
  · rw [decide_eq_true (h.trans hm.symm)]
    exact bit_one

include hA in
theorem v169_at : val_main_v169 (F := Ideal) x0 x1 x2 x3 x4 x5 x6 x7 (ix5 n c g i u) = 0 := by
  rw [val_main_v169_apply, v164_at x0 x1 x2 x3 x4 x5 x6 x7 hA]
  exact zero_mul _

include hA in
theorem v170_at : val_main_v170 (F := Ideal) x0 x1 x2 x3 x4 x5 x6 x7 (ix4 n c g i) = 0 := by
  pointwise [val_main_v170, val_main_cst_33, v169_at x0 x1 x2 x3 x4 x5 x6 x7 hA]
  exact Finset.sum_const_zero

include hA in
theorem v171_at : val_main_v171 (F := Ideal) x0 x1 x2 x3 x4 x5 x6 x7 (ix4 n c g i) = 0 := by
  rw [val_main_v171_apply, v170_at x0 x1 x2 x3 x4 x5 x6 x7 hA]
  exact zero_div (v101_at x0 x1 x3 x4 x6 n c g i)

include hA in
/-- The logits' gradient. -/
theorem v177_at : val_main_v177 (F := Ideal) x0 x1 x2 x3 x4 x5 x6 x7 (ix5 n c g i j) = (bk x0 x1 x2 x3 x4 x5 x6 x7 n).dl (hd c g) i j := by
  pointwise [val_main_v177, val_main_call1_v0, val_main_call1_cst, val_main_v174, val_main_v173, val_main_v172, v171_at x0 x1 x2 x3 x4 x5 x6 x7 hA, v160_at x0 x1 x2 x3 x4 x5 x6 x7 hA, val_main_v93_1, val_main_v89, v87_at]
  rw [zero_mul, add_zero]
  rcases bit_cases (seen n i j) with hs | hs
  · rw [hs, Blk.dl_masked (hA n) _ _ _ (Blk.p_masked (hA n).toSoft _ _ _ (logit_masked x0 x1 x2 x3 x4 x5 x6 x7 n _ i j hs))]
    rfl
  · rw [hs]; rfl

end Cert.SwaBwdRefIdeal.Val
end
-- ==== Proof.SwaBwd.Ref3.lean ====
/- What the plain backward pass computes, entry by entry, sums over blocks. -/
module

public import proofs.«01_k».proof.Proof.SwaBwd.Ref2

@[expose] public section

set_option maxRecDepth 16384

noncomputable section

open Idealize.ShloMosaic Idealize.ShloMosaic.TcCoe Idealize.SL.Sem

namespace Cert.SwaBwdRefIdeal.Val
open Cert.SwaBwdRefIdeal Cert.SwaBwdRefIdeal.Gen Cert.SwaBwdRefIdeal.Read
open Cert.SwaBwdIdeal.Val

variable (x0 : FVec Ideal S4096x512 .f32) (x1 x2 : FVec Ideal S4096x128 .f32) (x3 x4 : FVec Ideal S1x64 .f32) (x5 : FVec Ideal S1x8 .f32)
  (x6 : FVec Ideal S8x128x256 .f32) (x7 : FVec Ideal S4096x512 .f32)

variable (hA : ∀ n, (bk x0 x1 x2 x3 x4 x5 x6 x7 n).Reals) (n : Fin 32) (c : Fin 2) (g : Fin 4) (i : Fin 128) (j : Fin 256) (d : Fin 64) (u : Fin 1)

/-- A sum over the first and the fourth of five axes, the last of size one. -/
theorem reduce_outer {n0 n1 n2 n3 : Nat} (h : (⟨5, ![n0, n1, n2, n3, 1]⟩ : Shape).ReducesTo [0, 3] ⟨3, ![n1, n2, 1]⟩)
    (v : (⟨5, ![n0, n1, n2, n3, 1]⟩ : Shape).Idx → EReal) (init : EReal) (b : Fin n1) (c : Fin n2) (u : Fin 1) :
    Ideal.hostReduceAdd h v init (ix3 b c u) = init + ∑ a : Fin n0, ∑ e : Fin n3, v (ix5 a b c e u) := by
  have fib : ∀ i : (⟨5, ![n0, n1, n2, n3, 1]⟩ : Shape).Idx, h.drop i = ix3 b c u ↔ ∃ k : Fin n0 × Fin n3, ix5 k.1 b c k.2 u = i := by
    intro i
    constructor
    · intro e
      refine ⟨(i 0, i 3), funext fun a => Fin.ext ?_⟩
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => exact (congrArg Fin.val (congrFun e 2)).symm
    · rintro ⟨k, rfl⟩
      funext a
      match a with
      | ⟨0, _⟩ => rfl
      | ⟨1, _⟩ => rfl
      | ⟨2, _⟩ => rfl
  refine congrArg (init + ·) ((Finset.sum_filter_eq_sum_of_fiber _ (fun k : Fin n0 × Fin n3 => ix5 k.1 b c k.2 u)
    (fun _ _ e => Prod.ext (congrFun e 0) (congrFun e 3)) fib v).trans ?_)
  simp only [Fintype.sum_prod_type]

/-- A sum over three axes of size one. -/
theorem reduce_ones {n1 n2 : Nat} (h : (⟨5, ![1, n1, n2, 1, 1]⟩ : Shape).ReducesTo [0, 3, 4] ⟨2, ![n1, n2]⟩)
    (v : (⟨5, ![1, n1, n2, 1, 1]⟩ : Shape).Idx → EReal) (init : EReal) (b : Fin n1) (c : Fin n2) :
    Ideal.hostReduceAdd h v init (ix2 b c) = init + v (ix5 0 b c 0 0) := by
  have fib : ∀ i : (⟨5, ![1, n1, n2, 1, 1]⟩ : Shape).Idx, h.drop i = ix2 b c ↔ ∃ k : Fin 1, ix5 k b c 0 0 = i := by
    intro i
    constructor
    · intro e
      refine ⟨i 0, funext fun a => Fin.ext ?_⟩
      match a with
      | ⟨0, _⟩ => rfl
      | ⟨1, _⟩ => exact (congrArg Fin.val (congrFun e 0)).symm
      | ⟨2, _⟩ => exact (congrArg Fin.val (congrFun e 1)).symm
      | ⟨3, _⟩ => exact (Nat.lt_one_iff.mp (i 3).isLt).symm
      | ⟨4, _⟩ => exact (Nat.lt_one_iff.mp (i 4).isLt).symm
    · rintro ⟨k, rfl⟩
      funext a
      match a with
      | ⟨0, _⟩ => rfl
      | ⟨1, _⟩ => rfl
  refine congrArg (init + ·) ((Finset.sum_filter_eq_sum_of_fiber _ (fun k : Fin 1 => ix5 k b c 0 0)
    (fun _ _ _ => Subsingleton.elim _ _) fib v).trans (Fin.sum_univ_one _))

theorem hd_split (h : Fin 8) : hd ⟨h.val / 4, by omega⟩ ⟨h.val % 4, by omega⟩ = h := Fin.ext (show h.val / 4 * 4 + h.val % 4 = h.val by omega)

include hA in
/-- The biases' gradient. -/
theorem v181_at (h : Fin 8) : val_main_v181 (F := Ideal) x0 x1 x2 x3 x4 x5 x6 x7 (ix3 h i j) = ∑ n, (bk x0 x1 x2 x3 x4 x5 x6 x7 n).dl h i j := by
  pointwise [val_main_v181, val_main_v180, val_main_cst_36, val_main_v179, val_main_v178, val_main_cst_35, v177_at x0 x1 x2 x3 x4 x5 x6 x7 hA]
  rw [Fin.sum_univ_one, hd_split]

include hA in
/-- The sinks' gradient. -/
theorem v176_at (h : Fin 8) : val_main_v176 (F := Ideal) x0 x1 x2 x3 x4 x5 x6 x7 (ix2 u h) = ∑ n, (bk x0 x1 x2 x3 x4 x5 x6 x7 n).ds h := by
  have e154 : ∀ c g u, val_main_v154 (F := Ideal) x0 x1 x2 x3 x4 x5 x6 x7 (ix3 c g u) = ∑ n, (bk x0 x1 x2 x3 x4 x5 x6 x7 n).ds (hd c g) := fun c g u => by
    refine (reduce_outer _ _ _ c g u).trans ?_
    simp only [v153_at x0 x1 x2 x3 x4 x5 x6 x7 hA, val_main_cst_29]
    pointwise [Blk.ds]
  have e166 : ∀ c g u, val_main_v166 (F := Ideal) x0 x1 x2 x3 x4 x5 x6 x7 (ix3 c g u) = 0 := fun c g u => by
    refine (reduce_outer _ _ _ c g u).trans ?_
    simp only [v165_at x0 x1 x2 x3 x4 x5 x6 x7 hA, val_main_cst_32]
    pointwise []
    simp
  have e175 : ∀ c g, val_main_v175 (F := Ideal) x0 x1 x2 x3 x4 x5 x6 x7 (ix2 c g) = ∑ n, (bk x0 x1 x2 x3 x4 x5 x6 x7 n).ds (hd c g) := fun c g => by
    refine (reduce_ones _ _ _ c g).trans ?_
    simp only [val_main_cst_34]
    pointwise [val_main_v168, val_main_v167, val_main_v155, e154, e166]
    done
  pointwise [val_main_v176, e175]
  rw [hd_split]

include hA in
/-- The cotangent of the normed queries. -/
theorem v186_at : val_main_v186 (F := Ideal) x0 x1 x2 x3 x4 x5 x6 x7 (ix5 n i c g d) = (bk x0 x1 x2 x3 x4 x5 x6 x7 n).dqn (hd c g) i d := by
  pointwise [val_main_v186, val_main_v185, val_main_v184, val_main_v183, val_main_v182, val_main_cst_37, v177_at x0 x1 x2 x3 x4 x5 x6 x7 hA]
  rw [Blk.dqn, mul_comm, lit_c8, Cert.Common.mul_sum_of_nonneg _ _ (by norm_num), ← lit_c8]
  refine Finset.sum_congr rfl fun j _ => ?_
  rw [v44_at, Blk.kn, bk_k]
  by_cases hz : n.val = 0 ∧ j.val < 128
  · rw [Blk.dl_masked (hA n) _ _ _ (p_absent x0 x1 x2 x3 x4 x5 x6 x7 hA n c g i j hz), zero_mul, zero_mul, zero_mul, mul_zero]
  · rw [if_neg hz]
    show _ * c8 * _ = c8 * (_ * (_ * x4 (ix2 0 d)))
    ac_rfl

include hA in
/-- The cotangent of the normed keys of a band. -/
theorem v188_at : val_main_v188 (F := Ideal) x0 x1 x2 x3 x4 x5 x6 x7 (ix4 n j c d) = ∑ g, (bk x0 x1 x2 x3 x4 x5 x6 x7 n).dkn (hd c g) j d := by
  pointwise [val_main_v188, val_main_v187, val_main_v184, val_main_v183, val_main_v182, val_main_cst_37, v177_at x0 x1 x2 x3 x4 x5 x6 x7 hA, v37_at]
  rw [Finset.sum_comm]
  refine Finset.sum_congr rfl fun g _ => Finset.sum_congr rfl fun i _ => ?_
  rw [Blk.qn]
  show _ * c8 * _ = _ * (unit (fun d => x0 (ix2 (tok n i) (col (hd c g) d))) d * x3 (ix2 0 d) * c8)
  ac_rfl

include hA in
/-- The cotangent of the values of a band. -/
theorem v144_at : val_main_v144 (F := Ideal) x0 x1 x3 x4 x5 x6 x7 (ix4 n j c d) = ∑ g, (bk x0 x1 x2 x3 x4 x5 x6 x7 n).dv (hd c g) j d := by
  pointwise [val_main_v144, val_main_v143, v141_at x0 x1 x2 x3 x4 x5 x6 x7, val_main_v133, val_main_v132, v131_at x0 x1 x2 x3 x4 x5 x6 x7, v125_at x0 x1 x2 x3 x4 x5 x6 x7, Blk.dv]
  simp only [Blk.div_den (hA n).toSoft]

/-- What the bands of two blocks hold of a token. -/
def folded (f : Fin 32 → Fin 256 → EReal) (r : Fin 4096) : EReal :=
  f ⟨r.val / 128, by omega⟩ ⟨128 + r.val % 128, by omega⟩ + if h : r.val / 128 + 1 < 32 then f ⟨r.val / 128 + 1, h⟩ ⟨r.val % 128, by omega⟩ else 0

theorem folded_of (f : Fin 32 → Fin 256 → EReal) (r : Fin 4096) :
    ((if h : (1 ≤ (128 + r.val) / 128 ∧ (128 + r.val) / 128 - 1 < 32) ∧ (128 + r.val) % 128 < 128 then
        f ⟨(128 + r.val) / 128 - 1, h.1.2⟩ ⟨128 + (128 + r.val) % 128, by omega⟩ else 0)
      + if h : (128 + r.val) / 128 < 32 ∧ (128 + r.val) % 128 < 128 then f ⟨(128 + r.val) / 128, h.1⟩ ⟨(128 + r.val) % 128, by omega⟩ else 0) = folded f r := by
  have hr := r.isLt
  unfold folded
  refine congrArg₂ (· + ·) ?_ ?_
  · rw [dif_pos ⟨⟨by omega, by omega⟩, by omega⟩]
    exact congrArg₂ f (Fin.ext (show (128 + r.val) / 128 - 1 = r.val / 128 by omega)) (Fin.ext (show 128 + (128 + r.val) % 128 = 128 + r.val % 128 by omega))
  · by_cases h : r.val / 128 + 1 < 32
    · rw [dif_pos ⟨by omega, by omega⟩, dif_pos h]
      exact congrArg₂ f (Fin.ext (show (128 + r.val) / 128 = r.val / 128 + 1 by omega)) (Fin.ext (show (128 + r.val) % 128 = r.val % 128 by omega))
    · rw [dif_neg (by omega), dif_neg h]

theorem v196_at (r : Fin 4096) : val_main_v196 (F := Ideal) x0 x1 x3 x4 x5 x6 x7 (ix3 r c d) = folded (fun n j => val_main_v144 (F := Ideal) x0 x1 x3 x4 x5 x6 x7 (ix4 n j c d)) r := by
  pointwise [val_main_v196, val_main_v194, val_main_v193, val_main_v192, val_main_v191, val_main_v190, val_main_v189, val_main_cst_38, val_main_cst_39]
  exact folded_of (fun n j => val_main_v144 (F := Ideal) x0 x1 x3 x4 x5 x6 x7 (ix4 n j c d)) r

theorem v204_at (r : Fin 4096) : val_main_v204 (F := Ideal) x0 x1 x2 x3 x4 x5 x6 x7 (ix3 r c d) = folded (fun n j => val_main_v188 (F := Ideal) x0 x1 x2 x3 x4 x5 x6 x7 (ix4 n j c d)) r := by
  pointwise [val_main_v204, val_main_v202, val_main_v201, val_main_v200, val_main_v199, val_main_v198, val_main_v197, val_main_cst_40, val_main_cst_41]
  exact folded_of (fun n j => val_main_v188 (F := Ideal) x0 x1 x2 x3 x4 x5 x6 x7 (ix4 n j c d)) r

end Cert.SwaBwdRefIdeal.Val
end
-- ==== Proof.SwaBwd.Ref4.lean ====
/- What the plain backward pass computes, entry by entry, the seven results. -/
module

public import proofs.«01_k».proof.Proof.SwaBwd.Ref3

@[expose] public section

set_option maxRecDepth 16384

noncomputable section

open Idealize.ShloMosaic Idealize.ShloMosaic.TcCoe Idealize.SL.Sem

namespace Cert.SwaBwdRefIdeal.Val
open Cert.SwaBwdRefIdeal Cert.SwaBwdRefIdeal.Gen Cert.SwaBwdRefIdeal.Read
open Cert.SwaBwdIdeal.Val

variable (x0 : FVec Ideal S4096x512 .f32) (x1 x2 : FVec Ideal S4096x128 .f32) (x3 x4 : FVec Ideal S1x64 .f32) (x5 : FVec Ideal S1x8 .f32)
  (x6 : FVec Ideal S8x128x256 .f32) (x7 : FVec Ideal S4096x512 .f32)

variable (hA : ∀ n, (bk x0 x1 x2 x3 x4 x5 x6 x7 n).Reals) (n : Fin 32) (c : Fin 2) (g : Fin 4) (i : Fin 128) (j : Fin 256) (d : Fin 64) (u : Fin 1) (r : Fin 4096)
  (h : Fin 8)

/-- The block of a token, and its place there. -/
abbrev blkOf (r : Fin 4096) : Fin 32 := ⟨r.val / 128, by omega⟩
abbrev posOf (r : Fin 4096) : Fin 128 := ⟨r.val % 128, by omega⟩

include hA in
theorem v205_at : val_main_v205 (F := Ideal) x0 x1 x2 x3 x4 x5 x6 x7 (ix3 r h d) = (bk x0 x1 x2 x3 x4 x5 x6 x7 (blkOf r)).dqn h (posOf r) d := by
  pointwise [val_main_v205, v186_at x0 x1 x2 x3 x4 x5 x6 x7 hA]
  rw [hd_split]

/-- The keys' cotangent of a token. -/
def dkAt (r : Fin 4096) (c : Fin 2) (d : Fin 64) : EReal := folded (fun n j => ∑ g, (bk x0 x1 x2 x3 x4 x5 x6 x7 n).dkn (hd c g) j d) r

include hA in
theorem dkAt_eq : val_main_v204 (F := Ideal) x0 x1 x2 x3 x4 x5 x6 x7 (ix3 r c d) = dkAt x0 x1 x2 x3 x4 x5 x6 x7 r c d := by
  rw [v204_at]
  simp only [v188_at x0 x1 x2 x3 x4 x5 x6 x7 hA]
  rfl

include hA in
theorem v221_at : val_main_v221 (F := Ideal) x0 x1 x2 x3 x4 x5 x6 x7 (ix2 r c)
    = Cert.Common.normPull n64 (fun d => x1 (ix2 r (kc c d))) (fun d => dkAt x0 x1 x2 x3 x4 x5 x6 x7 r c d * x4 (ix2 0 d)) := by
  pointwise [val_main_v221, val_main_cst_46, val_main_v220, val_main_v219, val_main_cst_45, val_main_v218, val_main_v215, val_main_v214, val_main_cst_44, val_main_v213, val_main_v211, val_main_v210, val_main_v33, val_main_v1,
    dkAt_eq x0 x1 x2 x3 x4 x5 x6 x7 hA, val_main_v30, val_main_v29, val_main_cst_6, val_main_v28, val_main_v27, val_main_v19, v26_at, Cert.Common.normPull]
  exact Fin.sum_univ_one _

include hA in
/-- The keys' gradient. -/
theorem v226_at : val_main_v226 (F := Ideal) x0 x1 x2 x3 x4 x5 x6 x7 (ix3 r c d)
    = Cert.Common.normGrad n64 (fun d => x1 (ix2 r (kc c d))) (fun d => dkAt x0 x1 x2 x3 x4 x5 x6 x7 r c d * x4 (ix2 0 d)) d := by
  pointwise [val_main_v226, val_main_v225, val_main_v224, val_main_v223, val_main_v222, v221_at x0 x1 x2 x3 x4 x5 x6 x7 hA, val_main_v217, val_main_v216, val_main_v27, v26_at, val_main_v211, val_main_v210, val_main_v33, val_main_v1,
    dkAt_eq x0 x1 x2 x3 x4 x5 x6 x7 hA, val_main_v19, Cert.Common.normGrad]

include hA in
theorem v227_at (e : Fin 128) : val_main_v227 (F := Ideal) x0 x1 x2 x3 x4 x5 x6 x7 (ix2 r e)
    = Cert.Common.normGrad n64 (fun d => x1 (ix2 r (kc ⟨e.val / 64, by omega⟩ d))) (fun d => dkAt x0 x1 x2 x3 x4 x5 x6 x7 r ⟨e.val / 64, by omega⟩ d * x4 (ix2 0 d)) ⟨e.val % 64, by omega⟩ := by
  pointwise [val_main_v227, v226_at x0 x1 x2 x3 x4 x5 x6 x7 hA]

include hA in
/-- The values' gradient. -/
theorem v206_at (e : Fin 128) : val_main_v206 (F := Ideal) x0 x1 x3 x4 x5 x6 x7 (ix2 r e)
    = folded (fun n j => ∑ g, (bk x0 x1 x2 x3 x4 x5 x6 x7 n).dv (hd ⟨e.val / 64, by omega⟩ g) j ⟨e.val % 64, by omega⟩) r := by
  pointwise [val_main_v206, v196_at]
  simp only [v144_at x0 x1 x2 x3 x4 x5 x6 x7 hA]

include hA in
theorem v242_at : val_main_v242 (F := Ideal) x0 x1 x2 x3 x4 x5 x6 x7 (ix2 r h)
    = Cert.Common.normPull n64 (fun d => x0 (ix2 r (col h d))) (fun d => (bk x0 x1 x2 x3 x4 x5 x6 x7 (blkOf r)).dqn h (posOf r) d * x3 (ix2 0 d)) := by
  pointwise [val_main_v242, val_main_cst_51, val_main_v241, val_main_v240, val_main_cst_50, val_main_v239, val_main_v236, val_main_v235, val_main_cst_49, val_main_v234, val_main_v232, val_main_v231, val_main_v16, val_main_v0,
    v205_at x0 x1 x2 x3 x4 x5 x6 x7 hA, val_main_v13, val_main_v12, val_main_cst_2, val_main_v11, val_main_v10, val_main_v2, v9_at, Cert.Common.normPull]
  exact Fin.sum_univ_one _

include hA in
/-- The queries' gradient. -/
theorem v247_at : val_main_v247 (F := Ideal) x0 x1 x2 x3 x4 x5 x6 x7 (ix3 r h d)
    = Cert.Common.normGrad n64 (fun d => x0 (ix2 r (col h d))) (fun d => (bk x0 x1 x2 x3 x4 x5 x6 x7 (blkOf r)).dqn h (posOf r) d * x3 (ix2 0 d)) d := by
  pointwise [val_main_v247, val_main_v246, val_main_v245, val_main_v244, val_main_v243, v242_at x0 x1 x2 x3 x4 x5 x6 x7 hA, val_main_v238, val_main_v237, val_main_v10, v9_at, val_main_v232, val_main_v231, val_main_v16, val_main_v0,
    v205_at x0 x1 x2 x3 x4 x5 x6 x7 hA, val_main_v2, Cert.Common.normGrad]

include hA in
/-- The queries' gradient in its columns of the given array. -/
theorem v252_at (x8 : FVec Ideal S4096x4992 .bf16) (e : Fin 4992) : val_main_v252 (F := Ideal) x0 x1 x2 x3 x4 x5 x6 x7 x8 (ix2 r e)
    = if h : 4096 ≤ e.val ∧ e.val < 4608 then
        Cert.Common.normGrad n64 (fun d => x0 (ix2 r (col ⟨(e.val - 4096) / 64, by omega⟩ d)))
          (fun d => (bk x0 x1 x2 x3 x4 x5 x6 x7 (blkOf r)).dqn ⟨(e.val - 4096) / 64, by omega⟩ (posOf r) d * x3 (ix2 0 d)) ⟨(e.val - 4096) % 64, by omega⟩
      else x8 (ix2 r e) := by
  pointwise [val_main_v252, val_main_v251, val_main_v250, val_main_v249, val_main_v248, v247_at x0 x1 x2 x3 x4 x5 x6 x7 hA]
  by_cases a : e.val < 4096
  · rw [dif_pos a, dif_neg (by omega)]
  · rw [dif_neg a]
    by_cases b : e.val < 4608
    · rw [dif_pos (by omega), dif_pos ⟨by omega, b⟩]
    · rw [dif_neg (by omega), dif_neg (by omega)]
      exact congrArg (fun q => x8 (ix2 r q)) (Fin.ext (show 4608 + (e.val - 4096 - 512) = e.val by omega))

include hA in
/-- The gains' gradients. -/
theorem v253_at : val_main_v253 (F := Ideal) x0 x1 x2 x3 x4 x5 x6 x7 (ix2 u d) = ∑ r, ∑ h, unit (fun d => x0 (ix2 r (col h d))) d * (bk x0 x1 x2 x3 x4 x5 x6 x7 (blkOf r)).dqn h (posOf r) d := by
  have e229 : val_main_v229 (F := Ideal) x0 x1 x2 x3 x4 x5 x6 x7 (ix1 d) = ∑ r, ∑ h, unit (fun d => x0 (ix2 r (col h d))) d * (bk x0 x1 x2 x3 x4 x5 x6 x7 (blkOf r)).dqn h (posOf r) d := by
    refine (Cert.Common.reduce_front _ _ _ d).trans ?_
    simp only [val_main_cst_47]
    pointwise [val_main_v228, v15_at, v205_at x0 x1 x2 x3 x4 x5 x6 x7 hA]
  have e233 : val_main_v233 (F := Ideal) x0 x1 x2 x3 x4 x5 x6 x7 (ix1 d) = val_main_v229 (F := Ideal) x0 x1 x2 x3 x4 x5 x6 x7 (ix1 d) := by
    refine (Cert.Common.reduce_front _ _ _ d).trans ?_
    simp only [Fin.sum_univ_one, val_main_cst_48]
    pointwise [val_main_v230]
  pointwise [val_main_v253, e233, e229]

include hA in
theorem v254_at : val_main_v254 (F := Ideal) x0 x1 x2 x3 x4 x5 x6 x7 (ix2 u d) = ∑ r, ∑ c, unit (fun d => x1 (ix2 r (kc c d))) d * dkAt x0 x1 x2 x3 x4 x5 x6 x7 r c d := by
  have e208 : val_main_v208 (F := Ideal) x0 x1 x2 x3 x4 x5 x6 x7 (ix1 d) = ∑ r, ∑ c, unit (fun d => x1 (ix2 r (kc c d))) d * dkAt x0 x1 x2 x3 x4 x5 x6 x7 r c d := by
    refine (Cert.Common.reduce_front _ _ _ d).trans ?_
    simp only [val_main_cst_42]
    pointwise [val_main_v207, v32_at, dkAt_eq x0 x1 x2 x3 x4 x5 x6 x7 hA]
  have e212 : val_main_v212 (F := Ideal) x0 x1 x2 x3 x4 x5 x6 x7 (ix1 d) = val_main_v208 (F := Ideal) x0 x1 x2 x3 x4 x5 x6 x7 (ix1 d) := by
    refine (Cert.Common.reduce_front _ _ _ d).trans ?_
    simp only [Fin.sum_univ_one, val_main_cst_43]
    pointwise [val_main_v209]
  pointwise [val_main_v254, e212, e208]

end Cert.SwaBwdRefIdeal.Val
end
-- ==== Proof.SwaBwd.Body.lean ====
/- What the attention's backward kernel computes of a block, from the blocks that it is given. -/
module

public import proofs.«01_k».proof.Proof.Gen.SwaBwdIdeal.Frame
public import proofs.«01_k».proof.Proof.SwaBwd.Row
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SwaBwdIdeal.Val

open Cert.SwaBwdIdeal Cert.SwaBwdIdeal.Gen
open Cert.Common (meanSq normGrad)

/-- The blocks that a point is given: queries, keys of the block before and of the block, values likewise, the two gains,
    the sinks, the band of biases, the cotangent. -/
structure Ins where
  b0 : Vec Ideal S128x512 .f32
  b1 : Vec Ideal S128x128 .f32
  b2 : Vec Ideal S128x128 .f32
  b3 : Vec Ideal S128x128 .f32
  b4 : Vec Ideal S128x128 .f32
  b5 : Vec Ideal S1x64 .f32
  b6 : Vec Ideal S1x64 .f32
  b7 : Vec Ideal S1x8 .f32
  b8 : Vec Ideal S1x8x128x256 .f32
  b9 : Vec Ideal S128x512 .f32

variable (X : Ins)

/-- The eight heads of a block, stacked. -/
def heads (b : Vec Ideal S128x512 .f32) : FVec Ideal S8x128x64 .f32 :=
  k0_pay10 (View.ld b (Rect.unit ![0, 0] ![128, 64] inb_S128x512_S128x64_0_0)) (View.ld b (Rect.unit ![0, 64] ![128, 64] inb_S128x512_S128x64_0_64))
    (View.ld b (Rect.unit ![0, 128] ![128, 64] inb_S128x512_S128x64_0_128)) (View.ld b (Rect.unit ![0, 192] ![128, 64] inb_S128x512_S128x64_0_192))
    (View.ld b (Rect.unit ![0, 256] ![128, 64] inb_S128x512_S128x64_0_256)) (View.ld b (Rect.unit ![0, 320] ![128, 64] inb_S128x512_S128x64_0_320))
    (View.ld b (Rect.unit ![0, 384] ![128, 64] inb_S128x512_S128x64_0_384)) (View.ld b (Rect.unit ![0, 448] ![128, 64] inb_S128x512_S128x64_0_448))

/-- The block before and the block itself, one below the other, of the first and of the second head of keys or values. -/
def band0 (a b : Vec Ideal S128x128 .f32) : FVec Ideal S256x64 .f32 :=
  k0_pay11 (View.ld a (Rect.unit ![0, 0] ![128, 64] inb_S128x128_S128x64_0_0)) (View.ld b (Rect.unit ![0, 0] ![128, 64] inb_S128x128_S128x64_0_0))
def band1 (a b : Vec Ideal S128x128 .f32) : FVec Ideal S256x64 .f32 :=
  k0_pay13 (View.ld a (Rect.unit ![0, 64] ![128, 64] inb_S128x128_S128x64_0_64)) (View.ld b (Rect.unit ![0, 64] ![128, 64] inb_S128x128_S128x64_0_64))

/-- The sinks, stacked. -/
def sinks (b : Vec Ideal S1x8 .f32) : FVec Ideal S8x1x1 .f32 :=
  k0_pay17 (View.ld b (Rect.unit ![0, 2] ![1, 1] inb_S1x8_S1x1_0_2)) (View.ld b (Rect.unit ![0, 3] ![1, 1] inb_S1x8_S1x1_0_3))
    (View.ld b (Rect.unit ![0, 4] ![1, 1] inb_S1x8_S1x1_0_4)) (View.ld b (Rect.unit ![0, 5] ![1, 1] inb_S1x8_S1x1_0_5))
    (View.ld b (Rect.unit ![0, 6] ![1, 1] inb_S1x8_S1x1_0_6)) (View.ld b (Rect.unit ![0, 7] ![1, 1] inb_S1x8_S1x1_0_7))
    (k0_pay15 (View.ld b (Rect.unit ![0, 0] ![1, 1] inb_S1x8_S1x1_0_0))) (k0_pay16 (View.ld b (Rect.unit ![0, 1] ![1, 1] inb_S1x8_S1x1_0_1)))

theorem heads_at (b : Vec Ideal S128x512 .f32) (h : Fin 8) (i : Fin 128) (d : Fin 64) :
    heads b (ix3 h i d) = b (ix2 i ⟨h.val * 64 + d.val, by omega⟩) := by
  fin_cases h <;> pointwise [heads, k0_pay10]

theorem band0_at (a b : Vec Ideal S128x128 .f32) (j : Fin 256) (d : Fin 64) :
    band0 a b (ix2 j d) = if hj : j.val < 128 then a (ix2 ⟨j.val, hj⟩ ⟨d.val, by omega⟩) else b (ix2 ⟨j.val - 128, by omega⟩ ⟨d.val, by omega⟩) := by
  pointwise [band0, k0_pay11]

theorem band1_at (a b : Vec Ideal S128x128 .f32) (j : Fin 256) (d : Fin 64) :
    band1 a b (ix2 j d) = if hj : j.val < 128 then a (ix2 ⟨j.val, hj⟩ ⟨64 + d.val, by omega⟩) else b (ix2 ⟨j.val - 128, by omega⟩ ⟨64 + d.val, by omega⟩) := by
  pointwise [band1, k0_pay13]

theorem sinks_at (b : Vec Ideal S1x8 .f32) (h : Fin 8) : sinks b (ix3 h 0 0) = b (ix2 0 h) := by
  fin_cases h <;> pointwise [sinks, k0_pay17, k0_pay15, k0_pay16]

/-- The block of queries as functions of its rows. -/
def blk : Blk where
  q h i d := X.b0 (ix2 i ⟨h.val * 64 + d.val, by omega⟩)
  k h j d := if hj : j.val < 128 then X.b1 (ix2 ⟨j.val, hj⟩ ⟨h.val / 4 * 64 + d.val, by omega⟩) else X.b2 (ix2 ⟨j.val - 128, by omega⟩ ⟨h.val / 4 * 64 + d.val, by omega⟩)
  v h j d := if hj : j.val < 128 then X.b3 (ix2 ⟨j.val, hj⟩ ⟨h.val / 4 * 64 + d.val, by omega⟩) else X.b4 (ix2 ⟨j.val - 128, by omega⟩ ⟨h.val / 4 * 64 + d.val, by omega⟩)
  qg d := X.b5 (ix2 0 d)
  kg d := X.b6 (ix2 0 d)
  s h := X.b7 (ix2 0 h)
  b h i j := X.b8 (ix4 0 h i j)
  y h i d := X.b9 (ix2 i ⟨h.val * 64 + d.val, by omega⟩)

/-- The stacked arrays that the body's later steps are computed from. -/
def keys : FVec Ideal S8x256x64 .f32 := k0_pay18 (band0 X.b1 X.b2) (band1 X.b1 X.b2)
def vals : FVec Ideal S8x256x64 .f32 := k0_pay19 (band0 X.b3 X.b4) (band1 X.b3 X.b4)
def normK : FVec Ideal S8x256x64 .f32 := k0_pay26 (band0 X.b1 X.b2) (band1 X.b1 X.b2) X.b6
def sq : FVec Ideal S8x128 .f32 := k0_pay27 (heads X.b0)
def weights : FVec Ideal S8x128x256 .f32 := k0_pay37 (heads X.b0) (sinks X.b7) X.b5 (k0_pay20 X.b8) (normK X) (sq X)
def sinkW : FVec Ideal S8x128x1 .f32 := k0_pay38 (heads X.b0) (sinks X.b7) X.b5 (k0_pay20 X.b8) (normK X) (sq X)
def recip : FVec Ideal S8x128x1 .f32 := k0_pay40 (heads X.b0) (sinks X.b7) X.b5 (k0_pay20 X.b8) (normK X) (sq X)
def recip2 : FVec Ideal S8x128x1 .f32 := k0_pay41 (heads X.b0) (sinks X.b7) X.b5 (k0_pay20 X.b8) (normK X) (sq X)
def probs : FVec Ideal S8x128x256 .bf16 := k0_pay42 (heads X.b0) (sinks X.b7) X.b5 (k0_pay20 X.b8) (normK X) (sq X)

theorem cts_at (b : Vec Ideal S128x512 .f32) (h : Fin 8) (i : Fin 128) (d : Fin 64) :
    k0_pay44 (View.ld b (Rect.unit ![0, 0] ![128, 64] inb_S128x512_S128x64_0_0)) (View.ld b (Rect.unit ![0, 64] ![128, 64] inb_S128x512_S128x64_0_64))
    (View.ld b (Rect.unit ![0, 128] ![128, 64] inb_S128x512_S128x64_0_128)) (View.ld b (Rect.unit ![0, 192] ![128, 64] inb_S128x512_S128x64_0_192))
    (View.ld b (Rect.unit ![0, 256] ![128, 64] inb_S128x512_S128x64_0_256)) (View.ld b (Rect.unit ![0, 320] ![128, 64] inb_S128x512_S128x64_0_320))
    (View.ld b (Rect.unit ![0, 384] ![128, 64] inb_S128x512_S128x64_0_384)) (View.ld b (Rect.unit ![0, 448] ![128, 64] inb_S128x512_S128x64_0_448)) (ix3 h i d) = b (ix2 i ⟨h.val * 64 + d.val, by omega⟩) := by
  fin_cases h <;> pointwise [k0_pay44]

theorem heads_blk (h : Fin 8) (i : Fin 128) (d : Fin 64) : heads X.b0 (ix3 h i d) = (blk X).q h i d := heads_at _ _ _ _

theorem keys_at (h : Fin 8) (j : Fin 256) (d : Fin 64) : keys X (ix3 h j d) = (blk X).k h j d := by
  fin_cases h <;> (pointwise [keys, k0_pay18]; first | refine (band0_at _ _ _ _).trans ?_ | refine (band1_at _ _ _ _).trans ?_) <;>
    (simp only [blk]; congr! 6 <;> simp)

theorem vals_at (h : Fin 8) (j : Fin 256) (d : Fin 64) : vals X (ix3 h j d) = (blk X).v h j d := by
  fin_cases h <;> (pointwise [vals, k0_pay19]; first | refine (band0_at _ _ _ _).trans ?_ | refine (band1_at _ _ _ _).trans ?_) <;>
    (simp only [blk]; congr! 6 <;> simp)

theorem normK_at (h : Fin 8) (j : Fin 256) (d : Fin 64) : normK X (ix3 h j d) = (blk X).kn h j d := by
  have e := fun j d => keys_at X h j d
  unfold keys at e
  pointwise [normK, k0_pay26, k0_pay25, k0_pay24, k0_pay22, k0_pay21, e, Blk.kn, unit, meanSq]
  rfl

theorem qn_at (h : Fin 8) (i : Fin 128) (d : Fin 64) : k0_pay33 (heads X.b0) X.b5 (sq X) (ix3 h i d) = (blk X).qn h i d := by
  pointwise [k0_pay33, k0_pay32, k0_pay31, k0_pay29, k0_pay28, sq, k0_pay27, heads_blk X, Blk.qn, unit, meanSq]
  rfl

theorem logit_at (h : Fin 8) (i : Fin 128) (j : Fin 256) :
    k0_pay35 (heads X.b0) X.b5 (k0_pay20 X.b8) (normK X) (sq X) (ix3 h i j) = (blk X).logit h i j := by
  have e := fun d => qn_at X h i d
  have e' := fun d => normK_at X h j d
  pointwise [k0_pay35, k0_pay34, k0_pay20, e, e', Blk.logit]
  rfl

theorem top_at (h : Fin 8) (i : Fin 128) :
    k0_pay36 (heads X.b0) (sinks X.b7) X.b5 (k0_pay20 X.b8) (normK X) (sq X) (ix3 h i 0) = (blk X).top h i := by
  have e := fun j => logit_at X h i j
  pointwise [k0_pay36, e, sinks_at, Blk.top]
  rw [lit_neg_inf]
  rfl

theorem weights_at (h : Fin 8) (i : Fin 128) (j : Fin 256) : weights X (ix3 h i j) = (blk X).p h i j := by
  have e := logit_at X h i j
  have e' := top_at X h i
  pointwise [weights, k0_pay37, e, e', Blk.p]

theorem sinkW_at (h : Fin 8) (i : Fin 128) : sinkW X (ix3 h i 0) = (blk X).es h i := by
  have e' := top_at X h i
  pointwise [sinkW, k0_pay38, e', sinks_at, Blk.es]
  rfl

theorem den_at (h : Fin 8) (i : Fin 128) :
    k0_pay39 (heads X.b0) (sinks X.b7) X.b5 (k0_pay20 X.b8) (normK X) (sq X) (ix3 h i 0) = (blk X).den h i := by
  have e := fun j => weights_at X h i j
  have e' := sinkW_at X h i
  unfold weights at e; unfold sinkW at e'
  pointwise [k0_pay39, e, e', Blk.den]

theorem recip_at (h : Fin 8) (i : Fin 128) : recip X (ix3 h i 0) = (blk X).inv h i := by
  have e := den_at X h i
  pointwise [recip, k0_pay40, e, Blk.inv]

theorem recip2_at (h : Fin 8) (i : Fin 128) : recip2 X (ix3 h i 0) = (blk X).inv2 h i := by
  have e := den_at X h i
  pointwise [recip2, k0_pay41, e, Blk.inv2]

theorem probs_at (h : Fin 8) (i : Fin 128) (j : Fin 256) : probs X (ix3 h i j) = (blk X).p h i j * (blk X).inv h i := by
  have e := weights_at X h i j
  have e' := recip_at X h i
  unfold weights at e; unfold recip at e'
  pointwise [probs, k0_pay42, e, e']

/-- A function of a block's eight heads. -/
abbrev onHeads {α : Type} (f : Vec Ideal S128x64 .f32 → Vec Ideal S128x64 .f32 → Vec Ideal S128x64 .f32 → Vec Ideal S128x64 .f32
    → Vec Ideal S128x64 .f32 → Vec Ideal S128x64 .f32 → Vec Ideal S128x64 .f32 → Vec Ideal S128x64 .f32 → α) (b : Vec Ideal S128x512 .f32) : α :=
  f (View.ld b (Rect.unit ![0, 0] ![128, 64] inb_S128x512_S128x64_0_0)) (View.ld b (Rect.unit ![0, 64] ![128, 64] inb_S128x512_S128x64_0_64))
    (View.ld b (Rect.unit ![0, 128] ![128, 64] inb_S128x512_S128x64_0_128)) (View.ld b (Rect.unit ![0, 192] ![128, 64] inb_S128x512_S128x64_0_192))
    (View.ld b (Rect.unit ![0, 256] ![128, 64] inb_S128x512_S128x64_0_256)) (View.ld b (Rect.unit ![0, 320] ![128, 64] inb_S128x512_S128x64_0_320))
    (View.ld b (Rect.unit ![0, 384] ![128, 64] inb_S128x512_S128x64_0_384)) (View.ld b (Rect.unit ![0, 448] ![128, 64] inb_S128x512_S128x64_0_448))

/-- The stacked gradients: of the values by head, of the weights, of the denominator, of the sinks, of the logits, of the normed keys,
    of the queries, of the two gains, of the keys by head, and the last two summed over the heads that share a key. -/
def valG : FVec Ideal S8x256x64 .f32 := onHeads (k0_pay45 (probs X)) X.b9
def weightG : FVec Ideal S8x128x256 .f32 := onHeads (k0_pay46 (k0_pay43 (vals X))) X.b9
def denG : FVec Ideal S8x128x1 .f32 := onHeads (k0_pay47 (weights X) (recip2 X) (k0_pay43 (vals X))) X.b9
def sinkG : FVec Ideal S8x1x1 .f32 := onHeads (k0_pay48 (weights X) (sinkW X) (recip2 X) (k0_pay43 (vals X))) X.b9
def logitG : FVec Ideal S8x128x256 .f32 := onHeads (k0_pay49 (weights X) (recip X) (recip2 X) (k0_pay43 (vals X))) X.b9
def keyG : FVec Ideal S8x256x64 .bf16 := onHeads (k0_pay50 (k0_pay33 (heads X.b0) X.b5 (sq X)) (weights X) (recip X) (recip2 X) (k0_pay43 (vals X))) X.b9
def queryG : FVec Ideal S8x128x64 .f32 := k0_pay54 (heads X.b0) (k0_pay29 (sq X)) (k0_pay30 (sq X)) (k0_pay32 X.b5) (k0_pay34 (normK X)) (logitG X)
def gainQ : FVec Ideal S1x64 .f32 := k0_pay53 (k0_pay31 (heads X.b0) (sq X)) (k0_pay34 (normK X)) (logitG X)
def gainK : FVec Ideal S1x64 .f32 := k0_pay56 (k0_pay24 (band0 X.b1 X.b2) (band1 X.b1 X.b2)) (keyG X)
def fullK : FVec Ideal S8x256x64 .f32 :=
  k0_pay59 (keys X) (k0_pay57 (keys X) (k0_pay23 (band0 X.b1 X.b2) (band1 X.b1 X.b2)) (k0_pay25 X.b6) (keyG X))
    (k0_pay58 (keys X) (k0_pay22 (band0 X.b1 X.b2) (band1 X.b1 X.b2)) (k0_pay23 (band0 X.b1 X.b2) (band1 X.b1 X.b2)) (k0_pay25 X.b6) (keyG X))
def sumK : FVec Ideal S256x128 .f32 := k0_pay80 (fullK X) (k0_pay79 (fullK X))
def sumV : FVec Ideal S256x128 .f32 := k0_pay81 (valG X)

theorem valG_at (h : Fin 8) (j : Fin 256) (d : Fin 64) : valG X (ix3 h j d) = (blk X).dv h j d := by
  have e := fun i => cts_at X.b9 h i d
  have e' := fun i => probs_at X h i j
  pointwise [valG, onHeads, k0_pay45, e, e', Blk.dv]
  rfl

theorem weightG_at (h : Fin 8) (i : Fin 128) (j : Fin 256) : weightG X (ix3 h i j) = (blk X).dP h i j := by
  have e := fun d => cts_at X.b9 h i d
  have e' := fun d => vals_at X h j d
  pointwise [weightG, onHeads, k0_pay46, k0_pay43, e, e', Blk.dP]
  rfl

theorem denG_at (h : Fin 8) (i : Fin 128) : denG X (ix3 h i 0) = (blk X).dd h i := by
  have e := fun j => weightG_at X h i j
  have e1 := fun j => weights_at X h i j
  have e2 := recip2_at X h i
  unfold weightG onHeads at e
  pointwise [denG, onHeads, k0_pay47, e, e1, e2, Blk.dd]

theorem sinkG_at (h : Fin 8) : sinkG X (ix3 h 0 0) = (blk X).ds h := by
  have e := fun i => denG_at X h i
  have e1 := fun i => sinkW_at X h i
  unfold denG onHeads at e
  pointwise [sinkG, onHeads, k0_pay48, Blk.ds]
  refine Finset.sum_congr rfl fun i _ => ?_
  rw [Fin.sum_univ_one, ← e, ← e1]

theorem logitG_at (h : Fin 8) (i : Fin 128) (j : Fin 256) : logitG X (ix3 h i j) = (blk X).dl h i j := by
  have e := weightG_at X h i j
  have e1 := weights_at X h i j
  have e2 := recip_at X h i
  have e3 := denG_at X h i
  unfold weightG onHeads at e
  unfold denG onHeads at e3
  pointwise [logitG, onHeads, k0_pay49, e, e1, e2, Blk.dl]
  rw [Fin.sum_univ_one, ← e3]

theorem keyG_at (h : Fin 8) (j : Fin 256) (d : Fin 64) : keyG X (ix3 h j d) = (blk X).dkn h j d := by
  have e := fun i => logitG_at X h i j
  have e1 := fun i => qn_at X h i d
  unfold logitG onHeads at e
  pointwise [keyG, onHeads, k0_pay50, e, e1, Blk.dkn]

theorem dqn_at (h : Fin 8) (i : Fin 128) (d : Fin 64) : k0_pay52 (k0_pay34 (normK X)) (logitG X) (ix3 h i d) = (blk X).dqn h i d := by
  have e := fun j => logitG_at X h i j
  have e1 := fun j => normK_at X h j d
  pointwise [k0_pay52, k0_pay34, e, e1, Blk.dqn]

theorem queryG_at (h : Fin 8) (i : Fin 128) (d : Fin 64) : queryG X (ix3 h i d) = (blk X).dq h i d := by
  have e := fun d => dqn_at X h i d
  have e1 := fun d => heads_blk X h i d
  pointwise [queryG, k0_pay54, e, e1, k0_pay32, k0_pay30, k0_pay29, k0_pay28, sq, k0_pay27, Blk.dq, Cert.Common.normGrad, Cert.Common.normPull, meanSq]
  first | rfl | (simp only [Fin.sum_univ_one]; rfl)

theorem fullK_at (h : Fin 8) (j : Fin 256) (d : Fin 64) : fullK X (ix3 h j d) = (blk X).dk h j d := by
  have e := fun d => keyG_at X h j d
  have e1 := fun d => keys_at X h j d
  unfold keys at e1
  pointwise [fullK, k0_pay59, k0_pay58, k0_pay57, k0_pay55, k0_pay51, k0_pay25, k0_pay23, k0_pay22, k0_pay21, keys, e, e1, Blk.dk, Cert.Common.normGrad, Cert.Common.normPull, meanSq]
  first | rfl | (simp only [Fin.sum_univ_one]; rfl)

theorem gainQ_at (d : Fin 64) : gainQ X (ix2 0 d) = (blk X).dqg d := by
  have e := fun h i => dqn_at X h i d
  have e1 := fun h i d => heads_blk X h i d
  pointwise [gainQ, k0_pay53]
  refine (reduce_front _ _ _).trans ?_
  simp only [Fin.sum_univ_one]
  pointwise []
  refine (reduce_front _ _ _).trans ?_
  pointwise [e, e1, k0_pay31, k0_pay29, k0_pay28, sq, k0_pay27, Blk.dqg, unit, meanSq]

theorem gainK_at (d : Fin 64) : gainK X (ix2 0 d) = (blk X).dkg d := by
  have e := fun h j => keyG_at X h j d
  have e1 := fun h j d => keys_at X h j d
  unfold keys at e1
  pointwise [gainK, k0_pay56]
  refine (reduce_front _ _ _).trans ?_
  simp only [Fin.sum_univ_one]
  pointwise []
  refine (reduce_front _ _ _).trans ?_
  pointwise [k0_pay51, k0_pay24, k0_pay22, k0_pay21, e, e1, Blk.dkg, unit, meanSq]

/-- Four heads' parts side by side with four others', read at a column. -/
theorem two_groups (f : Fin 8 → Fin 64 → EReal) (e : Fin 128) :
    (if h : e.val < 64 then f 0 ⟨e.val, h⟩ + f 1 ⟨e.val, h⟩ + f 2 ⟨e.val, h⟩ + f 3 ⟨e.val, h⟩
      else f 4 ⟨e.val - 64, by omega⟩ + f 5 ⟨e.val - 64, by omega⟩ + f 6 ⟨e.val - 64, by omega⟩ + f 7 ⟨e.val - 64, by omega⟩)
    = ∑ g : Fin 4, f ⟨e.val / 64 * 4 + g.val, by omega⟩ ⟨e.val % 64, by omega⟩ := by
  have same : ∀ (a : Fin 8) (x : Fin 64) (g : Fin 4), a.val = e.val / 64 * 4 + g.val → x.val = e.val % 64 →
      f a x = f ⟨e.val / 64 * 4 + g.val, by omega⟩ ⟨e.val % 64, by omega⟩ := fun a x g h1 h2 => congrArg₂ f (Fin.ext h1) (Fin.ext h2)
  rw [Fin.sum_univ_four]
  split_ifs with h
  · refine congrArg₂ (· + ·) (congrArg₂ (· + ·) (congrArg₂ (· + ·) (same _ _ _ ?_ ?_) (same _ _ _ ?_ ?_)) (same _ _ _ ?_ ?_)) (same _ _ _ ?_ ?_) <;> simp <;> omega
  · refine congrArg₂ (· + ·) (congrArg₂ (· + ·) (congrArg₂ (· + ·) (same _ _ _ ?_ ?_) (same _ _ _ ?_ ?_)) (same _ _ _ ?_ ?_)) (same _ _ _ ?_ ?_) <;> simp <;> omega

theorem sumK_at (j : Fin 256) (e : Fin 128) :
    sumK X (ix2 j e) = ∑ g : Fin 4, (blk X).dk ⟨e.val / 64 * 4 + g.val, by omega⟩ j ⟨e.val % 64, by omega⟩ := by
  pointwise [sumK, k0_pay80, k0_pay79, fullK_at X]
  exact two_groups (fun h d => (blk X).dk h j d) e

theorem sumV_at (j : Fin 256) (e : Fin 128) :
    sumV X (ix2 j e) = ∑ g : Fin 4, (blk X).dv ⟨e.val / 64 * 4 + g.val, by omega⟩ j ⟨e.val % 64, by omega⟩ := by
  pointwise [sumV, k0_pay81, valG_at X]
  exact two_groups (fun h d => (blk X).dv h j d) e

end Cert.SwaBwdIdeal.Val
end
-- ==== Proof.SwaBwd.Entry.lean ====
/- The arrays that the attention's backward kernel is started on, and its blocks, from the arguments. -/
module

public import proofs.«01_k».proof.Proof.SwaBwd.Body
public import proofs.«01_k».proof.Proof.SwaBwd.Band

@[expose] public section

set_option maxRecDepth 16384

noncomputable section

open Idealize.ShloMosaic Idealize.ShloMosaic.TcCoe Idealize.SL.Sem
open Idealize.ShloMosaic.Pipeline (Dat)

namespace Cert.SwaBwdIdeal.Val

open Cert.SwaBwdIdeal Cert.SwaBwdIdeal.Gen

variable (m : (ℓ : Loc nD τ sig) → Buf (Elt Ideal) ℓ)

/-- The block of every window at every grid point. -/
theorem idx : ∀ t : Fin cfg0.N, win0_0.index t = ![t.val, 8]
    ∧ win0_1.index t = ![t.val - 1, 36]
    ∧ win0_2.index t = ![t.val, 36]
    ∧ win0_3.index t = ![t.val - 1, 37]
    ∧ win0_4.index t = ![t.val, 37]
    ∧ win0_5.index t = ![0, 0]
    ∧ win0_6.index t = ![0, 0]
    ∧ win0_7.index t = ![0, 0]
    ∧ win0_8.index t = ![1 - t.val, 0, 0, 0]
    ∧ win0_9.index t = ![t.val, 0]
    ∧ win0_10.index t = ![t.val, 8]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0, 0] :=
  (by decide +kernel : ∀ t : Fin grid0.N, _)

theorem offs : ∀ t : Fin cfg0.N, k0_off1 (grid0.coords t) = ![128 * t.val, 0] ∧ k0_off2 (grid0.coords t) = ![128 * (t.val - 1), 0] :=
  (by decide +kernel : ∀ t : Fin grid0.N, _)

/-- Queries, keys and values stand side by side in the projections, behind 4096 columns. -/
theorem V1q (c : Dev nD) (r : Fin 4096) (j : Fin 512) (h : 4096 + j.val < 4992) :
    V m c main_v1 (ix2 r ⟨4096 + j.val, h⟩) = m ((c : Thread nD τ).loc main_arg0) (ix2 r j) := by
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  exact dif_pos (by omega)

theorem V1k (c : Dev nD) (r : Fin 4096) (j : Fin 128) (h : 4608 + j.val < 4992) :
    V m c main_v1 (ix2 r ⟨4608 + j.val, h⟩) = m ((c : Thread nD τ).loc main_arg1) (ix2 r j) := by
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  refine (dif_pos ⟨by omega, by omega⟩).trans ((dif_neg (by omega)).trans ((dif_pos (by omega)).trans (congrArg (fun k : Fin 128 => m ((c : Thread nD τ).loc main_arg1) (ix2 r k)) (Fin.ext ?_))))
  show 4608 + j.val - 4096 - 512 = j.val; omega

theorem V1v (c : Dev nD) (r : Fin 4096) (j : Fin 128) (h : 4736 + j.val < 4992) :
    V m c main_v1 (ix2 r ⟨4736 + j.val, h⟩) = m ((c : Thread nD τ).loc main_arg2) (ix2 r j) := by
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  refine (dif_pos ⟨by omega, by omega⟩).trans ((dif_neg (by omega)).trans ((dif_neg (by omega)).trans (congrArg (fun k : Fin 128 => m ((c : Thread nD τ).loc main_arg2) (ix2 r k)) (Fin.ext ?_))))
  show 4736 + j.val - 4096 - 512 - 128 = j.val; omega

/-- The biases of the later blocks and of the first, minus infinity at the keys that a query does not see. -/
theorem V36a (c : Dev nD) (n : Fin 32) (hn : n.val ≠ 0) (h : Fin 8) (i : Fin 128) (j : Fin 256) : V m c main_v36 (ix4 0 h i j)
    = Scalar.select (seen n i j) (m ((c : Thread nD τ).loc main_arg6) (ix3 h i j) : EReal) (Ideal.ofBits .f32 4286578688#32) := by
  rw [← seen_later n hn]
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  rfl

theorem V36b (c : Dev nD) (n : Fin 32) (hn : n.val = 0) (h : Fin 8) (i : Fin 128) (j : Fin 256) : V m c main_v36 (ix4 1 h i j)
    = Scalar.select (seen n i j) (m ((c : Thread nD τ).loc main_arg6) (ix3 h i j) : EReal) (Ideal.ofBits .f32 4286578688#32) := by
  rw [← seen_first n hn]
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  rfl

/-- The blocks of a point. -/
abbrev ins (c : Dev nD) (t : Fin cfg0.N) : Ins :=
  ⟨X0_0 m c t, iblk m c 1 t, iblk m c 2 t, iblk m c 3 t, iblk m c 4 t, iblk m c 5 t, iblk m c 6 t, iblk m c 7 t, iblk m c 8 t, iblk m c 9 t⟩

/-- The arguments that the kernel is called on. -/
abbrev args (c : Dev nD) : Arg :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7)⟩

theorem in0 (c : Dev nD) (t : Fin cfg0.N) (n : Fin 32) (hn : n.val = t.val) (i : Fin 128) (d : Fin 512) :
    X0_0 m c t (ix2 i d) = (args m c).q (ix2 (tok n i) d) := by
  unfold X0_0 Pipeline.Window.fill
  rw [dif_pos (moved0_0 t _)]
  refine Eq.trans (congrArg (V m c main_v1) (?_ : ((cfg0.win 0).blk t).view.emb _ = ix2 (tok n i) (⟨4096 + d.val, by omega⟩ : Fin 4992))) (V1q m c _ _ _)
  funext q; fin_cases q <;> refine Fin.ext ?_ <;> blk_simp [idx t] <;> show _ = _ <;> simp <;> omega

theorem in1 (c : Dev nD) (t : Fin cfg0.N) (r : Fin 4096) (i : Fin 128) (hr : r.val = 128 * (t.val - 1) + i.val) (d : Fin 128) :
    iblk m c 1 t (ix2 i d) = (args m c).k (ix2 r d) := by
  refine Eq.trans (congrArg (V m c main_v1) (?_ : ((cfg0.win 1).blk t).view.emb _ = ix2 r (⟨4608 + d.val, by omega⟩ : Fin 4992))) (V1k m c _ _ _)
  funext q; fin_cases q <;> refine Fin.ext ?_ <;> blk_simp [idx t] <;> show _ = _ <;> simp <;> omega

theorem in2 (c : Dev nD) (t : Fin cfg0.N) (r : Fin 4096) (i : Fin 128) (hr : r.val = 128 * t.val + i.val) (d : Fin 128) :
    iblk m c 2 t (ix2 i d) = (args m c).k (ix2 r d) := by
  refine Eq.trans (congrArg (V m c main_v1) (?_ : ((cfg0.win 2).blk t).view.emb _ = ix2 r (⟨4608 + d.val, by omega⟩ : Fin 4992))) (V1k m c _ _ _)
  funext q; fin_cases q <;> refine Fin.ext ?_ <;> blk_simp [idx t] <;> show _ = _ <;> simp <;> omega

theorem in3 (c : Dev nD) (t : Fin cfg0.N) (r : Fin 4096) (i : Fin 128) (hr : r.val = 128 * (t.val - 1) + i.val) (d : Fin 128) :
    iblk m c 3 t (ix2 i d) = (args m c).v (ix2 r d) := by
  refine Eq.trans (congrArg (V m c main_v1) (?_ : ((cfg0.win 3).blk t).view.emb _ = ix2 r (⟨4736 + d.val, by omega⟩ : Fin 4992))) (V1v m c _ _ _)
  funext q; fin_cases q <;> refine Fin.ext ?_ <;> blk_simp [idx t] <;> show _ = _ <;> simp <;> omega

theorem in4 (c : Dev nD) (t : Fin cfg0.N) (r : Fin 4096) (i : Fin 128) (hr : r.val = 128 * t.val + i.val) (d : Fin 128) :
    iblk m c 4 t (ix2 i d) = (args m c).v (ix2 r d) := by
  refine Eq.trans (congrArg (V m c main_v1) (?_ : ((cfg0.win 4).blk t).view.emb _ = ix2 r (⟨4736 + d.val, by omega⟩ : Fin 4992))) (V1v m c _ _ _)
  funext q; fin_cases q <;> refine Fin.ext ?_ <;> blk_simp [idx t] <;> show _ = _ <;> simp <;> omega

theorem in5 (c : Dev nD) (t : Fin cfg0.N) (d : Fin 64) : iblk m c 5 t (ix2 0 d) = (args m c).qg (ix2 0 d) := by
  refine Eq.trans (congrArg (V m c main_arg3) (?_ : ((cfg0.win 5).blk t).view.emb _ = ix2 0 d)) (congrFun (V_main_arg3 m c) _)
  funext q; fin_cases q <;> refine Fin.ext ?_ <;> blk_simp [idx t]

theorem in6 (c : Dev nD) (t : Fin cfg0.N) (d : Fin 64) : iblk m c 6 t (ix2 0 d) = (args m c).kg (ix2 0 d) := by
  refine Eq.trans (congrArg (V m c main_arg4) (?_ : ((cfg0.win 6).blk t).view.emb _ = ix2 0 d)) (congrFun (V_main_arg4 m c) _)
  funext q; fin_cases q <;> refine Fin.ext ?_ <;> blk_simp [idx t]

theorem in7 (c : Dev nD) (t : Fin cfg0.N) (d : Fin 8) : iblk m c 7 t (ix2 0 d) = (args m c).s (ix2 0 d) := by
  refine Eq.trans (congrArg (V m c main_arg5) (?_ : ((cfg0.win 7).blk t).view.emb _ = ix2 0 d)) (congrFun (V_main_arg5 m c) _)
  funext q; fin_cases q <;> refine Fin.ext ?_ <;> blk_simp [idx t]

theorem in8 (c : Dev nD) (t : Fin cfg0.N) (n : Fin 32) (hn : n.val = t.val) (h : Fin 8) (i : Fin 128) (j : Fin 256) :
    iblk m c 8 t (ix4 0 h i j) = Scalar.select (seen n i j) ((args m c).b (ix3 h i j)) (Ideal.ofBits .f32 4286578688#32) := by
  by_cases h0 : n.val = 0
  · refine Eq.trans (congrArg (V m c main_v36) (?_ : ((cfg0.win 8).blk t).view.emb _ = ix4 1 h i j)) (V36b m c n h0 _ _ _)
    funext q; fin_cases q <;> refine Fin.ext ?_ <;> blk_simp [idx t] <;> show _ = _ <;> simp <;> omega
  · refine Eq.trans (congrArg (V m c main_v36) (?_ : ((cfg0.win 8).blk t).view.emb _ = ix4 0 h i j)) (V36a m c n h0 _ _ _)
    funext q; fin_cases q <;> refine Fin.ext ?_ <;> blk_simp [idx t] <;> show _ = _ <;> simp <;> omega

theorem in9 (c : Dev nD) (t : Fin cfg0.N) (n : Fin 32) (hn : n.val = t.val) (i : Fin 128) (d : Fin 512) :
    iblk m c 9 t (ix2 i d) = (args m c).y (ix2 (tok n i) d) := by
  refine Eq.trans (congrArg (V m c main_arg7) (?_ : ((cfg0.win 9).blk t).view.emb _ = ix2 (tok n i) d)) (congrFun (V_main_arg7 m c) _)
  funext q; fin_cases q <;> refine Fin.ext ?_ <;> blk_simp [idx t] <;> show _ = _ <;> simp <;> omega

set_option maxHeartbeats 2000000 in
/-- The rows that a point works on are the argument's rows of its block. -/
theorem blk_ins (c : Dev nD) (t : Fin cfg0.N) (n : Fin 32) (hn : n.val = t.val) : blk (ins m c t) = (args m c).blk n := by
  have e0 : (blk (ins m c t)).q = ((args m c).blk n).q := by funext h i d; exact in0 m c t n hn _ _
  have e1 : (blk (ins m c t)).k = ((args m c).blk n).k := by
    funext h j d
    exact band_rows (iblk m c 1 t) (iblk m c 2 t) (fun r d => (args m c).k (ix2 r d)) n (fun r i hr d => in1 m c t r i (by rw [hr, hn]) d)
      (fun r i hr d => in2 m c t r i (by rw [hr, hn]) d) j (kvcol h d)
  have e2 : (blk (ins m c t)).v = ((args m c).blk n).v := by
    funext h j d
    exact band_rows (iblk m c 3 t) (iblk m c 4 t) (fun r d => (args m c).v (ix2 r d)) n (fun r i hr d => in3 m c t r i (by rw [hr, hn]) d)
      (fun r i hr d => in4 m c t r i (by rw [hr, hn]) d) j (kvcol h d)
  have e3 : (blk (ins m c t)).qg = ((args m c).blk n).qg := by funext d; exact in5 m c t d
  have e4 : (blk (ins m c t)).kg = ((args m c).blk n).kg := by funext d; exact in6 m c t d
  have e5 : (blk (ins m c t)).s = ((args m c).blk n).s := by funext d; exact in7 m c t d
  have e6 : (blk (ins m c t)).b = ((args m c).blk n).b := by funext h i j; exact in8 m c t n hn h i j
  have e7 : (blk (ins m c t)).y = ((args m c).blk n).y := by funext h i d; exact in9 m c t n hn _ _
  generalize blk (ins m c t) = B at *
  generalize (args m c).blk n = B' at *
  obtain ⟨⟩ := B; obtain ⟨⟩ := B'
  simp only at e0 e1 e2 e3 e4 e5 e6 e7
  subst e0 e1 e2 e3 e4 e5 e6 e7
  rfl

end Cert.SwaBwdIdeal.Val
end
-- ==== Proof.SwaBwd.Sums.lean ====
/- The sums that the attention's backward kernel keeps from block to block: the gradients of the biases, the gains and the sinks. -/
module

public import proofs.«01_k».proof.Proof.SwaBwd.Entry

@[expose] public section

set_option maxRecDepth 16384

noncomputable section

open Idealize.ShloMosaic Idealize.ShloMosaic.TcCoe Idealize.SL.Sem
open Idealize.ShloMosaic.Pipeline (Dat)

namespace Cert.SwaBwdIdeal.Val

open Cert.SwaBwdIdeal Cert.SwaBwdIdeal.Gen

variable (m : (ℓ : Loc nD τ sig) → Buf (Elt Ideal) ℓ)

/-- The block of a grid point. -/
abbrev bn (t : Fin cfg0.N) : Fin 32 := ⟨t.val, lt_of_lt_of_eq t.isLt N_0⟩

theorem blk_pt (c : Dev nD) (t : Fin cfg0.N) : blk (ins m c t) = (args m c).blk (bn t) := blk_ins m c t _ rfl

theorem no_prev (t : Fin cfg0.N) (h : t.val % 32 = 0) : ¬ 1 ≤ t.val := by have := lt_of_lt_of_eq t.isLt N_0; omega

theorem has_prev (t : Fin cfg0.N) (h : ¬ t.val % 32 = 0) : 1 ≤ t.val := by omega

/-- A sum over the points of the one run is a sum over the blocks. -/
theorem sum_pts (t : Fin cfg0.N) (f : Fin 32 → EReal) (g : Fin 32 → EReal) (h : ∀ s : Fin 32, (h : 32 * (t.val / 32) + s.val < cfg0.N) → g s = f (bn ⟨32 * (t.val / 32) + s.val, h⟩)) :
    ∑ s, g s = ∑ n, f n := by
  have ht := lt_of_lt_of_eq t.isLt N_0
  refine Finset.sum_congr rfl fun s _ => (h s (by have := s.isLt; exact lt_of_lt_of_eq (by omega) N_0.symm)).trans (congrArg f (Fin.ext ?_))
  show 32 * (t.val / 32) + s.val = s.val
  omega

theorem pay76_at (A prev : FVec Ideal S8x128x256 .f32) (y : S8x128x256.Idx) : k0_pay76 A prev y = prev y + A y := by pointwise [k0_pay76]
theorem pay77_at (A prev : FVec Ideal S1x64 .f32) (y : S1x64.Idx) : k0_pay77 A prev y = prev y + A y := by pointwise [k0_pay77]
theorem pay78_at (A prev : FVec Ideal S1x64 .f32) (y : S1x64.Idx) : k0_pay78 A prev y = prev y + A y := by pointwise [k0_pay78]
theorem pay9_at (y : S8x128x256.Idx) : k0_pay9 (F := Ideal) y = 0 := by pointwise! [k0_pay9]
theorem pay6_at (y : S1x64.Idx) : k0_pay6 (F := Ideal) y = 0 := by pointwise! [k0_pay6]
theorem pay7_at (y : S1x64.Idx) : k0_pay7 (F := Ideal) y = 0 := by pointwise! [k0_pay7]
theorem pay8_at (y : S1x8.Idx) : k0_pay8 (F := Ideal) y = 0 := by pointwise! [k0_pay8]

set_option maxHeartbeats 2000000 in
/-- The gradient of the biases after the run: every block's gradient of its logits. -/
theorem arr_16 (c : Dev nD) : (dats m 0 c).arrAt 16 (cfgs 0).N = fun y : S8x128x256.Idx => ∑ n : Fin 32, ((args m c).blk n).dl (y 0) (y 1) (y 2) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2) 32 (fun _ => 0)
    (fun t j => logitG (ins m c t) j)
    (fun t h j => by
      rw [outsAt0_A m c t h (no_prev t h)]; frame_out
      refine (pay76_at _ _ j).trans ?_
      rw [pay9_at]
      simp only [logitG, weights, recip, recip2, vals, heads, sinks, normK, sq, band0, band1, onHeads]
      rfl)
    (fun t h j => by
      rw [outsAt0_B m c t h (has_prev t h)]; frame_out
      refine (pay76_at _ _ j).trans ?_
      simp only [logitG, weights, recip, recip2, vals, heads, sinks, normK, sq, band0, band1, onHeads]
      rfl)
    t ((flush0_16 t).mp hf) _, zero_add]
  idx_vars y
  have e0 : ((win0_16.blk t).view.emb (ix3 y0 y1 y2) 0) = y0 := Fin.ext (by blk_simp [idx t])
  have e1 : ((win0_16.blk t).view.emb (ix3 y0 y1 y2) 1) = y1 := Fin.ext (by blk_simp [idx t])
  have e2 : ((win0_16.blk t).view.emb (ix3 y0 y1 y2) 2) = y2 := Fin.ext (by blk_simp [idx t])
  rw [e0, e1, e2]
  exact sum_pts t (fun n => ((args m c).blk n).dl y0 y1 y2) _ fun s h => by rw [← blk_pt]; exact logitG_at _ _ _ _

set_option maxHeartbeats 2000000 in
/-- The gradient of the queries' gain after the run. -/
theorem arr_13 (c : Dev nD) : (dats m 0 c).arrAt 13 (cfgs 0).N = fun y : S1x64.Idx => ∑ n : Fin 32, ((args m c).blk n).dqg (y 1) := by
  refine (dats m 0 c).arrAt_eq_of_covers 13 _ (by decide +kernel) fun t hf y => ?_
  blk_simp
  rw [after0_13, Pipeline.eq_sum_fin_of_reset_step_apply_of_flush (fun n h => (outsAt0 m c n h).2.2.2.1) 32 (fun _ => 0)
    (fun t j => gainQ (ins m c t) j)
    (fun t h j => by
      rw [outsAt0_A m c t h (no_prev t h)]; frame_out
      refine (pay77_at _ _ j).trans ?_
      rw [pay6_at]
      simp only [gainQ, logitG, weights, recip, recip2, vals, heads, sinks, normK, sq, band0, band1, onHeads]
      rfl)
    (fun t h j => by
      rw [outsAt0_B m c t h (has_prev t h)]; frame_out
      refine (pay77_at _ _ j).trans ?_
      simp only [gainQ, logitG, weights, recip, recip2, vals, heads, sinks, normK, sq, band0, band1, onHeads]
      rfl)
    t ((flush0_13 t).mp hf) _, zero_add]
  idx_vars y
  obtain rfl : y0 = 0 := Subsingleton.elim _ _
  have e1 : ((win0_13.blk t).view.emb (ix2 0 y1) 1) = y1 := Fin.ext (by blk_simp [idx t])
  rw [e1]
  exact sum_pts t (fun n => ((args m c).blk n).dqg y1) _ fun s h => by rw [← blk_pt]; exact gainQ_at _ _

set_option maxHeartbeats 2000000 in
/-- The gradient of the keys' gain after the run. -/
theorem arr_14 (c : Dev nD) : (dats m 0 c).arrAt 14 (cfgs 0).N = fun y : S1x64.Idx => ∑ n : Fin 32, ((args m c).blk n).dkg (y 1) := by
  refine (dats m 0 c).arrAt_eq_of_covers 14 _ (by decide +kernel) fun t hf y => ?_
  blk_simp
  rw [after0_14, Pipeline.eq_sum_fin_of_reset_step_apply_of_flush (fun n h => (outsAt0 m c n h).2.2.2.2.1) 32 (fun _ => 0)
    (fun t j => gainK (ins m c t) j)
    (fun t h j => by
      rw [outsAt0_A m c t h (no_prev t h)]; frame_out
      refine (pay78_at _ _ j).trans ?_
      rw [pay7_at]
      simp only [gainK, keyG, weights, recip, recip2, vals, heads, sinks, normK, sq, band0, band1, onHeads]
      rfl)
    (fun t h j => by
      rw [outsAt0_B m c t h (has_prev t h)]; frame_out
      refine (pay78_at _ _ j).trans ?_
      simp only [gainK, keyG, weights, recip, recip2, vals, heads, sinks, normK, sq, band0, band1, onHeads]
      rfl)
    t ((flush0_14 t).mp hf) _, zero_add]
  idx_vars y
  obtain rfl : y0 = 0 := Subsingleton.elim _ _
  have e1 : ((win0_14.blk t).view.emb (ix2 0 y1) 1) = y1 := Fin.ext (by blk_simp [idx t])
  rw [e1]
  exact sum_pts t (fun n => ((args m c).blk n).dkg y1) _ fun s h => by rw [← blk_pt]; exact gainK_at _ _

theorem G8 (G : FVec Ideal S8x1x1 .f32) : (∀ w, k0_pay61 G w (ix2 0 0) = w (ix2 0 0) + G (ix3 0 0 0))
    ∧ (∀ w, k0_pay63 G w (ix2 0 0) = w (ix2 0 0) + G (ix3 1 0 0)) ∧ (∀ w, k0_pay65 G w (ix2 0 0) = w (ix2 0 0) + G (ix3 2 0 0))
    ∧ (∀ w, k0_pay67 G w (ix2 0 0) = w (ix2 0 0) + G (ix3 3 0 0)) ∧ (∀ w, k0_pay69 G w (ix2 0 0) = w (ix2 0 0) + G (ix3 4 0 0))
    ∧ (∀ w, k0_pay71 G w (ix2 0 0) = w (ix2 0 0) + G (ix3 5 0 0)) ∧ (∀ w, k0_pay73 G w (ix2 0 0) = w (ix2 0 0) + G (ix3 6 0 0))
    ∧ (∀ w, k0_pay75 G w (ix2 0 0) = w (ix2 0 0) + G (ix3 7 0 0)) := by
  refine ⟨fun w => ?_, fun w => ?_, fun w => ?_, fun w => ?_, fun w => ?_, fun w => ?_, fun w => ?_, fun w => ?_⟩
  · pointwise [k0_pay61]
  · pointwise [k0_pay63]
  · pointwise [k0_pay65]
  · pointwise [k0_pay67]
  · pointwise [k0_pay69]
  · pointwise [k0_pay71]
  · pointwise [k0_pay73]
  · pointwise [k0_pay75]

/-- One column of a row: read after it was stored, and past a store into another column. -/
theorem col_hit (k : ℕ) (hk : k < 8) (inb : ∀ a, (![0, k] : Fin 2 → ℕ) a + (![1, 1] : Fin 2 → ℕ) a ≤ S1x8.size a)
    (w : (⟨2, ![1, 1]⟩ : Shape).Idx → Elt Ideal .f32) (L : List (View.Piece (Elt Ideal) S1x8 .f32)) :
    View.canon ((⟨Rect.unit (s := S1x8) ![0, k] ![1, 1] inb, w⟩ : View.Piece (Elt Ideal) S1x8 .f32) :: L) (ix2 0 ⟨k, hk⟩) = w (ix2 0 0) := by
  refine Eq.trans (congrArg (View.canon _) ?_) (View.canon_cons_emb (Rect.unit (s := S1x8) ![0, k] ![1, 1] inb) w L (ix2 0 0))
  funext a
  fin_cases a <;> exact Fin.ext (by simp)

theorem col_miss (k : ℕ) (inb : ∀ a, (![0, k] : Fin 2 → ℕ) a + (![1, 1] : Fin 2 → ℕ) a ≤ S1x8.size a)
    (w : (⟨2, ![1, 1]⟩ : Shape).Idx → Elt Ideal .f32) (L : List (View.Piece (Elt Ideal) S1x8 .f32)) (j : Fin 8) (hj : k ≠ j.val) :
    View.canon ((⟨Rect.unit (s := S1x8) ![0, k] ![1, 1] inb, w⟩ : View.Piece (Elt Ideal) S1x8 .f32) :: L) (ix2 0 j) = View.canon L (ix2 0 j) := by
  have h : (ix2 0 j : S1x8.Idx) ∉ (Rect.unit (s := S1x8) ![0, k] ![1, 1] inb).set :=
    Rect.not_mem_set_of_axis (Rect.unit (s := S1x8) ![0, k] ![1, 1] inb) _ (1 : Fin 2) k 1 rfl rfl rfl (by show j.val < k ∨ k + 1 ≤ j.val; omega)
  exact View.canon_cons_of_not_mem _ _ h

theorem col_load {κ : Kind} {sp : Space} (v : View sig κ sp S1x8 .f32) (k : ℕ) (hk : k < 8) (inb : ∀ a, (![0, k] : Fin 2 → ℕ) a + (![1, 1] : Fin 2 → ℕ) a ≤ S1x8.size a)
    (L : List (View.Piece (Elt Ideal) S1x8 .f32)) :
    v.readCov L (Rect.unit (s := S1x8) ![0, k] ![1, 1] inb).toLoadRect (ix2 0 0) = View.canon L (ix2 0 ⟨k, hk⟩) := by
  rw [View.readCov_eq_canon']
  refine congrArg (View.canon L) ?_
  funext a
  fin_cases a <;> exact Fin.ext (by simp)

theorem fill_col (j : Fin 8) : View.canon [(⟨Rect.unit (s := S1x8) ![0, 0] ![1, 8] inb_S1x8_S1x8_0_0, k0_pay8 (F := Ideal)⟩ : View.Piece (Elt Ideal) S1x8 .f32)] (ix2 0 j) = (0 : EReal) := by
  exact (congrFun (View.canon_cons_unit_lit (Val := Elt Ideal) (e := .f32) (S := S1x8) (off := ![0, 0]) inb_S1x8_S1x8_0_0 (k0_pay8 (F := Ideal)) [] (by decide)) _).trans (pay8_at _)

theorem ld_col (P : Vec Ideal S1x8 .f32) (k : ℕ) (hk : k < 8) (inb : ∀ a, (![0, k] : Fin 2 → ℕ) a + (![1, 1] : Fin 2 → ℕ) a ≤ S1x8.size a) :
    (View.ld P (Rect.unit (s := S1x8) ![0, k] ![1, 1] inb) : (⟨2, ![1, 1]⟩ : Shape).Idx → Elt Ideal .f32) (ix2 0 0) = P (ix2 0 ⟨k, hk⟩) := by
  refine congrArg P ?_
  funext a
  fin_cases a <;> exact Fin.ext (by simp)

set_option maxHeartbeats 1000000 in
/-- One point's step of the sinks' gradient, at the first point and at the others. -/
theorem sinkStep_A (c : Dev nD) (t : Fin cfg0.N) (h : t.val % 32 = 0) (j : Fin 8) :
    (outsAt0 m c t.val t.isLt).2.2.2.2.2.1 (ix2 0 j) = 0 + sinkG (ins m c t) (ix3 j 0 0) := by
  rw [outsAt0_A m c t h (no_prev t h)]; frame_out
  generalize hG : k0_pay48 (F := Ideal) _ _ _ _ _ _ _ _ _ _ _ _ = G
  have hs : sinkG (ins m c t) = G := by
    rw [← hG]
    simp only [sinkG, sinkW, weights, recip2, vals, heads, sinks, normK, sq, band0, band1, onHeads]
    rfl
  rw [hs]
  clear hs hG
  obtain ⟨h0, h1, h2, h3, h4, h5, h6, h7⟩ := G8 G
  fin_cases j
  · repeat rw [col_miss _ _ _ _ _ (by decide)]
    refine (col_hit 0 (by decide) _ _ _).trans ((h0 _).trans ?_)
    rw [col_load _ 0 (by decide)]
    repeat rw [col_miss _ _ _ _ _ (by decide)]
    rw [fill_col]
    rfl
  · repeat rw [col_miss _ _ _ _ _ (by decide)]
    refine (col_hit 1 (by decide) _ _ _).trans ((h1 _).trans ?_)
    rw [col_load _ 1 (by decide)]
    repeat rw [col_miss _ _ _ _ _ (by decide)]
    rw [fill_col]
    rfl
  · repeat rw [col_miss _ _ _ _ _ (by decide)]
    refine (col_hit 2 (by decide) _ _ _).trans ((h2 _).trans ?_)
    rw [col_load _ 2 (by decide)]
    repeat rw [col_miss _ _ _ _ _ (by decide)]
    rw [fill_col]
    rfl
  · repeat rw [col_miss _ _ _ _ _ (by decide)]
    refine (col_hit 3 (by decide) _ _ _).trans ((h3 _).trans ?_)
    rw [col_load _ 3 (by decide)]
    repeat rw [col_miss _ _ _ _ _ (by decide)]
    rw [fill_col]
    rfl
  · repeat rw [col_miss _ _ _ _ _ (by decide)]
    refine (col_hit 4 (by decide) _ _ _).trans ((h4 _).trans ?_)
    rw [col_load _ 4 (by decide)]
    repeat rw [col_miss _ _ _ _ _ (by decide)]
    rw [fill_col]
    rfl
  · repeat rw [col_miss _ _ _ _ _ (by decide)]
    refine (col_hit 5 (by decide) _ _ _).trans ((h5 _).trans ?_)
    rw [col_load _ 5 (by decide)]
    repeat rw [col_miss _ _ _ _ _ (by decide)]
    rw [fill_col]
    rfl
  · repeat rw [col_miss _ _ _ _ _ (by decide)]
    refine (col_hit 6 (by decide) _ _ _).trans ((h6 _).trans ?_)
    rw [col_load _ 6 (by decide)]
    repeat rw [col_miss _ _ _ _ _ (by decide)]
    rw [fill_col]
    rfl
  · repeat rw [col_miss _ _ _ _ _ (by decide)]
    refine (col_hit 7 (by decide) _ _ _).trans ((h7 _).trans ?_)
    rw [col_load _ 7 (by decide)]
    repeat rw [col_miss _ _ _ _ _ (by decide)]
    rw [fill_col]
    rfl

set_option maxHeartbeats 1000000 in
theorem sinkStep_B (c : Dev nD) (t : Fin cfg0.N) (h : ¬ t.val % 32 = 0) (j : Fin 8) :
    (outsAt0 m c t.val t.isLt).2.2.2.2.2.1 (ix2 0 j)
      = (outsAt0 m c (t.val - 1) (Nat.lt_of_le_of_lt (Nat.sub_le _ _) t.isLt)).2.2.2.2.2.1 (ix2 0 j) + sinkG (ins m c t) (ix3 j 0 0) := by
  rw [outsAt0_B m c t h (has_prev t h)]; frame_out
  generalize hG : k0_pay48 (F := Ideal) _ _ _ _ _ _ _ _ _ _ _ _ = G
  have hs : sinkG (ins m c t) = G := by
    rw [← hG]
    simp only [sinkG, sinkW, weights, recip2, vals, heads, sinks, normK, sq, band0, band1, onHeads]
    rfl
  rw [hs]
  clear hs hG
  generalize (outsAt0 m c (t.val - 1) _).2.2.2.2.2.1 = P
  obtain ⟨h0, h1, h2, h3, h4, h5, h6, h7⟩ := G8 G
  fin_cases j
  · repeat rw [col_miss _ _ _ _ _ (by decide)]
    refine (col_hit 0 (by decide) _ _ _).trans ((h0 _).trans ?_)
    rw [ld_col P 0 (by decide)]
    rfl
  · repeat rw [col_miss _ _ _ _ _ (by decide)]
    refine (col_hit 1 (by decide) _ _ _).trans ((h1 _).trans ?_)
    rw [ld_col P 1 (by decide)]
    rfl
  · repeat rw [col_miss _ _ _ _ _ (by decide)]
    refine (col_hit 2 (by decide) _ _ _).trans ((h2 _).trans ?_)
    rw [ld_col P 2 (by decide)]
    rfl
  · repeat rw [col_miss _ _ _ _ _ (by decide)]
    refine (col_hit 3 (by decide) _ _ _).trans ((h3 _).trans ?_)
    rw [ld_col P 3 (by decide)]
    rfl
  · repeat rw [col_miss _ _ _ _ _ (by decide)]
    refine (col_hit 4 (by decide) _ _ _).trans ((h4 _).trans ?_)
    rw [ld_col P 4 (by decide)]
    rfl
  · repeat rw [col_miss _ _ _ _ _ (by decide)]
    refine (col_hit 5 (by decide) _ _ _).trans ((h5 _).trans ?_)
    rw [ld_col P 5 (by decide)]
    rfl
  · repeat rw [col_miss _ _ _ _ _ (by decide)]
    refine (col_hit 6 (by decide) _ _ _).trans ((h6 _).trans ?_)
    rw [ld_col P 6 (by decide)]
    rfl
  · repeat rw [col_miss _ _ _ _ _ (by decide)]
    refine (col_hit 7 (by decide) _ _ _).trans ((h7 _).trans ?_)
    rw [ld_col P 7 (by decide)]
    rfl

/-- The gradient of the sinks after the run. -/
theorem arr_15 (c : Dev nD) : (dats m 0 c).arrAt 15 (cfgs 0).N = fun y : S1x8.Idx => ∑ n : Fin 32, ((args m c).blk n).ds (y 1) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.1) 32 (fun _ => 0)
    (fun t j => sinkG (ins m c t) (ix3 (j 1) 0 0))
    (fun t h j => by
      idx_vars j
      obtain rfl : j0 = 0 := Subsingleton.elim _ _
      exact sinkStep_A m c t h j1)
    (fun t h j => by
      idx_vars j
      obtain rfl : j0 = 0 := Subsingleton.elim _ _
      exact sinkStep_B m c t h j1)
    t ((flush0_15 t).mp hf) _, zero_add]
  idx_vars y
  obtain rfl : y0 = 0 := Subsingleton.elim _ _
  have e1 : ((win0_15.blk t).view.emb (ix2 0 y1) 1) = y1 := Fin.ext (by blk_simp [idx t])
  rw [e1]
  exact sum_pts t (fun n => ((args m c).blk n).ds y1) _ fun s h => by rw [← blk_pt]; exact sinkG_at _ _

end Cert.SwaBwdIdeal.Val
end
-- ==== Proof.SwaBwd.Bands.lean ====
/- The gradients of the keys and the values, which the attention's backward kernel adds up band by band. -/
module

public import proofs.«01_k».proof.Proof.SwaBwd.Sums
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.SwaBwdIdeal.Val

open Cert.SwaBwdIdeal Cert.SwaBwdIdeal.Gen

variable (m : (ℓ : Loc nD τ sig) → Buf (Elt Ideal) ℓ)

/-- What the band of block `n` adds to a row: its own block's rows take the band's second half, the rows of the block before its first half. -/
def bandTerm (n : Fin 32) (f : Fin 256 → Fin 128 → EReal) (r : Fin 4096) (e : Fin 128) : EReal :=
  if h : 128 * (n.val - 1) ≤ r.val ∧ r.val < 128 * (n.val - 1) + 128 ∧ 1 ≤ n.val then f ⟨r.val - 128 * (n.val - 1), by omega⟩ e
  else if h : 128 * n.val ≤ r.val ∧ r.val < 128 * n.val + 128 then f ⟨128 + (r.val - 128 * n.val), by omega⟩ e else 0

theorem pay82_at (A : FVec Ideal S8x256x64 .f32) (B : FVec Ideal S256x64 .f32) (w : Vec Ideal S128x128 .f32) (i e : Fin 128) :
    k0_pay82 A B w (ix2 i e) = w (ix2 i e) + k0_pay80 A B (ix2 ⟨128 + i.val, by omega⟩ e) := by pointwise [k0_pay82]
theorem pay2_at (A : FVec Ideal S256x128 .f32) (w : Vec Ideal S128x128 .f32) (i e : Fin 128) :
    k0_pay2 A w (ix2 i e) = w (ix2 i e) + A (ix2 ⟨i.val, by omega⟩ e) := by pointwise [k0_pay2]
theorem pay1_at (A : FVec Ideal S256x128 .f32) (w : Vec Ideal S128x128 .f32) (i e : Fin 128) :
    k0_pay1 A w (ix2 i e) = w (ix2 i e) + A (ix2 ⟨128 + i.val, by omega⟩ e) := by pointwise [k0_pay1]
theorem pay3_at (A : FVec Ideal S256x128 .f32) (w : Vec Ideal S128x128 .f32) (i e : Fin 128) :
    k0_pay3 A w (ix2 i e) = w (ix2 i e) + A (ix2 ⟨i.val, by omega⟩ e) := by pointwise [k0_pay3]
theorem pay4_at (y : S4096x128.Idx) : k0_pay4 (F := Ideal) y = 0 := by pointwise! [k0_pay4]
theorem pay5_at (y : S4096x128.Idx) : k0_pay5 (F := Ideal) y = 0 := by pointwise! [k0_pay5]

/-- Rows of a block, stored over any earlier stores: read at a row. -/
theorem ld_rows (P : Vec Ideal S4096x128 .f32) (off : Fin 2 → ℕ) (o : ℕ) (ho : off = ![o, 0]) (inb : ∀ a, off a + (![128, 128] : Fin 2 → ℕ) a ≤ S4096x128.size a)
    (i e : Fin 128) (r : Fin 4096) (hr : r.val = o + i.val) :
    (View.ld P (Rect.unit (s := S4096x128) off ![128, 128] inb) : (⟨2, ![128, 128]⟩ : Shape).Idx → Elt Ideal .f32) (ix2 i e) = P (ix2 r e) := by
  subst ho
  refine congrArg P ?_
  funext a
  fin_cases a <;> exact Fin.ext (by simp [hr])

section

variable {κ : Kind} {sp : Space} (v : View sig κ sp S4096x128 .f32) (f : v.ty.Contents (Elt Ideal))

theorem rows_hit (off : Fin 2 → ℕ) (o : ℕ) (ho : off = ![o, 0]) (inb : ∀ a, off a + (![128, 128] : Fin 2 → ℕ) a ≤ S4096x128.size a)
    (w : (⟨2, ![128, 128]⟩ : Shape).Idx → Elt Ideal .f32) (L : List (View.Piece (Elt Ideal) S4096x128 .f32)) (i e : Fin 128) (r : Fin 4096) (hr : r.val = o + i.val) :
    v.read (Elt Ideal) (v.writes (Elt Ideal) f ((⟨Rect.unit (s := S4096x128) off ![128, 128] inb, w⟩ : View.Piece (Elt Ideal) S4096x128 .f32) :: L)) (ix2 r e) = w (ix2 i e) :=
  View.read_writes_cons_rows_of_mem v f inb w L (ix2 r e) (ix2 i e) ho hr rfl

theorem rows_miss (off : Fin 2 → ℕ) (o : ℕ) (ho : off = ![o, 0]) (inb : ∀ a, off a + (![128, 128] : Fin 2 → ℕ) a ≤ S4096x128.size a)
    (w : (⟨2, ![128, 128]⟩ : Shape).Idx → Elt Ideal .f32) (L : List (View.Piece (Elt Ideal) S4096x128 .f32)) (r : Fin 4096) (e : Fin 128) (hr : r.val < o ∨ o + 128 ≤ r.val) :
    v.read (Elt Ideal) (v.writes (Elt Ideal) f ((⟨Rect.unit (s := S4096x128) off ![128, 128] inb, w⟩ : View.Piece (Elt Ideal) S4096x128 .f32) :: L)) (ix2 r e)
      = v.read (Elt Ideal) (v.writes (Elt Ideal) f L) (ix2 r e) :=
  View.read_writes_cons_rows_of_not_mem v f inb w L (ix2 r e) ho rfl hr

end

/-- One step over the rows of two blocks: what the buffer then holds. -/
theorem two_steps {κ : Kind} {sp : Space} (v : View sig κ sp S4096x128 .f32) (f : v.ty.Contents (Elt Ideal)) (P : Vec Ideal S4096x128 .f32) (hf : v.read (Elt Ideal) f = P)
    (n : Fin 32) (hn : 1 ≤ n.val) (A : Fin 256 → Fin 128 → EReal)
    (o1 o2 : Fin 2 → ℕ) (h1 : o1 = ![128 * n.val, 0]) (h2 : o2 = ![128 * (n.val - 1), 0])
    (inb1 : ∀ a, o1 a + (![128, 128] : Fin 2 → ℕ) a ≤ S4096x128.size a) (inb2 : ∀ a, o2 a + (![128, 128] : Fin 2 → ℕ) a ≤ S4096x128.size a)
    (w1 : (⟨2, ![128, 128]⟩ : Shape).Idx → Elt Ideal .f32) (w2 : Vec Ideal S128x128 .f32 → (⟨2, ![128, 128]⟩ : Shape).Idx → Elt Ideal .f32)
    (e1 : ∀ i e, w1 (ix2 i e) = P (ix2 ⟨128 * n.val + i.val, by omega⟩ e) + A ⟨128 + i.val, by omega⟩ e)
    (e2 : ∀ x i e, w2 x (ix2 i e) = x (ix2 i e) + A ⟨i.val, by omega⟩ e) (r : Fin 4096) (e : Fin 128) :
    v.read (Elt Ideal) (v.writes (Elt Ideal) f [⟨Rect.unit (s := S4096x128) o2 ![128, 128] inb2,
        w2 (View.ld (v.read (Elt Ideal) (v.writes (Elt Ideal) f [⟨Rect.unit (s := S4096x128) o1 ![128, 128] inb1, w1⟩])) (Rect.unit (s := S4096x128) o2 ![128, 128] inb2))⟩,
      ⟨Rect.unit (s := S4096x128) o1 ![128, 128] inb1, w1⟩]) (ix2 r e) = P (ix2 r e) + bandTerm n A r e := by
  have hn' := n.isLt
  unfold bandTerm
  by_cases c2 : 128 * (n.val - 1) ≤ r.val ∧ r.val < 128 * (n.val - 1) + 128
  · rw [dif_pos ⟨c2.1, c2.2, hn⟩, rows_hit v f o2 _ h2 inb2 _ _ ⟨r.val - 128 * (n.val - 1), by omega⟩ e r (by show r.val = _ + (r.val - _); omega)]
    refine (e2 _ _ _).trans (congrArg (· + _) ?_)
    rw [ld_rows _ o2 _ h2 inb2 _ e r (by show r.val = _ + (r.val - _); omega), rows_miss v f o1 _ h1 inb1 _ _ r e (by omega), View.writes_nil, hf]
  · rw [dif_neg (by omega), rows_miss v f o2 _ h2 inb2 _ _ r e (by omega)]
    by_cases c1 : 128 * n.val ≤ r.val ∧ r.val < 128 * n.val + 128
    · rw [dif_pos c1, rows_hit v f o1 _ h1 inb1 _ _ ⟨r.val - 128 * n.val, by omega⟩ e r (by show r.val = _ + (r.val - _); omega), e1]
      refine congrArg (· + _) (congrArg (fun q => P (ix2 q e)) (Fin.ext ?_))
      show 128 * n.val + (r.val - 128 * n.val) = r.val
      omega
    · rw [dif_neg c1, rows_miss v f o1 _ h1 inb1 _ _ r e (by omega), View.writes_nil, hf, add_zero]

/-- The first step: the rows of the first block over a fill with zeros. -/
theorem first_step (n : Fin 32) (hn : n.val = 0) (Z : Vec Ideal S4096x128 .f32) (hZ : ∀ y, Z y = (0 : EReal)) (A : Fin 256 → Fin 128 → EReal)
    (o1 : Fin 2 → ℕ) (h1 : o1 = ![128 * n.val, 0]) (inb1 : ∀ a, o1 a + (![128, 128] : Fin 2 → ℕ) a ≤ S4096x128.size a) (inbZ : ∀ a, (![0, 0] : Fin 2 → ℕ) a + (![4096, 128] : Fin 2 → ℕ) a ≤ S4096x128.size a)
    (w1 : (⟨2, ![128, 128]⟩ : Shape).Idx → Elt Ideal .f32)
    (e1 : ∀ i e, w1 (ix2 i e) = 0 + A ⟨128 + i.val, by omega⟩ e) (r : Fin 4096) (e : Fin 128) :
    View.canon [(⟨Rect.unit (s := S4096x128) o1 ![128, 128] inb1, w1⟩ : View.Piece (Elt Ideal) S4096x128 .f32), ⟨Rect.unit (s := S4096x128) ![0, 0] ![4096, 128] inbZ, Z⟩] (ix2 r e)
      = (0 : EReal) + bandTerm n A r e := by
  have fill : View.canon [(⟨Rect.unit (s := S4096x128) ![0, 0] ![4096, 128] inbZ, Z⟩ : View.Piece (Elt Ideal) S4096x128 .f32)] (ix2 r e) = (0 : EReal) :=
    (congrFun (View.canon_cons_unit_lit (Val := Elt Ideal) (e := .f32) (S := S4096x128) (off := ![0, 0]) inbZ Z [] (by decide)) _).trans (hZ _)
  unfold bandTerm
  rw [dif_neg (by omega)]
  subst h1
  by_cases c1 : 128 * n.val ≤ r.val ∧ r.val < 128 * n.val + 128
  · rw [dif_pos c1]
    refine Eq.trans ?_ ((View.canon_cons_emb (Rect.unit (s := S4096x128) ![128 * n.val, 0] ![128, 128] inb1) w1 [⟨Rect.unit (s := S4096x128) ![0, 0] ![4096, 128] inbZ, Z⟩] (ix2 ⟨r.val - 128 * n.val, by omega⟩ e)).trans (e1 _ _))
    refine congrArg (View.canon _) ?_
    funext a
    fin_cases a <;> exact Fin.ext (by simp; try omega)
  · rw [dif_neg c1, add_zero]
    refine (View.canon_cons_of_not_mem _ _ ?_).trans fill
    exact Rect.not_mem_set_of_axis (Rect.unit (s := S4096x128) ![128 * n.val, 0] ![128, 128] inb1) _ (0 : Fin 2) (128 * n.val) 128 rfl rfl rfl (by show r.val < _ ∨ _ ≤ r.val; omega)

set_option maxHeartbeats 2000000 in
theorem keyStep_A (c : Dev nD) (t : Fin cfg0.N) (h : t.val % 32 = 0) (r : Fin 4096) (e : Fin 128) :
    (outsAt0 m c t.val t.isLt).2.1 (ix2 r e) = 0 + bandTerm (bn t) (fun j e => sumK (ins m c t) (ix2 j e)) r e := by
  rw [outsAt0_A m c t h (no_prev t h)]; frame_out
  refine first_step (bn t) (by have := no_prev t h; show t.val = 0; omega) _ pay4_at (fun j e => sumK (ins m c t) (ix2 j e)) _ (offs t).1 _ _ _ (fun i e => ?_) r e
  rw [pay82_at]
  refine congr (congrArg _ (pay4_at _)) ?_
  simp only [sumK, fullK, keyG, weights, recip, recip2, vals, heads, sinks, normK, sq, band0, band1, onHeads]
  rfl

set_option maxHeartbeats 2000000 in
theorem keyStep_B (c : Dev nD) (t : Fin cfg0.N) (h : ¬ t.val % 32 = 0) (r : Fin 4096) (e : Fin 128) :
    (outsAt0 m c t.val t.isLt).2.1 (ix2 r e) = (outsAt0 m c (t.val - 1) (Nat.lt_of_le_of_lt (Nat.sub_le _ _) t.isLt)).2.1 (ix2 r e)
      + bandTerm (bn t) (fun j e => sumK (ins m c t) (ix2 j e)) r e := by
  rw [outsAt0_B m c t h (has_prev t h)]; frame_out
  generalize hG : k0_pay59 (F := Ideal) _ _ _ = G
  have hs : fullK (ins m c t) = G := by
    rw [← hG]
    simp only [fullK, keyG, weights, recip, recip2, vals, heads, sinks, normK, sq, band0, band1, onHeads]
    rfl
  unfold sumK
  rw [hs]
  clear hs hG
  generalize (outsAt0 m c (t.val - 1) _).2.1 = P
  refine two_steps _ _ P (Memref.IsWhole.read_unread _ _) (bn t) (has_prev t h) (fun j e => k0_pay80 G (k0_pay79 G) (ix2 j e)) _ _ (offs t).1 (offs t).2 _ _ _ (fun x => k0_pay2 (k0_pay80 G (k0_pay79 G)) x) (fun i e => ?_) (fun x i e => pay2_at _ _ _ _) r e
  rw [pay82_at]
  exact congrArg (· + _) (ld_rows P _ _ (offs t).1 _ i e _ rfl)

set_option maxHeartbeats 2000000 in
theorem valStep_A (c : Dev nD) (t : Fin cfg0.N) (h : t.val % 32 = 0) (r : Fin 4096) (e : Fin 128) :
    (outsAt0 m c t.val t.isLt).2.2.1 (ix2 r e) = 0 + bandTerm (bn t) (fun j e => sumV (ins m c t) (ix2 j e)) r e := by
  rw [outsAt0_A m c t h (no_prev t h)]; frame_out
  refine first_step (bn t) (by have := no_prev t h; show t.val = 0; omega) _ pay5_at (fun j e => sumV (ins m c t) (ix2 j e)) _ (offs t).1 _ _ _ (fun i e => ?_) r e
  rw [pay1_at]
  refine congr (congrArg _ (pay5_at _)) ?_
  simp only [sumV, valG, probs, heads, sinks, normK, sq, band0, band1, onHeads]

set_option maxHeartbeats 2000000 in
theorem valStep_B (c : Dev nD) (t : Fin cfg0.N) (h : ¬ t.val % 32 = 0) (r : Fin 4096) (e : Fin 128) :
    (outsAt0 m c t.val t.isLt).2.2.1 (ix2 r e) = (outsAt0 m c (t.val - 1) (Nat.lt_of_le_of_lt (Nat.sub_le _ _) t.isLt)).2.2.1 (ix2 r e)
      + bandTerm (bn t) (fun j e => sumV (ins m c t) (ix2 j e)) r e := by
  rw [outsAt0_B m c t h (has_prev t h)]; frame_out
  generalize hG : k0_pay45 (F := Ideal) _ _ _ _ _ _ _ _ _ = G
  have hs : valG (ins m c t) = G := by
    rw [← hG]
    simp only [valG, probs, heads, sinks, normK, sq, band0, band1, onHeads]
  unfold sumV
  rw [hs]
  clear hs hG
  generalize (outsAt0 m c (t.val - 1) _).2.2.1 = P
  refine two_steps _ _ P (Memref.IsWhole.read_unread _ _) (bn t) (has_prev t h) (fun j e => k0_pay81 G (ix2 j e)) _ _ (offs t).1 (offs t).2 _ _ _ (fun x => k0_pay3 (k0_pay81 G) x) (fun i e => ?_) (fun x i e => pay3_at _ _ _ _) r e
  rw [pay1_at]
  exact congrArg (· + _) (ld_rows P _ _ (offs t).1 _ i e _ rfl)

/-- The four heads of a key's head, added up, in the columns of the two heads. -/
def grouped (f : Fin 8 → Fin 256 → Fin 64 → EReal) (j : Fin 256) (e : Fin 128) : EReal :=
  ∑ g : Fin 4, f ⟨e.val / 64 * 4 + g.val, by omega⟩ j ⟨e.val % 64, by omega⟩

/-- The gradient of the keys after the run. -/
theorem arr_11 (c : Dev nD) : (dats m 0 c).arrAt 11 (cfgs 0).N = fun y : S4096x128.Idx => ∑ n : Fin 32, bandTerm n (grouped ((args m c).blk n).dk) (y 0) (y 1) := by
  refine (dats m 0 c).arrAt_eq_of_covers 11 _ (by decide +kernel) fun t hf y => ?_
  blk_simp
  rw [after0_11, Pipeline.eq_sum_fin_of_reset_step_apply_of_flush (fun n h => (outsAt0 m c n h).2.1) 32 (fun _ => 0)
    (fun t j => bandTerm (bn t) (fun j e => sumK (ins m c t) (ix2 j e)) (j 0) (j 1))
    (fun t h j => by idx_vars j; exact keyStep_A m c t h j0 j1)
    (fun t h j => by idx_vars j; exact keyStep_B m c t h j0 j1)
    t ((flush0_11 t).mp hf) _, zero_add]
  idx_vars y
  have e0 : ((win0_11.blk t).view.emb (ix2 y0 y1) 0) = y0 := Fin.ext (by blk_simp [idx t])
  have e1 : ((win0_11.blk t).view.emb (ix2 y0 y1) 1) = y1 := Fin.ext (by blk_simp [idx t])
  rw [e0, e1]
  exact sum_pts t (fun n => bandTerm n (grouped ((args m c).blk n).dk) y0 y1) _ fun s h => by
    rw [← blk_pt]
    exact congrArg (fun q => bandTerm _ q y0 y1) (funext fun j => funext fun e => sumK_at _ j e)

/-- The gradient of the values after the run. -/
theorem arr_12 (c : Dev nD) : (dats m 0 c).arrAt 12 (cfgs 0).N = fun y : S4096x128.Idx => ∑ n : Fin 32, bandTerm n (grouped ((args m c).blk n).dv) (y 0) (y 1) := by
  refine (dats m 0 c).arrAt_eq_of_covers 12 _ (by decide +kernel) fun t hf y => ?_
  blk_simp
  rw [after0_12, Pipeline.eq_sum_fin_of_reset_step_apply_of_flush (fun n h => (outsAt0 m c n h).2.2.1) 32 (fun _ => 0)
    (fun t j => bandTerm (bn t) (fun j e => sumV (ins m c t) (ix2 j e)) (j 0) (j 1))
    (fun t h j => by idx_vars j; exact valStep_A m c t h j0 j1)
    (fun t h j => by idx_vars j; exact valStep_B m c t h j0 j1)
    t ((flush0_12 t).mp hf) _, zero_add]
  idx_vars y
  have e0 : ((win0_12.blk t).view.emb (ix2 y0 y1) 0) = y0 := Fin.ext (by blk_simp [idx t])
  have e1 : ((win0_12.blk t).view.emb (ix2 y0 y1) 1) = y1 := Fin.ext (by blk_simp [idx t])
  rw [e0, e1]
  exact sum_pts t (fun n => bandTerm n (grouped ((args m c).blk n).dv) y0 y1) _ fun s h => by
    rw [← blk_pt]
    exact congrArg (fun q => bandTerm _ q y0 y1) (funext fun j => funext fun e => sumV_at _ j e)

end Cert.SwaBwdIdeal.Val
end
-- ==== Proof.SwaBwd.Match.lean ====
/- The blocks' gradients, added up by block, are the plain backward pass's, added up by token. -/
module

public import proofs.«01_k».proof.Proof.SwaBwd.Ref4
public import proofs.«01_k».proof.Proof.SwaBwd.Bands

@[expose] public section

set_option maxRecDepth 16384

noncomputable section

open Idealize.ShloMosaic Idealize.ShloMosaic.TcCoe Idealize.SL.Sem

namespace Cert.SwaBwdRefIdeal.Val
open Cert.SwaBwdRefIdeal Cert.SwaBwdRefIdeal.Gen Cert.SwaBwdRefIdeal.Read
open Cert.SwaBwdIdeal.Val

/-- A sum over the tokens, block by block. -/
theorem sum_rows (f : Fin 4096 → EReal) : ∑ r, f r = ∑ n : Fin 32, ∑ i : Fin 128, f (tok n i) := by
  rw [← Fintype.sum_prod_type' (fun n i => f (tok n i))]
  refine (Fintype.sum_equiv (finProdFinEquiv (m := 32) (n := 128)) _ _ fun x => congrArg f (Fin.ext ?_)).symm
  show x.1.val * 128 + x.2.val = x.2.val + 128 * x.1.val
  omega

/-- A sum over the heads, group by group. -/
theorem sum_heads (f : Fin 8 → EReal) : ∑ h, f h = ∑ c : Fin 2, ∑ g : Fin 4, f (hd c g) := by
  rw [← Fintype.sum_prod_type' (fun c g => f (hd c g))]
  refine (Fintype.sum_equiv (finProdFinEquiv (m := 2) (n := 4)) _ _ fun x => congrArg f (Fin.ext ?_)).symm
  show x.1.val * 4 + x.2.val = x.2.val + 4 * x.1.val
  omega

theorem sum_halves (f : Fin 256 → EReal) : ∑ j, f j = (∑ i : Fin 128, f ⟨i.val, by omega⟩) + ∑ i : Fin 128, f ⟨128 + i.val, by omega⟩ :=
  Fin.sum_univ_add (a := 128) (b := 128) f

theorem blkOf_tok (n : Fin 32) (i : Fin 128) : blkOf (tok n i) = n := Fin.ext (show (n.val * 128 + i.val) / 128 = n.val by omega)
theorem posOf_tok (n : Fin 32) (i : Fin 128) : posOf (tok n i) = i := Fin.ext (show (n.val * 128 + i.val) % 128 = i.val by omega)
theorem tok_of (r : Fin 4096) : tok (blkOf r) (posOf r) = r := Fin.ext (show r.val / 128 * 128 + r.val % 128 = r.val by omega)

theorem folded_tok (F : Fin 32 → Fin 256 → EReal) (n : Fin 32) (i : Fin 128) :
    folded F (tok n i) = F n ⟨128 + i.val, by omega⟩ + if h : n.val + 1 < 32 then F ⟨n.val + 1, h⟩ ⟨i.val, by omega⟩ else 0 := by
  have e1 : (n.val * 128 + i.val) / 128 = n.val := by omega
  have e2 : (n.val * 128 + i.val) % 128 = i.val := by omega
  unfold folded
  refine congrArg₂ (· + ·) (congrArg₂ F (Fin.ext e1) (Fin.ext (congrArg (128 + ·) e2))) ?_
  by_cases h : n.val + 1 < 32
  · rw [dif_pos h, dif_pos (show (n.val * 128 + i.val) / 128 + 1 < 32 by omega)]
    exact congrArg₂ F (Fin.ext (congrArg (· + 1) e1)) (Fin.ext e2)
  · rw [dif_neg h, dif_neg (show ¬(n.val * 128 + i.val) / 128 + 1 < 32 by omega)]

/-- What the bands hold, added up by block, and by token. -/
theorem sum_folded (F : Fin 32 → Fin 256 → EReal) (h0 : ∀ n j, n.val = 0 ∧ j.val < 128 → F n j = 0) : ∑ n, ∑ j, F n j = ∑ r, folded F r := by
  rw [sum_rows]
  simp only [folded_tok, sum_halves, Finset.sum_add_distrib]
  rw [add_comm]
  refine congrArg (_ + ·) ?_
  rw [Fin.sum_univ_succ, Fin.sum_univ_castSucc (n := 31)]
  rw [Finset.sum_eq_zero fun i _ => h0 0 ⟨i.val, by omega⟩ ⟨rfl, i.isLt⟩, zero_add]
  rw [Finset.sum_eq_zero fun (i : Fin 128) _ => dif_neg (show ¬(Fin.last 31).val + 1 < 32 by decide), add_zero]
  refine Finset.sum_congr rfl fun n _ => Finset.sum_congr rfl fun i _ => ?_
  rw [dif_pos (show n.castSucc.val + 1 < 32 from Nat.succ_lt_succ n.isLt)]
  rfl

open Cert.SwaBwdIdeal.Val in
/-- A token's entries of the bands of all blocks. -/
theorem sum_bandTerm (f : Fin 32 → Fin 256 → Fin 128 → EReal) (r : Fin 4096) (e : Fin 128) :
    ∑ n, bandTerm n (f n) r e = folded (fun n j => f n j e) r := by
  have hr := r.isLt
  have e1 : ∀ n : Fin 32, bandTerm n (f n) r e = (if blkOf r = n then f (blkOf r) ⟨128 + r.val % 128, by omega⟩ e else 0)
      + if h : r.val / 128 + 1 < 32 then (if (⟨r.val / 128 + 1, h⟩ : Fin 32) = n then f ⟨r.val / 128 + 1, h⟩ ⟨r.val % 128, by omega⟩ e else 0) else 0 := by
    intro n
    have hn := n.isLt
    unfold bandTerm
    by_cases a : 128 * (n.val - 1) ≤ r.val ∧ r.val < 128 * (n.val - 1) + 128 ∧ 1 ≤ n.val
    · have hb : r.val / 128 + 1 = n.val := by omega
      have hk : r.val / 128 + 1 < 32 := by omega
      obtain rfl : (⟨r.val / 128 + 1, hk⟩ : Fin 32) = n := Fin.ext hb
      rw [dif_pos (by omega), if_neg (fun h => by have := congrArg Fin.val h; simp at this), zero_add, dif_pos hk, if_pos rfl]
      exact congrArg (fun q => f _ q e) (Fin.ext (show r.val - 128 * (r.val / 128 + 1 - 1) = r.val % 128 by omega))
    · have ha : ¬∃ h : r.val / 128 + 1 < 32, (⟨r.val / 128 + 1, h⟩ : Fin 32) = n := fun ⟨h, e⟩ => by
        have := congrArg Fin.val e
        simp only at this
        omega
      have hz : (if h : r.val / 128 + 1 < 32 then (if (⟨r.val / 128 + 1, h⟩ : Fin 32) = n then f ⟨r.val / 128 + 1, h⟩ ⟨r.val % 128, by omega⟩ e else 0) else 0) = 0 := by
        by_cases h : r.val / 128 + 1 < 32
        · rw [dif_pos h, if_neg fun e => ha ⟨h, e⟩]
        · rw [dif_neg h]
      rw [hz, add_zero, dif_neg (by omega)]
      by_cases b : 128 * n.val ≤ r.val ∧ r.val < 128 * n.val + 128
      · obtain rfl : blkOf r = n := Fin.ext (show r.val / 128 = n.val by omega)
        rw [dif_pos b, if_pos rfl]
        exact congrArg (fun q => f _ q e) (Fin.ext (show 128 + (r.val - 128 * (r.val / 128)) = 128 + r.val % 128 by omega))
      · rw [dif_neg b, if_neg fun h => b (by have := congrArg Fin.val h; simp only at this; omega)]
  rw [Finset.sum_congr rfl fun n _ => e1 n, Finset.sum_add_distrib, Finset.sum_ite_eq, if_pos (Finset.mem_univ _)]
  refine congrArg (_ + ·) ?_
  by_cases h : r.val / 128 + 1 < 32
  · simp only [dif_pos h]
    rw [Finset.sum_ite_eq, if_pos (Finset.mem_univ _)]
  · simp only [dif_neg h, Finset.sum_const_zero]

end Cert.SwaBwdRefIdeal.Val
end
-- ==== Proof.SwaBwd.Linear.lean ====
/- Over real arguments a norm's gradient of each head and each block adds up to that of the token's whole cotangent. -/
module

public import proofs.«01_k».proof.Proof.SwaBwd.Match

@[expose] public section

set_option maxRecDepth 16384

noncomputable section

open Idealize.ShloMosaic Idealize.ShloMosaic.TcCoe Idealize.SL.Sem

namespace Cert.SwaBwdRefIdeal.Val
open Cert.SwaBwdRefIdeal Cert.SwaBwdRefIdeal.Gen Cert.SwaBwdRefIdeal.Read
open Cert.SwaBwdIdeal.Val

variable (x0 : FVec Ideal S4096x512 .f32) (x1 x2 : FVec Ideal S4096x128 .f32) (x3 x4 : FVec Ideal S1x64 .f32) (x5 : FVec Ideal S1x8 .f32)
  (x6 : FVec Ideal S8x128x256 .f32) (x7 : FVec Ideal S4096x512 .f32)

theorem row_up (r : Fin 4096) : bandRow (blkOf r) ⟨128 + r.val % 128, by omega⟩ = r := by
  rw [bandRow, dif_neg (by simp)]
  exact Fin.ext (show 128 * (r.val / 128) + (128 + r.val % 128 - 128) = r.val by omega)

theorem row_low (r : Fin 4096) (h : r.val / 128 + 1 < 32) : bandRow ⟨r.val / 128 + 1, h⟩ ⟨r.val % 128, by omega⟩ = r := by
  rw [bandRow, dif_pos (show r.val % 128 < 128 by omega)]
  exact Fin.ext (show 128 * (r.val / 128 + 1 - 1) + r.val % 128 = r.val by omega)

/-- The bands hold a token's entries at the token's own row. -/
theorem folded_row (G : Fin 4096 → Fin 32 → Fin 256 → EReal) (r : Fin 4096) :
    folded (fun n j => G (bandRow n j) n j) r = folded (G r) r := by
  unfold folded
  refine congrArg₂ (· + ·) (congrArg (fun q => G q _ _) (row_up r)) ?_
  by_cases h : r.val / 128 + 1 < 32
  · rw [dif_pos h, dif_pos h]
    exact congrArg (fun q => G q _ _) (row_low r h)
  · rw [dif_neg h, dif_neg h]

theorem sum_mul_real {ι : Type*} (s : Finset ι) {f : ι → EReal} {k : EReal} (hf : ∀ a, IsR (f a)) (hk : IsR k) : ∑ a ∈ s, f a * k = (∑ a ∈ s, f a) * k := by
  choose g hg using hf
  obtain ⟨κ, rfl⟩ := hk
  simp only [hg, ← EReal.coe_mul, Cert.Common.coe_sum, Finset.sum_mul]

theorem add_mul_real {a b k : EReal} (ha : IsR a) (hb : IsR b) (hk : IsR k) : a * k + b * k = (a + b) * k := by
  obtain ⟨a, rfl⟩ := ha; obtain ⟨b, rfl⟩ := hb; obtain ⟨k, rfl⟩ := hk
  simp only [← EReal.coe_mul, ← EReal.coe_add, add_mul]

theorem folded_mul {a : Fin 32 → Fin 256 → EReal} {k : EReal} (ha : ∀ n j, IsR (a n j)) (hk : IsR k) (r : Fin 4096) :
    folded (fun n j => a n j * k) r = folded a r * k := by
  unfold folded
  by_cases h : r.val / 128 + 1 < 32
  · rw [dif_pos h, dif_pos h, add_mul_real (ha _ _) (ha _ _) hk]
  · rw [dif_neg h, dif_neg h, add_zero, add_zero]

theorem folded_normGrad {x : Fin 64 → EReal} (hx : ∀ d, IsR (x d)) {s : Fin 32 → Fin 256 → Fin 64 → EReal} (hs : ∀ n j d, IsR (s n j d)) (r : Fin 4096) (d : Fin 64) :
    folded (fun n j => Cert.Common.normGrad n64 x (s n j) d) r = Cert.Common.normGrad n64 x (fun d => folded (fun n j => s n j d) r) d := by
  unfold folded
  by_cases h : r.val / 128 + 1 < 32
  · simp only [dif_pos h]
    have e := normGrad_sum (Finset.univ : Finset (Fin 2)) hx
      (s := ![s ⟨r.val / 128, by omega⟩ ⟨128 + r.val % 128, by omega⟩, s ⟨r.val / 128 + 1, h⟩ ⟨r.val % 128, by omega⟩])
      (fun a d => by fin_cases a <;> exact hs _ _ _) d
    simp only [Fin.sum_univ_two] at e
    exact e
  · simp only [dif_neg h, add_zero]

variable (hA : ∀ n, (bk x0 x1 x2 x3 x4 x5 x6 x7 n).Reals) (hk : ∀ r c d, IsR (x1 (ix2 r (kc c d)))) (r : Fin 4096) (c : Fin 2) (d : Fin 64)

include hA in
theorem dknSum_real (n : Fin 32) (j : Fin 256) (c : Fin 2) (d : Fin 64) : IsR (∑ g, (bk x0 x1 x2 x3 x4 x5 x6 x7 n).dkn (hd c g) j d) := IsR.sum _ fun g => Blk.dkn_real (hA n) _ _ _

include hA hk in
/-- The keys' gradient, from the blocks. -/
theorem dk_match : folded (fun n j => ∑ g, (bk x0 x1 x2 x3 x4 x5 x6 x7 n).dk (hd c g) j d) r
    = Cert.Common.normGrad n64 (fun d => x1 (ix2 r (kc c d))) (fun d => dkAt x0 x1 x2 x3 x4 x5 x6 x7 r c d * x4 (ix2 0 d)) d := by
  have hg : ∀ d, IsR (x4 (ix2 0 d)) := (hA 0).kg
  have e : ∀ n j, ∑ g, (bk x0 x1 x2 x3 x4 x5 x6 x7 n).dk (hd c g) j d
      = Cert.Common.normGrad n64 (fun d => x1 (ix2 (bandRow n j) (kc c d))) (fun d => (∑ g, (bk x0 x1 x2 x3 x4 x5 x6 x7 n).dkn (hd c g) j d) * x4 (ix2 0 d)) d := by
    intro n j
    simp only [Blk.dk, bk_k]
    refine (normGrad_sum _ (fun d => hk (bandRow n j) c d) (fun g d => (Blk.dkn_real (hA n) (hd c g) j d).mul (hg d)) d).trans ?_
    refine congrArg (fun s => Cert.Common.normGrad n64 _ s d) (funext fun d => ?_)
    exact sum_mul_real _ (fun g => Blk.dkn_real (hA n) (hd c g) j d) (hg d)
  simp only [e]
  refine (folded_row (fun r n j => Cert.Common.normGrad n64 (fun d => x1 (ix2 r (kc c d))) (fun d => (∑ g, (bk x0 x1 x2 x3 x4 x5 x6 x7 n).dkn (hd c g) j d) * x4 (ix2 0 d)) d) r).trans ?_
  refine (folded_normGrad (fun d => hk r c d) (fun n j d => (dknSum_real x0 x1 x2 x3 x4 x5 x6 x7 hA n j c d).mul (hg d)) r d).trans ?_
  refine congrArg (fun s => Cert.Common.normGrad n64 _ s d) (funext fun d => ?_)
  exact folded_mul (fun n j => dknSum_real x0 x1 x2 x3 x4 x5 x6 x7 hA n j c d) (hg d) r

include hA hk in
/-- The key gain's gradient, from the blocks. -/
theorem dkg_match : ∑ n, (bk x0 x1 x2 x3 x4 x5 x6 x7 n).dkg d = ∑ r, ∑ c, unit (fun d => x1 (ix2 r (kc c d))) d * dkAt x0 x1 x2 x3 x4 x5 x6 x7 r c d := by
  have e : ∀ n, (bk x0 x1 x2 x3 x4 x5 x6 x7 n).dkg d
      = ∑ c, ∑ j, (∑ g, (bk x0 x1 x2 x3 x4 x5 x6 x7 n).dkn (hd c g) j d) * unit (fun d => x1 (ix2 (bandRow n j) (kc c d))) d := by
    intro n
    rw [Blk.dkg, sum_heads]
    refine Finset.sum_congr rfl fun c _ => ?_
    rw [Finset.sum_comm]
    refine Finset.sum_congr rfl fun j _ => ?_
    rw [← sum_mul_real _ (fun g => Blk.dkn_real (hA n) (hd c g) j d) (unit_real (fun d => hk _ c d) d)]
    refine Finset.sum_congr rfl fun g _ => ?_
    rw [bk_k, mul_comm]
  rw [Finset.sum_congr rfl fun n _ => e n, Finset.sum_comm, Finset.sum_comm (s := (Finset.univ : Finset (Fin 4096)))]
  refine Finset.sum_congr rfl fun c _ => ?_
  rw [sum_folded _ fun n j hz => ?_]
  · refine Finset.sum_congr rfl fun r _ => ?_
    refine (folded_row (fun r n j => (∑ g, (bk x0 x1 x2 x3 x4 x5 x6 x7 n).dkn (hd c g) j d) * unit (fun d => x1 (ix2 r (kc c d))) d) r).trans ?_
    exact (folded_mul (fun n j => dknSum_real x0 x1 x2 x3 x4 x5 x6 x7 hA n j c d) (unit_real (fun d => hk r c d) d) r).trans (mul_comm _ _)
  · refine (congrArg (· * _) (Finset.sum_eq_zero fun g _ => Finset.sum_eq_zero fun i _ => ?_)).trans (zero_mul _)
    rw [Blk.dl_masked (hA n) _ _ _ (p_absent x0 x1 x2 x3 x4 x5 x6 x7 hA n c g i j hz), zero_mul]

/-- The query gain's gradient, from the blocks. -/
theorem dqg_match : ∑ n, (bk x0 x1 x2 x3 x4 x5 x6 x7 n).dqg d
    = ∑ r, ∑ h, unit (fun d => x0 (ix2 r (col h d))) d * (bk x0 x1 x2 x3 x4 x5 x6 x7 (blkOf r)).dqn h (posOf r) d := by
  rw [sum_rows]
  refine Finset.sum_congr rfl fun n _ => ?_
  rw [Blk.dqg, Finset.sum_comm]
  refine Finset.sum_congr rfl fun i _ => Finset.sum_congr rfl fun h _ => ?_
  rw [blkOf_tok, posOf_tok]
  rfl

/-- The queries' gradient, from the block of the token. -/
theorem dq_match (h : Fin 8) : (bk x0 x1 x2 x3 x4 x5 x6 x7 (blkOf r)).dq h (posOf r) d
    = Cert.Common.normGrad n64 (fun d => x0 (ix2 r (col h d))) (fun d => (bk x0 x1 x2 x3 x4 x5 x6 x7 (blkOf r)).dqn h (posOf r) d * x3 (ix2 0 d)) d := by
  have e : (bk x0 x1 x2 x3 x4 x5 x6 x7 (blkOf r)).q h (posOf r) = fun d => x0 (ix2 r (col h d)) :=
    funext fun d => congrArg (fun r => x0 (ix2 r (col h d))) (tok_of r)
  rw [Blk.dq, e]
  rfl

/-- Finite arguments are a block's real arguments. -/
theorem reals_of (h0 : ∀ y, IsR (x0 y)) (h1 : ∀ y, IsR (x1 y)) (h2 : ∀ y, IsR (x2 y)) (h3 : ∀ y, IsR (x3 y)) (h4 : ∀ y, IsR (x4 y)) (h5 : ∀ y, IsR (x5 y))
    (h6 : ∀ y, IsR (x6 y)) (h7 : ∀ y, IsR (x7 y)) (n : Fin 32) : (bk x0 x1 x2 x3 x4 x5 x6 x7 n).Reals where
  q h i d := h0 _
  k h j d := h1 _
  v h j d := h2 _
  qg d := h3 _
  kg d := h4 _
  s h := h5 _
  y h i d := h7 _
  b h i j := by
    show Scalar.select (seen n i j) _ _ = ⊥ ∨ IsR (Scalar.select (seen n i j) _ _)
    rcases bit_cases (seen n i j) with e | e
    · rw [e]; exact .inl lit_neg_inf
    · rw [e]; exact .inr (h6 _)

end Cert.SwaBwdRefIdeal.Val
end
-- ==== Proof.SwaBwd.Stores.lean ====
/- Eight stores of 64 columns each into a block of 512 columns. -/
module

public import proofs.«01_k».proof.Proof.SwaBwd.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SwaBwdIdeal.Val

theorem head_hit (o : ℕ) (inb : ∀ a, (![0, o] : Fin 2 → ℕ) a + (![128, 64] : Fin 2 → ℕ) a ≤ (⟨2, ![128, 512]⟩ : Shape).size a)
    (w : (⟨2, ![128, 64]⟩ : Shape).Idx → Elt Ideal .bf16) (L : List (View.Piece (Elt Ideal) ⟨2, ![128, 512]⟩ .bf16)) (i : Fin 128) (d : Fin 64) (hk : o + d.val < 512) :
    View.canon ((⟨Rect.unit (s := ⟨2, ![128, 512]⟩) ![0, o] ![128, 64] inb, w⟩ : View.Piece (Elt Ideal) ⟨2, ![128, 512]⟩ .bf16) :: L) (ix2 i ⟨o + d.val, hk⟩) = w (ix2 i d) := by
  refine Eq.trans (congrArg (View.canon _) ?_) (View.canon_cons_emb (Rect.unit (s := ⟨2, ![128, 512]⟩) ![0, o] ![128, 64] inb) w L (ix2 i d))
  funext a
  fin_cases a <;> exact Fin.ext (by simp)

theorem head_miss (o : ℕ) (inb : ∀ a, (![0, o] : Fin 2 → ℕ) a + (![128, 64] : Fin 2 → ℕ) a ≤ (⟨2, ![128, 512]⟩ : Shape).size a)
    (w : (⟨2, ![128, 64]⟩ : Shape).Idx → Elt Ideal .bf16) (L : List (View.Piece (Elt Ideal) ⟨2, ![128, 512]⟩ .bf16)) (i : Fin 128) (j : Fin 512) (hj : j.val < o ∨ o + 64 ≤ j.val) :
    View.canon ((⟨Rect.unit (s := ⟨2, ![128, 512]⟩) ![0, o] ![128, 64] inb, w⟩ : View.Piece (Elt Ideal) ⟨2, ![128, 512]⟩ .bf16) :: L) (ix2 i j) = View.canon L (ix2 i j) := by
  have h : (ix2 i j : (⟨2, ![128, 512]⟩ : Shape).Idx) ∉ (Rect.unit (s := ⟨2, ![128, 512]⟩) ![0, o] ![128, 64] inb).set :=
    Rect.not_mem_set_of_axis (Rect.unit (s := ⟨2, ![128, 512]⟩) ![0, o] ![128, 64] inb) _ (1 : Fin 2) o 64 rfl rfl rfl hj
  exact View.canon_cons_of_not_mem _ _ h

/-- Eight stores of 64 columns each put the heads side by side. -/
theorem eight_stores (W : Fin 8 → (⟨2, ![128, 64]⟩ : Shape).Idx → Elt Ideal .bf16)
    (b7 : ∀ a, (![0, 448] : Fin 2 → ℕ) a + (![128, 64] : Fin 2 → ℕ) a ≤ (⟨2, ![128, 512]⟩ : Shape).size a)
    (b6 : ∀ a, (![0, 384] : Fin 2 → ℕ) a + (![128, 64] : Fin 2 → ℕ) a ≤ (⟨2, ![128, 512]⟩ : Shape).size a)
    (b5 : ∀ a, (![0, 320] : Fin 2 → ℕ) a + (![128, 64] : Fin 2 → ℕ) a ≤ (⟨2, ![128, 512]⟩ : Shape).size a)
    (b4 : ∀ a, (![0, 256] : Fin 2 → ℕ) a + (![128, 64] : Fin 2 → ℕ) a ≤ (⟨2, ![128, 512]⟩ : Shape).size a)
    (b3 : ∀ a, (![0, 192] : Fin 2 → ℕ) a + (![128, 64] : Fin 2 → ℕ) a ≤ (⟨2, ![128, 512]⟩ : Shape).size a)
    (b2 : ∀ a, (![0, 128] : Fin 2 → ℕ) a + (![128, 64] : Fin 2 → ℕ) a ≤ (⟨2, ![128, 512]⟩ : Shape).size a)
    (b1 : ∀ a, (![0, 64] : Fin 2 → ℕ) a + (![128, 64] : Fin 2 → ℕ) a ≤ (⟨2, ![128, 512]⟩ : Shape).size a)
    (b0 : ∀ a, (![0, 0] : Fin 2 → ℕ) a + (![128, 64] : Fin 2 → ℕ) a ≤ (⟨2, ![128, 512]⟩ : Shape).size a) (y : (⟨2, ![128, 512]⟩ : Shape).Idx) :
    View.canon [(⟨Rect.unit (s := ⟨2, ![128, 512]⟩) ![0, 448] ![128, 64] b7, W 7⟩ : View.Piece (Elt Ideal) ⟨2, ![128, 512]⟩ .bf16),
      (⟨Rect.unit (s := ⟨2, ![128, 512]⟩) ![0, 384] ![128, 64] b6, W 6⟩ : View.Piece (Elt Ideal) ⟨2, ![128, 512]⟩ .bf16),
      (⟨Rect.unit (s := ⟨2, ![128, 512]⟩) ![0, 320] ![128, 64] b5, W 5⟩ : View.Piece (Elt Ideal) ⟨2, ![128, 512]⟩ .bf16),
      (⟨Rect.unit (s := ⟨2, ![128, 512]⟩) ![0, 256] ![128, 64] b4, W 4⟩ : View.Piece (Elt Ideal) ⟨2, ![128, 512]⟩ .bf16),
      (⟨Rect.unit (s := ⟨2, ![128, 512]⟩) ![0, 192] ![128, 64] b3, W 3⟩ : View.Piece (Elt Ideal) ⟨2, ![128, 512]⟩ .bf16),
      (⟨Rect.unit (s := ⟨2, ![128, 512]⟩) ![0, 128] ![128, 64] b2, W 2⟩ : View.Piece (Elt Ideal) ⟨2, ![128, 512]⟩ .bf16),
      (⟨Rect.unit (s := ⟨2, ![128, 512]⟩) ![0, 64] ![128, 64] b1, W 1⟩ : View.Piece (Elt Ideal) ⟨2, ![128, 512]⟩ .bf16),
      (⟨Rect.unit (s := ⟨2, ![128, 512]⟩) ![0, 0] ![128, 64] b0, W 0⟩ : View.Piece (Elt Ideal) ⟨2, ![128, 512]⟩ .bf16)] y = W ⟨(y 1).val / 64, by have := (y 1).isLt; simp at this; omega⟩ (ix2 (y 0) ⟨(y 1).val % 64, by omega⟩) := by
  idx_vars y
  obtain ⟨h, d, rfl⟩ : ∃ (h : Fin 8) (d : Fin 64), y1 = ⟨64 * h.val + d.val, by omega⟩ :=
    ⟨⟨y1.val / 64, by omega⟩, ⟨y1.val % 64, by omega⟩, Fin.ext (by show y1.val = 64 * (y1.val / 64) + y1.val % 64; omega)⟩
  have e : W ⟨(64 * h.val + d.val) / 64, by omega⟩ (ix2 y0 ⟨(64 * h.val + d.val) % 64, by omega⟩) = W h (ix2 y0 d) :=
    congr (congrArg W (Fin.ext (by show (64 * h.val + d.val) / 64 = h.val; omega)))
      (congrArg (ix2 y0) (Fin.ext (by show (64 * h.val + d.val) % 64 = d.val; omega)))
  refine Eq.trans ?_ e.symm
  clear e
  fin_cases h
  · rw [head_miss _ _ _ _ _ _ (by simp; try omega), head_miss _ _ _ _ _ _ (by simp; try omega), head_miss _ _ _ _ _ _ (by simp; try omega), head_miss _ _ _ _ _ _ (by simp; try omega), head_miss _ _ _ _ _ _ (by simp; try omega), head_miss _ _ _ _ _ _ (by simp; try omega), head_miss _ _ _ _ _ _ (by simp; try omega)]
    exact head_hit 0 _ _ _ y0 d (by omega)
  · rw [head_miss _ _ _ _ _ _ (by simp; try omega), head_miss _ _ _ _ _ _ (by simp; try omega), head_miss _ _ _ _ _ _ (by simp; try omega), head_miss _ _ _ _ _ _ (by simp; try omega), head_miss _ _ _ _ _ _ (by simp; try omega), head_miss _ _ _ _ _ _ (by simp; try omega)]
    exact head_hit 64 _ _ _ y0 d (by omega)
  · rw [head_miss _ _ _ _ _ _ (by simp; try omega), head_miss _ _ _ _ _ _ (by simp; try omega), head_miss _ _ _ _ _ _ (by simp; try omega), head_miss _ _ _ _ _ _ (by simp; try omega), head_miss _ _ _ _ _ _ (by simp; try omega)]
    exact head_hit 128 _ _ _ y0 d (by omega)
  · rw [head_miss _ _ _ _ _ _ (by simp; try omega), head_miss _ _ _ _ _ _ (by simp; try omega), head_miss _ _ _ _ _ _ (by simp; try omega), head_miss _ _ _ _ _ _ (by simp; try omega)]
    exact head_hit 192 _ _ _ y0 d (by omega)
  · rw [head_miss _ _ _ _ _ _ (by simp; try omega), head_miss _ _ _ _ _ _ (by simp; try omega), head_miss _ _ _ _ _ _ (by simp; try omega)]
    exact head_hit 256 _ _ _ y0 d (by omega)
  · rw [head_miss _ _ _ _ _ _ (by simp; try omega), head_miss _ _ _ _ _ _ (by simp; try omega)]
    exact head_hit 320 _ _ _ y0 d (by omega)
  · rw [head_miss _ _ _ _ _ _ (by simp; try omega)]
    exact head_hit 384 _ _ _ y0 d (by omega)
  · exact head_hit 448 _ _ _ y0 d (by omega)

end Cert.SwaBwdIdeal.Val
end
-- ==== Proof.SwaBwd.Queries.lean ====
/- The gradient of the queries, which the attention's backward kernel stores head by head into the columns behind 4096. -/
module

public import proofs.«01_k».proof.Proof.SwaBwd.Sums
public import proofs.«01_k».proof.Proof.SwaBwd.Stores

@[expose] public section

set_option maxRecDepth 16384

noncomputable section

open Idealize.ShloMosaic Idealize.ShloMosaic.TcCoe Idealize.SL.Sem
open Idealize.ShloMosaic.Pipeline (Dat)

namespace Cert.SwaBwdIdeal.Val

open Cert.SwaBwdIdeal Cert.SwaBwdIdeal.Gen

variable (m : (ℓ : Loc nD τ sig) → Buf (Elt Ideal) ℓ)

/-- A head's columns of the block that a point stores. -/
theorem head_at (G : FVec Ideal S8x128x64 .f32) (i : Fin 128) (d : Fin 64) : k0_pay60 G (ix2 i d) = G (ix3 0 i d) ∧ k0_pay62 G (ix2 i d) = G (ix3 1 i d)
    ∧ k0_pay64 G (ix2 i d) = G (ix3 2 i d) ∧ k0_pay66 G (ix2 i d) = G (ix3 3 i d) ∧ k0_pay68 G (ix2 i d) = G (ix3 4 i d)
    ∧ k0_pay70 G (ix2 i d) = G (ix3 5 i d) ∧ k0_pay72 G (ix2 i d) = G (ix3 6 i d) ∧ k0_pay74 G (ix2 i d) = G (ix3 7 i d) := by
  refine ⟨?_, ?_, ?_, ?_, ?_, ?_, ?_, ?_⟩
  · pointwise [k0_pay60]
  · pointwise [k0_pay62]
  · pointwise [k0_pay64]
  · pointwise [k0_pay66]
  · pointwise [k0_pay68]
  · pointwise [k0_pay70]
  · pointwise [k0_pay72]
  · pointwise [k0_pay74]

/-- The queries' gradient of a block, its heads side by side. -/
def sideBySide (G : FVec Ideal S8x128x64 .f32) (y : S128x512.Idx) : EReal :=
  G (ix3 ⟨(y 1).val / 64, by have := (y 1).isLt; simp at this; omega⟩ (y 0) ⟨(y 1).val % 64, by omega⟩)

/-- Eight stores of a head each put the heads side by side. -/
theorem side_by_side (G : FVec Ideal S8x128x64 .f32)
    (b7 : ∀ a, (![0, 448] : Fin 2 → ℕ) a + (![128, 64] : Fin 2 → ℕ) a ≤ S128x512.size a)
    (b6 : ∀ a, (![0, 384] : Fin 2 → ℕ) a + (![128, 64] : Fin 2 → ℕ) a ≤ S128x512.size a)
    (b5 : ∀ a, (![0, 320] : Fin 2 → ℕ) a + (![128, 64] : Fin 2 → ℕ) a ≤ S128x512.size a)
    (b4 : ∀ a, (![0, 256] : Fin 2 → ℕ) a + (![128, 64] : Fin 2 → ℕ) a ≤ S128x512.size a)
    (b3 : ∀ a, (![0, 192] : Fin 2 → ℕ) a + (![128, 64] : Fin 2 → ℕ) a ≤ S128x512.size a)
    (b2 : ∀ a, (![0, 128] : Fin 2 → ℕ) a + (![128, 64] : Fin 2 → ℕ) a ≤ S128x512.size a)
    (b1 : ∀ a, (![0, 64] : Fin 2 → ℕ) a + (![128, 64] : Fin 2 → ℕ) a ≤ S128x512.size a)
    (b0 : ∀ a, (![0, 0] : Fin 2 → ℕ) a + (![128, 64] : Fin 2 → ℕ) a ≤ S128x512.size a) (y : S128x512.Idx) :
    View.canon [(⟨Rect.unit (s := S128x512) ![0, 448] ![128, 64] b7, k0_pay74 (F := Ideal) G⟩ : View.Piece (Elt Ideal) S128x512 .bf16),
      (⟨Rect.unit (s := S128x512) ![0, 384] ![128, 64] b6, k0_pay72 (F := Ideal) G⟩ : View.Piece (Elt Ideal) S128x512 .bf16),
      (⟨Rect.unit (s := S128x512) ![0, 320] ![128, 64] b5, k0_pay70 (F := Ideal) G⟩ : View.Piece (Elt Ideal) S128x512 .bf16),
      (⟨Rect.unit (s := S128x512) ![0, 256] ![128, 64] b4, k0_pay68 (F := Ideal) G⟩ : View.Piece (Elt Ideal) S128x512 .bf16),
      (⟨Rect.unit (s := S128x512) ![0, 192] ![128, 64] b3, k0_pay66 (F := Ideal) G⟩ : View.Piece (Elt Ideal) S128x512 .bf16),
      (⟨Rect.unit (s := S128x512) ![0, 128] ![128, 64] b2, k0_pay64 (F := Ideal) G⟩ : View.Piece (Elt Ideal) S128x512 .bf16),
      (⟨Rect.unit (s := S128x512) ![0, 64] ![128, 64] b1, k0_pay62 (F := Ideal) G⟩ : View.Piece (Elt Ideal) S128x512 .bf16),
      (⟨Rect.unit (s := S128x512) ![0, 0] ![128, 64] b0, k0_pay60 (F := Ideal) G⟩ : View.Piece (Elt Ideal) S128x512 .bf16)] y = sideBySide G y := by
  have e : ∀ f : FVec Ideal S8x128x64 .f32 → FVec Ideal S128x64 .bf16, ∀ h : Fin 8, (∀ i d, f G (ix2 i d) = G (ix3 h i d)) → f G = fun x => G (ix3 h (x 0) (x 1)) :=
    fun f h hf => funext fun x => by idx_vars x; exact hf _ _
  rw [e k0_pay60 0 fun i d => (head_at G i d).1, e k0_pay62 1 fun i d => (head_at G i d).2.1, e k0_pay64 2 fun i d => (head_at G i d).2.2.1,
    e k0_pay66 3 fun i d => (head_at G i d).2.2.2.1, e k0_pay68 4 fun i d => (head_at G i d).2.2.2.2.1, e k0_pay70 5 fun i d => (head_at G i d).2.2.2.2.2.1,
    e k0_pay72 6 fun i d => (head_at G i d).2.2.2.2.2.2.1, e k0_pay74 7 fun i d => (head_at G i d).2.2.2.2.2.2.2]
  exact eight_stores (fun h x => G (ix3 h (x 0) (x 1))) b7 b6 b5 b4 b3 b2 b1 b0 y

set_option maxHeartbeats 2000000 in
theorem query_A (c : Dev nD) (t : Fin cfg0.N) (h : t.val % 32 = 0) (y : S128x512.Idx) : (outsAt0 m c t.val t.isLt).1 y = sideBySide (queryG (ins m c t)) y := by
  rw [outsAt0_A m c t h (no_prev t h)]; frame_out
  generalize hG : k0_pay54 (F := Ideal) _ _ _ _ _ _ = G
  have hs : queryG (ins m c t) = G := by
    rw [← hG]
    simp only [queryG, logitG, weights, recip, recip2, vals, heads, sinks, normK, sq, band0, band1, onHeads]
    rfl
  rw [hs]
  clear hs hG
  exact side_by_side G _ _ _ _ _ _ _ _ y

set_option maxHeartbeats 2000000 in
theorem query_B (c : Dev nD) (t : Fin cfg0.N) (h : ¬ t.val % 32 = 0) (y : S128x512.Idx) : (outsAt0 m c t.val t.isLt).1 y = sideBySide (queryG (ins m c t)) y := by
  rw [outsAt0_B m c t h (has_prev t h)]; frame_out
  generalize hG : k0_pay54 (F := Ideal) _ _ _ _ _ _ = G
  have hs : queryG (ins m c t) = G := by
    rw [← hG]
    simp only [queryG, logitG, weights, recip, recip2, vals, heads, sinks, normK, sq, band0, band1, onHeads]
    rfl
  rw [hs]
  clear hs hG
  exact side_by_side G _ _ _ _ _ _ _ _ y

theorem query_at (c : Dev nD) (t : Fin cfg0.N) (y : S128x512.Idx) : (outsAt0 m c t.val t.isLt).1 y = sideBySide (queryG (ins m c t)) y := by
  by_cases h : t.val % 32 = 0
  · exact query_A m c t h y
  · exact query_B m c t h y

/-- The queries' gradient at a token, all heads. -/
def dqAll (A : Arg) (r : Fin 4096) (j : Fin 512) : EReal :=
  (A.blk ⟨r.val / 128, by omega⟩).dq ⟨j.val / 64, by omega⟩ ⟨r.val % 128, by omega⟩ ⟨j.val % 64, by omega⟩

/-- The queries' gradient in the columns that the kernel writes, zero elsewhere. -/
def qArr (A : Arg) : S4096x4992.Idx → EReal := fun i => if h : 4096 ≤ (i 1 : ℕ) ∧ (i 1 : ℕ) < 4608 then dqAll A (i 0) ⟨(i 1).val - 4096, by omega⟩ else 0

theorem qArr_at (A : Arg) (r : Fin 4096) (j : Fin 512) : qArr A (ix2 r ⟨4096 + j.val, by omega⟩) = dqAll A r j := by
  refine (dif_pos ⟨Nat.le_add_right _ _, by show 4096 + j.val < 4608; omega⟩).trans ?_
  refine congrArg (dqAll A r) (Fin.ext ?_)
  show 4096 + j.val - 4096 = j.val
  omega

theorem query_blk (c : Dev nD) (t : Fin cfg0.N) (i : Fin 128) (j : Fin 512) :
    sideBySide (queryG (ins m c t)) (ix2 i j) = dqAll (args m c) ⟨128 * t.val + i.val, by have := lt_of_lt_of_eq t.isLt N_0; omega⟩ j := by
  have ht := lt_of_lt_of_eq t.isLt N_0
  refine (queryG_at _ _ _ _).trans ?_
  rw [blk_pt]
  unfold dqAll
  have e1 : (⟨(128 * t.val + i.val) / 128, by omega⟩ : Fin 32) = bn t := Fin.ext (by show (128 * t.val + i.val) / 128 = t.val; omega)
  have e2 : (⟨(128 * t.val + i.val) % 128, by omega⟩ : Fin 128) = i := Fin.ext (by show (128 * t.val + i.val) % 128 = i.val; omega)
  show _ = ((args m c).blk ⟨(128 * t.val + i.val) / 128, by omega⟩).dq _ ⟨(128 * t.val + i.val) % 128, by omega⟩ _
  rw [e1, e2]
  rfl

/-- The projections' gradient after the run: the queries' in the columns that the kernel writes, in the others what was there. -/
theorem arr_10 (c : Dev nD) (r : Fin 4096) (j : Fin 4992) : (dats m 0 c).arrAt 10 (cfgs 0).N (ix2 r j : S4096x4992.Idx)
    = if h : 4096 ≤ j.val ∧ j.val < 4608 then dqAll (args m c) r ⟨j.val - 4096, by omega⟩ else m ((c : Thread nD τ).loc main_arg8) (ix2 r j) := by
  have cov : (cfg0.win 10).CoversWhere (fun β => β 1 = 8) := by decide +kernel
  have key : ∀ (t : Fin cfg0.N) (y : S128x512.Idx), (outsAt0 m c t.val t.isLt).1 y
      = qArr (args m c) (ix2 ⟨128 * t.val + (y 0).val, by have := lt_of_lt_of_eq t.isLt N_0; have := (y 0).isLt; simp at this; omega⟩ ⟨4096 + (y 1).val, by have := (y 1).isLt; simp at this; omega⟩) := by
    intro t y
    rw [query_at]
    idx_vars y
    exact (query_blk m c t y0 y1).trans (qArr_at _ _ _).symm
  refine ((dats m 0 c).arrAt_apply_of_coversWhere 10 (qArr (args m c))
    (P := fun i => 4096 ≤ (i 1 : ℕ) ∧ (i 1 : ℕ) < 4608) _ cov (fun t hf y => ?_) (fun j => ?_) _).trans ?_
  · refine Eq.trans ?_ ((key t ((cfg0.win 10).xinj (cfg0.grid.coords t) y)).trans (congrArg (qArr (args m c)) ?_))
    · rw [after0_10]
      rfl
    · have ht := idx t
      funext q
      fin_cases q <;> refine Fin.ext ?_
      · blk_simp [idx t]
        show 128 * t.val + (y (0 : Fin 2)).val = t.val * 128 + (y (0 : Fin 2)).val
        omega
      · blk_simp [idx t]
        rfl
  · blk_simp [Pipeline.Window.cell_apply]
    omega
  · by_cases h : 4096 ≤ j.val ∧ j.val < 4608
    · refine (if_pos h).trans ((dif_pos h).trans (Eq.trans ?_ (dif_pos h).symm))
      rfl
    · refine (if_neg h).trans (Eq.trans ?_ (dif_neg h).symm)
      show V m c main_v37_0 (ix2 r j) = _
      simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
      after_results_simp
      rfl

end Cert.SwaBwdIdeal.Val
end
-- ==== Proof.SwaBwd.Equal.lean ====
/- The gradients of the sliding-window attention: the kernel's seven results are the plain backward pass's. -/
module

public import proofs.«01_k».proof.Proof.SwaBwd.Linear
public import proofs.«01_k».proof.Proof.SwaBwd.Queries
public import proofs.«01_k».proof.Proof.Gen.SwaBwdRefIdeal.Read
public import proofs.«01_k».proof.Proof.Gen.SwaBwd
public import proofs.«01_k».proof.Proof.Gen.Pre_swa_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.SwaBwdIdeal.Val

open Cert.SwaBwdIdeal Cert.SwaBwdIdeal.Gen
open Cert.SwaBwdRefIdeal.Val Cert.SwaBwdRefIdeal.Read

variable (m : (ℓ : Loc nD τ sig) → Buf (Elt Ideal) ℓ) (c : Dev nD)

/-- The first eight arguments, all of them real numbers. -/
structure Real8 : Prop where
  h0 : ∀ y, IsR ((m ((c : Thread nD τ).loc main_arg0)) y)
  h1 : ∀ y, IsR ((m ((c : Thread nD τ).loc main_arg1)) y)
  h2 : ∀ y, IsR ((m ((c : Thread nD τ).loc main_arg2)) y)
  h3 : ∀ y, IsR ((m ((c : Thread nD τ).loc main_arg3)) y)
  h4 : ∀ y, IsR ((m ((c : Thread nD τ).loc main_arg4)) y)
  h5 : ∀ y, IsR ((m ((c : Thread nD τ).loc main_arg5)) y)
  h6 : ∀ y, IsR ((m ((c : Thread nD τ).loc main_arg6)) y)
  h7 : ∀ y, IsR ((m ((c : Thread nD τ).loc main_arg7)) y)

variable {m c} (H : Real8 m c)
include H

theorem blocks_real (n : Fin 32) : ((args m c).blk n).Reals := reals_of _ _ _ _ _ _ _ _ H.h0 H.h1 H.h2 H.h3 H.h4 H.h5 H.h6 H.h7 n

/-- The queries' gradient. -/
theorem eq_10 : (dats m 0 c).arrAt 10 (cfgs 0).N = val_main_v252 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  idx_vars y
  refine (arr_10 m c y0 y1).trans (Eq.trans ?_ (v252_at _ _ _ _ _ _ _ _ (blocks_real H) y0 _ y1).symm)
  refine dite_congr rfl (fun h => ?_) (fun _ => rfl)
  exact dq_match _ _ _ _ _ _ _ _ y0 _ _

/-- The keys' gradient. -/
theorem eq_11 : (dats m 0 c).arrAt 11 (cfgs 0).N = val_main_v227 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr_11 m c).trans (funext fun y => ?_)
  idx_vars y
  refine Eq.trans ?_ (v227_at _ _ _ _ _ _ _ _ (blocks_real H) y0 y1).symm
  refine (sum_bandTerm _ _ _).trans ?_
  exact dk_match _ _ _ _ _ _ _ _ (blocks_real H) (fun r c d => H.h1 _) y0 ⟨y1.val / 64, by omega⟩ ⟨y1.val % 64, by omega⟩

/-- The values' gradient. -/
theorem eq_12 : (dats m 0 c).arrAt 12 (cfgs 0).N = val_main_v206 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr_12 m c).trans (funext fun y => ?_)
  idx_vars y
  refine Eq.trans ?_ (v206_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (blocks_real H) y0 y1).symm
  exact sum_bandTerm _ _ _

/-- The query gain's gradient. -/
theorem eq_13 : (dats m 0 c).arrAt 13 (cfgs 0).N = val_main_v253 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr_13 m c).trans (funext fun y => ?_)
  idx_vars y
  exact (dqg_match _ _ _ _ _ _ _ _ y1).trans (v253_at _ _ _ _ _ _ _ _ (blocks_real H) y1 y0).symm

/-- The key gain's gradient. -/
theorem eq_14 : (dats m 0 c).arrAt 14 (cfgs 0).N = val_main_v254 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr_14 m c).trans (funext fun y => ?_)
  idx_vars y
  exact (dkg_match _ _ _ _ _ _ _ _ (blocks_real H) (fun r c d => H.h1 _) y1).trans (v254_at _ _ _ _ _ _ _ _ (blocks_real H) y1 y0).symm

/-- The sinks' gradient. -/
theorem eq_15 : (dats m 0 c).arrAt 15 (cfgs 0).N = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr_15 m c).trans (funext fun y => ?_)
  idx_vars y
  exact (v176_at _ _ _ _ _ _ _ _ (blocks_real H) y0 y1).symm

/-- The biases' gradient. -/
theorem eq_16 : (dats m 0 c).arrAt 16 (cfgs 0).N = val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr_16 m c).trans (funext fun y => ?_)
  idx_vars y
  exact (v181_at _ _ _ _ _ _ _ _ (blocks_real H) y1 y2 y0).symm

end Cert.SwaBwdIdeal.Val

namespace Cert.SwaBwdIdeal.Val

open Cert.SwaBwdIdeal Cert.SwaBwdIdeal.Gen Cert.SwaBwdRefIdeal.Read

/-- The reference runs, leaves its arguments as they were and every counter at zero. -/
theorem frame_ref : Cert.quiescent_SwaBwdRefIdeal := fun m g _ =>
  (θ_run Cert.SwaBwdRefIdeal.defs _ _).mono (fun r h => ⟨fun c => (h c).2.2.2.2.2.2.2, sem_eq_zero_of_no_sems (by decide) r.2⟩)
    (Cert.SwaBwdRefIdeal.Value.run (F := Ideal) m g)

/-- The precondition says that the first eight arguments are real numbers. -/
theorem reals_of_pre (m : (ℓ : Loc nD τ sig) → Buf (Elt Ideal) ℓ) (hpre : Cert.Pre_SwaBwdIdeal_swa_finite m) (c : Dev nD) : Real8 m c := by
  obtain ⟨a0, e0⟩ := Cert.Common.real_of_finite _ _ (fun _ => rfl) (hpre c).1
  obtain ⟨a1, e1⟩ := Cert.Common.real_of_finite _ _ (fun _ => rfl) (hpre c).2.1
  obtain ⟨a2, e2⟩ := Cert.Common.real_of_finite _ _ (fun _ => rfl) (hpre c).2.2.1
  obtain ⟨a3, e3⟩ := Cert.Common.real_of_finite _ _ (fun _ => rfl) (hpre c).2.2.2.1
  obtain ⟨a4, e4⟩ := Cert.Common.real_of_finite _ _ (fun _ => rfl) (hpre c).2.2.2.2.1
  obtain ⟨a5, e5⟩ := Cert.Common.real_of_finite _ _ (fun _ => rfl) (hpre c).2.2.2.2.2.1
  obtain ⟨a6, e6⟩ := Cert.Common.real_of_finite _ _ (fun _ => rfl) (hpre c).2.2.2.2.2.2.1
  obtain ⟨a7, e7⟩ := Cert.Common.real_of_finite _ _ (fun _ => rfl) (hpre c).2.2.2.2.2.2.2
  exact ⟨fun y => ⟨_, congrFun e0 y⟩, fun y => ⟨_, congrFun e1 y⟩, fun y => ⟨_, congrFun e2 y⟩, fun y => ⟨_, congrFun e3 y⟩, fun y => ⟨_, congrFun e4 y⟩, fun y => ⟨_, congrFun e5 y⟩, fun y => ⟨_, congrFun e6 y⟩, fun y => ⟨_, congrFun e7 y⟩⟩

set_option maxHeartbeats 4000000 in
/-- On finite arguments kernel and reference compute the same seven gradients over the extended reals. -/
theorem algebraic : Cert.algebraic_SwaBwdIdeal_SwaBwdRefIdeal_pre_swa_finite := by
  intro m g m' g' hpre hagree
  refine ⟨fun c => (dats m 0 c).arrAt 10 (cfgs 0).N, fun c => (dats m 0 c).arrAt 11 (cfgs 0).N, fun c => (dats m 0 c).arrAt 12 (cfgs 0).N, fun c => (dats m 0 c).arrAt 13 (cfgs 0).N, fun c => (dats m 0 c).arrAt 14 (cfgs 0).N, fun c => (dats m 0 c).arrAt 15 (cfgs 0).N, fun c => (dats m 0 c).arrAt 16 (cfgs 0).N, ?_, ?_⟩
  · refine (θ_run Cert.SwaBwdIdeal.defs _ _).mono (fun r h c => ?_) (Cert.SwaBwdIdeal.Gen.run_main m g)
    refine ⟨(h c).1 10, (h c).1 11, (h c).1 12, (h c).1 13, (h c).1 14, (h c).1 15, (h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).2 main_arg6 (Pipeline.mem_restRefs_of main_arg6 (by decide) (by decide))).trans (V_main_arg6 m c),
      ((h c).1 9).trans (((dats m 0 c).arrAt_in 9 rfl _).trans ((A_eq m c 9).trans (V_main_arg7 m c))),
      ((h c).2 main_arg8 (Pipeline.mem_restRefs_of main_arg8 (by decide) (by decide))).trans (V_main_arg8 m c)⟩
  · refine (θ_run Cert.SwaBwdRefIdeal.defs _ _).mono (fun r h => ?_) (Cert.SwaBwdRefIdeal.Value.run (F := Ideal) m' g')
    intro c
    have H := reals_of_pre m hpre c
    obtain ⟨a0, a1, a2, a3, a4, a5, a6, a7, a8⟩ := hagree c
    refine ⟨(h c).1.trans ((Cert.SwaBwdRefIdeal.Read.val_main_v252_eq (StableHlo.launchContents m' c)).trans (Eq.trans ?_ (eq_10 H).symm)),
      (h c).2.1.trans ((Cert.SwaBwdRefIdeal.Read.val_main_v227_eq (StableHlo.launchContents m' c)).trans (Eq.trans ?_ (eq_11 H).symm)),
      (h c).2.2.1.trans ((Cert.SwaBwdRefIdeal.Read.val_main_v206_eq (StableHlo.launchContents m' c)).trans (Eq.trans ?_ (eq_12 H).symm)),
      (h c).2.2.2.1.trans ((Cert.SwaBwdRefIdeal.Read.val_main_v253_eq (StableHlo.launchContents m' c)).trans (Eq.trans ?_ (eq_13 H).symm)),
      (h c).2.2.2.2.1.trans ((Cert.SwaBwdRefIdeal.Read.val_main_v254_eq (StableHlo.launchContents m' c)).trans (Eq.trans ?_ (eq_14 H).symm)),
      (h c).2.2.2.2.2.1.trans ((Cert.SwaBwdRefIdeal.Read.val_main_v176_eq (StableHlo.launchContents m' c)).trans (Eq.trans ?_ (eq_15 H).symm)),
      (h c).2.2.2.2.2.2.1.trans ((Cert.SwaBwdRefIdeal.Read.val_main_v181_eq (StableHlo.launchContents m' c)).trans (Eq.trans ?_ (eq_16 H).symm)),
      (h c).2.2.2.2.2.2.2⟩
    · exact congr (congr (congr (congr (congr (congr (congr (congr (congrArg _ a0) a1) a2) a3) a4) a5) a6) a7) a8
    · exact congr (congr (congr (congr (congr (congr (congr (congrArg _ a0) a1) a2) a3) a4) a5) a6) a7
    · exact congr (congr (congr (congr (congr (congr (congrArg _ a0) a1) a3) a4) a5) a6) a7
    · exact congr (congr (congr (congr (congr (congr (congr (congrArg _ a0) a1) a2) a3) a4) a5) a6) a7
    · exact congr (congr (congr (congr (congr (congr (congr (congrArg _ a0) a1) a2) a3) a4) a5) a6) a7
    · exact congr (congr (congr (congr (congr (congr (congr (congrArg _ a0) a1) a2) a3) a4) a5) a6) a7
    · exact congr (congr (congr (congr (congr (congr (congr (congrArg _ a0) a1) a2) a3) a4) a5) a6) a7

end Cert.SwaBwdIdeal.Val
end
-- ==== Proof.GateBwd.Kernel.lean ====
/- What the backward kernel of the decay and write-strength gates writes, as functions of a row. -/
module

public import proofs.«01_k».proof.Proof.Gen.GateBwdIdeal.Frame
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateBwdIdeal.Val

open Cert.Common (soft pieces IsReal pieces_eq soft_real)
open Cert.GateBwdIdeal Cert.GateBwdIdeal.Gen

variable (m : (ℓ : Loc nD τ sig) → Buf (Elt Ideal) ℓ)

/-- The block of every window at every grid point. -/
theorem idx : ∀ t : Fin cfg0.N, win0_0.index t = ![t.val, 38]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 38]
    ∧ win0_10.index t = ![0, 0]
    ∧ win0_11.index t = ![0, 0] :=
  (by decide +kernel : ∀ t : Fin grid0.N, _)

/-- The programs' literal for infinity. -/
abbrev top : EReal := Ideal.ofBits FTy.f32 2139095040#32

/-- The softplus' derivative. -/
def slope (x : EReal) : EReal := Ideal.exp ((if x = top then 0 else x) - if soft x = top then 0 else soft x)

/-- The sigmoid's derivative. -/
def steep (x : EReal) : EReal := Ideal.logistic x * (1 - Ideal.logistic x)

/-- The gradient of the decay's argument `x` in a row, for the lanes that `s` selects. -/
def back (al dg s : Fin 512 → EReal) (x : EReal) : EReal := pieces (fun d => (0 - Ideal.exp (al d)) * dg d) s * slope x

/-- The softplus of a row, spread over the lanes by `s`. -/
def spread (ba dt s : Fin 128 → EReal) : EReal := pieces (fun x => soft (ba x + dt x)) s

theorem pay14_at (v6 : Vec Ideal S1024x128 .f32) (v10 : Vec Ideal S1x128 .f32) (r : Fin 1024) (k : Fin 128) :
    k0_pay14 v6 v10 (ix2 r k) = soft (v6 (ix2 r k) + v10 (ix2 0 k)) := by
  pointwise [k0_pay14, k0_pay13, k0_pay9, soft]
  simp only [zero_sub]

theorem pay17_at (v6 : Vec Ideal S1024x128 .f32) (v10 : Vec Ideal S1x128 .f32) (v4 : Vec Ideal S512x128 .f32) (v8 : Vec Ideal S1x512 .f32)
    (v59 : Vec Ideal S1024x512 .f32) (r : Fin 1024) (k : Fin 128) :
    k0_pay17 (k0_pay8 v4) (k0_pay12 v8) (k0_pay14 v6 v10) (k0_pay15 v6 v10) k0_pay16 v59 (ix2 r k)
      = back (fun d => v8 (ix2 0 d)) (fun d => v59 (ix2 r d)) (fun d => v4 (ix2 d k)) (v6 (ix2 r k) + v10 (ix2 0 k)) := by
  pointwise [k0_pay17, k0_pay16, k0_pay15, k0_pay13, k0_pay9, k0_pay12, k0_pay11, k0_pay8, pay14_at, back, slope, pieces]

theorem pay1_at (v6 : Vec Ideal S1024x128 .f32) (v58 : Vec Ideal S1024x512 .f32) (v78 : FVec Ideal S1024x128 .f32) (v2 : Vec Ideal S512x128 .f32)
    (r : Fin 1024) (k : Fin 128) :
    k0_pay1 (k0_pay10 v6) v58 v78 (k0_pay20 (k0_pay7 v2)) (k0_pay21 v58) (ix2 r k)
      = v78 (ix2 r k) + pieces (fun d => v58 (ix2 r d)) (fun d => v2 (ix2 d k)) * steep (v6 (ix2 r k)) := by
  pointwise [k0_pay1, k0_pay10, k0_pay9, k0_pay20, k0_pay7, k0_pay21, pieces, steep]

theorem pay18_at (v6 : Vec Ideal S1024x128 .f32) (v10 : Vec Ideal S1x128 .f32) (v4 : Vec Ideal S512x128 .f32) (v8 : Vec Ideal S1x512 .f32)
    (v59 : Vec Ideal S1024x512 .f32) (u : Fin 1) (k : Fin 128) :
    k0_pay18 (k0_pay8 v4) (k0_pay12 v8) (k0_pay14 v6 v10) (k0_pay15 v6 v10) k0_pay16 v59 (ix2 u k)
      = ∑ r, back (fun d => v8 (ix2 0 d)) (fun d => v59 (ix2 r d)) (fun d => v4 (ix2 d k)) (v6 (ix2 r k) + v10 (ix2 0 k)) := by
  pointwise [k0_pay18, pay17_at]

theorem pay19_at (v0 : Vec Ideal S128x512 .f32) (v6 : Vec Ideal S1024x128 .f32) (v10 : Vec Ideal S1x128 .f32) (v8 : Vec Ideal S1x512 .f32)
    (v59 : Vec Ideal S1024x512 .f32) (u : Fin 1) (d : Fin 512) :
    k0_pay19 (k0_pay6 v0) (k0_pay11 v8) (k0_pay14 v6 v10) v59 (ix2 u d)
      = (0 - ∑ r, v59 (ix2 r d) * spread (fun x => v6 (ix2 r x)) (fun x => v10 (ix2 0 x)) (fun x => v0 (ix2 x d))) * Ideal.exp (v8 (ix2 0 d)) := by
  pointwise [k0_pay19, k0_pay6, k0_pay11, pay14_at, spread, pieces]
  rw [show u = 0 from Subsingleton.elim _ _]

/-- The gates' columns of a row of the projection. -/
def cols (x : FVec Ideal S4096x4992 .f32) (r : Fin 4096) (k : Fin 128) : EReal := x (ix2 r ⟨4864 + k.val, by omega⟩)

theorem blk0 (c : Dev nD) (t : Fin cfg0.N) (a : Fin 1024) (r : Fin 4096) (hr : r.val = t.val * 1024 + a.val) :
    (fun k => iblk m c 0 t (ix2 a k)) = cols (V m c main_v1) r := by
  funext k
  refine congrArg (V m c main_v1) (?_ : ((cfg0.win 0).blk t).view.emb _ = _)
  funext q; fin_cases q <;> refine Fin.ext ?_ <;> blk_simp [idx t] <;> show _ = _ <;> simp <;> omega

theorem blk2 (c : Dev nD) (t : Fin cfg0.N) : (iblk m c 2 t : FVec Ideal S128x512 .f32) = V m c main_v25 := by
  funext i
  refine congrArg (V m c main_v25) (?_ : ((cfg0.win 2).blk t).view.emb _ = _)
  funext q; fin_cases q <;> refine Fin.ext ?_ <;> blk_simp [idx t] <;> show _ = _ <;> simp

theorem blk3 (c : Dev nD) (t : Fin cfg0.N) : (iblk m c 3 t : FVec Ideal S512x128 .f32) = V m c main_v26 := by
  funext i
  refine congrArg (V m c main_v26) (?_ : ((cfg0.win 3).blk t).view.emb _ = _)
  funext q; fin_cases q <;> refine Fin.ext ?_ <;> blk_simp [idx t] <;> show _ = _ <;> simp

theorem blk4 (c : Dev nD) (t : Fin cfg0.N) : (iblk m c 4 t : FVec Ideal S512x128 .f32) = V m c main_v27 := by
  funext i
  refine congrArg (V m c main_v27) (?_ : ((cfg0.win 4).blk t).view.emb _ = _)
  funext q; fin_cases q <;> refine Fin.ext ?_ <;> blk_simp [idx t] <;> show _ = _ <;> simp

theorem blk5 (c : Dev nD) (t : Fin cfg0.N) : (iblk m c 5 t : FVec Ideal S1x512 .f32) = V m c main_v3 := by
  funext i
  refine congrArg (V m c main_v3) (?_ : ((cfg0.win 5).blk t).view.emb _ = _)
  funext q; fin_cases q <;> refine Fin.ext ?_ <;> blk_simp [idx t] <;> show _ = _ <;> simp

theorem blk6 (c : Dev nD) (t : Fin cfg0.N) : (iblk m c 6 t : FVec Ideal S1x128 .f32) = V m c main_v5 := by
  funext i
  refine congrArg (V m c main_v5) (?_ : ((cfg0.win 6).blk t).view.emb _ = _)
  funext q; fin_cases q <;> refine Fin.ext ?_ <;> blk_simp [idx t] <;> show _ = _ <;> simp

theorem blk7 (c : Dev nD) (t : Fin cfg0.N) (a : Fin 1024) (r : Fin 4096) (hr : r.val = t.val * 1024 + a.val) :
    (fun k => iblk m c 7 t (ix2 a k)) = fun k => V m c main_arg4 (ix2 r k) := by
  funext k
  refine congrArg (V m c main_arg4) (?_ : ((cfg0.win 7).blk t).view.emb _ = _)
  funext q; fin_cases q <;> refine Fin.ext ?_ <;> blk_simp [idx t] <;> show _ = _ <;> simp <;> omega

theorem blk8 (c : Dev nD) (t : Fin cfg0.N) (a : Fin 1024) (r : Fin 4096) (hr : r.val = t.val * 1024 + a.val) :
    (fun k => iblk m c 8 t (ix2 a k)) = fun k => V m c main_arg5 (ix2 r k) := by
  funext k
  refine congrArg (V m c main_arg5) (?_ : ((cfg0.win 8).blk t).view.emb _ = _)
  funext q; fin_cases q <;> refine Fin.ext ?_ <;> blk_simp [idx t] <;> show _ = _ <;> simp <;> omega

/-- The gradient of the decay's argument in a row and a column. -/
def decay (P : FVec Ideal S4096x4992 .f32) (dt : FVec Ideal S1x128 .f32) (al : FVec Ideal S1x512 .f32) (A : FVec Ideal S512x128 .f32)
    (dg : FVec Ideal S4096x512 .f32) (r : Fin 4096) (k : Fin 128) : EReal :=
  back (fun d => al (ix2 0 d)) (fun d => dg (ix2 r d)) (fun d => A (ix2 d k)) (cols P r k + dt (ix2 0 k))

/-- The gradient of the gates' columns: the decay's part and the write strength's. -/
def grad (P : FVec Ideal S4096x4992 .f32) (dt : FVec Ideal S1x128 .f32) (al : FVec Ideal S1x512 .f32) (A B : FVec Ideal S512x128 .f32)
    (db dg : FVec Ideal S4096x512 .f32) (r : Fin 4096) (k : Fin 128) : EReal :=
  decay P dt al A dg r k + pieces (fun d => db (ix2 r d)) (fun d => B (ix2 d k)) * steep (cols P r k)

/-- A row's part of the decay base's gradient in a lane, before its sign and factor. -/
def basePart (P : FVec Ideal S4096x4992 .f32) (dt : FVec Ideal S1x128 .f32) (A : FVec Ideal S128x512 .f32)
    (dg : FVec Ideal S4096x512 .f32) (d : Fin 512) (r : Fin 4096) : EReal :=
  dg (ix2 r d) * spread (cols P r) (fun x => dt (ix2 0 x)) (fun x => A (ix2 x d))

theorem decay_blk (c : Dev nD) (t : Fin cfg0.N) (a : Fin 1024) (r : Fin 4096) (hr : r.val = t.val * 1024 + a.val) (k : Fin 128) :
    back (fun d => iblk m c 5 t (ix2 0 d)) (fun d => iblk m c 8 t (ix2 a d)) (fun d => iblk m c 4 t (ix2 d k)) (@HAdd.hAdd EReal EReal EReal _ (iblk m c 0 t (ix2 a k)) (iblk m c 6 t (ix2 0 k)))
      = decay (V m c main_v1) (V m c main_v5) (V m c main_v3) (V m c main_v27) (V m c main_arg5) r k := by
  rw [blk4, blk5, blk6, blk8 m c t a r hr]
  exact congrArg (fun x : EReal => back (fun d => V m c main_v3 (ix2 0 d)) (fun d => V m c main_arg5 (ix2 r d)) (fun d => V m c main_v27 (ix2 d k)) (x + V m c main_v5 (ix2 0 k))) (congrFun (blk0 m c t a r hr) k)

theorem cov : (cfg0.win 9).CoversWhere (fun β => 38 ≤ β 1) := by decide +kernel

set_option maxHeartbeats 2000000 in
/-- The gates' columns of the projection's cotangent after the run; elsewhere the argument's own contents. -/
theorem arr_9 (c : Dev nD) : (dats m 0 c).arrAt 9 (cfgs 0).N = fun i => if h : 4864 ≤ (i 1).val then
    grad (V m c main_v1) (V m c main_v5) (V m c main_v3) (V m c main_v27) (V m c main_v26) (V m c main_arg4) (V m c main_arg5) (i 0)
      ⟨(i 1).val - 4864, by have : (i 1).val < 4992 := (i 1).isLt; omega⟩ else V m c main_arg6 i := by
  refine ((dats m 0 c).arrAt_eq_of_coversWhere 9 (fun i => if h : 4864 ≤ (i 1).val then
    grad (V m c main_v1) (V m c main_v5) (V m c main_v3) (V m c main_v27) (V m c main_v26) (V m c main_arg4) (V m c main_arg5) (i 0)
      ⟨(i 1).val - 4864, by have : (i 1).val < 4992 := (i 1).isLt; omega⟩ else (0 : EReal))
      (P := fun i => 4864 ≤ (i 1).val) _ cov (fun t hf y => ?_) (fun j => ?_)).trans ?_
  · have ht : t.val < 4 := lt_of_lt_of_eq t.isLt N_0
    have key : ∀ y : S1024x128.Idx, k0_pay1 (k0_pay10 (iblk m c 0 t)) (iblk m c 7 t)
          (k0_pay17 (k0_pay8 (iblk m c 4 t)) (k0_pay12 (iblk m c 5 t)) (k0_pay14 (iblk m c 0 t) (iblk m c 6 t)) (k0_pay15 (iblk m c 0 t) (iblk m c 6 t)) k0_pay16 (iblk m c 8 t))
          (k0_pay20 (k0_pay7 (iblk m c 3 t))) (k0_pay21 (iblk m c 7 t)) y
        = if h : 4864 ≤ (((cfg0.win 9).blk t).view.emb y 1).val then
          grad (V m c main_v1) (V m c main_v5) (V m c main_v3) (V m c main_v27) (V m c main_v26) (V m c main_arg4) (V m c main_arg5)
            (((cfg0.win 9).blk t).view.emb y 0) ⟨(((cfg0.win 9).blk t).view.emb y 1).val - 4864, by have : (((cfg0.win 9).blk t).view.emb y 1).val < 4992 := (((cfg0.win 9).blk t).view.emb y 1).isLt; omega⟩ else (0 : EReal) := by
      intro y
      idx_vars y
      have hy0 := y0.isLt
      have hy1 := y1.isLt
      have e1 : (((cfg0.win 9).blk t).view.emb (ix2 y0 y1) 1).val = 38 * 128 + y1.val := by blk_simp [idx t]
      refine Eq.trans ?_ (dif_pos (by omega : 4864 ≤ (((cfg0.win 9).blk t).view.emb (ix2 y0 y1) 1).val)).symm
      rw [pay1_at, pay17_at, decay_blk m c t y0 ⟨t.val * 1024 + y0.val, by omega⟩ rfl y1, blk3, blk7 m c t y0 ⟨t.val * 1024 + y0.val, by omega⟩ rfl]
      have eb : iblk m c 0 t (ix2 y0 y1) = cols (V m c main_v1) ⟨t.val * 1024 + y0.val, by omega⟩ y1 := congrFun (blk0 m c t y0 ⟨t.val * 1024 + y0.val, by omega⟩ rfl) y1
      rw [eb]
      refine congrArg₂ (grad _ _ _ _ _ _ _) (Fin.ext ?_) (Fin.ext ?_)
      · show t.val * 1024 + y0.val = (((cfg0.win 9).blk t).view.emb (ix2 y0 y1) 0).val
        blk_simp [idx t]
      · show y1.val = (((cfg0.win 9).blk t).view.emb (ix2 y0 y1) 1).val - 4864
        omega
    refine Eq.trans ?_ (key y)
    by_cases h : t.val % 4 = 0
    · blk_simp; rw [after0_9, outsAt0_A m c t h]; frame_out
    · blk_simp; rw [after0_9, outsAt0_B m c t h]; frame_out
  · blk_simp [Pipeline.Window.cell_apply]
    omega
  · funext i
    by_cases h : 4864 ≤ (i 1).val
    · simp only [if_pos h, dif_pos h]
    · simp only [if_neg h, dif_neg h]
      rfl

theorem pay2_at (j : S1x512.Idx) : k0_pay2 (F := Ideal) j = 0 := by pointwise! [k0_pay2]

theorem pay3_at (j : S1x128.Idx) : k0_pay3 (F := Ideal) j = 0 := by pointwise! [k0_pay3]

theorem pay4_at (v83 : FVec Ideal S1x512 .f32) (v104 : Vec Ideal S1x512 .f32) (j : S1x512.Idx) : k0_pay4 v83 v104 j = v104 j + v83 j := by
  pointwise [k0_pay4]

theorem pay5_at (v80 : FVec Ideal S1x128 .f32) (v108 : Vec Ideal S1x128 .f32) (j : S1x128.Idx) : k0_pay5 v80 v108 j = v108 j + v80 j := by
  pointwise [k0_pay5]

set_option maxHeartbeats 2000000 in
/-- The decay base's gradient in every lane after the run: four blocks of rows, each with its sign and factor. -/
theorem arr_10 (c : Dev nD) : (dats m 0 c).arrAt 10 (cfgs 0).N = fun j => ∑ s : Fin 4,
    (0 - ∑ a : Fin 1024, basePart (V m c main_v1) (V m c main_v5) (V m c main_v25) (V m c main_arg5) (j 1) ⟨s.val * 1024 + a.val, by omega⟩)
      * Ideal.exp (V m c main_v3 (ix2 0 (j 1))) := by
  refine (dats m 0 c).arrAt_eq_of_covers 10 _ (by decide +kernel) fun t hf y => ?_
  blk_simp
  rw [after0_10, Pipeline.eq_sum_fin_of_reset_step_apply_of_flush (fun n h => (outsAt0 m c n h).2.1) 4 (fun _ => 0)
    (fun t j => k0_pay19 (k0_pay6 (iblk m c 2 t)) (k0_pay11 (iblk m c 5 t)) (k0_pay14 (iblk m c 0 t) (iblk m c 6 t)) (iblk m c 8 t) j)
    (fun t h j => by rw [outsAt0_A m c t h]; frame_out; rw [pay4_at, pay2_at])
    (fun t h j => by rw [outsAt0_B m c t h]; frame_out; rw [pay4_at])
    t ((flush0_10 t).mp hf) _, zero_add]
  have ht : t.val / 4 = 0 := by have := lt_of_lt_of_eq t.isLt N_0; omega
  idx_vars y
  have e1 : ((win0_10.blk t).view.emb (ix2 y0 y1) 1) = y1 := Fin.ext (by blk_simp [idx t])
  rw [e1]
  have key : ∀ s : Fin 4, ∀ h, k0_pay19 (k0_pay6 (iblk m c 2 ⟨4 * (t.val / 4) + s.val, h⟩)) (k0_pay11 (iblk m c 5 ⟨4 * (t.val / 4) + s.val, h⟩))
        (k0_pay14 (iblk m c 0 ⟨4 * (t.val / 4) + s.val, h⟩) (iblk m c 6 ⟨4 * (t.val / 4) + s.val, h⟩)) (iblk m c 8 ⟨4 * (t.val / 4) + s.val, h⟩) (ix2 y0 y1)
      = (0 - ∑ a : Fin 1024, basePart (V m c main_v1) (V m c main_v5) (V m c main_v25) (V m c main_arg5) y1 ⟨s.val * 1024 + a.val, by omega⟩)
        * Ideal.exp (V m c main_v3 (ix2 0 y1)) := by
    intro s h
    have hs : (4 * (t.val / 4) + s.val) = s.val := by omega
    rw [pay19_at, blk2, blk5, blk6]
    refine congrArg (fun x : EReal => (0 - x) * Ideal.exp (V m c main_v3 (ix2 0 y1))) (Finset.sum_congr rfl fun a _ => ?_)
    rw [blk0 m c _ a ⟨s.val * 1024 + a.val, by omega⟩ (by show s.val * 1024 + a.val = (4 * (t.val / 4) + s.val) * 1024 + a.val; rw [hs])]
    exact congrArg (fun x : EReal => x * spread (cols (V m c main_v1) ⟨s.val * 1024 + a.val, by omega⟩) (fun x => V m c main_v5 (ix2 0 x)) (fun x => V m c main_v25 (ix2 x y1)))
      (congrFun (blk8 m c _ a ⟨s.val * 1024 + a.val, by omega⟩ (by show s.val * 1024 + a.val = (4 * (t.val / 4) + s.val) * 1024 + a.val; rw [hs])) y1)
  exact (Finset.sum_congr rfl fun s _ => key s _).trans rfl

set_option maxHeartbeats 2000000 in
/-- The decay's gradient summed over the rows, in every column. -/
theorem arr_11 (c : Dev nD) : (dats m 0 c).arrAt 11 (cfgs 0).N = fun j => ∑ s : Fin 4, ∑ a : Fin 1024,
    decay (V m c main_v1) (V m c main_v5) (V m c main_v3) (V m c main_v27) (V m c main_arg5) ⟨s.val * 1024 + a.val, by omega⟩ (j 1) := by
  refine (dats m 0 c).arrAt_eq_of_covers 11 _ (by decide +kernel) fun t hf y => ?_
  blk_simp
  rw [after0_11, Pipeline.eq_sum_fin_of_reset_step_apply_of_flush (fun n h => (outsAt0 m c n h).2.2) 4 (fun _ => 0)
    (fun t j => k0_pay18 (k0_pay8 (iblk m c 4 t)) (k0_pay12 (iblk m c 5 t)) (k0_pay14 (iblk m c 0 t) (iblk m c 6 t)) (k0_pay15 (iblk m c 0 t) (iblk m c 6 t)) k0_pay16 (iblk m c 8 t) j)
    (fun t h j => by rw [outsAt0_A m c t h]; frame_out; rw [pay5_at, pay3_at])
    (fun t h j => by rw [outsAt0_B m c t h]; frame_out; rw [pay5_at])
    t ((flush0_11 t).mp hf) _, zero_add]
  have ht : t.val / 4 = 0 := by have := lt_of_lt_of_eq t.isLt N_0; omega
  idx_vars y
  have e1 : ((win0_11.blk t).view.emb (ix2 y0 y1) 1) = y1 := Fin.ext (by blk_simp [idx t])
  rw [e1]
  have key : ∀ s : Fin 4, ∀ h, k0_pay18 (k0_pay8 (iblk m c 4 ⟨4 * (t.val / 4) + s.val, h⟩)) (k0_pay12 (iblk m c 5 ⟨4 * (t.val / 4) + s.val, h⟩))
        (k0_pay14 (iblk m c 0 ⟨4 * (t.val / 4) + s.val, h⟩) (iblk m c 6 ⟨4 * (t.val / 4) + s.val, h⟩))
        (k0_pay15 (iblk m c 0 ⟨4 * (t.val / 4) + s.val, h⟩) (iblk m c 6 ⟨4 * (t.val / 4) + s.val, h⟩)) k0_pay16 (iblk m c 8 ⟨4 * (t.val / 4) + s.val, h⟩) (ix2 y0 y1)
      = ∑ a : Fin 1024, decay (V m c main_v1) (V m c main_v5) (V m c main_v3) (V m c main_v27) (V m c main_arg5) ⟨s.val * 1024 + a.val, by omega⟩ y1 := by
    intro s h
    have hs : (4 * (t.val / 4) + s.val) = s.val := by omega
    rw [pay18_at]
    exact Finset.sum_congr rfl fun a _ => decay_blk m c _ a ⟨s.val * 1024 + a.val, by omega⟩ (by show s.val * 1024 + a.val = (4 * (t.val / 4) + s.val) * 1024 + a.val; rw [hs]) y1
  exact (Finset.sum_congr rfl fun s _ => key s _).trans rfl

end Cert.GateBwdIdeal.Val
end
-- ==== Proof.GateFwd.Words.lean ====
/- Which lanes a row selects, computed in words. -/
module

public import Idealize.ShloMosaic.Lib.Pipeline.ValueKit
public import Idealize.ShloMosaic.Lib.Pointwise
public import Idealize.ShloMosaic.PureOps.Ideal.Laws

@[expose] public section

noncomputable section

open Idealize.ShloMosaic

namespace Cert.HeadWords

/-- Row `k` selects the lanes of head `k - 4`, computed in words. -/
theorem decay_word : ∀ (k : Fin 128) (d : Fin 512), IntOp.andi
        (IntOp.cmpi CmpIPredicate.sle (IntOp.muli (BitVec.ofNat 32 k.val) 128#32) (IntOp.addi (BitVec.ofNat 32 d.val) 512#32))
        (IntOp.cmpi CmpIPredicate.slt (IntOp.addi (BitVec.ofNat 32 d.val) 512#32)
          (IntOp.addi (IntOp.muli (BitVec.ofNat 32 k.val) 128#32) 128#32))
    = if k.val = d.val / 128 + 4 then 1#1 else 0#1 := by decide +kernel

/-- Row `k` selects the lanes of head `k`, computed in words. -/
theorem strength_word : ∀ (k : Fin 128) (d : Fin 512), IntOp.andi (IntOp.cmpi CmpIPredicate.sle (IntOp.muli (BitVec.ofNat 32 k.val) 128#32) (BitVec.ofNat 32 d.val))
        (IntOp.cmpi CmpIPredicate.slt (BitVec.ofNat 32 d.val)
          (IntOp.addi (IntOp.muli (BitVec.ofNat 32 k.val) 128#32) 128#32))
    = if k.val = d.val / 128 then 1#1 else 0#1 := by decide +kernel

end Cert.HeadWords
end
-- ==== Proof.GateBwd.Entry.lean ====
/- What the gates' kernel is entered with: the arguments laid out by the host. -/
module

public import proofs.«01_k».proof.Proof.GateBwd.Kernel
public import proofs.«01_k».proof.Proof.Common
public import proofs.«01_k».proof.Proof.GateFwd.Words
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateBwdIdeal.Val

open Cert.HeadWords
open Cert.Common (soft pieces IsReal pieces_eq soft_real)
open Cert.GateBwdIdeal Cert.GateBwdIdeal.Gen

variable (m : (ℓ : Loc nD τ sig) → Buf (Elt Ideal) ℓ)

theorem v1_at (c : Dev nD) (r : Fin 4096) (k : Fin 128) : cols (V m c main_v1) r k =
    if h : k.val < 4 then (m ((c : Thread nD τ).loc main_arg0)) (ix2 r ⟨k.val, h⟩) else if h : k.val < 8 then (m ((c : Thread nD τ).loc main_arg1)) (ix2 r ⟨k.val - 4, by omega⟩) else (0 : EReal) := by
  unfold cols
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise [Cert.Common.sitofp_zero]
  by_cases h4 : k.val < 4
  · rw [dif_pos (by omega : k.val < 8), dif_pos h4, dif_pos h4]
  · rw [dif_neg h4]
    by_cases h8 : k.val < 8
    · rw [dif_pos h8, dif_pos h8, dif_neg h4]
    · rw [dif_neg h8, dif_neg h8]

theorem v3_at (c : Dev nD) (d : Fin 512) : V m c main_v3 (ix2 0 d) = (m ((c : Thread nD τ).loc main_arg2)) (ix2 0 ⟨d.val / 128, by omega⟩) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

theorem v5_at (c : Dev nD) (k : Fin 128) : V m c main_v5 (ix2 0 k) = if h : 4 ≤ k.val ∧ k.val < 8 then (m ((c : Thread nD τ).loc main_arg3)) (ix2 0 ⟨k.val - 4, by omega⟩) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise [Cert.Common.sitofp_zero]
  by_cases h8 : k.val < 8
  · rw [dif_pos h8]
    exact dite_congr (propext ⟨fun h => ⟨h.1, h8⟩, fun h => ⟨h.1, by omega⟩⟩) (fun _ => rfl) (fun _ => rfl)
  · rw [dif_neg h8, dif_neg (fun h => h8 h.2)]

/-- Which lanes belong to which row: row `k` selects the lanes of head `k - 4`. -/
def decayRows : FVec Ideal S128x512 .f32 :=
  select (andi (cmpi .sle (muli (iotaInDim S128x512 32 0) (broadcastInDim S128x512 ![] bcast_S_S128x512 (constantI S_ 32 128#32)))
      (addi (iotaInDim S128x512 32 1) (broadcastInDim S128x512 ![] bcast_S_S128x512 (constantI S_ 32 512#32))))
    (cmpi .slt (addi (iotaInDim S128x512 32 1) (broadcastInDim S128x512 ![] bcast_S_S128x512 (constantI S_ 32 512#32)))
      (addi (muli (iotaInDim S128x512 32 0) (broadcastInDim S128x512 ![] bcast_S_S128x512 (constantI S_ 32 128#32)))
        (broadcastInDim S128x512 ![] bcast_S_S128x512 (constantI S_ 32 128#32)))))
    (broadcastInDim S128x512 ![] bcast_S_S128x512 (constant S_ .f32 1065353216#32))
    (broadcastInDim S128x512 ![] bcast_S_S128x512 (constant S_ .f32 0#32))

/-- Which lanes belong to which row: row `k` selects the lanes of head `k`. -/
def strengthRows : FVec Ideal S128x512 .f32 :=
  select (andi (cmpi .sle (muli (iotaInDim S128x512 32 0) (broadcastInDim S128x512 ![] bcast_S_S128x512 (constantI S_ 32 128#32)))
      (iotaInDim S128x512 32 1))
    (cmpi .slt (iotaInDim S128x512 32 1)
      (addi (muli (iotaInDim S128x512 32 0) (broadcastInDim S128x512 ![] bcast_S_S128x512 (constantI S_ 32 128#32)))
        (broadcastInDim S128x512 ![] bcast_S_S128x512 (constantI S_ 32 128#32)))))
    (broadcastInDim S128x512 ![] bcast_S_S128x512 (constant S_ .f32 1065353216#32))
    (broadcastInDim S128x512 ![] bcast_S_S128x512 (constant S_ .f32 0#32))

theorem decayRows_at (k : Fin 128) (d : Fin 512) : decayRows (ix2 k d) = if k.val = d.val / 128 + 4 then (1 : EReal) else (0 : EReal) := by
  pointwise [decayRows]
  rw [decay_word k d]
  split_ifs <;> rfl

theorem strengthRows_at (k : Fin 128) (d : Fin 512) : strengthRows (ix2 k d) = if k.val = d.val / 128 then (1 : EReal) else (0 : EReal) := by
  pointwise [strengthRows]
  rw [strength_word k d]
  split_ifs <;> rfl

theorem v25_at (c : Dev nD) (k : Fin 128) (d : Fin 512) : V m c main_v25 (ix2 k d) = if k.val = d.val / 128 + 4 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  exact decayRows_at k d

theorem v27_at (c : Dev nD) (k : Fin 128) (d : Fin 512) : V m c main_v27 (ix2 d k) = if k.val = d.val / 128 + 4 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  exact decayRows_at k d

theorem v26_at (c : Dev nD) (k : Fin 128) (d : Fin 512) : V m c main_v26 (ix2 d k) = if k.val = d.val / 128 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  exact strengthRows_at k d

end Cert.GateBwdIdeal.Val
end
-- ==== Proof.GateBwd.Match.lean ====
/- The gates' selected sums: a head's lanes summed, and a lane's own head. -/
module

public import proofs.«01_k».proof.Proof.GateBwd.Entry
public import proofs.«01_k».proof.Proof.Gen.GateBwdRefIdeal.Read
public import Idealize.ShloMosaic.Lib.Pointwise

@[expose] public section

set_option maxRecDepth 16384

noncomputable section

open Idealize.ShloMosaic Idealize.ShloMosaic.TcCoe Idealize.SL.Sem

namespace Cert.GateBwdIdeal.Val

open Cert.Common (soft pieces IsReal pieces_eq soft_real)
open Cert.GateBwdIdeal Cert.GateBwdIdeal.Gen

/-- Lane `e` of head `h`. -/
def lane (h : Fin 4) (e : Fin 128) : Fin 512 := ⟨h.val * 128 + e.val, by omega⟩

/-- The lanes of one head, selected among all. -/
theorem lanes_sum (f : Fin 512 → EReal) (h : Fin 4) : ∑ d : Fin 512, f d * (if h.val = d.val / 128 then (1 : EReal) else 0) = ∑ e, f (lane h e) := by
  rw [← Fin.sum_mul_add_fin 4 128 (fun d : Fin 512 => f d * (if h.val = d.val / 128 then (1 : EReal) else 0)), Finset.sum_eq_single h]
  · refine Finset.sum_congr rfl fun e _ => ?_
    rw [if_pos (show h.val = (h.val * 128 + e.val) / 128 by omega), mul_one]
    rfl
  · intro b _ hb
    refine Finset.sum_eq_zero fun e _ => ?_
    rw [if_neg (fun q => hb (Fin.ext (by have : h.val = (b.val * 128 + e.val) / 128 := q; omega))), mul_zero]
  · exact fun hn => absurd (Finset.mem_univ _) hn

/-- No lane is selected by a row beyond the heads'. -/
theorem lanes_none (f : Fin 512 → EReal) (k : ℕ) (hk : 4 ≤ k) : ∑ d : Fin 512, f d * (if k = d.val / 128 then (1 : EReal) else 0) = 0 :=
  Finset.sum_eq_zero fun d _ => by rw [if_neg (by omega), mul_zero]

end Cert.GateBwdIdeal.Val
end
-- ==== Proof.GateBwd.Reads.lean ====
/- The gates' gradients as the reference computes them, and the kernel's arrays brought to the same form. -/
module

public import proofs.«01_k».proof.Proof.GateBwd.Match

@[expose] public section

set_option maxRecDepth 16384

noncomputable section

open Idealize.ShloMosaic Idealize.ShloMosaic.TcCoe Idealize.SL.Sem

namespace Cert.GateBwdIdeal.Val

open Cert.Common (soft pieces IsReal pieces_eq soft_real)
open Cert.GateBwdIdeal Cert.GateBwdIdeal.Gen Cert.GateBwdRefIdeal.Read

variable (b a : FVec Ideal Cert.GateBwdRefIdeal.S4096x4 .f32) (al dt : FVec Ideal Cert.GateBwdRefIdeal.S1x4 .f32) (db dg : FVec Ideal Cert.GateBwdRefIdeal.S4096x512 .f32)
  (pr : FVec Ideal Cert.GateBwdRefIdeal.S4096x4992 .bf16)

/-- The write strength's argument's gradient in a row and a head. -/
def dStrength (r : Fin 4096) (h : Fin 4) : EReal := (∑ e, db (ix2 r (lane h e))) * steep (b (ix2 r h))

/-- The decay's argument's gradient in a row and a head. -/
def dDecay (r : Fin 4096) (h : Fin 4) : EReal :=
  (∑ e, (0 - Ideal.exp (al (ix2 0 h))) * dg (ix2 r (lane h e))) * slope (a (ix2 r h) + dt (ix2 0 h))

/-- The decay base's gradient in a lane. -/
def dBase (d : Fin 512) : EReal :=
  (0 - ∑ r, dg (ix2 r d) * soft (a (ix2 r ⟨d.val / 128, by omega⟩) + dt (ix2 0 ⟨d.val / 128, by omega⟩))) * Ideal.exp (al (ix2 0 ⟨d.val / 128, by omega⟩))

theorem v17_at (r : Fin 4096) (h : Fin 4) : val_main_v17_0 (F := Ideal) a dt (ix2 r h) = soft (a (ix2 r h) + dt (ix2 0 h)) := by
  pointwise [val_main_v17_0, val_main_call0_v11, val_main_call0_v10, val_main_call0_v9, val_main_call0_v8, val_main_call0_v7, val_main_call0_v6, val_main_call0_v5,
   val_main_call0_v4, val_main_call0_v3, val_main_call0_v2, val_main_call0_v1, val_main_call0_v0, val_main_call0_cst, val_main_v16, val_main_v15, soft]

theorem v17_1_at (r : Fin 4096) (h : Fin 4) : val_main_v17_1 (F := Ideal) a dt (ix2 r h) = slope (a (ix2 r h) + dt (ix2 0 h)) := by
  pointwise [val_main_v17_1, val_main_call0_v21, val_main_call0_v20, val_main_call0_v19, val_main_call0_v18, val_main_call0_v17, val_main_call0_v16, val_main_call0_v15,
   val_main_call0_v14, val_main_call0_v13, val_main_call0_cst_0, val_main_call0_cst_1, val_main_call0_cst_2, val_main_call0_cst_3, val_main_v16, val_main_v15, v17_at, slope]

theorem v29_at (r : Fin 4096) (h : Fin 4) : val_main_v29 (F := Ideal) a al dt dg (ix2 r h) = dDecay a al dt dg r h := by
  pointwise [val_main_v29, val_main_v28, val_main_v27, val_main_v23, val_main_v22, val_main_v14, val_main_v13, val_main_v1, val_main_v0, val_main_cst_3, v17_1_at, dDecay, lane]
  simp only [zero_sub]

theorem v36_at (r : Fin 4096) (h : Fin 4) : val_main_v36 (F := Ideal) b db (ix2 r h) = dStrength b db r h := by
  pointwise [val_main_v36, val_main_v35, val_main_v34, val_main_v10, val_main_v9, val_main_v8, val_main_v7, val_main_v6, val_main_v5, val_main_v4, val_main_v3, val_main_v2,
    val_main_cst, val_main_cst_0, val_main_cst_1, val_main_cst_5, dStrength, steep, lane]
  rfl

theorem v33_at (u : Fin 1) (d : Fin 512) : val_main_v33 (F := Ideal) a al dt dg (ix2 u d) = dBase a al dt dg d := by
  pointwise [val_main_v33, val_main_v32, val_main_v26, val_main_v25, val_main_v24, val_main_v19, val_main_v18, val_main_v13, val_main_v1, val_main_v0, val_main_cst_2, v17_at, dBase]
  simp only [zero_sub]

theorem v42_at (u : Fin 1) (k : Fin 128) : val_main_v42 (F := Ideal) a al dt dg (ix2 u k) = if h : 4 ≤ k.val ∧ k.val < 8 then ∑ r, dDecay a al dt dg r ⟨k.val - 4, by omega⟩ else 0 := by
  pointwise [val_main_v42, val_main_call3_v0, val_main_c_6, val_main_v31, val_main_v30, val_main_cst_4, v29_at, Cert.Common.sitofp_zero]
  exact dite_congr (propext ⟨fun h => ⟨h.1, by omega⟩, fun h => ⟨h.1, by omega⟩⟩) (fun _ => rfl) (fun _ => rfl)

/-- The gates' columns of a row's gradient. -/
def dCols (r : Fin 4096) (j : ℕ) : EReal :=
  if h8 : j < 8 then if h4 : j < 4 then dStrength b db r ⟨j, h4⟩ else dDecay a al dt dg r ⟨j - 4, by omega⟩ else (0 : EReal)

theorem v41_at (r : Fin 4096) (k : Fin 4992) : val_main_v41 (F := Ideal) b a al dt db dg pr (ix2 r k) =
    @dite EReal (k.val < 4864) _ (fun _ => pr (ix2 r k)) (fun _ => dCols b a al dt db dg r (k.val - 4864)) := by
  pointwise [val_main_v41, val_main_v40, val_main_v39, val_main_v38, val_main_v37, val_main_call2_v0, val_main_c, v29_at, v36_at, Cert.Common.sitofp_zero, dCols]

theorem dCols_at (r : Fin 4096) (j : ℕ) : dCols b a al dt db dg r j =
    if h4 : j < 4 then dStrength b db r ⟨j, h4⟩ else if h8 : j < 8 then dDecay a al dt dg r ⟨j - 4, by omega⟩ else (0 : EReal) := by
  unfold dCols
  split_ifs <;> first | rfl | omega

end Cert.GateBwdIdeal.Val
end
-- ==== Proof.GateBwd.Equal.lean ====
/- The gates' backward kernel and the reference compute the same gradients. -/
module

public import proofs.«01_k».proof.Proof.GateBwd.Reads
public import proofs.«01_k».proof.Proof.Gen.GateBwd
public import proofs.«01_k».proof.Proof.Gen.Pre_gate_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.GateBwdIdeal.Val

open Cert.Common (soft pieces IsReal pieces_eq soft_real)
open Cert.GateBwdIdeal Cert.GateBwdIdeal.Gen Cert.GateBwdRefIdeal.Read

section Arrays

variable (b a : FVec Ideal Cert.GateBwdRefIdeal.S4096x4 .f32) (al dt : FVec Ideal Cert.GateBwdRefIdeal.S1x4 .f32) (db dg : FVec Ideal Cert.GateBwdRefIdeal.S4096x512 .f32)
  {P : FVec Ideal S4096x4992 .f32} {D : FVec Ideal S1x128 .f32} {L : FVec Ideal S1x512 .f32} {A B : FVec Ideal S512x128 .f32} {E : FVec Ideal S128x512 .f32}
  (hP : ∀ r k, cols P r k = if h : k.val < 4 then b (ix2 r ⟨k.val, h⟩) else if h : k.val < 8 then a (ix2 r ⟨k.val - 4, by omega⟩) else (0 : EReal))
  (hD : ∀ k : Fin 128, D (ix2 0 k) = if h : 4 ≤ k.val ∧ k.val < 8 then dt (ix2 0 ⟨k.val - 4, by omega⟩) else (0 : EReal))
  (hL : ∀ d : Fin 512, L (ix2 0 d) = al (ix2 0 ⟨d.val / 128, by omega⟩))
  (hA : ∀ (k : Fin 128) (d : Fin 512), A (ix2 d k) = if k.val = d.val / 128 + 4 then (1 : EReal) else (0 : EReal))
  (hE : ∀ (k : Fin 128) (d : Fin 512), E (ix2 k d) = if k.val = d.val / 128 + 4 then (1 : EReal) else (0 : EReal))
  (hB : ∀ (k : Fin 128) (d : Fin 512), B (ix2 d k) = if k.val = d.val / 128 then (1 : EReal) else (0 : EReal))
  (ra : ∀ y, IsReal (a y)) (rl : ∀ y, IsReal (al y)) (rt : ∀ y, IsReal (dt y)) (rb : ∀ y, IsReal (db y)) (rg : ∀ y, IsReal (dg y))

include hP hD hL hA rl rg in
/-- The kernel's gradient of the decay's argument is the heads' in their columns and zero elsewhere. -/
theorem decay_eq (r : Fin 4096) (k : Fin 128) : decay P D L A dg r k = if h : 4 ≤ k.val ∧ k.val < 8 then dDecay a al dt dg r ⟨k.val - 4, by omega⟩ else 0 := by
  have e : pieces (fun d => (0 - Ideal.exp (L (ix2 0 d))) * dg (ix2 r d)) (fun d => A (ix2 d k))
      = ∑ d, ((0 - Ideal.exp (L (ix2 0 d))) * dg (ix2 r d)) * A (ix2 d k) := by
    refine pieces_eq _ _ fun d => Or.inr ?_
    obtain ⟨p, hp⟩ := rl (ix2 0 ⟨d.val / 128, by omega⟩)
    obtain ⟨q, hq⟩ := rg (ix2 r d)
    refine ⟨(0 - Real.exp p) * q, ?_⟩
    show (0 - Ideal.exp (L (ix2 0 d))) * dg (ix2 r d) = _
    rw [hL, hp, hq, Ideal.exp_coe, ← EReal.coe_zero, ← EReal.coe_sub, ← EReal.coe_mul]
  rw [decay, back, e]
  by_cases h : 4 ≤ k.val ∧ k.val < 8
  · rw [dif_pos h, hP, dif_neg (by omega), dif_pos h.2, hD, dif_pos h]
    refine congrArg (· * slope (a (ix2 r ⟨k.val - 4, by omega⟩) + dt (ix2 0 ⟨k.val - 4, by omega⟩))) ?_
    refine (Finset.sum_congr rfl fun d _ => ?_).trans ((lanes_sum (fun d => (0 - Ideal.exp (L (ix2 0 d))) * dg (ix2 r d)) ⟨k.val - 4, by omega⟩).trans ?_)
    · rw [hA k d]
      exact congrArg _ (if_congr (show k.val = d.val / 128 + 4 ↔ k.val - 4 = d.val / 128 by omega) rfl rfl)
    · refine Finset.sum_congr rfl fun x _ => ?_
      rw [hL]
      exact congrArg (fun j => (0 - Ideal.exp (al (ix2 0 j))) * dg (ix2 r (lane ⟨k.val - 4, by omega⟩ x))) (Fin.ext (show ((k.val - 4) * 128 + x.val) / 128 = k.val - 4 by omega))
  · rw [dif_neg h]
    have z : ∀ d : Fin 512, ((0 - Ideal.exp (L (ix2 0 d))) * dg (ix2 r d)) * A (ix2 d k) = 0 := fun d => by
      rw [hA k d, if_neg (by omega), mul_zero]
    rw [Finset.sum_congr rfl fun d _ => z d, Finset.sum_const_zero, zero_mul]

include hP hB rb in
/-- The kernel's gradient of the write strength's argument likewise. -/
theorem strength_eq (r : Fin 4096) (k : Fin 128) : pieces (fun d => db (ix2 r d)) (fun d => B (ix2 d k)) * steep (cols P r k)
    = if h : k.val < 4 then dStrength b db r ⟨k.val, h⟩ else 0 := by
  rw [pieces_eq _ _ fun d => Or.inr (rb (ix2 r d))]
  by_cases h : k.val < 4
  · rw [dif_pos h, hP, dif_pos h]
    refine congrArg (· * steep (b (ix2 r ⟨k.val, h⟩))) ?_
    refine (Finset.sum_congr rfl fun d _ => ?_).trans (lanes_sum (fun d => db (ix2 r d)) ⟨k.val, h⟩)
    rw [hB k d]
  · rw [dif_neg h]
    have z : ∀ d : Fin 512, db (ix2 r d) * B (ix2 d k) = 0 := fun d => by
      rw [hB k d, if_neg (by omega), mul_zero]
    rw [Finset.sum_congr rfl fun d _ => z d, Finset.sum_const_zero, zero_mul]

include hP hD hL hA hB rl rg rb in
/-- Both together. -/
theorem grad_eq (r : Fin 4096) (k : Fin 128) : grad P D L A B db dg r k = if h4 : k.val < 4 then dStrength b db r ⟨k.val, h4⟩
    else if h8 : k.val < 8 then dDecay a al dt dg r ⟨k.val - 4, by omega⟩ else (0 : EReal) := by
  rw [grad, decay_eq b a al dt dg hP hD hL hA rl rg, strength_eq b a db hP hB rb]
  by_cases h4 : k.val < 4
  · rw [dif_pos h4, dif_pos h4, dif_neg (by omega), zero_add]
  · rw [dif_neg h4, dif_neg h4, add_zero]
    by_cases h8 : k.val < 8
    · rw [dif_pos h8, dif_pos (by omega)]
    · rw [dif_neg h8, dif_neg (by omega)]

include hP hD hE ra rt in
/-- The softplus that a lane reads is its own head's. -/
theorem spread_eq (r : Fin 4096) (d : Fin 512) : spread (cols P r) (fun x => D (ix2 0 x)) (fun x => E (ix2 x d))
    = soft (a (ix2 r ⟨d.val / 128, by omega⟩) + dt (ix2 0 ⟨d.val / 128, by omega⟩)) := by
  have at_ : ∀ x : Fin 128, 4 ≤ x.val ∧ x.val < 8 → ∀ j : Fin 4, x.val = j.val + 4 → cols P r x + D (ix2 0 x) = a (ix2 r j) + dt (ix2 0 j) := by
    intro x hx j hj
    rw [hP, dif_neg (by omega), dif_pos hx.2, hD, dif_pos hx]
    rw [show (⟨x.val - 4, by omega⟩ : Fin 4) = j from Fin.ext (by show x.val - 4 = j.val; omega)]
  rw [spread, pieces_eq, Finset.sum_eq_single (⟨d.val / 128 + 4, by omega⟩ : Fin 128)]
  · rw [hE, if_pos rfl, mul_one, at_ _ ⟨by show 4 ≤ d.val / 128 + 4; omega, by show d.val / 128 + 4 < 8; omega⟩ ⟨d.val / 128, by omega⟩ rfl]
  · intro x _ hx
    rw [hE, if_neg (fun q => hx (Fin.ext q)), mul_zero]
  · exact fun hn => absurd (Finset.mem_univ _) hn
  · intro x
    by_cases q : x.val = d.val / 128 + 4
    · refine Or.inr (soft_real ?_)
      rw [at_ x (by omega) ⟨d.val / 128, by omega⟩ q]
      obtain ⟨p, hp⟩ := ra (ix2 r ⟨d.val / 128, by omega⟩)
      obtain ⟨w, hw⟩ := rt (ix2 0 ⟨d.val / 128, by omega⟩)
      exact ⟨p + w, by rw [hp, hw, EReal.coe_add]⟩
    · exact Or.inl (by rw [hE, if_neg q])

include hP hD hL hE ra rl rt rg in
/-- The four blocks' parts of the decay base's gradient are the whole. -/
theorem base_eq (d : Fin 512) : ∑ s : Fin 4, (0 - ∑ x : Fin 1024, basePart P D E dg d ⟨s.val * 1024 + x.val, by omega⟩) * Ideal.exp (L (ix2 0 d)) = dBase a al dt dg d := by
  have real : ∀ r : Fin 4096, ∃ q : ℝ, dg (ix2 r d) * soft (a (ix2 r ⟨d.val / 128, by omega⟩) + dt (ix2 0 ⟨d.val / 128, by omega⟩)) = (q : EReal) := fun r => by
    obtain ⟨p, hp⟩ := ra (ix2 r ⟨d.val / 128, by omega⟩)
    obtain ⟨w, hw⟩ := rt (ix2 0 ⟨d.val / 128, by omega⟩)
    obtain ⟨q, hq⟩ := rg (ix2 r d)
    obtain ⟨t, ht⟩ := soft_real (x := a (ix2 r ⟨d.val / 128, by omega⟩) + dt (ix2 0 ⟨d.val / 128, by omega⟩)) ⟨p + w, by rw [hp, hw, EReal.coe_add]⟩
    exact ⟨q * t, by rw [hq, ht, EReal.coe_mul]⟩
  choose f hf using real
  obtain ⟨l, hl⟩ := rl (ix2 0 ⟨d.val / 128, by omega⟩)
  have part : ∀ r : Fin 4096, basePart P D E dg d r = (f r : EReal) := fun r => by
    rw [basePart, spread_eq b a dt hP hD hE ra rt, hf]
  rw [dBase, Finset.sum_congr rfl fun r _ => hf r, hL, hl, Ideal.exp_coe, Cert.Common.coe_sum]
  have blk : ∀ s : Fin 4, (0 - ∑ x : Fin 1024, basePart P D E dg d ⟨s.val * 1024 + x.val, by omega⟩) * ((Real.exp l : ℝ) : EReal)
      = (((0 - ∑ x : Fin 1024, f ⟨s.val * 1024 + x.val, by omega⟩) * Real.exp l : ℝ) : EReal) := fun s => by
    rw [Finset.sum_congr rfl fun x _ => part _, Cert.Common.coe_sum, ← EReal.coe_zero, ← EReal.coe_sub, ← EReal.coe_mul]
  rw [Finset.sum_congr rfl fun s _ => blk s, Cert.Common.coe_sum, ← EReal.coe_zero, ← EReal.coe_sub, ← EReal.coe_mul]
  refine congrArg _ ?_
  rw [← Finset.sum_mul, ← Fin.sum_mul_add_fin 4 1024 f, Finset.sum_sub_distrib, Finset.sum_const_zero]

end Arrays

variable (m : (ℓ : Loc nD τ sig) → Buf (Elt Ideal) ℓ) (c : Dev nD)

/-- The arguments that have to be real numbers are. -/
structure Reals : Prop where
  ha : ∀ y, IsReal ((m ((c : Thread nD τ).loc main_arg1)) y)
  hl : ∀ y, IsReal ((m ((c : Thread nD τ).loc main_arg2)) y)
  ht : ∀ y, IsReal ((m ((c : Thread nD τ).loc main_arg3)) y)
  hb : ∀ y, IsReal ((m ((c : Thread nD τ).loc main_arg4)) y)
  hg : ∀ y, IsReal ((m ((c : Thread nD τ).loc main_arg5)) y)

variable {m c} (H : Reals m c)
include H

/-- The projection's cotangent. -/
theorem eq_9 : (dats m 0 c).arrAt 9 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (arr_9 m c).trans (funext fun y => ?_)
  idx_vars y
  refine Eq.trans ?_ (v41_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y0 y1).symm
  rw [V_main_arg4 m c, V_main_arg5 m c, V_main_arg6 m c]
  by_cases h : y1.val < 4864
  · refine (dif_neg (show ¬4864 ≤ y1.val by omega)).trans (Eq.symm ?_)
    exact dif_pos (c := y1.val < 4864) (t := fun _ => (m ((c : Thread nD τ).loc main_arg6)) (ix2 y0 y1)) h
  refine (dif_pos (show 4864 ≤ y1.val by omega)).trans (Eq.trans ?_ (dif_neg (α := EReal) h).symm)
  refine Eq.trans ?_ (dCols_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) y0 (y1.val - 4864)).symm
  exact grad_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (v1_at m c) (v5_at m c) (v3_at m c) (v27_at m c) (v26_at m c) H.hl H.hb H.hg y0 ⟨y1.val - 4864, by omega⟩

/-- The decay base's gradient. -/
theorem eq_10 : (dats m 0 c).arrAt 10 (cfgs 0).N = val_main_v33 (F := Ideal) (m ((c : Thread nD τ).loc main_arg1)) (m ((c : Thread nD τ).loc main_arg2)) (m ((c : Thread nD τ).loc main_arg3)) (m ((c : Thread nD τ).loc main_arg5)) := by
  refine (arr_10 m c).trans (funext fun y => ?_)
  idx_vars y
  refine Eq.trans ?_ (v33_at (m ((c : Thread nD τ).loc main_arg1)) (m ((c : Thread nD τ).loc main_arg2)) (m ((c : Thread nD τ).loc main_arg3)) (m ((c : Thread nD τ).loc main_arg5)) y0 y1).symm
  rw [V_main_arg5 m c]
  exact base_eq (m ((c : Thread nD τ).loc main_arg0)) (m ((c : Thread nD τ).loc main_arg1)) (m ((c : Thread nD τ).loc main_arg2)) (m ((c : Thread nD τ).loc main_arg3)) (m ((c : Thread nD τ).loc main_arg5)) (v1_at m c) (v5_at m c) (v3_at m c) (v25_at m c) H.ha H.hl H.ht H.hg y1

/-- The decay offset's gradient. -/
theorem eq_11 : (dats m 0 c).arrAt 11 (cfgs 0).N = val_main_v42 (F := Ideal) (m ((c : Thread nD τ).loc main_arg1)) (m ((c : Thread nD τ).loc main_arg2)) (m ((c : Thread nD τ).loc main_arg3)) (m ((c : Thread nD τ).loc main_arg5)) := by
  refine (arr_11 m c).trans (funext fun y => ?_)
  idx_vars y
  refine Eq.trans ?_ (v42_at (m ((c : Thread nD τ).loc main_arg1)) (m ((c : Thread nD τ).loc main_arg2)) (m ((c : Thread nD τ).loc main_arg3)) (m ((c : Thread nD τ).loc main_arg5)) y0 y1).symm
  rw [V_main_arg5 m c]
  show ∑ s : Fin 4, ∑ a : Fin 1024, decay (V m c main_v1) (V m c main_v5) (V m c main_v3) (V m c main_v27) (m ((c : Thread nD τ).loc main_arg5)) ⟨s.val * 1024 + a.val, by omega⟩ y1 = _
  rw [Fin.sum_mul_add_fin 4 1024 (fun r : Fin 4096 => decay (V m c main_v1) (V m c main_v5) (V m c main_v3) (V m c main_v27) (m ((c : Thread nD τ).loc main_arg5)) r y1),
    Finset.sum_congr rfl fun r _ => decay_eq (m ((c : Thread nD τ).loc main_arg0)) (m ((c : Thread nD τ).loc main_arg1)) (m ((c : Thread nD τ).loc main_arg2)) (m ((c : Thread nD τ).loc main_arg3)) (m ((c : Thread nD τ).loc main_arg5)) (v1_at m c) (v5_at m c) (v3_at m c) (v27_at m c) H.hl H.hg r y1]
  by_cases h : 4 ≤ y1.val ∧ y1.val < 8
  · rw [dif_pos h]
    exact Finset.sum_congr rfl fun r _ => dif_pos h
  · rw [dif_neg h]
    exact Finset.sum_eq_zero fun r _ => dif_neg h

end Cert.GateBwdIdeal.Val

namespace Cert.GateBwdIdeal.Val

open Cert.Common (soft pieces IsReal pieces_eq soft_real)
open Cert.GateBwdIdeal Cert.GateBwdIdeal.Gen Cert.GateBwdRefIdeal.Read

/-- The reference runs, leaves its arguments as they were and every counter at zero. -/
theorem frame_ref : Cert.quiescent_GateBwdRefIdeal := fun m g _ =>
  (θ_run Cert.GateBwdRefIdeal.defs _ _).mono (fun r h => ⟨fun c => (h c).2.2.2, sem_eq_zero_of_no_sems (by decide) r.2⟩)
    (Cert.GateBwdRefIdeal.Value.run (F := Ideal) m g)

/-- The precondition says that five arguments are real numbers. -/
theorem reals_of_pre (m : (ℓ : Loc nD τ sig) → Buf (Elt Ideal) ℓ) (hpre : Cert.Pre_GateBwdIdeal_gate_finite m) (c : Dev nD) : Reals m c := by
  obtain ⟨a0, e0⟩ := Cert.Common.real_of_finite _ _ (fun _ => rfl) (hpre c).1
  obtain ⟨a1, e1⟩ := Cert.Common.real_of_finite _ _ (fun _ => rfl) (hpre c).2.1
  obtain ⟨a2, e2⟩ := Cert.Common.real_of_finite _ _ (fun _ => rfl) (hpre c).2.2.1
  obtain ⟨a3, e3⟩ := Cert.Common.real_of_finite _ _ (fun _ => rfl) (hpre c).2.2.2.1
  obtain ⟨a4, e4⟩ := Cert.Common.real_of_finite _ _ (fun _ => rfl) (hpre c).2.2.2.2
  exact ⟨fun y => ⟨_, congrFun e0 y⟩, fun y => ⟨_, congrFun e1 y⟩, fun y => ⟨_, congrFun e2 y⟩, fun y => ⟨_, congrFun e3 y⟩, fun y => ⟨_, congrFun e4 y⟩⟩

set_option maxHeartbeats 4000000 in
/-- On finite arguments kernel and reference compute the same gates' gradients over the extended reals. -/
theorem algebraic : Cert.algebraic_GateBwdIdeal_GateBwdRefIdeal_pre_gate_finite := by
  intro m g m' g' hpre hagree
  refine ⟨fun c => (dats m 0 c).arrAt 9 (cfgs 0).N, fun c => (dats m 0 c).arrAt 10 (cfgs 0).N, fun c => (dats m 0 c).arrAt 11 (cfgs 0).N, ?_, ?_⟩
  · refine (θ_run Cert.GateBwdIdeal.defs _ _).mono (fun r h c => ?_) (Cert.GateBwdIdeal.Gen.run_main m g)
    refine ⟨(h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).2 main_arg6 (Pipeline.mem_restRefs_of main_arg6 (by decide) (by decide))).trans (V_main_arg6 m c)⟩
  · refine (θ_run Cert.GateBwdRefIdeal.defs _ _).mono (fun r h => ?_) (Cert.GateBwdRefIdeal.Value.run (F := Ideal) m' g')
    intro c
    have H := reals_of_pre m hpre c
    obtain ⟨a0, a1, a2, a3, a4, a5, a6⟩ := hagree c
    refine ⟨(h c).1.trans ((Cert.GateBwdRefIdeal.Read.val_main_v41_eq m' c).trans (Eq.trans ?_ (eq_9 H).symm)),
      (h c).2.1.trans ((Cert.GateBwdRefIdeal.Read.val_main_v33_eq _ _ _ _).trans (Eq.trans ?_ (eq_10 H).symm)),
      (h c).2.2.1.trans ((Cert.GateBwdRefIdeal.Read.val_main_v42_eq _ _ _ _).trans (Eq.trans ?_ (eq_11 H).symm)),
      (h c).2.2.2⟩
    · exact congr (congr (congr (congr (congr (congr (congrArg _ a0) a1) a2) a3) a4) a5) a6
    · exact congr (congr (congr (congrArg _ a1) a2) a3) a5
    · exact congr (congr (congr (congrArg _ a1) a2) a3) a5

end Cert.GateBwdIdeal.Val
end
-- ==== Proof.SwaFwd.Body.lean ====
/- What the attention kernel computes of a block of queries, from the blocks that it is given. -/
module

public import proofs.«01_k».proof.Proof.Gen.SwaFwdIdeal.Frame
public import proofs.«01_k».proof.Proof.SwaBwd.Band
public import proofs.«01_k».proof.Proof.SwaBwd.Stores
public import Idealize.ShloMosaic.Lib.Claim

@[expose] public section

set_option maxRecDepth 16384

noncomputable section

open Idealize.ShloMosaic Idealize.ShloMosaic.TcCoe Idealize.SL.Sem

namespace Cert.SwaFwdIdeal.Val

open Cert.SwaFwdIdeal Cert.SwaFwdIdeal.Gen
open Cert.SwaBwdIdeal.Val
open Cert.Common (meanSq)

/-- The blocks that a point is given: queries, keys of the block before and of the block, values likewise, the two gains,
    the sinks, the band of biases. -/
structure Ins where
  b0 : Vec Ideal S128x512 .f32
  b1 : Vec Ideal S128x128 .f32
  b2 : Vec Ideal S128x128 .f32
  b3 : Vec Ideal S128x128 .f32
  b4 : Vec Ideal S128x128 .f32
  b5 : Vec Ideal S1x64 .f32
  b6 : Vec Ideal S1x64 .f32
  b7 : Vec Ideal S1x8 .f32
  b8 : Vec Ideal S1x8x128x256 .f32

variable (X : Ins)

/-- The block of queries as functions of its rows; there is no cotangent here. -/
def blk : Blk where
  q h i d := X.b0 (ix2 i ⟨h.val * 64 + d.val, by omega⟩)
  k h j d := if hj : j.val < 128 then X.b1 (ix2 ⟨j.val, hj⟩ ⟨h.val / 4 * 64 + d.val, by omega⟩) else X.b2 (ix2 ⟨j.val - 128, by omega⟩ ⟨h.val / 4 * 64 + d.val, by omega⟩)
  v h j d := if hj : j.val < 128 then X.b3 (ix2 ⟨j.val, hj⟩ ⟨h.val / 4 * 64 + d.val, by omega⟩) else X.b4 (ix2 ⟨j.val - 128, by omega⟩ ⟨h.val / 4 * 64 + d.val, by omega⟩)
  qg d := X.b5 (ix2 0 d)
  kg d := X.b6 (ix2 0 d)
  s h := X.b7 (ix2 0 h)
  b h i j := X.b8 (ix4 0 h i j)
  y _ _ _ := 0

/-- The stacked heads of the queries, keys and values, the sinks, and the scores. -/
def heads : FVec Ideal S8x128x64 .f32 :=
  k0_pay4 (View.ld X.b0 (Rect.unit ![0, 0] ![128, 64] inb_S128x512_S128x64_0_0)) (View.ld X.b0 (Rect.unit ![0, 64] ![128, 64] inb_S128x512_S128x64_0_64)) (View.ld X.b0 (Rect.unit ![0, 128] ![128, 64] inb_S128x512_S128x64_0_128)) (View.ld X.b0 (Rect.unit ![0, 192] ![128, 64] inb_S128x512_S128x64_0_192)) (View.ld X.b0 (Rect.unit ![0, 256] ![128, 64] inb_S128x512_S128x64_0_256)) (View.ld X.b0 (Rect.unit ![0, 320] ![128, 64] inb_S128x512_S128x64_0_320)) (View.ld X.b0 (Rect.unit ![0, 384] ![128, 64] inb_S128x512_S128x64_0_384)) (View.ld X.b0 (Rect.unit ![0, 448] ![128, 64] inb_S128x512_S128x64_0_448))
def keys : FVec Ideal S8x256x64 .f32 :=
  k0_pay9 (k0_pay5 (View.ld X.b1 (Rect.unit ![0, 0] ![128, 64] inb_S128x128_S128x64_0_0)) (View.ld X.b2 (Rect.unit ![0, 0] ![128, 64] inb_S128x128_S128x64_0_0))) (View.ld X.b1 (Rect.unit ![0, 64] ![128, 64] inb_S128x128_S128x64_0_64)) (View.ld X.b2 (Rect.unit ![0, 64] ![128, 64] inb_S128x128_S128x64_0_64))
def vals : FVec Ideal S8x256x64 .f32 :=
  k0_pay10 (k0_pay6 (View.ld X.b3 (Rect.unit ![0, 0] ![128, 64] inb_S128x128_S128x64_0_0)) (View.ld X.b4 (Rect.unit ![0, 0] ![128, 64] inb_S128x128_S128x64_0_0))) (k0_pay7 (View.ld X.b3 (Rect.unit ![0, 64] ![128, 64] inb_S128x128_S128x64_0_64)) (View.ld X.b4 (Rect.unit ![0, 64] ![128, 64] inb_S128x128_S128x64_0_64)))
def sinks : FVec Ideal S8x1x1 .f32 :=
  k0_pay8 (View.ld X.b7 (Rect.unit ![0, 0] ![1, 1] inb_S1x8_S1x1_0_0)) (View.ld X.b7 (Rect.unit ![0, 1] ![1, 1] inb_S1x8_S1x1_0_1)) (View.ld X.b7 (Rect.unit ![0, 2] ![1, 1] inb_S1x8_S1x1_0_2)) (View.ld X.b7 (Rect.unit ![0, 3] ![1, 1] inb_S1x8_S1x1_0_3)) (View.ld X.b7 (Rect.unit ![0, 4] ![1, 1] inb_S1x8_S1x1_0_4)) (View.ld X.b7 (Rect.unit ![0, 5] ![1, 1] inb_S1x8_S1x1_0_5)) (View.ld X.b7 (Rect.unit ![0, 6] ![1, 1] inb_S1x8_S1x1_0_6)) (View.ld X.b7 (Rect.unit ![0, 7] ![1, 1] inb_S1x8_S1x1_0_7))
def scores : FVec Ideal S8x128x256 .f32 := k0_pay12 (heads X) (keys X) X.b5 X.b6
def out : FVec Ideal S8x128x64 .f32 := k0_pay13 (sinks X) (vals X) (k0_pay11 X.b8) (scores X)

theorem heads_at (h : Fin 8) (i : Fin 128) (d : Fin 64) : heads X (ix3 h i d) = X.b0 (ix2 i ⟨h.val * 64 + d.val, by omega⟩) := by
  fin_cases h <;> pointwise [heads, k0_pay4]

theorem keys_at (h : Fin 8) (j : Fin 256) (d : Fin 64) : keys X (ix3 h j d) = (blk X).k h j d := by
  fin_cases h <;> pointwise [keys, k0_pay9, k0_pay5] <;> (simp only [blk]; congr! 6 <;> simp)

theorem vals_at (h : Fin 8) (j : Fin 256) (d : Fin 64) : vals X (ix3 h j d) = (blk X).v h j d := by
  fin_cases h <;> pointwise [vals, k0_pay10, k0_pay6, k0_pay7] <;> (simp only [blk]; congr! 6 <;> simp)

theorem sinks_at (h : Fin 8) : sinks X (ix3 h 0 0) = X.b7 (ix2 0 h) := by
  fin_cases h <;> pointwise [sinks, k0_pay8]

theorem scores_at (h : Fin 8) (i : Fin 128) (j : Fin 256) : scores X (ix3 h i j) = ∑ d, (blk X).qn h i d * (blk X).kn h j d := by
  have e : ∀ h i d, heads X (ix3 h i d) = (blk X).q h i d := fun h i d => heads_at X h i d
  have e' := fun h j d => keys_at X h j d
  pointwise [scores, k0_pay12, e, e', Blk.qn, Blk.kn, unit, meanSq]
  rfl

/-- The kernel's weighted sum of a block's values. -/
def outK (B : Blk) (h : Fin 8) (i : Fin 128) (d : Fin 64) : EReal := ∑ j, B.p h i j * B.inv h i * B.v h j d

theorem out_at (h : Fin 8) (i : Fin 128) (d : Fin 64) : out X (ix3 h i d) = outK (blk X) h i d := by
  have e := fun i j => scores_at X h i j
  have e1 := fun j d => vals_at X h j d
  have e2 : sinks X (ix3 h 0 0) = (blk X).s h := sinks_at X h
  pointwise [out, k0_pay13, k0_pay11, e, e1, e2]
  rw [lit_neg_inf]
  rfl

end Cert.SwaFwdIdeal.Val
end
-- ==== Proof.SwaFwd.Entry.lean ====
/- The arrays that the attention kernel is started on, and its blocks, from the arguments. -/
module

public import proofs.«01_k».proof.Proof.SwaFwd.Body

@[expose] public section

set_option maxRecDepth 16384

noncomputable section

open Idealize.ShloMosaic Idealize.ShloMosaic.TcCoe Idealize.SL.Sem

namespace Cert.SwaFwdIdeal.Val

open Cert.SwaFwdIdeal Cert.SwaFwdIdeal.Gen
open Cert.SwaBwdIdeal.Val
open Cert.Common (meanSq)
open Idealize.ShloMosaic.Pipeline (Dat)

variable (m : (ℓ : Loc nD τ sig) → Buf (Elt Ideal) ℓ)

/-- The block of every window at every grid point. -/
theorem idx : ∀ t : Fin cfg0.N, win0_0.index t = ![t.val, 8]
    ∧ win0_1.index t = ![t.val - 1, 36]
    ∧ win0_2.index t = ![t.val, 36]
    ∧ win0_3.index t = ![t.val - 1, 37]
    ∧ win0_4.index t = ![t.val, 37]
    ∧ win0_5.index t = ![0, 0]
    ∧ win0_6.index t = ![0, 0]
    ∧ win0_7.index t = ![0, 0]
    ∧ win0_8.index t = ![1 - t.val, 0, 0, 0]
    ∧ win0_9.index t = ![t.val, 0] :=
  (by decide +kernel : ∀ t : Fin grid0.N, _)

/-- Queries, keys and values stand side by side in the projections, behind 4096 columns. -/
theorem V1q (c : Dev nD) (r : Fin 4096) (j : Fin 512) (h : 4096 + j.val < 4992) :
    V m c main_v1 (ix2 r ⟨4096 + j.val, h⟩) = m ((c : Thread nD τ).loc main_arg0) (ix2 r j) := by
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  exact dif_pos (by omega)

theorem V1k (c : Dev nD) (r : Fin 4096) (j : Fin 128) (h : 4608 + j.val < 4992) :
    V m c main_v1 (ix2 r ⟨4608 + j.val, h⟩) = m ((c : Thread nD τ).loc main_arg1) (ix2 r j) := by
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  refine (dif_pos ⟨by omega, by omega⟩).trans ((dif_neg (by omega)).trans ((dif_pos (by omega)).trans (congrArg (fun k : Fin 128 => m ((c : Thread nD τ).loc main_arg1) (ix2 r k)) (Fin.ext ?_))))
  show 4608 + j.val - 4096 - 512 = j.val; omega

theorem V1v (c : Dev nD) (r : Fin 4096) (j : Fin 128) (h : 4736 + j.val < 4992) :
    V m c main_v1 (ix2 r ⟨4736 + j.val, h⟩) = m ((c : Thread nD τ).loc main_arg2) (ix2 r j) := by
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  refine (dif_pos ⟨by omega, by omega⟩).trans ((dif_neg (by omega)).trans ((dif_neg (by omega)).trans (congrArg (fun k : Fin 128 => m ((c : Thread nD τ).loc main_arg2) (ix2 r k)) (Fin.ext ?_))))
  show 4736 + j.val - 4096 - 512 - 128 = j.val; omega

/-- The biases of the later blocks and of the first, minus infinity at the keys that a query does not see. -/
theorem V36a (c : Dev nD) (n : Fin 32) (hn : n.val ≠ 0) (h : Fin 8) (i : Fin 128) (j : Fin 256) : V m c main_v36 (ix4 0 h i j)
    = Scalar.select (seen n i j) (m ((c : Thread nD τ).loc main_arg6) (ix3 h i j) : EReal) (Ideal.ofBits .f32 4286578688#32) := by
  rw [← seen_later n hn]
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  rfl

theorem V36b (c : Dev nD) (n : Fin 32) (hn : n.val = 0) (h : Fin 8) (i : Fin 128) (j : Fin 256) : V m c main_v36 (ix4 1 h i j)
    = Scalar.select (seen n i j) (m ((c : Thread nD τ).loc main_arg6) (ix3 h i j) : EReal) (Ideal.ofBits .f32 4286578688#32) := by
  rw [← seen_first n hn]
  simp only [V, hostOps0, hostOps0_1, hostOps0_3, hostOps0_5, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise [Cert.Common.sitofp_zero]
  rfl

/-- The blocks of a point. -/
abbrev ins (c : Dev nD) (t : Fin cfg0.N) : Ins :=
  ⟨X0_0 m c t, iblk m c 1 t, iblk m c 2 t, iblk m c 3 t, iblk m c 4 t, iblk m c 5 t, iblk m c 6 t, iblk m c 7 t, iblk m c 8 t⟩

/-- The arguments that the kernel is called on. -/
abbrev args (c : Dev nD) : Arg :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), fun _ => 0⟩

theorem in0 (c : Dev nD) (t : Fin cfg0.N) (n : Fin 32) (hn : n.val = t.val) (i : Fin 128) (d : Fin 512) :
    X0_0 m c t (ix2 i d) = (args m c).q (ix2 (tok n i) d) := by
  unfold X0_0 Pipeline.Window.fill
  rw [dif_pos (moved0_0 t _)]
  refine Eq.trans (congrArg (V m c main_v1) (?_ : ((cfg0.win 0).blk t).view.emb _ = ix2 (tok n i) (⟨4096 + d.val, by omega⟩ : Fin 4992))) (V1q m c _ _ _)
  funext q; fin_cases q <;> refine Fin.ext ?_ <;> blk_simp [idx t] <;> show _ = _ <;> simp <;> omega

theorem in1 (c : Dev nD) (t : Fin cfg0.N) (r : Fin 4096) (i : Fin 128) (hr : r.val = 128 * (t.val - 1) + i.val) (d : Fin 128) :
    iblk m c 1 t (ix2 i d) = (args m c).k (ix2 r d) := by
  refine Eq.trans (congrArg (V m c main_v1) (?_ : ((cfg0.win 1).blk t).view.emb _ = ix2 r (⟨4608 + d.val, by omega⟩ : Fin 4992))) (V1k m c _ _ _)
  funext q; fin_cases q <;> refine Fin.ext ?_ <;> blk_simp [idx t] <;> show _ = _ <;> simp <;> omega

theorem in2 (c : Dev nD) (t : Fin cfg0.N) (r : Fin 4096) (i : Fin 128) (hr : r.val = 128 * t.val + i.val) (d : Fin 128) :
    iblk m c 2 t (ix2 i d) = (args m c).k (ix2 r d) := by
  refine Eq.trans (congrArg (V m c main_v1) (?_ : ((cfg0.win 2).blk t).view.emb _ = ix2 r (⟨4608 + d.val, by omega⟩ : Fin 4992))) (V1k m c _ _ _)
  funext q; fin_cases q <;> refine Fin.ext ?_ <;> blk_simp [idx t] <;> show _ = _ <;> simp <;> omega

theorem in3 (c : Dev nD) (t : Fin cfg0.N) (r : Fin 4096) (i : Fin 128) (hr : r.val = 128 * (t.val - 1) + i.val) (d : Fin 128) :
    iblk m c 3 t (ix2 i d) = (args m c).v (ix2 r d) := by
  refine Eq.trans (congrArg (V m c main_v1) (?_ : ((cfg0.win 3).blk t).view.emb _ = ix2 r (⟨4736 + d.val, by omega⟩ : Fin 4992))) (V1v m c _ _ _)
  funext q; fin_cases q <;> refine Fin.ext ?_ <;> blk_simp [idx t] <;> show _ = _ <;> simp <;> omega

theorem in4 (c : Dev nD) (t : Fin cfg0.N) (r : Fin 4096) (i : Fin 128) (hr : r.val = 128 * t.val + i.val) (d : Fin 128) :
    iblk m c 4 t (ix2 i d) = (args m c).v (ix2 r d) := by
  refine Eq.trans (congrArg (V m c main_v1) (?_ : ((cfg0.win 4).blk t).view.emb _ = ix2 r (⟨4736 + d.val, by omega⟩ : Fin 4992))) (V1v m c _ _ _)
  funext q; fin_cases q <;> refine Fin.ext ?_ <;> blk_simp [idx t] <;> show _ = _ <;> simp <;> omega

theorem in5 (c : Dev nD) (t : Fin cfg0.N) (d : Fin 64) : iblk m c 5 t (ix2 0 d) = (args m c).qg (ix2 0 d) := by
  refine Eq.trans (congrArg (V m c main_arg3) (?_ : ((cfg0.win 5).blk t).view.emb _ = ix2 0 d)) (congrFun (V_main_arg3 m c) _)
  funext q; fin_cases q <;> refine Fin.ext ?_ <;> blk_simp [idx t]

theorem in6 (c : Dev nD) (t : Fin cfg0.N) (d : Fin 64) : iblk m c 6 t (ix2 0 d) = (args m c).kg (ix2 0 d) := by
  refine Eq.trans (congrArg (V m c main_arg4) (?_ : ((cfg0.win 6).blk t).view.emb _ = ix2 0 d)) (congrFun (V_main_arg4 m c) _)
  funext q; fin_cases q <;> refine Fin.ext ?_ <;> blk_simp [idx t]

theorem in7 (c : Dev nD) (t : Fin cfg0.N) (d : Fin 8) : iblk m c 7 t (ix2 0 d) = (args m c).s (ix2 0 d) := by
  refine Eq.trans (congrArg (V m c main_arg5) (?_ : ((cfg0.win 7).blk t).view.emb _ = ix2 0 d)) (congrFun (V_main_arg5 m c) _)
  funext q; fin_cases q <;> refine Fin.ext ?_ <;> blk_simp [idx t]

theorem in8 (c : Dev nD) (t : Fin cfg0.N) (n : Fin 32) (hn : n.val = t.val) (h : Fin 8) (i : Fin 128) (j : Fin 256) :
    iblk m c 8 t (ix4 0 h i j) = Scalar.select (seen n i j) ((args m c).b (ix3 h i j)) (Ideal.ofBits .f32 4286578688#32) := by
  by_cases h0 : n.val = 0
  · refine Eq.trans (congrArg (V m c main_v36) (?_ : ((cfg0.win 8).blk t).view.emb _ = ix4 1 h i j)) (V36b m c n h0 _ _ _)
    funext q; fin_cases q <;> refine Fin.ext ?_ <;> blk_simp [idx t] <;> show _ = _ <;> simp <;> omega
  · refine Eq.trans (congrArg (V m c main_v36) (?_ : ((cfg0.win 8).blk t).view.emb _ = ix4 0 h i j)) (V36a m c n h0 _ _ _)
    funext q; fin_cases q <;> refine Fin.ext ?_ <;> blk_simp [idx t] <;> show _ = _ <;> simp <;> omega

set_option maxHeartbeats 2000000 in
/-- The rows that a point works on are the argument's rows of its block. -/
theorem blk_ins (c : Dev nD) (t : Fin cfg0.N) (n : Fin 32) (hn : n.val = t.val) : blk (ins m c t) = (args m c).blk n := by
  have e0 : (blk (ins m c t)).q = ((args m c).blk n).q := by funext h i d; exact in0 m c t n hn _ _
  have e1 : (blk (ins m c t)).k = ((args m c).blk n).k := by
    funext h j d
    exact band_rows (iblk m c 1 t) (iblk m c 2 t) (fun r d => (args m c).k (ix2 r d)) n (fun r i hr d => in1 m c t r i (by rw [hr, hn]) d)
      (fun r i hr d => in2 m c t r i (by rw [hr, hn]) d) j (kvcol h d)
  have e2 : (blk (ins m c t)).v = ((args m c).blk n).v := by
    funext h j d
    exact band_rows (iblk m c 3 t) (iblk m c 4 t) (fun r d => (args m c).v (ix2 r d)) n (fun r i hr d => in3 m c t r i (by rw [hr, hn]) d)
      (fun r i hr d => in4 m c t r i (by rw [hr, hn]) d) j (kvcol h d)
  have e3 : (blk (ins m c t)).qg = ((args m c).blk n).qg := by funext d; exact in5 m c t d
  have e4 : (blk (ins m c t)).kg = ((args m c).blk n).kg := by funext d; exact in6 m c t d
  have e5 : (blk (ins m c t)).s = ((args m c).blk n).s := by funext d; exact in7 m c t d
  have e6 : (blk (ins m c t)).b = ((args m c).blk n).b := by funext h i j; exact in8 m c t n hn h i j
  have e7 : (blk (ins m c t)).y = ((args m c).blk n).y := rfl
  generalize blk (ins m c t) = B at *
  generalize (args m c).blk n = B' at *
  obtain ⟨⟩ := B; obtain ⟨⟩ := B'
  simp only at e0 e1 e2 e3 e4 e5 e6 e7
  subst e0 e1 e2 e3 e4 e5 e6 e7
  rfl

end Cert.SwaFwdIdeal.Val
end
-- ==== Proof.SwaFwd.Ref.lean ====
/- What the plain attention computes, entry by entry. -/
module

public import proofs.«01_k».proof.Proof.SwaBwd.Band
public import proofs.«01_k».proof.Proof.SwaBwd.Real
public import proofs.«01_k».proof.Proof.Gen.SwaFwdRefIdeal.Read

@[expose] public section

set_option maxRecDepth 16384

noncomputable section

open Idealize.ShloMosaic Idealize.ShloMosaic.TcCoe Idealize.SL.Sem

namespace Cert.SwaFwdRefIdeal.Val

open Cert.SwaFwdRefIdeal Cert.SwaFwdRefIdeal.Gen Cert.SwaFwdRefIdeal.Read
open Cert.SwaBwdIdeal.Val

variable (x0 : FVec Ideal S4096x512 .f32) (x1 x2 : FVec Ideal S4096x128 .f32) (x3 x4 : FVec Ideal S1x64 .f32) (x5 : FVec Ideal S1x8 .f32)
  (x6 : FVec Ideal S8x128x256 .f32)

/-- The rows of a block, of these arguments; there is no cotangent here. -/
abbrev arg : Arg := ⟨x0, x1, x2, x3, x4, x5, x6, fun _ => 0⟩
abbrev bk (n : Fin 32) : Blk := (arg x0 x1 x2 x3 x4 x5 x6).blk n

/-- The normed queries and keys. -/
theorem v15_at (r : Fin 4096) (h : Fin 8) (d : Fin 64) :
    val_main_v15 (F := Ideal) x0 x3 (ix3 r h d) = unit (fun d => x0 (ix2 r (col h d))) d * x3 (ix2 0 d) := by
  pointwise [val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1, unit, Cert.Common.meanSq]

theorem v29_at (r : Fin 4096) (c : Fin 2) (d : Fin 64) :
    val_main_v29 (F := Ideal) x1 x4 (ix3 r c d) = unit (fun d => x1 (ix2 r (kc c d))) d * x4 (ix2 0 d) := by
  pointwise [val_main_v29, val_main_v28, val_main_v27, val_main_v26, val_main_v25, val_main_v24, val_main_v23, val_main_v22, val_main_v21, val_main_v20, val_main_v19, val_main_v18, val_main_v17, val_main_v16, val_main_v1, val_main_cst_2, val_main_cst_3, val_main_cst_4, unit, Cert.Common.meanSq]

theorem v31_at (n : Fin 32) (i : Fin 128) (c : Fin 2) (g : Fin 4) (d : Fin 64) :
    val_main_v31 (F := Ideal) x0 x3 (ix5 n i c g d) = unit (fun d => x0 (ix2 (tok n i) (col (hd c g) d))) d * x3 (ix2 0 d) := by
  pointwise [val_main_v31, v15_at]

/-- The bands of keys and of values, zeros before the first block. -/
theorem v37_at (n : Fin 32) (j : Fin 256) (c : Fin 2) (d : Fin 64) :
    val_main_v37 (F := Ideal) x1 x4 (ix4 n j c d)
      = if n.val = 0 ∧ j.val < 128 then 0 else unit (fun d => x1 (ix2 (bandRow n j) (kc c d))) d * x4 (ix2 0 d) := by
  pointwise [val_main_v37, val_main_v36, val_main_v35, val_main_v34, val_main_v33, val_main_v32, val_main_cst_5, v29_at]
  exact band_row (fun r => unit (fun d => x1 (ix2 r (kc c d))) d * x4 (ix2 0 d)) n j

theorem v43_at (n : Fin 32) (j : Fin 256) (c : Fin 2) (d : Fin 64) :
    val_main_v43 (F := Ideal) x2 (ix4 n j c d) = if n.val = 0 ∧ j.val < 128 then 0 else x2 (ix2 (bandRow n j) (kc c d)) := by
  pointwise [val_main_v43, val_main_v42, val_main_v41, val_main_v40, val_main_v39, val_main_v38, val_main_cst_6, val_main_v30]
  exact band_row (fun r => x2 (ix2 r (kc c d))) n j

theorem v79_at (n : Fin 32) (i : Fin 128) (j : Fin 256) : val_main_v79 (F := Ideal) (ix3 n i j) = seen n i j := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_c, val_main_c_8, val_main_c_9, val_main_c_10, val_main_c_11, val_main_c_12]
  rw [started, seen, near]
  have h1 : ∀ a : BitVec 1, IntOp.andi a 1#1 = a := by decide
  have h0 : ∀ a : BitVec 1, IntOp.andi a 0#1 = 0#1 := by decide
  split
  · exact h0 _
  · exact h1 _

theorem bk_k (n : Fin 32) (c : Fin 2) (g : Fin 4) (j : Fin 256) : (bk x0 x1 x2 x3 x4 x5 x6 n).k (hd c g) j = fun d => x1 (ix2 (bandRow n j) (kc c d)) :=
  funext fun d => congrArg (fun q => x1 (ix2 (bandRow n j) q)) (kvcol_hd c g d)

theorem bk_v (n : Fin 32) (c : Fin 2) (g : Fin 4) (j : Fin 256) : (bk x0 x1 x2 x3 x4 x5 x6 n).v (hd c g) j = fun d => x2 (ix2 (bandRow n j) (kc c d)) :=
  funext fun d => congrArg (fun q => x2 (ix2 (bandRow n j) q)) (kvcol_hd c g d)

/-- The logits. -/
theorem v85_at (n : Fin 32) (c : Fin 2) (g : Fin 4) (i : Fin 128) (j : Fin 256) :
    val_main_v85 (F := Ideal) x0 x1 x3 x4 x6 (ix5 n c g i j) = (bk x0 x1 x2 x3 x4 x5 x6 n).logit (hd c g) i j := by
  pointwise [val_main_v85, val_main_v84, val_main_v83, val_main_v82, val_main_v81, val_main_v80, v79_at, val_main_v47, val_main_v46, val_main_cst_7, val_main_v45, val_main_v44, v37_at, v31_at, val_main_call0_v2, val_main_call0_v1, val_main_call0_v0, val_main_cst_13]
  rcases bit_cases (seen n i j) with hs | hs
  · rw [Arg.logit_masked (arg x0 x1 x2 x3 x4 x5 x6) n (hd c g) i j hs, hs]
    exact lit_neg_inf
  · have hz : ¬(n.val = 0 ∧ j.val < 128) := fun h => by rw [seen, if_pos h] at hs; exact absurd hs (by decide)
    have eb : (bk x0 x1 x2 x3 x4 x5 x6 n).b (hd c g) i j = x6 (ix3 (hd c g) i j) := by
      show Scalar.select (seen n i j) _ _ = _
      rw [hs]; rfl
    rw [Blk.logit, eb, hs]
    refine congrArg (· + _) ?_
    show (∑ d, _) * c8 = _
    rw [lit_c8, mul_comm, Cert.Common.mul_sum_of_nonneg _ _ (by norm_num)]
    refine Finset.sum_congr rfl fun d _ => ?_
    rw [if_neg hz, Blk.qn, Blk.kn, bk_k, lit_c8]
    show _ = unit (fun d => x0 (ix2 (tok n i) (col (hd c g) d))) d * x3 (ix2 0 d) * _ * (_ * x4 (ix2 0 d))
    ac_rfl

theorem v88_at (n : Fin 32) (c : Fin 2) (g : Fin 4) (i : Fin 128) :
    val_main_v88 (F := Ideal) x0 x1 x3 x4 x6 (ix4 n c g i) = (Finset.univ : Finset (Fin 256)).fold max ⊥ ((bk x0 x1 x2 x3 x4 x5 x6 n).logit (hd c g) i) := by
  pointwise [val_main_v88, val_main_cst_14, v85_at x0 x1 x2 x3 x4 x5 x6]
  rw [lit_neg_inf]

theorem v87_at (u : Fin 1) (c : Fin 2) (g : Fin 4) (v w : Fin 1) : val_main_v87 (F := Ideal) x5 (ix5 u c g v w) = x5 (ix2 0 (hd c g)) := by
  pointwise [val_main_v87, val_main_v86]

theorem v89_at (n : Fin 32) (c : Fin 2) (g : Fin 4) (i : Fin 128) (u : Fin 1) :
    val_main_v89 (F := Ideal) x0 x1 x3 x4 x6 (ix5 n c g i u) = val_main_v88 (F := Ideal) x0 x1 x3 x4 x6 (ix4 n c g i) := by
  pointwise [val_main_v89]

theorem v90_at (n : Fin 32) (c : Fin 2) (g : Fin 4) (i : Fin 128) (u : Fin 1) : val_main_v90 (F := Ideal) x5 (ix5 n c g i u) = x5 (ix2 0 (hd c g)) := by
  pointwise [val_main_v90, v87_at]

theorem bk_s (n : Fin 32) (h : Fin 8) : x5 (ix2 0 h) = (bk x0 x1 x2 x3 x4 x5 x6 n).s h := rfl

/-- The largest logit of a row, the sink among them. -/
theorem v91_at (n : Fin 32) (c : Fin 2) (g : Fin 4) (i : Fin 128) (u : Fin 1) :
    val_main_v91 (F := Ideal) x0 x1 x3 x4 x5 x6 (ix5 n c g i u) = (bk x0 x1 x2 x3 x4 x5 x6 n).top (hd c g) i := by
  rw [val_main_v91_apply, v89_at, v90_at, v88_at x0 x1 x2 x3 x4 x5 x6, Blk.top, ← bk_s]
  generalize (Finset.univ : Finset (Fin 256)).fold (max : EReal → EReal → EReal) ⊥ _ = A
  generalize x5 _ = B
  rfl

/-- The weights before they are divided, the sink's, and what they are divided by. -/
theorem v94_at (n : Fin 32) (c : Fin 2) (g : Fin 4) (i : Fin 128) (j : Fin 256) :
    val_main_v94 (F := Ideal) x0 x1 x3 x4 x5 x6 (ix5 n c g i j) = (bk x0 x1 x2 x3 x4 x5 x6 n).p (hd c g) i j := by
  pointwise [val_main_v94, val_main_v93, val_main_v92, v91_at x0 x1 x2 x3 x4 x5 x6, v85_at x0 x1 x2 x3 x4 x5 x6, Blk.p]

theorem v99_at (n : Fin 32) (c : Fin 2) (g : Fin 4) (i : Fin 128) (u : Fin 1) :
    val_main_v99 (F := Ideal) x0 x1 x3 x4 x5 x6 (ix5 n c g i u) = (bk x0 x1 x2 x3 x4 x5 x6 n).es (hd c g) i := by
  pointwise [val_main_v99, val_main_v98, val_main_v97, v87_at, v91_at x0 x1 x2 x3 x4 x5 x6, Blk.es, ← bk_s]

theorem v100_at (n : Fin 32) (c : Fin 2) (g : Fin 4) (i : Fin 128) (u : Fin 1) :
    val_main_v100 (F := Ideal) x0 x1 x3 x4 x5 x6 (ix5 n c g i u) = (bk x0 x1 x2 x3 x4 x5 x6 n).den (hd c g) i := by
  pointwise [val_main_v100, val_main_v96, val_main_v95, val_main_cst_15, v99_at x0 x1 x2 x3 x4 x5 x6, v94_at x0 x1 x2 x3 x4 x5 x6, Blk.den]

/-- The weighted sum of a block's values, in the kernel's order of factors: a masked key has the weight zero, so that the rows that the
    band has before the first block do not matter. -/
theorem v106_at (hA : ∀ n, (bk x0 x1 x2 x3 x4 x5 x6 n).Soft) (n : Fin 32) (i : Fin 128) (c : Fin 2) (g : Fin 4) (d : Fin 64) :
    val_main_v104 (F := Ideal) x0 x1 x2 x3 x4 x5 x6 (ix5 n i c g d)
      = ∑ j, (bk x0 x1 x2 x3 x4 x5 x6 n).p (hd c g) i j * (bk x0 x1 x2 x3 x4 x5 x6 n).inv (hd c g) i * (bk x0 x1 x2 x3 x4 x5 x6 n).v (hd c g) j d := by
  pointwise [val_main_v104, val_main_v103, val_main_v102, val_main_v101, v94_at x0 x1 x2 x3 x4 x5 x6, v100_at x0 x1 x2 x3 x4 x5 x6]
  refine Finset.sum_congr rfl fun j _ => ?_
  rw [v43_at, Blk.div_den (hA n), bk_v]
  by_cases hz : n.val = 0 ∧ j.val < 128
  · rw [Blk.p_masked (hA n) _ _ _ (Arg.logit_masked (arg x0 x1 x2 x3 x4 x5 x6) n _ i j (by rw [seen, if_pos hz]))]
    simp only [zero_mul, mul_zero]
  · rw [if_neg hz, mul_comm]

end Cert.SwaFwdRefIdeal.Val
end
-- ==== Proof.SwaFwd.Equal.lean ====
/- The attention kernel and the plain attention compute the same array. -/
module

public import proofs.«01_k».proof.Proof.SwaFwd.Entry
public import proofs.«01_k».proof.Proof.SwaFwd.Ref
public import proofs.«01_k».proof.Proof.Gen.SwaFwdIdeal.Value
public import proofs.«01_k».proof.Proof.Gen.SwaFwdRefIdeal.Run
public import proofs.«01_k».proof.Proof.Gen.Pre_swa_fwd_finite
public import proofs.«01_k».proof.Defs

@[expose] public section

set_option maxRecDepth 16384

noncomputable section

open Idealize.ShloMosaic Idealize.ShloMosaic.TcCoe Idealize.SL.Sem

namespace Cert.SwaFwdIdeal.Val

open Cert.SwaFwdIdeal Cert.SwaFwdIdeal.Gen
open Cert.SwaBwdIdeal.Val
open Cert.Common (meanSq)
open Idealize.ShloMosaic.Pipeline (Dat)

variable (m : (ℓ : Loc nD τ sig) → Buf (Elt Ideal) ℓ)

theorem head_at (A : FVec Ideal S8x1x1 .f32) (V : FVec Ideal S8x256x64 .f32) (B C : FVec Ideal S8x128x256 .f32) (i : Fin 128) (d : Fin 64) :
    k0_pay14 A V B C (ix2 i d) = k0_pay13 A V B C (ix3 0 i d) ∧ k0_pay15 A V B C (ix2 i d) = k0_pay13 A V B C (ix3 1 i d)
    ∧ k0_pay16 A V B C (ix2 i d) = k0_pay13 A V B C (ix3 2 i d) ∧ k0_pay17 A V B C (ix2 i d) = k0_pay13 A V B C (ix3 3 i d)
    ∧ k0_pay18 A V B C (ix2 i d) = k0_pay13 A V B C (ix3 4 i d) := by
  refine ⟨?_, ?_, ?_, ?_, ?_⟩
  · pointwise [k0_pay14]
  · pointwise [k0_pay15]
  · pointwise [k0_pay16]
  · pointwise [k0_pay17]
  · pointwise [k0_pay18]

theorem head_at' (G : FVec Ideal S8x128x64 .f32) (i : Fin 128) (d : Fin 64) :
    k0_pay1 G (ix2 i d) = G (ix3 5 i d) ∧ k0_pay2 G (ix2 i d) = G (ix3 6 i d) ∧ k0_pay3 G (ix2 i d) = G (ix3 7 i d) := by
  refine ⟨?_, ?_, ?_⟩
  · pointwise [k0_pay1]
  · pointwise [k0_pay2]
  · pointwise [k0_pay3]

/-- A stored head is a head of the block's result. -/
theorem stored (f : FVec Ideal S128x64 .bf16) (G : FVec Ideal S8x128x64 .f32) (h : Fin 8) (hf : ∀ i d, f (ix2 i d) = G (ix3 h i d)) :
    f = fun x => G (ix3 h (x 0) (x 1)) := funext fun x => by idx_vars x; exact hf _ _

set_option maxHeartbeats 2000000 in
theorem point_at (c : Dev nD) (t : Fin cfg0.N) (y : S128x512.Idx) :
    outsAt0 m c t y = out (ins m c t) (ix3 ⟨(y 1).val / 64, by have := (y 1).isLt; simp at this; omega⟩ (y 0) ⟨(y 1).val % 64, by omega⟩) := by
  unfold outsAt0; frame_out
  generalize hA : k0_pay8 (F := Ideal) _ _ _ _ _ _ _ _ = A
  generalize hV : k0_pay10 (F := Ideal) _ _ = V
  generalize hB : k0_pay11 (F := Ideal) _ = B
  generalize hC : k0_pay12 (F := Ideal) _ _ _ _ = C
  have hs : out (ins m c t) = k0_pay13 A V B C := by
    rw [← hA, ← hV, ← hB, ← hC]
    simp only [out, sinks, vals, scores, heads, keys]
  rw [hs]
  clear hs hA hV hB hC
  rw [stored _ _ 0 fun i d => (head_at A V B C i d).1, stored (k0_pay15 A V B C) _ 1 fun i d => (head_at A V B C i d).2.1,
    stored (k0_pay16 A V B C) _ 2 fun i d => (head_at A V B C i d).2.2.1, stored (k0_pay17 A V B C) _ 3 fun i d => (head_at A V B C i d).2.2.2.1,
    stored (k0_pay18 A V B C) _ 4 fun i d => (head_at A V B C i d).2.2.2.2, stored (k0_pay1 _) _ 5 fun i d => (head_at' _ i d).1,
    stored (k0_pay2 _) _ 6 fun i d => (head_at' _ i d).2.1, stored (k0_pay3 _) _ 7 fun i d => (head_at' _ i d).2.2]
  exact eight_stores (fun h x => k0_pay13 A V B C (ix3 h (x 0) (x 1))) _ _ _ _ _ _ _ _ y

/-- The attention's result, head by head. -/
def outAll (A : Arg) (r : Fin 4096) (j : Fin 512) : EReal :=
  outK (A.blk ⟨r.val / 128, by omega⟩) ⟨j.val / 64, by omega⟩ ⟨r.val % 128, by omega⟩ ⟨j.val % 64, by omega⟩

/-- The result after the run. -/
theorem arr_9 (c : Dev nD) : (dats m 0 c).arrAt 9 (cfgs 0).N = fun y => outAll (args m c) (y 0) (y 1) := by
  refine (dats m 0 c).arrAt_eq_of_covers 9 _ (by decide +kernel) fun t hf y => ?_
  have ht := lt_of_lt_of_eq t.isLt N_0
  blk_simp
  rw [after0_9]
  refine (point_at m c t y).trans ((out_at _ _ _ _).trans ?_)
  idx_vars y
  have e0 : ((win0_9.blk t).view.emb (ix2 y0 y1) 0).val = t.val * 128 + y0.val := by blk_simp [idx t]
  have e1 : ((win0_9.blk t).view.emb (ix2 y0 y1) 1).val = y1.val := by blk_simp [idx t]
  rw [blk_ins m c t ⟨((win0_9.blk t).view.emb (ix2 y0 y1) 0).val / 128, by omega⟩ (by show _ / 128 = t.val; omega)]
  unfold outAll
  refine congr (congr (congrArg (outK _) (Fin.ext ?_)) (Fin.ext ?_)) (Fin.ext ?_)
  · show y1.val / 64 = ((win0_9.blk t).view.emb (ix2 y0 y1) 1).val / 64; rw [e1]
  · show y0.val = ((win0_9.blk t).view.emb (ix2 y0 y1) 0).val % 128; omega
  · show y1.val % 64 = ((win0_9.blk t).view.emb (ix2 y0 y1) 1).val % 64; rw [e1]

open Cert.SwaFwdRefIdeal.Read Cert.SwaFwdRefIdeal.Val

/-- The plain result, head by head. -/
theorem ref_at (x0 : FVec Ideal S4096x512 .f32) (x1 x2 : FVec Ideal S4096x128 .f32) (x3 x4 : FVec Ideal S1x64 .f32) (x5 : FVec Ideal S1x8 .f32)
    (x6 : FVec Ideal S8x128x256 .f32) (hA : ∀ n, (bk x0 x1 x2 x3 x4 x5 x6 n).Soft) (r : Fin 4096) (j : Fin 512) :
    val_main_v106 (F := Ideal) x0 x1 x2 x3 x4 x5 x6 (ix2 r j) = outAll (arg x0 x1 x2 x3 x4 x5 x6) r j := by
  pointwise [val_main_v106, val_main_v105]
  refine Eq.trans ?_ ((v106_at x0 x1 x2 x3 x4 x5 x6 hA ⟨r.val / 128, by omega⟩ ⟨r.val % 128, by omega⟩ ⟨j.val / 64 / 4, by omega⟩ ⟨j.val / 64 % 4, by omega⟩ ⟨j.val % 64, by omega⟩).trans ?_)
  · refine congrArg _ ?_
    congr! 1 <;> refine Fin.ext ?_ <;> show _ = _ <;> simp <;> omega
  · unfold outAll outK
    have e : hd ⟨j.val / 64 / 4, by omega⟩ ⟨j.val / 64 % 4, by omega⟩ = ⟨j.val / 64, by omega⟩ := Fin.ext (by show j.val / 64 / 4 * 4 + j.val / 64 % 4 = j.val / 64; omega)
    rw [e]

/-- The reference runs, leaves its arguments as they were and every counter at zero. -/
theorem frame_ref : Cert.quiescent_SwaFwdRefIdeal := fun m g _ =>
  (θ_run Cert.SwaFwdRefIdeal.defs _ _).mono (fun r h => ⟨fun c => (h c).2, sem_eq_zero_of_no_sems (by decide) r.2⟩)
    (Cert.SwaFwdRefIdeal.Value.run (F := Ideal) m g)

/-- The precondition makes gains, sinks and biases real numbers, whatever queries, keys and values are. -/
theorem soft_of_pre (hpre : Cert.Pre_SwaFwdIdeal_swa_fwd_finite m) (c : Dev nD) (n : Fin 32) : ((args m c).blk n).Soft := by
  obtain ⟨a3, e3⟩ := Cert.Common.real_of_finite _ _ (fun _ => rfl) (hpre c).1
  obtain ⟨a4, e4⟩ := Cert.Common.real_of_finite _ _ (fun _ => rfl) (hpre c).2.1
  obtain ⟨a5, e5⟩ := Cert.Common.real_of_finite _ _ (fun _ => rfl) (hpre c).2.2.1
  obtain ⟨a6, e6⟩ := Cert.Common.real_of_finite _ _ (fun _ => rfl) (hpre c).2.2.2
  refine ⟨fun d => ⟨_, congrFun e3 (ix2 0 d)⟩, fun d => ⟨_, congrFun e4 (ix2 0 d)⟩, fun h => ⟨_, congrFun e5 (ix2 0 h)⟩, fun h i j => ?_⟩
  show Scalar.select (seen n i j) _ _ = (⊥ : EReal) ∨ IsR (Scalar.select (seen n i j) _ _)
  rcases bit_cases (seen n i j) with hs | hs
  · exact .inl (by rw [hs]; exact lit_neg_inf)
  · exact .inr (by rw [hs]; exact ⟨_, congrFun e6 (ix3 h i j)⟩)

set_option maxHeartbeats 4000000 in
/-- Where gains, sinks and biases are finite, kernel and reference compute the same array over the extended reals. -/
theorem algebraic : Cert.algebraic_SwaFwdIdeal_SwaFwdRefIdeal_pre_swa_fwd_finite := by
  intro m g m' g' hpre hagree
  refine ⟨fun c => (dats m 0 c).arrAt 9 (cfgs 0).N, Cert.SwaFwdIdeal.Value.run_blocks m g, ?_⟩
  refine (θ_run Cert.SwaFwdRefIdeal.defs _ _).mono (fun r h => ?_) (Cert.SwaFwdRefIdeal.Value.run (F := Ideal) m' g')
  intro c
  obtain ⟨a0, a1, a2, a3, a4, a5, a6⟩ := hagree c
  refine ⟨(h c).1.trans ((val_main_v106_eq m' c).trans (Eq.trans ?_ (arr_9 m c).symm)), (h c).2⟩
  refine Eq.trans (b := val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ?_ (funext fun y => ?_)
  · exact congr (congr (congr (congr (congr (congr (congrArg _ a0) a1) a2) a3) a4) a5) a6
  · idx_vars y
    exact ref_at _ _ _ _ _ _ _ (soft_of_pre m hpre c) y0 y1

end Cert.SwaFwdIdeal.Val
end
-- ==== Proof.ScanFwd.Recur.lean ====
/- The recurrence over the chunks, in plain sums. -/
module

public import proofs.«01_k».proof.Proof.Common

@[expose] public section

noncomputable section

namespace Cert.Scan

/-- What the recurrence reads of each chunk: decayed queries and keys, the two solved arrays, the causal scores and the chunk's decay. -/
structure Ins where
  qe : ℕ → Fin 4 → Fin 64 → Fin 128 → EReal
  kd : ℕ → Fin 4 → Fin 64 → Fin 128 → EReal
  u : ℕ → Fin 4 → Fin 64 → Fin 128 → EReal
  w : ℕ → Fin 4 → Fin 64 → Fin 128 → EReal
  qk : ℕ → Fin 4 → Fin 64 → Fin 64 → EReal
  e : ℕ → Fin 4 → EReal

abbrev St := Fin 4 → Fin 128 → Fin 128 → EReal

variable (a : Ins)

/-- The values of a chunk, corrected by what the state already predicts. -/
def fresh (S : St) (n : ℕ) (h : Fin 4) (c : Fin 64) (j : Fin 128) : EReal := a.u n h c j - ∑ k : Fin 128, a.w n h c k * S h k j

/-- The output of a chunk: what its queries read of the state, and of the chunk itself. -/
def out (S : St) (n : ℕ) (h : Fin 4) (c : Fin 64) (j : Fin 128) : EReal :=
  (∑ k : Fin 128, a.qe n h c k * S h k j) + ∑ s : Fin 64, a.qk n h c s * fresh a S n h s j

/-- The state after a chunk. -/
def next (S : St) (n : ℕ) : St := fun h i j => S h i j * a.e n h + ∑ c : Fin 64, a.kd n h c i * fresh a S n h c j

/-- The state before chunk `n`, from zero. -/
def state : ℕ → St
  | 0 => fun _ _ _ => 0
  | n + 1 => next a (state n) n

end Cert.Scan
end
-- ==== Proof.ScanFwd.Chain.lean ====
/- The kernel's body as one step, iterated over the sixteen chunks of a block. -/
module

public import proofs.«01_k».proof.Proof.ScanFwd.Recur
public import proofs.«01_k».proof.Proof.Gen.ScanFwdIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ScanFwdIdeal.Val

open Cert.ScanFwdIdeal Cert.ScanFwdIdeal.Gen

theorem inb2 (i h : ℕ) : ∀ a, (![64 * (i % 16), 128 * (h % 4)] : Fin 2 → ℕ) a + S64x128.size a ≤ S1024x512.size a := by
  intro a
  fin_cases a
  · show 64 * (i % 16) + 64 ≤ 1024
    omega
  · show 128 * (h % 4) + 128 ≤ 512
    omega

theorem inbP (i : ℕ) : ∀ a, (![0, 64 * (i % 16), 0] : Fin 3 → ℕ) a + S4x64x64.size a ≤ S4x1024x64.size a := by
  intro a
  fin_cases a
  · show 0 + 4 ≤ 4
    omega
  · show 64 * (i % 16) + 64 ≤ 1024
    omega
  · show 0 + 64 ≤ 64
    omega

theorem inbE (i : ℕ) : ∀ a, (![0, i % 16, 0, 0] : Fin 4 → ℕ) a + S4x1x1x128.size a ≤ S4x16x1x128.size a := by
  intro a
  fin_cases a
  · show 0 + 4 ≤ 4
    omega
  · show i % 16 + 1 ≤ 16
    omega
  · show 0 + 1 ≤ 1
    omega
  · show 0 + 128 ≤ 128
    omega

theorem inb7 (i : ℕ) : ∀ a, (![0, i % 16, 0, 0] : Fin 4 → ℕ) a + S4x1x128x128.size a ≤ S4x16x128x128.size a := by
  intro a
  fin_cases a
  · show 0 + 4 ≤ 4
    omega
  · show i % 16 + 1 ≤ 16
    omega
  · show 0 + 128 ≤ 128
    omega
  · show 0 + 128 ≤ 128
    omega

/-- What a body reads: the head's columns of a chunk's rows, the chunk's scores and its decay. -/
structure Loads where
  u : ℕ → ℕ → Vec Ideal S64x128 .f32
  w : ℕ → ℕ → Vec Ideal S64x128 .f32
  q : ℕ → ℕ → Vec Ideal S64x128 .f32
  k : ℕ → ℕ → Vec Ideal S64x128 .f32
  p : ℕ → Vec Ideal S4x64x64 .f32
  e : ℕ → Vec Ideal S4x1x1x128 .f32

/-- The four heads of a chunk, one after another. -/
def heads (x : ℕ → Vec Ideal S64x128 .f32) : FVec Ideal S4x64x128 .f32 :=
  concatenate S4x64x128 0 [⟨S1x64x128, shapeCast S1x64x128 (shapeCast S64x128 (x 0) shapeCasts_S64x128_S64x128) shapeCasts_S64x128_S1x64x128⟩,
    ⟨S1x64x128, shapeCast S1x64x128 (shapeCast S64x128 (x 1) shapeCasts_S64x128_S64x128) shapeCasts_S64x128_S1x64x128⟩,
    ⟨S1x64x128, shapeCast S1x64x128 (shapeCast S64x128 (x 2) shapeCasts_S64x128_S64x128) shapeCasts_S64x128_S1x64x128⟩,
    ⟨S1x64x128, shapeCast S1x64x128 (shapeCast S64x128 (x 3) shapeCasts_S64x128_S64x128) shapeCasts_S64x128_S1x64x128⟩]
    concatenates_S1x64x128_S1x64x128_S1x64x128_S1x64x128_S4x64x128_d0

variable (L : Loads)

/-- A chunk's corrected values. -/
def frs (S : Vec Ideal S4x128x128 .f32) (i : ℕ) : FVec Ideal S4x64x128 .f32 :=
  subf (heads (L.u i)) (matmul dot_S4x64x128_S4x128x128_S4x64x128_2_1_1_2_0_0 none (truncf .bf16 (heads (L.w i)) bitsLt_bf16_f32)
    (truncf .bf16 S bitsLt_bf16_f32) (constant S4x64x128 .f32 0x00000000#32))

/-- A chunk's output. -/
def oAt (S : Vec Ideal S4x128x128 .f32) (i : ℕ) : FVec Ideal S4x64x128 .f32 :=
  addf (matmul dot_S4x64x128_S4x128x128_S4x64x128_2_1_1_2_0_0 none (truncf .bf16 (heads (L.q i)) bitsLt_bf16_f32)
      (truncf .bf16 S bitsLt_bf16_f32) (constant S4x64x128 .f32 0x00000000#32))
    (matmul dot_S4x64x64_S4x64x128_S4x64x128_2_1_1_2_0_0 none (truncf .bf16 (shapeCast S4x64x64 (L.p i) shapeCasts_S4x64x64_S4x64x64) bitsLt_bf16_f32)
      (truncf .bf16 (frs L S i) bitsLt_bf16_f32) (constant S4x64x128 .f32 0x00000000#32))

/-- The state after a chunk. -/
def stp (S : Vec Ideal S4x128x128 .f32) (i : ℕ) : FVec Ideal S4x128x128 .f32 :=
  addf (mulf S (broadcastTo S4x128x128 (shapeCast S4x1x128 (L.e i) shapeCasts_S4x1x1x128_S4x1x128) broadcasts_S4x1x128_S4x128x128))
    (matmul dot_S4x64x128_S4x64x128_S4x128x128_1_1_2_2_0_0 none (truncf .bf16 (heads (L.k i)) bitsLt_bf16_f32)
      (truncf .bf16 (frs L S i) bitsLt_bf16_f32) (constant S4x128x128 .f32 0x00000000#32))

variable (S : Vec Ideal S4x128x128 .f32)

/-- The state before chunk `n` of the block. -/
def chain : ℕ → Vec Ideal S4x128x128 .f32
  | 0 => S
  | n + 1 => stp L (chain n) n

/-- The stores of the first `n` chunks' outputs, last first. -/
def pieces6 : ℕ → List (View.Piece (Elt Ideal) S1024x512 .f32)
  | 0 => []
  | n + 1 =>
    ⟨Rect.unit ![64 * (n % 16), 128 * (3 % 4)] S64x128.size (inb2 n 3), shapeCast S64x128 (extractStridedSlice S1x64x128 ![3, 0, 0] (oAt L (chain L S n) n) slices_S4x64x128_o3_0_0_S1x64x128) shapeCasts_S1x64x128_S64x128⟩ ::
    ⟨Rect.unit ![64 * (n % 16), 128 * (2 % 4)] S64x128.size (inb2 n 2), shapeCast S64x128 (extractStridedSlice S1x64x128 ![2, 0, 0] (oAt L (chain L S n) n) slices_S4x64x128_o2_0_0_S1x64x128) shapeCasts_S1x64x128_S64x128⟩ ::
    ⟨Rect.unit ![64 * (n % 16), 128 * (1 % 4)] S64x128.size (inb2 n 1), shapeCast S64x128 (extractStridedSlice S1x64x128 ![1, 0, 0] (oAt L (chain L S n) n) slices_S4x64x128_o1_0_0_S1x64x128) shapeCasts_S1x64x128_S64x128⟩ ::
    ⟨Rect.unit ![64 * (n % 16), 128 * (0 % 4)] S64x128.size (inb2 n 0), shapeCast S64x128 (extractStridedSlice S1x64x128 ![0, 0, 0] (oAt L (chain L S n) n) slices_S4x64x128_o0_0_0_S1x64x128) shapeCasts_S1x64x128_S64x128⟩ ::
    pieces6 n

/-- The stores of the states before the first `n` chunks, last first. -/
def pieces7 : ℕ → List (View.Piece (Elt Ideal) S4x16x128x128 .f32)
  | 0 => []
  | n + 1 => ⟨Rect.unit ![0, n % 16, 0, 0] S4x1x128x128.size (inb7 n), shapeCast S4x1x128x128 (chain L S n) shapeCasts_S4x128x128_S4x1x128x128⟩ :: pieces7 n

/-- The store of a state into the scratch. -/
abbrev lastPiece (S : Vec Ideal S4x128x128 .f32) : View.Piece (Elt Ideal) S4x128x128 .f32 :=
  ⟨Rect.unit ![0, 0, 0] ![4, 128, 128] inb_S4x128x128_S4x128x128_0_0_0, shapeCast S4x128x128 S shapeCasts_S4x128x128_S4x128x128⟩

section body

variable (c : Dev nD) (i : grid0.Coords) (arg1 : Memref sig .tc .vmem S1024x512 .f32) (harg1 : arg1.IsWhole) (arg2 : Memref sig .tc .vmem S1024x512 .f32) (harg2 : arg2.IsWhole)
  (arg3 : Memref sig .tc .vmem S1024x512 .f32) (harg3 : arg3.IsWhole) (arg4 : Memref sig .tc .vmem S1024x512 .f32) (harg4 : arg4.IsWhole) (arg5 : Memref sig .tc .vmem S4x1024x64 .f32) (harg5 : arg5.IsWhole)
  (arg6 : Memref sig .tc .vmem S4x16x1x128 .f32) (harg6 : arg6.IsWhole) (arg7 : Memref sig .tc .vmem S1024x512 .f32) (harg7 : arg7.IsWhole) (arg8 : Memref sig .tc .vmem S4x16x128x128 .f32) (harg8 : arg8.IsWhole)
  (arg9 : Memref sig .tc .vmem S4x128x128 .f32) (harg9 : arg9.IsWhole)
  (x0 x1 x2 x3 : Vec Ideal S1024x512 .f32) (x4 : Vec Ideal S4x1024x64 .f32) (x5 : Vec Ideal S4x16x1x128 .f32) (xs0 : Vec Ideal S4x128x128 .f32)

/-- A head's columns of a chunk's rows. -/
abbrev part {arg : Memref sig .tc .vmem S1024x512 .f32} (harg : arg.IsWhole) (x : Vec Ideal S1024x512 .f32) (n h : ℕ) : Vec Ideal S64x128 .f32 :=
  View.readAt (Elt Ideal) arg.view (Rect.unit (s := S1024x512) ![64 * (n % 16), 128 * (h % 4)] S64x128.size (inb2 n h)).toLoadRect (harg.unread x)

/-- What the body reads of its blocks. -/
abbrev loads : Loads where
  u := part harg1 x0
  w := part harg2 x1
  q := part harg3 x2
  k := part harg4 x3
  p n := View.readAt (Elt Ideal) arg5.view (Rect.unit (s := S4x1024x64) ![0, 64 * (n % 16), 0] S4x64x64.size (inbP n)).toLoadRect (harg5.unread x4)
  e n := View.readAt (Elt Ideal) arg6.view (Rect.unit (s := S4x16x1x128) ![0, n % 16, 0, 0] S4x1x1x128.size (inbE n)).toLoadRect (harg6.unread x5)

/-- The state the body starts from where it is carried. -/
abbrev carried : Vec Ideal S4x128x128 .f32 :=
  View.readAt (Elt Ideal) arg9.view (Rect.unit (s := S4x128x128) ![0, 0, 0] S4x128x128.size inb_S4x128x128_S4x128x128_0_0_0).toLoadRect (harg9.unread xs0)

set_option maxHeartbeats 2000000 in
/-- Where the state is carried, the body's stores of outputs, states and the last state. -/
theorem runB (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 x5 xs0).1 = pieces6 (loads arg1 harg1 arg2 harg2 arg3 harg3 arg4 harg4 arg5 harg5 arg6 harg6 x0 x1 x2 x3 x4 x5) (carried arg9 harg9 xs0) 16
    ∧ (kernelRun0_B (F := Ideal) c i arg1 harg1 arg2 harg2 arg3 harg3 arg4 harg4 arg5 harg5 arg6 harg6 arg7 harg7 arg8 harg8 arg9 harg9 hc0 x0 x1 x2 x3 x4 x5 xs0).2.1 = pieces7 (loads arg1 harg1 arg2 harg2 arg3 harg3 arg4 harg4 arg5 harg5 arg6 harg6 x0 x1 x2 x3 x4 x5) (carried arg9 harg9 xs0) 16
    ∧ (kernelRun0_B (F := Ideal) c i arg1 harg1 arg2 harg2 arg3 harg3 arg4 harg4 arg5 harg5 arg6 harg6 arg7 harg7 arg8 harg8 arg9 harg9 hc0 x0 x1 x2 x3 x4 x5 xs0).2.2.1 = [lastPiece (chain (loads arg1 harg1 arg2 harg2 arg3 harg3 arg4 harg4 arg5 harg5 arg6 harg6 x0 x1 x2 x3 x4 x5) (carried arg9 harg9 xs0) 16)] := by
  refine ⟨?_, ?_, ?_⟩
  · sl_kernel_rfl
  · sl_kernel_rfl
  · sl_kernel_rfl

set_option maxHeartbeats 2000000 in
/-- The same at a first point, which starts from the state it has just set. -/
theorem runA (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4 x5).1 = pieces6 (loads arg1 harg1 arg2 harg2 arg3 harg3 arg4 harg4 arg5 harg5 arg6 harg6 x0 x1 x2 x3 x4 x5) (kernelRun0_A.sl.v3 c arg9) 16
    ∧ (kernelRun0_A (F := Ideal) c i arg1 harg1 arg2 harg2 arg3 harg3 arg4 harg4 arg5 harg5 arg6 harg6 arg7 harg7 arg8 harg8 arg9 harg9 hc0 x0 x1 x2 x3 x4 x5).2.1 = pieces7 (loads arg1 harg1 arg2 harg2 arg3 harg3 arg4 harg4 arg5 harg5 arg6 harg6 x0 x1 x2 x3 x4 x5) (kernelRun0_A.sl.v3 c arg9) 16
    ∧ (kernelRun0_A (F := Ideal) c i arg1 harg1 arg2 harg2 arg3 harg3 arg4 harg4 arg5 harg5 arg6 harg6 arg7 harg7 arg8 harg8 arg9 harg9 hc0 x0 x1 x2 x3 x4 x5).2.2.1 = lastPiece (chain (loads arg1 harg1 arg2 harg2 arg3 harg3 arg4 harg4 arg5 harg5 arg6 harg6 x0 x1 x2 x3 x4 x5) (kernelRun0_A.sl.v3 c arg9) 16) :: kernelRun0_A.sl.HS0_1 := by
  refine ⟨?_, ?_, ?_⟩
  · sl_kernel_rfl
  · sl_kernel_rfl
  · sl_kernel_rfl

end body

end Cert.ScanFwdIdeal.Val
end
-- ==== Proof.ScanFwd.Step.lean ====
/- The block's chain of states and its stores, entry by entry. -/
module

public import proofs.«01_k».proof.Proof.ScanFwd.Chain

@[expose] public section

set_option maxRecDepth 16384

noncomputable section

open Idealize.ShloMosaic Idealize.ShloMosaic.TcCoe Idealize.SL.Sem

namespace Cert.ScanFwdIdeal.Val

open Cert.ScanFwdIdeal Cert.ScanFwdIdeal.Gen
open Cert.Scan (Ins fresh out next state)

theorem heads_at (x : ℕ → Vec Ideal S64x128 .f32) (h : Fin 4) (c : Fin 64) (d : Fin 128) : heads x (ix3 h c d) = x h.val (ix2 c d) := by
  fin_cases h <;> pointwise [heads] <;> rfl

/-- What a block's loads are, of the recurrence's inputs from chunk `b` on. -/
structure Reads (L : Loads) (a : Ins) (b : ℕ) : Prop where
  u : ∀ n, n < 16 → ∀ (h : Fin 4) c d, L.u n h.val (ix2 c d) = a.u (b + n) h c d
  w : ∀ n, n < 16 → ∀ (h : Fin 4) c d, L.w n h.val (ix2 c d) = a.w (b + n) h c d
  q : ∀ n, n < 16 → ∀ (h : Fin 4) c d, L.q n h.val (ix2 c d) = a.qe (b + n) h c d
  k : ∀ n, n < 16 → ∀ (h : Fin 4) c d, L.k n h.val (ix2 c d) = a.kd (b + n) h c d
  p : ∀ n, n < 16 → ∀ (h : Fin 4) c d, L.p n (ix3 h c d) = a.qk (b + n) h c d
  e : ∀ n, n < 16 → ∀ (h : Fin 4) d, L.e n (ix4 h 0 0 d) = a.e (b + n) h

section steps

variable {L : Loads} {a : Ins} {b : ℕ} (R : Reads L a b) {T : Vec Ideal S4x128x128 .f32} {n : ℕ} (hn : n < 16)
  (hT : ∀ h i j, T (ix3 h i j) = state a (b + n) h i j)
include R hn hT

theorem frs_at (h : Fin 4) (c : Fin 64) (j : Fin 128) : frs L T n (ix3 h c j) = fresh a (state a (b + n)) (b + n) h c j := by
  pointwise [frs, fresh, heads_at, R.u n hn, R.w n hn, hT]

theorem oAt_at (h : Fin 4) (c : Fin 64) (j : Fin 128) : oAt L T n (ix3 h c j) = out a (state a (b + n)) (b + n) h c j := by
  pointwise [oAt, out, heads_at, R.q n hn, R.p n hn, hT, frs_at R hn hT]

theorem stp_at (h : Fin 4) (i j : Fin 128) : stp L T n (ix3 h i j) = state a (b + n + 1) h i j := by
  pointwise [stp, state, next, heads_at, R.k n hn, R.e n hn, hT, frs_at R hn hT]

end steps

/-- The chain is the recurrence's states. -/
theorem chain_at {L : Loads} {a : Ins} {b : ℕ} (R : Reads L a b) {S : Vec Ideal S4x128x128 .f32} (hS : ∀ h i j, S (ix3 h i j) = state a b h i j) :
    ∀ n, n ≤ 16 → ∀ h i j, chain L S n (ix3 h i j) = state a (b + n) h i j
  | 0, _ => hS
  | n + 1, hn => stp_at R (by omega) (chain_at R hS n (by omega))

theorem piece6_hit (n g : ℕ) (w : S64x128.Idx → Elt Ideal .f32) (K : List (View.Piece (Elt Ideal) S1024x512 .f32)) (p : Fin 1024) (e : Fin 512)
    (hp : p.val / 64 = n % 16) (he : e.val / 128 = g % 4) :
    View.canon ((⟨Rect.unit ![64 * (n % 16), 128 * (g % 4)] S64x128.size (inb2 n g), w⟩ : View.Piece (Elt Ideal) S1024x512 .f32) :: K) (ix2 p e)
      = w (ix2 ⟨p.val % 64, by omega⟩ ⟨e.val % 128, by omega⟩) := by
  refine Eq.trans (congrArg (View.canon _) ?_) (View.canon_cons_emb (Rect.unit (s := S1024x512) ![64 * (n % 16), 128 * (g % 4)] S64x128.size (inb2 n g)) w K (ix2 ⟨p.val % 64, by omega⟩ ⟨e.val % 128, by omega⟩))
  funext x
  fin_cases x <;> refine Fin.ext ?_
  · show p.val = 64 * (n % 16) + 1 * (p.val % 64)
    omega
  · show e.val = 128 * (g % 4) + 1 * (e.val % 128)
    omega

theorem piece6_row (n g : ℕ) (w : S64x128.Idx → Elt Ideal .f32) (K : List (View.Piece (Elt Ideal) S1024x512 .f32)) (p : Fin 1024) (e : Fin 512) (hp : p.val / 64 ≠ n % 16) :
    View.canon ((⟨Rect.unit ![64 * (n % 16), 128 * (g % 4)] S64x128.size (inb2 n g), w⟩ : View.Piece (Elt Ideal) S1024x512 .f32) :: K) (ix2 p e) = View.canon K (ix2 p e) :=
  View.canon_cons_of_not_mem _ _ (Rect.not_mem_set_of_axis (Rect.unit (s := S1024x512) ![64 * (n % 16), 128 * (g % 4)] S64x128.size (inb2 n g)) (ix2 p e) (0 : Fin 2) (64 * (n % 16)) 64 rfl rfl rfl
    (by show p.val < _ ∨ _ ≤ p.val; omega))

theorem piece6_col (n g : ℕ) (w : S64x128.Idx → Elt Ideal .f32) (K : List (View.Piece (Elt Ideal) S1024x512 .f32)) (p : Fin 1024) (e : Fin 512) (he : e.val / 128 ≠ g % 4) :
    View.canon ((⟨Rect.unit ![64 * (n % 16), 128 * (g % 4)] S64x128.size (inb2 n g), w⟩ : View.Piece (Elt Ideal) S1024x512 .f32) :: K) (ix2 p e) = View.canon K (ix2 p e) :=
  View.canon_cons_of_not_mem _ _ (Rect.not_mem_set_of_axis (Rect.unit (s := S1024x512) ![64 * (n % 16), 128 * (g % 4)] S64x128.size (inb2 n g)) (ix2 p e) (1 : Fin 2) (128 * (g % 4)) 128 rfl rfl rfl
    (by show e.val < _ ∨ _ ≤ e.val; omega))

/-- The block of outputs, read back. -/
theorem pieces6_at (L : Loads) (S : Vec Ideal S4x128x128 .f32) (p : Fin 1024) (e : Fin 512) :
    ∀ N, N ≤ 16 → p.val / 64 < N → View.canon (pieces6 L S N) (ix2 p e)
      = oAt L (chain L S (p.val / 64)) (p.val / 64) (ix3 ⟨e.val / 128, by omega⟩ ⟨p.val % 64, by omega⟩ ⟨e.val % 128, by omega⟩)
  | 0, _, h => absurd h (by omega)
  | n + 1, hN, h => by
    have hm : n % 16 = n := Nat.mod_eq_of_lt (by omega)
    unfold pieces6
    by_cases hp : p.val / 64 = n
    · subst hp
      have h4 : e.val / 128 = 0 ∨ e.val / 128 = 1 ∨ e.val / 128 = 2 ∨ e.val / 128 = 3 := by omega
      generalize hO : oAt L (chain L S (p.val / 64)) (p.val / 64) = O
      rcases h4 with h4 | h4 | h4 | h4
      · rw [piece6_col _ 3 _ _ _ _ (by omega), piece6_col _ 2 _ _ _ _ (by omega), piece6_col _ 1 _ _ _ _ (by omega), piece6_hit _ 0 _ _ _ _ (by omega) (by omega)]
        have e0 : (⟨e.val / 128, by omega⟩ : Fin 4) = 0 := Fin.ext h4
        rw [e0]; pointwise
      · rw [piece6_col _ 3 _ _ _ _ (by omega), piece6_col _ 2 _ _ _ _ (by omega), piece6_hit _ 1 _ _ _ _ (by omega) (by omega)]
        have e0 : (⟨e.val / 128, by omega⟩ : Fin 4) = 1 := Fin.ext h4
        rw [e0]; pointwise
      · rw [piece6_col _ 3 _ _ _ _ (by omega), piece6_hit _ 2 _ _ _ _ (by omega) (by omega)]
        have e0 : (⟨e.val / 128, by omega⟩ : Fin 4) = 2 := Fin.ext h4
        rw [e0]; pointwise
      · rw [piece6_hit _ 3 _ _ _ _ (by omega) (by omega)]
        have e0 : (⟨e.val / 128, by omega⟩ : Fin 4) = 3 := Fin.ext h4
        rw [e0]; pointwise
    · rw [piece6_row _ 3 _ _ _ _ (by omega), piece6_row _ 2 _ _ _ _ (by omega), piece6_row _ 1 _ _ _ _ (by omega), piece6_row _ 0 _ _ _ _ (by omega)]
      exact pieces6_at L S p e n (by omega) (by omega)

theorem piece7_hit (n : ℕ) (w : S4x1x128x128.Idx → Elt Ideal .f32) (K : List (View.Piece (Elt Ideal) S4x16x128x128 .f32)) (h : Fin 4) (m : Fin 16) (i j : Fin 128) (hm : m.val = n % 16) :
    View.canon ((⟨Rect.unit ![0, n % 16, 0, 0] S4x1x128x128.size (inb7 n), w⟩ : View.Piece (Elt Ideal) S4x16x128x128 .f32) :: K) (ix4 h m i j) = w (ix4 h 0 i j) := by
  have e : ix4 h m i j = (Rect.unit (s := S4x16x128x128) ![0, n % 16, 0, 0] S4x1x128x128.size (inb7 n)).emb (ix4 h 0 i j) := by
    funext x
    fin_cases x <;> refine Fin.ext ?_
    · show h.val = 0 + 1 * h.val
      omega
    · show m.val = n % 16 + 1 * 0
      omega
    · show i.val = 0 + 1 * i.val
      omega
    · show j.val = 0 + 1 * j.val
      omega
  rw [e]
  exact View.canon_cons_emb (Rect.unit (s := S4x16x128x128) ![0, n % 16, 0, 0] S4x1x128x128.size (inb7 n)) w K (ix4 h 0 i j)

theorem piece7_miss (n : ℕ) (w : S4x1x128x128.Idx → Elt Ideal .f32) (K : List (View.Piece (Elt Ideal) S4x16x128x128 .f32)) (h : Fin 4) (m : Fin 16) (i j : Fin 128) (hm : m.val ≠ n % 16) :
    View.canon ((⟨Rect.unit ![0, n % 16, 0, 0] S4x1x128x128.size (inb7 n), w⟩ : View.Piece (Elt Ideal) S4x16x128x128 .f32) :: K) (ix4 h m i j) = View.canon K (ix4 h m i j) :=
  View.canon_cons_of_not_mem _ _ (Rect.not_mem_set_of_axis (Rect.unit (s := S4x16x128x128) ![0, n % 16, 0, 0] S4x1x128x128.size (inb7 n)) (ix4 h m i j) (1 : Fin 4) (n % 16) 1 rfl rfl rfl
    (by show m.val < _ ∨ _ ≤ m.val; omega))

/-- The block of states, read back. -/
theorem pieces7_at (L : Loads) (S : Vec Ideal S4x128x128 .f32) (h : Fin 4) (m : Fin 16) (i j : Fin 128) :
    ∀ N, N ≤ 16 → m.val < N → View.canon (pieces7 L S N) (ix4 h m i j) = chain L S m.val (ix3 h i j)
  | 0, _, h => absurd h (by omega)
  | n + 1, hN, hlt => by
    have hm : n % 16 = n := Nat.mod_eq_of_lt (by omega)
    unfold pieces7
    by_cases hp : m.val = n
    · rw [piece7_hit _ _ _ _ _ _ _ (by omega), hp]
      generalize chain L S n = T
      pointwise
    · rw [piece7_miss _ _ _ _ _ _ _ (by omega)]
      exact pieces7_at L S h m i j n (by omega) (by omega)

end Cert.ScanFwdIdeal.Val
end
-- ==== Proof.ScanFwd.Ref.lean ====
/- What the reference's scan leaves after each trip. -/
module

public import proofs.«01_k».proof.Proof.ScanFwd.Recur
public import proofs.«01_k».proof.Proof.Gen.ScanFwdRefIdeal.Run
public import Idealize.ShloMosaic.Lib.DynamicIndex
public import Idealize.ShloMosaic.Lib.Pointwise

@[expose] public section

set_option maxRecDepth 16384

noncomputable section

open Idealize.ShloMosaic Idealize.ShloMosaic.TcCoe Idealize.SL.Sem

namespace Cert.ScanFwdRefIdeal.Val

open Cert.ScanFwdRefIdeal Cert.ScanFwdRefIdeal.Gen Cert.ScanFwdRefIdeal.Value
open Idealize.ShloMosaic.StableHlo
open Cert.Scan (fresh out next state)

/-- The chunk a number names. -/
def ch (n : ℕ) : Fin 64 := ⟨n % 64, Nat.mod_lt _ (by norm_num)⟩

/-- The recurrence's inputs of the reference's arguments. -/
def ins (q k u w : (⟨S4x64x64x128, .f32⟩ : BufTy).Contents (Elt Ideal)) (g : (⟨S4x64x64, .f32⟩ : BufTy).Contents (Elt Ideal))
    (s : (⟨S4x64x64x64, .f32⟩ : BufTy).Contents (Elt Ideal)) : Cert.Scan.Ins where
  qe n h c d := q (ix4 h (ch n) c d) * Ideal.exp (g (ix3 h (ch n) c))
  kd n h c d := k (ix4 h (ch n) c d) * Ideal.exp (g (ix3 h (ch n) 63) - g (ix3 h (ch n) c))
  u n h c d := u (ix4 h (ch n) c d)
  w n h c d := w (ix4 h (ch n) c d)
  qk n h c d := s (ix4 h (ch n) c d)
  e n h := Ideal.exp (g (ix3 h (ch n) 63))

theorem slice4 {A B C : ℕ} (x : (⟨4, ![64, A, B, C]⟩ : Shape).Idx → EReal) (st : Fin 4 → Int) (n : ℕ) (hn : n < 64)
    (h : (⟨4, ![64, A, B, C]⟩ : Shape).Slices (fun _ => 0) ⟨4, ![1, A, B, C]⟩)
    (h0 : st 0 = n) (h1 : st 1 = 0) (h2 : st 2 = 0) (h3 : st 3 = 0) (a : Fin A) (b : Fin B) (c : Fin C) :
    Host.dynamicSlice ⟨4, ![1, A, B, C]⟩ x st h (ix4 0 a b c) = x (ix4 ⟨n, hn⟩ a b c) := by
  show x _ = _
  congr 1
  funext q
  fin_cases q <;> refine Fin.ext ?_
  · show (min (max (st 0) 0) ((64 - 1 : ℕ) : Int)).toNat + 0 = n
    rw [h0]; omega
  · show (min (max (st 1) 0) ((A - A : ℕ) : Int)).toNat + a.val = a.val
    rw [h1]; omega
  · show (min (max (st 2) 0) ((B - B : ℕ) : Int)).toNat + b.val = b.val
    rw [h2]; omega
  · show (min (max (st 3) 0) ((C - C : ℕ) : Int)).toNat + c.val = c.val
    rw [h3]; omega

theorem slice3 {A B : ℕ} (x : (⟨3, ![64, A, B]⟩ : Shape).Idx → EReal) (st : Fin 3 → Int) (n : ℕ) (hn : n < 64)
    (h : (⟨3, ![64, A, B]⟩ : Shape).Slices (fun _ => 0) ⟨3, ![1, A, B]⟩)
    (h0 : st 0 = n) (h1 : st 1 = 0) (h2 : st 2 = 0) (a : Fin A) (b : Fin B) :
    Host.dynamicSlice ⟨3, ![1, A, B]⟩ x st h (ix3 0 a b) = x (ix3 ⟨n, hn⟩ a b) := by
  show x _ = _
  congr 1
  funext q
  fin_cases q <;> refine Fin.ext ?_
  · show (min (max (st 0) 0) ((64 - 1 : ℕ) : Int)).toNat + 0 = n
    rw [h0]; omega
  · show (min (max (st 1) 0) ((A - A : ℕ) : Int)).toNat + a.val = a.val
    rw [h1]; omega
  · show (min (max (st 2) 0) ((B - B : ℕ) : Int)).toNat + b.val = b.val
    rw [h2]; omega

/-- Writing chunk `n`'s block leaves the other chunks' as they were. -/
theorem update4 {A B C : ℕ} (x : (⟨4, ![64, A, B, C]⟩ : Shape).Idx → EReal) (y : (⟨4, ![1, A, B, C]⟩ : Shape).Idx → EReal) (st : Fin 4 → Int) (n : ℕ) (hn : n < 64)
    (h : (⟨4, ![64, A, B, C]⟩ : Shape).Slices (fun _ => 0) ⟨4, ![1, A, B, C]⟩)
    (h0 : st 0 = n) (h1 : st 1 = 0) (h2 : st 2 = 0) (h3 : st 3 = 0) (m : Fin 64) (a : Fin A) (b : Fin B) (c : Fin C) :
    Host.dynamicUpdateSlice x y st h (ix4 m a b c) = if m.val = n then y (ix4 0 a b c) else x (ix4 m a b c) := by
  have e0 : (min (max (st 0) 0) ((64 - 1 : ℕ) : Int)).toNat = n := by rw [h0]; omega
  have e1 : (min (max (st 1) 0) ((A - A : ℕ) : Int)).toNat = 0 := by rw [h1]; omega
  have e2 : (min (max (st 2) 0) ((B - B : ℕ) : Int)).toNat = 0 := by rw [h2]; omega
  have e3 : (min (max (st 3) 0) ((C - C : ℕ) : Int)).toNat = 0 := by rw [h3]; omega
  rw [Host.dynamicUpdateSlice_eq_updateSlice x y st h ![n, 0, 0, 0] (by intro q; fin_cases q; exacts [e0, e1, e2, e3])
    ⟨rfl, by intro q; fin_cases q; exacts [(by show n + 1 ≤ 64; omega), (Nat.zero_add _).le, (Nat.zero_add _).le, (Nat.zero_add _).le]⟩]
  unfold updateSlice
  split
  · rename_i hin
    have hm : n ≤ m.val ∧ m.val < n + 1 := hin 0
    rw [if_pos (by omega)]
    congr 1
    funext q
    fin_cases q <;> refine Fin.ext ?_
    · show m.val - n = 0
      omega
    · rfl
    · rfl
    · rfl
  · rename_i hin
    rw [if_neg fun e => hin ?_]
    intro q
    fin_cases q
    · show n ≤ m.val ∧ m.val < n + 1
      omega
    · exact ⟨Nat.zero_le _, by have := a.isLt; show a.val < 0 + A; omega⟩
    · exact ⟨Nat.zero_le _, by have := b.isLt; show b.val < 0 + B; omega⟩
    · exact ⟨Nat.zero_le _, by have := c.isLt; show c.val < 0 + C; omega⟩

variable (V0 : Valuation τ sig (Elt Ideal))

/-- Where a trip reads: the chunk of its number. -/
abbrev here : Fin 4 → Int :=
  fun k => (((![V0 (Proc.devRef .tc main_v9_6), constantI S_ 32 0#32, constantI S_ 32 0#32, constantI S_ 32 0#32] : Fin 4 → (⟨S_, .i32⟩ : BufTy).Contents (Elt Ideal))) k (Shape.Idx.first h_S_)).toInt

/-- Where a trip reads the decay logarithms. -/
abbrev here3 : Fin 3 → Int :=
  fun k => (((![V0 (Proc.devRef .tc main_v9_6), constantI S_ 32 0#32, constantI S_ 32 0#32] : Fin 3 → (⟨S_, .i32⟩ : BufTy).Contents (Elt Ideal))) k (Shape.Idx.first h_S_)).toInt

/-- A trip's chunk of an array with 128 columns. -/
def wide (x : (⟨S64x4x64x128, .f32⟩ : BufTy).Contents (Elt Ideal)) : (⟨S4x64x128, .f32⟩ : BufTy).Contents (Elt Ideal) :=
  shapeCast S4x64x128 (Host.dynamicSlice S1x4x64x128 x (here V0) sliceFits_S64x4x64x128_S1x4x64x128) shapeCasts_S1x4x64x128_S4x64x128

/-- A trip's chunk of the scores. -/
def narrow (x : (⟨S64x4x64x64, .f32⟩ : BufTy).Contents (Elt Ideal)) : (⟨S4x64x64, .f32⟩ : BufTy).Contents (Elt Ideal) :=
  shapeCast S4x64x64 (Host.dynamicSlice S1x4x64x64 x (here V0) sliceFits_S64x4x64x64_S1x4x64x64) shapeCasts_S1x4x64x64_S4x64x64

theorem v20_eq : @Eq ((⟨S4x64x128, .f32⟩ : BufTy).Contents (Elt Ideal)) (res_main_while0b_v20 V0) (subf (F := Ideal) (φ := .f32) (wide V0 (V0 (Proc.devRef .tc main_v9_2)))
    (Host.dotGeneral (F := Ideal) (φ₁ := .f32) (φ₂ := .f32) dot_S4x64x128_S4x128x128_S4x64x128_2_1_1_2_0_0 none (wide V0 (V0 (Proc.devRef .tc main_v9_3))) (V0 (Proc.devRef .tc main_v9_7)))) := rfl

/-- A trip's output. -/
def outs : (⟨S4x64x128, .f32⟩ : BufTy).Contents (Elt Ideal) :=
  addf (F := Ideal) (φ := .f32) (Host.dotGeneral (F := Ideal) (φ₁ := .f32) (φ₂ := .f32) dot_S4x64x128_S4x128x128_S4x64x128_2_1_1_2_0_0 none
      (mulf (F := Ideal) (φ := .f32) (wide V0 (V0 (Proc.devRef .tc main_v9_0))) (broadcastInDim S4x64x128 ![0, 1, 2] bcast_S4x64x1_S4x64x128_0_1_2 (broadcastInDim S4x64x1 ![0, 1] bcast_S4x64_S4x64x1_0_1 (Host.exp (F := Ideal) (φ := .f32) (res_main_while0b_v17 V0)))))
      (V0 (Proc.devRef .tc main_v9_7)))
    (Host.dotGeneral (F := Ideal) (φ₁ := .f32) (φ₂ := .f32) dot_S4x64x64_S4x64x128_S4x64x128_2_1_1_2_0_0 none (narrow V0 (V0 (Proc.devRef .tc main_v9_5))) (res_main_while0b_v20 V0))

set_option maxHeartbeats 1000000 in
theorem step_8 : @Eq ((⟨S64x4x64x128, .f32⟩ : BufTy).Contents (Elt Ideal)) (step_main_v9_8 V0) (Host.dynamicUpdateSlice (α := Ideal .f32) (V0 (Proc.devRef .tc main_v9_8) : (⟨S64x4x64x128, .f32⟩ : BufTy).Contents (Elt Ideal))
    (broadcastInDim (α := Ideal .f32) S1x4x64x128 ![1, 2, 3] bcast_S4x64x128_S1x4x64x128_1_2_3 (outs V0)) (here V0) updateFits_S64x4x64x128_S1x4x64x128) := rfl

set_option maxHeartbeats 1000000 in
theorem step_9 : @Eq ((⟨S64x4x128x128, .f32⟩ : BufTy).Contents (Elt Ideal)) (step_main_v9_9 V0) (Host.dynamicUpdateSlice (α := Ideal .f32) (V0 (Proc.devRef .tc main_v9_9) : (⟨S64x4x128x128, .f32⟩ : BufTy).Contents (Elt Ideal))
    (broadcastInDim (α := Ideal .f32) S1x4x128x128 ![1, 2, 3] bcast_S4x128x128_S1x4x128x128_1_2_3 (V0 (Proc.devRef .tc main_v9_7) : (⟨S4x128x128, .f32⟩ : BufTy).Contents (Elt Ideal))) (here V0) updateFits_S64x4x128x128_S1x4x128x128) := rfl

theorem step_7 : @Eq ((⟨S4x128x128, .f32⟩ : BufTy).Contents (Elt Ideal)) (step_main_v9_7 V0) (addf (F := Ideal) (φ := .f32) (mulf (F := Ideal) (φ := .f32) (V0 (Proc.devRef .tc main_v9_7)) (broadcastInDim (α := Ideal .f32) S4x128x128 ![0, 1, 2] bcast_S4x1x1_S4x128x128_0_1_2 (broadcastInDim (α := Ideal .f32) S4x1x1 ![0] bcast_S4_S4x1x1_0 (Host.exp (F := Ideal) (φ := .f32) (res_main_while0b_v29 V0)))))
    (Host.dotGeneral (F := Ideal) (φ₁ := .f32) (φ₂ := .f32) dot_S4x64x128_S4x64x128_S4x128x128_1_1_2_2_0_0 none
      (mulf (F := Ideal) (φ := .f32) (wide V0 (V0 (Proc.devRef .tc main_v9_1))) (broadcastInDim (α := Ideal .f32) S4x64x128 ![0, 1, 2] bcast_S4x64x1_S4x64x128_0_1_2 (broadcastInDim (α := Ideal .f32) S4x64x1 ![0, 1] bcast_S4x64_S4x64x1_0_1 (Host.exp (F := Ideal) (φ := .f32) (subf (F := Ideal) (φ := .f32) (broadcastInDim (α := Ideal .f32) S4x64 ![0, 1] bcast_S4x1_S4x64_0_1 (broadcastInDim (α := Ideal .f32) S4x1 ![0] bcast_S4_S4x1_0 (res_main_while0b_v29 V0))) (res_main_while0b_v17 V0))))))
      (res_main_while0b_v20 V0))) := rfl

section reads

variable {V0} {n : ℕ} (hn : n < 64) (hc : V0 (Proc.devRef .tc main_v9_6) = constantI S_ 32 (BitVec.ofNat 32 n))
include hn hc

theorem here_zero : here V0 0 = n := by
  show BitVec.toInt ((V0 (Proc.devRef .tc main_v9_6) : (⟨S_, .i32⟩ : BufTy).Contents (Elt Ideal)) (Shape.Idx.first h_S_)) = n
  rw [hc]
  exact Idealize.ShloMosaic.toInt_ofNat_of_lt (k := n) (by omega)

theorem wide_at (x : (⟨S64x4x64x128, .f32⟩ : BufTy).Contents (Elt Ideal)) (h : Fin 4) (c : Fin 64) (d : Fin 128) : wide V0 x (ix3 h c d) = x (ix4 ⟨n, hn⟩ h c d) := by
  refine Eq.trans ?_ (slice4 x (here V0) n hn sliceFits_S64x4x64x128_S1x4x64x128 (here_zero hn hc) rfl rfl rfl h c d)
  unfold wide
  generalize Host.dynamicSlice _ _ _ _ = z
  pointwise

theorem narrow_at (x : (⟨S64x4x64x64, .f32⟩ : BufTy).Contents (Elt Ideal)) (h : Fin 4) (c : Fin 64) (d : Fin 64) : narrow V0 x (ix3 h c d) = x (ix4 ⟨n, hn⟩ h c d) := by
  refine Eq.trans ?_ (slice4 x (here V0) n hn sliceFits_S64x4x64x64_S1x4x64x64 (here_zero hn hc) rfl rfl rfl h c d)
  unfold narrow
  generalize Host.dynamicSlice _ _ _ _ = z
  pointwise

theorem v17_at (h : Fin 4) (c : Fin 64) : res_main_while0b_v17 V0 (ix2 h c) = (V0 (Proc.devRef .tc main_v9_4) : (⟨S64x4x64, .f32⟩ : BufTy).Contents (Elt Ideal)) (ix3 ⟨n, hn⟩ h c) := by
  refine Eq.trans ?_ (slice3 (V0 (Proc.devRef .tc main_v9_4)) (here3 V0) n hn sliceFits_S64x4x64_S1x4x64 (here_zero hn hc) rfl rfl h c)
  unfold res_main_while0b_v17
  generalize Host.dynamicSlice _ _ _ _ = z
  pointwise

theorem v29_at (h : Fin 4) : res_main_while0b_v29 V0 (ix1 h) = (V0 (Proc.devRef .tc main_v9_4) : (⟨S64x4x64, .f32⟩ : BufTy).Contents (Elt Ideal)) (ix3 ⟨n, hn⟩ h 63) := by
  rw [← v17_at hn hc h 63]
  pointwise [res_main_while0b_v29]

end reads

end Cert.ScanFwdRefIdeal.Val
end
-- ==== Proof.ScanFwd.RefRun.lean ====
/- What the reference's scan ends with: the recurrence's outputs and states. -/
module

public import proofs.«01_k».proof.Proof.ScanFwd.Ref

@[expose] public section

set_option maxRecDepth 16384

noncomputable section

open Idealize.ShloMosaic Idealize.ShloMosaic.TcCoe Idealize.SL.Sem

namespace Cert.ScanFwdRefIdeal.Val

open Cert.ScanFwdRefIdeal Cert.ScanFwdRefIdeal.Gen Cert.ScanFwdRefIdeal.Value
open Idealize.ShloMosaic.StableHlo
open Cert.Scan (fresh out next state)

abbrev T4 : Type := (⟨S4x64x64x128, .f32⟩ : BufTy).Contents (Elt Ideal)
abbrev T3 : Type := (⟨S4x64x64, .f32⟩ : BufTy).Contents (Elt Ideal)
abbrev Ts : Type := (⟨S4x64x64x64, .f32⟩ : BufTy).Contents (Elt Ideal)

variable (q k u w : T4) (g : T3) (s : Ts)

/-- Before trip `n` the loop's arrays hold the chunks in order, the recurrence's state, and its outputs and states so far. -/
structure Holds (V0 : Valuation τ sig (Elt Ideal)) (n : ℕ) : Prop where
  ctr : V0 (Proc.devRef .tc main_v9_6) = constantI S_ 32 (BitVec.ofNat 32 n)
  a0 : ∀ j h c d, (V0 (Proc.devRef .tc main_v9_0) : (⟨S64x4x64x128, .f32⟩ : BufTy).Contents (Elt Ideal)) (ix4 j h c d) = q (ix4 h j c d)
  a1 : ∀ j h c d, (V0 (Proc.devRef .tc main_v9_1) : (⟨S64x4x64x128, .f32⟩ : BufTy).Contents (Elt Ideal)) (ix4 j h c d) = k (ix4 h j c d)
  a2 : ∀ j h c d, (V0 (Proc.devRef .tc main_v9_2) : (⟨S64x4x64x128, .f32⟩ : BufTy).Contents (Elt Ideal)) (ix4 j h c d) = u (ix4 h j c d)
  a3 : ∀ j h c d, (V0 (Proc.devRef .tc main_v9_3) : (⟨S64x4x64x128, .f32⟩ : BufTy).Contents (Elt Ideal)) (ix4 j h c d) = w (ix4 h j c d)
  a4 : ∀ j h c, (V0 (Proc.devRef .tc main_v9_4) : (⟨S64x4x64, .f32⟩ : BufTy).Contents (Elt Ideal)) (ix3 j h c) = g (ix3 h j c)
  a5 : ∀ j h c d, (V0 (Proc.devRef .tc main_v9_5) : (⟨S64x4x64x64, .f32⟩ : BufTy).Contents (Elt Ideal)) (ix4 j h c d) = s (ix4 h j c d)
  st : ∀ h i j, (V0 (Proc.devRef .tc main_v9_7) : (⟨S4x128x128, .f32⟩ : BufTy).Contents (Elt Ideal)) (ix3 h i j) = state (ins q k u w g s) n h i j
  ou : ∀ (m : Fin 64) h c j, m.val < n → (V0 (Proc.devRef .tc main_v9_8) : (⟨S64x4x64x128, .f32⟩ : BufTy).Contents (Elt Ideal)) (ix4 m h c j) = out (ins q k u w g s) (state (ins q k u w g s) m) m h c j
  sv : ∀ (m : Fin 64) h i j, m.val < n → (V0 (Proc.devRef .tc main_v9_9) : (⟨S64x4x128x128, .f32⟩ : BufTy).Contents (Elt Ideal)) (ix4 m h i j) = state (ins q k u w g s) m h i j

theorem ch_eq {n : ℕ} (hn : n < 64) : ch n = ⟨n, hn⟩ := Fin.ext (Nat.mod_eq_of_lt hn)

section inputs
variable {q k u w g s} {n : ℕ} (hn : n < 64)
include hn

theorem ins_qe (h : Fin 4) (c : Fin 64) (d : Fin 128) : (ins q k u w g s).qe n h c d = q (ix4 h ⟨n, hn⟩ c d) * Ideal.exp (g (ix3 h ⟨n, hn⟩ c)) := by
  simp only [ins, ch_eq hn]
theorem ins_kd (h : Fin 4) (c : Fin 64) (d : Fin 128) :
    (ins q k u w g s).kd n h c d = k (ix4 h ⟨n, hn⟩ c d) * Ideal.exp (g (ix3 h ⟨n, hn⟩ 63) - g (ix3 h ⟨n, hn⟩ c)) := by
  simp only [ins, ch_eq hn]
theorem ins_u (h : Fin 4) (c : Fin 64) (d : Fin 128) : (ins q k u w g s).u n h c d = u (ix4 h ⟨n, hn⟩ c d) := by simp only [ins, ch_eq hn]
theorem ins_w (h : Fin 4) (c : Fin 64) (d : Fin 128) : (ins q k u w g s).w n h c d = w (ix4 h ⟨n, hn⟩ c d) := by simp only [ins, ch_eq hn]
theorem ins_qk (h : Fin 4) (c d : Fin 64) : (ins q k u w g s).qk n h c d = s (ix4 h ⟨n, hn⟩ c d) := by simp only [ins, ch_eq hn]
theorem ins_e (h : Fin 4) : (ins q k u w g s).e n h = Ideal.exp (g (ix3 h ⟨n, hn⟩ 63)) := by simp only [ins, ch_eq hn]

end inputs

variable {q k u w g s} {V0 : Valuation τ sig (Elt Ideal)} {n : ℕ} (hn : n < 64) (H : Holds q k u w g s V0 n)
include hn H

theorem v20_at (h : Fin 4) (c : Fin 64) (j : Fin 128) :
    (res_main_while0b_v20 V0 : (⟨S4x64x128, .f32⟩ : BufTy).Contents (Elt Ideal)) (ix3 h c j) = fresh (ins q k u w g s) (state (ins q k u w g s) n) n h c j := by
  rw [v20_eq]
  pointwise [fresh, ins_u hn, ins_w hn, wide_at hn H.ctr, ch_eq hn, H.a2, H.a3, H.st]

theorem outs_at (h : Fin 4) (c : Fin 64) (j : Fin 128) : outs V0 (ix3 h c j) = out (ins q k u w g s) (state (ins q k u w g s) n) n h c j := by
  pointwise [outs, out, ins_qe hn, ins_qk hn, wide_at hn H.ctr, narrow_at hn H.ctr, v17_at hn H.ctr, v20_at hn H, ch_eq hn, H.a0, H.a4, H.a5, H.st]

theorem step7_at (h : Fin 4) (i j : Fin 128) :
    (step_main_v9_7 V0 : (⟨S4x128x128, .f32⟩ : BufTy).Contents (Elt Ideal)) (ix3 h i j) = state (ins q k u w g s) (n + 1) h i j := by
  rw [step_7]
  pointwise [state, next, ins_e hn, ins_kd hn, wide_at hn H.ctr, v17_at hn H.ctr, v29_at hn H.ctr, v20_at hn H, ch_eq hn, H.a1, H.a4, H.st]

theorem step8_at (m : Fin 64) (h : Fin 4) (c : Fin 64) (j : Fin 128) (hm : m.val < n + 1) :
    (step_main_v9_8 V0 : (⟨S64x4x64x128, .f32⟩ : BufTy).Contents (Elt Ideal)) (ix4 m h c j) = out (ins q k u w g s) (state (ins q k u w g s) m) m h c j := by
  rw [step_8]
  refine (update4 _ _ (here V0) n hn _ (here_zero hn H.ctr) rfl rfl rfl m h c j).trans ?_
  split
  · rename_i e
    rw [e]
    pointwise [outs_at hn H]
  · exact H.ou m h c j (by omega)

theorem step9_at (m : Fin 64) (h : Fin 4) (i j : Fin 128) (hm : m.val < n + 1) :
    (step_main_v9_9 V0 : (⟨S64x4x128x128, .f32⟩ : BufTy).Contents (Elt Ideal)) (ix4 m h i j) = state (ins q k u w g s) m h i j := by
  rw [step_9]
  refine (update4 _ _ (here V0) n hn _ (here_zero hn H.ctr) rfl rfl rfl m h i j).trans ?_
  split
  · rename_i e
    rw [e]
    pointwise [H.st]
  · exact H.sv m h i j (by omega)

/-- One trip goes on with the recurrence. -/
theorem holds_step : Holds q k u w g s (STEP V0) (n + 1) where
  ctr := by
    rw [STEP_main_v9_6]
    unfold step_main_v9_6
    rw [H.ctr]
    funext x
    exact (BitVec.ofNat_add n 1).symm
  a0 := by rw [STEP_main_v9_0]; exact H.a0
  a1 := by rw [STEP_main_v9_1]; exact H.a1
  a2 := by rw [STEP_main_v9_2]; exact H.a2
  a3 := by rw [STEP_main_v9_3]; exact H.a3
  a4 := by rw [STEP_main_v9_4]; exact H.a4
  a5 := by rw [STEP_main_v9_5]; exact H.a5
  st := by rw [STEP_main_v9_7]; exact step7_at hn H
  ou := by rw [STEP_main_v9_8]; exact step8_at hn H
  sv := by rw [STEP_main_v9_9]; exact step9_at hn H

end Cert.ScanFwdRefIdeal.Val

namespace Cert.ScanFwdRefIdeal.Val

open Cert.ScanFwdRefIdeal Cert.ScanFwdRefIdeal.Gen Cert.ScanFwdRefIdeal.Value
open Idealize.ShloMosaic.StableHlo
open Cert.Scan (fresh out next state)

variable (m : (ℓ : Loc nD τ sig) → Buf (Elt Ideal) ℓ) (c : Dev nD)

abbrev aQ : T4 := m ((c.tc : Thread nD τ).loc main_arg0)
abbrev aK : T4 := m ((c.tc : Thread nD τ).loc main_arg1)
abbrev aU : T4 := m ((c.tc : Thread nD τ).loc main_arg2)
abbrev aW : T4 := m ((c.tc : Thread nD τ).loc main_arg3)
abbrev aG : T3 := m ((c.tc : Thread nD τ).loc main_arg4)
abbrev aS : Ts := m ((c.tc : Thread nD τ).loc main_arg5)

/-- The recurrence of the arguments. -/
abbrev args : Cert.Scan.Ins := ins (aQ m c) (aK m c) (aU m c) (aW m c) (aG m c) (aS m c)

set_option maxHeartbeats 1000000 in
set_option maxRecDepth 65536 in
theorem entry_holds : Holds (aQ m c) (aK m c) (aU m c) (aW m c) (aG m c) (aS m c) (entryContents preI m c) 0 := by
  constructor <;> simp only [entryContents, afterL_cons, afterL_nil] <;> after_reads_simp <;> simp only [id]
  · intros; pointwise <;> rfl
  · intros; pointwise <;> rfl
  · intros; pointwise <;> rfl
  · intros; pointwise <;> rfl
  · intros; pointwise <;> rfl
  · intros; pointwise <;> rfl
  · intro h i j
    pointwise [state]
  all_goals (intros; omega)

theorem holds : ∀ n, n ≤ 64 → Holds (aQ m c) (aK m c) (aU m c) (aW m c) (aG m c) (aS m c) (STEP^[n] (entryContents preI m c)) n
  | 0, _ => entry_holds m c
  | n + 1, h => by
    rw [Function.iterate_succ_apply']
    exact holds_step (by omega) (holds n (by omega))

/-- The reference's outputs, row by row. -/
theorem v11_at (p : Fin 4096) (e : Fin 512) :
    (out_main_v11 (STEP^[64] (entryContents preI m c)) : (⟨S4096x512, .f32⟩ : BufTy).Contents (Elt Ideal)) (ix2 p e)
      = out (args m c) (state (args m c) (p.val / 64)) (p.val / 64) ⟨e.val / 128, by omega⟩ ⟨p.val % 64, by omega⟩ ⟨e.val % 128, by omega⟩ := by
  rw [← (holds m c 64 le_rfl).ou ⟨p.val / 64, by omega⟩ ⟨e.val / 128, by omega⟩ ⟨p.val % 64, by omega⟩ ⟨e.val % 128, by omega⟩ (by show p.val / 64 < 64; omega)]
  generalize STEP^[64] (entryContents preI m c) = V0
  pointwise [out_main_v11]

/-- The reference's states. -/
theorem v12_at (h : Fin 4) (n : Fin 64) (i j : Fin 128) :
    (out_main_v12 (STEP^[64] (entryContents preI m c)) : (⟨S4x64x128x128, .f32⟩ : BufTy).Contents (Elt Ideal)) (ix4 h n i j) = state (args m c) n h i j := by
  rw [← (holds m c 64 le_rfl).sv n h i j (by omega)]
  generalize STEP^[64] (entryContents preI m c) = V0
  pointwise [out_main_v12]

end Cert.ScanFwdRefIdeal.Val
end
-- ==== Proof.ScanFwd.Entry.lean ====
/- The arrays that the recurrence's kernel is started on, and its blocks, from the arguments. -/
module

public import proofs.«01_k».proof.Proof.ScanFwd.Step
public import proofs.«01_k».proof.Proof.ScanFwd.RefRun

@[expose] public section

set_option maxRecDepth 16384

noncomputable section

open Idealize.ShloMosaic Idealize.ShloMosaic.TcCoe Idealize.SL.Sem

namespace Cert.ScanFwdIdeal.Val

open Cert.ScanFwdIdeal Cert.ScanFwdIdeal.Gen
open Cert.Scan
open Idealize.ShloMosaic.Pipeline (Dat)

variable (m : (ℓ : Loc nD τ sig) → Buf (Elt Ideal) ℓ)

/-- The block of every window at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, t.val, 0]
    ∧ win0_5.index t = ![0, t.val, 0, 0]
    ∧ win0_6.index t = ![t.val, 0]
    ∧ win0_7.index t = ![0, t.val, 0, 0] :=
  (by decide +kernel : ∀ t : Fin grid0.N, _)

abbrev aQ (c : Dev nD) : FVec Ideal S4x64x64x128 .f32 := m ((c : Thread nD τ).loc main_arg0)
abbrev aK (c : Dev nD) : FVec Ideal S4x64x64x128 .f32 := m ((c : Thread nD τ).loc main_arg1)
abbrev aU (c : Dev nD) : FVec Ideal S4x64x64x128 .f32 := m ((c : Thread nD τ).loc main_arg2)
abbrev aW (c : Dev nD) : FVec Ideal S4x64x64x128 .f32 := m ((c : Thread nD τ).loc main_arg3)
abbrev aG (c : Dev nD) : FVec Ideal S4x64x64 .f32 := m ((c : Thread nD τ).loc main_arg4)
abbrev aS (c : Dev nD) : FVec Ideal S4x64x64x64 .f32 := m ((c : Thread nD τ).loc main_arg5)

/-- The recurrence's inputs. -/
abbrev args (c : Dev nD) : Cert.Scan.Ins := Cert.ScanFwdRefIdeal.Val.ins (aQ m c) (aK m c) (aU m c) (aW m c) (aG m c) (aS m c)

section entry
variable (c : Dev nD) (h : Fin 4) (n i : Fin 64) (r : Fin 4096) (hr : r.val = 64 * n.val + i.val) (d : Fin 128) (j : Fin 512) (hj : j.val = 128 * h.val + d.val)
include hr hj

theorem V5_at : V m c main_v5 (ix2 r j) = aU m c (ix4 h n i d) := by
  obtain rfl : h = ⟨j.val / 128, Nat.div_lt_of_lt_mul j.isLt⟩ := Fin.ext (by show h.val = j.val / 128; omega)
  obtain rfl : d = ⟨j.val % 128, Nat.mod_lt _ (by decide)⟩ := Fin.ext (by show d.val = j.val % 128; omega)
  obtain rfl : n = ⟨r.val / 64, Nat.div_lt_of_lt_mul r.isLt⟩ := Fin.ext (by show n.val = r.val / 64; omega)
  obtain rfl : i = ⟨r.val % 64, Nat.mod_lt _ (by decide)⟩ := Fin.ext (by show i.val = r.val % 64; omega)
  simp only [V, hostOps0, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise

theorem V7_at : V m c main_v7 (ix2 r j) = aW m c (ix4 h n i d) := by
  obtain rfl : h = ⟨j.val / 128, Nat.div_lt_of_lt_mul j.isLt⟩ := Fin.ext (by show h.val = j.val / 128; omega)
  obtain rfl : d = ⟨j.val % 128, Nat.mod_lt _ (by decide)⟩ := Fin.ext (by show d.val = j.val % 128; omega)
  obtain rfl : n = ⟨r.val / 64, Nat.div_lt_of_lt_mul r.isLt⟩ := Fin.ext (by show n.val = r.val / 64; omega)
  obtain rfl : i = ⟨r.val % 64, Nat.mod_lt _ (by decide)⟩ := Fin.ext (by show i.val = r.val % 64; omega)
  simp only [V, hostOps0, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise

theorem V13_at : V m c main_v13 (ix2 r j) = aQ m c (ix4 h n i d) * Ideal.exp (aG m c (ix3 h n i)) := by
  obtain rfl : h = ⟨j.val / 128, Nat.div_lt_of_lt_mul j.isLt⟩ := Fin.ext (by show h.val = j.val / 128; omega)
  obtain rfl : d = ⟨j.val % 128, Nat.mod_lt _ (by decide)⟩ := Fin.ext (by show d.val = j.val % 128; omega)
  obtain rfl : n = ⟨r.val / 64, Nat.div_lt_of_lt_mul r.isLt⟩ := Fin.ext (by show n.val = r.val / 64; omega)
  obtain rfl : i = ⟨r.val % 64, Nat.mod_lt _ (by decide)⟩ := Fin.ext (by show i.val = r.val % 64; omega)
  simp only [V, hostOps0, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise

theorem V21_at : V m c main_v21 (ix2 r j) = aK m c (ix4 h n i d) * Ideal.exp (aG m c (ix3 h n 63) - aG m c (ix3 h n i)) := by
  obtain rfl : h = ⟨j.val / 128, Nat.div_lt_of_lt_mul j.isLt⟩ := Fin.ext (by show h.val = j.val / 128; omega)
  obtain rfl : d = ⟨j.val % 128, Nat.mod_lt _ (by decide)⟩ := Fin.ext (by show d.val = j.val % 128; omega)
  obtain rfl : n = ⟨r.val / 64, Nat.div_lt_of_lt_mul r.isLt⟩ := Fin.ext (by show n.val = r.val / 64; omega)
  obtain rfl : i = ⟨r.val % 64, Nat.mod_lt _ (by decide)⟩ := Fin.ext (by show i.val = r.val % 64; omega)
  simp only [V, hostOps0, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise

omit hj in
theorem V22_at (s : Fin 64) : V m c main_v22 (ix3 h r s) = aS m c (ix4 h n i s) := by
  obtain rfl : n = ⟨r.val / 64, Nat.div_lt_of_lt_mul r.isLt⟩ := Fin.ext (by show n.val = r.val / 64; omega)
  obtain rfl : i = ⟨r.val % 64, Nat.mod_lt _ (by decide)⟩ := Fin.ext (by show i.val = r.val % 64; omega)
  simp only [V, hostOps0, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise

omit hr hj in
theorem V3_at : V m c main_v3 (ix4 h n 0 d) = Ideal.exp (aG m c (ix3 h n 63)) := by
  simp only [V, hostOps0, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  pointwise

end entry

section blocks
variable (c : Dev nD) (t : Fin cfg0.N) (h : Fin 4) (n i : Fin 64) (p : Fin 1024) (hp : 1024 * t.val + p.val = 64 * n.val + i.val) (d : Fin 128) (j : Fin 512) (hj : j.val = 128 * h.val + d.val)
include hp hj

theorem in0 : iblk m c 0 t (ix2 p j) = aU m c (ix4 h n i d) := by
  refine Eq.trans (congrArg (V m c main_v5) (?_ : ((cfg0.win 0).blk t).view.emb _ = ix2 (⟨1024 * t.val + p.val, by omega⟩ : Fin 4096) j)) (V5_at m c h n i _ hp d j hj)
  funext q; fin_cases q <;> refine Fin.ext ?_ <;> blk_simp [idx t] <;> show _ = _ <;> simp <;> omega

theorem in1 : iblk m c 1 t (ix2 p j) = aW m c (ix4 h n i d) := by
  refine Eq.trans (congrArg (V m c main_v7) (?_ : ((cfg0.win 1).blk t).view.emb _ = ix2 (⟨1024 * t.val + p.val, by omega⟩ : Fin 4096) j)) (V7_at m c h n i _ hp d j hj)
  funext q; fin_cases q <;> refine Fin.ext ?_ <;> blk_simp [idx t] <;> show _ = _ <;> simp <;> omega

theorem in2 : iblk m c 2 t (ix2 p j) = aQ m c (ix4 h n i d) * Ideal.exp (aG m c (ix3 h n i)) := by
  refine Eq.trans (congrArg (V m c main_v13) (?_ : ((cfg0.win 2).blk t).view.emb _ = ix2 (⟨1024 * t.val + p.val, by omega⟩ : Fin 4096) j)) (V13_at m c h n i _ hp d j hj)
  funext q; fin_cases q <;> refine Fin.ext ?_ <;> blk_simp [idx t] <;> show _ = _ <;> simp <;> omega

theorem in3 : iblk m c 3 t (ix2 p j) = aK m c (ix4 h n i d) * Ideal.exp (aG m c (ix3 h n 63) - aG m c (ix3 h n i)) := by
  refine Eq.trans (congrArg (V m c main_v21) (?_ : ((cfg0.win 3).blk t).view.emb _ = ix2 (⟨1024 * t.val + p.val, by omega⟩ : Fin 4096) j)) (V21_at m c h n i _ hp d j hj)
  funext q; fin_cases q <;> refine Fin.ext ?_ <;> blk_simp [idx t] <;> show _ = _ <;> simp <;> omega

omit hj in
theorem in4 (s : Fin 64) : iblk m c 4 t (ix3 h p s) = aS m c (ix4 h n i s) := by
  refine Eq.trans (congrArg (V m c main_v22) (?_ : ((cfg0.win 4).blk t).view.emb _ = ix3 h (⟨1024 * t.val + p.val, by omega⟩ : Fin 4096) s)) (V22_at m c h n i _ hp s)
  funext q; fin_cases q <;> refine Fin.ext ?_ <;> blk_simp [idx t] <;> show _ = _ <;> simp <;> omega

omit hp hj in
theorem in5 (o : Fin 16) (ho : 16 * t.val + o.val = n.val) : iblk m c 5 t (ix4 h o 0 d) = Ideal.exp (aG m c (ix3 h n 63)) := by
  refine Eq.trans (congrArg (V m c main_v3) (?_ : ((cfg0.win 5).blk t).view.emb _ = ix4 h n 0 d)) (V3_at m c h n d)
  funext q; fin_cases q <;> refine Fin.ext ?_ <;> blk_simp [idx t] <;> show _ = _ <;> simp <;> omega

end blocks

/-- A head's columns of a chunk's rows, read. -/
theorem part_at {arg : Memref sig .tc .vmem S1024x512 .f32} (harg : arg.IsWhole) (x : Vec Ideal S1024x512 .f32) (n h : ℕ) (i : Fin 64) (d : Fin 128) :
    part harg x n h (ix2 i d) = x (ix2 ⟨64 * (n % 16) + i.val, by omega⟩ ⟨128 * (h % 4) + d.val, by omega⟩) := by
  unfold part
  rw [View.readAt_eq_ld, Memref.IsWhole.read_unread]
  refine congrArg x (?_ : (Rect.unit (s := S1024x512) ![64 * (n % 16), 128 * (h % 4)] S64x128.size (inb2 n h)).emb (ix2 i d) = _)
  funext q; fin_cases q <;> refine Fin.ext ?_
  · show 64 * (n % 16) + 1 * i.val = 64 * (n % 16) + i.val
    omega
  · show 128 * (h % 4) + 1 * d.val = 128 * (h % 4) + d.val
    omega

/-- A chunk's scores, read. -/
theorem scores_at {arg : Memref sig .tc .vmem S4x1024x64 .f32} (harg : arg.IsWhole) (x : Vec Ideal S4x1024x64 .f32) (n : ℕ) (h : Fin 4) (i s : Fin 64) :
    View.readAt (Elt Ideal) arg.view (Rect.unit (s := S4x1024x64) ![0, 64 * (n % 16), 0] S4x64x64.size (inbP n)).toLoadRect (harg.unread x) (ix3 h i s)
      = x (ix3 h ⟨64 * (n % 16) + i.val, by omega⟩ s) := by
  rw [View.readAt_eq_ld, Memref.IsWhole.read_unread]
  refine congrArg x (?_ : (Rect.unit (s := S4x1024x64) ![0, 64 * (n % 16), 0] S4x64x64.size (inbP n)).emb (ix3 h i s) = _)
  funext q; fin_cases q <;> refine Fin.ext ?_
  · show 0 + 1 * h.val = h.val
    omega
  · show 64 * (n % 16) + 1 * i.val = 64 * (n % 16) + i.val
    omega
  · show 0 + 1 * s.val = s.val
    omega

/-- A chunk's decay, read. -/
theorem decay_at {arg : Memref sig .tc .vmem S4x16x1x128 .f32} (harg : arg.IsWhole) (x : Vec Ideal S4x16x1x128 .f32) (n : ℕ) (h : Fin 4) (d : Fin 128) :
    View.readAt (Elt Ideal) arg.view (Rect.unit (s := S4x16x1x128) ![0, n % 16, 0, 0] S4x1x1x128.size (inbE n)).toLoadRect (harg.unread x) (ix4 h 0 0 d)
      = x (ix4 h ⟨n % 16, by omega⟩ 0 d) := by
  rw [View.readAt_eq_ld, Memref.IsWhole.read_unread]
  refine congrArg x (?_ : (Rect.unit (s := S4x16x1x128) ![0, n % 16, 0, 0] S4x1x1x128.size (inbE n)).emb (ix4 h 0 0 d) = _)
  funext q; fin_cases q <;> refine Fin.ext ?_
  · show 0 + 1 * h.val = h.val
    omega
  · show n % 16 + 1 * 0 = n % 16
    omega
  · show 0 + 1 * 0 = 0
    omega
  · show 0 + 1 * d.val = d.val
    omega

/-- What a grid point reads. -/
abbrev lds (c : Dev nD) (t : Fin cfg0.N) : Loads :=
  loads (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)

open Cert.ScanFwdRefIdeal.Val (ins_u ins_w ins_qe ins_kd ins_qk ins_e)

/-- A grid point reads the recurrence's inputs, sixteen chunks of them. -/
theorem reads (c : Dev nD) (t : Fin cfg0.N) : Reads (lds m c t) (args m c) (16 * t.val) := by
  have ht := lt_of_lt_of_eq t.isLt N_0
  refine ⟨fun n hn h i d => ?_, fun n hn h i d => ?_, fun n hn h i d => ?_, fun n hn h i d => ?_, fun n hn h i d => ?_, fun n hn h d => ?_⟩
  · refine (part_at (hs0_0 t) _ n h.val i d).trans (Eq.trans ?_ (ins_u (show 16 * t.val + n < 64 by omega) h i d).symm)
    exact in0 m c t h ⟨16 * t.val + n, by omega⟩ i _ (by show 1024 * t.val + (64 * (n % 16) + i.val) = 64 * (16 * t.val + n) + i.val; omega) d _ (by show 128 * (h.val % 4) + d.val = 128 * h.val + d.val; omega)
  · refine (part_at (hs0_1 t) _ n h.val i d).trans (Eq.trans ?_ (ins_w (show 16 * t.val + n < 64 by omega) h i d).symm)
    exact in1 m c t h ⟨16 * t.val + n, by omega⟩ i _ (by show 1024 * t.val + (64 * (n % 16) + i.val) = 64 * (16 * t.val + n) + i.val; omega) d _ (by show 128 * (h.val % 4) + d.val = 128 * h.val + d.val; omega)
  · refine (part_at (hs0_2 t) _ n h.val i d).trans (Eq.trans ?_ (ins_qe (show 16 * t.val + n < 64 by omega) h i d).symm)
    exact in2 m c t h ⟨16 * t.val + n, by omega⟩ i _ (by show 1024 * t.val + (64 * (n % 16) + i.val) = 64 * (16 * t.val + n) + i.val; omega) d _ (by show 128 * (h.val % 4) + d.val = 128 * h.val + d.val; omega)
  · refine (part_at (hs0_3 t) _ n h.val i d).trans (Eq.trans ?_ (ins_kd (show 16 * t.val + n < 64 by omega) h i d).symm)
    exact in3 m c t h ⟨16 * t.val + n, by omega⟩ i _ (by show 1024 * t.val + (64 * (n % 16) + i.val) = 64 * (16 * t.val + n) + i.val; omega) d _ (by show 128 * (h.val % 4) + d.val = 128 * h.val + d.val; omega)
  · refine (scores_at (hs0_4 t) _ n h i d).trans (Eq.trans ?_ (ins_qk (show 16 * t.val + n < 64 by omega) h i d).symm)
    exact in4 m c t h ⟨16 * t.val + n, by omega⟩ i _ (by show 1024 * t.val + (64 * (n % 16) + i.val) = 64 * (16 * t.val + n) + i.val; omega) d
  · refine (decay_at (hs0_5 t) _ n h d).trans (Eq.trans ?_ (ins_e (show 16 * t.val + n < 64 by omega) h).symm)
    exact in5 m c t h ⟨16 * t.val + n, by omega⟩ d _ (by show 16 * t.val + n % 16 = 16 * t.val + n; omega)

end Cert.ScanFwdIdeal.Val
end
-- ==== Proof.ScanFwd.Point.lean ====
/- What each grid point of the recurrence's kernel leaves. -/
module

public import proofs.«01_k».proof.Proof.ScanFwd.Entry

@[expose] public section

set_option maxRecDepth 16384

noncomputable section

open Idealize.ShloMosaic Idealize.ShloMosaic.TcCoe Idealize.SL.Sem

namespace Cert.ScanFwdIdeal.Val

open Cert.ScanFwdIdeal Cert.ScanFwdIdeal.Gen
open Cert.Scan
open Idealize.ShloMosaic.Pipeline (Dat)

variable (m : (ℓ : Loc nD τ sig) → Buf (Elt Ideal) ℓ)

/-- A carried state is read back whole. -/
theorem carried_eq {arg : Memref sig .tc .vmem S4x128x128 .f32} (harg : arg.IsWhole) (x : Vec Ideal S4x128x128 .f32) : carried arg harg x = x := by
  unfold carried
  rw [View.readAt_eq_ld, Memref.IsWhole.read_unread]
  exact View.ld_unit_lit' _ _ (by decide)

/-- The first point's state is zero. -/
theorem first_eq (c : Dev nD) (arg : Memref sig .tc .vmem S4x128x128 .f32) : kernelRun0_A.sl.v3 (F := Ideal) c arg = k0_pay5 (F := Ideal) :=
  View.readCov_unit_lit' _ _ _ (by decide)

theorem zero_at (h : Fin 4) (i j : Fin 128) : k0_pay5 (F := Ideal) (ix3 h i j) = (0 : EReal) := by
  pointwise [k0_pay5]

/-- A stored state is that state. -/
theorem last_eq (S : Vec Ideal S4x128x128 .f32) (K : List (View.Piece (Elt Ideal) S4x128x128 .f32)) : View.canon (lastPiece S :: K) = S := by
  refine (View.canon_cons_unit_lit' _ _ _ (by decide)).trans ?_
  funext y
  idx_vars y
  pointwise

/-- What a point leaves, from the state it starts with. -/
structure Leaves (c : Dev nD) (t : Fin cfg0.N) (S : Vec Ideal S4x128x128 .f32) : Prop where
  o : (outsAt0 m c t.val t.isLt).1 = View.canon (pieces6 (lds m c t) S 16)
  s : (outsAt0 m c t.val t.isLt).2.1 = View.canon (pieces7 (lds m c t) S 16)
  l : (outsAt0 m c t.val t.isLt).2.2 = chain (lds m c t) S 16

theorem leaves_first (c : Dev nD) (t : Fin cfg0.N) (h0 : t.val % 4 = 0) : Leaves m c t (k0_pay5 (F := Ideal)) := by
  have r := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) (iblk m c 0 t) (iblk m c 1 t) (iblk m c 2 t) (iblk m c 3 t) (iblk m c 4 t) (iblk m c 5 t) ((hcond0_0 t).mpr h0)
  rw [first_eq] at r
  refine ⟨?_, ?_, ?_⟩ <;> rw [outsAt0_A m c t h0] <;> dsimp only
  · unfold out0_A_6
    rw [View.read_writes_junk_eq_canon, r.1]
  · unfold out0_A_7
    rw [View.read_writes_junk_eq_canon, r.2.1]
  · unfold sout0_A_0
    rw [View.read_writes_junk_eq_canon, r.2.2, last_eq]

theorem leaves_next (c : Dev nD) (t : Fin cfg0.N) (h0 : ¬t.val % 4 = 0) :
    Leaves m c t (outsAt0 m c (t.val - 1) (Nat.lt_of_le_of_lt (Nat.sub_le _ _) t.isLt)).2.2 := by
  have r := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.2 (fun h => h0 ((hcond0_0 t).mp h))
  rw [carried_eq] at r
  refine ⟨?_, ?_, ?_⟩ <;> rw [outsAt0_B m c t h0] <;> dsimp only
  · unfold out0_B_6
    rw [View.read_writes_junk_eq_canon, r.1]
  · unfold out0_B_7
    rw [View.read_writes_junk_eq_canon, r.2.1]
  · unfold sout0_B_0
    rw [View.read_writes_junk_eq_canon, r.2.2, last_eq]

/-- Every point starts from the recurrence's state. -/
theorem starts (c : Dev nD) : ∀ (n : ℕ) (hn : n < cfg0.N), ∃ S, Leaves m c ⟨n, hn⟩ S ∧ ∀ h i j, S (ix3 h i j) = state (args m c) (16 * n) h i j
  | 0, hn => ⟨_, leaves_first m c ⟨0, hn⟩ rfl, zero_at⟩
  | n + 1, hn => by
    have hN := lt_of_lt_of_eq hn N_0
    obtain ⟨S, hS, hs⟩ := starts c n (by omega)
    refine ⟨_, leaves_next m c ⟨n + 1, hn⟩ (by show ¬(n + 1) % 4 = 0; omega), fun h i j => ?_⟩
    exact (congrFun hS.l _).trans (chain_at (reads m c ⟨n, by omega⟩) hs 16 le_rfl h i j)

/-- A point's rows of the output. -/
theorem rows_at (c : Dev nD) (t : Fin cfg0.N) (p : Fin 1024) (e : Fin 512) :
    (outsAt0 m c t.val t.isLt).1 (ix2 p e)
      = out (args m c) (state (args m c) (16 * t.val + p.val / 64)) (16 * t.val + p.val / 64) ⟨e.val / 128, by omega⟩ ⟨p.val % 64, by omega⟩ ⟨e.val % 128, by omega⟩ := by
  obtain ⟨S, hS, hs⟩ := starts m c t.val t.isLt
  refine (congrFun hS.o _).trans ((pieces6_at _ S p e 16 le_rfl (by omega)).trans ?_)
  exact oAt_at (reads m c t) (by omega) (chain_at (reads m c t) hs _ (by omega)) _ _ _

/-- A point's states. -/
theorem states_at (c : Dev nD) (t : Fin cfg0.N) (h : Fin 4) (n : Fin 16) (i j : Fin 128) :
    (outsAt0 m c t.val t.isLt).2.1 (ix4 h n i j) = state (args m c) (16 * t.val + n.val) h i j := by
  obtain ⟨S, hS, hs⟩ := starts m c t.val t.isLt
  exact (congrFun hS.s _).trans ((pieces7_at _ S h n i j 16 le_rfl n.isLt).trans (chain_at (reads m c t) hs _ (by omega) h i j))

end Cert.ScanFwdIdeal.Val
end
-- ==== Proof.ScanFwd.Equal.lean ====
/- The recurrence's kernel and the plain scan compute the same two arrays. -/
module

public import proofs.«01_k».proof.Proof.ScanFwd.Point
public import proofs.«01_k».proof.Proof.Gen.ScanFwdRefIdeal.Run
public import proofs.«01_k».proof.Defs

@[expose] public section

set_option maxRecDepth 16384

noncomputable section

open Idealize.ShloMosaic Idealize.ShloMosaic.TcCoe Idealize.SL.Sem

namespace Cert.ScanFwdIdeal.Val

open Cert.ScanFwdIdeal Cert.ScanFwdIdeal.Gen
open Cert.Scan
open Idealize.ShloMosaic.Pipeline (Dat)

variable (m : (ℓ : Loc nD τ sig) → Buf (Elt Ideal) ℓ)

/-- The recurrence's output at a row and a column. -/
def rowOut (a : Ins) (p : Fin 4096) (e : Fin 512) : EReal :=
  out a (state a (p.val / 64)) (p.val / 64) ⟨e.val / 128, by omega⟩ ⟨p.val % 64, by omega⟩ ⟨e.val % 128, by omega⟩

/-- The recurrence's state before a chunk. -/
def chunkState (a : Ins) (h : Fin 4) (n : Fin 64) (i j : Fin 128) : EReal := state a n.val h i j

/-- The outputs after the run. -/
theorem arr_6 (c : Dev nD) : (dats m 0 c).arrAt 6 (cfgs 0).N = fun y => rowOut (args m c) (y 0) (y 1) := by
  refine (dats m 0 c).arrAt_eq_of_covers 6 _ (by decide +kernel) fun t hf y => ?_
  have ht := lt_of_lt_of_eq t.isLt N_0
  blk_simp
  rw [after0_6]
  idx_vars y
  refine (rows_at m c t y0 y1).trans ?_
  have e0 : ((win0_6.blk t).view.emb (ix2 y0 y1) 0).val = t.val * 1024 + y0.val := by blk_simp [idx t]
  have e1 : ((win0_6.blk t).view.emb (ix2 y0 y1) 1).val = y1.val := by blk_simp [idx t]
  unfold rowOut
  have en : ((win0_6.blk t).view.emb (ix2 y0 y1) 0).val / 64 = 16 * t.val + y0.val / 64 := by omega
  rw [en]
  refine congr (congr (congrArg (out _ _ _) (Fin.ext ?_)) (Fin.ext ?_)) (Fin.ext ?_)
  · show y1.val / 128 = ((win0_6.blk t).view.emb (ix2 y0 y1) 1).val / 128; rw [e1]
  · show y0.val % 64 = ((win0_6.blk t).view.emb (ix2 y0 y1) 0).val % 64; omega
  · show y1.val % 128 = ((win0_6.blk t).view.emb (ix2 y0 y1) 1).val % 128; rw [e1]

/-- The states after the run. -/
theorem arr_7 (c : Dev nD) : (dats m 0 c).arrAt 7 (cfgs 0).N = fun y => chunkState (args m c) (y 0) (y 1) (y 2) (y 3) := by
  refine (dats m 0 c).arrAt_eq_of_covers 7 _ (by decide +kernel) fun t hf y => ?_
  have ht := lt_of_lt_of_eq t.isLt N_0
  blk_simp
  rw [after0_7]
  idx_vars y
  refine (states_at m c t y0 y1 y2 y3).trans ?_
  have e0 : ((win0_7.blk t).view.emb (ix4 y0 y1 y2 y3) 0).val = y0.val := by blk_simp [idx t]
  have e1 : ((win0_7.blk t).view.emb (ix4 y0 y1 y2 y3) 1).val = t.val * 16 + y1.val := by blk_simp [idx t]
  have e2 : ((win0_7.blk t).view.emb (ix4 y0 y1 y2 y3) 2).val = y2.val := by blk_simp [idx t]
  have e3 : ((win0_7.blk t).view.emb (ix4 y0 y1 y2 y3) 3).val = y3.val := by blk_simp [idx t]
  unfold chunkState
  exact congr (congr (congr (congrArg (state _) (show 16 * t.val + y1.val = ((win0_7.blk t).view.emb (ix4 y0 y1 y2 y3) 1).val by omega)) (Fin.ext e0.symm)) (Fin.ext e2.symm)) (Fin.ext e3.symm)

/-- The reference runs, leaves its arguments as they were and every counter at zero. -/
theorem frame_ref : Cert.quiescent_ScanFwdRefIdeal := fun m g _ =>
  (θ_run Cert.ScanFwdRefIdeal.defs _ _).mono (fun r h => ⟨fun c => (h c).2.2, sem_eq_zero_of_no_sems (by decide) r.2⟩)
    (Cert.ScanFwdRefIdeal.Value.run (F := Ideal) m g)

theorem ins_congr {q q' k k' u u' w w' : FVec Ideal S4x64x64x128 .f32} {g g' : FVec Ideal S4x64x64 .f32} {s s' : FVec Ideal S4x64x64x64 .f32}
    (a0 : q = q') (a1 : k = k') (a2 : u = u') (a3 : w = w') (a4 : g = g') (a5 : s = s') :
    Cert.ScanFwdRefIdeal.Val.ins q k u w g s = Cert.ScanFwdRefIdeal.Val.ins q' k' u' w' g' s' := by
  rw [a0, a1, a2, a3, a4, a5]

set_option maxHeartbeats 4000000 in
/-- Kernel and reference compute the same outputs and the same states over the extended reals. -/
theorem algebraic : Cert.algebraic_ScanFwdIdeal_ScanFwdRefIdeal := by
  intro m g m' g' _ hagree
  refine ⟨fun c => (dats m 0 c).arrAt 6 (cfgs 0).N, fun c => (dats m 0 c).arrAt 7 (cfgs 0).N, Cert.ScanFwdIdeal.Value.run_blocks m g, ?_⟩
  refine (θ_run Cert.ScanFwdRefIdeal.defs _ _).mono (fun r h => ?_) (Cert.ScanFwdRefIdeal.Value.run (F := Ideal) m' g')
  intro c
  obtain ⟨a0, a1, a2, a3, a4, a5⟩ := hagree c
  have ea : Cert.ScanFwdRefIdeal.Val.args m' c = args m c :=
    ins_congr a0 a1 a2 a3 a4 a5
  refine ⟨(h c).1.trans (Eq.trans (funext fun y => ?_) (arr_6 m c).symm), (h c).2.1.trans (Eq.trans (funext fun y => ?_) (arr_7 m c).symm), (h c).2.2⟩
  · idx_vars y
    exact (Cert.ScanFwdRefIdeal.Val.v11_at m' c y0 y1).trans (congrArg (fun a => rowOut a y0 y1) ea)
  · idx_vars y
    exact (Cert.ScanFwdRefIdeal.Val.v12_at m' c y0 y1 y2 y3).trans (congrArg (fun a => chunkState a y0 y1 y2 y3) ea)

end Cert.ScanFwdIdeal.Val
end
-- ==== Proof.NormFwd.Kernel.lean ====
/- What the first norm's forward kernel leaves in its results, in coordinates of the whole arrays. -/
module

public import proofs.«01_k».proof.Proof.Gen.NormFwdIdeal.Frame
public import proofs.«01_k».proof.Proof.Common
public import Idealize.ShloMosaic.PureOps.Ideal.Laws
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwdIdeal.Val

open Cert.NormFwdIdeal Cert.NormFwdIdeal.Gen

variable (m : (ℓ : Loc nD τ sig) → Buf (Elt Ideal) ℓ)

/-- The block of every window at every grid point. -/
theorem idx : ∀ t : Fin cfg0.N, win0_0.index t = ![t.val, 0] ∧ win0_1.index t = ![0, 0] ∧ win0_2.index t = ![t.val, 0] :=
  (by decide +kernel : ∀ t : Fin grid0.N, _)

/-- The length of a row, as the programs' literal. -/
abbrev n1024 : EReal := Ideal.ofBits .f32 1149239296#32

/-- The normed rows, over the whole arrays. -/
def K2 (X : FVec Ideal S4096x1024 .f32) (G : FVec Ideal S1024 .f32) : FVec Ideal S4096x1024 .bf16 := fun i =>
  X i * Ideal.rsqrt (Cert.Common.meanSq n1024 (fun k => X (ix2 (i 0) k))) * G (ix1 (i 1))

theorem V0 (c : Dev nD) (u : Fin 1) (j : Fin 1024) : V m c main_v0 (ix2 u j) = (m ((c : Thread nD τ).loc main_arg1) : FVec Ideal S1024 .f32) (ix1 j) := by
  simp only [V, hostOps0, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp
  pointwise

/-- What one point stores, at an index of the block. -/
theorem point_2 (c : Dev nD) (t : Fin cfg0.N) (y) :
    k0_pay1 (iblk m c 0 t) (iblk m c 1 t) y = K2 (V m c main_arg0) (m ((c : Thread nD τ).loc main_arg1)) (((cfg0.win 2).blk t).view.emb y) := by
  have g : ∀ j, (m ((c : Thread nD τ).loc main_arg1) : FVec Ideal S1024 .f32) (ix1 j) = V m c main_v0 (ix2 0 j) := fun j => (V0 m c 0 j).symm
  pointwise [k0_pay1, K2, Cert.Common.meanSq, g]
  blk_point [iblk, idx t]

/-- The normed rows after the run. -/
theorem arr_2 (c : Dev nD) : (dats m 0 c).arrAt 2 (cfgs 0).N = K2 (V m c main_arg0) (m ((c : Thread nD τ).loc main_arg1)) := by
  refine (dats m 0 c).arrAt_eq_of_covers 2 _ (by decide +kernel) fun t hf y => ?_
  blk_simp; rw [after0_2]; frame_out
  exact point_2 m c t y

end Cert.NormFwdIdeal.Val
end
-- ==== Proof.NormFwd.Equal.lean ====
/- The first norm's forward kernel computes the plain norm. -/
module

public import proofs.«01_k».proof.Proof.NormFwd.Kernel
public import proofs.«01_k».proof.Proof.Gen.NormFwdRefIdeal.Read
public import proofs.«01_k».proof.Defs
public import proofs.«01_k».proof.Proof.Gen.NormFwd

@[expose] public section

set_option maxRecDepth 16384

noncomputable section

open Idealize.ShloMosaic Idealize.ShloMosaic.TcCoe Idealize.SL.Sem

namespace Cert.NormFwdIdeal.Val
open Cert.NormFwdIdeal Cert.NormFwdIdeal.Gen Cert.NormFwdRefIdeal.Read

/-- The reference's result is the same normed rows. -/
theorem ref_eq (x0 : FVec Ideal S4096x1024 .f32) (x1 : FVec Ideal S1024 .f32) : val_main_v13 (F := Ideal) x0 x1 = K2 x0 x1 := by
  funext i; idx_vars i
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, Cert.Common.meanSq, K2]

/-- The reference runs, leaves its arguments as they were and every counter at zero. -/
theorem frame_ref : Cert.quiescent_NormFwdRefIdeal := fun m g _ =>
  (θ_run Cert.NormFwdRefIdeal.defs _ _).mono (fun r h => ⟨fun c => (h c).2, sem_eq_zero_of_no_sems (by decide) r.2⟩)
    (Cert.NormFwdRefIdeal.Value.run (F := Ideal) m g)

/-- Kernel and reference compute the same normed rows over the extended reals. -/
theorem algebraic : Cert.algebraic_NormFwdIdeal_NormFwdRefIdeal := by
  pair_intro
  · run_from Cert.NormFwdIdeal.Gen.run_main m g
    all_goals first | exact V_main_arg0 m c | exact V_main_arg1 m c
  · run_from Cert.NormFwdRefIdeal.Value.run m' g'
    · exact (Cert.NormFwdRefIdeal.Read.val_main_v13_eq _ _).symm.trans ((ref_eq _ _).trans ((arr_2 m c).trans (congrArg (fun X => K2 X _) (V_main_arg0 m c))).symm)

end Cert.NormFwdIdeal.Val
end
-- ==== Proof.OutFwd.Kernel.lean ====
/- What the forward kernel of the recurrence's output gate leaves in its results, in coordinates of the whole arrays. -/
module

public import proofs.«01_k».proof.Proof.Gen.OutFwdIdeal.Frame
public import proofs.«01_k».proof.Proof.Common
public import Idealize.ShloMosaic.PureOps.Ideal.Laws
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutFwdIdeal.Val

open Cert.OutFwdIdeal Cert.OutFwdIdeal.Gen

variable (m : (ℓ : Loc nD τ sig) → Buf (Elt Ideal) ℓ)

/-- The block of every window at every grid point. -/
theorem idx : ∀ t : Fin cfg0.N, win0_0.index t = ![t.val / 4, t.val % 4] ∧ win0_1.index t = ![t.val / 4, 28 + t.val % 4] ∧ win0_2.index t = ![0, 0]
    ∧ win0_3.index t = ![t.val / 4, t.val % 4] :=
  (by decide +kernel : ∀ t : Fin grid0.N, _)

/-- The length of a head's row, as the programs' literal. -/
abbrev n128 : EReal := Ideal.ofBits .f32 0x43000000#32

/-- A head's output, normed over the head and gated, over the whole arrays. -/
def K3 (O Z : FVec Ideal S4096x512 .f32) (G : FVec Ideal S128 .f32) : FVec Ideal S4096x512 .bf16 := fun i =>
  O i * Ideal.rsqrt (Cert.Common.meanSq n128 (fun k : Fin 128 => O (ix2 (i 0) ⟨(i 1).val / 128 * 128 + k.val, by have : (i 1).val < 512 := (i 1).isLt; have := k.isLt; omega⟩)))
    * G (ix1 ⟨(i 1).val % 128, by omega⟩) * (Z i * Ideal.logistic (Z i))

theorem V1 (c : Dev nD) (u : Fin 1) (j : Fin 128) : V m c main_v1 (ix2 u j) = (m ((c : Thread nD τ).loc main_arg2) : FVec Ideal S128 .f32) (ix1 j) := by
  simp only [V, hostOps0, hostOps0_1, hostOps0_2, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem V0 (c : Dev nD) : (V m c main_v0 : FVec Ideal S4096x4992 .f32) = fun i => if h : 3584 ≤ (i 1).val ∧ (i 1).val - 3584 < 512 then
    (m ((c : Thread nD τ).loc main_arg1) : FVec Ideal S4096x512 .f32) (ix2 (i 0) ⟨(i 1).val - 3584, h.2⟩) else (0 : EReal) := by
  simp only [V, hostOps0, hostOps0_1, hostOps0_2, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp
  funext i; idx_vars i
  pointwise [Cert.Common.sitofp_zero]

/-- The gate's column inside the padded array. -/
theorem V0_at (c : Dev nD) (r : Fin 4096) (j : Fin 512) :
    (m ((c : Thread nD τ).loc main_arg1) : FVec Ideal S4096x512 .f32) (ix2 r j) = V m c main_v0 (ix2 r ⟨3584 + j.val, by have := j.isLt; omega⟩) := by
  rw [V0]
  have h : 3584 ≤ 3584 + j.val ∧ 3584 + j.val - 3584 < 512 := ⟨by omega, by have := j.isLt; omega⟩
  refine Eq.trans ?_ (dif_pos h).symm
  exact congrArg _ (congrArg (ix2 r) (Fin.ext (by show j.val = 3584 + j.val - 3584; omega)))

/-- What one point stores, at an index of the block. -/
theorem point_3 (c : Dev nD) (t : Fin cfg0.N) (y) :
    k0_pay1 (iblk m c 0 t) (iblk m c 1 t) (iblk m c 2 t) y
      = K3 (V m c main_arg0) (m ((c : Thread nD τ).loc main_arg1)) (m ((c : Thread nD τ).loc main_arg2)) (((cfg0.win 3).blk t).view.emb y) := by
  have g : ∀ j, (m ((c : Thread nD τ).loc main_arg2) : FVec Ideal S128 .f32) (ix1 j) = V m c main_v1 (ix2 0 j) := fun j => (V1 m c 0 j).symm
  have z : ∀ i : S4096x512.Idx, (m ((c : Thread nD τ).loc main_arg1) : FVec Ideal S4096x512 .f32) i
      = V m c main_v0 (ix2 (i 0) ⟨3584 + (i 1).val, by have : (i 1).val < 512 := (i 1).isLt; omega⟩) := fun i => by
    idx_vars i; exact V0_at m c _ _
  pointwise [k0_pay1, K3, Cert.Common.meanSq, g, z]
  blk_point [iblk, idx t]

/-- The result after the run. -/
theorem arr_3 (c : Dev nD) : (dats m 0 c).arrAt 3 (cfgs 0).N
    = K3 (V m c main_arg0) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_3 m c t y

end Cert.OutFwdIdeal.Val
end
-- ==== Proof.OutFwd.Equal.lean ====
/- The forward kernel of the recurrence's output gate computes the plain lines. -/
module

public import proofs.«01_k».proof.Proof.OutFwd.Kernel
public import proofs.«01_k».proof.Proof.Gen.OutFwdRefIdeal.Read
public import proofs.«01_k».proof.Defs
public import proofs.«01_k».proof.Proof.Gen.OutFwd

@[expose] public section

set_option maxRecDepth 16384

noncomputable section

open Idealize.ShloMosaic Idealize.ShloMosaic.TcCoe Idealize.SL.Sem

namespace Cert.OutFwdIdeal.Val
open Cert.OutFwdIdeal Cert.OutFwdIdeal.Gen Cert.OutFwdRefIdeal.Read

/-- The reference's result is the same. -/
theorem ref_eq (x0 x1 : FVec Ideal S4096x512 .f32) (x2 : FVec Ideal S128 .f32) : val_main_v18 (F := Ideal) x0 x1 x2 = K3 x0 x1 x2 := by
  funext i; idx_vars i
  pointwise [val_main_v18, val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_call0_v0, val_main_call0_v1,
    val_main_call0_v2, val_main_call0_v3, val_main_call0_v4, val_main_call0_v5, val_main_call0_cst, val_main_call0_cst_0, Cert.Common.meanSq, K3]
  rfl

/-- The reference runs, leaves its arguments as they were and every counter at zero. -/
theorem frame_ref : Cert.quiescent_OutFwdRefIdeal := fun m g _ =>
  (θ_run Cert.OutFwdRefIdeal.defs _ _).mono (fun r h => ⟨fun c => (h c).2, sem_eq_zero_of_no_sems (by decide) r.2⟩)
    (Cert.OutFwdRefIdeal.Value.run (F := Ideal) m g)

/-- Kernel and reference compute the same gated rows over the extended reals. -/
theorem algebraic : Cert.algebraic_OutFwdIdeal_OutFwdRefIdeal := by
  pair_intro
  · run_from Cert.OutFwdIdeal.Gen.run_main m g
    all_goals first | exact V_main_arg0 m c | exact V_main_arg1 m c | exact V_main_arg2 m c
  · run_from Cert.OutFwdRefIdeal.Value.run m' g'
    · exact (Cert.OutFwdRefIdeal.Read.val_main_v18_eq _ _ _).symm.trans ((ref_eq _ _ _).trans ((arr_3 m c).trans (congrArg (fun X => K3 X _ _) (V_main_arg0 m c))).symm)

end Cert.OutFwdIdeal.Val
end
-- ==== Proof.OutNormFwd.Kernel.lean ====
/- What the forward kernel of the output product and second norm leaves in its results, in coordinates of the whole arrays. -/
module

public import proofs.«01_k».proof.Proof.Gen.OutNormFwdIdeal.Frame
public import proofs.«01_k».proof.Proof.Common
public import Idealize.ShloMosaic.PureOps.Ideal.Laws
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutNormFwdIdeal.Val

open Cert.OutNormFwdIdeal Cert.OutNormFwdIdeal.Gen

variable (m : (ℓ : Loc nD τ sig) → Buf (Elt Ideal) ℓ)

/-- The block of every window at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The length of a row, as the programs' literal. -/
abbrev n1024 : EReal := Ideal.ofBits .f32 1149239296#32

/-- The residual sum: the rows plus their product with the weight. -/
def K4 (X M : FVec Ideal S4096x1024 .f32) (W : FVec Ideal S1024x1024 .f32) : FVec Ideal S4096x1024 .f32 := fun i =>
  X i + ∑ k : Fin 1024, M (ix2 (i 0) k) * W (ix2 k (i 1))

/-- The normed rows of the residual sum. -/
def K5 (X M : FVec Ideal S4096x1024 .f32) (W : FVec Ideal S1024x1024 .f32) (G : FVec Ideal S1024 .f32) : FVec Ideal S4096x1024 .bf16 := fun i =>
  K4 X M W i * Ideal.rsqrt (Cert.Common.meanSq n1024 (fun k => K4 X M W (ix2 (i 0) k))) * G (ix1 (i 1))

theorem V0 (c : Dev nD) : V m c main_v0 = (m ((c : Thread nD τ).loc main_arg1) : FVec Ideal S4096x1024 .f32) := by
  simp only [V, hostOps0, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp
  funext i
  pointwise

theorem V1 (c : Dev nD) : V m c main_v1 = (m ((c : Thread nD τ).loc main_arg2) : FVec Ideal S1024x1024 .f32) := by
  simp only [V, hostOps0, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp
  funext i
  pointwise

theorem V2 (c : Dev nD) (u : Fin 1) (j : Fin 1024) : V m c main_v2 (ix2 u j) = (m ((c : Thread nD τ).loc main_arg3) : FVec Ideal S1024 .f32) (ix1 j) := by
  simp only [V, hostOps0, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp
  pointwise

/-- What one point stores of the residual sum, at an index of the block. -/
theorem point_4 (c : Dev nD) (t : Fin cfg0.N) (y) :
    k0_pay1 (iblk m c 0 t) (iblk m c 1 t) (iblk m c 2 t) y = K4 (V m c main_arg0) (V m c main_v0) (V m c main_v1) (((cfg0.win 4).blk t).view.emb y) := by
  pointwise [k0_pay1, K4]
  blk_point [iblk, idx t]

/-- What one point stores of the normed rows, at an index of the block. -/
theorem point_5 (c : Dev nD) (t : Fin cfg0.N) (y) :
    k0_pay2 (iblk m c 0 t) (iblk m c 1 t) (iblk m c 2 t) (iblk m c 3 t) y
      = K5 (V m c main_arg0) (V m c main_v0) (V m c main_v1) (m ((c : Thread nD τ).loc main_arg3)) (((cfg0.win 5).blk t).view.emb y) := by
  have g : ∀ j, (m ((c : Thread nD τ).loc main_arg3) : FVec Ideal S1024 .f32) (ix1 j) = V m c main_v2 (ix2 0 j) := fun j => (V2 m c 0 j).symm
  pointwise [k0_pay2, k0_pay1, K5, K4, Cert.Common.meanSq, g]
  blk_point [iblk, idx t]

/-- The residual sum after the run. -/
theorem arr_4 (c : Dev nD) : (dats m 0 c).arrAt 4 (cfgs 0).N = K4 (V m c main_arg0) (V m c main_v0) (V m c main_v1) := by
  refine (dats m 0 c).arrAt_eq_of_covers 4 _ (by decide +kernel) fun t hf y => ?_
  blk_simp; rw [after0_4]; frame_out
  exact point_4 m c t y

/-- The normed rows after the run. -/
theorem arr_5 (c : Dev nD) : (dats m 0 c).arrAt 5 (cfgs 0).N = K5 (V m c main_arg0) (V m c main_v0) (V m c main_v1) (m ((c : Thread nD τ).loc main_arg3)) := by
  refine (dats m 0 c).arrAt_eq_of_covers 5 _ (by decide +kernel) fun t hf y => ?_
  blk_simp; rw [after0_5]; frame_out
  exact point_5 m c t y

end Cert.OutNormFwdIdeal.Val
end
-- ==== Proof.OutNormFwd.Equal.lean ====
/- The forward kernel of the output product and second norm computes the plain lines. -/
module

public import proofs.«01_k».proof.Proof.OutNormFwd.Kernel
public import proofs.«01_k».proof.Proof.Gen.OutNormFwdRefIdeal.Read
public import proofs.«01_k».proof.Defs
public import proofs.«01_k».proof.Proof.Gen.OutNormFwd

@[expose] public section

set_option maxRecDepth 16384

noncomputable section

open Idealize.ShloMosaic Idealize.ShloMosaic.TcCoe Idealize.SL.Sem

namespace Cert.OutNormFwdIdeal.Val
open Cert.OutNormFwdIdeal Cert.OutNormFwdIdeal.Gen Cert.OutNormFwdRefIdeal.Read

variable (m : (ℓ : Loc nD τ sig) → Buf (Elt Ideal) ℓ)

/-- The reference's residual sum is the same. -/
theorem ref_4 (x0 x1 : FVec Ideal S4096x1024 .f32) (x2 : FVec Ideal S1024x1024 .f32) : val_main_v1 (F := Ideal) x0 x1 x2 = K4 x0 x1 x2 := by
  funext i; idx_vars i
  pointwise [val_main_v1, val_main_v0, K4]

/-- The reference's normed rows are the same. -/
theorem ref_5 (x0 x1 : FVec Ideal S4096x1024 .f32) (x2 : FVec Ideal S1024x1024 .f32) (x3 : FVec Ideal S1024 .f32) : val_main_v15 (F := Ideal) x0 x1 x2 x3 = K5 x0 x1 x2 x3 := by
  funext i; idx_vars i
  pointwise [val_main_v15, val_main_v14, val_main_v13, val_main_v12, val_main_v11, val_main_v10, val_main_v9, val_main_v8, val_main_v7, val_main_v6, val_main_v5, val_main_v4,
    val_main_v3, val_main_v2, ref_4, val_main_cst, val_main_cst_0, val_main_cst_1, Cert.Common.meanSq, K5]

/-- The kernel's residual sum is the reference's. -/
theorem eq_4 (c : Dev nD) : (dats m 0 c).arrAt 4 (cfgs 0).N = val_main_v1 (F := Ideal)
    (m ((c : Thread nD τ).loc main_arg0)) (m ((c : Thread nD τ).loc main_arg1)) (m ((c : Thread nD τ).loc main_arg2)) := by
  rw [arr_4, V0, V1, V_main_arg0]; exact (ref_4 _ _ _).symm

/-- The kernel's normed rows are the reference's. -/
theorem eq_5 (c : Dev nD) : (dats m 0 c).arrAt 5 (cfgs 0).N = val_main_v15 (F := Ideal)
    (m ((c : Thread nD τ).loc main_arg0)) (m ((c : Thread nD τ).loc main_arg1)) (m ((c : Thread nD τ).loc main_arg2)) (m ((c : Thread nD τ).loc main_arg3)) := by
  rw [arr_5, V0, V1, V_main_arg0]; exact (ref_5 _ _ _ _).symm

/-- The reference runs, leaves its arguments as they were and every counter at zero. -/
theorem frame_ref : Cert.quiescent_OutNormFwdRefIdeal := fun m g _ =>
  (θ_run Cert.OutNormFwdRefIdeal.defs _ _).mono (fun r h => ⟨fun c => (h c).2.2, sem_eq_zero_of_no_sems (by decide) r.2⟩)
    (Cert.OutNormFwdRefIdeal.Value.run (F := Ideal) m g)

/-- Kernel and reference compute the same sum and the same normed rows over the extended reals. -/
theorem algebraic : Cert.algebraic_OutNormFwdIdeal_OutNormFwdRefIdeal := by
  pair_intro
  · run_from Cert.OutNormFwdIdeal.Gen.run_main m g
    all_goals first | exact V_main_arg0 m c | exact V_main_arg1 m c | exact V_main_arg2 m c | exact V_main_arg3 m c
  · run_from Cert.OutNormFwdRefIdeal.Value.run m' g'
    · exact (val_main_v1_eq _ _ _).symm.trans (eq_4 m c).symm
    · exact (val_main_v15_eq _ _ _ _).symm.trans (eq_5 m c).symm

end Cert.OutNormFwdIdeal.Val
end
-- ==== Proof.GluFwd.Kernel.lean ====
/- What the forward kernel of the gated unit leaves in its results, in coordinates of the whole arrays. -/
module

public import proofs.«01_k».proof.Proof.Gen.GluFwdIdeal.Frame
public import proofs.«01_k».proof.Proof.Common
public import Idealize.ShloMosaic.PureOps.Ideal.Laws
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluFwdIdeal.Val

open Cert.GluFwdIdeal Cert.GluFwdIdeal.Gen

variable (m : (ℓ : Loc nD τ sig) → Buf (Elt Ideal) ℓ)

/-- The block of every window at every grid point. -/
theorem idx : ∀ t : Fin cfg0.N, win0_0.index t = ![t.val % 4, 0]
    ∧ win0_1.index t = ![t.val / 4, 0, 0]
    ∧ win0_2.index t = ![t.val % 4, 0]
    ∧ win0_3.index t = ![t.val / 4, 0, 0]
    ∧ win0_4.index t = ![t.val % 4, t.val / 4]
    ∧ win0_5.index t = ![t.val % 4, t.val / 4]
    ∧ win0_6.index t = ![t.val % 4, t.val / 4] :=
  (by decide +kernel : ∀ t : Fin grid0.N, _)

/-- The rows times one of the two weights, the weight cut into eight blocks of columns. -/
def prod (H : FVec Ideal S4096x1024 .bf16) (W : FVec Ideal S8x1024x384 .bf16) : FVec Ideal S4096x3072 .f32 := fun i =>
  ∑ k : Fin 1024, H (ix2 (i 0) k) * W (ix3 ⟨(i 1).val / 384, by have : (i 1).val < 3072 := (i 1).isLt; omega⟩ k ⟨(i 1).val % 384, by omega⟩)

/-- The activation of two products. -/
def act (A B : FVec Ideal S4096x3072 .f32) : FVec Ideal S4096x3072 .bf16 := fun i => A i * Ideal.logistic (A i) * B i

/-- A weight cut into eight blocks of 352 columns, each with zero columns after it. -/
def colBlocks (w : FVec Ideal S1024x2816 .f32) : FVec Ideal S8x1024x384 .bf16 := fun i =>
  if h : (i 2).val < 352 then w (ix2 (i 1) ⟨(i 0).val * 352 + (i 2).val, by have : (i 0).val < 8 := (i 0).isLt; omega⟩) else (0 : EReal)

theorem V3 (c : Dev nD) : V m c main_v3 = colBlocks (m ((c : Thread nD τ).loc main_arg1)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  funext i; idx_vars i
  pointwise [Cert.Common.sitofp_zero, colBlocks]

theorem V7 (c : Dev nD) : V m c main_v7 = colBlocks (m ((c : Thread nD τ).loc main_arg2)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  funext i; idx_vars i
  pointwise [Cert.Common.sitofp_zero, colBlocks]

theorem V8 (c : Dev nD) : V m c main_v8 = (m ((c : Thread nD τ).loc main_arg0) : FVec Ideal S4096x1024 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  funext i
  pointwise

theorem V9 (c : Dev nD) : V m c main_v9 = (m ((c : Thread nD τ).loc main_arg0) : FVec Ideal S4096x1024 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  funext i
  pointwise

/-- What one point stores of the first product, at an index of the block. -/
theorem point_4 (c : Dev nD) (t : Fin cfg0.N) (y) :
    k0_pay1 (iblk m c 0 t) (View.ld (iblk m c 1 t) r0_1) (View.ld (iblk m c 1 t) r0_2) y
      = prod (V m c main_v8) (V m c main_v3) (((cfg0.win 4).blk t).view.emb y) := by
  pointwise [k0_pay1, prod]
  blk_point [iblk, idx t]

/-- What one point stores of the second product, at an index of the block. -/
theorem point_5 (c : Dev nD) (t : Fin cfg0.N) (y) :
    k0_pay2 (iblk m c 2 t) (View.ld (iblk m c 3 t) r0_1) (View.ld (iblk m c 3 t) r0_2) y
      = prod (V m c main_v9) (V m c main_v7) (((cfg0.win 5).blk t).view.emb y) := by
  pointwise [k0_pay2, prod]
  blk_point [iblk, idx t]

/-- What one point stores of the activation, at an index of the block. -/
theorem point_6 (c : Dev nD) (t : Fin cfg0.N) (y) :
    k0_pay3 (iblk m c 0 t) (View.ld (iblk m c 1 t) r0_1) (View.ld (iblk m c 1 t) r0_2) (iblk m c 2 t) (View.ld (iblk m c 3 t) r0_1) (View.ld (iblk m c 3 t) r0_2) y
      = prod (V m c main_v8) (V m c main_v3) (((cfg0.win 6).blk t).view.emb y) * Ideal.logistic (prod (V m c main_v8) (V m c main_v3) (((cfg0.win 6).blk t).view.emb y))
        * prod (V m c main_v9) (V m c main_v7) (((cfg0.win 6).blk t).view.emb y) := by
  have a := point_4 m c t y
  have b := point_5 m c t y
  have ea : ((cfg0.win 4).blk t).view.emb y = ((cfg0.win 6).blk t).view.emb y := rfl
  have eb : ((cfg0.win 5).blk t).view.emb y = ((cfg0.win 6).blk t).view.emb y := rfl
  rw [ea] at a; rw [eb] at b
  rw [← a, ← b]
  rfl

/-- The first product after the run. -/
theorem arr_4 (c : Dev nD) : (dats m 0 c).arrAt 4 (cfgs 0).N = prod (V m c main_v8) (V m c main_v3) := by
  refine (dats m 0 c).arrAt_eq_of_covers 4 _ (by decide +kernel) fun t hf y => ?_
  blk_simp; rw [after0_4]; frame_out
  exact point_4 m c t y

/-- The second product after the run. -/
theorem arr_5 (c : Dev nD) : (dats m 0 c).arrAt 5 (cfgs 0).N = prod (V m c main_v9) (V m c main_v7) := by
  refine (dats m 0 c).arrAt_eq_of_covers 5 _ (by decide +kernel) fun t hf y => ?_
  blk_simp; rw [after0_5]; frame_out
  exact point_5 m c t y

/-- The activation after the run. -/
theorem arr_6 (c : Dev nD) : (dats m 0 c).arrAt 6 (cfgs 0).N = act (prod (V m c main_v8) (V m c main_v3)) (prod (V m c main_v9) (V m c main_v7)) := by
  refine (dats m 0 c).arrAt_eq_of_covers 6 _ (by decide +kernel) fun t hf y => ?_
  blk_simp; rw [after0_6]; frame_out
  exact point_6 m c t y

end Cert.GluFwdIdeal.Val
end
-- ==== Proof.GluFwd.Equal.lean ====
/- The forward kernel of the gated unit computes the plain lines. -/
module

public import proofs.«01_k».proof.Proof.GluFwd.Kernel
public import proofs.«01_k».proof.Proof.Gen.GluFwdRefIdeal.Read
public import proofs.«01_k».proof.Defs
public import proofs.«01_k».proof.Proof.Gen.GluFwd

@[expose] public section

set_option maxRecDepth 16384

noncomputable section

open Idealize.ShloMosaic Idealize.ShloMosaic.TcCoe Idealize.SL.Sem

namespace Cert.GluFwdIdeal.Val
open Cert.GluFwdIdeal Cert.GluFwdIdeal.Gen Cert.GluFwdRefIdeal.Read

variable (m : (ℓ : Loc nD τ sig) → Buf (Elt Ideal) ℓ)

/-- A product over the cut weight: the plain product at a column that a device owns, zero in between. -/
theorem prod_eq (x : FVec Ideal S4096x1024 .f32) (w : FVec Ideal S1024x2816 .f32) (r : Fin 4096) (j : Fin 3072) :
    prod x (colBlocks w) (ix2 r j) = (if h : j.val / 384 < 8 ∧ j.val % 384 < 352 then
      ∑ k : Fin 1024, x (ix2 r k) * w (ix2 k ⟨j.val / 384 * 352 + j.val % 384, by have := j.isLt; omega⟩) else 0 : EReal) := by
  unfold prod colBlocks
  by_cases h : j.val / 384 < 8 ∧ j.val % 384 < 352
  · rw [dif_pos h]; exact Finset.sum_congr rfl fun k _ => congrArg (x (ix2 r k) * ·) (dif_pos h.2)
  · have h' : ¬ j.val % 384 < 352 := fun e => h ⟨by have := j.isLt; omega, e⟩
    rw [dif_neg h]; exact Finset.sum_eq_zero fun k _ => (congrArg (x (ix2 r k) * ·) (dif_neg h')).trans (mul_zero _)

/-- The reference's first result is the first product. -/
theorem ref_7 (x0 : FVec Ideal S4096x1024 .f32) (x1 : FVec Ideal S1024x2816 .f32) : val_main_v7 (F := Ideal) x0 x1 = prod x0 (colBlocks x1) := by
  funext i; idx_vars i
  rw [prod_eq]
  pointwise [val_main_v7, val_main_v6, val_main_v5, val_main_v0, val_main_call1_v0, val_main_c, Cert.Common.sitofp_zero]

/-- The reference's second result is the second product. -/
theorem ref_10 (x0 : FVec Ideal S4096x1024 .f32) (x2 : FVec Ideal S1024x2816 .f32) : val_main_v10 (F := Ideal) x0 x2 = prod x0 (colBlocks x2) := by
  funext i; idx_vars i
  rw [prod_eq]
  pointwise [val_main_v10, val_main_v9, val_main_v8, val_main_v1, val_main_call2_v0, val_main_c_0, Cert.Common.sitofp_zero]

/-- The reference's third result is the activation of the two products. -/
theorem ref_13 (x0 : FVec Ideal S4096x1024 .f32) (x1 x2 : FVec Ideal S1024x2816 .f32) :
    val_main_v13 (F := Ideal) x0 x1 x2 = act (prod x0 (colBlocks x1)) (prod x0 (colBlocks x2)) := by
  funext i; idx_vars i
  unfold act
  rw [prod_eq, prod_eq]
  pointwise [val_main_v13, val_main_v12, val_main_v11, val_main_v4, val_main_v3, val_main_v2, val_main_v1, val_main_v0, val_main_call3_v0, val_main_c_1,
    val_main_call0_v0, val_main_call0_v1, val_main_call0_v2, val_main_call0_v3, val_main_call0_v4, val_main_call0_v5, val_main_call0_cst, val_main_call0_cst_0, Cert.Common.sitofp_zero]
  by_cases h : i1.val / 384 < 8 ∧ i1.val % 384 < 352
  · simp only [dif_pos h]; rfl
  · simp only [dif_neg h, zero_mul]

/-- The kernel's first product is the reference's. -/
theorem eq_4 (c : Dev nD) : (dats m 0 c).arrAt 4 (cfgs 0).N = val_main_v7 (F := Ideal) (m ((c : Thread nD τ).loc main_arg0)) (m ((c : Thread nD τ).loc main_arg1)) := by
  rw [arr_4, V3, V8]; exact (ref_7 _ _).symm

/-- The kernel's second product is the reference's. -/
theorem eq_5 (c : Dev nD) : (dats m 0 c).arrAt 5 (cfgs 0).N = val_main_v10 (F := Ideal) (m ((c : Thread nD τ).loc main_arg0)) (m ((c : Thread nD τ).loc main_arg2)) := by
  rw [arr_5, V7, V9]; exact (ref_10 _ _).symm

/-- The kernel's activation is the reference's. -/
theorem eq_6 (c : Dev nD) : (dats m 0 c).arrAt 6 (cfgs 0).N = val_main_v13 (F := Ideal)
    (m ((c : Thread nD τ).loc main_arg0)) (m ((c : Thread nD τ).loc main_arg1)) (m ((c : Thread nD τ).loc main_arg2)) := by
  rw [arr_6, V3, V7, V8, V9]; exact (ref_13 _ _ _).symm

/-- The reference runs, leaves its arguments as they were and every counter at zero. -/
theorem frame_ref : Cert.quiescent_GluFwdRefIdeal := fun m g _ =>
  (θ_run Cert.GluFwdRefIdeal.defs _ _).mono (fun r h => ⟨fun c => (h c).2.2.2, sem_eq_zero_of_no_sems (by decide) r.2⟩)
    (Cert.GluFwdRefIdeal.Value.run (F := Ideal) m g)

/-- Kernel and reference compute the same two products and the same activation over the extended reals. -/
theorem algebraic : Cert.algebraic_GluFwdIdeal_GluFwdRefIdeal := by
  pair_intro
  · run_from Cert.GluFwdIdeal.Gen.run_main m g
    all_goals first | exact V_main_arg0 m c | exact V_main_arg1 m c | exact V_main_arg2 m c
  · run_from Cert.GluFwdRefIdeal.Value.run m' g'
    · exact (val_main_v7_eq _ _).symm.trans (eq_4 m c).symm
    · exact (val_main_v10_eq _ _).symm.trans (eq_5 m c).symm
    · exact (val_main_v13_eq _ _ _).symm.trans (eq_6 m c).symm

end Cert.GluFwdIdeal.Val
end
-- ==== Proof.BranchFwd.Kernel.lean ====
/- What the forward kernel of the two branches' merge leaves in its results, in coordinates of the whole arrays. -/
module

public import proofs.«01_k».proof.Proof.Gen.BranchFwdIdeal.Frame
public import proofs.«01_k».proof.Proof.Common
public import Idealize.ShloMosaic.PureOps.Ideal.Laws
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchFwdIdeal.Val

open Cert.BranchFwdIdeal Cert.BranchFwdIdeal.Gen

variable (m : (ℓ : Loc nD τ sig) → Buf (Elt Ideal) ℓ)

/-- The block of every window at every grid point. -/
theorem idx : ∀ t : Fin cfg0.N, win0_0.index t = ![t.val / 2, 0]
    ∧ win0_1.index t = ![t.val % 2, 0, 0]
    ∧ win0_2.index t = ![t.val / 2, 0]
    ∧ win0_3.index t = ![t.val % 2, 0, 0]
    ∧ win0_4.index t = ![t.val / 2, t.val % 2]
    ∧ win0_5.index t = ![t.val / 2, 2 + t.val % 2]
    ∧ win0_6.index t = ![t.val / 2, t.val % 2]
    ∧ win0_7.index t = ![t.val / 2, t.val % 2]
    ∧ win0_8.index t = ![t.val / 2, t.val % 2] :=
  (by decide +kernel : ∀ t : Fin grid0.N, _)

/-- A branch's rows times its weight. -/
def prod (Y : FVec Ideal S4096x512 .f32) (W : FVec Ideal S512x1024 .f32) (r : Fin 4096) (j : Fin 1024) : EReal := ∑ k : Fin 512, Y (ix2 r k) * W (ix2 k j)

/-- The two branches merged by their gates. -/
def merged (P : FVec Ideal S4096x2048 .f32) (Y Z : FVec Ideal S4096x512 .f32) (W X : FVec Ideal S512x1024 .f32) (r : Fin 4096) (j : Fin 1024) : EReal :=
  Ideal.logistic (P (ix2 r ⟨j.val, by omega⟩)) * prod Y W r j + Ideal.logistic (P (ix2 r ⟨1024 + j.val, by omega⟩)) * prod Z X r j

theorem V1 (c : Dev nD) : V m c main_v1 = (m ((c : Thread nD τ).loc main_arg1) : FVec Ideal S4096x512 .f32) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  funext i
  pointwise

theorem V5 (c : Dev nD) : V m c main_v5 = (m ((c : Thread nD τ).loc main_arg2) : FVec Ideal S4096x512 .f32) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  funext i
  pointwise

theorem V4 (c : Dev nD) (b : Fin 8) (k : Fin 512) (j : Fin 128) : V m c main_v4 (ix3 b k j)
    = (m ((c : Thread nD τ).loc main_arg3) : FVec Ideal S512x1024 .f32) (ix2 k ⟨b.val * 128 + j.val, by omega⟩) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise

theorem V8 (c : Dev nD) (b : Fin 8) (k : Fin 512) (j : Fin 128) : V m c main_v8 (ix3 b k j)
    = (m ((c : Thread nD τ).loc main_arg4) : FVec Ideal S512x1024 .f32) (ix2 k ⟨b.val * 128 + j.val, by omega⟩) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise

theorem V0 (c : Dev nD) (r : Fin 4096) (j : Fin 2048) : V m c main_v0 (ix2 r ⟨j.val, by omega⟩) = (m ((c : Thread nD τ).loc main_arg0) : FVec Ideal S4096x2048 .f32) (ix2 r j) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise [Cert.Common.sitofp_zero]

/-- The first gate's block at a grid point. -/
theorem blk4 (c : Dev nD) (t : Fin cfg0.N) (a : Fin 1024) (q : Fin 512) (r : Fin 4096) (hr : r.val = t.val / 2 * 1024 + a.val) (j : Fin 2048) (hj : j.val = t.val % 2 * 512 + q.val) :
    X0_4 m c t (ix2 a q) = (m ((c : Thread nD τ).loc main_arg0) : FVec Ideal S4096x2048 .f32) (ix2 r j) := by
  rw [← V0 m c r j]
  unfold X0_4 Pipeline.Window.fill
  rw [dif_pos (moved0_4 t _)]
  refine congrArg (V m c main_v0) (?_ : ((cfg0.win 4).blk t).view.emb _ = _)
  funext q; fin_cases q <;> refine Fin.ext ?_ <;> blk_simp [idx t] <;> show _ = _ <;> simp <;> omega

/-- The second gate's block at a grid point. -/
theorem blk5 (c : Dev nD) (t : Fin cfg0.N) (a : Fin 1024) (q : Fin 512) (r : Fin 4096) (hr : r.val = t.val / 2 * 1024 + a.val) (j : Fin 2048) (hj : j.val = 1024 + (t.val % 2 * 512 + q.val)) :
    X0_5 m c t (ix2 a q) = (m ((c : Thread nD τ).loc main_arg0) : FVec Ideal S4096x2048 .f32) (ix2 r j) := by
  rw [← V0 m c r j]
  unfold X0_5 Pipeline.Window.fill
  rw [dif_pos (moved0_5 t _)]
  refine congrArg (V m c main_v0) (?_ : ((cfg0.win 5).blk t).view.emb _ = _)
  funext q; fin_cases q <;> refine Fin.ext ?_ <;> blk_simp [idx t] <;> show _ = _ <;> simp <;> omega

/-- A branch's rows times its weight, the weight cut into eight blocks of columns. -/
def prodBlocks (Y : FVec Ideal S4096x512 .bf16) (W : FVec Ideal S8x512x128 .bf16) : FVec Ideal S4096x1024 .f32 := fun i =>
  ∑ k : Fin 512, Y (ix2 (i 0) k) * W (ix3 ⟨(i 1).val / 128, by have : (i 1).val < 1024 := (i 1).isLt; omega⟩ k ⟨(i 1).val % 128, by omega⟩)

/-- The four blocks of columns of a weight that one grid point reads. -/
abbrev part0 : Rect S4x512x128 := Rect.unit (s := S4x512x128) ![0, 0, 0] S1x512x128.size inb_S4x512x128_S1x512x128_0_0_0
abbrev part1 : Rect S4x512x128 := Rect.unit (s := S4x512x128) ![1, 0, 0] S1x512x128.size inb_S4x512x128_S1x512x128_1_0_0
abbrev part2 : Rect S4x512x128 := Rect.unit (s := S4x512x128) ![2, 0, 0] S1x512x128.size inb_S4x512x128_S1x512x128_2_0_0
abbrev part3 : Rect S4x512x128 := Rect.unit (s := S4x512x128) ![3, 0, 0] S1x512x128.size inb_S4x512x128_S1x512x128_3_0_0

/-- What one point stores of the first product, at an index of the block. -/
theorem point_6 (c : Dev nD) (t : Fin cfg0.N) (y) :
    k0_pay2 (iblk m c 0 t) (View.ld (iblk m c 1 t) part0) (View.ld (iblk m c 1 t) part1) (View.ld (iblk m c 1 t) part2) (View.ld (iblk m c 1 t) part3) y
      = prodBlocks (V m c main_v1) (V m c main_v4) (((cfg0.win 6).blk t).view.emb y) := by
  pointwise [k0_pay2, prodBlocks]
  blk_point [iblk, idx t]

/-- What one point stores of the second product, at an index of the block. -/
theorem point_7 (c : Dev nD) (t : Fin cfg0.N) (y) :
    k0_pay3 (iblk m c 2 t) (View.ld (iblk m c 3 t) part0) (View.ld (iblk m c 3 t) part1) (View.ld (iblk m c 3 t) part2) (View.ld (iblk m c 3 t) part3) y
      = prodBlocks (V m c main_v5) (V m c main_v8) (((cfg0.win 7).blk t).view.emb y) := by
  pointwise [k0_pay3, prodBlocks]
  blk_point [iblk, idx t]

/-- A product over a cut weight is the plain one. -/
theorem prodBlocks_eq (Y : FVec Ideal S4096x512 .f32) (B : FVec Ideal S8x512x128 .bf16) (W : FVec Ideal S512x1024 .f32)
    (h : ∀ (b : Fin 8) (k : Fin 512) (j : Fin 128), B (ix3 b k j) = W (ix2 k ⟨b.val * 128 + j.val, by omega⟩)) (r : Fin 4096) (j : Fin 1024) :
    prodBlocks Y B (ix2 r j) = prod Y W r j := by
  refine Finset.sum_congr rfl fun k _ => congrArg (fun z : EReal => (Y (ix2 r k) : EReal) * z) ((h _ _ _).trans (congrArg (fun q => W (ix2 k q)) (Fin.ext ?_)))
  show j.val / 128 * 128 + j.val % 128 = j.val
  omega

theorem blocks_6 (c : Dev nD) (r : Fin 4096) (j : Fin 1024) : prodBlocks (V m c main_v1) (V m c main_v4) (ix2 r j)
    = prod (m ((c : Thread nD τ).loc main_arg1)) (m ((c : Thread nD τ).loc main_arg3)) r j := by
  rw [V1]; exact prodBlocks_eq _ _ _ (V4 m c) r j

theorem blocks_7 (c : Dev nD) (r : Fin 4096) (j : Fin 1024) : prodBlocks (V m c main_v5) (V m c main_v8) (ix2 r j)
    = prod (m ((c : Thread nD τ).loc main_arg2)) (m ((c : Thread nD τ).loc main_arg4)) r j := by
  rw [V5]; exact prodBlocks_eq _ _ _ (V8 m c) r j

/-- The first product after the run. -/
theorem arr_6 (c : Dev nD) : (dats m 0 c).arrAt 6 (cfgs 0).N = prodBlocks (V m c main_v1) (V m c main_v4) := by
  refine (dats m 0 c).arrAt_eq_of_covers 6 _ (by decide +kernel) fun t hf y => ?_
  blk_simp; rw [after0_6]; unfold outsAt0; frame_out
  exact point_6 m c t y

/-- The second product after the run. -/
theorem arr_7 (c : Dev nD) : (dats m 0 c).arrAt 7 (cfgs 0).N = prodBlocks (V m c main_v5) (V m c main_v8) := by
  refine (dats m 0 c).arrAt_eq_of_covers 7 _ (by decide +kernel) fun t hf y => ?_
  blk_simp; rw [after0_7]; unfold outsAt0; frame_out
  exact point_7 m c t y

/-- What the merge stores from two products and two gates. -/
theorem pay1_at (a b g h : FVec Ideal S1024x512 .f32) (y : S1024x512.Idx) :
    k0_pay1 (F := Ideal) a b (k0_pay4 g) h y = Ideal.logistic (g y) * a y + Ideal.logistic (h y) * b y := by
  pointwise [k0_pay1, k0_pay4]

/-- The merged branches after the run. -/
theorem arr_8 (c : Dev nD) : (dats m 0 c).arrAt 8 (cfgs 0).N = fun i : S4096x1024.Idx => merged (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) := by
  refine (dats m 0 c).arrAt_eq_of_covers 8 _ (by decide +kernel) fun t hf y => ?_
  have ht : t.val < 8 := lt_of_lt_of_eq t.isLt N_0
  have key : ∀ y : S1024x512.Idx, k0_pay1 (k0_pay2 (iblk m c 0 t) (View.ld (iblk m c 1 t) part0) (View.ld (iblk m c 1 t) part1) (View.ld (iblk m c 1 t) part2) (View.ld (iblk m c 1 t) part3))
      (k0_pay3 (iblk m c 2 t) (View.ld (iblk m c 3 t) part0) (View.ld (iblk m c 3 t) part1) (View.ld (iblk m c 3 t) part2) (View.ld (iblk m c 3 t) part3))
      (k0_pay4 (X0_4 m c t)) (X0_5 m c t) y
      = (fun i : S4096x1024.Idx => merged (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1)) (((cfg0.win 8).blk t).view.emb y) := by
    intro y
    idx_vars y
    have hy0 := y0.isLt
    have hy1 := y1.isLt
    have e0 : ((cfg0.win 8).blk t).view.emb (ix2 y0 y1) 0 = (⟨t.val / 2 * 1024 + y0.val, by omega⟩ : Fin 4096) := Fin.ext (by blk_simp [idx t])
    have e1 : ((cfg0.win 8).blk t).view.emb (ix2 y0 y1) 1 = (⟨t.val % 2 * 512 + y1.val, by omega⟩ : Fin 1024) := Fin.ext (by blk_simp [idx t])
    have e : ((cfg0.win 8).blk t).view.emb (ix2 y0 y1) = ix2 (⟨t.val / 2 * 1024 + y0.val, by omega⟩ : Fin 4096) (⟨t.val % 2 * 512 + y1.val, by omega⟩ : Fin 1024) := by
      funext q; fin_cases q
      · exact e0
      · exact e1
    have p6 : _ = prodBlocks (V m c main_v1) (V m c main_v4) (((cfg0.win 8).blk t).view.emb (ix2 y0 y1)) := point_6 m c t (ix2 y0 y1)
    have p7 : _ = prodBlocks (V m c main_v5) (V m c main_v8) (((cfg0.win 8).blk t).view.emb (ix2 y0 y1)) := point_7 m c t (ix2 y0 y1)
    rw [pay1_at, p6, p7, e, blocks_6, blocks_7, blk4 m c t y0 y1 ⟨t.val / 2 * 1024 + y0.val, by omega⟩ rfl ⟨t.val % 2 * 512 + y1.val, by omega⟩ rfl,
      blk5 m c t y0 y1 ⟨t.val / 2 * 1024 + y0.val, by omega⟩ rfl ⟨1024 + (t.val % 2 * 512 + y1.val), by omega⟩ rfl]
    rfl
  refine Eq.trans ?_ (key y)
  blk_simp; rw [after0_8]; unfold outsAt0; frame_out
  first | done | rfl

end Cert.BranchFwdIdeal.Val
end
-- ==== Proof.BranchFwd.Equal.lean ====
/- The forward kernel of the two branches' merge computes the plain lines. -/
module

public import proofs.«01_k».proof.Proof.BranchFwd.Kernel
public import proofs.«01_k».proof.Proof.Gen.BranchFwdRefIdeal.Read
public import proofs.«01_k».proof.Defs
public import proofs.«01_k».proof.Proof.Gen.BranchFwd

@[expose] public section

set_option maxRecDepth 16384

noncomputable section

open Idealize.ShloMosaic Idealize.ShloMosaic.TcCoe Idealize.SL.Sem

namespace Cert.BranchFwdIdeal.Val
open Cert.BranchFwdIdeal Cert.BranchFwdIdeal.Gen Cert.BranchFwdRefIdeal.Read

variable (m : (ℓ : Loc nD τ sig) → Buf (Elt Ideal) ℓ)

/-- The reference's first result is the first product. -/
theorem ref_7 (x1 : FVec Ideal S4096x512 .f32) (x3 : FVec Ideal S512x1024 .f32) (r : Fin 4096) (j : Fin 1024) : val_main_v7 (F := Ideal) x1 x3 (ix2 r j) = prod x1 x3 r j := by
  pointwise [val_main_v7, prod]

/-- The reference's second result is the second product. -/
theorem ref_8 (x2 : FVec Ideal S4096x512 .f32) (x4 : FVec Ideal S512x1024 .f32) (r : Fin 4096) (j : Fin 1024) : val_main_v8 (F := Ideal) x2 x4 (ix2 r j) = prod x2 x4 r j := by
  pointwise [val_main_v8, prod]

/-- The reference's third result is the merge. -/
theorem ref_16 (x0 : FVec Ideal S4096x2048 .f32) (x1 x2 : FVec Ideal S4096x512 .f32) (x3 x4 : FVec Ideal S512x1024 .f32) (r : Fin 4096) (j : Fin 1024) :
    val_main_v16 (F := Ideal) x0 x1 x2 x3 x4 (ix2 r j) = merged x0 x1 x2 x3 x4 r j := by
  pointwise [val_main_v16, val_main_v15, val_main_v14, val_main_v13, val_main_v12, val_main_v11, val_main_v10, val_main_v9, ref_7, ref_8, val_main_v6, val_main_v5, val_main_v4,
    val_main_v3, val_main_v2, val_main_v1, val_main_v0, val_main_cst, val_main_cst_0, merged]
  rfl

/-- The kernel's first product is the reference's. -/
theorem eq_6 (c : Dev nD) : (dats m 0 c).arrAt 6 (cfgs 0).N = val_main_v7 (F := Ideal) (m ((c : Thread nD τ).loc main_arg1)) (m ((c : Thread nD τ).loc main_arg3)) := by
  rw [arr_6]; funext i; idx_vars i
  exact (blocks_6 m c i0 i1).trans (ref_7 _ _ _ _).symm

/-- The kernel's second product is the reference's. -/
theorem eq_7 (c : Dev nD) : (dats m 0 c).arrAt 7 (cfgs 0).N = val_main_v8 (F := Ideal) (m ((c : Thread nD τ).loc main_arg2)) (m ((c : Thread nD τ).loc main_arg4)) := by
  rw [arr_7]; funext i; idx_vars i
  exact (blocks_7 m c i0 i1).trans (ref_8 _ _ _ _).symm

/-- The kernel's merge is the reference's. -/
theorem eq_8 (c : Dev nD) : (dats m 0 c).arrAt 8 (cfgs 0).N = val_main_v16 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  rw [arr_8]; funext i; idx_vars i
  exact (ref_16 _ _ _ _ _ _ _).symm

/-- The reference runs, leaves its arguments as they were and every counter at zero. -/
theorem frame_ref : Cert.quiescent_BranchFwdRefIdeal := fun m g _ =>
  (θ_run Cert.BranchFwdRefIdeal.defs _ _).mono (fun r h => ⟨fun c => (h c).2.2.2, sem_eq_zero_of_no_sems (by decide) r.2⟩)
    (Cert.BranchFwdRefIdeal.Value.run (F := Ideal) m g)

/-- Kernel and reference compute the same two products and the same merge over the extended reals. -/
theorem algebraic : Cert.algebraic_BranchFwdIdeal_BranchFwdRefIdeal := by
  pair_intro
  · run_from Cert.BranchFwdIdeal.Gen.run_main m g
    all_goals first | exact V_main_arg0 m c | exact V_main_arg1 m c | exact V_main_arg2 m c | exact V_main_arg3 m c | exact V_main_arg4 m c
  · run_from Cert.BranchFwdRefIdeal.Value.run m' g'
    · exact (val_main_v7_eq _ _).symm.trans (eq_6 m c).symm
    · exact (val_main_v8_eq _ _).symm.trans (eq_7 m c).symm
    · exact (val_main_v16_eq _ _ _ _ _).symm.trans (eq_8 m c).symm

end Cert.BranchFwdIdeal.Val
end
-- ==== Proof.ConvFwd.Kernel.lean ====
/- What the forward kernel of the short convolution leaves in its results, in coordinates of the whole arrays. -/
module

public import proofs.«01_k».proof.Proof.Gen.ConvFwdIdeal.Frame
public import proofs.«01_k».proof.Proof.Common
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvFwdIdeal.Val

open Cert.ConvFwdIdeal Cert.ConvFwdIdeal.Gen

variable (m : (ℓ : Loc nD τ sig) → Buf (Elt Ideal) ℓ)

/-- The block of every window at every grid point. -/
theorem idx : ∀ t : Fin cfg0.N, win0_0.index t = ![0, 16 + t.val] ∧ win0_1.index t = ![0, t.val]
    ∧ win0_2.index t = ![0, t.val] ∧ win0_3.index t = ![0, t.val] :=
  (by decide +kernel : ∀ t : Fin grid0.N, _)

theorem coords_val (t : Fin cfg0.N) : (grid0.coords t 0).val = t.val := by
  revert t; decide +kernel

/-- The row `s` steps earlier, zero before the first. -/
def before (s : ℕ) (d : Fin 4096 → EReal) (r : Fin 4096) : EReal :=
  if h : s ≤ r.val then d ⟨r.val - s, by omega⟩ else 0

/-- The rotation with its mask is the earlier row. -/
theorem before_at (s : ℕ) (hs : s < 4096) (n : BitVec 32) (hn : n = BitVec.ofNat 32 s)
    (D : FVec Ideal S4096x128 .f32) (h : S4096x128.Rotates 0 none) (y0 : Fin 4096) (y1 : Fin 128) :
    Scalar.select (IntOp.cmpi .sge (BitVec.ofNat 32 y0.val) n) (dynamicRotate 0 n none D h (ix2 y0 y1)) (0:EReal)
      = before s (fun r => D (ix2 r y1)) y0 := by
  subst hn
  have h0 := y0.isLt
  rw [WordCmp.cmpi_sge_ofNat (by norm_num; omega) (by norm_num; omega), before]
  by_cases hle : s ≤ y0.val
  · rw [dif_pos hle, decide_eq_true (by omega)]
    refine (show _ = dynamicRotate 0 _ none D h (ix2 y0 y1) from rfl).trans ?_
    refine dynamicRotate_apply _ _ _ _ _ _ fun b => ?_
    match b with
    | ⟨0, _⟩ =>
      show y0.val - s = (y0.val + 4096 - (BitVec.ofNat 32 s).toNat % 4096) % 4096
      rw [BitVec.toNat_ofNat, Nat.mod_eq_of_lt (show s < 2 ^ 32 by norm_num; omega)]
      omega
    | ⟨1, _⟩ => rfl
  · rw [dif_neg hle, decide_eq_false (by omega)]
    rfl

/-- Four taps on one column, from the four weights of the column. -/
def taps (w : Fin 4 → EReal) (d : Fin 4096 → EReal) (r : Fin 4096) : EReal :=
  w 3 * d r + w 2 * before 1 d r + w 1 * before 2 d r + w 0 * before 3 d r

theorem pay3_at (a : FVec Ideal S4096x128 .f32) (b : FVec Ideal S4x128 .f32) (y0 : Fin 4096) (y1 : Fin 128) :
    k0_pay3 (F := Ideal) a b (ix2 y0 y1) = taps (fun k => b (ix2 k y1)) (fun r => a (ix2 r y1)) y0 := by
  have e : shapeCast S4096x128 a shapeCasts_S4096x128_S4096x128 = a := by
    funext i; idx_vars i; pointwise
  unfold taps
  rw [← before_at 1 (by norm_num) 1#32 rfl a rotates_S4096x128_d0 y0 y1, ← before_at 2 (by norm_num) 2#32 rfl a rotates_S4096x128_d0 y0 y1,
    ← before_at 3 (by norm_num) 3#32 rfl a rotates_S4096x128_d0 y0 y1]
  unfold k0_pay3
  simp only [e]
  generalize dynamicRotate 0 1#32 none a _ = R1
  generalize dynamicRotate 0 2#32 none a _ = R2
  generalize dynamicRotate 0 3#32 none a _ = R3
  pointwise

/-- A row of one block of 128 columns behind the activation and the norm: `c` the row of the convolution, `t` the block (four of
    queries, four of keys, four of values). -/
def rowK (t : ℕ) (c : Fin 128 → EReal) (l : Fin 128) : EReal :=
  c l * Ideal.logistic (c l)
    * Scalar.select (Scalar.cmpi .sge (BitVec.ofNat 32 t) 8#32) 1
        (Ideal.rsqrt (∑ x, c x * Ideal.logistic (c x) * (c x * Ideal.logistic (c x)) + Ideal.ofBits .f32 897988541#32)
          * Scalar.select (Scalar.cmpi .slt (BitVec.ofNat 32 t) 4#32) (Ideal.ofBits .f32 1035273459#32) 1)

theorem pay1_at (i : grid0.Coords) (D : FVec Ideal S4096x128 .f32) (y0 : Fin 4096) (y1 : Fin 128) :
    k0_pay1 (BitVec.ofNat 32 (i 0).val) (k0_pay2 (F := Ideal) i) D 8#32 (ix2 y0 y1) = rowK (i 0).val (fun l => D (ix2 y0 l)) y1 := by
  unfold rowK
  pointwise [k0_pay1, k0_pay2]

/-- The convolution over the whole array. -/
def K3 (X : FVec Ideal S4096x1536 .f32) (W : FVec Ideal S4x1536 .f32) : FVec Ideal S4096x1536 .f32 := fun i =>
  taps (fun k => W (ix2 k (i 1))) (fun r => X (ix2 r (i 1))) (i 0)

/-- The activated and normed rows over the whole array. -/
def K2 (X : FVec Ideal S4096x1536 .f32) (W : FVec Ideal S4x1536 .f32) (r : Fin 4096) (j : Fin 1536) : EReal :=
  rowK (j.val / 128) (fun l => K3 X W (ix2 r ⟨j.val / 128 * 128 + l.val, by omega⟩)) ⟨j.val % 128, by omega⟩

theorem V0 (c : Dev nD) (r : Fin 4096) (j : Fin 1536) (h : 2048 + j.val < 4992) :
    V m c main_v0 (ix2 r ⟨2048 + j.val, h⟩) = (m ((c : Thread nD τ).loc main_arg0) : FVec Ideal S4096x1536 .f32) (ix2 r j) := by
  simp only [V, hostOps0, hostOps0_1, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- One point's block of the convolution. -/
theorem conv_at (c : Dev nD) (t : Fin cfg0.N) (y0 : Fin 4096) (y1 : Fin 128) (j : Fin 1536) (hj : j.val = t.val * 128 + y1.val) :
    k0_pay3 (iblk m c 0 t) (iblk m c 1 t) (ix2 y0 y1) = K3 (m ((c : Thread nD τ).loc main_arg0)) (V m c main_arg1) (ix2 y0 j) := by
  have hb : 2048 + j.val < 4992 := by omega
  have x : ∀ r : Fin 4096, iblk m c 0 t (ix2 r y1) = (m ((c : Thread nD τ).loc main_arg0) : FVec Ideal S4096x1536 .f32) (ix2 r j) := fun r => by
    rw [← V0 m c r j hb]; blk_point [iblk, idx t]
  have w : ∀ k : Fin 4, iblk m c 1 t (ix2 k y1) = V m c main_arg1 (ix2 k j) := fun k => by blk_point [iblk, idx t]
  rw [pay3_at]
  simp only [x, w]
  rfl

/-- One point's block of the normed rows. -/
theorem row_at (c : Dev nD) (t : Fin cfg0.N) (y0 : Fin 4096) (y1 : Fin 128) (j : Fin 1536) (hj : j.val = t.val * 128 + y1.val) :
    k0_pay1 (BitVec.ofNat 32 (grid0.coords t 0).val) (k0_pay2 (F := Ideal) (grid0.coords t)) (k0_pay3 (iblk m c 0 t) (iblk m c 1 t)) 8#32 (ix2 y0 y1)
      = K2 (m ((c : Thread nD τ).loc main_arg0)) (V m c main_arg1) y0 j := by
  have h1 : j.val / 128 = t.val := by omega
  have h2 : j.val % 128 = y1.val := by omega
  have ht : t.val < 12 := lt_of_lt_of_eq t.isLt N_0
  rw [pay1_at, coords_val]
  have e : ∀ l : Fin 128, k0_pay3 (iblk m c 0 t) (iblk m c 1 t) (ix2 y0 l)
      = K3 (m ((c : Thread nD τ).loc main_arg0)) (V m c main_arg1) (ix2 y0 ⟨t.val * 128 + l.val, by omega⟩) := fun l => conv_at m c t y0 l _ rfl
  unfold K2
  simp only [e, h1, h2]

/-- The convolution after the run. -/
theorem arr_3 (c : Dev nD) : (dats m 0 c).arrAt 3 (cfgs 0).N = K3 (m ((c : Thread nD τ).loc main_arg0)) (V m c main_arg1) := by
  refine (dats m 0 c).arrAt_eq_of_covers 3 _ (by decide +kernel) fun t hf y => ?_
  have i1 : win0_3.index t 1 = t.val := by rw [(idx t).2.2.2]; rfl
  have i0 : win0_3.index t 0 = 0 := by rw [(idx t).2.2.2]; rfl
  have ht : t.val < 12 := lt_of_lt_of_eq t.isLt N_0
  blk_simp; rw [after0_3]; frame_out
  idx_vars y
  refine (conv_at m c t y0 y1 ⟨t.val * 128 + y1.val, by have : y1.val < 128 := y1.isLt; omega⟩ rfl).trans (congrArg (K3 _ _) ?_)
  blk_ext [i0, i1]

/-- The normed rows after the run. -/
theorem arr_2 (c : Dev nD) : (dats m 0 c).arrAt 2 (cfgs 0).N = fun i => K2 (m ((c : Thread nD τ).loc main_arg0)) (V m c main_arg1) (i 0) (i 1) := by
  refine (dats m 0 c).arrAt_eq_of_covers 2 _ (by decide +kernel) fun t hf y => ?_
  have i1 : win0_2.index t 1 = t.val := by rw [(idx t).2.2.1]; rfl
  have i0 : win0_2.index t 0 = 0 := by rw [(idx t).2.2.1]; rfl
  have ht : t.val < 12 := lt_of_lt_of_eq t.isLt N_0
  blk_simp; rw [after0_2]; frame_out
  idx_vars y
  refine (row_at m c t y0 y1 ⟨t.val * 128 + y1.val, by have : y1.val < 128 := y1.isLt; omega⟩ rfl).trans (congrArg₂ (K2 _ _) (Fin.ext ?_) (Fin.ext ?_))
  · blk_simp [i0]
  · blk_simp [i1]

end Cert.ConvFwdIdeal.Val
end
-- ==== Proof.ConvFwd.Equal.lean ====
/- The forward kernel of the short convolution computes the plain lines. -/
module

public import proofs.«01_k».proof.Proof.ConvFwd.Kernel
public import proofs.«01_k».proof.Proof.Gen.ConvFwdRefIdeal.Read
public import proofs.«01_k».proof.Defs
public import proofs.«01_k».proof.Proof.Gen.ConvFwd

@[expose] public section

set_option maxRecDepth 16384

noncomputable section

open Idealize.ShloMosaic Idealize.ShloMosaic.TcCoe Idealize.SL.Sem

namespace Cert.ConvFwdIdeal.Val
open Cert.ConvFwdIdeal Cert.ConvFwdIdeal.Gen Cert.ConvFwdRefIdeal.Read

variable (m : (ℓ : Loc nD τ sig) → Buf (Elt Ideal) ℓ)
variable (x0 : FVec Ideal S4096x1536 .f32) (x1 : FVec Ideal S4x1536 .f32)

/-- A row behind three rows of zeros is an earlier row. -/
theorem zeros_before (d : Fin 4096 → EReal) (r : Fin 4096) (s n : ℕ) (hn : n + s = r.val + 3) (f : ¬n < 3 → EReal)
    (hf : ∀ (h : ¬n < 3) (h' : r.val - s < 4096), f h = d ⟨r.val - s, h'⟩) : (if h : n < 3 then 0 else f h) = before s d r := by
  unfold before
  by_cases h : n < 3
  · rw [dif_pos h, dif_neg (by omega)]
  · rw [dif_neg h, dif_pos (by omega)]
    exact hf h _

/-- The four taps in the order in which the plain sum adds them. -/
theorem taps_sum (w : Fin 4 → EReal) (d : Fin 4096 → EReal) (r : Fin 4096) :
    w 0 * before 3 d r + w 1 * before 2 d r + w 2 * before 1 d r + w 3 * d r = taps w d r := by
  unfold taps
  generalize w 0 * before 3 d r = a
  generalize w 1 * before 2 d r = b
  generalize w 2 * before 1 d r = e
  generalize w 3 * d r = f
  rw [add_comm _ f, add_comm _ e, ← add_assoc f, add_comm a b, ← add_assoc]

/-- The reference's convolution is the same. -/
theorem ref_conv : val_main_v88 (F := Ideal) x0 x1 = K3 x0 x1 := by
  funext i
  idx_vars i
  refine Eq.trans ?_ (taps_sum (fun k => x1 (ix2 k i1)) (fun r => x0 (ix2 r i1)) i0)
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62, val_main_v61, val_main_v60, val_main_v59, val_main_v58, val_main_cst_6, val_main_cst_7]
  refine congrArg₂ (· + ·) (congrArg₂ (· + ·) (congrArg₂ (· + ·) (congrArg _ ?_) (congrArg _ ?_)) (congrArg _ ?_)) ?_
  · exact zeros_before _ _ _ _ rfl _ fun h h' => rfl
  · exact zeros_before _ _ _ _ (by omega) _ fun h h' => congrArg (fun k : Fin 4096 => x0 (ix2 k i1)) (Fin.ext (show 1 + i0.val - 3 = i0.val - 2 by omega))
  · exact zeros_before _ _ _ _ (by omega) _ fun h h' => congrArg (fun k : Fin 4096 => x0 (ix2 k i1)) (Fin.ext (show 2 + i0.val - 3 = i0.val - 1 by omega))
  · rfl

/-- The same convolution, as the reference computes it for its first result. -/
theorem ref_conv' : val_main_v30 (F := Ideal) x0 x1 = K3 x0 x1 :=
  (show val_main_v30 (F := Ideal) x0 x1 = val_main_v88 (F := Ideal) x0 x1 from rfl).trans (ref_conv x0 x1)

theorem sig_ref (i) : val_main_call0_v5 (F := Ideal) x0 x1 i = Ideal.logistic (K3 x0 x1 i) := by
  rw [← ref_conv' x0 x1]
  pointwise [val_main_call0_v5, val_main_call0_v4, val_main_call0_v3, val_main_call0_v2, val_main_call0_v1, val_main_call0_v0, val_main_call0_cst, val_main_call0_cst_0]
  rfl

/-- The activation and the norm of a row, in the plain order: queries with their scale, keys, values. -/
def rowR (t : ℕ) (c : Fin 128 → EReal) (l : Fin 128) : EReal :=
  if t < 4 then c l * Ideal.logistic (c l) * Ideal.rsqrt (∑ x, c x * Ideal.logistic (c x) * (c x * Ideal.logistic (c x)) + Ideal.ofBits .f32 897988541#32)
      * Ideal.ofBits .f32 1035273459#32
  else if t < 8 then c l * Ideal.logistic (c l) * Ideal.rsqrt (∑ x, c x * Ideal.logistic (c x) * (c x * Ideal.logistic (c x)) + Ideal.ofBits .f32 897988541#32)
  else c l * Ideal.logistic (c l)

/-- The kernel's row is the plain one. -/
theorem row_eq (t : ℕ) (ht : t < 12) (c : Fin 128 → EReal) (l : Fin 128) : rowK t c l = rowR t c l := by
  have ge : Scalar.cmpi .sge (BitVec.ofNat 32 t) 8#32 = if 8 ≤ t then 1#1 else 0#1 := by
    have : ∀ t : Fin 12, Scalar.cmpi .sge (BitVec.ofNat 32 t.val) 8#32 = if 8 ≤ t.val then 1#1 else 0#1 := by decide
    exact this ⟨t, ht⟩
  have lt : Scalar.cmpi .slt (BitVec.ofNat 32 t) 4#32 = if t < 4 then 1#1 else 0#1 := by
    have : ∀ t : Fin 12, Scalar.cmpi .slt (BitVec.ofNat 32 t.val) 4#32 = if t.val < 4 then 1#1 else 0#1 := by decide
    exact this ⟨t, ht⟩
  unfold rowK rowR
  rw [ge, lt]
  by_cases h4 : t < 4
  · simp only [if_pos h4, if_neg (show ¬8 ≤ t by omega), Scalar.select]
    exact (mul_assoc _ _ _).symm
  by_cases h8 : t < 8
  · simp only [if_neg h4, if_pos h8, if_neg (show ¬8 ≤ t by omega), Scalar.select]
    exact congrArg _ (mul_one _)
  · simp only [if_neg h4, if_neg h8, if_pos (show 8 ≤ t by omega), Scalar.select]
    exact mul_one _

/-- The reference's first result, read in blocks of 128 columns of its convolution `C`. -/
theorem ref_rows (C : FVec Ideal S4096x1536 .f32) (hC : val_main_v30 (F := Ideal) x0 x1 = C) (hs : ∀ i, val_main_call0_v5 (F := Ideal) x0 x1 i = Ideal.logistic (C i))
    (r : Fin 4096) (j : Fin 1536) : val_main_v57 (F := Ideal) x0 x1 (ix2 r j)
      = rowR (j.val / 128) (fun l => C (ix2 r ⟨j.val / 128 * 128 + l.val, by omega⟩)) ⟨j.val % 128, by omega⟩ := by
  have hj : j.val / 128 * 128 + j.val % 128 = j.val := by omega
  unfold rowR
  simp only [hj]
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_cst_1, val_main_cst_2, val_main_cst_3, val_main_cst_4, val_main_cst_5, hC, hs]
  by_cases h4 : j.val < 512
  · refine (dif_pos h4).trans (Eq.trans ?_ (if_pos (show j.val / 128 < 4 by omega)).symm)
    simp only [hj]
  by_cases h8 : j.val - 512 < 512
  · refine (dif_neg h4).trans ((dif_pos h8).trans (Eq.trans ?_ ((if_neg (show ¬j.val / 128 < 4 by omega)).trans (if_pos (show j.val / 128 < 8 by omega))).symm))
    have col : 512 + ((j.val - 512) / 128 * 128 + (j.val - 512) % 128) = j.val := by omega
    have row : ∀ x : Fin 128, 512 + ((j.val - 512) / 128 * 128 + x.val) = j.val / 128 * 128 + x.val := fun x => by omega
    simp only [col, row]
  · refine (dif_neg h4).trans ((dif_neg h8).trans (Eq.trans ?_ ((if_neg (show ¬j.val / 128 < 4 by omega)).trans (if_neg (show ¬j.val / 128 < 8 by omega))).symm))
    have col : 1024 + (j.val - 512 - 512) = j.val := by omega
    simp only [col]

/-- The reference's first result is the kernel's. -/
theorem ref_row (r : Fin 4096) (j : Fin 1536) : val_main_v57 (F := Ideal) x0 x1 (ix2 r j) = K2 x0 x1 r j :=
  (ref_rows x0 x1 (K3 x0 x1) (ref_conv' x0 x1) (sig_ref x0 x1) r j).trans (row_eq _ (by omega) _ _).symm

/-- The kernel's convolution is the reference's. -/
theorem eq_3 (c : Dev nD) : (dats m 0 c).arrAt 3 (cfgs 0).N = val_main_v88 (F := Ideal)
    (m ((c : Thread nD τ).loc main_arg0)) (m ((c : Thread nD τ).loc main_arg1)) := by
  rw [arr_3, V_main_arg1]; exact (ref_conv _ _).symm

/-- The kernel's normed rows are the reference's. -/
theorem eq_2 (c : Dev nD) : (dats m 0 c).arrAt 2 (cfgs 0).N = val_main_v57 (F := Ideal)
    (m ((c : Thread nD τ).loc main_arg0)) (m ((c : Thread nD τ).loc main_arg1)) := by
  rw [arr_2, V_main_arg1]
  funext i; idx_vars i
  exact (ref_row _ _ _ _).symm

/-- The reference runs, leaves its arguments as they were and every counter at zero. -/
theorem frame_ref : Cert.quiescent_ConvFwdRefIdeal := fun m g _ =>
  (θ_run Cert.ConvFwdRefIdeal.defs _ _).mono (fun r h => ⟨fun c => (h c).2.2, sem_eq_zero_of_no_sems (by decide) r.2⟩)
    (Cert.ConvFwdRefIdeal.Value.run (F := Ideal) m g)

/-- Kernel and reference compute the same normed rows and the same convolution over the extended reals. -/
theorem algebraic : Cert.algebraic_ConvFwdIdeal_ConvFwdRefIdeal := by
  pair_intro
  · run_from Cert.ConvFwdIdeal.Gen.run_main m g
    all_goals first | exact V_main_arg0 m c | exact V_main_arg1 m c
  · run_from Cert.ConvFwdRefIdeal.Value.run m' g'
    · refine (val_main_v57_eq m' c).trans (Eq.trans ?_ (eq_2 m c).symm)
      exact congrArg₂ (val_main_v57 (F := Ideal)) (hagree c).1 (hagree c).2
    · exact (val_main_v88_eq (m ((c : Thread nD τ).loc main_arg0)) (m ((c : Thread nD τ).loc main_arg1))).trans (eq_3 m c).symm

end Cert.ConvFwdIdeal.Val
end
-- ==== Proof.GateFwd.Kernel.lean ====
/- What the forward kernel of the decay and write-strength gates writes, and what it is entered with. -/
module

public import proofs.«01_k».proof.Proof.Gen.GateFwdIdeal.Frame
public import proofs.«01_k».proof.Proof.Common
public import proofs.«01_k».proof.Proof.GateFwd.Words
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateFwdIdeal.Val

open Cert.HeadWords
open Cert.Common (soft pieces)
open Cert.GateFwdIdeal Cert.GateFwdIdeal.Gen

variable (m : (ℓ : Loc nD τ sig) → Buf (Elt Ideal) ℓ)

/-- The block of every window at every grid point. -/
theorem idx : ∀ t : Fin cfg0.N, win0_0.index t = ![t.val, 38]
    ∧ win0_1.index t = ![0, 0]
    ∧ win0_2.index t = ![0, 0]
    ∧ win0_5.index t = ![0, 0]
    ∧ win0_6.index t = ![0, 0]
    ∧ win0_7.index t = ![t.val, 0]
    ∧ win0_8.index t = ![t.val, 0] :=
  (by decide +kernel : ∀ t : Fin grid0.N, _)

theorem pay4_at (v0 : Vec Ideal S1024x128 .f32) (v2 : Vec Ideal S128x512 .f32) (r : Fin 1024) (d : Fin 512) :
    k0_pay4 v0 v2 (ix2 r d) = pieces (fun k => Ideal.logistic (v0 (ix2 r k))) (fun k => v2 (ix2 k d)) := by
  pointwise [k0_pay4, k0_pay2, pieces]

theorem pay1_at (v0 : Vec Ideal S1024x128 .f32) (v4 : Vec Ideal S128x512 .f32) (v10 : Vec Ideal S1x512 .f32) (v12 : Vec Ideal S1x128 .f32)
    (r : Fin 1024) (d : Fin 512) :
    k0_pay1 (k0_pay3 v4) (k0_pay5 v10) (k0_pay7 v0 v12) (k0_pay8 v0 v12) (k0_pay9 v0 v12) (k0_pay10 v0 v12) (ix2 r d)
      = (0 - Ideal.exp (v10 (ix2 0 d))) * pieces (fun k => soft (v0 (ix2 r k) + v12 (ix2 0 k))) (fun k => v4 (ix2 k d)) := by
  pointwise [k0_pay1, k0_pay2, k0_pay3, k0_pay5, k0_pay6, k0_pay7, k0_pay8, k0_pay9, k0_pay10, pieces, soft]
  simp only [zero_sub]

/-- The gates' columns of a row of the projection. -/
def cols (x : FVec Ideal S4096x4992 .f32) (r : Fin 4096) (k : Fin 128) : EReal := x (ix2 r ⟨4864 + k.val, by omega⟩)

theorem blk0 (c : Dev nD) (t : Fin cfg0.N) (a : Fin 1024) (r : Fin 4096) (hr : r.val = t.val * 1024 + a.val) (k : Fin 128) :
    iblk m c 0 t (ix2 a k) = cols (V m c main_v1) r k := by
  refine congrArg (V m c main_v1) (?_ : ((cfg0.win 0).blk t).view.emb _ = _)
  funext q; fin_cases q <;> refine Fin.ext ?_ <;> blk_simp [idx t] <;> show _ = _ <;> simp <;> omega

theorem blk1 (c : Dev nD) (t : Fin cfg0.N) : (iblk m c 1 t : FVec Ideal S128x512 .f32) = V m c main_v17 := by
  funext i
  refine congrArg (V m c main_v17) (?_ : ((cfg0.win 1).blk t).view.emb _ = _)
  funext q; fin_cases q <;> refine Fin.ext ?_ <;> blk_simp [idx t] <;> show _ = _ <;> simp

theorem blk2 (c : Dev nD) (t : Fin cfg0.N) : (iblk m c 2 t : FVec Ideal S128x512 .f32) = V m c main_v27 := by
  funext i
  refine congrArg (V m c main_v27) (?_ : ((cfg0.win 2).blk t).view.emb _ = _)
  funext q; fin_cases q <;> refine Fin.ext ?_ <;> blk_simp [idx t] <;> show _ = _ <;> simp

theorem blk5 (c : Dev nD) (t : Fin cfg0.N) : (iblk m c 5 t : FVec Ideal S1x512 .f32) = V m c main_v4 := by
  funext i
  refine congrArg (V m c main_v4) (?_ : ((cfg0.win 5).blk t).view.emb _ = _)
  funext q; fin_cases q <;> refine Fin.ext ?_ <;> blk_simp [idx t] <;> show _ = _ <;> simp

theorem blk6 (c : Dev nD) (t : Fin cfg0.N) : (iblk m c 6 t : FVec Ideal S1x128 .f32) = V m c main_v7 := by
  funext i
  refine congrArg (V m c main_v7) (?_ : ((cfg0.win 6).blk t).view.emb _ = _)
  funext q; fin_cases q <;> refine Fin.ext ?_ <;> blk_simp [idx t] <;> show _ = _ <;> simp

/-- The write strength in a row and a lane. -/
def strength (P : FVec Ideal S4096x4992 .f32) (B : FVec Ideal S128x512 .f32) (r : Fin 4096) (d : Fin 512) : EReal :=
  pieces (fun k => Ideal.logistic (cols P r k)) (fun k => B (ix2 k d))

/-- The decay in a row and a lane. -/
def decay (P : FVec Ideal S4096x4992 .f32) (A : FVec Ideal S128x512 .f32) (L : FVec Ideal S1x512 .f32) (D : FVec Ideal S1x128 .f32)
    (r : Fin 4096) (d : Fin 512) : EReal :=
  (0 - Ideal.exp (L (ix2 0 d))) * pieces (fun k => soft (cols P r k + D (ix2 0 k))) (fun k => A (ix2 k d))

/-- The write strengths after the run. -/
theorem arr_7 (c : Dev nD) : (dats m 0 c).arrAt 7 (cfgs 0).N = fun i => strength (V m c main_v1) (V m c main_v17) (i 0) (i 1) := by
  refine (dats m 0 c).arrAt_eq_of_covers 7 _ (by decide +kernel) fun t hf y => ?_
  have ht : t.val < 4 := lt_of_lt_of_eq t.isLt N_0
  blk_simp; rw [after0_7]; frame_out
  idx_vars y
  rw [pay4_at, blk1]
  have e0 : (((cfg0.win 7).blk t).view.emb (ix2 y0 y1) 0 : Fin 4096) = (⟨t.val * 1024 + y0.val, by omega⟩ : Fin 4096) := Fin.ext (by blk_simp [idx t])
  have e1 : (((cfg0.win 7).blk t).view.emb (ix2 y0 y1) 1 : Fin 512) = y1 := Fin.ext (by blk_simp [idx t])
  refine Eq.trans ?_ (congrArg₂ (strength (V m c main_v1) (V m c main_v17)) e0 e1).symm
  exact congrArg (fun f => pieces f _) (funext fun k => congrArg Ideal.logistic (blk0 m c t y0 _ rfl k))

/-- The decays after the run. -/
theorem arr_8 (c : Dev nD) : (dats m 0 c).arrAt 8 (cfgs 0).N = fun i => decay (V m c main_v1) (V m c main_v27) (V m c main_v4) (V m c main_v7) (i 0) (i 1) := by
  refine (dats m 0 c).arrAt_eq_of_covers 8 _ (by decide +kernel) fun t hf y => ?_
  have ht : t.val < 4 := lt_of_lt_of_eq t.isLt N_0
  blk_simp; rw [after0_8]; frame_out
  idx_vars y
  rw [pay1_at, blk2, blk5, blk6]
  have e0 : (((cfg0.win 8).blk t).view.emb (ix2 y0 y1) 0 : Fin 4096) = (⟨t.val * 1024 + y0.val, by omega⟩ : Fin 4096) := Fin.ext (by blk_simp [idx t])
  have e1 : (((cfg0.win 8).blk t).view.emb (ix2 y0 y1) 1 : Fin 512) = y1 := Fin.ext (by blk_simp [idx t])
  refine Eq.trans ?_ (congrArg₂ (decay (V m c main_v1) (V m c main_v27) (V m c main_v4) (V m c main_v7)) e0 e1).symm
  exact congrArg (fun f => (0 - Ideal.exp (V m c main_v4 (ix2 0 y1))) * pieces f _)
    (funext fun k => congrArg (fun x : EReal => soft (x + V m c main_v7 (ix2 0 k))) (blk0 m c t y0 _ rfl k))

theorem v1_at (c : Dev nD) (r : Fin 4096) (k : Fin 128) : cols (V m c main_v1) r k =
    if h : k.val < 4 then (m ((c : Thread nD τ).loc main_arg0)) (ix2 r ⟨k.val, h⟩) else if h : k.val < 8 then (m ((c : Thread nD τ).loc main_arg1)) (ix2 r ⟨k.val - 4, by omega⟩) else (0 : EReal) := by
  unfold cols
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise [Cert.Common.sitofp_zero]
  by_cases h4 : k.val < 4
  · rw [dif_pos (by omega : k.val < 8), dif_pos h4, dif_pos h4]
  · rw [dif_neg h4]
    by_cases h8 : k.val < 8
    · rw [dif_pos h8, dif_pos h8, dif_neg h4]
    · rw [dif_neg h8, dif_neg h8]

theorem v4_at (c : Dev nD) (d : Fin 512) : V m c main_v4 (ix2 0 d) = (m ((c : Thread nD τ).loc main_arg2)) (ix1 ⟨d.val / 128, by omega⟩) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

theorem v7_at (c : Dev nD) (k : Fin 128) : V m c main_v7 (ix2 0 k) = if h : 4 ≤ k.val ∧ k.val < 8 then (m ((c : Thread nD τ).loc main_arg3)) (ix1 ⟨k.val - 4, by omega⟩) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise [Cert.Common.sitofp_zero]
  by_cases h8 : k.val < 8
  · rw [dif_pos h8]
    exact dite_congr (propext ⟨fun h => ⟨h.1, h8⟩, fun h => ⟨h.1, by omega⟩⟩) (fun _ => rfl) (fun _ => rfl)
  · rw [dif_neg h8, dif_neg (fun h => h8 h.2)]

/-- Which lanes belong to which row: row `k` selects the lanes of head `k - 4`. -/
def decayRows : FVec Ideal S128x512 .f32 :=
  select (andi (cmpi .sle (muli (iotaInDim S128x512 32 0) (broadcastInDim S128x512 ![] bcast_S_S128x512 (constantI S_ 32 128#32)))
      (addi (iotaInDim S128x512 32 1) (broadcastInDim S128x512 ![] bcast_S_S128x512 (constantI S_ 32 512#32))))
    (cmpi .slt (addi (iotaInDim S128x512 32 1) (broadcastInDim S128x512 ![] bcast_S_S128x512 (constantI S_ 32 512#32)))
      (addi (muli (iotaInDim S128x512 32 0) (broadcastInDim S128x512 ![] bcast_S_S128x512 (constantI S_ 32 128#32)))
        (broadcastInDim S128x512 ![] bcast_S_S128x512 (constantI S_ 32 128#32)))))
    (broadcastInDim S128x512 ![] bcast_S_S128x512 (constant S_ .f32 1065353216#32))
    (broadcastInDim S128x512 ![] bcast_S_S128x512 (constant S_ .f32 0#32))

/-- Which lanes belong to which row: row `k` selects the lanes of head `k`. -/
def strengthRows : FVec Ideal S128x512 .f32 :=
  select (andi (cmpi .sle (muli (iotaInDim S128x512 32 0) (broadcastInDim S128x512 ![] bcast_S_S128x512 (constantI S_ 32 128#32)))
      (iotaInDim S128x512 32 1))
    (cmpi .slt (iotaInDim S128x512 32 1)
      (addi (muli (iotaInDim S128x512 32 0) (broadcastInDim S128x512 ![] bcast_S_S128x512 (constantI S_ 32 128#32)))
        (broadcastInDim S128x512 ![] bcast_S_S128x512 (constantI S_ 32 128#32)))))
    (broadcastInDim S128x512 ![] bcast_S_S128x512 (constant S_ .f32 1065353216#32))
    (broadcastInDim S128x512 ![] bcast_S_S128x512 (constant S_ .f32 0#32))

theorem decayRows_at (k : Fin 128) (d : Fin 512) : decayRows (ix2 k d) = if k.val = d.val / 128 + 4 then (1 : EReal) else (0 : EReal) := by
  pointwise [decayRows]
  rw [decay_word k d]
  split_ifs <;> rfl

theorem strengthRows_at (k : Fin 128) (d : Fin 512) : strengthRows (ix2 k d) = if k.val = d.val / 128 then (1 : EReal) else (0 : EReal) := by
  pointwise [strengthRows]
  rw [strength_word k d]
  split_ifs <;> rfl

theorem v17_at (c : Dev nD) (k : Fin 128) (d : Fin 512) : V m c main_v17 (ix2 k d) = if k.val = d.val / 128 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  exact strengthRows_at k d

theorem v27_at (c : Dev nD) (k : Fin 128) (d : Fin 512) : V m c main_v27 (ix2 k d) = if k.val = d.val / 128 + 4 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  exact decayRows_at k d

end Cert.GateFwdIdeal.Val
end
-- ==== Proof.GateFwd.Equal.lean ====
/- The gates' forward kernel and the reference compute the same write strengths and decays. -/
module

public import proofs.«01_k».proof.Proof.GateFwd.Kernel
public import proofs.«01_k».proof.Proof.Gen.GateFwdRefIdeal.Read
public import proofs.«01_k».proof.Proof.Gen.GateFwd
public import proofs.«01_k».proof.Proof.Gen.Pre_gate_fwd_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.GateFwdIdeal.Val

open Cert.Common (soft pieces IsReal pieces_eq soft_real)
open Cert.GateFwdIdeal Cert.GateFwdIdeal.Gen Cert.GateFwdRefIdeal.Read

/-- The sigmoid of any extended real is a real number. -/
theorem logistic_real (x : EReal) : IsReal (Ideal.logistic x) := by
  induction x using EReal.rec with
  | bot => exact ⟨0, by rw [Ideal.logistic_bot]; rfl⟩
  | top => exact ⟨1, by rw [Ideal.logistic_top]; rfl⟩
  | coe r => exact ⟨_, Ideal.logistic_coe r⟩

/-- A selection of one summand in three parts is that summand. -/
theorem pieces_one {n : ℕ} (f s : Fin n → EReal) (k : Fin n) (h0 : ∀ x, x ≠ k → s x = 0) (h1 : s k = 1) (hf : IsReal (f k)) : pieces f s = f k := by
  rw [pieces_eq, Finset.sum_eq_single k, h1, mul_one]
  · exact fun x _ hx => by rw [h0 x hx, mul_zero]
  · exact fun hn => absurd (Finset.mem_univ _) hn
  · intro x
    by_cases q : x = k
    · exact Or.inr (q ▸ hf)
    · exact Or.inl (h0 x q)

/-- Lane `d`'s head. -/
def head (d : Fin 512) : Fin 4 := ⟨d.val / 128, by omega⟩

section Arrays

variable (b a : FVec Ideal Cert.GateFwdRefIdeal.S4096x4 .f32) (al dt : FVec Ideal Cert.GateFwdRefIdeal.S4 .f32)
  {P : FVec Ideal S4096x4992 .f32} {D : FVec Ideal S1x128 .f32} {L : FVec Ideal S1x512 .f32} {A B : FVec Ideal S128x512 .f32}
  (hP : ∀ r k, cols P r k = if h : k.val < 4 then b (ix2 r ⟨k.val, h⟩) else if h : k.val < 8 then a (ix2 r ⟨k.val - 4, by omega⟩) else (0 : EReal))
  (hD : ∀ k : Fin 128, D (ix2 0 k) = if h : 4 ≤ k.val ∧ k.val < 8 then dt (ix1 ⟨k.val - 4, by omega⟩) else (0 : EReal))
  (hL : ∀ d : Fin 512, L (ix2 0 d) = al (ix1 ⟨d.val / 128, by omega⟩))
  (hA : ∀ (k : Fin 128) (d : Fin 512), A (ix2 k d) = if k.val = d.val / 128 + 4 then (1 : EReal) else (0 : EReal))
  (hB : ∀ (k : Fin 128) (d : Fin 512), B (ix2 k d) = if k.val = d.val / 128 then (1 : EReal) else (0 : EReal))
  (ra : ∀ y, IsReal (a y)) (rt : ∀ y, IsReal (dt y))

include hP hB in
/-- A lane's write strength is its head's sigmoid. -/
theorem strength_eq (r : Fin 4096) (d : Fin 512) : strength P B r d = Ideal.logistic (b (ix2 r (head d))) := by
  unfold strength
  have hk : d.val / 128 < 4 := by omega
  refine (pieces_one _ _ (⟨d.val / 128, by omega⟩ : Fin 128) (fun x hx => ?_) ?_ (logistic_real _)).trans ?_
  · exact (hB x d).trans (if_neg fun q => hx (Fin.ext q))
  · exact (hB _ d).trans (if_pos rfl)
  · exact congrArg Ideal.logistic ((hP r _).trans (dif_pos hk))

include hP hD hL hA ra rt in
/-- A lane's decay is its head's. -/
theorem decay_eq (r : Fin 4096) (d : Fin 512) : decay P A L D r d
    = (0 - Ideal.exp (al (ix1 (head d)))) * soft (a (ix2 r (head d)) + dt (ix1 (head d))) := by
  have e : cols P r ⟨d.val / 128 + 4, by omega⟩ + D (ix2 0 ⟨d.val / 128 + 4, by omega⟩) = a (ix2 r (head d)) + dt (ix1 (head d)) := by
    have h : (⟨d.val / 128 + 4 - 4, by omega⟩ : Fin 4) = head d := Fin.ext (Nat.add_sub_cancel _ _)
    rw [hP, hD, dif_neg (show ¬d.val / 128 + 4 < 4 by omega), dif_pos (show d.val / 128 + 4 < 8 by omega),
      dif_pos (show 4 ≤ d.val / 128 + 4 ∧ d.val / 128 + 4 < 8 by omega), h]
  unfold decay
  rw [hL]
  refine congrArg (fun x : EReal => (0 - Ideal.exp (al (ix1 (head d)))) * x) ?_
  refine (pieces_one _ _ (⟨d.val / 128 + 4, by omega⟩ : Fin 128) (fun x hx => ?_) ?_ ?_).trans (congrArg soft e)
  · exact (hA x d).trans (if_neg fun q => hx (Fin.ext q))
  · exact (hA _ d).trans (if_pos rfl)
  · refine soft_real ?_
    obtain ⟨p, hp⟩ := ra (ix2 r (head d))
    obtain ⟨w, hw⟩ := rt (ix1 (head d))
    exact ⟨p + w, by rw [e, hp, hw, EReal.coe_add]⟩

theorem ref_strength (r : Fin 4096) (d : Fin 512) : val_main_v16 (F := Ideal) b (ix2 r d) = Ideal.logistic (b (ix2 r (head d))) := by
  pointwise [val_main_v16, val_main_v15, val_main_v5, val_main_v4, val_main_v3, val_main_v2, val_main_v1, val_main_v0, val_main_cst, val_main_cst_0]
  rfl

theorem ref_decay (r : Fin 4096) (d : Fin 512) : val_main_v18 (F := Ideal) a al dt (ix2 r d)
    = (0 - Ideal.exp (al (ix1 (head d)))) * soft (a (ix2 r (head d)) + dt (ix1 (head d))) := by
  pointwise [val_main_v18, val_main_v17, val_main_v14, val_main_v13, val_main_v12, val_main_v11, val_main_v10, val_main_v9, val_main_v8, val_main_v7, val_main_v6,
    val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst, soft]
  simp only [zero_sub]
  rfl

end Arrays

variable (m : (ℓ : Loc nD τ sig) → Buf (Elt Ideal) ℓ) (c : Dev nD)

/-- The write strengths. -/
theorem eq_7 : (dats m 0 c).arrAt 7 (cfgs 0).N = val_main_v16 (F := Ideal) (m ((c : Thread nD τ).loc main_arg0)) := by
  refine (arr_7 m c).trans (funext fun y => ?_)
  idx_vars y
  exact (strength_eq (m ((c : Thread nD τ).loc main_arg0)) (m ((c : Thread nD τ).loc main_arg1)) (v1_at m c) (fun k d => v17_at m c k d) y0 y1).trans
    (ref_strength (m ((c : Thread nD τ).loc main_arg0)) y0 y1).symm

/-- The decays, where their arguments are real numbers. -/
theorem eq_8 (ra : ∀ y, IsReal ((m ((c : Thread nD τ).loc main_arg1)) y)) (rt : ∀ y, IsReal ((m ((c : Thread nD τ).loc main_arg3)) y)) :
    (dats m 0 c).arrAt 8 (cfgs 0).N = val_main_v18 (F := Ideal) (m ((c : Thread nD τ).loc main_arg1)) (m ((c : Thread nD τ).loc main_arg2)) (m ((c : Thread nD τ).loc main_arg3)) := by
  refine (arr_8 m c).trans (funext fun y => ?_)
  idx_vars y
  exact (decay_eq (m ((c : Thread nD τ).loc main_arg0)) (m ((c : Thread nD τ).loc main_arg1)) (m ((c : Thread nD τ).loc main_arg2)) (m ((c : Thread nD τ).loc main_arg3))
      (v1_at m c) (v7_at m c) (v4_at m c) (fun k d => v27_at m c k d) ra rt y0 y1).trans
    (ref_decay (m ((c : Thread nD τ).loc main_arg1)) (m ((c : Thread nD τ).loc main_arg2)) (m ((c : Thread nD τ).loc main_arg3)) y0 y1).symm

/-- The reference runs, leaves its arguments as they were and every counter at zero. -/
theorem frame_ref : Cert.quiescent_GateFwdRefIdeal := fun m g _ =>
  (θ_run Cert.GateFwdRefIdeal.defs _ _).mono (fun r h => ⟨fun c => (h c).2.2, sem_eq_zero_of_no_sems (by decide) r.2⟩)
    (Cert.GateFwdRefIdeal.Value.run (F := Ideal) m g)

set_option maxHeartbeats 4000000 in
/-- Where the decay's two arguments are finite, kernel and reference compute the same write strengths and decays over the extended reals. -/
theorem algebraic : Cert.algebraic_GateFwdIdeal_GateFwdRefIdeal_pre_gate_fwd_finite := by
  intro m g m' g' hpre hagree
  refine ⟨fun c => (dats m 0 c).arrAt 7 (cfgs 0).N, fun c => (dats m 0 c).arrAt 8 (cfgs 0).N, ?_, ?_⟩
  · refine (θ_run Cert.GateFwdIdeal.defs _ _).mono (fun r h c => ?_) (Cert.GateFwdIdeal.Gen.run_main m g)
    exact ⟨(h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩
  · refine (θ_run Cert.GateFwdRefIdeal.defs _ _).mono (fun r h => ?_) (Cert.GateFwdRefIdeal.Value.run (F := Ideal) m' g')
    intro c
    obtain ⟨p1, e1⟩ := Cert.Common.real_of_finite _ _ (fun _ => rfl) (hpre c).1
    obtain ⟨p3, e3⟩ := Cert.Common.real_of_finite _ _ (fun _ => rfl) (hpre c).2
    obtain ⟨a0, a1, a2, a3⟩ := hagree c
    refine ⟨(h c).1.trans ((Cert.GateFwdRefIdeal.Read.val_main_v16_eq _).trans (Eq.trans ?_ (eq_7 m c).symm)),
      (h c).2.1.trans ((Cert.GateFwdRefIdeal.Read.val_main_v18_eq _ _ _).trans (Eq.trans ?_ (eq_8 m c (fun y => ⟨_, congrFun e1 y⟩) (fun y => ⟨_, congrFun e3 y⟩)).symm)),
      (h c).2.2⟩
    · exact congrArg _ a0
    · exact congr (congr (congrArg _ a1) a2) a3

end Cert.GateFwdIdeal.Val
end
-- ==== Proof.lean ====
module

public import proofs.«01_k».proof.Defs
public import proofs.«01_k».proof.Proof.Gen.ActBwd
public import proofs.«01_k».proof.Proof.Gen.ActBwdIdeal
public import proofs.«01_k».proof.Proof.Gen.ActBwdRefIdeal
public import proofs.«01_k».proof.Proof.Gen.ActBwd.Frame
public import proofs.«01_k».proof.Proof.Gen.ActBwdIdeal.Frame
public import proofs.«01_k».proof.Proof.Gen.ActBwdRefIdeal.Run
public import proofs.«01_k».proof.Proof.Gen.ActBwdRefIdeal.Read
public import proofs.«01_k».proof.Proof.Gen.LossHead
public import proofs.«01_k».proof.Proof.Gen.LossHeadIdeal
public import proofs.«01_k».proof.Proof.Gen.LossHeadRefIdeal
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import proofs.«01_k».proof.Proof.Gen.ConvBwd
public import proofs.«01_k».proof.Proof.Gen.ConvBwdIdeal
public import proofs.«01_k».proof.Proof.Gen.ConvBwdRefIdeal
public import proofs.«01_k».proof.Proof.Gen.ConvBwd.Frame
public import proofs.«01_k».proof.Proof.Gen.ConvBwdIdeal.Frame
public import proofs.«01_k».proof.Proof.Gen.ConvBwdRefIdeal.Run
public import proofs.«01_k».proof.Proof.Gen.ConvBwdRefIdeal.Read
public import proofs.«01_k».proof.Proof.Gen.BiasBwd
public import proofs.«01_k».proof.Proof.Gen.BiasBwdIdeal
public import proofs.«01_k».proof.Proof.Gen.BiasBwdRefIdeal
public import proofs.«01_k».proof.Proof.Gen.BiasBwd.Frame
public import proofs.«01_k».proof.Proof.Gen.BiasBwdIdeal.Frame
public import proofs.«01_k».proof.Proof.Gen.BiasBwdRefIdeal.Run
public import proofs.«01_k».proof.Proof.Gen.OutBwd
public import proofs.«01_k».proof.Proof.Gen.OutBwdIdeal
public import proofs.«01_k».proof.Proof.Gen.OutBwdRefIdeal
public import proofs.«01_k».proof.Proof.Gen.OutBwd.Frame
public import proofs.«01_k».proof.Proof.Gen.OutBwdIdeal.Frame
public import proofs.«01_k».proof.Proof.Gen.OutBwdRefIdeal.Run
public import proofs.«01_k».proof.Proof.Gen.OutBwdRefIdeal.Read
public import proofs.«01_k».proof.Proof.Gen.InNormBwd
public import proofs.«01_k».proof.Proof.Gen.InNormBwdIdeal
public import proofs.«01_k».proof.Proof.Gen.InNormBwdRefIdeal
public import proofs.«01_k».proof.Proof.Gen.InNormBwd.Frame
public import proofs.«01_k».proof.Proof.Gen.InNormBwdIdeal.Frame
public import proofs.«01_k».proof.Proof.Gen.InNormBwdRefIdeal.Run
public import proofs.«01_k».proof.Proof.Gen.InNormBwdRefIdeal.Read
public import proofs.«01_k».proof.Proof.Gen.FfnNormBwd
public import proofs.«01_k».proof.Proof.Gen.FfnNormBwdIdeal
public import proofs.«01_k».proof.Proof.Gen.FfnNormBwdRefIdeal
public import proofs.«01_k».proof.Proof.Gen.FfnNormBwd.Frame
public import proofs.«01_k».proof.Proof.Gen.FfnNormBwdIdeal.Frame
public import proofs.«01_k».proof.Proof.Gen.FfnNormBwdRefIdeal.Run
public import proofs.«01_k».proof.Proof.Gen.FfnNormBwdRefIdeal.Read
public import proofs.«01_k».proof.Proof.Gen.MergeBwd
public import proofs.«01_k».proof.Proof.Gen.MergeBwdIdeal
public import proofs.«01_k».proof.Proof.Gen.MergeBwdRefIdeal
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import proofs.«01_k».proof.Proof.Gen.SwaBwd
public import proofs.«01_k».proof.Proof.Gen.SwaBwdIdeal
public import proofs.«01_k».proof.Proof.Gen.SwaBwdRefIdeal
public import proofs.«01_k».proof.Proof.Gen.SwaBwd.Frame
public import proofs.«01_k».proof.Proof.Gen.SwaBwdIdeal.Frame
public import proofs.«01_k».proof.Proof.Gen.SwaBwdRefIdeal.Run
public import proofs.«01_k».proof.Proof.Gen.SwaBwdRefIdeal.Read
public import proofs.«01_k».proof.Proof.Gen.GateBwd
public import proofs.«01_k».proof.Proof.Gen.GateBwdIdeal
public import proofs.«01_k».proof.Proof.Gen.GateBwdRefIdeal
public import proofs.«01_k».proof.Proof.Gen.GateBwd.Frame
public import proofs.«01_k».proof.Proof.Gen.GateBwdIdeal.Frame
public import proofs.«01_k».proof.Proof.Gen.GateBwdRefIdeal.Run
public import proofs.«01_k».proof.Proof.Gen.GateBwdRefIdeal.Read
public import proofs.«01_k».proof.Proof.Gen.SwaFwd
public import proofs.«01_k».proof.Proof.Gen.SwaFwdIdeal
public import proofs.«01_k».proof.Proof.Gen.SwaFwdRefIdeal
public import proofs.«01_k».proof.Proof.Gen.SwaFwd.Frame
public import proofs.«01_k».proof.Proof.Gen.SwaFwdIdeal.Frame
public import proofs.«01_k».proof.Proof.Gen.SwaFwdRefIdeal.Run
public import proofs.«01_k».proof.Proof.Gen.SwaFwdRefIdeal.Read
public import proofs.«01_k».proof.Proof.Gen.ScanFwd
public import proofs.«01_k».proof.Proof.Gen.ScanFwdIdeal
public import proofs.«01_k».proof.Proof.Gen.ScanFwdRefIdeal
public import proofs.«01_k».proof.Proof.Gen.ScanFwd.Frame
public import proofs.«01_k».proof.Proof.Gen.ScanFwdIdeal.Frame
public import proofs.«01_k».proof.Proof.Gen.ScanFwdRefIdeal.Run
public import proofs.«01_k».proof.Proof.Gen.NormFwd
public import proofs.«01_k».proof.Proof.Gen.NormFwdIdeal
public import proofs.«01_k».proof.Proof.Gen.NormFwdRefIdeal
public import proofs.«01_k».proof.Proof.Gen.NormFwd.Frame
public import proofs.«01_k».proof.Proof.Gen.NormFwdIdeal.Frame
public import proofs.«01_k».proof.Proof.Gen.NormFwdRefIdeal.Run
public import proofs.«01_k».proof.Proof.Gen.NormFwdRefIdeal.Read
public import proofs.«01_k».proof.Proof.Gen.OutFwd
public import proofs.«01_k».proof.Proof.Gen.OutFwdIdeal
public import proofs.«01_k».proof.Proof.Gen.OutFwdRefIdeal
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.OutFwdRefIdeal.Read
public import proofs.«01_k».proof.Proof.Gen.OutNormFwd
public import proofs.«01_k».proof.Proof.Gen.OutNormFwdIdeal
public import proofs.«01_k».proof.Proof.Gen.OutNormFwdRefIdeal
public import proofs.«01_k».proof.Proof.Gen.OutNormFwd.Frame
public import proofs.«01_k».proof.Proof.Gen.OutNormFwdIdeal.Frame
public import proofs.«01_k».proof.Proof.Gen.OutNormFwdRefIdeal.Run
public import proofs.«01_k».proof.Proof.Gen.OutNormFwdRefIdeal.Read
public import proofs.«01_k».proof.Proof.Gen.GluFwd
public import proofs.«01_k».proof.Proof.Gen.GluFwdIdeal
public import proofs.«01_k».proof.Proof.Gen.GluFwdRefIdeal
public import proofs.«01_k».proof.Proof.Gen.GluFwd.Frame
public import proofs.«01_k».proof.Proof.Gen.GluFwdIdeal.Frame
public import proofs.«01_k».proof.Proof.Gen.GluFwdRefIdeal.Run
public import proofs.«01_k».proof.Proof.Gen.GluFwdRefIdeal.Read
public import proofs.«01_k».proof.Proof.Gen.BranchFwd
public import proofs.«01_k».proof.Proof.Gen.BranchFwdIdeal
public import proofs.«01_k».proof.Proof.Gen.BranchFwdRefIdeal
public import proofs.«01_k».proof.Proof.Gen.BranchFwd.Frame
public import proofs.«01_k».proof.Proof.Gen.BranchFwdIdeal.Frame
public import proofs.«01_k».proof.Proof.Gen.BranchFwdRefIdeal.Run
public import proofs.«01_k».proof.Proof.Gen.BranchFwdRefIdeal.Read
public import proofs.«01_k».proof.Proof.Gen.ConvFwd
public import proofs.«01_k».proof.Proof.Gen.ConvFwdIdeal
public import proofs.«01_k».proof.Proof.Gen.ConvFwdRefIdeal
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.ConvFwdRefIdeal.Read
public import proofs.«01_k».proof.Proof.Gen.GateFwd
public import proofs.«01_k».proof.Proof.Gen.GateFwdIdeal
public import proofs.«01_k».proof.Proof.Gen.GateFwdRefIdeal
public import proofs.«01_k».proof.Proof.Gen.GateFwd.Frame
public import proofs.«01_k».proof.Proof.Gen.GateFwdIdeal.Frame
public import proofs.«01_k».proof.Proof.Gen.GateFwdRefIdeal.Run
public import proofs.«01_k».proof.Proof.Gen.GateFwdRefIdeal.Read
public import proofs.«01_k».proof.Proof.Gen.Pre_conv_finite
public import proofs.«01_k».proof.Proof.Gen.Pre_swa_finite
public import proofs.«01_k».proof.Proof.Gen.Pre_gate_finite
public import proofs.«01_k».proof.Proof.Gen.Pre_swa_fwd_finite
public import proofs.«01_k».proof.Proof.Gen.Pre_gate_fwd_finite
public import proofs.«01_k».proof.Proof.ActBwd.Equal
public import proofs.«01_k».proof.Proof.LossHead.Equal
public import proofs.«01_k».proof.Proof.ConvBwd.Equal
public import proofs.«01_k».proof.Proof.BiasBwd.Equal
public import proofs.«01_k».proof.Proof.OutBwd.Equal
public import proofs.«01_k».proof.Proof.InNormBwd.Equal
public import proofs.«01_k».proof.Proof.FfnNormBwd.Equal
public import proofs.«01_k».proof.Proof.MergeBwd.Equal
public import proofs.«01_k».proof.Proof.SwaBwd.Equal
public import proofs.«01_k».proof.Proof.GateBwd.Equal
public import proofs.«01_k».proof.Proof.SwaFwd.Equal
public import proofs.«01_k».proof.Proof.ScanFwd.Equal
public import proofs.«01_k».proof.Proof.NormFwd.Equal
public import proofs.«01_k».proof.Proof.OutFwd.Equal
public import proofs.«01_k».proof.Proof.OutNormFwd.Equal
public import proofs.«01_k».proof.Proof.GluFwd.Equal
public import proofs.«01_k».proof.Proof.BranchFwd.Equal
public import proofs.«01_k».proof.Proof.ConvFwd.Equal
public import proofs.«01_k».proof.Proof.GateFwd.Equal

@[expose] public section

noncomputable section

namespace Cert.Proof

open Idealize.ShloMosaic Idealize.SL.Sem

theorem claim : Cert.Claim := ⟨Cert.ActBwd.Gen.facts, Cert.ActBwdIdeal.Gen.facts, Cert.ActBwdRefIdeal.Gen.facts, Cert.LossHead.Gen.facts, Cert.LossHeadIdeal.Gen.facts, Cert.LossHeadRefIdeal.Gen.facts, Cert.ConvBwd.Gen.facts, Cert.ConvBwdIdeal.Gen.facts, Cert.ConvBwdRefIdeal.Gen.facts, Cert.BiasBwd.Gen.facts, Cert.BiasBwdIdeal.Gen.facts, Cert.BiasBwdRefIdeal.Gen.facts, Cert.OutBwd.Gen.facts, Cert.OutBwdIdeal.Gen.facts, Cert.OutBwdRefIdeal.Gen.facts, Cert.InNormBwd.Gen.facts, Cert.InNormBwdIdeal.Gen.facts, Cert.InNormBwdRefIdeal.Gen.facts, Cert.FfnNormBwd.Gen.facts, Cert.FfnNormBwdIdeal.Gen.facts, Cert.FfnNormBwdRefIdeal.Gen.facts, Cert.MergeBwd.Gen.facts, Cert.MergeBwdIdeal.Gen.facts, Cert.MergeBwdRefIdeal.Gen.facts, Cert.SwaBwd.Gen.facts, Cert.SwaBwdIdeal.Gen.facts, Cert.SwaBwdRefIdeal.Gen.facts, Cert.GateBwd.Gen.facts, Cert.GateBwdIdeal.Gen.facts, Cert.GateBwdRefIdeal.Gen.facts, Cert.SwaFwd.Gen.facts, Cert.SwaFwdIdeal.Gen.facts, Cert.SwaFwdRefIdeal.Gen.facts, Cert.ScanFwd.Gen.facts, Cert.ScanFwdIdeal.Gen.facts, Cert.ScanFwdRefIdeal.Gen.facts, Cert.NormFwd.Gen.facts, Cert.NormFwdIdeal.Gen.facts, Cert.NormFwdRefIdeal.Gen.facts, Cert.OutFwd.Gen.facts, Cert.OutFwdIdeal.Gen.facts, Cert.OutFwdRefIdeal.Gen.facts, Cert.OutNormFwd.Gen.facts, Cert.OutNormFwdIdeal.Gen.facts, Cert.OutNormFwdRefIdeal.Gen.facts, Cert.GluFwd.Gen.facts, Cert.GluFwdIdeal.Gen.facts, Cert.GluFwdRefIdeal.Gen.facts, Cert.BranchFwd.Gen.facts, Cert.BranchFwdIdeal.Gen.facts, Cert.BranchFwdRefIdeal.Gen.facts, Cert.ConvFwd.Gen.facts, Cert.ConvFwdIdeal.Gen.facts, Cert.ConvFwdRefIdeal.Gen.facts, Cert.GateFwd.Gen.facts, Cert.GateFwdIdeal.Gen.facts, Cert.GateFwdRefIdeal.Gen.facts, Cert.Pre_conv_finite.Gen.facts, Cert.Pre_swa_finite.Gen.facts, Cert.Pre_gate_finite.Gen.facts, Cert.Pre_swa_fwd_finite.Gen.facts, Cert.Pre_gate_fwd_finite.Gen.facts,
  fun m ρ _ => Cert.ActBwd.Gen.frame m ρ,
  fun m ρ _ => Cert.ActBwdIdeal.Gen.frame m ρ,
  fun m ρ _ => Cert.ActBwdIdeal.Val.frame_ref m ρ trivial,
  fun m ρ _ => Cert.LossHead.Gen.frame m ρ,
  fun m ρ _ => Cert.LossHeadIdeal.Gen.frame m ρ,
  fun m ρ _ => Cert.LossHeadIdeal.Val.frame_ref m ρ trivial,
  fun m ρ _ => Cert.ConvBwd.Gen.frame m ρ,
  fun m ρ _ => Cert.ConvBwdIdeal.Gen.frame m ρ,
  fun m ρ _ => Cert.ConvBwdIdeal.Gen.frame m ρ,
  fun m ρ _ => Cert.ConvBwdIdeal.Val.frame_ref m ρ trivial,
  fun m ρ _ => Cert.ConvBwdIdeal.Val.frame_ref m ρ trivial,
  fun m ρ _ => Cert.BiasBwd.Gen.frame m ρ,
  fun m ρ _ => Cert.BiasBwdIdeal.Gen.frame m ρ,
  fun m ρ _ => Cert.BiasBwdIdeal.Val.frame_ref m ρ trivial,
  fun m ρ _ => Cert.OutBwd.Gen.frame m ρ,
  fun m ρ _ => Cert.OutBwdIdeal.Gen.frame m ρ,
  fun m ρ _ => Cert.OutBwdIdeal.Val.frame_ref m ρ trivial,
  fun m ρ _ => Cert.InNormBwd.Gen.frame m ρ,
  fun m ρ _ => Cert.InNormBwdIdeal.Gen.frame m ρ,
  fun m ρ _ => Cert.InNormBwdIdeal.Val.frame_ref m ρ trivial,
  fun m ρ _ => Cert.FfnNormBwd.Gen.frame m ρ,
  fun m ρ _ => Cert.FfnNormBwdIdeal.Gen.frame m ρ,
  fun m ρ _ => Cert.FfnNormBwdIdeal.Val.frame_ref m ρ trivial,
  fun m ρ _ => Cert.MergeBwd.Gen.frame m ρ,
  fun m ρ _ => Cert.MergeBwdIdeal.Gen.frame m ρ,
  fun m ρ _ => Cert.MergeBwdIdeal.Val.frame_ref m ρ trivial,
  fun m ρ _ => Cert.SwaBwd.Gen.frame m ρ,
  fun m ρ _ => Cert.SwaBwdIdeal.Gen.frame m ρ,
  fun m ρ _ => Cert.SwaBwdIdeal.Gen.frame m ρ,
  fun m ρ _ => Cert.SwaBwdIdeal.Val.frame_ref m ρ trivial,
  fun m ρ _ => Cert.SwaBwdIdeal.Val.frame_ref m ρ trivial,
  fun m ρ _ => Cert.GateBwd.Gen.frame m ρ,
  fun m ρ _ => Cert.GateBwdIdeal.Gen.frame m ρ,
  fun m ρ _ => Cert.GateBwdIdeal.Gen.frame m ρ,
  fun m ρ _ => Cert.GateBwdIdeal.Val.frame_ref m ρ trivial,
  fun m ρ _ => Cert.GateBwdIdeal.Val.frame_ref m ρ trivial,
  fun m ρ _ => Cert.SwaFwd.Gen.frame m ρ,
  fun m ρ _ => Cert.SwaFwdIdeal.Gen.frame m ρ,
  fun m ρ _ => Cert.SwaFwdIdeal.Gen.frame m ρ,
  fun m ρ _ => Cert.SwaFwdIdeal.Val.frame_ref m ρ trivial,
  fun m ρ _ => Cert.SwaFwdIdeal.Val.frame_ref m ρ trivial,
  fun m ρ _ => Cert.ScanFwd.Gen.frame m ρ,
  fun m ρ _ => Cert.ScanFwdIdeal.Gen.frame m ρ,
  fun m ρ _ => Cert.ScanFwdIdeal.Val.frame_ref m ρ trivial,
  fun m ρ _ => Cert.NormFwd.Gen.frame m ρ,
  fun m ρ _ => Cert.NormFwdIdeal.Gen.frame m ρ,
  fun m ρ _ => Cert.NormFwdIdeal.Val.frame_ref m ρ trivial,
  fun m ρ _ => Cert.OutFwd.Gen.frame m ρ,
  fun m ρ _ => Cert.OutFwdIdeal.Gen.frame m ρ,
  fun m ρ _ => Cert.OutFwdIdeal.Val.frame_ref m ρ trivial,
  fun m ρ _ => Cert.OutNormFwd.Gen.frame m ρ,
  fun m ρ _ => Cert.OutNormFwdIdeal.Gen.frame m ρ,
  fun m ρ _ => Cert.OutNormFwdIdeal.Val.frame_ref m ρ trivial,
  fun m ρ _ => Cert.GluFwd.Gen.frame m ρ,
  fun m ρ _ => Cert.GluFwdIdeal.Gen.frame m ρ,
  fun m ρ _ => Cert.GluFwdIdeal.Val.frame_ref m ρ trivial,
  fun m ρ _ => Cert.BranchFwd.Gen.frame m ρ,
  fun m ρ _ => Cert.BranchFwdIdeal.Gen.frame m ρ,
  fun m ρ _ => Cert.BranchFwdIdeal.Val.frame_ref m ρ trivial,
  fun m ρ _ => Cert.ConvFwd.Gen.frame m ρ,
  fun m ρ _ => Cert.ConvFwdIdeal.Gen.frame m ρ,
  fun m ρ _ => Cert.ConvFwdIdeal.Val.frame_ref m ρ trivial,
  fun m ρ _ => Cert.GateFwd.Gen.frame m ρ,
  fun m ρ _ => Cert.GateFwdIdeal.Gen.frame m ρ,
  fun m ρ _ => Cert.GateFwdIdeal.Gen.frame m ρ,
  fun m ρ _ => Cert.GateFwdIdeal.Val.frame_ref m ρ trivial,
  fun m ρ _ => Cert.GateFwdIdeal.Val.frame_ref m ρ trivial,
  trivial,
  Cert.ActBwdIdeal.Val.algebraic,
  trivial,
  Cert.LossHeadIdeal.Val.algebraic,
  trivial,
  Cert.ConvBwdIdeal.Val.algebraic,
  trivial,
  Cert.BiasBwdIdeal.Val.algebraic,
  trivial,
  Cert.OutBwdIdeal.Val.algebraic,
  trivial,
  Cert.InNormBwdIdeal.Val.algebraic,
  trivial,
  Cert.FfnNormBwdIdeal.Val.algebraic,
  trivial,
  Cert.MergeBwdIdeal.Val.algebraic,
  trivial,
  Cert.SwaBwdIdeal.Val.algebraic,
  trivial,
  Cert.GateBwdIdeal.Val.algebraic,
  trivial,
  Cert.SwaFwdIdeal.Val.algebraic,
  trivial,
  Cert.ScanFwdIdeal.Val.algebraic,
  trivial,
  Cert.NormFwdIdeal.Val.algebraic,
  trivial,
  Cert.OutFwdIdeal.Val.algebraic,
  trivial,
  Cert.OutNormFwdIdeal.Val.algebraic,
  trivial,
  Cert.GluFwdIdeal.Val.algebraic,
  trivial,
  Cert.BranchFwdIdeal.Val.algebraic,
  trivial,
  Cert.ConvFwdIdeal.Val.algebraic,
  trivial,
  Cert.GateFwdIdeal.Val.algebraic⟩

end Cert.Proof

end
